-- ==== Defs.lean ====
def Pre_LbKernel (m : (ℓ : Loc Cert.LbKernel.nD Cert.LbKernel.τ Cert.LbKernel.sig) → Buf (Elt Bits) ℓ) : Prop :=
  True

def Pre_LbKernelIdeal (m : (ℓ : Loc Cert.LbKernelIdeal.nD Cert.LbKernelIdeal.τ Cert.LbKernelIdeal.sig) → Buf (Elt Ideal) ℓ) : Prop :=
  True

def Pre_LbKernelIdeal_lb_finite [hPre_lb_finite : Cert.Pre_lb_finite.Facts] (m : (ℓ : Loc Cert.LbKernelIdeal.nD Cert.LbKernelIdeal.τ Cert.LbKernelIdeal.sig) → Buf (Elt Ideal) ℓ) : Prop :=
  ∀ c : Dev Cert.LbKernelIdeal.nD,
    (Cert.Pre_lb_finite.fn (F := Ideal) (m ((c.tc : Thread Cert.LbKernelIdeal.nD Cert.LbKernelIdeal.τ).loc Cert.LbKernelIdeal.main_arg0)) (m ((c.tc : Thread Cert.LbKernelIdeal.nD Cert.LbKernelIdeal.τ).loc Cert.LbKernelIdeal.main_arg1))) = (fun _ => 1#1)

def Pre_LbReferenceIdeal (m : (ℓ : Loc Cert.LbReferenceIdeal.nD Cert.LbReferenceIdeal.τ Cert.LbReferenceIdeal.sig) → Buf (Elt Ideal) ℓ) : Prop :=
  True

def Pre_LbReferenceIdeal_lb_finite [hPre_lb_finite : Cert.Pre_lb_finite.Facts] (m : (ℓ : Loc Cert.LbReferenceIdeal.nD Cert.LbReferenceIdeal.τ Cert.LbReferenceIdeal.sig) → Buf (Elt Ideal) ℓ) : Prop :=
  ∀ c : Dev Cert.LbReferenceIdeal.nD,
    (Cert.Pre_lb_finite.fn (F := Ideal) (m ((c.tc : Thread Cert.LbReferenceIdeal.nD Cert.LbReferenceIdeal.τ).loc Cert.LbReferenceIdeal.main_arg0)) (m ((c.tc : Thread Cert.LbReferenceIdeal.nD Cert.LbReferenceIdeal.τ).loc Cert.LbReferenceIdeal.main_arg1))) = (fun _ => 1#1)

def Pre_LowKernel (m : (ℓ : Loc Cert.LowKernel.nD Cert.LowKernel.τ Cert.LowKernel.sig) → Buf (Elt Bits) ℓ) : Prop :=
  True

def Pre_LowKernelIdeal (m : (ℓ : Loc Cert.LowKernelIdeal.nD Cert.LowKernelIdeal.τ Cert.LowKernelIdeal.sig) → Buf (Elt Ideal) ℓ) : Prop :=
  True

def Pre_LowKernelIdeal_low_finite [hPre_low_finite : Cert.Pre_low_finite.Facts] (m : (ℓ : Loc Cert.LowKernelIdeal.nD Cert.LowKernelIdeal.τ Cert.LowKernelIdeal.sig) → Buf (Elt Ideal) ℓ) : Prop :=
  ∀ c : Dev Cert.LowKernelIdeal.nD,
    (Cert.Pre_low_finite.fn (F := Ideal) (m ((c.tc : Thread Cert.LowKernelIdeal.nD Cert.LowKernelIdeal.τ).loc Cert.LowKernelIdeal.main_arg0))) = (fun _ => 1#1)

def Pre_LowReferenceIdeal (m : (ℓ : Loc Cert.LowReferenceIdeal.nD Cert.LowReferenceIdeal.τ Cert.LowReferenceIdeal.sig) → Buf (Elt Ideal) ℓ) : Prop :=
  True

def Pre_LowReferenceIdeal_low_finite [hPre_low_finite : Cert.Pre_low_finite.Facts] (m : (ℓ : Loc Cert.LowReferenceIdeal.nD Cert.LowReferenceIdeal.τ Cert.LowReferenceIdeal.sig) → Buf (Elt Ideal) ℓ) : Prop :=
  ∀ c : Dev Cert.LowReferenceIdeal.nD,
    (Cert.Pre_low_finite.fn (F := Ideal) (m ((c.tc : Thread Cert.LowReferenceIdeal.nD Cert.LowReferenceIdeal.τ).loc Cert.LowReferenceIdeal.main_arg0))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def quiescent_LbKernel [hLbKernel : Cert.LbKernel.Facts] : Prop :=
  ∀ (m : (ℓ : Loc Cert.LbKernel.nD Cert.LbKernel.τ Cert.LbKernel.sig) → Buf (Elt Bits) ℓ) (g : Dev Cert.LbKernel.nD → PrngReg), Pre_LbKernel m →
    θ_run (Cert.LbKernel.defs (F := Bits)) (onTc (τ := Cert.LbKernel.τ) (Cert.LbKernel.main (F := Bits))) ⟨m, fun _ => 0, g⟩ (fun r => (∀ c : Dev Cert.LbKernel.nD,
      r.2.mem ((c.tc : Thread Cert.LbKernel.nD Cert.LbKernel.τ).loc Cert.LbKernel.main_arg0) = m ((c.tc : Thread Cert.LbKernel.nD Cert.LbKernel.τ).loc Cert.LbKernel.main_arg0)
      ∧ r.2.mem ((c.tc : Thread Cert.LbKernel.nD Cert.LbKernel.τ).loc Cert.LbKernel.main_arg1) = m ((c.tc : Thread Cert.LbKernel.nD Cert.LbKernel.τ).loc Cert.LbKernel.main_arg1))
      ∧ r.2.sem = fun _ => 0)

def quiescent_LbKernelIdeal [hLbKernelIdeal : Cert.LbKernelIdeal.Facts] : Prop :=
  ∀ (m : (ℓ : Loc Cert.LbKernelIdeal.nD Cert.LbKernelIdeal.τ Cert.LbKernelIdeal.sig) → Buf (Elt Ideal) ℓ) (g : Dev Cert.LbKernelIdeal.nD → PrngReg), Pre_LbKernelIdeal m →
    θ_run (Cert.LbKernelIdeal.defs (F := Ideal)) (onTc (τ := Cert.LbKernelIdeal.τ) (Cert.LbKernelIdeal.main (F := Ideal))) ⟨m, fun _ => 0, g⟩ (fun r => (∀ c : Dev Cert.LbKernelIdeal.nD,
      r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
      ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ r.2.sem = fun _ => 0)

def quiescent_LbKernelIdeal_pre_lb_finite [hLbKernelIdeal : Cert.LbKernelIdeal.Facts] [hPre_lb_finite : Cert.Pre_lb_finite.Facts] : Prop :=
  ∀ (m : (ℓ : Loc Cert.LbKernelIdeal.nD Cert.LbKernelIdeal.τ Cert.LbKernelIdeal.sig) → Buf (Elt Ideal) ℓ) (g : Dev Cert.LbKernelIdeal.nD → PrngReg), Pre_LbKernelIdeal_lb_finite m →
    θ_run (Cert.LbKernelIdeal.defs (F := Ideal)) (onTc (τ := Cert.LbKernelIdeal.τ) (Cert.LbKernelIdeal.main (F := Ideal))) ⟨m, fun _ => 0, g⟩ (fun r => (∀ c : Dev Cert.LbKernelIdeal.nD,
      r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
      ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ r.2.sem = fun _ => 0)

def quiescent_LbReferenceIdeal [hLbReferenceIdeal : Cert.LbReferenceIdeal.Facts] : Prop :=
  ∀ (m : (ℓ : Loc Cert.LbReferenceIdeal.nD Cert.LbReferenceIdeal.τ Cert.LbReferenceIdeal.sig) → Buf (Elt Ideal) ℓ) (g : Dev Cert.LbReferenceIdeal.nD → PrngReg), Pre_LbReferenceIdeal m →
    θ_run (Cert.LbReferenceIdeal.defs (F := Ideal)) (onTc (τ := Cert.LbReferenceIdeal.τ) (Cert.LbReferenceIdeal.main (F := Ideal))) ⟨m, fun _ => 0, g⟩ (fun r => (∀ c : Dev Cert.LbReferenceIdeal.nD,
      r.2.mem ((c.tc : Thread Cert.LbReferenceIdeal.nD Cert.LbReferenceIdeal.τ).loc Cert.LbReferenceIdeal.main_arg0) = m ((c.tc : Thread Cert.LbReferenceIdeal.nD Cert.LbReferenceIdeal.τ).loc Cert.LbReferenceIdeal.main_arg0)
      ∧ r.2.mem ((c.tc : Thread Cert.LbReferenceIdeal.nD Cert.LbReferenceIdeal.τ).loc Cert.LbReferenceIdeal.main_arg1) = m ((c.tc : Thread Cert.LbReferenceIdeal.nD Cert.LbReferenceIdeal.τ).loc Cert.LbReferenceIdeal.main_arg1))
      ∧ r.2.sem = fun _ => 0)

def quiescent_LbReferenceIdeal_pre_lb_finite [hLbReferenceIdeal : Cert.LbReferenceIdeal.Facts] [hPre_lb_finite : Cert.Pre_lb_finite.Facts] : Prop :=
  ∀ (m : (ℓ : Loc Cert.LbReferenceIdeal.nD Cert.LbReferenceIdeal.τ Cert.LbReferenceIdeal.sig) → Buf (Elt Ideal) ℓ) (g : Dev Cert.LbReferenceIdeal.nD → PrngReg), Pre_LbReferenceIdeal_lb_finite m →
    θ_run (Cert.LbReferenceIdeal.defs (F := Ideal)) (onTc (τ := Cert.LbReferenceIdeal.τ) (Cert.LbReferenceIdeal.main (F := Ideal))) ⟨m, fun _ => 0, g⟩ (fun r => (∀ c : Dev Cert.LbReferenceIdeal.nD,
      r.2.mem ((c.tc : Thread Cert.LbReferenceIdeal.nD Cert.LbReferenceIdeal.τ).loc Cert.LbReferenceIdeal.main_arg0) = m ((c.tc : Thread Cert.LbReferenceIdeal.nD Cert.LbReferenceIdeal.τ).loc Cert.LbReferenceIdeal.main_arg0)
      ∧ r.2.mem ((c.tc : Thread Cert.LbReferenceIdeal.nD Cert.LbReferenceIdeal.τ).loc Cert.LbReferenceIdeal.main_arg1) = m ((c.tc : Thread Cert.LbReferenceIdeal.nD Cert.LbReferenceIdeal.τ).loc Cert.LbReferenceIdeal.main_arg1))
      ∧ r.2.sem = fun _ => 0)

def quiescent_LowKernel [hLowKernel : Cert.LowKernel.Facts] : Prop :=
  ∀ (m : (ℓ : Loc Cert.LowKernel.nD Cert.LowKernel.τ Cert.LowKernel.sig) → Buf (Elt Bits) ℓ) (g : Dev Cert.LowKernel.nD → PrngReg), Pre_LowKernel m →
    θ_run (Cert.LowKernel.defs (F := Bits)) (onTc (τ := Cert.LowKernel.τ) (Cert.LowKernel.main (F := Bits))) ⟨m, fun _ => 0, g⟩ (fun r => (∀ c : Dev Cert.LowKernel.nD,
      r.2.mem ((c.tc : Thread Cert.LowKernel.nD Cert.LowKernel.τ).loc Cert.LowKernel.main_arg0) = m ((c.tc : Thread Cert.LowKernel.nD Cert.LowKernel.τ).loc Cert.LowKernel.main_arg0))
      ∧ r.2.sem = fun _ => 0)

def quiescent_LowKernelIdeal [hLowKernelIdeal : Cert.LowKernelIdeal.Facts] : Prop :=
  ∀ (m : (ℓ : Loc Cert.LowKernelIdeal.nD Cert.LowKernelIdeal.τ Cert.LowKernelIdeal.sig) → Buf (Elt Ideal) ℓ) (g : Dev Cert.LowKernelIdeal.nD → PrngReg), Pre_LowKernelIdeal m →
    θ_run (Cert.LowKernelIdeal.defs (F := Ideal)) (onTc (τ := Cert.LowKernelIdeal.τ) (Cert.LowKernelIdeal.main (F := Ideal))) ⟨m, fun _ => 0, g⟩ (fun r => (∀ c : Dev Cert.LowKernelIdeal.nD,
      r.2.mem ((c.tc : Thread Cert.LowKernelIdeal.nD Cert.LowKernelIdeal.τ).loc Cert.LowKernelIdeal.main_arg0) = m ((c.tc : Thread Cert.LowKernelIdeal.nD Cert.LowKernelIdeal.τ).loc Cert.LowKernelIdeal.main_arg0))
      ∧ r.2.sem = fun _ => 0)

def quiescent_LowKernelIdeal_pre_low_finite [hLowKernelIdeal : Cert.LowKernelIdeal.Facts] [hPre_low_finite : Cert.Pre_low_finite.Facts] : Prop :=
  ∀ (m : (ℓ : Loc Cert.LowKernelIdeal.nD Cert.LowKernelIdeal.τ Cert.LowKernelIdeal.sig) → Buf (Elt Ideal) ℓ) (g : Dev Cert.LowKernelIdeal.nD → PrngReg), Pre_LowKernelIdeal_low_finite m →
    θ_run (Cert.LowKernelIdeal.defs (F := Ideal)) (onTc (τ := Cert.LowKernelIdeal.τ) (Cert.LowKernelIdeal.main (F := Ideal))) ⟨m, fun _ => 0, g⟩ (fun r => (∀ c : Dev Cert.LowKernelIdeal.nD,
      r.2.mem ((c.tc : Thread Cert.LowKernelIdeal.nD Cert.LowKernelIdeal.τ).loc Cert.LowKernelIdeal.main_arg0) = m ((c.tc : Thread Cert.LowKernelIdeal.nD Cert.LowKernelIdeal.τ).loc Cert.LowKernelIdeal.main_arg0))
      ∧ r.2.sem = fun _ => 0)

def quiescent_LowReferenceIdeal [hLowReferenceIdeal : Cert.LowReferenceIdeal.Facts] : Prop :=
  ∀ (m : (ℓ : Loc Cert.LowReferenceIdeal.nD Cert.LowReferenceIdeal.τ Cert.LowReferenceIdeal.sig) → Buf (Elt Ideal) ℓ) (g : Dev Cert.LowReferenceIdeal.nD → PrngReg), Pre_LowReferenceIdeal m →
    θ_run (Cert.LowReferenceIdeal.defs (F := Ideal)) (onTc (τ := Cert.LowReferenceIdeal.τ) (Cert.LowReferenceIdeal.main (F := Ideal))) ⟨m, fun _ => 0, g⟩ (fun r => (∀ c : Dev Cert.LowReferenceIdeal.nD,
      r.2.mem ((c.tc : Thread Cert.LowReferenceIdeal.nD Cert.LowReferenceIdeal.τ).loc Cert.LowReferenceIdeal.main_arg0) = m ((c.tc : Thread Cert.LowReferenceIdeal.nD Cert.LowReferenceIdeal.τ).loc Cert.LowReferenceIdeal.main_arg0))
      ∧ r.2.sem = fun _ => 0)

def quiescent_LowReferenceIdeal_pre_low_finite [hLowReferenceIdeal : Cert.LowReferenceIdeal.Facts] [hPre_low_finite : Cert.Pre_low_finite.Facts] : Prop :=
  ∀ (m : (ℓ : Loc Cert.LowReferenceIdeal.nD Cert.LowReferenceIdeal.τ Cert.LowReferenceIdeal.sig) → Buf (Elt Ideal) ℓ) (g : Dev Cert.LowReferenceIdeal.nD → PrngReg), Pre_LowReferenceIdeal_low_finite m →
    θ_run (Cert.LowReferenceIdeal.defs (F := Ideal)) (onTc (τ := Cert.LowReferenceIdeal.τ) (Cert.LowReferenceIdeal.main (F := Ideal))) ⟨m, fun _ => 0, g⟩ (fun r => (∀ c : Dev Cert.LowReferenceIdeal.nD,
      r.2.mem ((c.tc : Thread Cert.LowReferenceIdeal.nD Cert.LowReferenceIdeal.τ).loc Cert.LowReferenceIdeal.main_arg0) = m ((c.tc : Thread Cert.LowReferenceIdeal.nD Cert.LowReferenceIdeal.τ).loc Cert.LowReferenceIdeal.main_arg0))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7)
      ∧ r.2.mem ((c.tc : Thread Cert.MlaKernel.nD Cert.MlaKernel.τ).loc Cert.MlaKernel.main_arg8) = m ((c.tc : Thread Cert.MlaKernel.nD Cert.MlaKernel.τ).loc Cert.MlaKernel.main_arg8)
      ∧ r.2.mem ((c.tc : Thread Cert.MlaKernel.nD Cert.MlaKernel.τ).loc Cert.MlaKernel.main_arg9) = m ((c.tc : Thread Cert.MlaKernel.nD Cert.MlaKernel.τ).loc Cert.MlaKernel.main_arg9)
      ∧ r.2.mem ((c.tc : Thread Cert.MlaKernel.nD Cert.MlaKernel.τ).loc Cert.MlaKernel.main_arg10) = m ((c.tc : Thread Cert.MlaKernel.nD Cert.MlaKernel.τ).loc Cert.MlaKernel.main_arg10)
      ∧ r.2.mem ((c.tc : Thread Cert.MlaKernel.nD Cert.MlaKernel.τ).loc Cert.MlaKernel.main_arg11) = m ((c.tc : Thread Cert.MlaKernel.nD Cert.MlaKernel.τ).loc Cert.MlaKernel.main_arg11))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
      ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9)
      ∧ r.2.mem ((c.tc : Thread Cert.MlaKernelIdeal.nD Cert.MlaKernelIdeal.τ).loc Cert.MlaKernelIdeal.main_arg10) = m ((c.tc : Thread Cert.MlaKernelIdeal.nD Cert.MlaKernelIdeal.τ).loc Cert.MlaKernelIdeal.main_arg10)
      ∧ r.2.mem ((c.tc : Thread Cert.MlaKernelIdeal.nD Cert.MlaKernelIdeal.τ).loc Cert.MlaKernelIdeal.main_arg11) = m ((c.tc : Thread Cert.MlaKernelIdeal.nD Cert.MlaKernelIdeal.τ).loc Cert.MlaKernelIdeal.main_arg11))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8)
      ∧ r.2.mem ((c.tc : Thread Cert.MlaReferenceIdeal.nD Cert.MlaReferenceIdeal.τ).loc Cert.MlaReferenceIdeal.main_arg9) = m ((c.tc : Thread Cert.MlaReferenceIdeal.nD Cert.MlaReferenceIdeal.τ).loc Cert.MlaReferenceIdeal.main_arg9)
      ∧ r.2.mem ((c.tc : Thread Cert.MlaReferenceIdeal.nD Cert.MlaReferenceIdeal.τ).loc Cert.MlaReferenceIdeal.main_arg10) = m ((c.tc : Thread Cert.MlaReferenceIdeal.nD Cert.MlaReferenceIdeal.τ).loc Cert.MlaReferenceIdeal.main_arg10)
      ∧ r.2.mem ((c.tc : Thread Cert.MlaReferenceIdeal.nD Cert.MlaReferenceIdeal.τ).loc Cert.MlaReferenceIdeal.main_arg11) = m ((c.tc : Thread Cert.MlaReferenceIdeal.nD Cert.MlaReferenceIdeal.τ).loc Cert.MlaReferenceIdeal.main_arg11))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def preserves_LbKernel_LbKernelIdeal : Prop :=
  True

def algebraic_LbKernelIdeal_LbReferenceIdeal_pre_lb_finite [hLbKernelIdeal : Cert.LbKernelIdeal.Facts] [hLbReferenceIdeal : Cert.LbReferenceIdeal.Facts] [hPre_lb_finite : Cert.Pre_lb_finite.Facts] : Prop :=
  ∀ (m : (ℓ : Loc Cert.LbKernelIdeal.nD Cert.LbKernelIdeal.τ Cert.LbKernelIdeal.sig) → Buf (Elt Ideal) ℓ) (g : Dev Cert.LbKernelIdeal.nD → PrngReg)
    (m' : (ℓ : Loc Cert.LbReferenceIdeal.nD Cert.LbReferenceIdeal.τ Cert.LbReferenceIdeal.sig) → Buf (Elt Ideal) ℓ) (g' : Dev Cert.LbReferenceIdeal.nD → PrngReg), Pre_LbKernelIdeal_lb_finite m →
    (∀ c : Dev Cert.LbKernelIdeal.nD,
      m' ((c.tc : Thread Cert.LbReferenceIdeal.nD Cert.LbReferenceIdeal.τ).loc Cert.LbReferenceIdeal.main_arg0) = m ((c.tc : Thread Cert.LbKernelIdeal.nD Cert.LbKernelIdeal.τ).loc Cert.LbKernelIdeal.main_arg0)
      ∧ m' ((c.tc : Thread Cert.LbReferenceIdeal.nD Cert.LbReferenceIdeal.τ).loc Cert.LbReferenceIdeal.main_arg1) = m ((c.tc : Thread Cert.LbKernelIdeal.nD Cert.LbKernelIdeal.τ).loc Cert.LbKernelIdeal.main_arg1)) →
    ∃ (v0 : (c : Dev Cert.LbKernelIdeal.nD) → Buf (Elt Ideal) ((c.tc : Thread Cert.LbKernelIdeal.nD Cert.LbKernelIdeal.τ).loc Cert.LbKernelIdeal.main_v0)),
      θ_run (Cert.LbKernelIdeal.defs (F := Ideal)) (onTc (τ := Cert.LbKernelIdeal.τ) (Cert.LbKernelIdeal.main (F := Ideal))) ⟨m, fun _ => 0, g⟩ (fun r => ∀ c : Dev Cert.LbKernelIdeal.nD,
          r.2.mem ((c.tc : Thread Cert.LbKernelIdeal.nD Cert.LbKernelIdeal.τ).loc Cert.LbKernelIdeal.main_v0) = v0 c
          ∧ r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
          ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ θ_run (Cert.LbReferenceIdeal.defs (F := Ideal)) (onTc (τ := Cert.LbReferenceIdeal.τ) (Cert.LbReferenceIdeal.main (F := Ideal))) ⟨m', fun _ => 0, g'⟩ (fun r => ∀ c : Dev Cert.LbReferenceIdeal.nD,
          r.2.mem ((c.tc : Thread Cert.LbReferenceIdeal.nD Cert.LbReferenceIdeal.τ).loc Cert.LbReferenceIdeal.main_v50) = v0 c
          ∧ r.2.mem ((c.tc : Thread Cert.LbReferenceIdeal.nD Cert.LbReferenceIdeal.τ).loc Cert.LbReferenceIdeal.main_arg0) = m' ((c.tc : Thread Cert.LbReferenceIdeal.nD Cert.LbReferenceIdeal.τ).loc Cert.LbReferenceIdeal.main_arg0)
          ∧ r.2.mem ((c.tc : Thread Cert.LbReferenceIdeal.nD Cert.LbReferenceIdeal.τ).loc Cert.LbReferenceIdeal.main_arg1) = m' ((c.tc : Thread Cert.LbReferenceIdeal.nD Cert.LbReferenceIdeal.τ).loc Cert.LbReferenceIdeal.main_arg1))

def preserves_LowKernel_LowKernelIdeal : Prop :=
  True

def algebraic_LowKernelIdeal_LowReferenceIdeal_pre_low_finite [hLowKernelIdeal : Cert.LowKernelIdeal.Facts] [hLowReferenceIdeal : Cert.LowReferenceIdeal.Facts] [hPre_low_finite : Cert.Pre_low_finite.Facts] : Prop :=
  ∀ (m : (ℓ : Loc Cert.LowKernelIdeal.nD Cert.LowKernelIdeal.τ Cert.LowKernelIdeal.sig) → Buf (Elt Ideal) ℓ) (g : Dev Cert.LowKernelIdeal.nD → PrngReg)
    (m' : (ℓ : Loc Cert.LowReferenceIdeal.nD Cert.LowReferenceIdeal.τ Cert.LowReferenceIdeal.sig) → Buf (Elt Ideal) ℓ) (g' : Dev Cert.LowReferenceIdeal.nD → PrngReg), Pre_LowKernelIdeal_low_finite m →
    (∀ c : Dev Cert.LowKernelIdeal.nD,
      m' ((c.tc : Thread Cert.LowReferenceIdeal.nD Cert.LowReferenceIdeal.τ).loc Cert.LowReferenceIdeal.main_arg0) = m ((c.tc : Thread Cert.LowKernelIdeal.nD Cert.LowKernelIdeal.τ).loc Cert.LowKernelIdeal.main_arg0)) →
    ∃ (v0 : (c : Dev Cert.LowKernelIdeal.nD) → Buf (Elt Ideal) ((c.tc : Thread Cert.LowKernelIdeal.nD Cert.LowKernelIdeal.τ).loc Cert.LowKernelIdeal.main_v0)),
      θ_run (Cert.LowKernelIdeal.defs (F := Ideal)) (onTc (τ := Cert.LowKernelIdeal.τ) (Cert.LowKernelIdeal.main (F := Ideal))) ⟨m, fun _ => 0, g⟩ (fun r => ∀ c : Dev Cert.LowKernelIdeal.nD,
          r.2.mem ((c.tc : Thread Cert.LowKernelIdeal.nD Cert.LowKernelIdeal.τ).loc Cert.LowKernelIdeal.main_v0) = v0 c
          ∧ r.2.mem ((c.tc : Thread Cert.LowKernelIdeal.nD Cert.LowKernelIdeal.τ).loc Cert.LowKernelIdeal.main_arg0) = m ((c.tc : Thread Cert.LowKernelIdeal.nD Cert.LowKernelIdeal.τ).loc Cert.LowKernelIdeal.main_arg0))
      ∧ θ_run (Cert.LowReferenceIdeal.defs (F := Ideal)) (onTc (τ := Cert.LowReferenceIdeal.τ) (Cert.LowReferenceIdeal.main (F := Ideal))) ⟨m', fun _ => 0, g'⟩ (fun r => ∀ c : Dev Cert.LowReferenceIdeal.nD,
          r.2.mem ((c.tc : Thread Cert.LowReferenceIdeal.nD Cert.LowReferenceIdeal.τ).loc Cert.LowReferenceIdeal.main_v14) = v0 c
          ∧ r.2.mem ((c.tc : Thread Cert.LowReferenceIdeal.nD Cert.LowReferenceIdeal.τ).loc Cert.LowReferenceIdeal.main_arg0) = m' ((c.tc : Thread Cert.LowReferenceIdeal.nD Cert.LowReferenceIdeal.τ).loc Cert.LowReferenceIdeal.main_arg0))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v9)) (v1 : (c : Dev Cert.LossKernelIdeal.nD) → Buf (Elt Ideal) ((c.tc : Thread Cert.LossKernelIdeal.nD Cert.LossKernelIdeal.τ).loc Cert.LossKernelIdeal.main_v10)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v9) = v0 c
          ∧ r.2.mem ((c.tc : Thread Cert.LossKernelIdeal.nD Cert.LossKernelIdeal.τ).loc Cert.LossKernelIdeal.main_v10) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v17) = v0 c
          ∧ r.2.mem ((c.tc : Thread Cert.LossReferenceIdeal.nD Cert.LossReferenceIdeal.τ).loc Cert.LossReferenceIdeal.main_v9) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)) →
    ∃ (v0 : (c : Dev Cert.InprojKernelIdeal.nD) → Buf (Elt Ideal) ((c.tc : Thread Cert.InprojKernelIdeal.nD Cert.InprojKernelIdeal.τ).loc Cert.InprojKernelIdeal.main_v39_0)) (v1 : (c : Dev Cert.InprojKernelIdeal.nD) → Buf (Elt Ideal) ((c.tc : Thread Cert.InprojKernelIdeal.nD Cert.InprojKernelIdeal.τ).loc Cert.InprojKernelIdeal.main_v40)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v39_0) = v0 c
          ∧ r.2.mem ((c.tc : Thread Cert.InprojKernelIdeal.nD Cert.InprojKernelIdeal.τ).loc Cert.InprojKernelIdeal.main_v40) = v1 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v39) = v0 c
          ∧ r.2.mem ((c.tc : Thread Cert.InprojReferenceIdeal.nD Cert.InprojReferenceIdeal.τ).loc Cert.InprojReferenceIdeal.main_v23) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v12_0)) (v1 : (c : Dev Cert.FfnKernelIdeal.nD) → Buf (Elt Ideal) ((c.tc : Thread Cert.FfnKernelIdeal.nD Cert.FfnKernelIdeal.τ).loc Cert.FfnKernelIdeal.main_v12_3)) (v2 : (c : Dev Cert.FfnKernelIdeal.nD) → Buf (Elt Ideal) ((c.tc : Thread Cert.FfnKernelIdeal.nD Cert.FfnKernelIdeal.τ).loc Cert.FfnKernelIdeal.main_v13)) (v3 : (c : Dev Cert.FfnKernelIdeal.nD) → Buf (Elt Ideal) ((c.tc : Thread Cert.FfnKernelIdeal.nD Cert.FfnKernelIdeal.τ).loc Cert.FfnKernelIdeal.main_v6_0)) (v4 : (c : Dev Cert.FfnKernelIdeal.nD) → Buf (Elt Ideal) ((c.tc : Thread Cert.FfnKernelIdeal.nD Cert.FfnKernelIdeal.τ).loc Cert.FfnKernelIdeal.main_v12_1)) (v5 : (c : Dev Cert.FfnKernelIdeal.nD) → Buf (Elt Ideal) ((c.tc : Thread Cert.FfnKernelIdeal.nD Cert.FfnKernelIdeal.τ).loc Cert.FfnKernelIdeal.main_v12_2)) (v6 : (c : Dev Cert.FfnKernelIdeal.nD) → Buf (Elt Ideal) ((c.tc : Thread Cert.FfnKernelIdeal.nD Cert.FfnKernelIdeal.τ).loc Cert.FfnKernelIdeal.main_v6_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v12_0) = v0 c
          ∧ r.2.mem ((c.tc : Thread Cert.FfnKernelIdeal.nD Cert.FfnKernelIdeal.τ).loc Cert.FfnKernelIdeal.main_v12_3) = v1 c
          ∧ r.2.mem ((c.tc : Thread Cert.FfnKernelIdeal.nD Cert.FfnKernelIdeal.τ).loc Cert.FfnKernelIdeal.main_v13) = v2 c
          ∧ r.2.mem ((c.tc : Thread Cert.FfnKernelIdeal.nD Cert.FfnKernelIdeal.τ).loc Cert.FfnKernelIdeal.main_v6_0) = v3 c
          ∧ r.2.mem ((c.tc : Thread Cert.FfnKernelIdeal.nD Cert.FfnKernelIdeal.τ).loc Cert.FfnKernelIdeal.main_v12_1) = v4 c
          ∧ r.2.mem ((c.tc : Thread Cert.FfnKernelIdeal.nD Cert.FfnKernelIdeal.τ).loc Cert.FfnKernelIdeal.main_v12_2) = v5 c
          ∧ r.2.mem ((c.tc : Thread Cert.FfnKernelIdeal.nD Cert.FfnKernelIdeal.τ).loc Cert.FfnKernelIdeal.main_v6_1) = v6 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v55) = v0 c
          ∧ r.2.mem ((c.tc : Thread Cert.FfnReferenceIdeal.nD Cert.FfnReferenceIdeal.τ).loc Cert.FfnReferenceIdeal.main_v57) = v1 c
          ∧ r.2.mem ((c.tc : Thread Cert.FfnReferenceIdeal.nD Cert.FfnReferenceIdeal.τ).loc Cert.FfnReferenceIdeal.main_v39) = v2 c
          ∧ r.2.mem ((c.tc : Thread Cert.FfnReferenceIdeal.nD Cert.FfnReferenceIdeal.τ).loc Cert.FfnReferenceIdeal.main_v58) = v3 c
          ∧ r.2.mem ((c.tc : Thread Cert.FfnReferenceIdeal.nD Cert.FfnReferenceIdeal.τ).loc Cert.FfnReferenceIdeal.main_v60) = v4 c
          ∧ r.2.mem ((c.tc : Thread Cert.FfnReferenceIdeal.nD Cert.FfnReferenceIdeal.τ).loc Cert.FfnReferenceIdeal.main_v62) = v5 c
          ∧ r.2.mem ((c.tc : Thread Cert.FfnReferenceIdeal.nD Cert.FfnReferenceIdeal.τ).loc Cert.FfnReferenceIdeal.main_v63) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MlaKernel_MlaKernelIdeal : Prop :=
  IdealRules.named_const.Statement Cert.MlaKernelIdeal.κ "inv96" .f32 0x3C2AAAAB#32 ((96⁻¹ : ℝ) : EReal)

def algebraic_MlaKernelIdeal_MlaReferenceIdeal [hMlaKernelIdeal : Cert.MlaKernelIdeal.Facts] [hMlaReferenceIdeal : Cert.MlaReferenceIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)
      ∧ m' ((c.tc : Thread Cert.MlaReferenceIdeal.nD Cert.MlaReferenceIdeal.τ).loc Cert.MlaReferenceIdeal.main_arg5) = m ((c.tc : Thread Cert.MlaKernelIdeal.nD Cert.MlaKernelIdeal.τ).loc Cert.MlaKernelIdeal.main_arg5)
      ∧ m' ((c.tc : Thread Cert.MlaReferenceIdeal.nD Cert.MlaReferenceIdeal.τ).loc Cert.MlaReferenceIdeal.main_arg6) = m ((c.tc : Thread Cert.MlaKernelIdeal.nD Cert.MlaKernelIdeal.τ).loc Cert.MlaKernelIdeal.main_arg6)
      ∧ m' ((c.tc : Thread Cert.MlaReferenceIdeal.nD Cert.MlaReferenceIdeal.τ).loc Cert.MlaReferenceIdeal.main_arg7) = m ((c.tc : Thread Cert.MlaKernelIdeal.nD Cert.MlaKernelIdeal.τ).loc Cert.MlaKernelIdeal.main_arg7)
      ∧ m' ((c.tc : Thread Cert.MlaReferenceIdeal.nD Cert.MlaReferenceIdeal.τ).loc Cert.MlaReferenceIdeal.main_arg8) = m ((c.tc : Thread Cert.MlaKernelIdeal.nD Cert.MlaKernelIdeal.τ).loc Cert.MlaKernelIdeal.main_arg8)
      ∧ m' ((c.tc : Thread Cert.MlaReferenceIdeal.nD Cert.MlaReferenceIdeal.τ).loc Cert.MlaReferenceIdeal.main_arg9) = m ((c.tc : Thread Cert.MlaKernelIdeal.nD Cert.MlaKernelIdeal.τ).loc Cert.MlaKernelIdeal.main_arg9)
      ∧ m' ((c.tc : Thread Cert.MlaReferenceIdeal.nD Cert.MlaReferenceIdeal.τ).loc Cert.MlaReferenceIdeal.main_arg10) = m ((c.tc : Thread Cert.MlaKernelIdeal.nD Cert.MlaKernelIdeal.τ).loc Cert.MlaKernelIdeal.main_arg10)
      ∧ m' ((c.tc : Thread Cert.MlaReferenceIdeal.nD Cert.MlaReferenceIdeal.τ).loc Cert.MlaReferenceIdeal.main_arg11) = m ((c.tc : Thread Cert.MlaKernelIdeal.nD Cert.MlaKernelIdeal.τ).loc Cert.MlaKernelIdeal.main_arg11)) →
    ∃ (v0 : (c : Dev Cert.MlaKernelIdeal.nD) → Buf (Elt Ideal) ((c.tc : Thread Cert.MlaKernelIdeal.nD Cert.MlaKernelIdeal.τ).loc Cert.MlaKernelIdeal.main_v80_0)) (v1 : (c : Dev Cert.MlaKernelIdeal.nD) → Buf (Elt Ideal) ((c.tc : Thread Cert.MlaKernelIdeal.nD Cert.MlaKernelIdeal.τ).loc Cert.MlaKernelIdeal.main_v80_1)) (v2 : (c : Dev Cert.MlaKernelIdeal.nD) → Buf (Elt Ideal) ((c.tc : Thread Cert.MlaKernelIdeal.nD Cert.MlaKernelIdeal.τ).loc Cert.MlaKernelIdeal.main_v81)) (v3 : (c : Dev Cert.MlaKernelIdeal.nD) → Buf (Elt Ideal) ((c.tc : Thread Cert.MlaKernelIdeal.nD Cert.MlaKernelIdeal.τ).loc Cert.MlaKernelIdeal.main_v82)) (v4 : (c : Dev Cert.MlaKernelIdeal.nD) → Buf (Elt Ideal) ((c.tc : Thread Cert.MlaKernelIdeal.nD Cert.MlaKernelIdeal.τ).loc Cert.MlaKernelIdeal.main_v83)) (v5 : (c : Dev Cert.MlaKernelIdeal.nD) → Buf (Elt Ideal) ((c.tc : Thread Cert.MlaKernelIdeal.nD Cert.MlaKernelIdeal.τ).loc Cert.MlaKernelIdeal.main_v85)) (v6 : (c : Dev Cert.MlaKernelIdeal.nD) → Buf (Elt Ideal) ((c.tc : Thread Cert.MlaKernelIdeal.nD Cert.MlaKernelIdeal.τ).loc Cert.MlaKernelIdeal.main_v87)) (v7 : (c : Dev Cert.MlaKernelIdeal.nD) → Buf (Elt Ideal) ((c.tc : Thread Cert.MlaKernelIdeal.nD Cert.MlaKernelIdeal.τ).loc Cert.MlaKernelIdeal.main_v80_3)) (v8 : (c : Dev Cert.MlaKernelIdeal.nD) → Buf (Elt Ideal) ((c.tc : Thread Cert.MlaKernelIdeal.nD Cert.MlaKernelIdeal.τ).loc Cert.MlaKernelIdeal.main_v80_4)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v80_0) = v0 c
          ∧ r.2.mem ((c.tc : Thread Cert.MlaKernelIdeal.nD Cert.MlaKernelIdeal.τ).loc Cert.MlaKernelIdeal.main_v80_1) = v1 c
          ∧ r.2.mem ((c.tc : Thread Cert.MlaKernelIdeal.nD Cert.MlaKernelIdeal.τ).loc Cert.MlaKernelIdeal.main_v81) = v2 c
          ∧ r.2.mem ((c.tc : Thread Cert.MlaKernelIdeal.nD Cert.MlaKernelIdeal.τ).loc Cert.MlaKernelIdeal.main_v82) = v3 c
          ∧ r.2.mem ((c.tc : Thread Cert.MlaKernelIdeal.nD Cert.MlaKernelIdeal.τ).loc Cert.MlaKernelIdeal.main_v83) = v4 c
          ∧ r.2.mem ((c.tc : Thread Cert.MlaKernelIdeal.nD Cert.MlaKernelIdeal.τ).loc Cert.MlaKernelIdeal.main_v85) = v5 c
          ∧ r.2.mem ((c.tc : Thread Cert.MlaKernelIdeal.nD Cert.MlaKernelIdeal.τ).loc Cert.MlaKernelIdeal.main_v87) = v6 c
          ∧ r.2.mem ((c.tc : Thread Cert.MlaKernelIdeal.nD Cert.MlaKernelIdeal.τ).loc Cert.MlaKernelIdeal.main_v80_3) = v7 c
          ∧ r.2.mem ((c.tc : Thread Cert.MlaKernelIdeal.nD Cert.MlaKernelIdeal.τ).loc Cert.MlaKernelIdeal.main_v80_4) = v8 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
          ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
          ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
          ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
          ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9)
          ∧ r.2.mem ((c.tc : Thread Cert.MlaKernelIdeal.nD Cert.MlaKernelIdeal.τ).loc Cert.MlaKernelIdeal.main_arg10) = m ((c.tc : Thread Cert.MlaKernelIdeal.nD Cert.MlaKernelIdeal.τ).loc Cert.MlaKernelIdeal.main_arg10)
          ∧ r.2.mem ((c.tc : Thread Cert.MlaKernelIdeal.nD Cert.MlaKernelIdeal.τ).loc Cert.MlaKernelIdeal.main_arg11) = m ((c.tc : Thread Cert.MlaKernelIdeal.nD Cert.MlaKernelIdeal.τ).loc Cert.MlaKernelIdeal.main_arg11))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v265) = v0 c
          ∧ r.2.mem ((c.tc : Thread Cert.MlaReferenceIdeal.nD Cert.MlaReferenceIdeal.τ).loc Cert.MlaReferenceIdeal.main_v267) = v1 c
          ∧ r.2.mem ((c.tc : Thread Cert.MlaReferenceIdeal.nD Cert.MlaReferenceIdeal.τ).loc Cert.MlaReferenceIdeal.main_v269) = v2 c
          ∧ r.2.mem ((c.tc : Thread Cert.MlaReferenceIdeal.nD Cert.MlaReferenceIdeal.τ).loc Cert.MlaReferenceIdeal.main_v249) = v3 c
          ∧ r.2.mem ((c.tc : Thread Cert.MlaReferenceIdeal.nD Cert.MlaReferenceIdeal.τ).loc Cert.MlaReferenceIdeal.main_v227) = v4 c
          ∧ r.2.mem ((c.tc : Thread Cert.MlaReferenceIdeal.nD Cert.MlaReferenceIdeal.τ).loc Cert.MlaReferenceIdeal.main_v197) = v5 c
          ∧ r.2.mem ((c.tc : Thread Cert.MlaReferenceIdeal.nD Cert.MlaReferenceIdeal.τ).loc Cert.MlaReferenceIdeal.main_v177) = v6 c
          ∧ r.2.mem ((c.tc : Thread Cert.MlaReferenceIdeal.nD Cert.MlaReferenceIdeal.τ).loc Cert.MlaReferenceIdeal.main_v272) = v7 c
          ∧ r.2.mem ((c.tc : Thread Cert.MlaReferenceIdeal.nD Cert.MlaReferenceIdeal.τ).loc Cert.MlaReferenceIdeal.main_v275) = v8 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7)
          ∧ r.2.mem ((c.tc : Thread Cert.MlaReferenceIdeal.nD Cert.MlaReferenceIdeal.τ).loc Cert.MlaReferenceIdeal.main_arg8) = m' ((c.tc : Thread Cert.MlaReferenceIdeal.nD Cert.MlaReferenceIdeal.τ).loc Cert.MlaReferenceIdeal.main_arg8)
          ∧ r.2.mem ((c.tc : Thread Cert.MlaReferenceIdeal.nD Cert.MlaReferenceIdeal.τ).loc Cert.MlaReferenceIdeal.main_arg9) = m' ((c.tc : Thread Cert.MlaReferenceIdeal.nD Cert.MlaReferenceIdeal.τ).loc Cert.MlaReferenceIdeal.main_arg9)
          ∧ r.2.mem ((c.tc : Thread Cert.MlaReferenceIdeal.nD Cert.MlaReferenceIdeal.τ).loc Cert.MlaReferenceIdeal.main_arg10) = m' ((c.tc : Thread Cert.MlaReferenceIdeal.nD Cert.MlaReferenceIdeal.τ).loc Cert.MlaReferenceIdeal.main_arg10)
          ∧ r.2.mem ((c.tc : Thread Cert.MlaReferenceIdeal.nD Cert.MlaReferenceIdeal.τ).loc Cert.MlaReferenceIdeal.main_arg11) = m' ((c.tc : Thread Cert.MlaReferenceIdeal.nD Cert.MlaReferenceIdeal.τ).loc Cert.MlaReferenceIdeal.main_arg11))

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v16)) (v1 : (c : Dev Cert.AttnKernelIdeal.nD) → Buf (Elt Ideal) ((c.tc : Thread Cert.AttnKernelIdeal.nD Cert.AttnKernelIdeal.τ).loc Cert.AttnKernelIdeal.main_v14_1)) (v2 : (c : Dev Cert.AttnKernelIdeal.nD) → Buf (Elt Ideal) ((c.tc : Thread Cert.AttnKernelIdeal.nD Cert.AttnKernelIdeal.τ).loc Cert.AttnKernelIdeal.main_v14_2)) (v3 : (c : Dev Cert.AttnKernelIdeal.nD) → Buf (Elt Ideal) ((c.tc : Thread Cert.AttnKernelIdeal.nD Cert.AttnKernelIdeal.τ).loc Cert.AttnKernelIdeal.main_v18)) (v4 : (c : Dev Cert.AttnKernelIdeal.nD) → Buf (Elt Ideal) ((c.tc : Thread Cert.AttnKernelIdeal.nD Cert.AttnKernelIdeal.τ).loc Cert.AttnKernelIdeal.main_v20)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v16) = v0 c
          ∧ r.2.mem ((c.tc : Thread Cert.AttnKernelIdeal.nD Cert.AttnKernelIdeal.τ).loc Cert.AttnKernelIdeal.main_v14_1) = v1 c
          ∧ r.2.mem ((c.tc : Thread Cert.AttnKernelIdeal.nD Cert.AttnKernelIdeal.τ).loc Cert.AttnKernelIdeal.main_v14_2) = v2 c
          ∧ r.2.mem ((c.tc : Thread Cert.AttnKernelIdeal.nD Cert.AttnKernelIdeal.τ).loc Cert.AttnKernelIdeal.main_v18) = v3 c
          ∧ r.2.mem ((c.tc : Thread Cert.AttnKernelIdeal.nD Cert.AttnKernelIdeal.τ).loc Cert.AttnKernelIdeal.main_v20) = v4 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v64) = v0 c
          ∧ r.2.mem ((c.tc : Thread Cert.AttnReferenceIdeal.nD Cert.AttnReferenceIdeal.τ).loc Cert.AttnReferenceIdeal.main_v66) = v1 c
          ∧ r.2.mem ((c.tc : Thread Cert.AttnReferenceIdeal.nD Cert.AttnReferenceIdeal.τ).loc Cert.AttnReferenceIdeal.main_v68) = v2 c
          ∧ r.2.mem ((c.tc : Thread Cert.AttnReferenceIdeal.nD Cert.AttnReferenceIdeal.τ).loc Cert.AttnReferenceIdeal.main_v39) = v3 c
          ∧ r.2.mem ((c.tc : Thread Cert.AttnReferenceIdeal.nD Cert.AttnReferenceIdeal.τ).loc Cert.AttnReferenceIdeal.main_v81) = v4 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def Claim : Prop :=
  ∃ (hLbKernel : Cert.LbKernel.Facts) (hLbKernelIdeal : Cert.LbKernelIdeal.Facts) (hLbReferenceIdeal : Cert.LbReferenceIdeal.Facts) (hLowKernel : Cert.LowKernel.Facts) (hLowKernelIdeal : Cert.LowKernelIdeal.Facts) (hLowReferenceIdeal : Cert.LowReferenceIdeal.Facts) (hLossKernel : Cert.LossKernel.Facts) (hLossKernelIdeal : Cert.LossKernelIdeal.Facts) (hLossReferenceIdeal : Cert.LossReferenceIdeal.Facts) (hInprojKernel : Cert.InprojKernel.Facts) (hInprojKernelIdeal : Cert.InprojKernelIdeal.Facts) (hInprojReferenceIdeal : Cert.InprojReferenceIdeal.Facts) (hFfnKernel : Cert.FfnKernel.Facts) (hFfnKernelIdeal : Cert.FfnKernelIdeal.Facts) (hFfnReferenceIdeal : Cert.FfnReferenceIdeal.Facts) (hMlaKernel : Cert.MlaKernel.Facts) (hMlaKernelIdeal : Cert.MlaKernelIdeal.Facts) (hMlaReferenceIdeal : Cert.MlaReferenceIdeal.Facts) (hAttnKernel : Cert.AttnKernel.Facts) (hAttnKernelIdeal : Cert.AttnKernelIdeal.Facts) (hAttnReferenceIdeal : Cert.AttnReferenceIdeal.Facts) (hPre_lb_finite : Cert.Pre_lb_finite.Facts) (hPre_low_finite : Cert.Pre_low_finite.Facts) (hPre_attn_finite : Cert.Pre_attn_finite.Facts),
    quiescent_LbKernel (hLbKernel := hLbKernel)
    ∧ quiescent_LbKernelIdeal (hLbKernelIdeal := hLbKernelIdeal)
    ∧ quiescent_LbKernelIdeal_pre_lb_finite (hLbKernelIdeal := hLbKernelIdeal) (hPre_lb_finite := hPre_lb_finite)
    ∧ quiescent_LbReferenceIdeal (hLbReferenceIdeal := hLbReferenceIdeal)
    ∧ quiescent_LbReferenceIdeal_pre_lb_finite (hLbReferenceIdeal := hLbReferenceIdeal) (hPre_lb_finite := hPre_lb_finite)
    ∧ quiescent_LowKernel (hLowKernel := hLowKernel)
    ∧ quiescent_LowKernelIdeal (hLowKernelIdeal := hLowKernelIdeal)
    ∧ quiescent_LowKernelIdeal_pre_low_finite (hLowKernelIdeal := hLowKernelIdeal) (hPre_low_finite := hPre_low_finite)
    ∧ quiescent_LowReferenceIdeal (hLowReferenceIdeal := hLowReferenceIdeal)
    ∧ quiescent_LowReferenceIdeal_pre_low_finite (hLowReferenceIdeal := hLowReferenceIdeal) (hPre_low_finite := hPre_low_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MlaKernel (hMlaKernel := hMlaKernel)
    ∧ quiescent_MlaKernelIdeal (hMlaKernelIdeal := hMlaKernelIdeal)
    ∧ quiescent_MlaReferenceIdeal (hMlaReferenceIdeal := hMlaReferenceIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ preserves_LbKernel_LbKernelIdeal
    ∧ algebraic_LbKernelIdeal_LbReferenceIdeal_pre_lb_finite (hLbKernelIdeal := hLbKernelIdeal) (hLbReferenceIdeal := hLbReferenceIdeal) (hPre_lb_finite := hPre_lb_finite)
    ∧ preserves_LowKernel_LowKernelIdeal
    ∧ algebraic_LowKernelIdeal_LowReferenceIdeal_pre_low_finite (hLowKernelIdeal := hLowKernelIdeal) (hLowReferenceIdeal := hLowReferenceIdeal) (hPre_low_finite := hPre_low_finite)
    ∧ preserves_LossKernel_LossKernelIdeal
    ∧ algebraic_LossKernelIdeal_LossReferenceIdeal (hLossKernelIdeal := hLossKernelIdeal) (hLossReferenceIdeal := hLossReferenceIdeal)
    ∧ preserves_InprojKernel_InprojKernelIdeal
    ∧ algebraic_InprojKernelIdeal_InprojReferenceIdeal (hInprojKernelIdeal := hInprojKernelIdeal) (hInprojReferenceIdeal := hInprojReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MlaKernel_MlaKernelIdeal
    ∧ algebraic_MlaKernelIdeal_MlaReferenceIdeal (hMlaKernelIdeal := hMlaKernelIdeal) (hMlaReferenceIdeal := hMlaReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
-- ==== Pre_attn_finite.lean ====
abbrev S4112x8x96 : Shape := ⟨3, ![4112, 8, 96]⟩
abbrev S4112x8x64 : Shape := ⟨3, ![4112, 8, 64]⟩
abbrev S_ : Shape := ⟨0, ![]⟩

class Facts : Prop where
  bcast_S_S4112x8x96 : S_.BroadcastsInDim S4112x8x96 (![] : Fin 0 → Fin S4112x8x96.rank)
  reducesTo_S4112x8x96_S_d0_1_2 : S4112x8x96.ReducesTo [0, 1, 2] S_
  h_S_ : 0 < S_.numel
  bcast_S_S4112x8x64 : S_.BroadcastsInDim S4112x8x64 (![] : Fin 0 → Fin S4112x8x64.rank)
  reducesTo_S4112x8x64_S_d0_1_2 : S4112x8x64.ReducesTo [0, 1, 2] S_

variable [Facts]

def fn_part1 {F : FTy → Type} [FloatOps F] (main_v13 : IVec S_ 1) (main_v16 : IVec S4112x8x64 1) : IVec S_ 1 :=
  let main_c_5 : IVec S_ 1 := constantI S_ 1 1#1
  let main_v17 : IVec S_ 1 := (fun x v => Host.reduce IntOp.andi x v reducesTo_S4112x8x64_S_d0_1_2 h_S_) main_v16 main_c_5
  let main_v18 : IVec S_ 1 := andi main_v13 main_v17
  main_v18

def fn {F : FTy → Type} [FloatOps F] (main_arg0 : FVec F S4112x8x96 .f32) (main_arg1 : FVec F S4112x8x96 .f32) (main_arg2 : FVec F S4112x8x64 .f32) (main_arg3 : FVec F S4112x8x64 .f32) : IVec S_ 1 :=
  let main_v0 : FVec F S4112x8x96 .f32 := Host.absf main_arg0
  let main_cst : FVec F S_ .f32 := constant S_ .f32 0x7F800000#32
  let main_v1 : FVec F S4112x8x96 .f32 := broadcastInDim S4112x8x96 ![] bcast_S_S4112x8x96 main_cst
  let main_v2 : IVec S4112x8x96 1 := cmpf .olt main_v0 main_v1
  let main_c : IVec S_ 1 := constantI S_ 1 1#1
  let main_v3 : IVec S_ 1 := (fun x v => Host.reduce IntOp.andi x v reducesTo_S4112x8x96_S_d0_1_2 h_S_) main_v2 main_c
  let main_v4 : FVec F S4112x8x96 .f32 := Host.absf main_arg1
  let main_cst_0 : FVec F S_ .f32 := constant S_ .f32 0x7F800000#32
  let main_v5 : FVec F S4112x8x96 .f32 := broadcastInDim S4112x8x96 ![] bcast_S_S4112x8x96 main_cst_0
  let main_v6 : IVec S4112x8x96 1 := cmpf .olt main_v4 main_v5
  let main_c_1 : IVec S_ 1 := constantI S_ 1 1#1
  let main_v7 : IVec S_ 1 := (fun x v => Host.reduce IntOp.andi x v reducesTo_S4112x8x96_S_d0_1_2 h_S_) main_v6 main_c_1
  let main_v8 : IVec S_ 1 := andi main_v3 main_v7
  let main_v9 : FVec F S4112x8x64 .f32 := Host.absf main_arg2
  let main_cst_2 : FVec F S_ .f32 := constant S_ .f32 0x7F800000#32
  let main_v10 : FVec F S4112x8x64 .f32 := broadcastInDim S4112x8x64 ![] bcast_S_S4112x8x64 main_cst_2
  let main_v11 : IVec S4112x8x64 1 := cmpf .olt main_v9 main_v10
  let main_c_3 : IVec S_ 1 := constantI S_ 1 1#1
  let main_v12 : IVec S_ 1 := (fun x v => Host.reduce IntOp.andi x v reducesTo_S4112x8x64_S_d0_1_2 h_S_) main_v11 main_c_3
  let main_v13 : IVec S_ 1 := andi main_v8 main_v12
  let main_v14 : FVec F S4112x8x64 .f32 := Host.absf main_arg3
  let main_cst_4 : FVec F S_ .f32 := constant S_ .f32 0x7F800000#32
  let main_v15 : FVec F S4112x8x64 .f32 := broadcastInDim S4112x8x64 ![] bcast_S_S4112x8x64 main_cst_4
  let main_v16 : IVec S4112x8x64 1 := cmpf .olt main_v14 main_v15
  fn_part1 (F := F) main_v13 main_v16
-- ==== Pre_lb_finite.lean ====
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S2x512 .f32) (main_arg1 : FVec F S2x512 .f32) : IVec S_ 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Pre_low_finite.lean ====
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S2x512 .f32) : IVec S_ 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  main_v3
-- ==== LbKernel.lean ====
abbrev S2x512 : Shape := ⟨2, ![2, 512]⟩
abbrev S512 : Shape := ⟨1, ![512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbReferenceIdeal.lean ====
abbrev S2x512 : Shape := ⟨2, ![2, 512]⟩
abbrev S_ : Shape := ⟨0, ![]⟩
abbrev S512 : Shape := ⟨1, ![512]⟩
abbrev S1x512 : Shape := ⟨2, ![1, 512]⟩

abbrev nBuf : Space → Nat
  | .hbm => 71
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S2x512, .f32⟩
  | .hbm, ⟨6, _⟩ => ⟨S2x512, .i1⟩
  | .hbm, ⟨7, _⟩ => ⟨S2x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S2x512, .f32⟩
  | .hbm, ⟨29, _⟩ => ⟨S2x512, .f32⟩
  | .hbm, ⟨30, _⟩ => ⟨S2x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S2x512, .f32⟩
  | .hbm, ⟨35, _⟩ => ⟨S2x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S2x512, .f32⟩
  | .hbm, ⟨43, _⟩ => ⟨S1x512, .f32⟩
  | .hbm, ⟨44, _⟩ => ⟨S2x512, .f32⟩
  | .hbm, ⟨45, _⟩ => ⟨S2x512, .f32⟩
  | .hbm, ⟨46, _⟩ => ⟨S2x512, .f32⟩
  | .hbm, ⟨47, _⟩ => ⟨S2x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S2x512, .f32⟩
  | .hbm, ⟨53, _⟩ => ⟨S_, .f32⟩
  | .hbm, ⟨54, _⟩ => ⟨S_, .f32⟩
  | .hbm, ⟨55, _⟩ => ⟨S2x512, .f32⟩
  | .hbm, ⟨56, _⟩ => ⟨S2x512, .f32⟩
  | .hbm, ⟨57, _⟩ => ⟨S2x512, .f32⟩
  | .hbm, ⟨58, _⟩ => ⟨S2x512, .f32⟩
  | .hbm, ⟨59, _⟩ => ⟨S2x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S1x512, .f32⟩
  | .hbm, ⟨64, _⟩ => ⟨S2x512, .f32⟩
  | .hbm, ⟨65, _⟩ => ⟨S2x512, .f32⟩
  | .hbm, ⟨66, _⟩ => ⟨S_, .f32⟩
  | .hbm, ⟨67, _⟩ => ⟨S512, .f32⟩
  | .hbm, ⟨68, _⟩ => ⟨S2x512, .f32⟩
  | .hbm, ⟨69, _⟩ => ⟨S2x512, .f32⟩
  | .hbm, ⟨70, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== LowKernel.lean ====
abbrev S2x512 : Shape := ⟨2, ![2, 512]⟩
abbrev S512 : Shape := ⟨1, ![512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .local _ .vmem, ⟨0, _⟩ => ⟨S2x512, .f32⟩
  | .local _ .vmem, ⟨1, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LowReferenceIdeal.lean ====
abbrev S2x512 : Shape := ⟨2, ![2, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S_, .f32⟩
  | .hbm, ⟨17, _⟩ => ⟨S2x512, .f32⟩
  | .hbm, ⟨18, _⟩ => ⟨S1x512, .f32⟩
  | .hbm, ⟨19, _⟩ => ⟨S2x512, .f32⟩
  | .hbm, ⟨20, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== LossKernel.lean ====
abbrev S1x4112x1024 : Shape := ⟨3, ![1, 4112, 1024]⟩
abbrev S1x4096x1024 : Shape := ⟨3, ![1, 4096, 1024]⟩
abbrev S_ : Shape := ⟨0, ![]⟩
abbrev S48x1024 : Shape := ⟨2, ![48, 1024]⟩
abbrev S4112x1024 : Shape := ⟨2, ![4112, 1024]⟩
abbrev S64x1024 : Shape := ⟨2, ![64, 1024]⟩
abbrev S4224x1024 : Shape := ⟨2, ![4224, 1024]⟩
abbrev S4096x1024 : Shape := ⟨2, ![4096, 1024]⟩
abbrev S8x128 : Shape := ⟨2, ![8, 128]⟩
abbrev S384x1024 : Shape := ⟨2, ![384, 1024]⟩
abbrev S384x1 : Shape := ⟨2, ![384, 1]⟩
abbrev S48x8x1024 : Shape := ⟨3, ![48, 8, 1024]⟩
abbrev S8x1024 : Shape := ⟨2, ![8, 1024]⟩

abbrev nBuf : Space → Nat
  | .hbm => 19
  | .vmem => 7
  | .smem => 0
  | _ => 0

abbrev bufTy : (tb : Table) → Fin (tcTables nBuf tb) → BufTy
  | .hbm, ⟨0, _⟩ => ⟨S1x4112x1024, .f32⟩
  | .hbm, ⟨1, _⟩ => ⟨S1x4096x1024, .f32⟩
  | .hbm, ⟨2, _⟩ => ⟨S_, .f32⟩
  | .hbm, ⟨3, _⟩ => ⟨S48x1024, .f32⟩
  | .hbm, ⟨4, _⟩ => ⟨S4112x1024, .f32⟩
  | .hbm, ⟨5, _⟩ => ⟨S_, .f32⟩
  | .hbm, ⟨6, _⟩ => ⟨S64x1024, .f32⟩
  | .hbm, ⟨7, _⟩ => ⟨S4224x1024, .f32⟩
  | .hbm, ⟨8, _⟩ => ⟨S_, .f32⟩
  | .hbm, ⟨9, _⟩ => ⟨S64x1024, .f32⟩
  | .hbm, ⟨10, _⟩ => ⟨S4096x1024, .f32⟩
  | .hbm, ⟨11, _⟩ => ⟨S_, .f32⟩
  | .hbm, ⟨12, _⟩ => ⟨S64x1024, .f32⟩
  | .hbm, ⟨13, _⟩ => ⟨S4224x1024, .f32⟩
  | .hbm, ⟨14, _⟩ => ⟨S4224x1024, .f32⟩
  | .hbm, ⟨15, _⟩ => ⟨S8x128, .f32⟩
  | .hbm, ⟨16, _⟩ => ⟨S4112x1024, .f32⟩
  | .hbm, ⟨17, _⟩ => ⟨S_, .f32⟩
  | .hbm, ⟨18, _⟩ => ⟨S_, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S8x128, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S1x4112x1024 : Shape := ⟨3, ![1, 4112, 1024]⟩
abbrev S1x4096x1024 : Shape := ⟨3, ![1, 4096, 1024]⟩
abbrev S_ : Shape := ⟨0, ![]⟩
abbrev S1x4096 : Shape := ⟨2, ![1, 4096]⟩
abbrev S4112x1024 : Shape := ⟨2, ![4112, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S_, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4112x1024, .f32⟩
  | .hbm, ⟨28, _⟩ => ⟨S4112x1024, .f32⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== InprojKernel.lean ====
abbrev S4112x1024 : Shape := ⟨2, ![4112, 1024]⟩
abbrev S1024 : Shape := ⟨1, ![1024]⟩
abbrev S1024x6560 : Shape := ⟨2, ![1024, 6560]⟩
abbrev S4112x6560 : Shape := ⟨2, ![4112, 6560]⟩
abbrev S1024x1640 : Shape := ⟨2, ![1024, 1640]⟩
abbrev S1024x1432 : Shape := ⟨2, ![1024, 1432]⟩
abbrev S1024x1024 : Shape := ⟨2, ![1024, 1024]⟩
abbrev S1024x200 : Shape := ⟨2, ![1024, 200]⟩
abbrev S1024x208 : Shape := ⟨2, ![1024, 208]⟩
abbrev S1024x256 : Shape := ⟨2, ![1024, 256]⟩
abbrev S1024x128 : Shape := ⟨2, ![1024, 128]⟩
abbrev S_ : Shape := ⟨0, ![]⟩
abbrev S1024x64 : Shape := ⟨2, ![1024, 64]⟩
abbrev S1024x32 : Shape := ⟨2, ![1024, 32]⟩
abbrev S1024x6656 : Shape := ⟨2, ![1024, 6656]⟩
abbrev S6656x1024 : Shape := ⟨2, ![6656, 1024]⟩
abbrev S4112x3072 : Shape := ⟨2, ![4112, 3072]⟩
abbrev S4112x2048 : Shape := ⟨2, ![4112, 2048]⟩
abbrev S4112x256 : Shape := ⟨2, ![4112, 256]⟩
abbrev S4112x128 : Shape := ⟨2, ![4112, 128]⟩
abbrev S4112x64 : Shape := ⟨2, ![4112, 64]⟩
abbrev S4112x32 : Shape := ⟨2, ![4112, 32]⟩
abbrev S4112x6656 : Shape := ⟨2, ![4112, 6656]⟩
abbrev S48x6656 : Shape := ⟨2, ![48, 6656]⟩
abbrev S64x6656 : Shape := ⟨2, ![64, 6656]⟩
abbrev S4224x6656 : Shape := ⟨2, ![4224, 6656]⟩
abbrev S48x1024 : Shape := ⟨2, ![48, 1024]⟩
abbrev S64x1024 : Shape := ⟨2, ![64, 1024]⟩
abbrev S4224x1024 : Shape := ⟨2, ![4224, 1024]⟩
abbrev S1x1024 : Shape := ⟨2, ![1, 1024]⟩
abbrev S8x1024 : Shape := ⟨2, ![8, 1024]⟩
abbrev S384x6656 : Shape := ⟨2, ![384, 6656]⟩
abbrev S384x1024 : Shape := ⟨2, ![384, 1024]⟩
abbrev S384 : Shape := ⟨1, ![384]⟩
abbrev S384x1 : Shape := ⟨2, ![384, 1]⟩
abbrev S48x8x1024 : Shape := ⟨3, ![48, 8, 1024]⟩

abbrev nBuf : Space → Nat
  | .hbm => 58
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x6560, .f32⟩
  | .hbm, ⟨3, _⟩ => ⟨S4112x1024, .f32⟩
  | .hbm, ⟨4, _⟩ => ⟨S4112x6560, .f32⟩
  | .hbm, ⟨5, _⟩ => ⟨S1024x1640, .f32⟩
  | .hbm, ⟨6, _⟩ => ⟨S1024x1640, .bf16⟩
  | .hbm, ⟨7, _⟩ => ⟨S1024x1640, .f32⟩
  | .hbm, ⟨8, _⟩ => ⟨S1024x1640, .bf16⟩
  | .hbm, ⟨9, _⟩ => ⟨S1024x1640, .f32⟩
  | .hbm, ⟨10, _⟩ => ⟨S1024x1640, .bf16⟩
  | .hbm, ⟨11, _⟩ => ⟨S1024x1640, .f32⟩
  | .hbm, ⟨12, _⟩ => ⟨S1024x1640, .bf16⟩
  | .hbm, ⟨13, _⟩ => ⟨S1024x1432, .bf16⟩
  | .hbm, ⟨14, _⟩ => ⟨S1024x1024, .bf16⟩
  | .hbm, ⟨15, _⟩ => ⟨S1024x200, .bf16⟩
  | .hbm, ⟨16, _⟩ => ⟨S1024x208, .bf16⟩
  | .hbm, ⟨17, _⟩ => ⟨S1024x256, .bf16⟩
  | .hbm, ⟨18, _⟩ => ⟨S1024x128, .bf16⟩
  | .hbm, ⟨19, _⟩ => ⟨S_, .bf16⟩
  | .hbm, ⟨20, _⟩ => ⟨S1024x64, .bf16⟩
  | .hbm, ⟨21, _⟩ => ⟨S1024x32, .bf16⟩
  | .hbm, ⟨22, _⟩ => ⟨S_, .bf16⟩
  | .hbm, ⟨23, _⟩ => ⟨S1024x32, .bf16⟩
  | .hbm, ⟨24, _⟩ => ⟨S1024x6656, .bf16⟩
  | .hbm, ⟨25, _⟩ => ⟨S6656x1024, .bf16⟩
  | .hbm, ⟨26, _⟩ => ⟨S4112x3072, .f32⟩
  | .hbm, ⟨27, _⟩ => ⟨S4112x1024, .f32⟩
  | .hbm, ⟨28, _⟩ => ⟨S4112x2048, .f32⟩
  | .hbm, ⟨29, _⟩ => ⟨S4112x256, .f32⟩
  | .hbm, ⟨30, _⟩ => ⟨S4112x128, .f32⟩
  | .hbm, ⟨31, _⟩ => ⟨S_, .f32⟩
  | .hbm, ⟨32, _⟩ => ⟨S4112x64, .f32⟩
  | .hbm, ⟨33, _⟩ => ⟨S4112x32, .f32⟩
  | .hbm, ⟨34, _⟩ => ⟨S_, .f32⟩
  | .hbm, ⟨35, _⟩ => ⟨S4112x32, .f32⟩
  | .hbm, ⟨36, _⟩ => ⟨S4112x6656, .f32⟩
  | .hbm, ⟨37, _⟩ => ⟨S_, .f32⟩
  | .hbm, ⟨38, _⟩ => ⟨S48x6656, .f32⟩
  | .hbm, ⟨39, _⟩ => ⟨S_, .f32⟩
  | .hbm, ⟨40, _⟩ => ⟨S64x6656, .f32⟩
  | .hbm, ⟨41, _⟩ => ⟨S4224x6656, .f32⟩
  | .hbm, ⟨42, _⟩ => ⟨S4224x6656, .bf16⟩
  | .hbm, ⟨43, _⟩ => ⟨S_, .f32⟩
  | .hbm, ⟨44, _⟩ => ⟨S48x1024, .f32⟩
  | .hbm, ⟨45, _⟩ => ⟨S_, .f32⟩
  | .hbm, ⟨46, _⟩ => ⟨S64x1024, .f32⟩
  | .hbm, ⟨47, _⟩ => ⟨S4224x1024, .f32⟩
  | .hbm, ⟨48, _⟩ => ⟨S_, .f32⟩
  | .hbm, ⟨49, _⟩ => ⟨S48x1024, .f32⟩
  | .hbm, ⟨50, _⟩ => ⟨S_, .f32⟩
  | .hbm, ⟨51, _⟩ => ⟨S64x1024, .f32⟩
  | .hbm, ⟨52, _⟩ => ⟨S4224x1024, .f32⟩
  | .hbm, ⟨53, _⟩ => ⟨S1x1024, .f32⟩
  | .hbm, ⟨54, _⟩ => ⟨S4224x1024, .f32⟩
  | .hbm, ⟨55, _⟩ => ⟨S8x1024, .f32⟩
  | .hbm, ⟨56, _⟩ => ⟨S_, .f32⟩
  | .hbm, ⟨57, _⟩ => ⟨S1024, .f32⟩
  | .local _ .vmem, ⟨0, _⟩ => ⟨S384x6656, .bf16⟩
  | .local _ .vmem, ⟨1, _⟩ => ⟨S384x6656, .bf16⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S6656x1024, .bf16⟩
  | .local _ .vmem, ⟨8, _⟩ => ⟨S384x1024, .f32⟩
  | .local _ .vmem, ⟨9, _⟩ => ⟨S384x1024, .f32⟩
  | .local _ .vmem, ⟨10, _⟩ => ⟨S8x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_cst_9 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6656x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InprojReferenceIdeal.lean ====
abbrev S4112x1024 : Shape := ⟨2, ![4112, 1024]⟩
abbrev S1024 : Shape := ⟨1, ![1024]⟩
abbrev S1024x6560 : Shape := ⟨2, ![1024, 6560]⟩
abbrev S4112x6560 : Shape := ⟨2, ![4112, 6560]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x6560, .f32⟩
  | .hbm, ⟨3, _⟩ => ⟨S4112x1024, .f32⟩
  | .hbm, ⟨4, _⟩ => ⟨S4112x6560, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x6560, .f32⟩
  | .hbm, ⟨26, _⟩ => ⟨S4112x1024, .f32⟩
  | .hbm, ⟨27, _⟩ => ⟨S4112x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S4112x1024, .f32⟩
  | .hbm, ⟨36, _⟩ => ⟨S_, .f32⟩
  | .hbm, ⟨37, _⟩ => ⟨S4112, .f32⟩
  | .hbm, ⟨38, _⟩ => ⟨S4112x1, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S4112x1, .f32⟩
  | .hbm, ⟨43, _⟩ => ⟨S_, .f32⟩
  | .hbm, ⟨44, _⟩ => ⟨S4112x1, .f32⟩
  | .hbm, ⟨45, _⟩ => ⟨S4112x1, .f32⟩
  | .hbm, ⟨46, _⟩ => ⟨S_, .f32⟩
  | .hbm, ⟨47, _⟩ => ⟨S4112, .f32⟩
  | .hbm, ⟨48, _⟩ => ⟨S4112x1024, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S_, .i32⟩
  | .hbm, ⟨54, _⟩ => ⟨S_, .f32⟩
  | .hbm, ⟨55, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== FfnKernel.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S48x1024 : Shape := ⟨2, ![48, 1024]⟩
abbrev S64x1024 : Shape := ⟨2, ![64, 1024]⟩
abbrev S4224x1024 : Shape := ⟨2, ![4224, 1024]⟩
abbrev S4224x4096 : Shape := ⟨2, ![4224, 4096]⟩
abbrev S192x1024 : Shape := ⟨2, ![192, 1024]⟩
abbrev S192x4096 : Shape := ⟨2, ![192, 4096]⟩
abbrev S192 : Shape := ⟨1, ![192]⟩
abbrev S192x1 : Shape := ⟨2, ![192, 1]⟩
abbrev S8x1024 : Shape := ⟨2, ![8, 1024]⟩
abbrev S24x8x1024 : Shape := ⟨3, ![24, 8, 1024]⟩

abbrev nBuf : Space → Nat
  | .hbm => 29
  | .vmem => 27
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4112x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S_, .f32⟩
  | .hbm, ⟨9, _⟩ => ⟨S48x1024, .f32⟩
  | .hbm, ⟨10, _⟩ => ⟨S_, .f32⟩
  | .hbm, ⟨11, _⟩ => ⟨S64x1024, .f32⟩
  | .hbm, ⟨12, _⟩ => ⟨S4224x1024, .f32⟩
  | .hbm, ⟨13, _⟩ => ⟨S4224x1024, .f32⟩
  | .hbm, ⟨14, _⟩ => ⟨S4224x4096, .f32⟩
  | .hbm, ⟨15, _⟩ => ⟨S_, .f32⟩
  | .hbm, ⟨16, _⟩ => ⟨S48x1024, .f32⟩
  | .hbm, ⟨17, _⟩ => ⟨S_, .f32⟩
  | .hbm, ⟨18, _⟩ => ⟨S64x1024, .f32⟩
  | .hbm, ⟨19, _⟩ => ⟨S4224x1024, .f32⟩
  | .hbm, ⟨20, _⟩ => ⟨S4096x1024, .bf16⟩
  | .hbm, ⟨21, _⟩ => ⟨S1024x4096, .bf16⟩
  | .hbm, ⟨22, _⟩ => ⟨S4224x1024, .f32⟩
  | .hbm, ⟨23, _⟩ => ⟨S4224x1024, .bf16⟩
  | .hbm, ⟨24, _⟩ => ⟨S4224x4096, .bf16⟩
  | .hbm, ⟨25, _⟩ => ⟨S4224x4096, .bf16⟩
  | .hbm, ⟨26, _⟩ => ⟨S8x1024, .f32⟩
  | .hbm, ⟨27, _⟩ => ⟨S_, .f32⟩
  | .hbm, ⟨28, _⟩ => ⟨S1024, .f32⟩
  | .local _ .vmem, ⟨0, _⟩ => ⟨S192x1024, .f32⟩
  | .local _ .vmem, ⟨1, _⟩ => ⟨S192x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S192x1024, .f32⟩
  | .local _ .vmem, ⟨6, _⟩ => ⟨S192x1024, .f32⟩
  | .local _ .vmem, ⟨7, _⟩ => ⟨S192x4096, .f32⟩
  | .local _ .vmem, ⟨8, _⟩ => ⟨S192x4096, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x4096, .f32⟩
  | .local _ .vmem, ⟨14, _⟩ => ⟨S192x4096, .f32⟩
  | .local _ .vmem, ⟨15, _⟩ => ⟨S1x1024, .f32⟩
  | .local _ .vmem, ⟨16, _⟩ => ⟨S4096x1024, .bf16⟩
  | .local _ .vmem, ⟨17, _⟩ => ⟨S1024x4096, .bf16⟩
  | .local _ .vmem, ⟨18, _⟩ => ⟨S192x1024, .f32⟩
  | .local _ .vmem, ⟨19, _⟩ => ⟨S192x1024, .f32⟩
  | .local _ .vmem, ⟨20, _⟩ => ⟨S192x1024, .bf16⟩
  | .local _ .vmem, ⟨21, _⟩ => ⟨S192x1024, .bf16⟩
  | .local _ .vmem, ⟨22, _⟩ => ⟨S192x4096, .bf16⟩
  | .local _ .vmem, ⟨23, _⟩ => ⟨S192x4096, .bf16⟩
  | .local _ .vmem, ⟨24, _⟩ => ⟨S192x4096, .bf16⟩
  | .local _ .vmem, ⟨25, _⟩ => ⟨S192x4096, .bf16⟩
  | .local _ .vmem, ⟨26, _⟩ => ⟨S8x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_cst_3 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S192x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S192x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S192x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S192x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S192x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S192x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S192x4096 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== FfnReferenceIdeal.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4112x4096 : Shape := ⟨2, ![4112, 4096]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩
abbrev S4224x4096 : Shape := ⟨2, ![4224, 4096]⟩

abbrev nBuf : Space → Nat
  | .hbm => 97
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4112x1024, .f32⟩
  | .hbm, ⟨5, _⟩ => ⟨S_, .f32⟩
  | .hbm, ⟨6, _⟩ => ⟨S4112x4096, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S4112x4096, .f32⟩
  | .hbm, ⟨28, _⟩ => ⟨S4112x4096, .f32⟩
  | .hbm, ⟨29, _⟩ => ⟨S_, .f32⟩
  | .hbm, ⟨30, _⟩ => ⟨S4112x4096, .f32⟩
  | .hbm, ⟨31, _⟩ => ⟨S4112x4096, .f32⟩
  | .hbm, ⟨32, _⟩ => ⟨S_, .f32⟩
  | .hbm, ⟨33, _⟩ => ⟨S4112x4096, .f32⟩
  | .hbm, ⟨34, _⟩ => ⟨S4112x4096, .i1⟩
  | .hbm, ⟨35, _⟩ => ⟨S_, .f32⟩
  | .hbm, ⟨36, _⟩ => ⟨S4112x4096, .f32⟩
  | .hbm, ⟨37, _⟩ => ⟨S4112x4096, .f32⟩
  | .hbm, ⟨38, _⟩ => ⟨S_, .f32⟩
  | .hbm, ⟨39, _⟩ => ⟨S4112x4096, .f32⟩
  | .hbm, ⟨40, _⟩ => ⟨S4112x4096, .f32⟩
  | .hbm, ⟨41, _⟩ => ⟨S4112x1024, .f32⟩
  | .hbm, ⟨42, _⟩ => ⟨S4112x1024, .f32⟩
  | .hbm, ⟨43, _⟩ => ⟨S4112x1024, .f32⟩
  | .hbm, ⟨44, _⟩ => ⟨S4112x4096, .f32⟩
  | .hbm, ⟨45, _⟩ => ⟨S4112x4096, .f32⟩
  | .hbm, ⟨46, _⟩ => ⟨S_, .f32⟩
  | .hbm, ⟨47, _⟩ => ⟨S4112x4096, .f32⟩
  | .hbm, ⟨48, _⟩ => ⟨S4112x4096, .f32⟩
  | .hbm, ⟨49, _⟩ => ⟨S4112x1024, .f32⟩
  | .hbm, ⟨50, _⟩ => ⟨S4112x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4112x1024, .f32⟩
  | .hbm, ⟨55, _⟩ => ⟨S4112x1024, .f32⟩
  | .hbm, ⟨56, _⟩ => ⟨S_, .f32⟩
  | .hbm, ⟨57, _⟩ => ⟨S1024, .f32⟩
  | .hbm, ⟨58, _⟩ => ⟨S4112x1024, .f32⟩
  | .hbm, ⟨59, _⟩ => ⟨S_, .f32⟩
  | .hbm, ⟨60, _⟩ => ⟨S4112, .f32⟩
  | .hbm, ⟨61, _⟩ => ⟨S4112x1, .f32⟩
  | .hbm, ⟨62, _⟩ => ⟨S4112x1024, .f32⟩
  | .hbm, ⟨63, _⟩ => ⟨S4112x1024, .f32⟩
  | .hbm, ⟨64, _⟩ => ⟨S4112x1024, .f32⟩
  | .hbm, ⟨65, _⟩ => ⟨S4112x1, .f32⟩
  | .hbm, ⟨66, _⟩ => ⟨S_, .f32⟩
  | .hbm, ⟨67, _⟩ => ⟨S4112x1, .f32⟩
  | .hbm, ⟨68, _⟩ => ⟨S4112x1, .f32⟩
  | .hbm, ⟨69, _⟩ => ⟨S_, .f32⟩
  | .hbm, ⟨70, _⟩ => ⟨S4112, .f32⟩
  | .hbm, ⟨71, _⟩ => ⟨S4112x1024, .f32⟩
  | .hbm, ⟨72, _⟩ => ⟨S4112x1024, .f32⟩
  | .hbm, ⟨73, _⟩ => ⟨S4112x1024, .f32⟩
  | .hbm, ⟨74, _⟩ => ⟨S4112x1024, .f32⟩
  | .hbm, ⟨75, _⟩ => ⟨S4112x1024, .f32⟩
  | .hbm, ⟨76, _⟩ => ⟨S_, .i32⟩
  | .hbm, ⟨77, _⟩ => ⟨S_, .f32⟩
  | .hbm, ⟨78, _⟩ => ⟨S4224x1024, .f32⟩
  | .hbm, ⟨79, _⟩ => ⟨S_, .i32⟩
  | .hbm, ⟨80, _⟩ => ⟨S_, .f32⟩
  | .hbm, ⟨81, _⟩ => ⟨S4224x4096, .f32⟩
  | .hbm, ⟨82, _⟩ => ⟨S4224x4096, .bf16⟩
  | .hbm, ⟨83, _⟩ => ⟨S_, .i32⟩
  | .hbm, ⟨84, _⟩ => ⟨S_, .f32⟩
  | .hbm, ⟨85, _⟩ => ⟨S4224x1024, .f32⟩
  | .hbm, ⟨86, _⟩ => ⟨S_, .i32⟩
  | .hbm, ⟨87, _⟩ => ⟨S_, .f32⟩
  | .hbm, ⟨88, _⟩ => ⟨S4224x1024, .f32⟩
  | .hbm, ⟨89, _⟩ => ⟨S4224x1024, .bf16⟩
  | .hbm, ⟨90, _⟩ => ⟨S_, .i32⟩
  | .hbm, ⟨91, _⟩ => ⟨S_, .f32⟩
  | .hbm, ⟨92, _⟩ => ⟨S4224x4096, .f32⟩
  | .hbm, ⟨93, _⟩ => ⟨S4224x4096, .bf16⟩
  | .hbm, ⟨94, _⟩ => ⟨S_, .i32⟩
  | .hbm, ⟨95, _⟩ => ⟨S_, .f32⟩
  | .hbm, ⟨96, _⟩ => ⟨S4224x4096, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_call1_v0 : Ref sig .tc := ⟨.hbm, 77, rfl⟩
abbrev main_v55 : Ref sig .tc := ⟨.hbm, 78, rfl⟩
abbrev main_c_13 : Ref sig .tc := ⟨.hbm, 79, rfl⟩
abbrev main_call2_v0 : Ref sig .tc := ⟨.hbm, 80, rfl⟩
abbrev main_v56 : Ref sig .tc := ⟨.hbm, 81, rfl⟩
abbrev main_v57 : Ref sig .tc := ⟨.hbm, 82, rfl⟩
abbrev main_c_14 : Ref sig .tc := ⟨.hbm, 83, rfl⟩
abbrev main_call3_v0 : Ref sig .tc := ⟨.hbm, 84, rfl⟩
abbrev main_v58 : Ref sig .tc := ⟨.hbm, 85, rfl⟩
abbrev main_c_15 : Ref sig .tc := ⟨.hbm, 86, rfl⟩
abbrev main_call4_v0 : Ref sig .tc := ⟨.hbm, 87, rfl⟩
abbrev main_v59 : Ref sig .tc := ⟨.hbm, 88, rfl⟩
abbrev main_v60 : Ref sig .tc := ⟨.hbm, 89, rfl⟩
abbrev main_c_16 : Ref sig .tc := ⟨.hbm, 90, rfl⟩
abbrev main_call5_v0 : Ref sig .tc := ⟨.hbm, 91, rfl⟩
abbrev main_v61 : Ref sig .tc := ⟨.hbm, 92, rfl⟩
abbrev main_v62 : Ref sig .tc := ⟨.hbm, 93, rfl⟩
abbrev main_c_17 : Ref sig .tc := ⟨.hbm, 94, rfl⟩
abbrev main_call6_v0 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== MlaKernel.lean ====
abbrev S4112x256 : Shape := ⟨2, ![4112, 256]⟩
abbrev S4112x128 : Shape := ⟨2, ![4112, 128]⟩
abbrev S4112x32 : Shape := ⟨2, ![4112, 32]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S4112x8x96 : Shape := ⟨3, ![4112, 8, 96]⟩
abbrev S4112x8x64 : Shape := ⟨3, ![4112, 8, 64]⟩
abbrev S_ : Shape := ⟨0, ![]⟩
abbrev S4112x64 : Shape := ⟨2, ![4112, 64]⟩
abbrev S48x128 : Shape := ⟨2, ![48, 128]⟩
abbrev S64x128 : Shape := ⟨2, ![64, 128]⟩
abbrev S4224x128 : Shape := ⟨2, ![4224, 128]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S1x96 : Shape := ⟨2, ![1, 96]⟩
abbrev S1x128 : Shape := ⟨2, ![1, 128]⟩
abbrev S4112x768 : Shape := ⟨2, ![4112, 768]⟩
abbrev S48x768 : Shape := ⟨2, ![48, 768]⟩
abbrev S64x768 : Shape := ⟨2, ![64, 768]⟩
abbrev S4224x768 : Shape := ⟨2, ![4224, 768]⟩
abbrev S4224x8x96 : Shape := ⟨3, ![4224, 8, 96]⟩
abbrev S4224x8x128 : Shape := ⟨3, ![4224, 8, 128]⟩
abbrev S4224x1024 : Shape := ⟨2, ![4224, 1024]⟩
abbrev S4112x512 : Shape := ⟨2, ![4112, 512]⟩
abbrev S48x512 : Shape := ⟨2, ![48, 512]⟩
abbrev S64x512 : Shape := ⟨2, ![64, 512]⟩
abbrev S4224x512 : Shape := ⟨2, ![4224, 512]⟩
abbrev S4224x8x64 : Shape := ⟨3, ![4224, 8, 64]⟩
abbrev S48x256 : Shape := ⟨2, ![48, 256]⟩
abbrev S64x256 : Shape := ⟨2, ![64, 256]⟩
abbrev S4224x256 : Shape := ⟨2, ![4224, 256]⟩
abbrev S1x256 : Shape := ⟨2, ![1, 256]⟩
abbrev S4224 : Shape := ⟨1, ![4224]⟩
abbrev S16 : Shape := ⟨1, ![16]⟩
abbrev S4224x1 : Shape := ⟨2, ![4224, 1]⟩
abbrev S1x16 : Shape := ⟨2, ![1, 16]⟩
abbrev S4224x16 : Shape := ⟨2, ![4224, 16]⟩
abbrev S4224x64 : Shape := ⟨2, ![4224, 64]⟩
abbrev S4224x32 : Shape := ⟨2, ![4224, 32]⟩
abbrev S8x256 : Shape := ⟨2, ![8, 256]⟩
abbrev S8x128 : Shape := ⟨2, ![8, 128]⟩
abbrev S384x1024 : Shape := ⟨2, ![384, 1024]⟩
abbrev S384x256 : Shape := ⟨2, ![384, 256]⟩
abbrev S384x128 : Shape := ⟨2, ![384, 128]⟩
abbrev S384 : Shape := ⟨1, ![384]⟩
abbrev S384x1 : Shape := ⟨2, ![384, 1]⟩
abbrev S48x8x128 : Shape := ⟨3, ![48, 8, 128]⟩
abbrev S48x8x256 : Shape := ⟨3, ![48, 8, 256]⟩

abbrev nBuf : Space → Nat
  | .hbm => 149
  | .vmem => 39
  | .smem => 0
  | _ => 0

abbrev hbmTy0_0 (i : Nat) : BufTy := match i % 128 with
  | 0 => ⟨S4112x256, .f32⟩
  | 1 => ⟨S4112x128, .f32⟩
  | 2 => ⟨S4112x32, .f32⟩
  | 3 => ⟨S256, .f32⟩
  | 4 => ⟨S256x768, .f32⟩
  | 5 => ⟨S128, .f32⟩
  | 6 => ⟨S128x1024, .f32⟩
  | 7 => ⟨S96, .f32⟩
  | 8 => ⟨S96, .f32⟩
  | 9 => ⟨S4112x8x96, .f32⟩
  | 10 => ⟨S4112x8x96, .f32⟩
  | 11 => ⟨S4112x8x64, .f32⟩
  | 12 => ⟨S_, .f32⟩
  | 13 => ⟨S4112x64, .f32⟩
  | 14 => ⟨S_, .f32⟩
  | 15 => ⟨S4112x32, .f32⟩
  | 16 => ⟨S4112x128, .f32⟩
  | 17 => ⟨S_, .f32⟩
  | 18 => ⟨S48x128, .f32⟩
  | 19 => ⟨S_, .f32⟩
  | 20 => ⟨S64x128, .f32⟩
  | 21 => ⟨S4224x128, .f32⟩
  | 22 => ⟨S256x768, .bf16⟩
  | 23 => ⟨S256x8x96, .bf16⟩
  | 24 => ⟨S_, .i32⟩
  | 25 => ⟨S_, .bf16⟩
  | 26 => ⟨S256x8x128, .bf16⟩
  | 27 => ⟨S256x1024, .bf16⟩
  | 28 => ⟨S128x1024, .bf16⟩
  | 29 => ⟨S128x8x128, .bf16⟩
  | 30 => ⟨S128x8x64, .bf16⟩
  | 31 => ⟨S128x512, .bf16⟩
  | 32 => ⟨S128x8x64, .bf16⟩
  | 33 => ⟨S_, .i32⟩
  | 34 => ⟨S_, .bf16⟩
  | 35 => ⟨S128x8x128, .bf16⟩
  | 36 => ⟨S128x1024, .bf16⟩
  | 37 => ⟨S128x8x64, .bf16⟩
  | 38 => ⟨S128x512, .bf16⟩
  | 39 => ⟨S128x8x64, .bf16⟩
  | 40 => ⟨S_, .i32⟩
  | 41 => ⟨S_, .bf16⟩
  | 42 => ⟨S128x8x128, .bf16⟩
  | 43 => ⟨S128x1024, .bf16⟩
  | 44 => ⟨S1x96, .f32⟩
  | 45 => ⟨S_, .i32⟩
  | 46 => ⟨S_, .f32⟩
  | 47 => ⟨S1x128, .f32⟩
  | 48 => ⟨S1x96, .f32⟩
  | 49 => ⟨S_, .i32⟩
  | 50 => ⟨S_, .f32⟩
  | 51 => ⟨S1x128, .f32⟩
  | 52 => ⟨S4112x768, .f32⟩
  | 53 => ⟨S_, .f32⟩
  | 54 => ⟨S48x768, .f32⟩
  | 55 => ⟨S_, .f32⟩
  | 56 => ⟨S64x768, .f32⟩
  | 57 => ⟨S4224x768, .f32⟩
  | 58 => ⟨S4224x8x96, .f32⟩
  | 59 => ⟨S_, .i32⟩
  | 60 => ⟨S_, .f32⟩
  | 61 => ⟨S4224x8x128, .f32⟩
  | 62 => ⟨S4224x1024, .f32⟩
  | 63 => ⟨S4112x768, .f32⟩
  | 64 => ⟨S_, .f32⟩
  | 65 => ⟨S48x768, .f32⟩
  | 66 => ⟨S_, .f32⟩
  | 67 => ⟨S64x768, .f32⟩
  | 68 => ⟨S4224x768, .f32⟩
  | 69 => ⟨S4224x8x96, .f32⟩
  | 70 => ⟨S_, .i32⟩
  | 71 => ⟨S_, .f32⟩
  | 72 => ⟨S4224x8x128, .f32⟩
  | 73 => ⟨S4224x1024, .f32⟩
  | 74 => ⟨S4112x512, .f32⟩
  | 75 => ⟨S_, .f32⟩
  | 76 => ⟨S48x512, .f32⟩
  | 77 => ⟨S_, .f32⟩
  | 78 => ⟨S64x512, .f32⟩
  | 79 => ⟨S4224x512, .f32⟩
  | 80 => ⟨S4224x8x64, .f32⟩
  | 81 => ⟨S_, .i32⟩
  | 82 => ⟨S_, .f32⟩
  | 83 => ⟨S4224x8x128, .f32⟩
  | 84 => ⟨S4224x1024, .f32⟩
  | 85 => ⟨S_, .f32⟩
  | 86 => ⟨S48x256, .f32⟩
  | 87 => ⟨S_, .f32⟩
  | 88 => ⟨S64x256, .f32⟩
  | 89 => ⟨S4224x256, .f32⟩
  | 90 => ⟨S_, .f32⟩
  | 91 => ⟨S48x128, .f32⟩
  | 92 => ⟨S_, .f32⟩
  | 93 => ⟨S64x128, .f32⟩
  | 94 => ⟨S4224x128, .f32⟩
  | 95 => ⟨S1x256, .f32⟩
  | 96 => ⟨S1x128, .f32⟩
  | 97 => ⟨S4224, .i32⟩
  | 98 => ⟨S_, .i32⟩
  | 99 => ⟨S4224, .i32⟩
  | 100 => ⟨S4224, .i32⟩
  | 101 => ⟨S4224, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S4224x1, .f32⟩
  | 111 => ⟨S1x16, .f32⟩
  | 112 => ⟨S4224x16, .f32⟩
  | 113 => ⟨S4224x16, .f32⟩
  | 114 => ⟨S4224x16, .f32⟩
  | 115 => ⟨S4224x16, .f32⟩
  | 116 => ⟨S4224x16, .f32⟩
  | 117 => ⟨S_, .f32⟩
  | 118 => ⟨S4224x64, .f32⟩
  | 119 => ⟨S_, .f32⟩
  | 120 => ⟨S4224x16, .f32⟩
  | 121 => ⟨S_, .f32⟩
  | 122 => ⟨S4224x32, .f32⟩
  | 123 => ⟨S_, .f32⟩
  | 124 => ⟨S4224x64, .f32⟩
  | 125 => ⟨S4224x128, .f32⟩
  | 126 => ⟨S4224x16, .f32⟩
  | 127 => ⟨S4224x128, .f32⟩
  | _ => ⟨S4112x256, .f32⟩

abbrev hbmTy0_1 (i : Nat) : BufTy := match i % 128 with
  | 0 => ⟨S4224x128, .f32⟩
  | 1 => ⟨S4224x256, .bf16⟩
  | 2 => ⟨S4224x128, .bf16⟩
  | 3 => ⟨S4224x128, .bf16⟩
  | 4 => ⟨S4224x1024, .bf16⟩
  | 5 => ⟨S4224x1024, .bf16⟩
  | 6 => ⟨S8x256, .f32⟩
  | 7 => ⟨S8x128, .f32⟩
  | 8 => ⟨S8x128, .f32⟩
  | 9 => ⟨S8x128, .f32⟩
  | 10 => ⟨S4224x32, .bf16⟩
  | 11 => ⟨S_, .f32⟩
  | 12 => ⟨S256, .f32⟩
  | 13 => ⟨S_, .f32⟩
  | 14 => ⟨S128, .f32⟩
  | 15 => ⟨S_, .f32⟩
  | 16 => ⟨S128, .f32⟩
  | 17 => ⟨S96, .f32⟩
  | 18 => ⟨S_, .f32⟩
  | 19 => ⟨S128, .f32⟩
  | 20 => ⟨S96, .f32⟩
  | _ => ⟨S4112x256, .f32⟩

abbrev hbmTy (i : Nat) : BufTy := match i / 128 with
  | 0 => hbmTy0_0 i
  | 1 => hbmTy0_1 i
  | _ => ⟨S4112x256, .f32⟩

abbrev bufTy : (tb : Table) → Fin (tcTables nBuf tb) → BufTy
  | .hbm, ⟨i, _⟩ => hbmTy i
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x256, .f32⟩
  | .local _ .vmem, ⟨7, _⟩ => ⟨S384x256, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S1x256, .f32⟩
  | .local _ .vmem, ⟨13, _⟩ => ⟨S256x1024, .bf16⟩
  | .local _ .vmem, ⟨14, _⟩ => ⟨S1x128, .f32⟩
  | .local _ .vmem, ⟨15, _⟩ => ⟨S128x1024, .bf16⟩
  | .local _ .vmem, ⟨16, _⟩ => ⟨S128x1024, .bf16⟩
  | .local _ .vmem, ⟨17, _⟩ => ⟨S1x128, .f32⟩
  | .local _ .vmem, ⟨18, _⟩ => ⟨S1x128, .f32⟩
  | .local _ .vmem, ⟨19, _⟩ => ⟨S384x128, .f32⟩
  | .local _ .vmem, ⟨20, _⟩ => ⟨S384x128, .f32⟩
  | .local _ .vmem, ⟨21, _⟩ => ⟨S384x128, .f32⟩
  | .local _ .vmem, ⟨22, _⟩ => ⟨S384x128, .f32⟩
  | .local _ .vmem, ⟨23, _⟩ => ⟨S384x128, .f32⟩
  | .local _ .vmem, ⟨24, _⟩ => ⟨S384x128, .f32⟩
  | .local _ .vmem, ⟨25, _⟩ => ⟨S384x256, .bf16⟩
  | .local _ .vmem, ⟨26, _⟩ => ⟨S384x256, .bf16⟩
  | .local _ .vmem, ⟨27, _⟩ => ⟨S384x128, .bf16⟩
  | .local _ .vmem, ⟨28, _⟩ => ⟨S384x128, .bf16⟩
  | .local _ .vmem, ⟨29, _⟩ => ⟨S384x128, .bf16⟩
  | .local _ .vmem, ⟨30, _⟩ => ⟨S384x128, .bf16⟩
  | .local _ .vmem, ⟨31, _⟩ => ⟨S384x1024, .bf16⟩
  | .local _ .vmem, ⟨32, _⟩ => ⟨S384x1024, .bf16⟩
  | .local _ .vmem, ⟨33, _⟩ => ⟨S384x1024, .bf16⟩
  | .local _ .vmem, ⟨34, _⟩ => ⟨S384x1024, .bf16⟩
  | .local _ .vmem, ⟨35, _⟩ => ⟨S8x256, .f32⟩
  | .local _ .vmem, ⟨36, _⟩ => ⟨S8x128, .f32⟩
  | .local _ .vmem, ⟨37, _⟩ => ⟨S8x128, .f32⟩
  | .local _ .vmem, ⟨38, _⟩ => ⟨S8x128, .f32⟩
  | _, _ => ⟨S4112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_call2_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_call3_v0 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_call4_v0 : Ref sig .tc := ⟨.hbm, 50, rfl⟩
abbrev main_v25 : Ref sig .tc := ⟨.hbm, 51, rfl⟩
abbrev main_v26 : Ref sig .tc := ⟨.hbm, 52, rfl⟩
abbrev main_cst_7 : Ref sig .tc := ⟨.hbm, 53, rfl⟩
abbrev main_v27 : Ref sig .tc := ⟨.hbm, 54, rfl⟩
abbrev main_cst_8 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_9 : Ref sig .tc := ⟨.hbm, 59, rfl⟩
abbrev main_call5_v0 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_10 : Ref sig .tc := ⟨.hbm, 64, rfl⟩
abbrev main_v34 : Ref sig .tc := ⟨.hbm, 65, rfl⟩
abbrev main_cst_11 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_12 : Ref sig .tc := ⟨.hbm, 70, rfl⟩
abbrev main_call6_v0 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_13 : Ref sig .tc := ⟨.hbm, 75, rfl⟩
abbrev main_v41 : Ref sig .tc := ⟨.hbm, 76, rfl⟩
abbrev main_cst_14 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_15 : Ref sig .tc := ⟨.hbm, 81, rfl⟩
abbrev main_call7_v0 : Ref sig .tc := ⟨.hbm, 82, rfl⟩
abbrev main_v45 : Ref sig .tc := ⟨.hbm, 83, rfl⟩
abbrev main_v46 : Ref sig .tc := ⟨.hbm, 84, rfl⟩
abbrev main_cst_16 : Ref sig .tc := ⟨.hbm, 85, rfl⟩
abbrev main_v47 : Ref sig .tc := ⟨.hbm, 86, rfl⟩
abbrev main_cst_17 : Ref sig .tc := ⟨.hbm, 87, rfl⟩
abbrev main_v48 : Ref sig .tc := ⟨.hbm, 88, rfl⟩
abbrev main_v49 : Ref sig .tc := ⟨.hbm, 89, rfl⟩
abbrev main_cst_18 : Ref sig .tc := ⟨.hbm, 90, rfl⟩
abbrev main_v50 : Ref sig .tc := ⟨.hbm, 91, rfl⟩
abbrev main_cst_19 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_20 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_21 : Ref sig .tc := ⟨.hbm, 104, rfl⟩
abbrev main_v61 : Ref sig .tc := ⟨.hbm, 105, rfl⟩
abbrev main_v62 : Ref sig .tc := ⟨.hbm, 106, rfl⟩
abbrev main_cst_22 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_23 : Ref sig .tc := ⟨.hbm, 117, rfl⟩
abbrev main_v72 : Ref sig .tc := ⟨.hbm, 118, rfl⟩
abbrev main_cst_24 : Ref sig .tc := ⟨.hbm, 119, rfl⟩
abbrev main_v73 : Ref sig .tc := ⟨.hbm, 120, rfl⟩
abbrev main_cst_25 : Ref sig .tc := ⟨.hbm, 121, rfl⟩
abbrev main_v74 : Ref sig .tc := ⟨.hbm, 122, rfl⟩
abbrev main_cst_26 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80_0 : Ref sig .tc := ⟨.hbm, 129, rfl⟩
abbrev main_v80_1 : Ref sig .tc := ⟨.hbm, 130, rfl⟩
abbrev main_v80_2 : Ref sig .tc := ⟨.hbm, 131, rfl⟩
abbrev main_v80_3 : Ref sig .tc := ⟨.hbm, 132, rfl⟩
abbrev main_v80_4 : Ref sig .tc := ⟨.hbm, 133, rfl⟩
abbrev main_v80_5 : Ref sig .tc := ⟨.hbm, 134, rfl⟩
abbrev main_v80_6 : Ref sig .tc := ⟨.hbm, 135, rfl⟩
abbrev main_v80_7 : Ref sig .tc := ⟨.hbm, 136, rfl⟩
abbrev main_v80_8 : Ref sig .tc := ⟨.hbm, 137, rfl⟩
abbrev main_v81 : Ref sig .tc := ⟨.hbm, 138, rfl⟩
abbrev main_cst_27 : Ref sig .tc := ⟨.hbm, 139, rfl⟩
abbrev main_v82 : Ref sig .tc := ⟨.hbm, 140, rfl⟩
abbrev main_cst_28 : Ref sig .tc := ⟨.hbm, 141, rfl⟩
abbrev main_v83 : Ref sig .tc := ⟨.hbm, 142, rfl⟩
abbrev main_cst_29 : Ref sig .tc := ⟨.hbm, 143, rfl⟩
abbrev main_v84 : Ref sig .tc := ⟨.hbm, 144, rfl⟩
abbrev main_v85 : Ref sig .tc := ⟨.hbm, 145, rfl⟩
abbrev main_cst_30 : Ref sig .tc := ⟨.hbm, 146, rfl⟩
abbrev main_v86 : Ref sig .tc := ⟨.hbm, 147, rfl⟩
abbrev main_v87 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S384x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S384x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S384x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MlaKernelIdeal.lean ====
variable {F : FTy → Type} [FloatOps F] [Named F]
def κ : String → Option EReal := fun
  | "inv96" => some ((96⁻¹ : ℝ) : EReal)
  | _ => none
-- ==== MlaReferenceIdeal.lean ====
abbrev S4112x256 : Shape := ⟨2, ![4112, 256]⟩
abbrev S4112x128 : Shape := ⟨2, ![4112, 128]⟩
abbrev S4112x32 : Shape := ⟨2, ![4112, 32]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S4112x8x96 : Shape := ⟨3, ![4112, 8, 96]⟩
abbrev S4112x8x64 : Shape := ⟨3, ![4112, 8, 64]⟩
abbrev S_ : Shape := ⟨0, ![]⟩
abbrev S4112 : Shape := ⟨1, ![4112]⟩
abbrev S16 : Shape := ⟨1, ![16]⟩
abbrev S4112x1 : Shape := ⟨2, ![4112, 1]⟩
abbrev S1x16 : Shape := ⟨2, ![1, 16]⟩
abbrev S4112x16 : Shape := ⟨2, ![4112, 16]⟩
abbrev S4112x1x16 : Shape := ⟨3, ![4112, 1, 16]⟩
abbrev S1x256 : Shape := ⟨2, ![1, 256]⟩
abbrev S4112x768 : Shape := ⟨2, ![4112, 768]⟩
abbrev S1x128 : Shape := ⟨2, ![1, 128]⟩
abbrev S4112x1024 : Shape := ⟨2, ![4112, 1024]⟩
abbrev S4112x8x128 : Shape := ⟨3, ![4112, 8, 128]⟩
abbrev S4112x1x32 : Shape := ⟨3, ![4112, 1, 32]⟩
abbrev S4112x8x32 : Shape := ⟨3, ![4112, 8, 32]⟩
abbrev S4112x8 : Shape := ⟨2, ![4112, 8]⟩
abbrev S4112x8x1 : Shape := ⟨3, ![4112, 8, 1]⟩
abbrev S1x1x96 : Shape := ⟨3, ![1, 1, 96]⟩
abbrev S4112x8x16 : Shape := ⟨3, ![4112, 8, 16]⟩
abbrev S4224x256 : Shape := ⟨2, ![4224, 256]⟩
abbrev S4224x128 : Shape := ⟨2, ![4224, 128]⟩
abbrev S4224x32 : Shape := ⟨2, ![4224, 32]⟩
abbrev S4224x8x128 : Shape := ⟨3, ![4224, 8, 128]⟩
abbrev S4224x1024 : Shape := ⟨2, ![4224, 1024]⟩

abbrev nBuf : Space → Nat
  | .hbm => 351
  | .vmem => 0
  | .smem => 0
  | _ => 0

abbrev hbmTy0_0 (i : Nat) : BufTy := match i % 128 with
  | 0 => ⟨S4112x256, .f32⟩
  | 1 => ⟨S4112x128, .f32⟩
  | 2 => ⟨S4112x32, .f32⟩
  | 3 => ⟨S256, .f32⟩
  | 4 => ⟨S256x768, .f32⟩
  | 5 => ⟨S128, .f32⟩
  | 6 => ⟨S128x1024, .f32⟩
  | 7 => ⟨S96, .f32⟩
  | 8 => ⟨S96, .f32⟩
  | 9 => ⟨S4112x8x96, .f32⟩
  | 10 => ⟨S4112x8x96, .f32⟩
  | 11 => ⟨S4112x8x64, .f32⟩
  | 12 => ⟨S_, .f32⟩
  | 13 => ⟨S4112x8x96, .f32⟩
  | 14 => ⟨S4112, .i32⟩
  | 15 => ⟨S4112, .f32⟩
  | 16 => ⟨S16, .i32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S4112x1, .f32⟩
  | 26 => ⟨S1x16, .f32⟩
  | 27 => ⟨S4112x16, .f32⟩
  | 28 => ⟨S4112x16, .f32⟩
  | 29 => ⟨S4112x16, .f32⟩
  | 30 => ⟨S4112x16, .f32⟩
  | 31 => ⟨S4112x1x16, .f32⟩
  | 32 => ⟨S4112x16, .f32⟩
  | 33 => ⟨S4112x1x16, .f32⟩
  | 34 => ⟨S4112x256, .f32⟩
  | 35 => ⟨S_, .f32⟩
  | 36 => ⟨S4112, .f32⟩
  | 37 => ⟨S4112x1, .f32⟩
  | 38 => ⟨S_, .f32⟩
  | 39 => ⟨S4112x1, .f32⟩
  | 40 => ⟨S4112x1, .f32⟩
  | 41 => ⟨S_, .f32⟩
  | 42 => ⟨S4112x1, .f32⟩
  | 43 => ⟨S4112x1, .f32⟩
  | 44 => ⟨S4112x1, .f32⟩
  | 45 => ⟨S4112x1, .f32⟩
  | 46 => ⟨S_, .f32⟩
  | 47 => ⟨S4112x1, .f32⟩
  | 48 => ⟨S4112x1, .f32⟩
  | 49 => ⟨S4112x256, .f32⟩
  | 50 => ⟨S4112x256, .f32⟩
  | 51 => ⟨S1x256, .f32⟩
  | 52 => ⟨S4112x256, .f32⟩
  | 53 => ⟨S4112x256, .f32⟩
  | 54 => ⟨S4112x768, .f32⟩
  | 55 => ⟨S4112x8x96, .f32⟩
  | 56 => ⟨S4112x128, .f32⟩
  | 57 => ⟨S_, .f32⟩
  | 58 => ⟨S4112, .f32⟩
  | 59 => ⟨S4112x1, .f32⟩
  | 60 => ⟨S_, .f32⟩
  | 61 => ⟨S4112x1, .f32⟩
  | 62 => ⟨S4112x1, .f32⟩
  | 63 => ⟨S_, .f32⟩
  | 64 => ⟨S4112x1, .f32⟩
  | 65 => ⟨S4112x1, .f32⟩
  | 66 => ⟨S4112x1, .f32⟩
  | 67 => ⟨S4112x1, .f32⟩
  | 68 => ⟨S_, .f32⟩
  | 69 => ⟨S4112x1, .f32⟩
  | 70 => ⟨S4112x1, .f32⟩
  | 71 => ⟨S4112x128, .f32⟩
  | 72 => ⟨S4112x128, .f32⟩
  | 73 => ⟨S1x128, .f32⟩
  | 74 => ⟨S4112x128, .f32⟩
  | 75 => ⟨S4112x128, .f32⟩
  | 76 => ⟨S4112x1024, .f32⟩
  | 77 => ⟨S4112x8x128, .f32⟩
  | 78 => ⟨S4112x8x64, .f32⟩
  | 79 => ⟨S4112x8x64, .f32⟩
  | 80 => ⟨S4112x1x32, .f32⟩
  | 81 => ⟨S4112x8x32, .f32⟩
  | 82 => ⟨S4112x8x96, .f32⟩
  | 83 => ⟨S4112x8x96, .f32⟩
  | 84 => ⟨S4112x8x96, .f32⟩
  | 85 => ⟨S_, .f32⟩
  | 86 => ⟨S4112x8, .f32⟩
  | 87 => ⟨S4112x8x1, .f32⟩
  | 88 => ⟨S_, .f32⟩
  | 89 => ⟨S4112x8x1, .f32⟩
  | 90 => ⟨S4112x8x1, .f32⟩
  | 91 => ⟨S_, .f32⟩
  | 92 => ⟨S4112x8x1, .f32⟩
  | 93 => ⟨S4112x8x1, .f32⟩
  | 94 => ⟨S4112x8x1, .f32⟩
  | 95 => ⟨S4112x8x1, .f32⟩
  | 96 => ⟨S_, .f32⟩
  | 97 => ⟨S4112x8x1, .f32⟩
  | 98 => ⟨S4112x8x1, .f32⟩
  | 99 => ⟨S4112x8x96, .f32⟩
  | 100 => ⟨S4112x8x96, .f32⟩
  | 101 => ⟨S1x1x96, .f32⟩
  | 102 => ⟨S4112x8x96, .f32⟩
  | 103 => ⟨S4112x8x96, .f32⟩
  | 104 => ⟨S4112x8x96, .f32⟩
  | 105 => ⟨S4112x8x96, .f32⟩
  | 106 => ⟨S_, .f32⟩
  | 107 => ⟨S4112x8, .f32⟩
  | 108 => ⟨S4112x8x1, .f32⟩
  | 109 => ⟨S_, .f32⟩
  | 110 => ⟨S4112x8x1, .f32⟩
  | 111 => ⟨S4112x8x1, .f32⟩
  | 112 => ⟨S_, .f32⟩
  | 113 => ⟨S4112x8x1, .f32⟩
  | 114 => ⟨S4112x8x1, .f32⟩
  | 115 => ⟨S4112x8x1, .f32⟩
  | 116 => ⟨S4112x8x1, .f32⟩
  | 117 => ⟨S_, .f32⟩
  | 118 => ⟨S4112x8x1, .f32⟩
  | 119 => ⟨S4112x8x1, .f32⟩
  | 120 => ⟨S4112x8x96, .f32⟩
  | 121 => ⟨S4112x8x96, .f32⟩
  | 122 => ⟨S1x1x96, .f32⟩
  | 123 => ⟨S4112x8x96, .f32⟩
  | 124 => ⟨S4112x8x96, .f32⟩
  | 125 => ⟨S4112x8x64, .f32⟩
  | 126 => ⟨S4112x8x32, .f32⟩
  | 127 => ⟨S4112x8x16, .f32⟩
  | _ => ⟨S4112x256, .f32⟩

abbrev hbmTy0_1 (i : Nat) : BufTy := match i % 128 with
  | 0 => ⟨S4112x8x16, .f32⟩
  | 1 => ⟨S4112x8x16, .f32⟩
  | 2 => ⟨S4112x8x16, .f32⟩
  | 3 => ⟨S4112x8x16, .f32⟩
  | 4 => ⟨S4112x8x16, .f32⟩
  | 5 => ⟨S4112x8x16, .f32⟩
  | 6 => ⟨S4112x8x16, .f32⟩
  | 7 => ⟨S4112x8x16, .f32⟩
  | 8 => ⟨S4112x8x16, .f32⟩
  | 9 => ⟨S4112x8x16, .f32⟩
  | 10 => ⟨S4112x8x16, .f32⟩
  | 11 => ⟨S4112x8x32, .f32⟩
  | 12 => ⟨S4112x8x96, .f32⟩
  | 13 => ⟨S4112x8x64, .f32⟩
  | 14 => ⟨S4112x8x32, .f32⟩
  | 15 => ⟨S4112x8x16, .f32⟩
  | 16 => ⟨S4112x8x16, .f32⟩
  | 17 => ⟨S4112x8x16, .f32⟩
  | 18 => ⟨S4112x8x16, .f32⟩
  | 19 => ⟨S4112x8x16, .f32⟩
  | 20 => ⟨S4112x8x16, .f32⟩
  | 21 => ⟨S4112x8x16, .f32⟩
  | 22 => ⟨S4112x8x16, .f32⟩
  | 23 => ⟨S4112x8x16, .f32⟩
  | 24 => ⟨S4112x8x16, .f32⟩
  | 25 => ⟨S4112x8x16, .f32⟩
  | 26 => ⟨S4112x8x16, .f32⟩
  | 27 => ⟨S4112x8x32, .f32⟩
  | 28 => ⟨S4112x8x96, .f32⟩
  | 29 => ⟨S_, .f32⟩
  | 30 => ⟨S4112x8x96, .f32⟩
  | 31 => ⟨S4112x8x96, .f32⟩
  | 32 => ⟨S_, .f32⟩
  | 33 => ⟨S4112x8x96, .f32⟩
  | 34 => ⟨S4112x8x96, .f32⟩
  | 35 => ⟨S4112x8x64, .f32⟩
  | 36 => ⟨S4112x8x32, .f32⟩
  | 37 => ⟨S4112x8x16, .f32⟩
  | 38 => ⟨S4112x8x16, .f32⟩
  | 39 => ⟨S4112x8x16, .f32⟩
  | 40 => ⟨S4112x8x16, .f32⟩
  | 41 => ⟨S4112x8x16, .f32⟩
  | 42 => ⟨S4112x8x16, .f32⟩
  | 43 => ⟨S4112x8x16, .f32⟩
  | 44 => ⟨S4112x8x16, .f32⟩
  | 45 => ⟨S4112x8x16, .f32⟩
  | 46 => ⟨S4112x8x16, .f32⟩
  | 47 => ⟨S4112x8x16, .f32⟩
  | 48 => ⟨S4112x8x16, .f32⟩
  | 49 => ⟨S4112x8x16, .f32⟩
  | 50 => ⟨S_, .f32⟩
  | 51 => ⟨S4112x8x32, .f32⟩
  | 52 => ⟨S_, .f32⟩
  | 53 => ⟨S4112x8x32, .f32⟩
  | 54 => ⟨S4112x8x32, .f32⟩
  | 55 => ⟨S_, .f32⟩
  | 56 => ⟨S4112x8x96, .f32⟩
  | 57 => ⟨S_, .f32⟩
  | 58 => ⟨S4112x8x96, .f32⟩
  | 59 => ⟨S4112x8x96, .f32⟩
  | 60 => ⟨S4112x8x64, .f32⟩
  | 61 => ⟨S4112x8x32, .f32⟩
  | 62 => ⟨S4112x8x16, .f32⟩
  | 63 => ⟨S4112x8x16, .f32⟩
  | 64 => ⟨S4112x8x16, .f32⟩
  | 65 => ⟨S4112x8x16, .f32⟩
  | 66 => ⟨S4112x8x16, .f32⟩
  | 67 => ⟨S4112x8x16, .f32⟩
  | 68 => ⟨S4112x8x16, .f32⟩
  | 69 => ⟨S4112x8x16, .f32⟩
  | 70 => ⟨S4112x8x16, .f32⟩
  | 71 => ⟨S4112x8x16, .f32⟩
  | 72 => ⟨S4112x8x16, .f32⟩
  | 73 => ⟨S4112x8x16, .f32⟩
  | 74 => ⟨S4112x8x16, .f32⟩
  | 75 => ⟨S_, .f32⟩
  | 76 => ⟨S4112x8x32, .f32⟩
  | 77 => ⟨S_, .f32⟩
  | 78 => ⟨S4112x8x32, .f32⟩
  | 79 => ⟨S4112x8x32, .f32⟩
  | 80 => ⟨S_, .f32⟩
  | 81 => ⟨S4112x8x96, .f32⟩
  | 82 => ⟨S_, .f32⟩
  | 83 => ⟨S4112x8x96, .f32⟩
  | 84 => ⟨S4112x8x96, .f32⟩
  | 85 => ⟨S4112x8x96, .f32⟩
  | 86 => ⟨S_, .f32⟩
  | 87 => ⟨S96, .f32⟩
  | 88 => ⟨S1x1x96, .f32⟩
  | 89 => ⟨S4112x8x96, .f32⟩
  | 90 => ⟨S4112x8x96, .f32⟩
  | 91 => ⟨S_, .f32⟩
  | 92 => ⟨S96, .f32⟩
  | 93 => ⟨S4112x8x96, .f32⟩
  | 94 => ⟨S_, .f32⟩
  | 95 => ⟨S4112x8, .f32⟩
  | 96 => ⟨S4112x8x1, .f32⟩
  | 97 => ⟨S4112x8x96, .f32⟩
  | 98 => ⟨S4112x8x96, .f32⟩
  | 99 => ⟨S4112x8x1, .f32⟩
  | 100 => ⟨S_, .f32⟩
  | 101 => ⟨S4112x8x1, .f32⟩
  | 102 => ⟨S4112x8x1, .f32⟩
  | 103 => ⟨S_, .f32⟩
  | 104 => ⟨S4112x8, .f32⟩
  | 105 => ⟨S4112x8x96, .f32⟩
  | 106 => ⟨S4112x8x96, .f32⟩
  | 107 => ⟨S4112x8x96, .f32⟩
  | 108 => ⟨S4112x8x96, .f32⟩
  | 109 => ⟨S4112x8x96, .f32⟩
  | 110 => ⟨S4112x8x96, .f32⟩
  | 111 => ⟨S_, .f32⟩
  | 112 => ⟨S96, .f32⟩
  | 113 => ⟨S1x1x96, .f32⟩
  | 114 => ⟨S4112x8x96, .f32⟩
  | 115 => ⟨S4112x8x96, .f32⟩
  | 116 => ⟨S_, .f32⟩
  | 117 => ⟨S96, .f32⟩
  | 118 => ⟨S4112x8x96, .f32⟩
  | 119 => ⟨S_, .f32⟩
  | 120 => ⟨S4112x8, .f32⟩
  | 121 => ⟨S4112x8x1, .f32⟩
  | 122 => ⟨S4112x8x96, .f32⟩
  | 123 => ⟨S4112x8x96, .f32⟩
  | 124 => ⟨S4112x8x1, .f32⟩
  | 125 => ⟨S_, .f32⟩
  | 126 => ⟨S4112x8x1, .f32⟩
  | 127 => ⟨S4112x8x1, .f32⟩
  | _ => ⟨S4112x256, .f32⟩

abbrev hbmTy0_2 (i : Nat) : BufTy := match i % 128 with
  | 0 => ⟨S_, .f32⟩
  | 1 => ⟨S4112x8, .f32⟩
  | 2 => ⟨S4112x8x96, .f32⟩
  | 3 => ⟨S4112x8x96, .f32⟩
  | 4 => ⟨S4112x8x96, .f32⟩
  | 5 => ⟨S4112x8x96, .f32⟩
  | 6 => ⟨S4112x8x96, .f32⟩
  | 7 => ⟨S4112x8x64, .f32⟩
  | 8 => ⟨S4112x8x32, .f32⟩
  | 9 => ⟨S_, .f32⟩
  | 10 => ⟨S4112x32, .f32⟩
  | 11 => ⟨S4112x1x32, .f32⟩
  | 12 => ⟨S_, .f32⟩
  | 13 => ⟨S4112x32, .f32⟩
  | 14 => ⟨S_, .f32⟩
  | 15 => ⟨S4112x8x128, .f32⟩
  | 16 => ⟨S_, .f32⟩
  | 17 => ⟨S4112x8x128, .f32⟩
  | 18 => ⟨S4112x8x128, .f32⟩
  | 19 => ⟨S4112x1024, .f32⟩
  | 20 => ⟨S4112x128, .f32⟩
  | 21 => ⟨S4112x128, .f32⟩
  | 22 => ⟨S_, .f32⟩
  | 23 => ⟨S128, .f32⟩
  | 24 => ⟨S1x128, .f32⟩
  | 25 => ⟨S4112x128, .f32⟩
  | 26 => ⟨S4112x128, .f32⟩
  | 27 => ⟨S_, .f32⟩
  | 28 => ⟨S128, .f32⟩
  | 29 => ⟨S4112x128, .f32⟩
  | 30 => ⟨S_, .f32⟩
  | 31 => ⟨S4112, .f32⟩
  | 32 => ⟨S4112x1, .f32⟩
  | 33 => ⟨S4112x128, .f32⟩
  | 34 => ⟨S4112x128, .f32⟩
  | 35 => ⟨S4112x1, .f32⟩
  | 36 => ⟨S_, .f32⟩
  | 37 => ⟨S4112x1, .f32⟩
  | 38 => ⟨S4112x1, .f32⟩
  | 39 => ⟨S_, .f32⟩
  | 40 => ⟨S4112, .f32⟩
  | 41 => ⟨S4112x128, .f32⟩
  | 42 => ⟨S4112x128, .f32⟩
  | 43 => ⟨S4112x128, .f32⟩
  | 44 => ⟨S4112x128, .f32⟩
  | 45 => ⟨S4112x128, .f32⟩
  | 46 => ⟨S4112x768, .f32⟩
  | 47 => ⟨S4112x256, .f32⟩
  | 48 => ⟨S4112x256, .f32⟩
  | 49 => ⟨S_, .f32⟩
  | 50 => ⟨S256, .f32⟩
  | 51 => ⟨S1x256, .f32⟩
  | 52 => ⟨S4112x256, .f32⟩
  | 53 => ⟨S4112x256, .f32⟩
  | 54 => ⟨S_, .f32⟩
  | 55 => ⟨S256, .f32⟩
  | 56 => ⟨S4112x256, .f32⟩
  | 57 => ⟨S_, .f32⟩
  | 58 => ⟨S4112, .f32⟩
  | 59 => ⟨S4112x1, .f32⟩
  | 60 => ⟨S4112x256, .f32⟩
  | 61 => ⟨S4112x256, .f32⟩
  | 62 => ⟨S4112x1, .f32⟩
  | 63 => ⟨S_, .f32⟩
  | 64 => ⟨S4112x1, .f32⟩
  | 65 => ⟨S4112x1, .f32⟩
  | 66 => ⟨S_, .f32⟩
  | 67 => ⟨S4112, .f32⟩
  | 68 => ⟨S4112x256, .f32⟩
  | 69 => ⟨S4112x256, .f32⟩
  | 70 => ⟨S4112x256, .f32⟩
  | 71 => ⟨S4112x256, .f32⟩
  | 72 => ⟨S4112x256, .f32⟩
  | 73 => ⟨S_, .i32⟩
  | 74 => ⟨S_, .f32⟩
  | 75 => ⟨S4224x256, .f32⟩
  | 76 => ⟨S4224x256, .bf16⟩
  | 77 => ⟨S_, .i32⟩
  | 78 => ⟨S_, .f32⟩
  | 79 => ⟨S4224x128, .f32⟩
  | 80 => ⟨S4224x128, .bf16⟩
  | 81 => ⟨S_, .i32⟩
  | 82 => ⟨S_, .f32⟩
  | 83 => ⟨S4224x32, .f32⟩
  | 84 => ⟨S4224x32, .bf16⟩
  | 85 => ⟨S_, .i32⟩
  | 86 => ⟨S_, .f32⟩
  | 87 => ⟨S4224x8x128, .f32⟩
  | 88 => ⟨S4224x1024, .f32⟩
  | 89 => ⟨S4224x1024, .bf16⟩
  | 90 => ⟨S_, .i32⟩
  | 91 => ⟨S_, .f32⟩
  | 92 => ⟨S4224x8x128, .f32⟩
  | 93 => ⟨S4224x1024, .f32⟩
  | 94 => ⟨S4224x1024, .bf16⟩
  | _ => ⟨S4112x256, .f32⟩

abbrev hbmTy (i : Nat) : BufTy := match i / 128 with
  | 0 => hbmTy0_0 i
  | 1 => hbmTy0_1 i
  | 2 => hbmTy0_2 i
  | _ => ⟨S4112x256, .f32⟩

abbrev bufTy : (tb : Table) → Fin (tcTables nBuf tb) → BufTy
  | .hbm, ⟨i, _⟩ => hbmTy i
  | _, _ => ⟨S4112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_18 : Ref sig .tc := ⟨.hbm, 157, rfl⟩
abbrev main_v126 : Ref sig .tc := ⟨.hbm, 158, rfl⟩
abbrev main_v127 : Ref sig .tc := ⟨.hbm, 159, rfl⟩
abbrev main_cst_19 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_20 : Ref sig .tc := ⟨.hbm, 178, rfl⟩
abbrev main_v145 : Ref sig .tc := ⟨.hbm, 179, rfl⟩
abbrev main_cst_21 : Ref sig .tc := ⟨.hbm, 180, rfl⟩
abbrev main_v146 : Ref sig .tc := ⟨.hbm, 181, rfl⟩
abbrev main_v147 : Ref sig .tc := ⟨.hbm, 182, rfl⟩
abbrev main_cst_22 : Ref sig .tc := ⟨.hbm, 183, rfl⟩
abbrev main_v148 : Ref sig .tc := ⟨.hbm, 184, rfl⟩
abbrev main_cst_23 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_24 : Ref sig .tc := ⟨.hbm, 203, rfl⟩
abbrev main_v166 : Ref sig .tc := ⟨.hbm, 204, rfl⟩
abbrev main_cst_25 : Ref sig .tc := ⟨.hbm, 205, rfl⟩
abbrev main_v167 : Ref sig .tc := ⟨.hbm, 206, rfl⟩
abbrev main_v168 : Ref sig .tc := ⟨.hbm, 207, rfl⟩
abbrev main_cst_26 : Ref sig .tc := ⟨.hbm, 208, rfl⟩
abbrev main_v169 : Ref sig .tc := ⟨.hbm, 209, rfl⟩
abbrev main_cst_27 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_cst_28 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_29 : Ref sig .tc := ⟨.hbm, 219, rfl⟩
abbrev main_v177 : Ref sig .tc := ⟨.hbm, 220, rfl⟩
abbrev main_v178 : Ref sig .tc := ⟨.hbm, 221, rfl⟩
abbrev main_cst_30 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_31 : Ref sig .tc := ⟨.hbm, 228, rfl⟩
abbrev main_v184 : Ref sig .tc := ⟨.hbm, 229, rfl⟩
abbrev main_v185 : Ref sig .tc := ⟨.hbm, 230, rfl⟩
abbrev main_cst_32 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_33 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_cst_34 : Ref sig .tc := ⟨.hbm, 244, rfl⟩
abbrev main_v197 : Ref sig .tc := ⟨.hbm, 245, rfl⟩
abbrev main_v198 : Ref sig .tc := ⟨.hbm, 246, rfl⟩
abbrev main_cst_35 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_cst_36 : Ref sig .tc := ⟨.hbm, 253, rfl⟩
abbrev main_v204 : Ref sig .tc := ⟨.hbm, 254, rfl⟩
abbrev main_v205 : Ref sig .tc := ⟨.hbm, 255, rfl⟩
abbrev main_cst_37 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_cst_38 : Ref sig .tc := ⟨.hbm, 265, rfl⟩
abbrev main_v214 : Ref sig .tc := ⟨.hbm, 266, rfl⟩
abbrev main_v215 : Ref sig .tc := ⟨.hbm, 267, rfl⟩
abbrev main_cst_39 : Ref sig .tc := ⟨.hbm, 268, rfl⟩
abbrev main_v216 : Ref sig .tc := ⟨.hbm, 269, rfl⟩
abbrev main_cst_40 : Ref sig .tc := ⟨.hbm, 270, rfl⟩
abbrev main_v217 : Ref sig .tc := ⟨.hbm, 271, rfl⟩
abbrev main_cst_41 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_42 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_cst_43 : Ref sig .tc := ⟨.hbm, 283, rfl⟩
abbrev main_v227 : Ref sig .tc := ⟨.hbm, 284, rfl⟩
abbrev main_v228 : Ref sig .tc := ⟨.hbm, 285, rfl⟩
abbrev main_cst_44 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_cst_45 : Ref sig .tc := ⟨.hbm, 292, rfl⟩
abbrev main_v234 : Ref sig .tc := ⟨.hbm, 293, rfl⟩
abbrev main_v235 : Ref sig .tc := ⟨.hbm, 294, rfl⟩
abbrev main_cst_46 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_cst_47 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_cst_48 : Ref sig .tc := ⟨.hbm, 310, rfl⟩
abbrev main_v249 : Ref sig .tc := ⟨.hbm, 311, rfl⟩
abbrev main_v250 : Ref sig .tc := ⟨.hbm, 312, rfl⟩
abbrev main_cst_49 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_cst_50 : Ref sig .tc := ⟨.hbm, 319, rfl⟩
abbrev main_v256 : Ref sig .tc := ⟨.hbm, 320, rfl⟩
abbrev main_v257 : Ref sig .tc := ⟨.hbm, 321, rfl⟩
abbrev main_cst_51 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_c : Ref sig .tc := ⟨.hbm, 329, rfl⟩
abbrev main_call0_v0 : Ref sig .tc := ⟨.hbm, 330, rfl⟩
abbrev main_v264 : Ref sig .tc := ⟨.hbm, 331, rfl⟩
abbrev main_v265 : Ref sig .tc := ⟨.hbm, 332, rfl⟩
abbrev main_c_52 : Ref sig .tc := ⟨.hbm, 333, rfl⟩
abbrev main_call1_v0 : Ref sig .tc := ⟨.hbm, 334, rfl⟩
abbrev main_v266 : Ref sig .tc := ⟨.hbm, 335, rfl⟩
abbrev main_v267 : Ref sig .tc := ⟨.hbm, 336, rfl⟩
abbrev main_c_53 : Ref sig .tc := ⟨.hbm, 337, rfl⟩
abbrev main_call2_v0 : Ref sig .tc := ⟨.hbm, 338, rfl⟩
abbrev main_v268 : Ref sig .tc := ⟨.hbm, 339, rfl⟩
abbrev main_v269 : Ref sig .tc := ⟨.hbm, 340, rfl⟩
abbrev main_c_54 : Ref sig .tc := ⟨.hbm, 341, rfl⟩
abbrev main_call3_v0 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_c_55 : Ref sig .tc := ⟨.hbm, 346, rfl⟩
abbrev main_call4_v0 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩

abbrev nD : Nat := 1
abbrev τ : Topo := Topo.v7x

variable {F : FTy → Type} [FloatOps F]
-- ==== AttnKernel.lean ====
abbrev S4112x8x96 : Shape := ⟨3, ![4112, 8, 96]⟩
abbrev S4112x8x64 : Shape := ⟨3, ![4112, 8, 64]⟩
abbrev S_ : Shape := ⟨0, ![]⟩
abbrev S4224x8x128 : Shape := ⟨3, ![4224, 8, 128]⟩
abbrev S4224x1024 : Shape := ⟨2, ![4224, 1024]⟩
abbrev S8x4224x1 : Shape := ⟨3, ![8, 4224, 1]⟩
abbrev S4224x128 : Shape := ⟨2, ![4224, 128]⟩
abbrev S1x4224x1 : Shape := ⟨3, ![1, 4224, 1]⟩
abbrev S704x128 : Shape := ⟨2, ![704, 128]⟩
abbrev S704x1 : Shape := ⟨2, ![704, 1]⟩
abbrev S704x704 : Shape := ⟨2, ![704, 704]⟩
abbrev S1x704 : Shape := ⟨2, ![1, 704]⟩
abbrev S704 : Shape := ⟨1, ![704]⟩
abbrev S1x704x1 : Shape := ⟨3, ![1, 704, 1]⟩
abbrev S4224x1 : Shape := ⟨2, ![4224, 1]⟩
abbrev S8x4112x1 : Shape := ⟨3, ![8, 4112, 1]⟩
abbrev S8x4112 : Shape := ⟨2, ![8, 4112]⟩

abbrev nBuf : Space → Nat
  | .hbm => 38
  | .vmem => 29
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x8x64, .f32⟩
  | .hbm, ⟨4, _⟩ => ⟨S_, .i32⟩
  | .hbm, ⟨5, _⟩ => ⟨S_, .f32⟩
  | .hbm, ⟨6, _⟩ => ⟨S4224x8x128, .f32⟩
  | .hbm, ⟨7, _⟩ => ⟨S4224x1024, .f32⟩
  | .hbm, ⟨8, _⟩ => ⟨S_, .f32⟩
  | .hbm, ⟨9, _⟩ => ⟨S4224x1024, .f32⟩
  | .hbm, ⟨10, _⟩ => ⟨S4224x1024, .f32⟩
  | .hbm, ⟨11, _⟩ => ⟨S4224x1024, .bf16⟩
  | .hbm, ⟨12, _⟩ => ⟨S_, .i32⟩
  | .hbm, ⟨13, _⟩ => ⟨S_, .f32⟩
  | .hbm, ⟨14, _⟩ => ⟨S4224x8x128, .f32⟩
  | .hbm, ⟨15, _⟩ => ⟨S4224x1024, .f32⟩
  | .hbm, ⟨16, _⟩ => ⟨S4224x1024, .bf16⟩
  | .hbm, ⟨17, _⟩ => ⟨S_, .i32⟩
  | .hbm, ⟨18, _⟩ => ⟨S_, .f32⟩
  | .hbm, ⟨19, _⟩ => ⟨S4224x8x128, .f32⟩
  | .hbm, ⟨20, _⟩ => ⟨S4224x1024, .f32⟩
  | .hbm, ⟨21, _⟩ => ⟨S4224x1024, .bf16⟩
  | .hbm, ⟨22, _⟩ => ⟨S4224x1024, .f32⟩
  | .hbm, ⟨23, _⟩ => ⟨S8x4224x1, .f32⟩
  | .hbm, ⟨24, _⟩ => ⟨S_, .i32⟩
  | .hbm, ⟨25, _⟩ => ⟨S_, .f32⟩
  | .hbm, ⟨26, _⟩ => ⟨S4224x8x128, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S_, .f32⟩
  | .hbm, ⟨32, _⟩ => ⟨S4224x1024, .f32⟩
  | .hbm, ⟨33, _⟩ => ⟨S4224x1024, .f32⟩
  | .hbm, ⟨34, _⟩ => ⟨S4224x8x128, .f32⟩
  | .hbm, ⟨35, _⟩ => ⟨S4112x8x64, .f32⟩
  | .hbm, ⟨36, _⟩ => ⟨S8x4112x1, .f32⟩
  | .hbm, ⟨37, _⟩ => ⟨S8x4112, .f32⟩
  | .local _ .vmem, ⟨0, _⟩ => ⟨S4224x128, .bf16⟩
  | .local _ .vmem, ⟨1, _⟩ => ⟨S4224x128, .bf16⟩
  | .local _ .vmem, ⟨2, _⟩ => ⟨S4224x128, .bf16⟩
  | .local _ .vmem, ⟨3, _⟩ => ⟨S4224x128, .bf16⟩
  | .local _ .vmem, ⟨4, _⟩ => ⟨S4224x128, .bf16⟩
  | .local _ .vmem, ⟨5, _⟩ => ⟨S4224x128, .bf16⟩
  | .local _ .vmem, ⟨6, _⟩ => ⟨S4224x128, .f32⟩
  | .local _ .vmem, ⟨7, _⟩ => ⟨S4224x128, .f32⟩
  | .local _ .vmem, ⟨8, _⟩ => ⟨S1x4224x1, .f32⟩
  | .local _ .vmem, ⟨9, _⟩ => ⟨S1x4224x1, .f32⟩
  | .local _ .vmem, ⟨10, _⟩ => ⟨S4224x128, .bf16⟩
  | .local _ .vmem, ⟨11, _⟩ => ⟨S4224x128, .bf16⟩
  | .local _ .vmem, ⟨12, _⟩ => ⟨S4224x128, .bf16⟩
  | .local _ .vmem, ⟨13, _⟩ => ⟨S4224x128, .bf16⟩
  | .local _ .vmem, ⟨14, _⟩ => ⟨S4224x128, .bf16⟩
  | .local _ .vmem, ⟨15, _⟩ => ⟨S4224x128, .bf16⟩
  | .local _ .vmem, ⟨16, _⟩ => ⟨S4224x128, .f32⟩
  | .local _ .vmem, ⟨17, _⟩ => ⟨S4224x128, .f32⟩
  | .local _ .vmem, ⟨18, _⟩ => ⟨S1x4224x1, .f32⟩
  | .local _ .vmem, ⟨19, _⟩ => ⟨S1x4224x1, .f32⟩
  | .local _ .vmem, ⟨20, _⟩ => ⟨S4224x128, .f32⟩
  | .local _ .vmem, ⟨21, _⟩ => ⟨S4224x128, .f32⟩
  | .local _ .vmem, ⟨22, _⟩ => ⟨S4224x128, .f32⟩
  | .local _ .vmem, ⟨23, _⟩ => ⟨S4224x128, .f32⟩
  | .local _ .vmem, ⟨24, _⟩ => ⟨S4224x128, .f32⟩
  | .local _ .vmem, ⟨25, _⟩ => ⟨S4224x128, .f32⟩
  | .local _ .vmem, ⟨26, _⟩ => ⟨S4224x128, .f32⟩
  | .local _ .vmem, ⟨27, _⟩ => ⟨S4224x128, .f32⟩
  | .local _ .vmem, ⟨28, _⟩ => ⟨S4224x1, .f32⟩
  | _, _ => ⟨S4112x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_c_2 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c704_i32 : BitVec 32 := 704#32
  let v1 : BitVec 32 := Scalar.muli arg6 c704_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c704_i32 : BitVec 32 := 704#32
  let v1 : BitVec 32 := Scalar.muli arg6 c704_i32
  let v2 : BitVec 32 := v1
  let v3 : Index := Scalar.indexCast v2
  let c0 : Index := 0#32
  ![v3.toNat, 0]
def k0_mult2 : BitVec 32 :=
  let c0_i32_3 : BitVec 32 := 0#32
  c0_i32_3
@[reducible] def k0_t2_loop (k0_t1 : Fin k0_t1_loop.trips) : Scf.Loop 32 :=
  let c1_i32_11 : BitVec 32 := 1#32
  let c0_i32 : BitVec 32 := 0#32
  let c1_i32 : BitVec 32 := 1#32
  let arg6 : BitVec 32 := Scf.iv c0_i32 c1_i32 k0_t1
  let v49 : BitVec 32 := Scalar.subi arg6 c1_i32_11
  let c1_i32_12 : BitVec 32 := 1#32
  let v51 : BitVec 32 := Scalar.divsi v49 c1_i32_12
  let v52 : BitVec 32 := Scalar.muli v51 c1_i32_12
  let v53 : BitVec 32 := Scalar.addi c1_i32_11 v52
  let c1_i32_13 : BitVec 32 := 1#32
  ⟨c1_i32_11, v53, c1_i32_13⟩
def k0_mult3 (k0_t1 : Fin k0_t1_loop.trips) (k0_t2 : Fin (k0_t2_loop k0_t1).trips) : BitVec 32 :=
  let c1_i32_11 : BitVec 32 := 1#32
  let c1_i32_13 : BitVec 32 := 1#32
  let arg7 : BitVec 32 := Scf.iv c1_i32_11 c1_i32_13 k0_t2
  let c704_i32_20 : BitVec 32 := 704#32
  let v70 : BitVec 32 := Scalar.muli arg7 c704_i32_20
  v70
def k0_off2 (k0_t1 : Fin k0_t1_loop.trips) (k0_t2 : Fin (k0_t2_loop k0_t1).trips) : Fin 2 → Nat :=
  let c1_i32_11 : BitVec 32 := 1#32
  let c1_i32_13 : BitVec 32 := 1#32
  let arg7 : BitVec 32 := Scf.iv c1_i32_11 c1_i32_13 k0_t2
  let c704_i32_20 : BitVec 32 := 704#32
  let v70 : BitVec 32 := Scalar.muli arg7 c704_i32_20
  let v71 : BitVec 32 := v70
  let v72 : Index := Scalar.indexCast v71
  let c0_21 : Index := 0#32
  ![v72.toNat, 0]
@[reducible] def k0_t3_loop (k0_t1 : Fin k0_t1_loop.trips) : Scf.Loop 32 :=
  let c1_i32_11 : BitVec 32 := 1#32
  let c0_i32 : BitVec 32 := 0#32
  let c1_i32 : BitVec 32 := 1#32
  let arg6 : BitVec 32 := Scf.iv c0_i32 c1_i32 k0_t1
  let v49 : BitVec 32 := Scalar.subi arg6 c1_i32_11
  let c1_i32_12 : BitVec 32 := 1#32
  let v51 : BitVec 32 := Scalar.divsi v49 c1_i32_12
  let v52 : BitVec 32 := Scalar.muli v51 c1_i32_12
  let v53 : BitVec 32 := Scalar.addi c1_i32_11 v52
  let v50 : BitVec 32 := Scalar.addi c1_i32_11 v49
  let c1_i32_14 : BitVec 32 := 1#32
  ⟨v53, v50, c1_i32_14⟩
def k0_mult4 (k0_t1 : Fin k0_t1_loop.trips) (k0_t3 : Fin (k0_t3_loop k0_t1).trips) : BitVec 32 :=
  let c1_i32_11 : BitVec 32 := 1#32
  let c0_i32 : BitVec 32 := 0#32
  let c1_i32 : BitVec 32 := 1#32
  let arg6 : BitVec 32 := Scf.iv c0_i32 c1_i32 k0_t1
  let v49 : BitVec 32 := Scalar.subi arg6 c1_i32_11
  let c1_i32_12 : BitVec 32 := 1#32
  let v51 : BitVec 32 := Scalar.divsi v49 c1_i32_12
  let v52 : BitVec 32 := Scalar.muli v51 c1_i32_12
  let v53 : BitVec 32 := Scalar.addi c1_i32_11 v52
  let c1_i32_14 : BitVec 32 := 1#32
  let arg7 : BitVec 32 := Scf.iv v53 c1_i32_14 k0_t3
  let c704_i32_20 : BitVec 32 := 704#32
  let v70 : BitVec 32 := Scalar.muli arg7 c704_i32_20
  v70
def k0_off3 (k0_t1 : Fin k0_t1_loop.trips) (k0_t3 : Fin (k0_t3_loop k0_t1).trips) : Fin 2 → Nat :=
  let c1_i32_11 : BitVec 32 := 1#32
  let c0_i32 : BitVec 32 := 0#32
  let c1_i32 : BitVec 32 := 1#32
  let arg6 : BitVec 32 := Scf.iv c0_i32 c1_i32 k0_t1
  let v49 : BitVec 32 := Scalar.subi arg6 c1_i32_11
  let c1_i32_12 : BitVec 32 := 1#32
  let v51 : BitVec 32 := Scalar.divsi v49 c1_i32_12
  let v52 : BitVec 32 := Scalar.muli v51 c1_i32_12
  let v53 : BitVec 32 := Scalar.addi c1_i32_11 v52
  let c1_i32_14 : BitVec 32 := 1#32
  let arg7 : BitVec 32 := Scf.iv v53 c1_i32_14 k0_t3
  let c704_i32_20 : BitVec 32 := 704#32
  let v70 : BitVec 32 := Scalar.muli arg7 c704_i32_20
  let v71 : BitVec 32 := v70
  let v72 : Index := Scalar.indexCast v71
  let c0_21 : Index := 0#32
  ![v72.toNat, 0]
def k0_cond1 (k0_t1 : Fin k0_t1_loop.trips) : BitVec 1 :=
  let c0_i32 : BitVec 32 := 0#32
  let c1_i32 : BitVec 32 := 1#32
  let arg6 : BitVec 32 := Scf.iv c0_i32 c1_i32 k0_t1
  let c0_i32_15 : BitVec 32 := 0#32
  let v56 : BitVec 1 := Scalar.cmpi .sgt arg6 c0_i32_15
  let v57 : BitVec 32 := Scalar.extui v56
  let c0_i32_16 : BitVec 32 := 0#32
  let v58 : BitVec 1 := Scalar.cmpi .ne v57 c0_i32_16
  v58

def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c704_i32_20 : BitVec 32 := 704#32
  let v70 : BitVec 32 := Scalar.muli arg6 c704_i32_20
  v70
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c704_i32_20 : BitVec 32 := 704#32
  let v70 : BitVec 32 := Scalar.muli arg6 c704_i32_20
  let v71 : BitVec 32 := v70
  let v72 : Index := Scalar.indexCast v71
  let c0_21 : Index := 0#32
  ![v72.toNat, 0]
def k0_off5 (k0_t1 : Fin k0_t1_loop.trips) : Fin 3 → Nat :=
  let c0_18 : Index := 0#32
  let c0_i32 : BitVec 32 := 0#32
  let c1_i32 : BitVec 32 := 1#32
  let arg6 : BitVec 32 := Scf.iv c0_i32 c1_i32 k0_t1
  let c704_i32 : BitVec 32 := 704#32
  let v1 : BitVec 32 := Scalar.muli arg6 c704_i32
  let v2 : BitVec 32 := v1
  let v66 : Index := Scalar.indexCast v2
  let c0_19 : Index := 0#32
  ![0, v66.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4224x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg11 : BitVec 32 := Scf.iv c0_i32 c1_i32 k1_t1
  let c704_i32 : BitVec 32 := 704#32
  let v2 : BitVec 32 := Scalar.muli arg11 c704_i32
  v2
def k1_off1 (k1_t1 : Fin k1_t1_loop.trips) : Fin 2 → Nat :=
  let c0_i32 : BitVec 32 := 0#32
  let c1_i32 : BitVec 32 := 1#32
  let arg11 : BitVec 32 := Scf.iv c0_i32 c1_i32 k1_t1
  let c704_i32 : BitVec 32 := 704#32
  let v2 : BitVec 32 := Scalar.muli arg11 c704_i32
  let v3 : BitVec 32 := v2
  let v4 : Index := Scalar.indexCast v3
  let c0 : Index := 0#32
  ![v4.toNat, 0]
def k1_off2 (k1_t1 : Fin k1_t1_loop.trips) : Fin 2 → Nat :=
  let c0_i32 : BitVec 32 := 0#32
  let c1_i32 : BitVec 32 := 1#32
  let arg11 : BitVec 32 := Scf.iv c0_i32 c1_i32 k1_t1
  let c704_i32 : BitVec 32 := 704#32
  let v2 : BitVec 32 := Scalar.muli arg11 c704_i32
  let v3 : BitVec 32 := v2
  let v13 : Index := Scalar.indexCast v3
  let c0_6 : Index := 0#32
  ![v13.toNat, 0]
@[reducible] def k1_t2_loop : Scf.Loop 32 :=
  let c0_i32_1 : BitVec 32 := 0#32
  let c6_i32_2 : BitVec 32 := 6#32
  let v1 : BitVec 32 := Scalar.addi c0_i32_1 c6_i32_2
  let c1_i32_3 : BitVec 32 := 1#32
  ⟨c0_i32_1, v1, c1_i32_3⟩
def k1_mult2 (k1_t2 : Fin k1_t2_loop.trips) : BitVec 32 :=
  let c0_i32_1 : BitVec 32 := 0#32
  let c1_i32_3 : BitVec 32 := 1#32
  let arg11 : BitVec 32 := Scf.iv c0_i32_1 c1_i32_3 k1_t2
  let c704_i32 : BitVec 32 := 704#32
  let v2 : BitVec 32 := Scalar.muli arg11 c704_i32
  v2
def k1_off3 (k1_t2 : Fin k1_t2_loop.trips) : Fin 2 → Nat :=
  let c0_i32_1 : BitVec 32 := 0#32
  let c1_i32_3 : BitVec 32 := 1#32
  let arg11 : BitVec 32 := Scf.iv c0_i32_1 c1_i32_3 k1_t2
  let c704_i32 : BitVec 32 := 704#32
  let v2 : BitVec 32 := Scalar.muli arg11 c704_i32
  let v3 : BitVec 32 := v2
  let v4 : Index := Scalar.indexCast v3
  let c0 : Index := 0#32
  ![v4.toNat, 0]
def k1_mult3 (k1_t2 : Fin k1_t2_loop.trips) : BitVec 32 :=
  let c0_i32_1 : BitVec 32 := 0#32
  let c1_i32_3 : BitVec 32 := 1#32
  let arg11 : BitVec 32 := Scf.iv c0_i32_1 c1_i32_3 k1_t2
  let c704_i32_7 : BitVec 32 := 704#32
  let v12 : BitVec 32 := Scalar.muli arg11 c704_i32_7
  v12
def k1_off4 (k1_t2 : Fin k1_t2_loop.trips) : Fin 3 → Nat :=
  let c0_12 : Index := 0#32
  let c0_i32_1 : BitVec 32 := 0#32
  let c1_i32_3 : BitVec 32 := 1#32
  let arg11 : BitVec 32 := Scf.iv c0_i32_1 c1_i32_3 k1_t2
  let c704_i32_7 : BitVec 32 := 704#32
  let v12 : BitVec 32 := Scalar.muli arg11 c704_i32_7
  let v13 : BitVec 32 := v12
  let v37 : Index := Scalar.indexCast v13
  let c0_13 : Index := 0#32
  ![0, v37.toNat, 0]
def k1_off5 (k1_t2 : Fin k1_t2_loop.trips) : Fin 2 → Nat :=
  let c0_i32_1 : BitVec 32 := 0#32
  let c1_i32_3 : BitVec 32 := 1#32
  let arg11 : BitVec 32 := Scf.iv c0_i32_1 c1_i32_3 k1_t2
  let c704_i32_7 : BitVec 32 := 704#32
  let v12 : BitVec 32 := Scalar.muli arg11 c704_i32_7
  let v13 : BitVec 32 := v12
  let v47 : Index := Scalar.indexCast v13
  let c0_16 : Index := 0#32
  ![v47.toNat, 0]
def k1_cond1 (k1_t2 : Fin k1_t2_loop.trips) : BitVec 1 :=
  let c0_i32_1 : BitVec 32 := 0#32
  let c1_i32_3 : BitVec 32 := 1#32
  let arg11 : BitVec 32 := Scf.iv c0_i32_1 c1_i32_3 k1_t2
  let c0_i32_21 : BitVec 32 := 0#32
  let v62 : BitVec 1 := Scalar.cmpi .eq arg11 c0_i32_21
  let v63 : BitVec 32 := Scalar.extui v62
  let c0_i32_22 : BitVec 32 := 0#32
  let v64 : BitVec 1 := Scalar.cmpi .ne v63 c0_i32_22
  v64

@[reducible] def k1_t3_loop (k1_t2 : Fin k1_t2_loop.trips) : Scf.Loop 32 :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_28 : BitVec 32 := 1#32
  ⟨v70, v75, c1_i32_28⟩
def k1_mult4 (k1_t2 : Fin k1_t2_loop.trips) (k1_t3 : Fin (k1_t3_loop k1_t2).trips) : BitVec 32 :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c1_i32_28 : BitVec 32 := 1#32
  let arg12 : BitVec 32 := Scf.iv v70 c1_i32_28 k1_t3
  let c704_i32_30 : BitVec 32 := 704#32
  let v78 : BitVec 32 := Scalar.muli arg12 c704_i32_30
  v78
def k1_off6 (k1_t2 : Fin k1_t2_loop.trips) (k1_t3 : Fin (k1_t3_loop k1_t2).trips) : Fin 2 → Nat :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c1_i32_28 : BitVec 32 := 1#32
  let arg12 : BitVec 32 := Scf.iv v70 c1_i32_28 k1_t3
  let c704_i32_30 : BitVec 32 := 704#32
  let v78 : BitVec 32 := Scalar.muli arg12 c704_i32_30
  let v79 : BitVec 32 := v78
  let v80 : Index := Scalar.indexCast v79
  let c0_31 : Index := 0#32
  ![v80.toNat, 0]
def k1_off7 (k1_t2 : Fin k1_t2_loop.trips) (k1_t3 : Fin (k1_t3_loop k1_t2).trips) : Fin 3 → Nat :=
  let c0_36 : Index := 0#32
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c1_i32_28 : BitVec 32 := 1#32
  let arg12 : BitVec 32 := Scf.iv v70 c1_i32_28 k1_t3
  let c704_i32_30 : BitVec 32 := 704#32
  let v78 : BitVec 32 := Scalar.muli arg12 c704_i32_30
  let v79 : BitVec 32 := v78
  let v103 : Index := Scalar.indexCast v79
  let c0_37 : Index := 0#32
  ![0, v103.toNat, 0]
def k1_off8 (k1_t2 : Fin k1_t2_loop.trips) (k1_t3 : Fin (k1_t3_loop k1_t2).trips) : Fin 2 → Nat :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c1_i32_28 : BitVec 32 := 1#32
  let arg12 : BitVec 32 := Scf.iv v70 c1_i32_28 k1_t3
  let c704_i32_30 : BitVec 32 := 704#32
  let v78 : BitVec 32 := Scalar.muli arg12 c704_i32_30
  let v79 : BitVec 32 := v78
  let v113 : Index := Scalar.indexCast v79
  let c0_40 : Index := 0#32
  ![v113.toNat, 0]
@[reducible] def k1_t4_loop (k1_t2 : Fin k1_t2_loop.trips) : Scf.Loop 32 :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let v72 : BitVec 32 := Scalar.addi v70 v71
  let c1_i32_29 : BitVec 32 := 1#32
  ⟨v75, v72, c1_i32_29⟩
def k1_mult5 (k1_t2 : Fin k1_t2_loop.trips) (k1_t4 : Fin (k1_t4_loop k1_t2).trips) : BitVec 32 :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_29 : BitVec 32 := 1#32
  let arg12 : BitVec 32 := Scf.iv v75 c1_i32_29 k1_t4
  let c704_i32_30 : BitVec 32 := 704#32
  let v78 : BitVec 32 := Scalar.muli arg12 c704_i32_30
  v78
def k1_off9 (k1_t2 : Fin k1_t2_loop.trips) (k1_t4 : Fin (k1_t4_loop k1_t2).trips) : Fin 2 → Nat :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_29 : BitVec 32 := 1#32
  let arg12 : BitVec 32 := Scf.iv v75 c1_i32_29 k1_t4
  let c704_i32_30 : BitVec 32 := 704#32
  let v78 : BitVec 32 := Scalar.muli arg12 c704_i32_30
  let v79 : BitVec 32 := v78
  let v80 : Index := Scalar.indexCast v79
  let c0_31 : Index := 0#32
  ![v80.toNat, 0]
def k1_off10 (k1_t2 : Fin k1_t2_loop.trips) (k1_t4 : Fin (k1_t4_loop k1_t2).trips) : Fin 3 → Nat :=
  let c0_36 : Index := 0#32
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_29 : BitVec 32 := 1#32
  let arg12 : BitVec 32 := Scf.iv v75 c1_i32_29 k1_t4
  let c704_i32_30 : BitVec 32 := 704#32
  let v78 : BitVec 32 := Scalar.muli arg12 c704_i32_30
  let v79 : BitVec 32 := v78
  let v103 : Index := Scalar.indexCast v79
  let c0_37 : Index := 0#32
  ![0, v103.toNat, 0]
def k1_off11 (k1_t2 : Fin k1_t2_loop.trips) (k1_t4 : Fin (k1_t4_loop k1_t2).trips) : Fin 2 → Nat :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_29 : BitVec 32 := 1#32
  let arg12 : BitVec 32 := Scf.iv v75 c1_i32_29 k1_t4
  let c704_i32_30 : BitVec 32 := 704#32
  let v78 : BitVec 32 := Scalar.muli arg12 c704_i32_30
  let v79 : BitVec 32 := v78
  let v113 : Index := Scalar.indexCast v79
  let c0_40 : Index := 0#32
  ![v113.toNat, 0]
@[reducible] def k1_t5_loop (k1_t2 : Fin k1_t2_loop.trips) : Scf.Loop 32 :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_28 : BitVec 32 := 1#32
  ⟨v70, v75, c1_i32_28⟩
def k1_mult6 (k1_t2 : Fin k1_t2_loop.trips) (k1_t5 : Fin (k1_t5_loop k1_t2).trips) : BitVec 32 :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c1_i32_28 : BitVec 32 := 1#32
  let arg12 : BitVec 32 := Scf.iv v70 c1_i32_28 k1_t5
  let c704_i32_30 : BitVec 32 := 704#32
  let v78 : BitVec 32 := Scalar.muli arg12 c704_i32_30
  v78
def k1_off12 (k1_t2 : Fin k1_t2_loop.trips) (k1_t5 : Fin (k1_t5_loop k1_t2).trips) : Fin 2 → Nat :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c1_i32_28 : BitVec 32 := 1#32
  let arg12 : BitVec 32 := Scf.iv v70 c1_i32_28 k1_t5
  let c704_i32_30 : BitVec 32 := 704#32
  let v78 : BitVec 32 := Scalar.muli arg12 c704_i32_30
  let v79 : BitVec 32 := v78
  let v80 : Index := Scalar.indexCast v79
  let c0_31 : Index := 0#32
  ![v80.toNat, 0]
def k1_off13 (k1_t2 : Fin k1_t2_loop.trips) (k1_t5 : Fin (k1_t5_loop k1_t2).trips) : Fin 3 → Nat :=
  let c0_34 : Index := 0#32
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c1_i32_28 : BitVec 32 := 1#32
  let arg12 : BitVec 32 := Scf.iv v70 c1_i32_28 k1_t5
  let c704_i32_30 : BitVec 32 := 704#32
  let v78 : BitVec 32 := Scalar.muli arg12 c704_i32_30
  let v79 : BitVec 32 := v78
  let v88 : Index := Scalar.indexCast v79
  let c0_35 : Index := 0#32
  ![0, v88.toNat, 0]
def k1_off14 (k1_t2 : Fin k1_t2_loop.trips) (k1_t5 : Fin (k1_t5_loop k1_t2).trips) : Fin 2 → Nat :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c1_i32_28 : BitVec 32 := 1#32
  let arg12 : BitVec 32 := Scf.iv v70 c1_i32_28 k1_t5
  let c704_i32_30 : BitVec 32 := 704#32
  let v78 : BitVec 32 := Scalar.muli arg12 c704_i32_30
  let v79 : BitVec 32 := v78
  let v98 : Index := Scalar.indexCast v79
  let c0_38 : Index := 0#32
  ![v98.toNat, 0]
@[reducible] def k1_t6_loop (k1_t2 : Fin k1_t2_loop.trips) : Scf.Loop 32 :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let v72 : BitVec 32 := Scalar.addi v70 v71
  let c1_i32_29 : BitVec 32 := 1#32
  ⟨v75, v72, c1_i32_29⟩
def k1_mult7 (k1_t2 : Fin k1_t2_loop.trips) (k1_t6 : Fin (k1_t6_loop k1_t2).trips) : BitVec 32 :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_29 : BitVec 32 := 1#32
  let arg12 : BitVec 32 := Scf.iv v75 c1_i32_29 k1_t6
  let c704_i32_30 : BitVec 32 := 704#32
  let v78 : BitVec 32 := Scalar.muli arg12 c704_i32_30
  v78
def k1_off15 (k1_t2 : Fin k1_t2_loop.trips) (k1_t6 : Fin (k1_t6_loop k1_t2).trips) : Fin 2 → Nat :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_29 : BitVec 32 := 1#32
  let arg12 : BitVec 32 := Scf.iv v75 c1_i32_29 k1_t6
  let c704_i32_30 : BitVec 32 := 704#32
  let v78 : BitVec 32 := Scalar.muli arg12 c704_i32_30
  let v79 : BitVec 32 := v78
  let v80 : Index := Scalar.indexCast v79
  let c0_31 : Index := 0#32
  ![v80.toNat, 0]
def k1_off16 (k1_t2 : Fin k1_t2_loop.trips) (k1_t6 : Fin (k1_t6_loop k1_t2).trips) : Fin 3 → Nat :=
  let c0_34 : Index := 0#32
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_29 : BitVec 32 := 1#32
  let arg12 : BitVec 32 := Scf.iv v75 c1_i32_29 k1_t6
  let c704_i32_30 : BitVec 32 := 704#32
  let v78 : BitVec 32 := Scalar.muli arg12 c704_i32_30
  let v79 : BitVec 32 := v78
  let v88 : Index := Scalar.indexCast v79
  let c0_35 : Index := 0#32
  ![0, v88.toNat, 0]
def k1_off17 (k1_t2 : Fin k1_t2_loop.trips) (k1_t6 : Fin (k1_t6_loop k1_t2).trips) : Fin 2 → Nat :=
  let c0_i32_1 : BitVec 32 := 0#32
  let c1_i32_3 : BitVec 32 := 1#32
  let arg11 : BitVec 32 := Scf.iv c0_i32_1 c1_i32_3 k1_t2
  let c1_i32_25 : BitVec 32 := 1#32
  let v70 : BitVec 32 := Scalar.addi arg11 c1_i32_25
  let c6_i32_26 : BitVec 32 := 6#32
  let v71 : BitVec 32 := Scalar.subi c6_i32_26 v70
  let c1_i32_27 : BitVec 32 := 1#32
  let v73 : BitVec 32 := Scalar.divsi v71 c1_i32_27
  let v74 : BitVec 32 := Scalar.muli v73 c1_i32_27
  let v75 : BitVec 32 := Scalar.addi v70 v74
  let c1_i32_29 : BitVec 32 := 1#32
  let arg12 : BitVec 32 := Scf.iv v75 c1_i32_29 k1_t6
  let c704_i32_30 : BitVec 32 := 704#32
  let v78 : BitVec 32 := Scalar.muli arg12 c704_i32_30
  let v79 : BitVec 32 := v78
  let v98 : Index := Scalar.indexCast v79
  let c0_38 : Index := 0#32
  ![v98.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4224x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4224x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4224x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4224x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4224x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4224x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4224x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4224x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4224x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AttnKernelIdeal.lean ====
variable {F : FTy → Type} [FloatOps F] [Named F]
def κ : String → Option EReal := fun
  | "mask" => some ⊥
  | _ => none
-- ==== AttnReferenceIdeal.lean ====
abbrev S4112x8x96 : Shape := ⟨3, ![4112, 8, 96]⟩
abbrev S4112x8x64 : Shape := ⟨3, ![4112, 8, 64]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x4112 : Shape := ⟨2, ![8, 4112]⟩
abbrev S8x4112x1 : Shape := ⟨3, ![8, 4112, 1]⟩
abbrev S8x64x4112 : Shape := ⟨3, ![8, 64, 4112]⟩
abbrev S8x4112x96 : Shape := ⟨3, ![8, 4112, 96]⟩
abbrev S4224x8x128 : Shape := ⟨3, ![4224, 8, 128]⟩
abbrev S4224x1024 : Shape := ⟨2, ![4224, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x8x64, .f32⟩
  | .hbm, ⟨4, _⟩ => ⟨S8x4112x4112, .f32⟩
  | .hbm, ⟨5, _⟩ => ⟨S_, .f32⟩
  | .hbm, ⟨6, _⟩ => ⟨S8x4112x4112, .f32⟩
  | .hbm, ⟨7, _⟩ => ⟨S8x4112x4112, .f32⟩
  | .hbm, ⟨8, _⟩ => ⟨S4112, .i32⟩
  | .hbm, ⟨9, _⟩ => ⟨S1x4112, .i32⟩
  | .hbm, ⟨10, _⟩ => ⟨S4112x1, .i32⟩
  | .hbm, ⟨11, _⟩ => ⟨S4112x4112, .i32⟩
  | .hbm, ⟨12, _⟩ => ⟨S4112x4112, .i32⟩
  | .hbm, ⟨13, _⟩ => ⟨S4112x4112, .i1⟩
  | .hbm, ⟨14, _⟩ => ⟨S_, .f32⟩
  | .hbm, ⟨15, _⟩ => ⟨S_, .f32⟩
  | .hbm, ⟨16, _⟩ => ⟨S8x4112x4112, .i1⟩
  | .hbm, ⟨17, _⟩ => ⟨S8x4112x4112, .f32⟩
  | .hbm, ⟨18, _⟩ => ⟨S8x4112x4112, .f32⟩
  | .hbm, ⟨19, _⟩ => ⟨S_, .f32⟩
  | .hbm, ⟨20, _⟩ => ⟨S8x4112x4112, .f32⟩
  | .hbm, ⟨21, _⟩ => ⟨S_, .f32⟩
  | .hbm, ⟨22, _⟩ => ⟨S8x4112, .f32⟩
  | .hbm, ⟨23, _⟩ => ⟨S8x4112x1, .f32⟩
  | .hbm, ⟨24, _⟩ => ⟨S8x4112x4112, .f32⟩
  | .hbm, ⟨25, _⟩ => ⟨S8x4112x4112, .i1⟩
  | .hbm, ⟨26, _⟩ => ⟨S8x4112x4112, .f32⟩
  | .hbm, ⟨27, _⟩ => ⟨S_, .f32⟩
  | .hbm, ⟨28, _⟩ => ⟨S8x4112, .f32⟩
  | .hbm, ⟨29, _⟩ => ⟨S_, .f32⟩
  | .hbm, ⟨30, _⟩ => ⟨S8x4112, .f32⟩
  | .hbm, ⟨31, _⟩ => ⟨S8x4112, .f32⟩
  | .hbm, ⟨32, _⟩ => ⟨S_, .f32⟩
  | .hbm, ⟨33, _⟩ => ⟨S8x4112, .f32⟩
  | .hbm, ⟨34, _⟩ => ⟨S8x4112, .i1⟩
  | .hbm, ⟨35, _⟩ => ⟨S_, .f32⟩
  | .hbm, ⟨36, _⟩ => ⟨S8x4112, .f32⟩
  | .hbm, ⟨37, _⟩ => ⟨S8x4112, .i1⟩
  | .hbm, ⟨38, _⟩ => ⟨S_, .f32⟩
  | .hbm, ⟨39, _⟩ => ⟨S8x4112, .f32⟩
  | .hbm, ⟨40, _⟩ => ⟨S_, .f32⟩
  | .hbm, ⟨41, _⟩ => ⟨S8x4112, .f32⟩
  | .hbm, ⟨42, _⟩ => ⟨S_, .f32⟩
  | .hbm, ⟨43, _⟩ => ⟨S8x4112, .f32⟩
  | .hbm, ⟨44, _⟩ => ⟨S8x4112, .f32⟩
  | .hbm, ⟨45, _⟩ => ⟨S8x4112, .f32⟩
  | .hbm, ⟨46, _⟩ => ⟨S8x4112x1, .f32⟩
  | .hbm, ⟨47, _⟩ => ⟨S8x4112x4112, .f32⟩
  | .hbm, ⟨48, _⟩ => ⟨S8x4112x4112, .f32⟩
  | .hbm, ⟨49, _⟩ => ⟨S8x4112x4112, .f32⟩
  | .hbm, ⟨50, _⟩ => ⟨S_, .f32⟩
  | .hbm, ⟨51, _⟩ => ⟨S8x4112, .f32⟩
  | .hbm, ⟨52, _⟩ => ⟨S8x4112x1, .f32⟩
  | .hbm, ⟨53, _⟩ => ⟨S8x4112x4112, .f32⟩
  | .hbm, ⟨54, _⟩ => ⟨S8x4112x4112, .f32⟩
  | .hbm, ⟨55, _⟩ => ⟨S8x4112x1, .f32⟩
  | .hbm, ⟨56, _⟩ => ⟨S_, .f32⟩
  | .hbm, ⟨57, _⟩ => ⟨S8x4112x1, .f32⟩
  | .hbm, ⟨58, _⟩ => ⟨S8x4112x1, .f32⟩
  | .hbm, ⟨59, _⟩ => ⟨S8x64x4112, .f32⟩
  | .hbm, ⟨60, _⟩ => ⟨S4112x8x64, .f32⟩
  | .hbm, ⟨61, _⟩ => ⟨S8x64x4112, .f32⟩
  | .hbm, ⟨62, _⟩ => ⟨S8x4112x4112, .f32⟩
  | .hbm, ⟨63, _⟩ => ⟨S8x64x4112, .f32⟩
  | .hbm, ⟨64, _⟩ => ⟨S4112x8x64, .f32⟩
  | .hbm, ⟨65, _⟩ => ⟨S8x4112x4112, .f32⟩
  | .hbm, ⟨66, _⟩ => ⟨S8x4112x4112, .f32⟩
  | .hbm, ⟨67, _⟩ => ⟨S8x4112x4112, .f32⟩
  | .hbm, ⟨68, _⟩ => ⟨S_, .f32⟩
  | .hbm, ⟨69, _⟩ => ⟨S8x4112, .f32⟩
  | .hbm, ⟨70, _⟩ => ⟨S8x4112x1, .f32⟩
  | .hbm, ⟨71, _⟩ => ⟨S8x4112x1, .f32⟩
  | .hbm, ⟨72, _⟩ => ⟨S8x4112x4112, .f32⟩
  | .hbm, ⟨73, _⟩ => ⟨S8x4112x4112, .f32⟩
  | .hbm, ⟨74, _⟩ => ⟨S_, .f32⟩
  | .hbm, ⟨75, _⟩ => ⟨S8x4112, .f32⟩
  | .hbm, ⟨76, _⟩ => ⟨S8x4112x4112, .f32⟩
  | .hbm, ⟨77, _⟩ => ⟨S8x4112x4112, .f32⟩
  | .hbm, ⟨78, _⟩ => ⟨S8x4112x4112, .f32⟩
  | .hbm, ⟨79, _⟩ => ⟨S_, .f32⟩
  | .hbm, ⟨80, _⟩ => ⟨S8x4112x4112, .f32⟩
  | .hbm, ⟨81, _⟩ => ⟨S8x4112x4112, .f32⟩
  | .hbm, ⟨82, _⟩ => ⟨S_, .f32⟩
  | .hbm, ⟨83, _⟩ => ⟨S8x4112x4112, .f32⟩
  | .hbm, ⟨84, _⟩ => ⟨S8x4112x4112, .f32⟩
  | .hbm, ⟨85, _⟩ => ⟨S8x4112x96, .f32⟩
  | .hbm, ⟨86, _⟩ => ⟨S4112x8x96, .f32⟩
  | .hbm, ⟨87, _⟩ => ⟨S8x4112x96, .f32⟩
  | .hbm, ⟨88, _⟩ => ⟨S4112x8x96, .f32⟩
  | .hbm, ⟨89, _⟩ => ⟨S_, .i32⟩
  | .hbm, ⟨90, _⟩ => ⟨S_, .f32⟩
  | .hbm, ⟨91, _⟩ => ⟨S4224x8x128, .f32⟩
  | .hbm, ⟨92, _⟩ => ⟨S4224x1024, .f32⟩
  | .hbm, ⟨93, _⟩ => ⟨S_, .i32⟩
  | .hbm, ⟨94, _⟩ => ⟨S_, .f32⟩
  | .hbm, ⟨95, _⟩ => ⟨S4224x8x128, .f32⟩
  | .hbm, ⟨96, _⟩ => ⟨S4224x1024, .f32⟩
  | .hbm, ⟨97, _⟩ => ⟨S_, .i32⟩
  | .hbm, ⟨98, _⟩ => ⟨S_, .f32⟩
  | .hbm, ⟨99, _⟩ => ⟨S4224x8x128, .f32⟩
  | .hbm, ⟨100, _⟩ => ⟨S4224x1024, .f32⟩
  | .hbm, ⟨101, _⟩ => ⟨S8x4112x4112, .f32⟩
  | .hbm, ⟨102, _⟩ => ⟨S_, .f32⟩
  | .hbm, ⟨103, _⟩ => ⟨S8x4112x4112, .f32⟩
  | .hbm, ⟨104, _⟩ => ⟨S8x4112x4112, .f32⟩
  | .hbm, ⟨105, _⟩ => ⟨S4112, .i32⟩
  | .hbm, ⟨106, _⟩ => ⟨S1x4112, .i32⟩
  | .hbm, ⟨107, _⟩ => ⟨S4112x1, .i32⟩
  | .hbm, ⟨108, _⟩ => ⟨S4112x4112, .i32⟩
  | .hbm, ⟨109, _⟩ => ⟨S4112x4112, .i32⟩
  | .hbm, ⟨110, _⟩ => ⟨S4112x4112, .i1⟩
  | .hbm, ⟨111, _⟩ => ⟨S_, .f32⟩
  | .hbm, ⟨112, _⟩ => ⟨S_, .f32⟩
  | .hbm, ⟨113, _⟩ => ⟨S8x4112x4112, .i1⟩
  | .hbm, ⟨114, _⟩ => ⟨S8x4112x4112, .f32⟩
  | .hbm, ⟨115, _⟩ => ⟨S8x4112x4112, .f32⟩
  | .hbm, ⟨116, _⟩ => ⟨S8x4112x4112, .f32⟩
  | .hbm, ⟨117, _⟩ => ⟨S_, .f32⟩
  | .hbm, ⟨118, _⟩ => ⟨S8x4112, .f32⟩
  | .hbm, ⟨119, _⟩ => ⟨S8x4112, .f32⟩
  | _, _ => ⟨S4112x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_call3_v0 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_call4_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v78 : Ref sig .tc := ⟨.hbm, 115, rfl⟩
abbrev main_v79 : Ref sig .tc := ⟨.hbm, 116, rfl⟩
abbrev main_cst_18 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== Proof.Reals.lean ====
/- Extended reals that are real numbers: each operation of the ideal instance on real operands is the real operation,
   and an array whose absolute values are below infinity is an array of real numbers. -/
module

public import Idealize.ShloMosaic.PureOps.Ideal.Laws
public import Idealize.ShloMosaic.Lib.IdealHost
public import Mathlib.Tactic.Ring
public import Mathlib.Tactic.FieldSimp
public import Mathlib.Tactic.Positivity

@[expose] public section

noncomputable section

namespace Cert.Proof.Reals

open Idealize.ShloMosaic

/-- Exponential of a real number. -/
theorem exp_coe (r : ℝ) : Ideal.exp (r : EReal) = ((Real.exp r : ℝ) : EReal) := rfl

/-- Quotient of real numbers. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Reciprocal root of a positive real number. -/
theorem rsqrt_coe {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.2 hr.le), if_neg hr.ne']

/-- Logarithm of a positive real number. -/
theorem log_coe {r : ℝ} (hr : 0 < r) : Ideal.log (r : EReal) = ((Real.log r : ℝ) : EReal) := by
  show (if r ≤ 0 then (⊥ : EReal) else (Real.log r : ℝ)) = _
  rw [if_neg (not_le.2 hr)]

/-- A sum of real numbers. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greater of two real numbers. -/
theorem max_coe (a b : ℝ) : max (a : EReal) (b : EReal) = ((max a b : ℝ) : EReal) :=
  (Monotone.map_max (f := fun r : ℝ => (r : EReal)) (fun _ _ h => EReal.coe_le_coe_iff.2 h)).symm

/-- The lesser of two real numbers. -/
theorem min_coe (a b : ℝ) : min (a : EReal) (b : EReal) = ((min a b : ℝ) : EReal) :=
  (Monotone.map_min (f := fun r : ℝ => (r : EReal)) (fun _ _ h => EReal.coe_le_coe_iff.2 h)).symm

/-- The logistic function of a real number. -/
theorem logistic_coe (r : ℝ) : Ideal.div 1 (1 + Ideal.exp (-(r : EReal))) = ((1 / (1 + Real.exp (-r)) : ℝ) : EReal) := by
  have h : (1 + Real.exp (-r)) ≠ 0 := by positivity
  rw [← EReal.coe_neg, exp_coe, ← EReal.coe_one, ← EReal.coe_add, div_coe _ h]

/-- What lies strictly below infinity in absolute value is a real number. -/
theorem coe_toReal_of_abs_lt {x : EReal} (h : max x (-x) < ⊤) : ((x.toReal : ℝ) : EReal) = x := by
  refine EReal.coe_toReal (fun hx => ?_) (fun hx => ?_)
  · subst hx; simp at h
  · subst hx; simp at h

private theorem foldl_andi {β : Type} (l : List β) (x : β → BitVec 1) (r : BitVec 1)
    (h : l.foldl (fun r n => IntOp.andi r (x n)) r = 1#1) : r = 1#1 ∧ ∀ n ∈ l, x n = 1#1 := by
  induction l generalizing r with
  | nil => exact ⟨h, fun _ hn => absurd hn List.not_mem_nil⟩
  | cons a l ih =>
    obtain ⟨h1, h2⟩ := ih _ h
    have hb : ∀ p q : BitVec 1, IntOp.andi p q = 1#1 → p = 1#1 ∧ q = 1#1 := by
      unfold IntOp.andi; decide
    obtain ⟨hr, ha⟩ := hb _ _ h1
    refine ⟨hr, fun n hn => ?_⟩
    rcases List.mem_cons.1 hn with rfl | hn
    · exact ha
    · exact h2 n hn

/-- A conjunction of two bits that is true makes both true. -/
theorem and_of_andi {s : Shape} {x y : s.Idx → BitVec 1} {i : s.Idx} (h : andi x y i = 1#1) : x i = 1#1 ∧ y i = 1#1 := by
  have hb : ∀ p q : BitVec 1, IntOp.andi p q = 1#1 → p = 1#1 ∧ q = 1#1 := by
    unfold IntOp.andi; decide
  exact hb _ _ h

/-- A conjunction over all the elements of an array that is true is true of each. -/
theorem forall_of_reduce_andi {s u t : Shape} {axes : List (Fin s.rank)} (x : s.Idx → BitVec 1) (init : u.Idx → BitVec 1)
    (h : s.ReducesTo axes t) (hu : 0 < u.numel) (j : t.Idx) (hs : ∀ a b : t.Idx, a = b)
    (h1 : Host.reduce IntOp.andi x init h hu j = 1#1) (i : s.Idx) : x i = 1#1 := by
  have h2 := (foldl_andi _ (fun n => x (s.rowMajor.symm n)) _ h1).2 (s.rowMajor i)
    (by simp only [List.mem_filter, List.mem_finRange, true_and, decide_eq_true_eq]; exact hs _ _)
  simpa using h2

/-- The comparison of an absolute value with infinity, true, makes the element a real number. -/
theorem coe_of_cmp {x b : EReal} (hb : b = ⊤) (h : FloatOps.cmpf (F := Ideal) (φ := .f32) .olt (FloatOps.absf (F := Ideal) (φ := .f32) x) b = 1#1) :
    ((x.toReal : ℝ) : EReal) = x := by
  refine coe_toReal_of_abs_lt ?_
  subst hb
  have h' : Ideal.cmp .olt (max x (-x)) ⊤ = 1#1 := h
  by_contra hn
  simp [Ideal.cmp, hn] at h'

/-- The pattern of infinity. -/
theorem ofBits_inf : Ideal.ofBits .f32 0x7F800000#32 = ⊤ := by simp [Ideal.ofBits, Ideal.ieee]

/-- The pattern of minus infinity. -/
theorem ofBits_neg_inf : Ideal.ofBits .f32 0xFF800000#32 = ⊥ := by simp [Ideal.ofBits, Ideal.ieee]

end Cert.Proof.Reals

end
-- ==== Proof.Lb.lean ====
/- The gradient of the lower bounds. Both programs, on real arguments, give at each element the softmax weight times the
   difference of the weight's own derivative and the weighted mean of the derivatives. -/
module

public import proofs.«01_k».proof.Defs
public import proofs.«01_k».proof.Proof.Gen.LbKernel.Frame
public import proofs.«01_k».proof.Proof.Gen.LbKernelIdeal.Value
public import proofs.«01_k».proof.Proof.Gen.LbReferenceIdeal.Run
public import proofs.«01_k».proof.Proof.Reals
public import Idealize.ShloMosaic.Adequacy
public import Idealize.ShloMosaic.Init
public import Idealize.ShloMosaic.Lib.Quiescent
public import Idealize.ShloMosaic.Lib.Pointwise
public import Idealize.ShloMosaic.Lib.Tactic.CleanTypes

@[expose] public section

set_option maxRecDepth 16384

noncomputable section

namespace Cert.Proof.Lb

open Idealize.ShloMosaic Idealize.SL.Sem Cert.Proof.Reals

/-- A matrix of two rows and 512 columns. -/
abbrev S2 : Shape := ⟨2, ![2, 512]⟩

/-- The shape of a number. -/
abbrev S0 : Shape := ⟨0, ![]⟩

/-! ## The gradient in real numbers -/

/-- The softmax weight of a row in its column. -/
def w (A : S2.Idx → ℝ) (i : Fin 2) (c : Fin 512) : ℝ :=
  Real.exp (A (ix2 i c) - max (A (ix2 0 c)) (A (ix2 1 c)))
    / (Real.exp (A (ix2 0 c) - max (A (ix2 0 c)) (A (ix2 1 c))) + Real.exp (A (ix2 1 c) - max (A (ix2 0 c)) (A (ix2 1 c))))

/-- The gradient at a row and a column: only the last weight has a derivative. -/
def g (A B : S2.Idx → ℝ) (i : Fin 2) (c : Fin 512) : ℝ :=
  w A i c * ((if i = 0 then 0 else B (ix2 1 c)) - w A 1 c * B (ix2 1 c))

/-! ## The kernel -/

section Kernel
open Cert.LbKernelIdeal Cert.LbKernelIdeal.Gen Cert.LbKernelIdeal.Value

variable (A B : S2.Idx → ℝ)

theorem fold_max (f : Fin 2 → ℝ) :
    Finset.univ.fold max (⊥ : EReal) (fun x : Fin 2 => ((f x : ℝ) : EReal)) = ((max (f 0) (f 1) : ℝ) : EReal) := by
  rw [show (Finset.univ : Finset (Fin 2)) = {0, 1} from rfl, Finset.fold_insert (by decide), Finset.fold_singleton,
    max_eq_left (bot_le), max_coe]

theorem row1 (c : Fin 512) :
    k0_pay6 (F := Ideal) (fun i => (A i : EReal)) (View.ld (fun i => (B i : EReal)) r0_1) (ix2 0 c) = ((g A B 1 c : ℝ) : EReal) := by
  unfold_payloads
  pointwise []
  have h : Real.exp (A (ix2 0 c) - max (A (ix2 0 c)) (A (ix2 1 c))) + Real.exp (A (ix2 1 c) - max (A (ix2 0 c)) (A (ix2 1 c))) ≠ 0 := by
    positivity
  simp only [ofBits_neg_inf, fold_max (fun x => A (ix2 x c)), Fin.sum_univ_two, exp_coe, ← EReal.coe_sub, ← EReal.coe_add,
    div_coe _ h, mul_zero, zero_add, ← EReal.coe_mul]
  rfl

theorem row0 (c : Fin 512) :
    k0_pay5 (F := Ideal) (fun i => (A i : EReal)) (View.ld (fun i => (B i : EReal)) r0_1) (ix2 0 c) = ((g A B 0 c : ℝ) : EReal) := by
  unfold_payloads
  pointwise []
  have h : Real.exp (A (ix2 0 c) - max (A (ix2 0 c)) (A (ix2 1 c))) + Real.exp (A (ix2 1 c) - max (A (ix2 0 c)) (A (ix2 1 c))) ≠ 0 := by
    positivity
  simp only [ofBits_neg_inf, fold_max (fun x => A (ix2 x c)), Fin.sum_univ_two, exp_coe, ← EReal.coe_sub, ← EReal.coe_add,
    div_coe _ h, mul_zero, zero_add, ← EReal.coe_mul, ← EReal.coe_zero]
  rfl

/-- What the kernel stores, at each element. -/
theorem kernel_apply (i : Fin 2) (c : Fin 512) :
    G2 (F := Ideal) (fun i => (A i : EReal)) (fun i => (B i : EReal)) (ix2 i c) = ((g A B i c : ℝ) : EReal) := by
  refine View.canon_apply_of_pieces (Val := Elt Ideal) (e := .f32) (fun j => ((g A B (j 0) (j 1) : ℝ) : EReal)) _ ?_ (ix2 i c) ?_
  · intro p hp
    simp only [List.mem_cons, List.not_mem_nil, or_false] at hp
    rcases hp with rfl | rfl
    · intro x
      idx_vars x
      fin_cases x0
      have e : r0_1.emb (ix2 0 x1) = ix2 1 x1 := by
        funext a
        fin_cases a <;> exact Fin.ext (by simp)
      exact (row1 A B x1).trans (by simp [e])
    · intro x
      idx_vars x
      fin_cases x0
      have e : r0_2.emb (ix2 0 x1) = ix2 0 x1 := by
        funext a
        fin_cases a <;> exact Fin.ext (by simp)
      exact (row0 A B x1).trans (by simp [e])
  · have hc := c.isLt
    fin_cases i
    · have hm : ix2 0 c ∈ r0_2.set := Rect.mem_set_unit.2 (fun a => by fin_cases a <;> simp [hc])
      exact ⟨_, List.mem_cons_of_mem _ (List.mem_singleton_self _), hm⟩
    · have hm : ix2 1 c ∈ r0_1.set := Rect.mem_set_unit.2 (fun a => by fin_cases a <;> simp [hc])
      exact ⟨_, List.mem_cons_self, hm⟩

end Kernel

/-! ## The reference -/

section Reference
open Cert.LbReferenceIdeal Cert.LbReferenceIdeal.Gen

/-- The running sum from the end over two rows. -/
theorem suffix_apply (x : S2.Idx → EReal) (h : S2.ReduceWindows ![2, 1] ![1, 1] ![0, 0] ![1, 0] S2)
    (hu : 0 < S0.numel) (i : Fin 2) (c : Fin 512) :
    Host.reduceWindowAdd (F := Ideal) (φ := .f32) ![2, 1] ![1, 1] ![0, 0] ![1, 0] x (fun _ : S0.Idx => 0) h hu (ix2 i c)
      = if i = 0 then x (ix2 0 c) + x (ix2 1 c) else x (ix2 1 c) := by
  rw [show Host.reduceWindowAdd (F := Ideal) (φ := .f32) ![2, 1] ![1, 1] ![0, 0] ![1, 0] x (fun _ : S0.Idx => 0) h hu
    = Host.reduceWindow (· + ·) ![2, 1] ![1, 1] ![0, 0] ![1, 0] x (fun _ : S0.Idx => (0 : EReal)) h hu from rfl]
  unfold Host.reduceWindow
  obtain ⟨n0, n1, hl, e0, e1⟩ : ∃ n0 n1 : Fin (⟨2, ![2, 1]⟩ : Shape).numel, List.finRange _ = [n0, n1]
      ∧ (∀ a, ((⟨2, ![2, 1]⟩ : Shape).rowMajor.symm n0 a).val = 0)
      ∧ (∀ a, ((⟨2, ![2, 1]⟩ : Shape).rowMajor.symm n1 a).val = ![1, 0] a) :=
    ⟨⟨0, by decide⟩, ⟨1, by decide⟩, by decide, by decide, by decide⟩
  have hc := c.isLt
  dsimp only
  rw [hl]
  simp only [List.foldl_cons, List.foldl_nil, e0, e1, zero_add]
  have hi : i = 0 ∨ i = 1 := by omega
  rcases hi with rfl | rfl
  · rw [dif_pos (fun a => by fin_cases a <;> simp [hc]), dif_pos (fun a => by fin_cases a <;> simp [hc]), if_pos rfl]
    refine congrArg₂ (· + ·) (congrArg x (funext fun a => ?_)) (congrArg x (funext fun a => ?_)) <;> fin_cases a <;> exact Fin.ext (by simp)
  · rw [dif_pos (fun a => by fin_cases a <;> simp [hc]), dif_neg (fun h => by have := h 0; simp at this), add_zero, if_neg (by decide)]
    refine (congrArg x (funext fun a => ?_))
    fin_cases a <;> exact Fin.ext (by simp)

/-- The reference's run on real arguments: the result at each element, the arguments unchanged. -/
theorem reference_apply (A B : Dev nD → S2.Idx → ℝ) (m : (ℓ : Loc nD τ sig) → Buf (Elt Ideal) ℓ) (ρ : Dev nD → PrngReg)
    (hA : ∀ c : Dev nD, m ((c.tc : Thread nD τ).loc main_arg0) = fun i : S2.Idx => (A c i : EReal))
    (hB : ∀ c : Dev nD, m ((c.tc : Thread nD τ).loc main_arg1) = fun i : S2.Idx => (B c i : EReal)) :
    θ_run defs (onTc (τ := τ) (main (F := Ideal))) ⟨m, fun _ => 0, ρ⟩ fun r => ∀ c : Dev nD,
      r.2.mem ((c.tc : Thread nD τ).loc main_v50) = (fun j : S2.Idx => ((g (A c) (B c) (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run Cert.LbReferenceIdeal.defs _ _).mono (fun _ h c => ⟨?_, (h c).2⟩) (Cert.LbReferenceIdeal.Value.run (F := Ideal) m ρ)
  rw [(h c).1, hA c, hB c]
  generalize A c = A
  generalize B c = B
  clear h
  clean_types
  funext j
  idx_vars j
  pointwise []
  have hz : broadcastInDim S_ ![] bcast_S_S_ (constant (F := Ideal) S_ .f32 0#32) = fun _ => (0 : EReal) := by
    funext i
    pointwise []
  simp only [hz, suffix_apply]
  have h : Real.exp (A (ix2 0 j1) - max (A (ix2 0 j1)) (A (ix2 1 j1))) + Real.exp (A (ix2 1 j1) - max (A (ix2 0 j1)) (A (ix2 1 j1))) ≠ 0 := by
    positivity
  have one : (1 : Fin 2) ≠ 0 := by decide
  have hj : j0 = 0 ∨ j0 = 1 := by omega
  rcases hj with rfl | rfl <;>
  · simp only [ofBits_neg_inf, fold_max (fun x => A (ix2 x j1)), Fin.sum_univ_two, Fin.sum_univ_one, bot_le, max_eq_right, exp_coe,
      ← EReal.coe_neg, ← EReal.coe_sub, ← EReal.coe_add, ← EReal.coe_mul, ← EReal.coe_one, if_true, if_neg one,
      Fin.val_zero, Fin.val_one, Nat.lt_irrefl, Nat.one_pos, dif_pos, dif_neg, not_false_iff, zero_add,
      div_coe _ h, div_coe _ (mul_ne_zero h h)]
    unfold g w
    simp only [if_true, if_neg one]
    generalize Real.exp _ = x0 at *
    generalize Real.exp _ = x1 at *
    refine congrArg _ ?_
    field_simp
    ring

end Reference

/-! ## The precondition and the claims -/

instance facts_finite : Cert.Pre_lb_finite.Facts := ⟨by decide, by decide, by decide⟩

/-- The precondition makes every element of both arguments a real number. -/
theorem real_of_finite (X Y : S2.Idx → EReal) (h : Cert.Pre_lb_finite.fn (F := Ideal) X Y = fun _ => 1#1) :
    (X = fun i => ((X i).toReal : EReal)) ∧ (Y = fun i => ((Y i).toReal : EReal)) := by
  have h0 := congrFun h (Shape.Idx.first (by decide))
  obtain ⟨h1, h2⟩ := and_of_andi h0
  have one : ∀ a b : S0.Idx, a = b := fun a b => funext fun k => k.elim0
  exact ⟨funext fun i => (coe_of_cmp ofBits_inf (forall_of_reduce_andi _ _ _ _ _ one h1 i)).symm,
    funext fun i => (coe_of_cmp ofBits_inf (forall_of_reduce_andi _ _ _ _ _ one h2 i)).symm⟩

theorem quiescent_reference : quiescent_LbReferenceIdeal := fun m ρ _ =>
  (θ_run Cert.LbReferenceIdeal.defs _ _).mono (fun r h => ⟨fun c => (h c).2, sem_eq_zero_of_no_sems (by decide) r.2⟩)
    (Cert.LbReferenceIdeal.Value.run (F := Ideal) m ρ)

theorem algebraic : algebraic_LbKernelIdeal_LbReferenceIdeal_pre_lb_finite := by
  intro m ρ m' ρ' hpre hagree
  refine ⟨_, Cert.LbKernelIdeal.Value.run (F := Ideal) m ρ, ?_⟩
  refine (θ_run Cert.LbReferenceIdeal.defs _ _).mono (fun r h c => ⟨(h c).1.trans ?_, (h c).2⟩)
    (reference_apply (fun c i => (m ((c.tc : Thread Cert.LbKernelIdeal.nD Cert.LbKernelIdeal.τ).loc Cert.LbKernelIdeal.main_arg0) i).toReal)
      (fun c i => (m ((c.tc : Thread Cert.LbKernelIdeal.nD Cert.LbKernelIdeal.τ).loc Cert.LbKernelIdeal.main_arg1) i).toReal) m' ρ'
      (fun c => (hagree c).1.trans (real_of_finite _ _ (hpre c)).1) (fun c => (hagree c).2.trans (real_of_finite _ _ (hpre c)).2))
  have e := real_of_finite _ _ (hpre c)
  rw [e.1, e.2]
  funext j
  idx_vars j
  exact (kernel_apply _ _ j0 j1).symm

end Cert.Proof.Lb
end
-- ==== Proof.Low.lean ====
/- The lower bounds. Both programs, on real arguments, give zero in the first row and the second softmax weight in the second. -/
module

public import proofs.«01_k».proof.Defs
public import proofs.«01_k».proof.Proof.Lb
public import proofs.«01_k».proof.Proof.Gen.LowKernel.Frame
public import proofs.«01_k».proof.Proof.Gen.LowKernelIdeal.Value
public import proofs.«01_k».proof.Proof.Gen.LowReferenceIdeal.Run

@[expose] public section

set_option maxRecDepth 16384

noncomputable section

namespace Cert.Proof.Low

open Idealize.ShloMosaic Idealize.SL.Sem Cert.Proof.Reals Cert.Proof.Lb

/-- The bound at a row and a column: the sum of the weights up to the row, without the first. -/
def bound (A : S2.Idx → ℝ) (i : Fin 2) (c : Fin 512) : ℝ := if i = 0 then 0 else w A 1 c

theorem weights_ne (A : S2.Idx → ℝ) (c : Fin 512) :
    Real.exp (A (ix2 0 c) - max (A (ix2 0 c)) (A (ix2 1 c))) + Real.exp (A (ix2 1 c) - max (A (ix2 0 c)) (A (ix2 1 c))) ≠ 0 := by
  positivity

section Kernel
open Cert.LowKernelIdeal Cert.LowKernelIdeal.Gen Cert.LowKernelIdeal.Value

variable (A : S2.Idx → ℝ)

theorem row1 (c : Fin 512) : k0_pay2 (F := Ideal) (fun i => (A i : EReal)) (ix2 0 c) = ((bound A 1 c : ℝ) : EReal) := by
  unfold_payloads
  pointwise []
  simp only [ofBits_neg_inf, fold_max (fun x => A (ix2 x c)), Fin.sum_univ_two, exp_coe, ← EReal.coe_sub, ← EReal.coe_add,
    div_coe _ (weights_ne A c), zero_add]
  rfl

theorem row0 (c : Fin 512) : k0_pay1 (F := Ideal) (ix2 0 c) = ((bound A 0 c : ℝ) : EReal) := by
  unfold_payloads
  pointwise []
  rfl

/-- What the kernel stores, at each element. -/
theorem kernel_apply (i : Fin 2) (c : Fin 512) : G1 (F := Ideal) (fun i => (A i : EReal)) (ix2 i c) = ((bound A i c : ℝ) : EReal) := by
  refine View.canon_apply_of_pieces (Val := Elt Ideal) (e := .f32) (fun j => ((bound A (j 0) (j 1) : ℝ) : EReal)) _ ?_ (ix2 i c) ?_
  · intro p hp
    simp only [List.mem_cons, List.not_mem_nil, or_false] at hp
    rcases hp with rfl | rfl
    · intro x
      idx_vars x
      fin_cases x0
      have e : r0_2.emb (ix2 0 x1) = ix2 1 x1 := by
        funext a
        fin_cases a <;> exact Fin.ext (by simp)
      exact (row1 A x1).trans (by simp [e])
    · intro x
      idx_vars x
      fin_cases x0
      have e : r0_1.emb (ix2 0 x1) = ix2 0 x1 := by
        funext a
        fin_cases a <;> exact Fin.ext (by simp)
      exact (row0 A x1).trans (by simp [e])
  · have hc := c.isLt
    fin_cases i
    · have hm : ix2 0 c ∈ r0_1.set := Rect.mem_set_unit.2 (fun a => by fin_cases a <;> simp [hc])
      exact ⟨_, List.mem_cons_of_mem _ (List.mem_singleton_self _), hm⟩
    · have hm : ix2 1 c ∈ r0_2.set := Rect.mem_set_unit.2 (fun a => by fin_cases a <;> simp [hc])
      exact ⟨_, List.mem_cons_self, hm⟩

end Kernel

section Reference
open Cert.LowReferenceIdeal Cert.LowReferenceIdeal.Gen

/-- The running sum over two rows. -/
theorem prefix_apply (x : S2.Idx → EReal) (h : S2.ReduceWindows ![2, 1] ![1, 1] ![1, 0] ![0, 0] S2)
    (hu : 0 < S0.numel) (i : Fin 2) (c : Fin 512) :
    Host.reduceWindowAdd (F := Ideal) (φ := .f32) ![2, 1] ![1, 1] ![1, 0] ![0, 0] x (fun _ : S0.Idx => 0) h hu (ix2 i c)
      = if i = 0 then x (ix2 0 c) else x (ix2 0 c) + x (ix2 1 c) := by
  rw [show Host.reduceWindowAdd (F := Ideal) (φ := .f32) ![2, 1] ![1, 1] ![1, 0] ![0, 0] x (fun _ : S0.Idx => 0) h hu
    = Host.reduceWindow (· + ·) ![2, 1] ![1, 1] ![1, 0] ![0, 0] x (fun _ : S0.Idx => (0 : EReal)) h hu from rfl]
  unfold Host.reduceWindow
  obtain ⟨n0, n1, hl, e0, e1⟩ : ∃ n0 n1 : Fin (⟨2, ![2, 1]⟩ : Shape).numel, List.finRange _ = [n0, n1]
      ∧ (∀ a, ((⟨2, ![2, 1]⟩ : Shape).rowMajor.symm n0 a).val = 0)
      ∧ (∀ a, ((⟨2, ![2, 1]⟩ : Shape).rowMajor.symm n1 a).val = ![1, 0] a) :=
    ⟨⟨0, by decide⟩, ⟨1, by decide⟩, by decide, by decide, by decide⟩
  have hc := c.isLt
  dsimp only
  rw [hl]
  simp only [List.foldl_cons, List.foldl_nil, e0, e1, zero_add]
  have hi : i = 0 ∨ i = 1 := by omega
  rcases hi with rfl | rfl
  · rw [dif_neg (fun h => by have := h 0; simp at this), dif_pos (fun a => by fin_cases a <;> simp [hc]), zero_add, if_pos rfl]
    refine (congrArg x (funext fun a => ?_))
    fin_cases a <;> exact Fin.ext (by simp)
  · rw [dif_pos (fun a => by fin_cases a <;> simp [hc]), dif_pos (fun a => by fin_cases a <;> simp [hc]), if_neg (by decide)]
    refine congrArg₂ (· + ·) (congrArg x (funext fun a => ?_)) (congrArg x (funext fun a => ?_)) <;> fin_cases a <;> exact Fin.ext (by simp)

/-- The reference's run on real arguments: the result at each element, the argument unchanged. -/
theorem reference_apply (A : Dev nD → S2.Idx → ℝ) (m : (ℓ : Loc nD τ sig) → Buf (Elt Ideal) ℓ) (ρ : Dev nD → PrngReg)
    (hA : ∀ c : Dev nD, m ((c.tc : Thread nD τ).loc main_arg0) = fun i : S2.Idx => (A c i : EReal)) :
    θ_run defs (onTc (τ := τ) (main (F := Ideal))) ⟨m, fun _ => 0, ρ⟩ fun r => ∀ c : Dev nD,
      r.2.mem ((c.tc : Thread nD τ).loc main_v14) = (fun j : S2.Idx => ((bound (A c) (j 0) (j 1) : ℝ) : EReal))
      ∧ r.2.mem ((c.tc : Thread nD τ).loc main_arg0) = m ((c.tc : Thread nD τ).loc main_arg0) := by
  refine (θ_run Cert.LowReferenceIdeal.defs _ _).mono (fun _ h c => ⟨?_, (h c).2⟩) (Cert.LowReferenceIdeal.Value.run (F := Ideal) m ρ)
  rw [(h c).1, hA c]
  generalize A c = A
  clear h
  clean_types
  funext j
  idx_vars j
  pointwise []
  have hz : broadcastInDim S_ ![] bcast_S_S_ (constant (F := Ideal) S_ .f32 0#32) = fun _ => (0 : EReal) := by
    funext i
    pointwise []
  simp only [hz]
  rw [prefix_apply]
  have one : (1 : Fin 2) ≠ 0 := by decide
  have hj : j0 = 0 ∨ j0 = 1 := by omega
  rcases hj with rfl | rfl <;>
  · first | rw [if_pos rfl] | rw [if_neg one]
    pointwise []
    simp only [ofBits_neg_inf, fold_max (fun x => A (ix2 x j1)), Fin.sum_univ_two, Fin.sum_univ_one, bot_le, max_eq_right, exp_coe,
      ← EReal.coe_sub, ← EReal.coe_add, zero_add, div_coe _ (weights_ne A j1)]
    refine congrArg _ ?_
    simp [bound, w]

end Reference

instance facts_finite : Cert.Pre_low_finite.Facts := ⟨by decide, by decide, by decide⟩

/-- The precondition makes every element of the argument a real number. -/
theorem real_of_finite (X : S2.Idx → EReal) (h : Cert.Pre_low_finite.fn (F := Ideal) X = fun _ => 1#1) : X = fun i => ((X i).toReal : EReal) :=
  funext fun i => (coe_of_cmp ofBits_inf (forall_of_reduce_andi _ _ _ _ _ (fun _ _ => funext fun k => k.elim0) (congrFun h (Shape.Idx.first (by decide))) i)).symm

theorem quiescent_reference : quiescent_LowReferenceIdeal := fun m ρ _ =>
  (θ_run Cert.LowReferenceIdeal.defs _ _).mono (fun r h => ⟨fun c => (h c).2, sem_eq_zero_of_no_sems (by decide) r.2⟩)
    (Cert.LowReferenceIdeal.Value.run (F := Ideal) m ρ)

/-- The kernel's lower bounds are the reference's, over real arguments. -/
theorem algebraic : algebraic_LowKernelIdeal_LowReferenceIdeal_pre_low_finite := by
  intro m ρ m' ρ' hpre hagree
  refine ⟨_, Cert.LowKernelIdeal.Value.run (F := Ideal) m ρ, ?_⟩
  refine (θ_run Cert.LowReferenceIdeal.defs _ _).mono (fun r h c => ⟨(h c).1.trans ?_, (h c).2⟩)
    (reference_apply (fun c i => (m ((c.tc : Thread Cert.LowKernelIdeal.nD Cert.LowKernelIdeal.τ).loc Cert.LowKernelIdeal.main_arg0) i).toReal) m' ρ'
      (fun c => (hagree c).trans (real_of_finite _ (hpre c))))
  rw [real_of_finite _ (hpre c)]
  funext j
  idx_vars j
  exact (kernel_apply _ j0 j1).symm

end Cert.Proof.Low
end
-- ==== Proof.Sums.lean ====
/- Finite sums: by blocks, over a window outside which the terms vanish, and against a nonnegative factor. -/
module

public import Idealize.ShloMosaic.PureOps.Ideal.Laws
public import Idealize.ShloMosaic.Lib.IdealHost
public import Mathlib.Tactic.Ring
public import Mathlib.Tactic.Positivity

@[expose] public section

noncomputable section

namespace Cert.Proof.Sums

/-- A sum over `n` blocks of `k` terms each. -/
theorem sum_split {A : Type*} [AddCommMonoid A] {N : ℕ} (n k : ℕ) (h : n * k = N) (f : Fin N → A) :
    ∑ r, f r = ∑ i : Fin n, ∑ j : Fin k, f ⟨i.val * k + j.val, by
      have := i.isLt; have := j.isLt
      calc i.val * k + j.val < (i.val + 1) * k := by rw [Nat.succ_mul]; omega
        _ ≤ n * k := Nat.mul_le_mul_right _ (by omega)
        _ = N := h⟩ := by
  subst h
  rw [← Fintype.sum_prod_type', ← Fintype.sum_equiv finProdFinEquiv (fun p : Fin n × Fin k => f (finProdFinEquiv p)) f fun _ => rfl]
  refine Finset.sum_congr rfl fun p _ => congrArg f (Fin.ext ?_)
  show p.2.val + k * p.1.val = p.1.val * k + p.2.val
  rw [Nat.mul_comm, Nat.add_comm]

/-- A sum whose terms vanish outside the window of `n` terms from `a`. -/
theorem sum_window {A : Type*} [AddCommMonoid A] {N : ℕ} (a n : ℕ) (h : a + n ≤ N) (f : Fin N → A)
    (hf : ∀ r : Fin N, ¬(a ≤ r.val ∧ r.val < a + n) → f r = 0) : ∑ r, f r = ∑ i : Fin n, f ⟨a + i.val, by omega⟩ := by
  symm
  rw [← Finset.sum_subset (Finset.subset_univ (Finset.univ.map ⟨fun i : Fin n => (⟨a + i.val, by omega⟩ : Fin N), fun i j e => by
    have := congrArg Fin.val e
    exact Fin.ext (by simpa using this)⟩)) fun r _ hr => hf r fun hh => hr ?_, Finset.sum_map]
  · rfl
  · refine Finset.mem_map.2 ⟨⟨r.val - a, by omega⟩, Finset.mem_univ _, Fin.ext ?_⟩
    show a + (r.val - a) = r.val
    omega

/-- A nonnegative factor goes into a sum of nonnegative terms. -/
theorem sum_mul {ι : Type*} (s : Finset ι) (f : ι → EReal) (hf : ∀ i, 0 ≤ f i) (c : EReal) : (∑ i ∈ s, f i) * c = ∑ i ∈ s, f i * c := by
  classical
  induction s using Finset.induction_on with
  | empty => simp
  | insert a s ha ih => rw [Finset.sum_insert ha, Finset.sum_insert ha, EReal.right_distrib_of_nonneg (hf a) (Finset.sum_nonneg fun i _ => hf i), ih]

/-- A square is nonnegative. -/
theorem sq_nonneg (x : EReal) : 0 ≤ x * x := by
  induction x with
  | bot => simp
  | top => simp
  | coe r => rw [← EReal.coe_mul]; exact_mod_cast mul_self_nonneg r

end Cert.Proof.Sums
end
-- ==== Proof.Loss.lean ====
module

public import proofs.«01_k».proof.Defs
public import proofs.«01_k».proof.Proof.Gen.LossKernelIdeal.Frame
public import proofs.«01_k».proof.Proof.Gen.LossReferenceIdeal.Run
public import proofs.«01_k».proof.Proof.Gen.LossReferenceIdeal.Read
public import proofs.«01_k».proof.Proof.Reals
public import proofs.«01_k».proof.Proof.Sums
public import Idealize.ShloMosaic.Lib.Pipeline.ValueKit
public import Idealize.ShloMosaic.Lib.StableHlo.RunRead
public import Idealize.ShloMosaic.Lib.Pointwise
public import Idealize.ShloMosaic.Lib.Tactic.CleanTypes
public import Idealize.ShloMosaic.Lib.ValueIdx
public import Idealize.ShloMosaic.Lib.Quiescent

@[expose] public section

/-! # The loss and its gradient -/

set_option maxRecDepth 16384

noncomputable section

namespace Cert.Proof.Loss

open Idealize.ShloMosaic Idealize.ShloMosaic.TcCoe Idealize.SL.Sem Cert.Proof.Reals Cert.Proof.Sums
open Idealize.ShloMosaic.Pipeline (Dat)

section Kernel

open Cert.LossKernelIdeal Cert.LossKernelIdeal.Gen

theorem hz : (![0, 0] : Fin 2 → Nat) = fun _ => 0 := funext fun a => by fin_cases a <;> rfl

section Cases

variable (c : Dev nD) (i : grid0.Coords) (a1 : Memref sig .tc .vmem S384x1024 .f32) (h1 : a1.IsWhole)
  (a2 : Memref sig .tc .vmem S384x1024 .f32) (h2 : a2.IsWhole) (a3 : Memref sig .tc .vmem S384x1024 .f32) (h3 : a3.IsWhole)
  (a4 : Memref sig .tc .vmem S8x128 .f32) (h4 : a4.IsWhole) (x y : Vec Ideal S384x1024 .f32) (z : Vec Ideal S8x128 .f32)

theorem grad_A (hc : cond0_0 i) : out0_A_2 c i a1 h1 a2 h2 a3 h3 a4 h4 hc x y = k0_pay3 i x y := by
  unfold out0_A_2
  rw [View.read_writes_eq_canon _ _ _ (cover0_A_2 c i a1 h1 a2 h2 a3 h3 a4 h4 hc x y)]
  unfold kernelRun0_A
  dsimp only
  rw [View.canon_unit_zero hz]
  simp only [View.readAt_eq_ld, h1.read_unread, h2.read_unread, View.ld_unit_zero (S := S384x1024) hz]

theorem grad_B (hc : ¬cond0_0 i) : out0_B_2 c i a1 h1 a2 h2 a3 h3 a4 h4 hc x y z = k0_pay3 i x y := by
  unfold out0_B_2
  rw [View.read_writes_eq_canon _ _ _ (cover0_B_2 c i a1 h1 a2 h2 a3 h3 a4 h4 hc x y z)]
  unfold kernelRun0_B
  dsimp only
  rw [View.canon_unit_zero hz]
  simp only [View.readAt_eq_ld, h1.read_unread, h2.read_unread, View.ld_unit_zero (S := S384x1024) hz]

theorem sum_A (hc : cond0_0 i) : out0_A_3 c i a1 h1 a2 h2 a3 h3 a4 h4 hc x y = k0_pay1 (F := Ideal) (k0_pay5 i x y) (k0_pay4 (F := Ideal)) := by
  unfold out0_A_3
  rw [View.read_writes_eq_canon _ _ _ (cover0_A_3 c i a1 h1 a2 h2 a3 h3 a4 h4 hc x y)]
  unfold kernelRun0_A
  dsimp only
  sl_unfold_words
  rw [View.canon_cons_unit_zero (S := S8x128) hz, View.readCov_unit_zero (S := S8x128) _ hz]
  simp only [View.readAt_eq_ld, h1.read_unread, h2.read_unread, View.ld_unit_zero (S := S384x1024) hz]

theorem sum_B (hc : ¬cond0_0 i) : out0_B_3 c i a1 h1 a2 h2 a3 h3 a4 h4 hc x y z = k0_pay1 (F := Ideal) (k0_pay5 i x y) z := by
  unfold out0_B_3
  rw [View.read_writes_eq_canon _ _ _ (cover0_B_3 c i a1 h1 a2 h2 a3 h3 a4 h4 hc x y z)]
  unfold kernelRun0_B
  dsimp only
  sl_unfold_words
  rw [View.canon_unit_zero hz]
  simp only [View.readAt_eq_ld, h1.read_unread, h2.read_unread, h4.read_unread, View.ld_unit_zero (S := S384x1024) hz, View.ld_unit_zero (S := S8x128) hz]

end Cases

/-! ## The payloads at an element -/

/-- Whether a row of the padded array carries a token. -/
def Live (r : ℕ) : Prop := 64 ≤ r ∧ r < 4160
instance (r : ℕ) : Decidable (Live r) := inferInstanceAs (Decidable (_ ∧ _))

/-- The difference at a row and a column, zero off the tokens. -/
def diff (x y : EReal) (r : ℕ) : EReal := if Live r then x - y else 0

theorem mask (n r : ℕ) (hn : n < 11) (hr : r < 384) :
    (FloatOps.sitofp (F := Ideal) FTy.f32 (BitVec.setWidth 32 (IntOp.andi
      (IntOp.cmpi .sge (IntOp.addi (Scalar.muli (BitVec.ofNat 32 n) 384#32) (BitVec.ofNat 32 r)) 64#32)
      (IntOp.cmpi .slt (IntOp.addi (Scalar.muli (BitVec.ofNat 32 n) 384#32) (BitVec.ofNat 32 r)) 4160#32))) : EReal)
    = if Live (n * 384 + r) then 1 else 0 := by
  have e : IntOp.addi (Scalar.muli (BitVec.ofNat 32 n) 384#32) (BitVec.ofNat 32 r) = BitVec.ofNat 32 (n * 384 + r) := by
    unfold IntOp.addi Scalar.muli IntOp.muli
    rw [← BitVec.ofNat_mul, ← BitVec.ofNat_add]
  have h1 : IntOp.cmpi .sge (BitVec.ofNat 32 (n * 384 + r)) 64#32 = BitVec.ofBool (decide (64 ≤ n * 384 + r)) :=
    WordCmp.cmpi_sge_ofNat (by omega) (by omega)
  have h2 : IntOp.cmpi .slt (BitVec.ofNat 32 (n * 384 + r)) 4160#32 = BitVec.ofBool (decide (n * 384 + r < 4160)) :=
    WordCmp.cmpi_slt_ofNat (by omega) (by omega)
  rw [e, h1, h2]
  unfold Live
  by_cases a : 64 ≤ n * 384 + r <;> by_cases b : n * 384 + r < 4160 <;> simp [a, b, IntOp.andi, FloatOps.sitofp]

theorem pay2_apply (i : grid0.Coords) (x y : Vec Ideal S384x1024 .f32) (r : Fin 384) (d : Fin 1024) :
    (k0_pay2 (F := Ideal) i x y : S384x1024.Idx → EReal) (ix2 r d) = diff (x (ix2 r d)) (y (ix2 r d)) ((i 0).val * 384 + r.val) := by
  open Pointwise in unfold k0_pay2; pointwise []
  rw [mask _ _ (i 0).isLt r.isLt]
  unfold diff
  split <;> simp

/-- The sum of squares one grid point adds at a sublane and a lane. -/
def part (D : Fin 384 → Fin 1024 → EReal) (s : Fin 8) (l : Fin 128) : EReal :=
  ∑ j : Fin 8, ∑ g : Fin 48, D ⟨g.val * 8 + s.val, by omega⟩ ⟨j.val * 128 + l.val, by omega⟩ * D ⟨g.val * 8 + s.val, by omega⟩ ⟨j.val * 128 + l.val, by omega⟩

theorem pay5_apply (i : grid0.Coords) (x y : Vec Ideal S384x1024 .f32) (s : Fin 8) (l : Fin 128) :
    (k0_pay5 (F := Ideal) i x y : S8x128.Idx → EReal) (ix2 s l) = part (fun r d => k0_pay2 (F := Ideal) i x y (ix2 r d)) s l := by
  open Pointwise in unfold k0_pay5; pointwise []
  unfold part
  simp only [Fin.sum_univ_eight]
  simp

def κ : EReal := FloatOps.ofBits (F := Ideal) .f32 0x3A000000#32

theorem pay1_apply (x y : S8x128.Idx → EReal) (j : S8x128.Idx) :
    (k0_pay1 (F := Ideal) x y : S8x128.Idx → EReal) j = y j + x j * κ := by
  open Pointwise in unfold k0_pay1; pointwise []
  rfl

theorem pay4_apply (j : S8x128.Idx) : (k0_pay4 (F := Ideal) : S8x128.Idx → EReal) j = 0 := by
  open Pointwise in unfold k0_pay4; pointwise []

theorem pay3_apply (i : grid0.Coords) (x y : Vec Ideal S384x1024 .f32) (j : S384x1024.Idx) :
    (k0_pay3 (F := Ideal) i x y : S384x1024.Idx → EReal) j = k0_pay2 (F := Ideal) i x y j * FloatOps.ofBits (F := Ideal) .f32 0x3A800000#32 := by
  open Pointwise in unfold k0_pay3; pointwise []

/-! ## The accumulator after a point -/

section Points

variable (m : (ℓ : Loc nD τ sig) → Buf (Elt Ideal) ℓ) (c : Dev nD)

/-- What one point adds to the accumulator. -/
def step (t : Fin cfg0.N) (j : S8x128.Idx) : EReal := (k0_pay5 (F := Ideal) (grid0.coords t) (iblk m c 0 t) (iblk m c 1 t) : S8x128.Idx → EReal) j * κ

theorem grad_eq (t : Fin cfg0.N) : (outsAt0 (F := Ideal) m c t.val t.isLt).1 = k0_pay3 (F := Ideal) (grid0.coords t) (iblk m c 0 t) (iblk m c 1 t) := by
  by_cases h : t.val % 11 = 0
  · rw [outsAt0_A m c t h]
    dsimp only
    rw [grad_A]
  · rw [outsAt0_B m c t h]
    dsimp only
    rw [grad_B]

theorem sum_eq : ∀ (n : ℕ) (h : n < cfg0.N) (j : S8x128.Idx),
    (outsAt0 (F := Ideal) m c n h).2 j = ∑ t : Fin (n + 1), step m c ⟨t.val, by have := t.isLt; omega⟩ j
  | 0, h, j => by
    rw [outsAt0_A m c ⟨0, h⟩ rfl]
    dsimp only
    rw [sum_A, pay1_apply, pay4_apply, zero_add, Fin.sum_univ_one]
    rfl
  | n + 1, h, j => by
    have hN : cfg0.N = 11 := rfl
    rw [outsAt0_B m c ⟨n + 1, h⟩ (by show ¬(n + 1) % 11 = 0; omega)]
    dsimp only
    rw [sum_B, pay1_apply, Fin.sum_univ_castSucc]
    exact congrArg (· + _) (sum_eq n (by omega) j)

/-! ## The arrays after the region -/

abbrev pt (t : Fin cfg0.N) : Fin 11 := ⟨t.val, t.isLt⟩

def rowAt (t : Fin 11) (r : Fin 384) : Fin 4224 := ⟨t.val * 384 + r.val, by omega⟩

theorem at0 : ∀ t : Fin cfg0.N, (grid0.coords t 0).val = t.val := (by decide +kernel : ∀ t : Fin grid0.N, _)
theorem e0_0 : ∀ t : Fin cfg0.N, win0_0.index t = ![t.val, 0] := (by decide +kernel : ∀ t : Fin grid0.N, _)
theorem e0_1 : ∀ t : Fin cfg0.N, win0_1.index t = ![t.val, 0] := (by decide +kernel : ∀ t : Fin grid0.N, _)
theorem e0_2 : ∀ t : Fin cfg0.N, win0_2.index t = ![t.val, 0] := (by decide +kernel : ∀ t : Fin grid0.N, _)
theorem e0_3 : ∀ t : Fin cfg0.N, win0_3.index t = ![0, 0] := (by decide +kernel : ∀ t : Fin grid0.N, _)
theorem emb0_0 (t : Fin cfg0.N) (r : Fin 384) (d : Fin 1024) : (win0_0.blk t).view.emb (ix2 r d) = ix2 (rowAt (pt t) r) d := by
  blk_ext [e0_0, rowAt]
theorem emb0_1 (t : Fin cfg0.N) (r : Fin 384) (d : Fin 1024) : (win0_1.blk t).view.emb (ix2 r d) = ix2 (rowAt (pt t) r) d := by
  blk_ext [e0_1, rowAt]
theorem emb0_2 (t : Fin cfg0.N) (r : Fin 384) (d : Fin 1024) : (win0_2.blk t).view.emb (ix2 r d) = ix2 (rowAt (pt t) r) d := by
  blk_ext [e0_2, rowAt]
theorem emb0_3 (t : Fin cfg0.N) (s : Fin 8) (l : Fin 128) : (win0_3.blk t).view.emb (ix2 s l) = ix2 s l := by
  blk_ext [e0_3]
theorem last_of_flush : ∀ t : Fin cfg0.N, win0_3.flush t = true → t.val = 10 := (by decide +kernel : ∀ t : Fin grid0.N, _)

/-- The padded difference. -/
def D (r : Fin 4224) (d : Fin 1024) : EReal := diff (V m c main_v3 (ix2 r d)) (V m c main_v7 (ix2 r d)) r.val

theorem blk0 (t : Fin cfg0.N) (r : Fin 384) (d : Fin 1024) : (iblk m c 0 t : S384x1024.Idx → EReal) (ix2 r d) = V m c main_v3 (ix2 (rowAt (pt t) r) d) := by
  blk_simp [iblk]
  exact congrArg (V m c main_v3) (emb0_0 t r d)

theorem blk1 (t : Fin cfg0.N) (r : Fin 384) (d : Fin 1024) : (iblk m c 1 t : S384x1024.Idx → EReal) (ix2 r d) = V m c main_v7 (ix2 (rowAt (pt t) r) d) := by
  blk_simp [iblk]
  exact congrArg (V m c main_v7) (emb0_1 t r d)

theorem pay2_at (t : Fin cfg0.N) (r : Fin 384) (d : Fin 1024) :
    (k0_pay2 (F := Ideal) (grid0.coords t) (iblk m c 0 t) (iblk m c 1 t) : S384x1024.Idx → EReal) (ix2 r d) = D m c (rowAt (pt t) r) d := by
  refine (pay2_apply ..).trans ?_
  rw [blk0, blk1, at0]
  rfl

/-- The gradient's array. -/
theorem grad_arr : (dats m 0 c).arrAt 2 cfg0.N = fun j : S4224x1024.Idx => D m c (j 0) (j 1) * FloatOps.ofBits (F := Ideal) .f32 0x3A800000#32 := by
  refine (dats m 0 c).arrAt_eq_of_covers 2 _ (by decide +kernel) fun t hf y => ?_
  blk_simp
  rw [after0_2, grad_eq]
  idx_vars y
  refine (pay3_apply ..).trans ?_
  rw [pay2_at]
  have e := emb0_2 t y0 y1
  refine Eq.trans ?_ (congrArg (fun j : S4224x1024.Idx => D m c (j 0) (j 1) * FloatOps.ofBits (F := Ideal) .f32 0x3A800000#32) e.symm)
  rfl

/-- The accumulator's array. -/
theorem sum_arr : (dats m 0 c).arrAt 3 cfg0.N = fun j : S8x128.Idx => ∑ t : Fin 11, part (fun r d => D m c (rowAt t r) d) (j 0) (j 1) * κ := by
  refine (dats m 0 c).arrAt_eq_of_covers 3 _ (by decide +kernel) fun t hf y => ?_
  blk_simp
  rw [after0_3, sum_eq]
  idx_vars y
  have e := emb0_3 t y0 y1
  refine Eq.trans ?_ (congrArg (fun j : S8x128.Idx => ∑ t : Fin 11, part (fun r d => D m c (rowAt t r) d) (j 0) (j 1) * κ) e.symm)
  have ht := last_of_flush t hf
  obtain ⟨t, h⟩ := t
  subst ht
  have key : (∑ u : Fin 11, step m c ⟨u.val, u.isLt⟩ (ix2 y0 y1) : EReal) = ∑ u : Fin 11, part (fun r d => D m c (rowAt u r) d) y0 y1 * κ :=
    Finset.sum_congr rfl fun u _ => congrArg (· * κ) ((pay5_apply ..).trans (by simp only [pay2_at]))
  exact key

/-! ## The host's operations -/

theorem v3_eq : V m c main_v3 = concatenate S4224x1024 0
    [⟨S48x1024, broadcastInDim S48x1024 ![] bcast_S_S48x1024 (constant (F := Ideal) S_ .f32 0x00000000#32)⟩,
      ⟨S4112x1024, shapeCast S4112x1024 (m ((c : Thread nD τ).loc main_arg0)) shapeCasts_S1x4112x1024_S4112x1024⟩,
      ⟨S64x1024, broadcastInDim S64x1024 ![] bcast_S_S64x1024 (constant (F := Ideal) S_ .f32 0x00000000#32)⟩]
    concatenates_S48x1024_S4112x1024_S64x1024_S4224x1024_d0 := by
  after_reads_simp
  congr! 5
  trace_state
  all_goals first
    | (simp only [Matrix.cons_val_zero, Matrix.cons_val_one, Matrix.cons_val_two]; after_reads_simp; rfl)
    | rfl

theorem v7_eq : V m c main_v7 = concatenate S4224x1024 0
    [⟨S64x1024, broadcastInDim S64x1024 ![] bcast_S_S64x1024 (constant (F := Ideal) S_ .f32 0x00000000#32)⟩,
      ⟨S4096x1024, shapeCast S4096x1024 (m ((c : Thread nD τ).loc main_arg1)) shapeCasts_S1x4096x1024_S4096x1024⟩,
      ⟨S64x1024, broadcastInDim S64x1024 ![] bcast_S_S64x1024 (constant (F := Ideal) S_ .f32 0x00000000#32)⟩]
    concatenates_S64x1024_S4096x1024_S64x1024_S4224x1024_d0 := by
  after_reads_simp
  congr! 5
  all_goals first
    | (simp only [Matrix.cons_val_zero, Matrix.cons_val_one, Matrix.cons_val_two]; after_reads_simp; rfl)
    | rfl

/-- The output's array on a token's row. -/
theorem v3_row (r : Fin 4224) (d : Fin 1024) (h : Live r.val) : (V m c main_v3 : S4224x1024.Idx → EReal) (ix2 r d)
    = (m ((c : Thread nD τ).loc main_arg0) : S1x4112x1024.Idx → EReal) (ix3 0 ⟨r.val - 48, by have := h.2; omega⟩ d) := by
  have h1 := h.1
  have h2 := h.2
  rw [v3_eq]
  generalize (m ((c : Thread nD τ).loc main_arg0)) = X
  refine (concatenate_apply_piece (t := S4224x1024) 0 _ _ _ 1 ?_ S4112x1024 (shapeCast S4112x1024 X shapeCasts_S1x4112x1024_S4112x1024) ?_ rfl 48 ?_ (ix2 ⟨r.val - 48, by omega⟩ d) (fun b hb => ?_) ?_).trans ?_
  · simp
  · rfl
  · simp
  · fin_cases b
    · exact absurd rfl hb
    · rfl
  · show 48 + (r.val - 48) = r.val
    omega
  · refine shapeCast_apply (s := S1x4112x1024) X _ _ _ ?_
    rw [Shape.rowMajor_val_three, Shape.rowMajor_val_two]
    show (0 * 4112 + (r.val - 48)) * 1024 + d.val = (r.val - 48) * 1024 + d.val
    omega

/-- The target's array on a token's row. -/
theorem v7_row (r : Fin 4224) (d : Fin 1024) (h : Live r.val) : (V m c main_v7 : S4224x1024.Idx → EReal) (ix2 r d)
    = (m ((c : Thread nD τ).loc main_arg1) : S1x4096x1024.Idx → EReal) (ix3 0 ⟨r.val - 64, by have := h.1; have := h.2; omega⟩ d) := by
  have h1 := h.1
  have h2 := h.2
  rw [v7_eq]
  generalize (m ((c : Thread nD τ).loc main_arg1)) = X
  refine (concatenate_apply_piece (t := S4224x1024) 0 _ _ _ 1 ?_ S4096x1024 (shapeCast S4096x1024 X shapeCasts_S1x4096x1024_S4096x1024) ?_ rfl 64 ?_ (ix2 ⟨r.val - 64, by omega⟩ d) (fun b hb => ?_) ?_).trans ?_
  · simp
  · rfl
  · simp
  · fin_cases b
    · exact absurd rfl hb
    · rfl
  · show 64 + (r.val - 64) = r.val
    omega
  · refine shapeCast_apply (s := S1x4096x1024) X _ _ _ ?_
    rw [Shape.rowMajor_val_three, Shape.rowMajor_val_two]
    show (0 * 4096 + (r.val - 64)) * 1024 + d.val = (r.val - 64) * 1024 + d.val
    omega

/-- The difference at a token. -/
def tok (Y : S1x4112x1024.Idx → EReal) (T : S1x4096x1024.Idx → EReal) (i : Fin 4096) (d : Fin 1024) : EReal :=
  Y (ix3 0 ⟨16 + i.val, by omega⟩ d) - T (ix3 0 i d)

theorem D_dead {r : Fin 4224} (h : ¬Live r.val) (d : Fin 1024) : D m c r d = 0 := if_neg h

theorem D_live (i : Fin 4096) (d : Fin 1024) : D m c ⟨64 + i.val, by omega⟩ d
    = tok (m ((c : Thread nD τ).loc main_arg0)) (m ((c : Thread nD τ).loc main_arg1)) i d := by
  have h : Live (64 + i.val) := ⟨by omega, by omega⟩
  unfold D diff tok
  rw [if_pos h, v3_row m c _ d h, v7_row m c _ d h]
  have a1 : (⟨64 + i.val - 48, by omega⟩ : Fin 4112) = ⟨16 + i.val, by omega⟩ := Fin.ext (by show 64 + i.val - 48 = 16 + i.val; omega)
  have a2 : (⟨64 + i.val - 64, by omega⟩ : Fin 4096) = i := Fin.ext (by show 64 + i.val - 64 = i.val; omega)
  rw [a1, a2]

/-- The accumulator's total is the sum of squares over the tokens. -/
theorem total : ∑ s : Fin 8, ∑ l : Fin 128, ∑ t : Fin 11, part (fun r d => D m c (rowAt t r) d) s l * κ
    = (∑ i : Fin 4096, ∑ d : Fin 1024, tok (m ((c : Thread nD τ).loc main_arg0)) (m ((c : Thread nD τ).loc main_arg1)) i d
        * tok (m ((c : Thread nD τ).loc main_arg0)) (m ((c : Thread nD τ).loc main_arg1)) i d) * κ := by
  have hp : ∀ t s l, 0 ≤ part (fun r d => D m c (rowAt t r) d) s l := fun t s l =>
    Finset.sum_nonneg fun j _ => Finset.sum_nonneg fun g _ => sq_nonneg _
  have e1 : ∀ s l, ∑ t : Fin 11, part (fun r d => D m c (rowAt t r) d) s l * κ = (∑ t : Fin 11, part (fun r d => D m c (rowAt t r) d) s l) * κ :=
    fun s l => (sum_mul _ _ (fun t => hp t s l) κ).symm
  have e2 : ∀ s, ∑ l, (∑ t : Fin 11, part (fun r d => D m c (rowAt t r) d) s l) * κ = (∑ l, ∑ t : Fin 11, part (fun r d => D m c (rowAt t r) d) s l) * κ :=
    fun s => (sum_mul _ _ (fun l => Finset.sum_nonneg fun t _ => hp t s l) κ).symm
  simp only [e1, e2]
  rw [← sum_mul _ _ (fun s => Finset.sum_nonneg fun l _ => Finset.sum_nonneg fun t _ => hp t s l) κ]
  refine congrArg (· * κ) ?_
  have e3 : ∑ i : Fin 4096, ∑ d : Fin 1024, tok (m ((c : Thread nD τ).loc main_arg0)) (m ((c : Thread nD τ).loc main_arg1)) i d
        * tok (m ((c : Thread nD τ).loc main_arg0)) (m ((c : Thread nD τ).loc main_arg1)) i d
      = ∑ r : Fin 4224, ∑ d : Fin 1024, D m c r d * D m c r d := by
    rw [sum_window 64 4096 (by omega) (fun r : Fin 4224 => ∑ d : Fin 1024, D m c r d * D m c r d) fun r h =>
      Finset.sum_eq_zero fun d _ => by rw [D_dead m c h d, zero_mul]]
    exact Finset.sum_congr rfl fun i _ => Finset.sum_congr rfl fun d _ => by rw [D_live]
  have e4 : ∑ r : Fin 4224, ∑ d : Fin 1024, D m c r d * D m c r d
      = ∑ t : Fin 11, ∑ g : Fin 48, ∑ s : Fin 8, ∑ j : Fin 8, ∑ l : Fin 128,
        D m c (rowAt t ⟨g.val * 8 + s.val, by omega⟩) ⟨j.val * 128 + l.val, by omega⟩ * D m c (rowAt t ⟨g.val * 8 + s.val, by omega⟩) ⟨j.val * 128 + l.val, by omega⟩ := by
    rw [sum_split 11 384 rfl]
    refine Finset.sum_congr rfl fun t _ => ?_
    rw [sum_split 48 8 rfl]
    refine Finset.sum_congr rfl fun g _ => Finset.sum_congr rfl fun s _ => ?_
    rw [sum_split 8 128 rfl]
    rfl
  rw [e3, e4]
  unfold part
  -- bring the lane, sublane and point sums into one order
  rw [Finset.sum_congr rfl fun s _ => Finset.sum_comm, Finset.sum_comm]
  refine Finset.sum_congr rfl fun t _ => ?_
  rw [Finset.sum_comm (s := (Finset.univ : Finset (Fin 48)))]
  refine Finset.sum_congr rfl fun s _ => ?_
  rw [Finset.sum_congr rfl fun l _ => Finset.sum_comm, Finset.sum_comm]
  refine Finset.sum_congr rfl fun g _ => ?_
  rw [Finset.sum_comm]

/-! ## The results -/

theorem tail_v9 : Pipeline.afterTail₀ cfgs (dats m) 0 (V0 m) [hostOps1] c main_v9
    = extractStridedSlice S4112x1024 ![48, 0] (fun j : S4224x1024.Idx => D m c (j 0) (j 1) * FloatOps.ofBits (F := Ideal) .f32 0x3A800000#32) slices_S4224x1024_S4112x1024_48_0 := by
  unfold Pipeline.afterTail₀
  have e := (Pipeline.withArrays_arr spec0 launch0.win.arr_inj c (V0 m c) (fun w => (dats m 0 c).arrAt w cfg0.N) 2).trans (grad_arr m c)
  rw [← e]
  show StableHlo.after hostOps1 _ _ = _
  after_reads_simp

theorem tail_v10 : Pipeline.afterTail₀ cfgs (dats m) 0 (V0 m) [hostOps1] c main_v10
    = Host.reduceAdd (F := Ideal) (φ := .f32) (fun j : S8x128.Idx => ∑ t : Fin 11, part (fun r d => D m c (rowAt t r) d) (j 0) (j 1) * κ)
      (constant (F := Ideal) S_ .f32 0x00000000#32) reducesTo_S8x128_S_d0_1 h_S_ := by
  unfold Pipeline.afterTail₀
  have e := (Pipeline.withArrays_arr spec0 launch0.win.arr_inj c (V0 m c) (fun w => (dats m 0 c).arrAt w cfg0.N) 3).trans (sum_arr m c)
  rw [← e]
  show StableHlo.after hostOps1 _ _ = _
  after_reads_simp

end Points

/-- The kernel's run: both results, and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Pipeline.afterTail₀ cfgs (dats m) 0 (V0 m) [hostOps1] c main_v9
      ∧ r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).2 main_v9 (Pipeline.mem_restRefs_of main_v9 (by decide) (by decide)),
    (h c).2 main_v10 (Pipeline.mem_restRefs_of main_v10 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (Gen.run_main m ρ)

end Kernel

section Reference

open Cert.LossReferenceIdeal Cert.LossReferenceIdeal.Read

variable (Y : S1x4112x1024.Idx → EReal) (T : S1x4096x1024.Idx → EReal)

theorem diff_at (i : S1x4096x1024.Idx) : (val_main_v1 (F := Ideal) Y T : S1x4096x1024.Idx → EReal) i = tok Y T (i 1) (i 2) := by
  rw [val_main_v1_apply, val_main_v0_apply]
  idx_vars i
  clean_types
  unfold tok
  have e : idx_main_v0 (ix3 i0 i1 i2) = ix3 0 ⟨16 + i1.val, by omega⟩ i2 := by
    funext a
    match a with
    | ⟨0, _⟩ => exact Fin.ext (by have := i0.isLt; show i0.val = 0; omega)
    | ⟨1, _⟩ => rfl
    | ⟨2, _⟩ => rfl
  have e0 : i0 = 0 := Subsingleton.elim _ _
  rw [e, e0]
  rfl

theorem div_const (x : EReal) {b : ℝ} (hb : b ≠ 0) : Ideal.div x (b : EReal) = x * ((b⁻¹ : ℝ) : EReal) := by
  unfold Ideal.div
  rw [if_neg (by exact_mod_cast hb), EReal.coe_inv]

theorem c_half : (FloatOps.ofBits (F := Ideal) .f32 0x3F000000#32 : EReal) = ((1 / 2 : ℝ) : EReal) := by
  show Ideal.ofBits .f32 0x3F000000#32 = _
  simp [Ideal.ofBits, Ideal.ieee]
  rw [← EReal.coe_mul]
  norm_num
theorem c_one : (FloatOps.ofBits (F := Ideal) .f32 0x3F800000#32 : EReal) = ((1 : ℝ) : EReal) := by
  show Ideal.ofBits .f32 0x3F800000#32 = _
  simp [Ideal.ofBits, Ideal.ieee]
  rw [← EReal.coe_mul]
  norm_num
theorem c_two : (FloatOps.ofBits (F := Ideal) .f32 0x40000000#32 : EReal) = ((2 : ℝ) : EReal) := by
  show Ideal.ofBits .f32 0x40000000#32 = _
  simp [Ideal.ofBits, Ideal.ieee]
  rw [← EReal.coe_mul]
  norm_num
theorem c_dim : (FloatOps.ofBits (F := Ideal) .f32 0x44800000#32 : EReal) = ((1024 : ℝ) : EReal) := by
  show Ideal.ofBits .f32 0x44800000#32 = _
  simp [Ideal.ofBits, Ideal.ieee]
  rw [← EReal.coe_mul]
  norm_num
theorem c_mean : (FloatOps.ofBits (F := Ideal) .f32 0x3A800000#32 : EReal) = ((1 / 1024 : ℝ) : EReal) := by
  show Ideal.ofBits .f32 0x3A800000#32 = _
  simp [Ideal.ofBits, Ideal.ieee]
  rw [← EReal.coe_mul]
  norm_num
theorem c_kappa : κ = ((1 / 2048 : ℝ) : EReal) := by
  show Ideal.ofBits .f32 0x3A000000#32 = _
  simp [Ideal.ofBits, Ideal.ieee]
  rw [← EReal.coe_mul]
  norm_num

theorem loss_at (i : S_.Idx) : (val_main_v9 (F := Ideal) Y T : S_.Idx → EReal) i
    = (∑ i : Fin 4096, ∑ d : Fin 1024, tok Y T i d * tok Y T i d) * κ := by
  have e : ∀ r : Fin 4096, (val_main_v7 (F := Ideal) Y T : S1x4096.Idx → EReal) (ix2 0 r) = (∑ d : Fin 1024, tok Y T r d * tok Y T r d) * ((1024⁻¹ : ℝ) : EReal) := fun r => by
    rw [val_main_v7_apply, val_main_v6_apply, val_main_v5_apply, val_main_cst_0_apply, val_main_cst_1_apply, c_dim]
    refine (div_const _ (by norm_num)).trans (congrArg (· * _) ?_)
    refine (congrArg₂ (· + ·) Ideal.ofBits_zero_f32 (Finset.sum_congr rfl fun k _ => ?_)).trans (zero_add _)
    rw [val_main_v2_apply, diff_at]
    rfl
  rw [val_main_v9_apply, val_main_cst_3_apply, c_half, c_kappa, val_main_v8_apply, val_main_cst_2_apply]
  have e2 : (∑ j : S1x4096.Idx, (val_main_v7 (F := Ideal) Y T) j : EReal) = (∑ r : Fin 4096, ∑ d : Fin 1024, tok Y T r d * tok Y T r d) * ((1024⁻¹ : ℝ) : EReal) := by
    rw [sum_mul _ _ fun r => Finset.sum_nonneg fun d _ => sq_nonneg _]
    refine (sum_idx2 _).trans ?_
    rw [Fin.sum_univ_one]
    exact Finset.sum_congr rfl fun r _ => e r
  refine (congrArg (fun z : EReal => ((1 / 2 : ℝ) : EReal) * z) ((congrArg₂ (· + ·) Ideal.ofBits_zero_f32 e2).trans (zero_add _))).trans ?_
  rw [mul_comm, mul_assoc, ← EReal.coe_mul]
  norm_num

theorem grad_at (r : Fin 4112) (d : Fin 1024) : (val_main_v17 (F := Ideal) Y T : S4112x1024.Idx → EReal) (ix2 r d)
    = if h : 16 ≤ r.val then tok Y T ⟨r.val - 16, by omega⟩ d * ((1 / 1024 : ℝ) : EReal) else 0 := by
  have h15 : ∀ j : S1x4096x1024.Idx, (val_main_v15 (F := Ideal) Y T : S1x4096x1024.Idx → EReal) j = tok Y T (j 1) (j 2) * ((1 / 1024 : ℝ) : EReal) := fun j => by
    rw [val_main_v15_apply, val_main_v4_apply, diff_at]
    have e14 : (val_main_v14 (F := Ideal) j : EReal) = ((1 / 2048 : ℝ) : EReal) := by
      simp only [val_main_v14_apply, val_main_v13_apply, val_main_v12_apply, val_main_v11_apply, val_main_v10_apply, val_main_cst_4_apply, val_main_cst_5_apply, val_main_cst_6_apply, c_half, c_one, c_dim]
      refine (div_const _ (by norm_num)).trans ?_
      refine (congrArg (· * _) (EReal.coe_mul _ _).symm).trans ?_
      rw [← EReal.coe_mul]
      norm_num
    have e3 : (val_main_v3 (F := Ideal) j : EReal) = ((2 : ℝ) : EReal) := by
      rw [val_main_v3_apply, val_main_cst_apply, c_two]
    rw [e14, e3]
    show ((1 / 2048 : ℝ) : EReal) * (((2 : ℝ) : EReal) * _) = _
    rw [← mul_assoc, ← EReal.coe_mul, mul_comm]
    norm_num
  rw [val_main_v17_apply]
  unfold val_main_v16
  open Pointwise in pointwise []
  have e0 : (r.val * 1024 + d.val) / 1024 % 4112 = r.val := by omega
  have e1 : (r.val * 1024 + d.val) % 1024 = d.val := by omega
  simp only [e0, e1]
  by_cases h : 16 ≤ r.val
  · rw [dif_pos ⟨⟨h, by omega⟩, d.isLt⟩, dif_pos h, h15]
    rfl
  · rw [dif_neg fun hh => h hh.1.1, dif_neg h]
    exact Ideal.ofBits_zero_f32

theorem quiescent_reference : quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)

end Reference

section Claim

open Cert.LossKernelIdeal Cert.LossKernelIdeal.Gen

variable (m : (ℓ : Loc nD τ sig) → Buf (Elt Ideal) ℓ) (c : Dev nD)

theorem grads_agree : (Cert.LossReferenceIdeal.Read.val_main_v17 (F := Ideal) (m ((c : Thread nD τ).loc main_arg0)) (m ((c : Thread nD τ).loc main_arg1)))
    = Pipeline.afterTail₀ cfgs (dats m) 0 (V0 m) [hostOps1] c main_v9 := by
  rw [tail_v9]
  funext j
  idx_vars j
  refine (grad_at _ _ j0 j1).trans ?_
  open Pointwise in pointwise []
  have hm : Ideal.ofBits .f32 981467136#32 = ((1 / 1024 : ℝ) : EReal) := c_mean
  rw [hm]
  split
  · rename_i h
    refine congrArg (· * _) ((D_live m c ⟨j0.val - 16, by omega⟩ j1).symm.trans (congrArg (fun r => D m c r j1) (Fin.ext ?_)))
    show 64 + (j0.val - 16) = 48 + j0.val
    omega
  · rename_i h
    rw [D_dead m c (fun hh => h (by have := hh.1; dsimp only at this; omega)) j1, zero_mul]

theorem losses_agree : (Cert.LossReferenceIdeal.Read.val_main_v9 (F := Ideal) (m ((c : Thread nD τ).loc main_arg0)) (m ((c : Thread nD τ).loc main_arg1)))
    = Pipeline.afterTail₀ cfgs (dats m) 0 (V0 m) [hostOps1] c main_v10 := by
  rw [tail_v10]
  funext j
  refine (loss_at _ _ j).trans ?_
  rw [← total]
  simp only [Host.reduceAdd, Ideal.hostReduceAdd_def]
  refine Eq.trans ?_ (Ideal.hostReduceAdd_total reducesTo_S8x128_S_d0_1 (fun b => b.elim0) _ _ j).symm
  refine Eq.trans ?_ (congrArg₂ (· + ·) Ideal.ofBits_zero_f32.symm (sum_idx2 _).symm)
  exact (zero_add _).symm

/-- The kernel's gradient and loss are the reference's, over the extended reals. -/
theorem algebraic : algebraic_LossKernelIdeal_LossReferenceIdeal := by
  intro m ρ m' ρ' _ hagree
  refine ⟨_, _, kernel_run m ρ, ?_⟩
  refine (θ_run Cert.LossReferenceIdeal.defs _ _).mono (fun r h c => ?_) (Cert.LossReferenceIdeal.Value.run (F := Ideal) m' ρ')
  obtain ⟨e0, e1⟩ := hagree c
  obtain ⟨h1, h2, hr⟩ := h c
  refine ⟨h1.trans ?_, h2.trans ?_, hr⟩
  · rw [Cert.LossReferenceIdeal.Read.val_main_v17_eq, e0, e1]
    exact grads_agree m c
  · rw [Cert.LossReferenceIdeal.Read.val_main_v9_eq, e0, e1]
    exact losses_agree m c

end Claim

end Cert.Proof.Loss
end
-- ==== Proof.Norm.lean ====
/- The backward pass of a root-mean-square norm over the extended reals: one product form and the form of the chain rule agree,
   with no condition on the row. -/
module

public import proofs.«01_k».proof.Proof.Reals
public import proofs.«01_k».proof.Proof.Sums

@[expose] public section

noncomputable section

namespace Cert.Proof.Norm

open Idealize.ShloMosaic Cert.Proof.Reals Cert.Proof.Sums

/-- The norm's scale of a row is a nonnegative real number, and so is its quotient by the shifted mean square. -/
theorem scale {S : EReal} (hS : 0 ≤ S) {κ ε : ℝ} (hκ : 0 < κ) (hε : 0 < ε) : ∃ r : ℝ, 0 ≤ r ∧ Ideal.rsqrt (S * (κ : EReal) + (ε : EReal)) = (r : EReal)
    ∧ Ideal.div (Ideal.rsqrt (S * (κ : EReal) + (ε : EReal))) (S * (κ : EReal) + (ε : EReal)) = ((r * r * r : ℝ) : EReal) := by
  induction S with
  | bot => simp at hS
  | coe s =>
    have hs : 0 ≤ s := by exact_mod_cast hS
    have hq : 0 < s * κ + ε := by positivity
    rw [← EReal.coe_mul, ← EReal.coe_add, rsqrt_coe hq, div_coe _ hq.ne']
    refine ⟨_, by positivity, rfl, congrArg _ ?_⟩
    have h := Real.mul_self_sqrt hq.le
    have h0 : Real.sqrt (s * κ + ε) ≠ 0 := (Real.sqrt_pos.2 hq).ne'
    rw [← mul_inv, ← mul_inv, div_eq_mul_inv, ← mul_inv, h, mul_comm]
  | top =>
    rw [EReal.top_mul_coe_of_pos hκ, EReal.top_add_coe]
    refine ⟨0, le_rfl, rfl, ?_⟩
    show Ideal.div 0 ⊤ = _
    simp [Ideal.div]

/-- A nonnegative real factor goes into any sum. -/
theorem sum_mul_coe {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

theorem add_self (y : EReal) : y + y = ((2 : ℝ) : EReal) * y := by
  have e : ((2 : ℝ) : EReal) = 1 + 1 := by rw [← EReal.coe_one, ← EReal.coe_add]; norm_num
  rw [e, EReal.right_distrib_of_nonneg zero_le_one zero_le_one, one_mul]

/-- The gradient of a row's element: the product form is the chain rule's. -/
theorem back {ι : Type*} [Fintype ι] (x v : ι → EReal) (p : EReal) {r : ℝ} (hr : 0 ≤ r) (κ : ℝ) (d : ι) :
    p + (r : EReal) * (v d - x d * (r : EReal) * ((∑ k, v k * (x k * (r : EReal))) * (κ : EReal)))
    = p + v d * (r : EReal) + x d * ((∑ k, x k * v k) * (((-1 / 2 : ℝ) : EReal) * ((r * r * r : ℝ) : EReal)) * (κ : EReal))
      + (∑ k, x k * v k) * (((-1 / 2 : ℝ) : EReal) * ((r * r * r : ℝ) : EReal)) * (κ : EReal) * x d := by
  have hT : ∑ k, v k * (x k * (r : EReal)) = (∑ k, x k * v k) * (r : EReal) := by
    rw [sum_mul_coe _ _ hr]
    exact Finset.sum_congr rfl fun k _ => by rw [← mul_assoc, mul_comm (v k)]
  generalize (∑ k, x k * v k) = T at hT ⊢
  rw [hT, add_assoc, add_assoc]
  refine congrArg (p + ·) ?_
  rw [sub_eq_add_neg, EReal.left_distrib_of_nonneg_of_ne_top (by exact_mod_cast hr) (EReal.coe_ne_top r), mul_comm (r : EReal) (v d)]
  refine congrArg (v d * (r : EReal) + ·) ?_
  rw [mul_comm _ (x d), add_self]
  have e1 : (r : EReal) * -(x d * (r : EReal) * (T * (r : EReal) * (κ : EReal))) = -(x d * T * ((r * r * r * κ : ℝ) : EReal)) := by
    rw [EReal.coe_mul, EReal.coe_mul, EReal.coe_mul, mul_neg]
    refine congrArg Neg.neg ?_
    ac_rfl
  have e2 : ((2 : ℝ) : EReal) * (x d * (T * (((-1 / 2 : ℝ) : EReal) * ((r * r * r : ℝ) : EReal)) * (κ : EReal))) = x d * T * ((2 * (-1 / 2) * (r * r * r) * κ : ℝ) : EReal) := by
    simp only [EReal.coe_mul]
    ac_rfl
  rw [e1, e2, ← mul_neg, ← EReal.coe_neg]
  refine congrArg (fun z : ℝ => x d * T * (z : EReal)) ?_
  ring

/-! ## The norm of 1024 lanes -/

/-- The mean's factor and the norm's shift. -/
def κ : EReal := FloatOps.ofBits (F := Ideal) .f32 0x3A800000#32
def ε : EReal := FloatOps.ofBits (F := Ideal) .f32 0x358637BD#32

theorem div_const (x : EReal) {b : ℝ} (hb : b ≠ 0) : Ideal.div x (b : EReal) = x * ((b⁻¹ : ℝ) : EReal) := by
  unfold Ideal.div
  rw [if_neg (by exact_mod_cast hb), EReal.coe_inv]

theorem c_half : (FloatOps.ofBits (F := Ideal) .f32 0xBF000000#32 : EReal) = ((-1 / 2 : ℝ) : EReal) := by
  show Ideal.ofBits .f32 0xBF000000#32 = _
  simp [Ideal.ofBits, Ideal.ieee]
  rw [← EReal.coe_mul]
  norm_num
theorem c_dim : (FloatOps.ofBits (F := Ideal) .f32 0x44800000#32 : EReal) = ((1024 : ℝ) : EReal) := by
  show Ideal.ofBits .f32 0x44800000#32 = _
  simp [Ideal.ofBits, Ideal.ieee]
  rw [← EReal.coe_mul]
  norm_num
theorem c_kappa : κ = ((1024⁻¹ : ℝ) : EReal) := by
  show Ideal.ofBits .f32 0x3A800000#32 = _
  simp [Ideal.ofBits, Ideal.ieee]
  rw [← EReal.coe_mul]
  norm_num
theorem c_eps : ∃ e : ℝ, 0 < e ∧ ε = (e : EReal) := by
  refine ⟨_, ?_, by
    show Ideal.ofBits .f32 0x358637BD#32 = _
    simp [Ideal.ofBits, Ideal.ieee]
    rw [← EReal.coe_mul]⟩
  positivity

/-- A row's scale. -/
def rs (x : Fin 1024 → EReal) : EReal := Ideal.rsqrt ((∑ k, x k * x k) * κ + ε)

/-- The gradient of a row's element before the sum with the residual's. -/
def dn (x u g : Fin 1024 → EReal) (d : Fin 1024) : EReal :=
  rs x * (u d * g d - x d * rs x * ((∑ k, u k * g k * (x k * rs x)) * κ))

end Cert.Proof.Norm
end
-- ==== Proof.Inproj.lean ====
module

public import proofs.«01_k».proof.Defs
public import proofs.«01_k».proof.Proof.Gen.InprojKernelIdeal.Frame
public import proofs.«01_k».proof.Proof.Gen.InprojReferenceIdeal.Run
public import proofs.«01_k».proof.Proof.Gen.InprojReferenceIdeal.Read
public import proofs.«01_k».proof.Proof.Norm
public import Idealize.ShloMosaic.Lib.Pipeline.ValueKit
public import Idealize.ShloMosaic.Lib.StableHlo.RunRead
public import Idealize.ShloMosaic.Lib.Pointwise
public import Idealize.ShloMosaic.Lib.WordCmp
public import Idealize.ShloMosaic.Lib.Tactic.CleanTypes
public import Idealize.ShloMosaic.Lib.ValueIdx
public import Idealize.ShloMosaic.Lib.Quiescent

@[expose] public section

/-! # The gradient of the first norm and the input product -/

set_option maxRecDepth 16384

noncomputable section

namespace Cert.Proof.Inproj

open Idealize.ShloMosaic Idealize.ShloMosaic.TcCoe Idealize.SL.Sem Cert.Proof.Reals Cert.Proof.Sums Cert.Proof.Norm
open Idealize.ShloMosaic.Pipeline (Dat)

section Kernel

open Cert.InprojKernelIdeal Cert.InprojKernelIdeal.Gen

theorem hz : (![0, 0] : Fin 2 → Nat) = fun _ => 0 := funext fun a => by fin_cases a <;> rfl

/-- A load of a whole two-axis block reads its contents. -/
theorem ld0 {a b : ℕ} {Val : EltTy → Type} {e : EltTy} (inb) (X : (⟨2, ![a, b]⟩ : Shape).Idx → Val e) :
    View.ld X (Rect.unit (s := ⟨2, ![a, b]⟩) ![0, 0] ![a, b] inb) = X := View.ld_unit_zero (S := ⟨2, ![a, b]⟩) hz inb X

section Cases

variable (c : Dev nD) (i : grid0.Coords) (a1 : Memref sig .tc .vmem S384x6656 .bf16) (h1 : a1.IsWhole) (a2 : Memref sig .tc .vmem S384x1024 .f32) (h2 : a2.IsWhole)
  (a3 : Memref sig .tc .vmem S384x1024 .f32) (h3 : a3.IsWhole) (a4 : Memref sig .tc .vmem S1x1024 .f32) (h4 : a4.IsWhole) (a5 : Memref sig .tc .vmem S6656x1024 .bf16) (h5 : a5.IsWhole)
  (a6 : Memref sig .tc .vmem S384x1024 .f32) (h6 : a6.IsWhole) (a7 : Memref sig .tc .vmem S8x1024 .f32) (h7 : a7.IsWhole)
  (x0 : Vec Ideal S384x6656 .bf16) (x1 x2 : Vec Ideal S384x1024 .f32) (x3 : Vec Ideal S1x1024 .f32) (x4 : Vec Ideal S6656x1024 .bf16) (z : Vec Ideal S8x1024 .f32)

theorem dx_A (hc : cond0_0 i) : out0_A_5 c i a1 h1 a2 h2 a3 h3 a4 h4 a5 h5 a6 h6 a7 h7 hc x0 x1 x2 x3 x4 = k0_pay1 (k0_pay8 x0 x4 x1 x3) (k0_pay10 i) x2 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, Memref.IsWhole.read_unread, ld0]

theorem dx_B (hc : ¬cond0_0 i) : out0_B_5 c i a1 h1 a2 h2 a3 h3 a4 h4 a5 h5 a6 h6 a7 h7 hc x0 x1 x2 x3 x4 z = k0_pay1 (k0_pay8 x0 x4 x1 x3) (k0_pay10 i) x2 := by
  unfold out0_B_5
  rw [View.read_writes_eq_canon _ _ _ (cover0_B_5 c i a1 h1 a2 h2 a3 h3 a4 h4 a5 h5 a6 h6 a7 h7 hc x0 x1 x2 x3 x4 z)]
  unfold kernelRun0_B
  dsimp only
  sl_unfold_words
  rw [View.canon_unit_zero hz]
  simp only [View.readAt_eq_ld, Memref.IsWhole.read_unread, ld0]

theorem dg_A (hc : cond0_0 i) : out0_A_6 c i a1 h1 a2 h2 a3 h3 a4 h4 a5 h5 a6 h6 a7 h7 hc x0 x1 x2 x3 x4 = k0_pay3 (F := Ideal) (k0_pay9 x0 x4 x1) (k0_pay2 (F := Ideal)) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S8x1024) hz, View.readCov_unit_zero (S := S8x1024) _ hz]
  simp only [View.readAt_eq_ld, Memref.IsWhole.read_unread, ld0]

theorem dg_B (hc : ¬cond0_0 i) : out0_B_6 c i a1 h1 a2 h2 a3 h3 a4 h4 a5 h5 a6 h6 a7 h7 hc x0 x1 x2 x3 x4 z = k0_pay3 (F := Ideal) (k0_pay9 x0 x4 x1) z := by
  unfold out0_B_6
  rw [View.read_writes_eq_canon _ _ _ (cover0_B_6 c i a1 h1 a2 h2 a3 h3 a4 h4 a5 h5 a6 h6 a7 h7 hc x0 x1 x2 x3 x4 z)]
  unfold kernelRun0_B
  dsimp only
  sl_unfold_words
  rw [View.canon_unit_zero hz]
  simp only [View.readAt_eq_ld, Memref.IsWhole.read_unread, ld0]

end Cases

/-! ## The payloads at an element -/

/-- Whether a row of the padded arrays carries a token. -/
def Live (r : ℕ) : Prop := 48 ≤ r ∧ r < 4160
instance (r : ℕ) : Decidable (Live r) := inferInstanceAs (Decidable (_ ∧ _))

theorem mask (n r : ℕ) (hn : n < 11) (hr : r < 384) :
    (FloatOps.sitofp (F := Ideal) FTy.f32 (BitVec.setWidth 32 (IntOp.andi
      (IntOp.cmpi .sge (IntOp.addi (Scalar.muli (BitVec.ofNat 32 n) 384#32) (BitVec.ofNat 32 r)) 48#32)
      (IntOp.cmpi .slt (IntOp.addi (Scalar.muli (BitVec.ofNat 32 n) 384#32) (BitVec.ofNat 32 r)) 4160#32))) : EReal)
    = if Live (n * 384 + r) then 1 else 0 := by
  have e : IntOp.addi (Scalar.muli (BitVec.ofNat 32 n) 384#32) (BitVec.ofNat 32 r) = BitVec.ofNat 32 (n * 384 + r) := by
    unfold IntOp.addi Scalar.muli IntOp.muli
    rw [← BitVec.ofNat_mul, ← BitVec.ofNat_add]
  have h1 : IntOp.cmpi .sge (BitVec.ofNat 32 (n * 384 + r)) 48#32 = BitVec.ofBool (decide (48 ≤ n * 384 + r)) :=
    WordCmp.cmpi_sge_ofNat (by omega) (by omega)
  have h2 : IntOp.cmpi .slt (BitVec.ofNat 32 (n * 384 + r)) 4160#32 = BitVec.ofBool (decide (n * 384 + r < 4160)) :=
    WordCmp.cmpi_slt_ofNat (by omega) (by omega)
  rw [e, h1, h2]
  unfold Live
  by_cases a : 48 ≤ n * 384 + r <;> by_cases b : n * 384 + r < 4160 <;> simp [a, b, IntOp.andi, FloatOps.sitofp]

theorem pay4_apply (x0 : Vec Ideal S384x6656 .bf16) (x4 : Vec Ideal S6656x1024 .bf16) (r : Fin 384) (d : Fin 1024) :
    (k0_pay4 (F := Ideal) x0 x4 : S384x1024.Idx → EReal) (ix2 r d) = ∑ k : Fin 6656, x0 (ix2 r k) * x4 (ix2 k d) := by
  open Pointwise in unfold k0_pay4; pointwise []

theorem pay6_apply (x1 : Vec Ideal S384x1024 .f32) (r : Fin 384) (a : Fin 1) :
    (k0_pay6 (F := Ideal) x1 : S384x1.Idx → EReal) (ix2 r a) = rs fun k => x1 (ix2 r k) := by
  open Pointwise in unfold k0_pay6 k0_pay5; pointwise []
  rfl

theorem pay7_apply (x1 : Vec Ideal S384x1024 .f32) (r : Fin 384) (d : Fin 1024) :
    (k0_pay7 (F := Ideal) x1 : S384x1024.Idx → EReal) (ix2 r d) = x1 (ix2 r d) * rs fun k => x1 (ix2 r k) := by
  open Pointwise in unfold k0_pay7 k0_pay5; pointwise []
  rw [pay6_apply]

theorem pay8_apply (x0 : Vec Ideal S384x6656 .bf16) (x4 : Vec Ideal S6656x1024 .bf16) (x1 : Vec Ideal S384x1024 .f32) (x3 : Vec Ideal S1x1024 .f32) (r : Fin 384) (d : Fin 1024) :
    (k0_pay8 (F := Ideal) x0 x4 x1 x3 : S384x1024.Idx → EReal) (ix2 r d)
      = dn (fun k => x1 (ix2 r k)) (fun d => ∑ k : Fin 6656, x0 (ix2 r k) * x4 (ix2 k d)) (fun k => x3 (ix2 0 k)) d := by
  open Pointwise in unfold k0_pay8; pointwise []
  simp only [pay6_apply, pay7_apply, pay4_apply]
  rfl

theorem pay9_apply (x0 : Vec Ideal S384x6656 .bf16) (x4 : Vec Ideal S6656x1024 .bf16) (x1 : Vec Ideal S384x1024 .f32) (r : Fin 384) (d : Fin 1024) :
    (k0_pay9 (F := Ideal) x0 x4 x1 : S384x1024.Idx → EReal) (ix2 r d)
      = (∑ k : Fin 6656, x0 (ix2 r k) * x4 (ix2 k d)) * (x1 (ix2 r d) * rs fun k => x1 (ix2 r k)) := by
  open Pointwise in unfold k0_pay9; pointwise []
  rw [pay7_apply, pay4_apply]

theorem pay1_apply (i : grid0.Coords) (y : FVec Ideal S384x1024 .f32) (x2 : Vec Ideal S384x1024 .f32) (r : Fin 384) (d : Fin 1024) :
    (k0_pay1 (F := Ideal) y (k0_pay10 i) x2 : S384x1024.Idx → EReal) (ix2 r d) = if Live ((i 0).val * 384 + r.val) then x2 (ix2 r d) + y (ix2 r d) else 0 := by
  open Pointwise in unfold k0_pay1 k0_pay10; pointwise []
  rw [mask _ _ (i 0).isLt r.isLt]
  split <;> simp

theorem pay2_apply (j : S8x1024.Idx) : (k0_pay2 (F := Ideal) : S8x1024.Idx → EReal) j = 0 := by
  open Pointwise in unfold k0_pay2; pointwise []

theorem pay3_apply (y : FVec Ideal S384x1024 .f32) (z : Vec Ideal S8x1024 .f32) (s : Fin 8) (d : Fin 1024) :
    (k0_pay3 (F := Ideal) y z : S8x1024.Idx → EReal) (ix2 s d) = z (ix2 s d) + ∑ g : Fin 48, y (ix2 ⟨g.val * 8 + s.val, by omega⟩ d) := by
  open Pointwise in unfold k0_pay3; pointwise []

/-! ## The accumulator after a point -/

section Points

variable (m : (ℓ : Loc nD τ sig) → Buf (Elt Ideal) ℓ) (c : Dev nD)

/-- What one point adds to the accumulator. -/
def step (t : Fin cfg0.N) (s : Fin 8) (d : Fin 1024) : EReal :=
  ∑ g : Fin 48, (k0_pay9 (F := Ideal) (iblk m c 0 t) (iblk m c 4 t) (iblk m c 1 t) : S384x1024.Idx → EReal) (ix2 ⟨g.val * 8 + s.val, by omega⟩ d)

theorem dx_eq (t : Fin cfg0.N) : (outsAt0 (F := Ideal) m c t.val t.isLt).1
    = k0_pay1 (F := Ideal) (k0_pay8 (iblk m c 0 t) (iblk m c 4 t) (iblk m c 1 t) (iblk m c 3 t)) (k0_pay10 (grid0.coords t)) (iblk m c 2 t) := by
  by_cases h : t.val % 11 = 0
  · rw [outsAt0_A m c t h]
    dsimp only
    rw [dx_A]
  · rw [outsAt0_B m c t h]
    dsimp only
    rw [dx_B]

theorem dg_eq : ∀ (n : ℕ) (h : n < cfg0.N) (s : Fin 8) (d : Fin 1024),
    (outsAt0 (F := Ideal) m c n h).2 (ix2 s d) = ∑ t : Fin (n + 1), step m c ⟨t.val, by have := t.isLt; omega⟩ s d
  | 0, h, s, d => by
    rw [outsAt0_A m c ⟨0, h⟩ rfl]
    dsimp only
    rw [dg_A, pay3_apply, pay2_apply, zero_add, Fin.sum_univ_one]
    rfl
  | n + 1, h, s, d => by
    have hN : cfg0.N = 11 := rfl
    rw [outsAt0_B m c ⟨n + 1, h⟩ (by show ¬(n + 1) % 11 = 0; omega)]
    dsimp only
    rw [dg_B, pay3_apply]
    refine Eq.trans ?_ (Fin.sum_univ_castSucc _).symm
    refine congrArg₂ (fun a b : EReal => a + b) (dg_eq n (by omega) s d) ?_
    rfl

/-! ## The arrays after the region -/

abbrev pt (t : Fin cfg0.N) : Fin 11 := ⟨t.val, t.isLt⟩

def rowAt (t : Fin 11) (r : Fin 384) : Fin 4224 := ⟨t.val * 384 + r.val, by omega⟩

theorem at0 : ∀ t : Fin cfg0.N, (grid0.coords t 0).val = t.val := (by decide +kernel : ∀ t : Fin grid0.N, _)
theorem e0_0 : ∀ t : Fin cfg0.N, win0_0.index t = ![t.val, 0] := (by decide +kernel : ∀ t : Fin grid0.N, _)
theorem e0_1 : ∀ t : Fin cfg0.N, win0_1.index t = ![t.val, 0] := (by decide +kernel : ∀ t : Fin grid0.N, _)
theorem e0_2 : ∀ t : Fin cfg0.N, win0_2.index t = ![t.val, 0] := (by decide +kernel : ∀ t : Fin grid0.N, _)
theorem e0_3 : ∀ t : Fin cfg0.N, win0_3.index t = ![0, 0] := (by decide +kernel : ∀ t : Fin grid0.N, _)
theorem e0_4 : ∀ t : Fin cfg0.N, win0_4.index t = ![0, 0] := (by decide +kernel : ∀ t : Fin grid0.N, _)
theorem e0_5 : ∀ t : Fin cfg0.N, win0_5.index t = ![t.val, 0] := (by decide +kernel : ∀ t : Fin grid0.N, _)
theorem e0_6 : ∀ t : Fin cfg0.N, win0_6.index t = ![0, 0] := (by decide +kernel : ∀ t : Fin grid0.N, _)
theorem emb0_0 (t : Fin cfg0.N) (r : Fin 384) (k : Fin 6656) : (win0_0.blk t).view.emb (ix2 r k) = ix2 (rowAt (pt t) r) k := by
  blk_ext [e0_0, rowAt]
theorem emb0_1 (t : Fin cfg0.N) (r : Fin 384) (d : Fin 1024) : (win0_1.blk t).view.emb (ix2 r d) = ix2 (rowAt (pt t) r) d := by
  blk_ext [e0_1, rowAt]
theorem emb0_2 (t : Fin cfg0.N) (r : Fin 384) (d : Fin 1024) : (win0_2.blk t).view.emb (ix2 r d) = ix2 (rowAt (pt t) r) d := by
  blk_ext [e0_2, rowAt]
theorem emb0_3 (t : Fin cfg0.N) (a : Fin 1) (d : Fin 1024) : (win0_3.blk t).view.emb (ix2 a d) = ix2 a d := by
  blk_ext [e0_3]
theorem emb0_4 (t : Fin cfg0.N) (k : Fin 6656) (d : Fin 1024) : (win0_4.blk t).view.emb (ix2 k d) = ix2 k d := by
  blk_ext [e0_4]
theorem emb0_5 (t : Fin cfg0.N) (r : Fin 384) (d : Fin 1024) : (win0_5.blk t).view.emb (ix2 r d) = ix2 (rowAt (pt t) r) d := by
  blk_ext [e0_5, rowAt]
theorem emb0_6 (t : Fin cfg0.N) (s : Fin 8) (d : Fin 1024) : (win0_6.blk t).view.emb (ix2 s d) = ix2 s d := by
  blk_ext [e0_6]
theorem last_of_flush : ∀ t : Fin cfg0.N, win0_6.flush t = true → t.val = 10 := (by decide +kernel : ∀ t : Fin grid0.N, _)

/-- The padded arrays: the gradient of the product, the weight, the argument, the residual's gradient, the gain. -/
def U (r : Fin 4224) (k : Fin 6656) : EReal := V m c main_v31 (ix2 r k)
def W (k : Fin 6656) (d : Fin 1024) : EReal := V m c main_v18 (ix2 k d)
def X (r : Fin 4224) (d : Fin 1024) : EReal := V m c main_v34 (ix2 r d)
def P (r : Fin 4224) (d : Fin 1024) : EReal := V m c main_v37 (ix2 r d)
def G (d : Fin 1024) : EReal := V m c main_v38 (ix2 0 d)

theorem blk0 (t : Fin cfg0.N) (r : Fin 384) (k : Fin 6656) : (iblk m c 0 t : S384x6656.Idx → EReal) (ix2 r k) = U m c (rowAt (pt t) r) k := by
  blk_simp [iblk]
  exact congrArg (V m c main_v31) (emb0_0 t r k)
theorem blk1 (t : Fin cfg0.N) (r : Fin 384) (d : Fin 1024) : (iblk m c 1 t : S384x1024.Idx → EReal) (ix2 r d) = X m c (rowAt (pt t) r) d := by
  blk_simp [iblk]
  exact congrArg (V m c main_v34) (emb0_1 t r d)
theorem blk2 (t : Fin cfg0.N) (r : Fin 384) (d : Fin 1024) : (iblk m c 2 t : S384x1024.Idx → EReal) (ix2 r d) = P m c (rowAt (pt t) r) d := by
  blk_simp [iblk]
  exact congrArg (V m c main_v37) (emb0_2 t r d)
theorem blk3 (t : Fin cfg0.N) (d : Fin 1024) : (iblk m c 3 t : S1x1024.Idx → EReal) (ix2 0 d) = G m c d := by
  blk_simp [iblk]
  exact congrArg (V m c main_v38) (emb0_3 t 0 d)
theorem blk4 (t : Fin cfg0.N) (k : Fin 6656) (d : Fin 1024) : (iblk m c 4 t : S6656x1024.Idx → EReal) (ix2 k d) = W m c k d := by
  blk_simp [iblk]
  exact congrArg (V m c main_v18) (emb0_4 t k d)

/-- A padded row's gradient of the product's argument, of the norm's argument, and its part of the gain's. -/
def DH (r : Fin 4224) (d : Fin 1024) : EReal := ∑ k : Fin 6656, U m c r k * W m c k d
def DX (r : Fin 4224) (d : Fin 1024) : EReal := if Live r.val then P m c r d + dn (X m c r) (DH m c r) (G m c) d else 0
def DG (r : Fin 4224) (d : Fin 1024) : EReal := DH m c r d * (X m c r d * rs (X m c r))

/-- The gradient's array. -/
theorem dx_arr : (dats m 0 c).arrAt 5 cfg0.N = fun j : S4224x1024.Idx => DX m c (j 0) (j 1) := by
  refine (dats m 0 c).arrAt_eq_of_covers 5 _ (by decide +kernel) fun t hf y => ?_
  blk_simp
  rw [after0_5, dx_eq]
  idx_vars y
  refine (pay1_apply ..).trans ?_
  have e := emb0_5 t y0 y1
  refine Eq.trans ?_ (congrArg (fun j : S4224x1024.Idx => DX m c (j 0) (j 1)) e.symm)
  rw [at0, pay8_apply]
  simp only [blk0, blk1, blk2, blk3, blk4]
  rfl

theorem step_eq (t : Fin cfg0.N) (s : Fin 8) (d : Fin 1024) : step m c t s d = ∑ g : Fin 48, DG m c (rowAt (pt t) ⟨g.val * 8 + s.val, by omega⟩) d := by
  refine Finset.sum_congr rfl fun g _ => ?_
  rw [pay9_apply]
  simp only [blk0, blk1, blk4]
  rfl

/-- The accumulator after the last point. -/
def acc (s : Fin 8) (d : Fin 1024) : EReal := ∑ t : Fin 11, ∑ g : Fin 48, DG m c (rowAt t ⟨g.val * 8 + s.val, by omega⟩) d

theorem acc_eq (t : Fin cfg0.N) (h : t.val = 10) (s : Fin 8) (d : Fin 1024) : (outsAt0 (F := Ideal) m c t.val t.isLt).2 (ix2 s d) = acc m c s d := by
  refine (dg_eq m c t.val t.isLt s d).trans ?_
  obtain ⟨t, ht⟩ := t
  subst h
  exact Finset.sum_congr rfl fun u _ => step_eq m c _ s d

/-- The accumulator's array. -/
theorem dg_arr : (dats m 0 c).arrAt 6 cfg0.N = fun j : S8x1024.Idx => acc m c (j 0) (j 1) := by
  refine (dats m 0 c).arrAt_eq_of_covers 6 _ (by decide +kernel) fun t hf y => ?_
  blk_simp
  rw [after0_6]
  idx_vars y
  have e := emb0_6 t y0 y1
  refine Eq.trans ?_ (congrArg (fun j : S8x1024.Idx => acc m c (j 0) (j 1)) e.symm)
  exact acc_eq m c t (last_of_flush t hf) y0 y1

/-! ## The host's operations -/

/-- The product's gradient with its columns in the kernel's order. -/
def cols (A : FVec Ideal S4112x6560 .f32) : FVec Ideal S4112x6656 .f32 := concatenate S4112x6656 1
    [⟨S4112x3072, extractStridedSlice S4112x3072 ![0, 3488] A slices_S4112x6560_S4112x3072_0_3488⟩,
      ⟨S4112x1024, extractStridedSlice S4112x1024 ![0, 0] A slices_S4112x6560_S4112x1024_0_0⟩,
      ⟨S4112x2048, extractStridedSlice S4112x2048 ![0, 1440] A slices_S4112x6560_S4112x2048_0_1440⟩,
      ⟨S4112x256, extractStridedSlice S4112x256 ![0, 1024] A slices_S4112x6560_S4112x256_0_1024⟩,
      ⟨S4112x128, extractStridedSlice S4112x128 ![0, 1280] A slices_S4112x6560_S4112x128_0_1280⟩,
      ⟨S4112x64, broadcastInDim S4112x64 ![] bcast_S_S4112x64 (constant (F := Ideal) S_ .f32 0x00000000#32)⟩,
      ⟨S4112x32, extractStridedSlice S4112x32 ![0, 1408] A slices_S4112x6560_S4112x32_0_1408⟩,
      ⟨S4112x32, broadcastInDim S4112x32 ![] bcast_S_S4112x32 (constant (F := Ideal) S_ .f32 0x00000000#32)⟩]
    concatenates_S4112x3072_S4112x1024_S4112x2048_S4112x256_S4112x128_S4112x64_S4112x32_S4112x32_S4112x6656_d1

/-- The weight with its columns in the kernel's order. -/
def wcols (A : FVec Ideal S1024x6560 .f32) : FVec Ideal S1024x6656 .bf16 := concatenate S1024x6656 1
    [⟨S1024x1432, extractStridedSlice S1024x1432 ![0, 208] (truncf .bf16 (extractStridedSlice S1024x1640 ![0, 3280] A slices_S1024x6560_S1024x1640_0_3280) bitsLt_bf16_f32) slices_S1024x1640_S1024x1432_0_208⟩,
      ⟨S1024x1640, (truncf .bf16 (extractStridedSlice S1024x1640 ![0, 4920] A slices_S1024x6560_S1024x1640_0_4920) bitsLt_bf16_f32)⟩,
      ⟨S1024x1024, extractStridedSlice S1024x1024 ![0, 0] (truncf .bf16 (extractStridedSlice S1024x1640 ![0, 0] A slices_S1024x6560_S1024x1640_0_0) bitsLt_bf16_f32) slices_S1024x1640_S1024x1024_0_0⟩,
      ⟨S1024x200, extractStridedSlice S1024x200 ![0, 1440] (truncf .bf16 (extractStridedSlice S1024x1640 ![0, 0] A slices_S1024x6560_S1024x1640_0_0) bitsLt_bf16_f32) slices_S1024x1640_S1024x200_0_1440⟩,
      ⟨S1024x1640, (truncf .bf16 (extractStridedSlice S1024x1640 ![0, 1640] A slices_S1024x6560_S1024x1640_0_1640) bitsLt_bf16_f32)⟩,
      ⟨S1024x208, extractStridedSlice S1024x208 ![0, 0] (truncf .bf16 (extractStridedSlice S1024x1640 ![0, 3280] A slices_S1024x6560_S1024x1640_0_3280) bitsLt_bf16_f32) slices_S1024x1640_S1024x208_0_0⟩,
      ⟨S1024x256, extractStridedSlice S1024x256 ![0, 1024] (truncf .bf16 (extractStridedSlice S1024x1640 ![0, 0] A slices_S1024x6560_S1024x1640_0_0) bitsLt_bf16_f32) slices_S1024x1640_S1024x256_0_1024⟩,
      ⟨S1024x128, extractStridedSlice S1024x128 ![0, 1280] (truncf .bf16 (extractStridedSlice S1024x1640 ![0, 0] A slices_S1024x6560_S1024x1640_0_0) bitsLt_bf16_f32) slices_S1024x1640_S1024x128_0_1280⟩,
      ⟨S1024x64, broadcastInDim S1024x64 ![] bcast_S_S1024x64 (constant (F := Ideal) S_ .bf16 0x0000#16)⟩,
      ⟨S1024x32, extractStridedSlice S1024x32 ![0, 1408] (truncf .bf16 (extractStridedSlice S1024x1640 ![0, 0] A slices_S1024x6560_S1024x1640_0_0) bitsLt_bf16_f32) slices_S1024x1640_S1024x32_0_1408⟩,
      ⟨S1024x32, broadcastInDim S1024x32 ![] bcast_S_S1024x32 (constant (F := Ideal) S_ .bf16 0x0000#16)⟩]
    concatenates_S1024x1432_S1024x1640_S1024x1024_S1024x200_S1024x1640_S1024x208_S1024x256_S1024x128_S1024x64_S1024x32_S1024x32_S1024x6656_d1

theorem v31_eq : V m c main_v31 = truncf .bf16 (concatenate S4224x6656 0
    [⟨S48x6656, broadcastInDim S48x6656 ![] bcast_S_S48x6656 (constant (F := Ideal) S_ .f32 0x00000000#32)⟩,
      ⟨S4112x6656, cols (m ((c : Thread nD τ).loc main_arg4))⟩,
      ⟨S64x6656, broadcastInDim S64x6656 ![] bcast_S_S64x6656 (constant (F := Ideal) S_ .f32 0x00000000#32)⟩]
    concatenates_S48x6656_S4112x6656_S64x6656_S4224x6656_d0) bitsLt_bf16_f32 := by
  unfold cols
  after_reads_simp
  congr! 6
  all_goals first
    | (simp only [Matrix.cons_val_zero, Matrix.cons_val_one, Matrix.cons_val_two]; after_reads_simp; rfl)
    | rfl

theorem v18_eq : V m c main_v18 = transpose S6656x1024 [1, 0] (wcols (m ((c : Thread nD τ).loc main_arg2))) transposes_S1024x6656_S6656x1024_1_0 := by
  unfold wcols
  after_reads_simp
  congr! 6
  all_goals first
    | (simp only [Matrix.cons_val_zero, Matrix.cons_val_one, Matrix.cons_val_two]; after_reads_simp; rfl)
    | rfl

theorem v34_eq : V m c main_v34 = concatenate S4224x1024 0
    [⟨S48x1024, broadcastInDim S48x1024 ![] bcast_S_S48x1024 (constant (F := Ideal) S_ .f32 0x00000000#32)⟩,
      ⟨S4112x1024, m ((c : Thread nD τ).loc main_arg0)⟩,
      ⟨S64x1024, broadcastInDim S64x1024 ![] bcast_S_S64x1024 (constant (F := Ideal) S_ .f32 0x00000000#32)⟩]
    concatenates_S48x1024_S4112x1024_S64x1024_S4224x1024_d0 := by
  after_reads_simp
  congr! 5
  all_goals first
    | (simp only [Matrix.cons_val_zero, Matrix.cons_val_one, Matrix.cons_val_two]; after_reads_simp; rfl)
    | rfl

theorem X_row (r : Fin 4112) (d : Fin 1024) : X m c ⟨48 + r.val, by omega⟩ d = (m ((c : Thread nD τ).loc main_arg0) : S4112x1024.Idx → EReal) (ix2 r d) := by
  unfold X
  rw [v34_eq]
  generalize (m ((c : Thread nD τ).loc main_arg0)) = A
  open Pointwise in pointwise []

theorem v37_eq : V m c main_v37 = concatenate S4224x1024 0
    [⟨S48x1024, broadcastInDim S48x1024 ![] bcast_S_S48x1024 (constant (F := Ideal) S_ .f32 0x00000000#32)⟩,
      ⟨S4112x1024, m ((c : Thread nD τ).loc main_arg3)⟩,
      ⟨S64x1024, broadcastInDim S64x1024 ![] bcast_S_S64x1024 (constant (F := Ideal) S_ .f32 0x00000000#32)⟩]
    concatenates_S48x1024_S4112x1024_S64x1024_S4224x1024_d0 := by
  after_reads_simp
  congr! 5
  all_goals first
    | (simp only [Matrix.cons_val_zero, Matrix.cons_val_one, Matrix.cons_val_two]; after_reads_simp; rfl)
    | rfl

theorem P_row (r : Fin 4112) (d : Fin 1024) : P m c ⟨48 + r.val, by omega⟩ d = (m ((c : Thread nD τ).loc main_arg3) : S4112x1024.Idx → EReal) (ix2 r d) := by
  unfold P
  rw [v37_eq]
  generalize (m ((c : Thread nD τ).loc main_arg3)) = A
  open Pointwise in pointwise []

theorem G_at (d : Fin 1024) : G m c d = (m ((c : Thread nD τ).loc main_arg1) : S1024.Idx → EReal) (ix1 d) := by
  unfold G
  after_reads_simp
  generalize (m ((c : Thread nD τ).loc main_arg1)) = A
  open Pointwise in pointwise []

/-- Where a column of the weight stands in the kernel's order. -/
def At (n : Fin 6560) (k : Fin 6656) : Prop :=
  (n.val < 1024 ∧ k.val = 3072 + n.val) ∨ (1024 ≤ n.val ∧ n.val < 1408 ∧ k.val = 5120 + n.val) ∨ (1408 ≤ n.val ∧ n.val < 1440 ∧ k.val = 5184 + n.val)
    ∨ (1440 ≤ n.val ∧ n.val < 3488 ∧ k.val = 2656 + n.val) ∨ (3488 ≤ n.val ∧ k.val = n.val - 3488)

/-- The columns of zeros. -/
def Empty (k : Fin 6656) : Prop := (6528 ≤ k.val ∧ k.val < 6592) ∨ 6624 ≤ k.val

theorem cols_at (A : FVec Ideal S4112x6560 .f32) (r : Fin 4112) (n : Fin 6560) (k : Fin 6656) (h : At n k) : (cols A : S4112x6656.Idx → EReal) (ix2 r k) = A (ix2 r n) := by
  unfold At at h
  unfold cols
  open Pointwise in pointwise []
  split_ifs <;> first
    | exact congrArg A (congrArg (ix2 r) (Fin.ext (by simp only []; omega)))
    | (exfalso; omega)

theorem cols_empty (A : FVec Ideal S4112x6560 .f32) (r : Fin 4112) (k : Fin 6656) (h : Empty k) : (cols A : S4112x6656.Idx → EReal) (ix2 r k) = 0 := by
  unfold Empty at h
  unfold cols
  open Pointwise in pointwise []
  split_ifs <;> first
    | rfl
    | (exfalso; omega)

theorem wcols_at (A : FVec Ideal S1024x6560 .f32) (r : Fin 1024) (n : Fin 6560) (k : Fin 6656) (h : At n k) : (wcols A : S1024x6656.Idx → EReal) (ix2 r k) = A (ix2 r n) := by
  unfold At at h
  unfold wcols
  open Pointwise in pointwise []
  have c : k.val < 1432 ∨ (1432 ≤ k.val ∧ k.val < 3072) ∨ (3072 ≤ k.val ∧ k.val < 4096) ∨ (4096 ≤ k.val ∧ k.val < 4296) ∨ (4296 ≤ k.val ∧ k.val < 5936)
      ∨ (5936 ≤ k.val ∧ k.val < 6144) ∨ (6144 ≤ k.val ∧ k.val < 6400) ∨ (6400 ≤ k.val ∧ k.val < 6528) ∨ (6528 ≤ k.val ∧ k.val < 6592) ∨ (6592 ≤ k.val ∧ k.val < 6624) ∨ 6624 ≤ k.val := by omega
  rcases c with c | c | c | c | c | c | c | c | c | c | c
  all_goals
    repeat first
      | rw [dif_pos (by omega)]
      | rw [dif_neg (by omega)]
    first
      | (refine congrArg A (congrArg (ix2 r) (Fin.ext ?_)); dsimp only; omega)
      | (exfalso; omega)

def dst (n : Fin 6560) : Fin 6656 :=
  ⟨if n.val < 1024 then 3072 + n.val else if n.val < 1408 then 5120 + n.val else if n.val < 1440 then 5184 + n.val else if n.val < 3488 then 2656 + n.val else n.val - 3488, by
    split_ifs <;> omega⟩

theorem at_dst (n : Fin 6560) : At n (dst n) := by
  unfold At dst
  dsimp only
  split_ifs <;> omega

theorem empty_of (k : Fin 6656) (h : ∀ n, dst n ≠ k) : Empty k := by
  have hk := k.isLt
  unfold Empty
  by_contra hc
  have f : ∀ (n : ℕ) (hn : n < 6560), (if n < 1024 then 3072 + n else if n < 1408 then 5120 + n else if n < 1440 then 5184 + n else if n < 3488 then 2656 + n else n - 3488) ≠ k.val :=
    fun n hn e => h ⟨n, hn⟩ (Fin.ext e)
  by_cases h1 : k.val < 3072
  · exact f (k.val + 3488) (by omega) (by split_ifs <;> omega)
  by_cases h2 : k.val < 4096
  · exact f (k.val - 3072) (by omega) (by split_ifs <;> omega)
  by_cases h3 : k.val < 6144
  · exact f (k.val - 2656) (by omega) (by split_ifs <;> omega)
  by_cases h4 : k.val < 6528
  · exact f (k.val - 5120) (by omega) (by split_ifs <;> omega)
  · exact f (k.val - 5184) (by omega) (by split_ifs <;> omega)

theorem U_row (r : Fin 4112) (k : Fin 6656) : U m c ⟨48 + r.val, by omega⟩ k = (cols (m ((c : Thread nD τ).loc main_arg4)) : S4112x6656.Idx → EReal) (ix2 r k) := by
  unfold U
  rw [v31_eq]
  generalize cols (m ((c : Thread nD τ).loc main_arg4)) = A
  open Pointwise in pointwise []

theorem U_dead (r : Fin 4224) (k : Fin 6656) (h : ¬Live r.val) : U m c r k = 0 := by
  unfold Live at h
  unfold U
  rw [v31_eq]
  generalize cols (m ((c : Thread nD τ).loc main_arg4)) = A
  open Pointwise in pointwise []
  split_ifs <;> first
    | rfl
    | (exfalso; omega)

theorem W_at (k : Fin 6656) (d : Fin 1024) : W m c k d = (wcols (m ((c : Thread nD τ).loc main_arg2)) : S1024x6656.Idx → EReal) (ix2 d k) := by
  unfold W
  rw [v18_eq]
  generalize wcols (m ((c : Thread nD τ).loc main_arg2)) = A
  open Pointwise in pointwise []

/-- The product with the weight's transpose. -/
def dh (A : S4112x6560.Idx → EReal) (B : S1024x6560.Idx → EReal) (r : Fin 4112) (d : Fin 1024) : EReal := ∑ n : Fin 6560, A (ix2 r n) * B (ix2 d n)

theorem DH_row (r : Fin 4112) (d : Fin 1024) : DH m c ⟨48 + r.val, by omega⟩ d = dh (m ((c : Thread nD τ).loc main_arg4)) (m ((c : Thread nD τ).loc main_arg2)) r d := by
  unfold DH dh
  symm
  refine Finset.sum_of_injOn dst (fun a _ b _ e => ?_) (fun _ _ => Finset.mem_coe.2 (Finset.mem_univ _)) (fun k _ hk => ?_) (fun n _ => ?_)
  · have e := congrArg Fin.val e
    unfold dst at e
    dsimp only at e
    refine Fin.ext ?_
    split_ifs at e <;> omega
  · rw [U_row, cols_empty _ _ _ (empty_of k fun n e => hk ⟨n, Finset.mem_coe.2 (Finset.mem_univ _), e⟩), zero_mul]
  · rw [U_row, W_at, cols_at _ _ _ _ (at_dst n), wcols_at _ _ _ _ (at_dst n)]

theorem DH_dead (r : Fin 4224) (d : Fin 1024) (h : ¬Live r.val) : DH m c r d = 0 :=
  Finset.sum_eq_zero fun k _ => by rw [U_dead m c r k h, zero_mul]

/-- The arguments as arrays of extended reals. -/
def arg0 : S4112x1024.Idx → EReal := m ((c : Thread nD τ).loc main_arg0)
def arg1 : S1024.Idx → EReal := m ((c : Thread nD τ).loc main_arg1)
def arg2 : S1024x6560.Idx → EReal := m ((c : Thread nD τ).loc main_arg2)
def arg3 : S4112x1024.Idx → EReal := m ((c : Thread nD τ).loc main_arg3)
def arg4 : S4112x6560.Idx → EReal := m ((c : Thread nD τ).loc main_arg4)

/-- The gradient's row at a token, and the gain's. -/
theorem DX_row (r : Fin 4112) (d : Fin 1024) : DX m c ⟨48 + r.val, by omega⟩ d
    = arg3 m c (ix2 r d) + dn (fun k => arg0 m c (ix2 r k))
      (dh (arg4 m c) (arg2 m c) r) (fun k => arg1 m c (ix1 k)) d := by
  have hx : X m c ⟨48 + r.val, by omega⟩ = fun k => arg0 m c (ix2 r k) := funext fun k => X_row m c r k
  have hd : DH m c ⟨48 + r.val, by omega⟩ = dh (arg4 m c) (arg2 m c) r := funext fun k => DH_row m c r k
  have hg : G m c = fun k => arg1 m c (ix1 k) := funext fun k => G_at m c k
  unfold DX
  rw [if_pos ⟨by show 48 ≤ 48 + r.val; omega, by show 48 + r.val < 4160; omega⟩, P_row, hx, hd, hg]
  rfl

theorem DG_row (r : Fin 4112) (d : Fin 1024) : DG m c ⟨48 + r.val, by omega⟩ d
    = dh (arg4 m c) (arg2 m c) r d
      * (arg0 m c (ix2 r d) * rs fun k => arg0 m c (ix2 r k)) := by
  have hx : X m c ⟨48 + r.val, by omega⟩ = fun k => arg0 m c (ix2 r k) := funext fun k => X_row m c r k
  unfold DG
  rw [DH_row, hx]
  rfl

/-- The accumulator's rows add up to the sum over the tokens. -/
theorem acc_sum (d : Fin 1024) : ∑ s : Fin 8, acc m c s d = ∑ r : Fin 4112, DG m c ⟨48 + r.val, by omega⟩ d := by
  rw [← sum_window 48 4112 (by omega) (fun r : Fin 4224 => DG m c r d) fun r h => by
    unfold DG
    rw [DH_dead m c r d h, zero_mul], sum_split 11 384 rfl]
  unfold acc
  rw [Finset.sum_comm]
  refine Finset.sum_congr rfl fun t _ => ?_
  rw [sum_split 48 8 rfl, Finset.sum_comm]
  rfl

/-! ## The results -/

theorem tail_v40 : Pipeline.afterTail₀ cfgs (dats m) 0 (V0 m) [hostOps1] c main_v40
    = Host.reduceAdd (F := Ideal) (φ := .f32) (fun j : S8x1024.Idx => acc m c (j 0) (j 1)) (constant (F := Ideal) S_ .f32 0x00000000#32) reducesTo_S8x1024_S1024_d0 h_S_ := by
  unfold Pipeline.afterTail₀
  have e := (Pipeline.withArrays_arr spec0 launch0.win.arr_inj c (V0 m c) (fun w => (dats m 0 c).arrAt w cfg0.N) 6).trans (dg_arr m c)
  rw [← e]
  show StableHlo.after hostOps1 _ _ = _
  after_reads_simp

end Points

/-- The kernel's run: both results, and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39_0) = (fun j : S4224x1024.Idx => DX m c (j 0) (j 1))
      ∧ r.2.mem ((c.tc : Thread nD τ).loc main_v40) = Pipeline.afterTail₀ cfgs (dats m) 0 (V0 m) [hostOps1] c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (dx_arr m c),
    (h c).2 main_v40 (Pipeline.mem_restRefs_of main_v40 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (Gen.run_main m ρ)

end Kernel

section Reference

open Cert.InprojReferenceIdeal Cert.InprojReferenceIdeal.Read

variable (x : S4112x1024.Idx → EReal) (g : S1024.Idx → EReal) (w : S1024x6560.Idx → EReal) (p : S4112x1024.Idx → EReal) (u : S4112x6560.Idx → EReal)

abbrev row (r : Fin 4112) (k : Fin 1024) : EReal := x (ix2 r k)

theorem i1 (r : Fin 4112) (a : Fin 1) (k : Fin 1024) : idx_main_v1 (idx_main_v2 (ix2 r a)) k = ix2 r k := funext fun b => match b with
  | ⟨0, _⟩ => rfl
  | ⟨1, _⟩ => rfl
theorem i11 (r : Fin 4112) (k : Fin 1024) : idx_main_v11 (ix2 r k) = ix2 r 0 := funext fun b => match b with
  | ⟨0, _⟩ => rfl
  | ⟨1, _⟩ => rfl
theorem i27 (r : Fin 4112) (k : Fin 1024) : idx_main_v27 (ix2 r k) = ix2 r 0 := funext fun b => match b with
  | ⟨0, _⟩ => rfl
  | ⟨1, _⟩ => rfl
theorem i34 (r : Fin 4112) (k : Fin 1024) : idx_main_v33 (idx_main_v34 (ix2 r k)) 0 = ix2 r 0 := funext fun b => match b with
  | ⟨0, _⟩ => rfl
  | ⟨1, _⟩ => rfl
theorem i25 (r : Fin 4112) (a : Fin 1) (k : Fin 1024) : idx_main_v25 (idx_main_v26 (ix2 r a)) k = ix2 r k := funext fun b => match b with
  | ⟨0, _⟩ => Fin.ext (by have := a.isLt; show r.val * 1 + a.val = r.val; omega)
  | ⟨1, _⟩ => rfl
theorem i21 (r : Fin 4112) (k : Fin 1024) : idx_main_v13 (idx_main_v21 (ix2 r k)) = ix1 k := funext fun b => match b with
  | ⟨0, _⟩ => rfl
theorem i19 (r : Fin 4112) (k : Fin 1024) : idx_main_v19 (idx_main_v20 (idx_main_v23 (ix1 k) 0)) r = ix2 r k := funext fun b => match b with
  | ⟨0, _⟩ => rfl
  | ⟨1, _⟩ => Fin.ext (by show 0 * 1024 + k.val = k.val; omega)
theorem l17 (r : Fin 4112) (k : Fin 1024) (n : Fin 6560) : lidx_main_v17 (ix2 r k) n = ix2 r n := funext fun b => match b with
  | ⟨0, _⟩ => rfl
  | ⟨1, _⟩ => rfl
theorem r17 (r : Fin 4112) (k : Fin 1024) (n : Fin 6560) : ridx_main_v17 (ix2 r k) n = ix2 k n := funext fun b => match b with
  | ⟨0, _⟩ => rfl
  | ⟨1, _⟩ => rfl

theorem ms_at (r : Fin 4112) (a : Fin 1) : (val_main_v6 (F := Ideal) x : S4112x1.Idx → EReal) (ix2 r a) = (∑ k, row x r k * row x r k) * κ + ε := by
  rw [val_main_v6_apply, val_main_v5_apply, val_main_cst_1_apply, val_main_v4_apply, val_main_v3_apply, val_main_cst_0_apply, c_dim, val_main_v2_apply, val_main_v1_apply, val_main_cst_apply, c_kappa]
  refine congrArg₂ (fun a b : EReal => a + b) ((div_const _ (by norm_num)).trans (congrArg (fun a : EReal => a * _) ?_)) rfl
  refine (congrArg₂ (fun a b : EReal => a + b) Ideal.ofBits_zero_f32 (Finset.sum_congr rfl fun k _ => ?_)).trans (zero_add _)
  rw [val_main_v0_apply, i1]
  rfl

theorem rs_at (r : Fin 4112) (a : Fin 1) : (val_main_v7 (F := Ideal) x : S4112x1.Idx → EReal) (ix2 r a) = rs (row x r) := by
  rw [val_main_v7_apply, ms_at]
  rfl

theorem dh_at (r : Fin 4112) (d : Fin 1024) : (val_main_v17 (F := Ideal) w u : S4112x1024.Idx → EReal) (ix2 r d) = dh u w r d := by
  rw [val_main_v17_apply]
  simp only [l17, r17]
  rfl

theorem gain_at (d : Fin 1024) : (val_main_v23 (F := Ideal) x w u : S1024.Idx → EReal) (ix1 d) = ∑ r : Fin 4112, dh u w r d * (x (ix2 r d) * rs (row x r)) := by
  rw [val_main_v23_apply, val_main_cst_4_apply]
  refine (congrArg₂ (fun a b : EReal => a + b) Ideal.ofBits_zero_f32 (Fin.sum_univ_one _)).trans ((zero_add _).trans ?_)
  rw [val_main_v20_apply, val_main_v19_apply, val_main_cst_3_apply]
  refine (congrArg₂ (fun a b : EReal => a + b) Ideal.ofBits_zero_f32 (Finset.sum_congr rfl fun r _ => ?_)).trans (zero_add _)
  rw [i19, val_main_v18_apply, val_main_v12_apply, val_main_v11_apply, i11, rs_at, dh_at]
  exact mul_comm _ _

theorem grad_at (r : Fin 4112) (d : Fin 1024) : (val_main_v38 (F := Ideal) x g w p u : S4112x1024.Idx → EReal) (ix2 r d)
    = p (ix2 r d) + dn (row x r) (dh u w r) (fun k => g (ix1 k)) d := by
  obtain ⟨e, he, hε⟩ := c_eps
  obtain ⟨ρ, hρ, h1, h2⟩ := Norm.scale (S := ∑ k, row x r k * row x r k) (Finset.sum_nonneg fun k _ => sq_nonneg _) (show (0 : ℝ) < 1024⁻¹ by norm_num) he
  rw [← c_kappa, ← hε] at h1 h2
  have h7 : ∀ a, (val_main_v7 (F := Ideal) x : S4112x1.Idx → EReal) (ix2 r a) = (ρ : EReal) := fun a => (rs_at x r a).trans h1
  have h10 : ∀ a, (val_main_v10 (F := Ideal) x : S4112x1.Idx → EReal) (ix2 r a) = ((-1 / 2 : ℝ) : EReal) * ((ρ * ρ * ρ : ℝ) : EReal) := fun a => by
    rw [val_main_v10_apply, val_main_v9_apply, val_main_cst_2_apply, c_half, val_main_v8_apply, rs_at, ms_at]
    exact congrArg (fun a : EReal => _ * a) h2
  have h22 : ∀ k, (val_main_v22 (F := Ideal) g w u : S4112x1024.Idx → EReal) (ix2 r k) = dh u w r k * g (ix1 k) := fun k => by
    rw [val_main_v22_apply, dh_at, val_main_v21_apply, val_main_v13_apply, i21]
    rfl
  have h26 : ∀ a, (val_main_v26 (F := Ideal) x g w u : S4112x1.Idx → EReal) (ix2 r a) = ∑ k, row x r k * (dh u w r k * g (ix1 k)) := fun a => by
    rw [val_main_v26_apply, val_main_v25_apply, val_main_cst_5_apply]
    refine (congrArg₂ (fun a b : EReal => a + b) Ideal.ofBits_zero_f32 (Finset.sum_congr rfl fun k _ => ?_)).trans (zero_add _)
    rw [val_main_v24_apply, i25, h22]
    rfl
  have h34 : ∀ k, (val_main_v34 (F := Ideal) x g w u : S4112x1024.Idx → EReal) (ix2 r k)
      = (∑ k, row x r k * (dh u w r k * g (ix1 k))) * (((-1 / 2 : ℝ) : EReal) * ((ρ * ρ * ρ : ℝ) : EReal)) * ((1024⁻¹ : ℝ) : EReal) := fun k => by
    rw [val_main_v34_apply, val_main_v33_apply, val_main_cst_7_apply]
    refine (congrArg₂ (fun a b : EReal => a + b) Ideal.ofBits_zero_f32 (Fin.sum_univ_one _)).trans ((zero_add _).trans ?_)
    rw [val_main_v32_apply, val_main_v31_apply, val_main_cst_6_apply, c_dim]
    refine (div_const _ (by norm_num)).trans (congrArg (fun a : EReal => a * _) ?_)
    rw [val_main_v30_apply, i34, h26, h10]
    rfl
  rw [val_main_v38_apply, val_main_v37_apply, val_main_v36_apply, val_main_v35_apply, val_main_v29_apply, val_main_v28_apply, val_main_v27_apply, i27, h7, h34, h22]
  unfold dn
  have hr : rs (row x r) = (ρ : EReal) := h1
  rw [hr, c_kappa]
  refine Eq.trans ?_ (Norm.back (row x r) (fun k => dh u w r k * g (ix1 k)) (p (ix2 r d)) hρ 1024⁻¹ d).symm
  rfl

theorem quiescent_reference : quiescent_InprojReferenceIdeal := fun m ρ _ =>
  (θ_run Cert.InprojReferenceIdeal.defs _ _).mono (fun r h => ⟨fun c => (h c).2.2, sem_eq_zero_of_no_sems (by decide) r.2⟩)
    (Cert.InprojReferenceIdeal.Value.run (F := Ideal) m ρ)

end Reference
section Claim

open Cert.InprojKernelIdeal Cert.InprojKernelIdeal.Gen

variable (m : (ℓ : Loc nD τ sig) → Buf (Elt Ideal) ℓ) (c : Dev nD)

theorem grads_agree : (Cert.InprojReferenceIdeal.Read.val_main_v39 (F := Ideal) (arg0 m c) (arg1 m c) (arg2 m c) (arg3 m c) (arg4 m c))
    = fun j : S4224x1024.Idx => DX m c (j 0) (j 1) := by
  funext j
  idx_vars j
  unfold Cert.InprojReferenceIdeal.Read.val_main_v39
  open Pointwise in pointwise []
  by_cases h : 48 ≤ j0.val ∧ j0.val - 48 < 4112
  · rw [dif_pos h, grad_at]
    have e := DX_row m c ⟨j0.val - 48, h.2⟩ j1
    have e0 : (⟨48 + (j0.val - 48), by omega⟩ : Fin 4224) = j0 := Fin.ext (by show 48 + (j0.val - 48) = j0.val; omega)
    rw [e0] at e
    exact e.symm
  · rw [dif_neg h]
    unfold DX
    rw [if_neg (fun hh => h ⟨hh.1, by have := hh.2; omega⟩)]
    rw [Cert.InprojReferenceIdeal.Read.val_main_call0_v0_apply]
    show (FloatOps.sitofp (F := Ideal) FTy.f32 0#32 : EReal) = 0
    simp [FloatOps.sitofp]

theorem gains_agree : (Cert.InprojReferenceIdeal.Read.val_main_v23 (F := Ideal) (arg0 m c) (arg2 m c) (arg4 m c))
    = Pipeline.afterTail₀ cfgs (dats m) 0 (V0 m) [hostOps1] c main_v40 := by
  rw [tail_v40]
  funext j
  idx_vars j
  refine (gain_at _ _ _ j0).trans ?_
  open Pointwise in pointwise []
  rw [acc_sum]
  exact Finset.sum_congr rfl fun r _ => (DG_row m c r j0).symm

/-- The kernel's gradients are the reference's, over the extended reals. -/
theorem algebraic : algebraic_InprojKernelIdeal_InprojReferenceIdeal := by
  intro m ρ m' ρ' _ hagree
  refine ⟨_, _, kernel_run m ρ, ?_⟩
  refine (θ_run Cert.InprojReferenceIdeal.defs _ _).mono (fun r h c => ?_) (Cert.InprojReferenceIdeal.Value.run (F := Ideal) m' ρ')
  obtain ⟨e0, e1, e2, e3, e4⟩ := hagree c
  obtain ⟨h1, h2, hr⟩ := h c
  refine ⟨h1.trans ?_, h2.trans ?_, hr⟩
  · rw [Cert.InprojReferenceIdeal.Read.val_main_v39_eq, e0, e1, e2, e3, e4]
    exact grads_agree m c
  · rw [Cert.InprojReferenceIdeal.Read.val_main_v23_eq, e0, e2, e4]
    exact gains_agree m c

end Claim

end Cert.Proof.Inproj
end
-- ==== Proof.Ffn.lean ====
module

public import proofs.«01_k».proof.Defs
public import proofs.«01_k».proof.Proof.Gen.FfnKernelIdeal.Frame
public import proofs.«01_k».proof.Proof.Gen.FfnReferenceIdeal.Run
public import proofs.«01_k».proof.Proof.Gen.FfnReferenceIdeal.Read
public import proofs.«01_k».proof.Proof.Norm
public import Idealize.ShloMosaic.Lib.Pipeline.ValueKit
public import Idealize.ShloMosaic.Lib.StableHlo.RunRead
public import Idealize.ShloMosaic.Lib.Pointwise
public import Idealize.ShloMosaic.Lib.Tactic.CleanTypes
public import Idealize.ShloMosaic.Lib.ValueIdx
public import Idealize.ShloMosaic.Lib.Quiescent

@[expose] public section

/-! # The two-layer block with the squared rectifier, and its gradient -/

set_option maxRecDepth 16384

noncomputable section

namespace Cert.Proof.Ffn

open Idealize.ShloMosaic Idealize.ShloMosaic.TcCoe Idealize.SL.Sem Cert.Proof.Reals Cert.Proof.Sums Cert.Proof.Norm
open Idealize.ShloMosaic.Pipeline (Dat)

section Kernel

open Cert.FfnKernelIdeal Cert.FfnKernelIdeal.Gen

theorem hz : (![0, 0] : Fin 2 → Nat) = fun _ => 0 := funext fun a => by fin_cases a <;> rfl

/-- A load of a whole two-axis block reads its contents. -/
theorem ld0 {a b : ℕ} {Val : EltTy → Type} {e : EltTy} (inb) (X : (⟨2, ![a, b]⟩ : Shape).Idx → Val e) :
    View.ld X (Rect.unit (s := ⟨2, ![a, b]⟩) ![0, 0] ![a, b] inb) = X := View.ld_unit_zero (S := ⟨2, ![a, b]⟩) hz inb X

section Cases

variable (c : Dev nD) (i : grid1.Coords) (a1 : Memref sig .tc .vmem S192x1024 .f32) (h1 : a1.IsWhole) (a2 : Memref sig .tc .vmem S192x1024 .f32) (h2 : a2.IsWhole) (a3 : Memref sig .tc .vmem S192x4096 .f32) (h3 : a3.IsWhole) (a4 : Memref sig .tc .vmem S1x1024 .f32) (h4 : a4.IsWhole) (a5 : Memref sig .tc .vmem S4096x1024 .bf16) (h5 : a5.IsWhole) (a6 : Memref sig .tc .vmem S1024x4096 .bf16) (h6 : a6.IsWhole) (a7 : Memref sig .tc .vmem S192x1024 .f32) (h7 : a7.IsWhole) (a8 : Memref sig .tc .vmem S192x1024 .bf16) (h8 : a8.IsWhole) (a9 : Memref sig .tc .vmem S192x4096 .bf16) (h9 : a9.IsWhole) (a10 : Memref sig .tc .vmem S192x4096 .bf16) (h10 : a10.IsWhole) (a11 : Memref sig .tc .vmem S8x1024 .f32) (h11 : a11.IsWhole)
  (x0 x1 : Vec Ideal S192x1024 .f32) (x2 : Vec Ideal S192x4096 .f32) (x3 : Vec Ideal S1x1024 .f32) (x4 : Vec Ideal S4096x1024 .bf16) (x5 : Vec Ideal S1024x4096 .bf16) (z : Vec Ideal S8x1024 .f32)

/-- What a point leaves in the gradient's block, in the normed rows', in the activation's, in the product's, and in the accumulator over `z`. -/
def dxOf : Vec Ideal S192x1024 .f32 := k1_pay3 (F := Ideal) (k1_pay6 x1) (k1_pay7 x1) (k1_pay11 x0) (k1_pay12 x2 x0 x5) x4 x3
def h2Of : Vec Ideal S192x1024 .bf16 := k1_pay8 (F := Ideal) x1 x3
def actOf : Vec Ideal S192x4096 .bf16 := k1_pay10 (F := Ideal) x2
def dpOf : Vec Ideal S192x4096 .bf16 := k1_pay12 (F := Ideal) x2 x0 x5
def dgOf : Vec Ideal S8x1024 .f32 := k1_pay5 (F := Ideal) (k1_pay6 x1) (k1_pay7 x1) (k1_pay12 x2 x0 x5) x4 z

/-- A value of one grid point at the block's operands. -/
local notation "operands[" f "]" => f c i a1 h1 a2 h2 a3 h3 a4 h4 a5 h5 a6 h6 a7 h7 a8 h8 a9 h9 a10 h10 a11 h11
/-- The same at the blocks' contents. -/
local notation "blocks[" f "]" => f x0 x1 x2 x3 x4 x5

theorem dx_A (hc : cond1_0 i) : blocks[operands[out1_A_6] hc] = dxOf x0 x1 x2 x3 x4 x5 := by
  unfold out1_A_6
  rw [View.read_writes_eq_canon _ _ _ (blocks[operands[cover1_A_6] hc])]
  unfold kernelRun1_A dxOf
  dsimp only
  sl_unfold_words
  rw [View.canon_unit_zero hz]
  simp only [View.readAt_eq_ld, Memref.IsWhole.read_unread, ld0]

theorem dx_B (hc : ¬cond1_0 i) : blocks[operands[out1_B_6] hc] z = dxOf x0 x1 x2 x3 x4 x5 := by
  unfold out1_B_6
  rw [View.read_writes_eq_canon _ _ _ (blocks[operands[cover1_B_6] hc] z)]
  unfold kernelRun1_B dxOf
  dsimp only
  sl_unfold_words
  rw [View.canon_unit_zero hz]
  simp only [View.readAt_eq_ld, Memref.IsWhole.read_unread, ld0]

theorem h2_A (hc : cond1_0 i) : blocks[operands[out1_A_7] hc] = h2Of x1 x3 := by
  unfold out1_A_7
  rw [View.read_writes_eq_canon _ _ _ (blocks[operands[cover1_A_7] hc])]
  unfold kernelRun1_A h2Of
  dsimp only
  sl_unfold_words
  rw [View.canon_unit_zero hz]
  simp only [View.readAt_eq_ld, Memref.IsWhole.read_unread, ld0]

theorem h2_B (hc : ¬cond1_0 i) : blocks[operands[out1_B_7] hc] z = h2Of x1 x3 := by
  unfold out1_B_7
  rw [View.read_writes_eq_canon _ _ _ (blocks[operands[cover1_B_7] hc] z)]
  unfold kernelRun1_B h2Of
  dsimp only
  sl_unfold_words
  rw [View.canon_unit_zero hz]
  simp only [View.readAt_eq_ld, Memref.IsWhole.read_unread, ld0]

theorem act_A (hc : cond1_0 i) : blocks[operands[out1_A_8] hc] = actOf x2 := by
  unfold out1_A_8
  rw [View.read_writes_eq_canon _ _ _ (blocks[operands[cover1_A_8] hc])]
  unfold kernelRun1_A actOf
  dsimp only
  sl_unfold_words
  rw [View.canon_unit_zero hz]
  simp only [View.readAt_eq_ld, Memref.IsWhole.read_unread, ld0]

theorem act_B (hc : ¬cond1_0 i) : blocks[operands[out1_B_8] hc] z = actOf x2 := by
  unfold out1_B_8
  rw [View.read_writes_eq_canon _ _ _ (blocks[operands[cover1_B_8] hc] z)]
  unfold kernelRun1_B actOf
  dsimp only
  sl_unfold_words
  rw [View.canon_unit_zero hz]
  simp only [View.readAt_eq_ld, Memref.IsWhole.read_unread, ld0]

theorem dp_A (hc : cond1_0 i) : blocks[operands[out1_A_9] hc] = dpOf x0 x2 x5 := by
  unfold out1_A_9
  rw [View.read_writes_eq_canon _ _ _ (blocks[operands[cover1_A_9] hc])]
  unfold kernelRun1_A dpOf
  dsimp only
  sl_unfold_words
  rw [View.canon_unit_zero hz]
  simp only [View.readAt_eq_ld, Memref.IsWhole.read_unread, ld0]

theorem dp_B (hc : ¬cond1_0 i) : blocks[operands[out1_B_9] hc] z = dpOf x0 x2 x5 := by
  unfold out1_B_9
  rw [View.read_writes_eq_canon _ _ _ (blocks[operands[cover1_B_9] hc] z)]
  unfold kernelRun1_B dpOf
  dsimp only
  sl_unfold_words
  rw [View.canon_unit_zero hz]
  simp only [View.readAt_eq_ld, Memref.IsWhole.read_unread, ld0]

theorem dg_A (hc : cond1_0 i) : blocks[operands[out1_A_10] hc] = dgOf x0 x1 x2 x4 x5 (k1_pay4 (F := Ideal)) := by
  unfold out1_A_10
  rw [View.read_writes_eq_canon _ _ _ (blocks[operands[cover1_A_10] hc])]
  unfold kernelRun1_A dgOf
  dsimp only
  sl_unfold_words
  rw [View.canon_cons_unit_zero (S := S8x1024) hz, View.readCov_unit_zero (S := S8x1024) _ hz]
  simp only [View.readAt_eq_ld, Memref.IsWhole.read_unread, ld0]

theorem dg_B (hc : ¬cond1_0 i) : blocks[operands[out1_B_10] hc] z = dgOf x0 x1 x2 x4 x5 z := by
  unfold out1_B_10
  rw [View.read_writes_eq_canon _ _ _ (blocks[operands[cover1_B_10] hc] z)]
  unfold kernelRun1_B dgOf
  dsimp only
  sl_unfold_words
  rw [View.canon_unit_zero hz]
  simp only [View.readAt_eq_ld, Memref.IsWhole.read_unread, ld0]

end Cases

/-! ## The payloads at an element -/

section Payloads

/-- The first product's row: the normed row times the weight. -/
def pre (x g : Fin 1024 → EReal) (w : Fin 1024 → Fin 4096 → EReal) (n : Fin 4096) : EReal := ∑ k, x k * rs x * g k * w k n

/-- The gradient of the first product. -/
def slope (p : EReal) (y : EReal) : EReal := ((2 : ℝ) : EReal) * max p 0 * y

/-- The squared rectifier. -/
def sq (p : EReal) : EReal := max p 0 * max p 0

theorem c_two : (Ideal.ofBits .f32 0x40000000#32 : EReal) = ((2 : ℝ) : EReal) := by
  simp [Ideal.ofBits, Ideal.ieee]
  rw [← EReal.coe_mul]
  norm_num

theorem pay2_apply (x0 : Vec Ideal S192x1024 .f32) (x1 : Vec Ideal S1x1024 .f32) (x2 : Vec Ideal S1024x4096 .bf16) (r : Fin 192) (n : Fin 4096) :
    (k0_pay2 (F := Ideal) x0 x1 x2 : S192x4096.Idx → EReal) (ix2 r n) = pre (fun k => x0 (ix2 r k)) (fun k => x1 (ix2 0 k)) (fun k n => x2 (ix2 k n)) n := by
  open Pointwise in unfold k0_pay2 k0_pay1; pointwise []
  rfl

theorem out_pre (x0 : Vec Ideal S192x1024 .f32) (x1 : Vec Ideal S1x1024 .f32) (x2 : Vec Ideal S1024x4096 .bf16) (x3 : Vec Ideal S4096x1024 .bf16) :
    out0_5 (F := Ideal) x0 x1 x2 x3 = k0_pay2 (F := Ideal) x0 x1 x2 := by
  unfold out0_5
  rw [View.canon_unit_zero hz]
  simp only [View.ld_unit_zero (S := S192x1024) hz, View.ld_unit_zero (S := S1x1024) hz, View.ld_unit_zero (S := S1024x4096) hz, View.ld_unit_zero (S := S4096x1024) hz]

theorem pay3_apply (x0 : Vec Ideal S192x1024 .f32) (x1 : Vec Ideal S1x1024 .f32) (x2 : Vec Ideal S1024x4096 .bf16) (x3 : Vec Ideal S4096x1024 .bf16) (r : Fin 192) (d : Fin 1024) :
    (k0_pay3 (F := Ideal) x0 x1 x2 x3 : S192x1024.Idx → EReal) (ix2 r d)
      = x0 (ix2 r d) + ∑ n, sq (pre (fun k => x0 (ix2 r k)) (fun k => x1 (ix2 0 k)) (fun k n => x2 (ix2 k n)) n) * x3 (ix2 n d) := by
  open Pointwise in unfold k0_pay3 k0_pay1; pointwise []
  simp only [pay2_apply]
  rfl

theorem out_next (x0 : Vec Ideal S192x1024 .f32) (x1 : Vec Ideal S1x1024 .f32) (x2 : Vec Ideal S1024x4096 .bf16) (x3 : Vec Ideal S4096x1024 .bf16) :
    out0_4 (F := Ideal) x0 x1 x2 x3 = k0_pay3 (F := Ideal) x0 x1 x2 x3 := by
  unfold out0_4
  rw [View.canon_unit_zero hz]
  simp only [View.ld_unit_zero (S := S192x1024) hz, View.ld_unit_zero (S := S1x1024) hz, View.ld_unit_zero (S := S1024x4096) hz, View.ld_unit_zero (S := S4096x1024) hz]

variable (x0 x1 : Vec Ideal S192x1024 .f32) (x2 : Vec Ideal S192x4096 .f32) (x3 : Vec Ideal S1x1024 .f32) (x4 : Vec Ideal S4096x1024 .bf16) (x5 : Vec Ideal S1024x4096 .bf16) (z : Vec Ideal S8x1024 .f32)

theorem pay7_apply (r : Fin 192) (a : Fin 1) : (k1_pay7 (F := Ideal) x1 : S192x1.Idx → EReal) (ix2 r a) = rs fun k => x1 (ix2 r k) := by
  open Pointwise in unfold k1_pay7 k1_pay6; pointwise []
  rfl

theorem h2Of_apply (r : Fin 192) (d : Fin 1024) : (h2Of x1 x3 : S192x1024.Idx → EReal) (ix2 r d) = x1 (ix2 r d) * (rs fun k => x1 (ix2 r k)) * x3 (ix2 0 d) := by
  open Pointwise in unfold h2Of k1_pay8 k1_pay6; pointwise []
  rw [pay7_apply]

theorem actOf_apply (r : Fin 192) (n : Fin 4096) : (actOf x2 : S192x4096.Idx → EReal) (ix2 r n) = sq (x2 (ix2 r n)) := by
  open Pointwise in unfold actOf k1_pay10 k1_pay9; pointwise []
  rfl

theorem dpOf_apply (r : Fin 192) (n : Fin 4096) : (dpOf x0 x2 x5 : S192x4096.Idx → EReal) (ix2 r n) = slope (x2 (ix2 r n)) (∑ k : Fin 1024, x0 (ix2 r k) * x5 (ix2 k n)) := by
  open Pointwise in unfold dpOf k1_pay12 k1_pay11 k1_pay9; pointwise []
  unfold slope
  rw [← c_two]

theorem dh_apply (y : FVec Ideal S192x4096 .bf16) (r : Fin 192) (d : Fin 1024) :
    (k1_pay1 (F := Ideal) y x4 : S192x1024.Idx → EReal) (ix2 r d) = ∑ n : Fin 4096, y (ix2 r n) * x4 (ix2 n d) := by
  open Pointwise in unfold k1_pay1; pointwise []

theorem xr_apply (r : Fin 192) (d : Fin 1024) :
    (k1_pay2 (F := Ideal) (k1_pay6 x1) (k1_pay7 x1) : S192x1024.Idx → EReal) (ix2 r d) = x1 (ix2 r d) * rs fun k => x1 (ix2 r k) := by
  open Pointwise in unfold k1_pay2 k1_pay6; pointwise []
  rw [pay7_apply]

theorem dxOf_apply (r : Fin 192) (d : Fin 1024) : (dxOf x0 x1 x2 x3 x4 x5 : S192x1024.Idx → EReal) (ix2 r d)
    = x0 (ix2 r d) + dn (fun k => x1 (ix2 r k)) (fun d => ∑ n : Fin 4096, (dpOf x0 x2 x5 : S192x4096.Idx → EReal) (ix2 r n) * x4 (ix2 n d)) (fun k => x3 (ix2 0 k)) d := by
  unfold dxOf
  open Pointwise in unfold k1_pay3 k1_pay11; pointwise []
  simp only [pay7_apply, xr_apply, dh_apply]
  rfl

theorem dgOf_apply (s : Fin 8) (d : Fin 1024) : (dgOf x0 x1 x2 x4 x5 z : S8x1024.Idx → EReal) (ix2 s d)
    = z (ix2 s d) + ∑ g : Fin 24, (∑ n : Fin 4096, (dpOf x0 x2 x5 : S192x4096.Idx → EReal) (ix2 ⟨g.val * 8 + s.val, by omega⟩ n) * x4 (ix2 n d))
      * (x1 (ix2 ⟨g.val * 8 + s.val, by omega⟩ d) * rs fun k => x1 (ix2 ⟨g.val * 8 + s.val, by omega⟩ k)) := by
  unfold dgOf
  open Pointwise in unfold k1_pay5; pointwise []
  simp only [xr_apply, dh_apply]
  rfl

theorem pay4_apply (j : S8x1024.Idx) : (k1_pay4 (F := Ideal) : S8x1024.Idx → EReal) j = 0 := by
  open Pointwise in unfold k1_pay4; pointwise []

end Payloads

section Points

variable (V : (c : Dev nD) → (b : Ref sig .tc) → Buf (Elt Ideal) ((c : Thread nD τ).loc b)) (c : Dev nD)

/-! ## The blocks of the arrays -/

def rowAt (t : Fin 22) (r : Fin 192) : Fin 4224 := ⟨t.val * 192 + r.val, by omega⟩

theorem e0_0 : ∀ t : Fin cfg0.N, win0_0.index t = ![t.val, 0] := (by decide +kernel : ∀ t : Fin grid0.N, _)
theorem e0_1 : ∀ t : Fin cfg0.N, win0_1.index t = ![0, 0] := (by decide +kernel : ∀ t : Fin grid0.N, _)
theorem e0_2 : ∀ t : Fin cfg0.N, win0_2.index t = ![0, 0] := (by decide +kernel : ∀ t : Fin grid0.N, _)
theorem e0_3 : ∀ t : Fin cfg0.N, win0_3.index t = ![0, 0] := (by decide +kernel : ∀ t : Fin grid0.N, _)
theorem e0_4 : ∀ t : Fin cfg0.N, win0_4.index t = ![t.val, 0] := (by decide +kernel : ∀ t : Fin grid0.N, _)
theorem e0_5 : ∀ t : Fin cfg0.N, win0_5.index t = ![t.val, 0] := (by decide +kernel : ∀ t : Fin grid0.N, _)
theorem e1_0 : ∀ t : Fin cfg1.N, win1_0.index t = ![t.val, 0] := (by decide +kernel : ∀ t : Fin grid1.N, _)
theorem e1_1 : ∀ t : Fin cfg1.N, win1_1.index t = ![t.val, 0] := (by decide +kernel : ∀ t : Fin grid1.N, _)
theorem e1_2 : ∀ t : Fin cfg1.N, win1_2.index t = ![t.val, 0] := (by decide +kernel : ∀ t : Fin grid1.N, _)
theorem e1_3 : ∀ t : Fin cfg1.N, win1_3.index t = ![0, 0] := (by decide +kernel : ∀ t : Fin grid1.N, _)
theorem e1_4 : ∀ t : Fin cfg1.N, win1_4.index t = ![0, 0] := (by decide +kernel : ∀ t : Fin grid1.N, _)
theorem e1_5 : ∀ t : Fin cfg1.N, win1_5.index t = ![0, 0] := (by decide +kernel : ∀ t : Fin grid1.N, _)
theorem e1_6 : ∀ t : Fin cfg1.N, win1_6.index t = ![t.val, 0] := (by decide +kernel : ∀ t : Fin grid1.N, _)
theorem e1_7 : ∀ t : Fin cfg1.N, win1_7.index t = ![t.val, 0] := (by decide +kernel : ∀ t : Fin grid1.N, _)
theorem e1_8 : ∀ t : Fin cfg1.N, win1_8.index t = ![t.val, 0] := (by decide +kernel : ∀ t : Fin grid1.N, _)
theorem e1_9 : ∀ t : Fin cfg1.N, win1_9.index t = ![t.val, 0] := (by decide +kernel : ∀ t : Fin grid1.N, _)
theorem e1_10 : ∀ t : Fin cfg1.N, win1_10.index t = ![0, 0] := (by decide +kernel : ∀ t : Fin grid1.N, _)
theorem emb0_0 (t : Fin cfg0.N) (r : Fin 192) (k : Fin 1024) : (win0_0.blk t).view.emb (ix2 r k) = ix2 (rowAt t r) k := by
  blk_ext [e0_0, rowAt]
theorem blk0_0 (t : Fin cfg0.N) (r : Fin 192) (k : Fin 1024) : (iblk0 V c 0 t : S192x1024.Idx → EReal) (ix2 r k) = V c main_v5 (ix2 (rowAt t r) k) := by
  blk_simp [iblk0]
  exact congrArg (V c main_v5) (emb0_0 t r k)
theorem emb0_1 (t : Fin cfg0.N) (r : Fin 1) (k : Fin 1024) : (win0_1.blk t).view.emb (ix2 r k) = ix2 r k := by
  blk_ext [e0_1]
theorem blk0_1 (t : Fin cfg0.N) (r : Fin 1) (k : Fin 1024) : (iblk0 V c 1 t : S1x1024.Idx → EReal) (ix2 r k) = V c main_v0 (ix2 r k) := by
  blk_simp [iblk0]
  exact congrArg (V c main_v0) (emb0_1 t r k)
theorem emb0_2 (t : Fin cfg0.N) (r : Fin 1024) (k : Fin 4096) : (win0_2.blk t).view.emb (ix2 r k) = ix2 r k := by
  blk_ext [e0_2]
theorem blk0_2 (t : Fin cfg0.N) (r : Fin 1024) (k : Fin 4096) : (iblk0 V c 2 t : S1024x4096.Idx → EReal) (ix2 r k) = V c main_v1 (ix2 r k) := by
  blk_simp [iblk0]
  exact congrArg (V c main_v1) (emb0_2 t r k)
theorem emb0_3 (t : Fin cfg0.N) (r : Fin 4096) (k : Fin 1024) : (win0_3.blk t).view.emb (ix2 r k) = ix2 r k := by
  blk_ext [e0_3]
theorem blk0_3 (t : Fin cfg0.N) (r : Fin 4096) (k : Fin 1024) : (iblk0 V c 3 t : S4096x1024.Idx → EReal) (ix2 r k) = V c main_v2 (ix2 r k) := by
  blk_simp [iblk0]
  exact congrArg (V c main_v2) (emb0_3 t r k)
theorem emb0_4 (t : Fin cfg0.N) (r : Fin 192) (k : Fin 1024) : (win0_4.blk t).view.emb (ix2 r k) = ix2 (rowAt t r) k := by
  blk_ext [e0_4, rowAt]
theorem emb0_5 (t : Fin cfg0.N) (r : Fin 192) (k : Fin 4096) : (win0_5.blk t).view.emb (ix2 r k) = ix2 (rowAt t r) k := by
  blk_ext [e0_5, rowAt]
theorem emb1_0 (t : Fin cfg1.N) (r : Fin 192) (k : Fin 1024) : (win1_0.blk t).view.emb (ix2 r k) = ix2 (rowAt t r) k := by
  blk_ext [e1_0, rowAt]
theorem blk1_0 (t : Fin cfg1.N) (r : Fin 192) (k : Fin 1024) : (iblk1 V c 0 t : S192x1024.Idx → EReal) (ix2 r k) = V c main_v9 (ix2 (rowAt t r) k) := by
  blk_simp [iblk1]
  exact congrArg (V c main_v9) (emb1_0 t r k)
theorem emb1_1 (t : Fin cfg1.N) (r : Fin 192) (k : Fin 1024) : (win1_1.blk t).view.emb (ix2 r k) = ix2 (rowAt t r) k := by
  blk_ext [e1_1, rowAt]
theorem blk1_1 (t : Fin cfg1.N) (r : Fin 192) (k : Fin 1024) : (iblk1 V c 1 t : S192x1024.Idx → EReal) (ix2 r k) = V c main_v5 (ix2 (rowAt t r) k) := by
  blk_simp [iblk1]
  exact congrArg (V c main_v5) (emb1_1 t r k)
theorem emb1_2 (t : Fin cfg1.N) (r : Fin 192) (k : Fin 4096) : (win1_2.blk t).view.emb (ix2 r k) = ix2 (rowAt t r) k := by
  blk_ext [e1_2, rowAt]
theorem blk1_2 (t : Fin cfg1.N) (r : Fin 192) (k : Fin 4096) : (iblk1 V c 2 t : S192x4096.Idx → EReal) (ix2 r k) = V c main_v6_1 (ix2 (rowAt t r) k) := by
  blk_simp [iblk1]
  exact congrArg (V c main_v6_1) (emb1_2 t r k)
theorem emb1_3 (t : Fin cfg1.N) (r : Fin 1) (k : Fin 1024) : (win1_3.blk t).view.emb (ix2 r k) = ix2 r k := by
  blk_ext [e1_3]
theorem blk1_3 (t : Fin cfg1.N) (r : Fin 1) (k : Fin 1024) : (iblk1 V c 3 t : S1x1024.Idx → EReal) (ix2 r k) = V c main_v0 (ix2 r k) := by
  blk_simp [iblk1]
  exact congrArg (V c main_v0) (emb1_3 t r k)
theorem emb1_4 (t : Fin cfg1.N) (r : Fin 4096) (k : Fin 1024) : (win1_4.blk t).view.emb (ix2 r k) = ix2 r k := by
  blk_ext [e1_4]
theorem blk1_4 (t : Fin cfg1.N) (r : Fin 4096) (k : Fin 1024) : (iblk1 V c 4 t : S4096x1024.Idx → EReal) (ix2 r k) = V c main_v10 (ix2 r k) := by
  blk_simp [iblk1]
  exact congrArg (V c main_v10) (emb1_4 t r k)
theorem emb1_5 (t : Fin cfg1.N) (r : Fin 1024) (k : Fin 4096) : (win1_5.blk t).view.emb (ix2 r k) = ix2 r k := by
  blk_ext [e1_5]
theorem blk1_5 (t : Fin cfg1.N) (r : Fin 1024) (k : Fin 4096) : (iblk1 V c 5 t : S1024x4096.Idx → EReal) (ix2 r k) = V c main_v11 (ix2 r k) := by
  blk_simp [iblk1]
  exact congrArg (V c main_v11) (emb1_5 t r k)
theorem emb1_6 (t : Fin cfg1.N) (r : Fin 192) (k : Fin 1024) : (win1_6.blk t).view.emb (ix2 r k) = ix2 (rowAt t r) k := by
  blk_ext [e1_6, rowAt]
theorem emb1_7 (t : Fin cfg1.N) (r : Fin 192) (k : Fin 1024) : (win1_7.blk t).view.emb (ix2 r k) = ix2 (rowAt t r) k := by
  blk_ext [e1_7, rowAt]
theorem emb1_8 (t : Fin cfg1.N) (r : Fin 192) (k : Fin 4096) : (win1_8.blk t).view.emb (ix2 r k) = ix2 (rowAt t r) k := by
  blk_ext [e1_8, rowAt]
theorem emb1_9 (t : Fin cfg1.N) (r : Fin 192) (k : Fin 4096) : (win1_9.blk t).view.emb (ix2 r k) = ix2 (rowAt t r) k := by
  blk_ext [e1_9, rowAt]
theorem emb1_10 (t : Fin cfg1.N) (r : Fin 8) (k : Fin 1024) : (win1_10.blk t).view.emb (ix2 r k) = ix2 r k := by
  blk_ext [e1_10]
theorem last_of_flush : ∀ t : Fin cfg1.N, win1_10.flush t = true → t.val = 21 := (by decide +kernel : ∀ t : Fin grid1.N, _)

/-! ## The forward region -/

/-- The arrays a region finds: the argument, the gain, the weights, the product, the gradient, and the weights' transposes. -/
def X (r : Fin 4224) (d : Fin 1024) : EReal := V c main_v5 (ix2 r d)
def G (d : Fin 1024) : EReal := V c main_v0 (ix2 0 d)
def W (k : Fin 1024) (n : Fin 4096) : EReal := V c main_v1 (ix2 k n)
def U (n : Fin 4096) (d : Fin 1024) : EReal := V c main_v2 (ix2 n d)
def Q (r : Fin 4224) (n : Fin 4096) : EReal := V c main_v6_1 (ix2 r n)
def D (r : Fin 4224) (d : Fin 1024) : EReal := V c main_v9 (ix2 r d)
def W1 (n : Fin 4096) (d : Fin 1024) : EReal := V c main_v10 (ix2 n d)
def W2 (k : Fin 1024) (n : Fin 4096) : EReal := V c main_v11 (ix2 k n)

/-- The product's array. -/
theorem pre_arr : (dat0 V c).arrAt 5 cfg0.N = fun j : S4224x4096.Idx => pre (X V c (j 0)) (G V c) (W V c) (j 1) := by
  refine (dat0 V c).arrAt_eq_of_covers 5 _ (by decide +kernel) fun t hf y => ?_
  blk_simp
  rw [after0_5, out_pre]
  idx_vars y
  refine (pay2_apply ..).trans ?_
  have e := emb0_5 t y0 y1
  refine Eq.trans ?_ (congrArg (fun j : S4224x4096.Idx => pre (X V c (j 0)) (G V c) (W V c) (j 1)) e.symm)
  simp only [blk0_0, blk0_1, blk0_2]
  rfl

/-- A padded row's next row. -/
def NX (r : Fin 4224) (d : Fin 1024) : EReal := X V c r d + ∑ n, sq (pre (X V c r) (G V c) (W V c) n) * U V c n d

theorem next_arr : (dat0 V c).arrAt 4 cfg0.N = fun j : S4224x1024.Idx => NX V c (j 0) (j 1) := by
  refine (dat0 V c).arrAt_eq_of_covers 4 _ (by decide +kernel) fun t hf y => ?_
  blk_simp
  rw [after0_4, out_next]
  idx_vars y
  refine (pay3_apply ..).trans ?_
  have e := emb0_4 t y0 y1
  refine Eq.trans ?_ (congrArg (fun j : S4224x1024.Idx => NX V c (j 0) (j 1)) e.symm)
  simp only [blk0_0, blk0_1, blk0_2, blk0_3]
  rfl

/-! ## The backward region -/

/-- A padded row's gradient of the product, of the norm, of the argument, and its part of the gain's. -/
def DP (r : Fin 4224) (n : Fin 4096) : EReal := slope (Q V c r n) (∑ k : Fin 1024, D V c r k * W2 V c k n)
def DH (r : Fin 4224) (d : Fin 1024) : EReal := ∑ n : Fin 4096, DP V c r n * W1 V c n d
def DX (r : Fin 4224) (d : Fin 1024) : EReal := D V c r d + dn (X V c r) (DH V c r) (G V c) d
def DG (r : Fin 4224) (d : Fin 1024) : EReal := DH V c r d * (X V c r d * rs (X V c r))

/-- A padded row's normed row, and its activation. -/
def HN (r : Fin 4224) (d : Fin 1024) : EReal := X V c r d * rs (X V c r) * G V c d
def AC (r : Fin 4224) (n : Fin 4096) : EReal := sq (Q V c r n)

theorem dx_eq (t : Fin cfg1.N) : (outsAt1 (F := Ideal) V c t.val t.isLt).1
    = dxOf (iblk1 V c 0 t) (iblk1 V c 1 t) (iblk1 V c 2 t) (iblk1 V c 3 t) (iblk1 V c 4 t) (iblk1 V c 5 t) := by
  by_cases h : t.val % 22 = 0
  · rw [outsAt1_A V c t h]
    dsimp only
    rw [dx_A]
  · rw [outsAt1_B V c t h]
    dsimp only
    rw [dx_B]

theorem h2_eq (t : Fin cfg1.N) : (outsAt1 (F := Ideal) V c t.val t.isLt).2.1 = h2Of (iblk1 V c 1 t) (iblk1 V c 3 t) := by
  by_cases h : t.val % 22 = 0
  · rw [outsAt1_A V c t h]
    dsimp only
    rw [h2_A]
  · rw [outsAt1_B V c t h]
    dsimp only
    rw [h2_B]

theorem act_eq (t : Fin cfg1.N) : (outsAt1 (F := Ideal) V c t.val t.isLt).2.2.1 = actOf (iblk1 V c 2 t) := by
  by_cases h : t.val % 22 = 0
  · rw [outsAt1_A V c t h]
    dsimp only
    rw [act_A]
  · rw [outsAt1_B V c t h]
    dsimp only
    rw [act_B]

theorem dp_eq (t : Fin cfg1.N) : (outsAt1 (F := Ideal) V c t.val t.isLt).2.2.2.1 = dpOf (iblk1 V c 0 t) (iblk1 V c 2 t) (iblk1 V c 5 t) := by
  by_cases h : t.val % 22 = 0
  · rw [outsAt1_A V c t h]
    dsimp only
    rw [dp_A]
  · rw [outsAt1_B V c t h]
    dsimp only
    rw [dp_B]

theorem dp_at (t : Fin cfg1.N) (r : Fin 192) (n : Fin 4096) :
    (dpOf (iblk1 V c 0 t) (iblk1 V c 2 t) (iblk1 V c 5 t) : S192x4096.Idx → EReal) (ix2 r n) = DP V c (rowAt t r) n := by
  rw [dpOf_apply]
  simp only [blk1_0, blk1_2, blk1_5]
  rfl

/-- The product's gradient's array, and the argument's. -/
theorem dp_arr : (dat1 V c).arrAt 9 cfg1.N = fun j : S4224x4096.Idx => DP V c (j 0) (j 1) := by
  refine (dat1 V c).arrAt_eq_of_covers 9 _ (by decide +kernel) fun t hf y => ?_
  blk_simp
  rw [after1_9, dp_eq]
  idx_vars y
  have e := emb1_9 t y0 y1
  refine Eq.trans ?_ (congrArg (fun j : S4224x4096.Idx => DP V c (j 0) (j 1)) e.symm)
  exact dp_at V c t y0 y1

theorem dx_arr : (dat1 V c).arrAt 6 cfg1.N = fun j : S4224x1024.Idx => DX V c (j 0) (j 1) := by
  refine (dat1 V c).arrAt_eq_of_covers 6 _ (by decide +kernel) fun t hf y => ?_
  blk_simp
  rw [after1_6, dx_eq]
  idx_vars y
  refine (dxOf_apply ..).trans ?_
  have e := emb1_6 t y0 y1
  refine Eq.trans ?_ (congrArg (fun j : S4224x1024.Idx => DX V c (j 0) (j 1)) e.symm)
  simp only [dp_at, blk1_0, blk1_1, blk1_3, blk1_4]
  rfl

theorem h2_arr : (dat1 V c).arrAt 7 cfg1.N = fun j : S4224x1024.Idx => HN V c (j 0) (j 1) := by
  refine (dat1 V c).arrAt_eq_of_covers 7 _ (by decide +kernel) fun t hf y => ?_
  blk_simp
  rw [after1_7, h2_eq]
  idx_vars y
  refine (h2Of_apply ..).trans ?_
  have e := emb1_7 t y0 y1
  refine Eq.trans ?_ (congrArg (fun j : S4224x1024.Idx => HN V c (j 0) (j 1)) e.symm)
  simp only [blk1_1, blk1_3]
  rfl

theorem act_arr : (dat1 V c).arrAt 8 cfg1.N = fun j : S4224x4096.Idx => AC V c (j 0) (j 1) := by
  refine (dat1 V c).arrAt_eq_of_covers 8 _ (by decide +kernel) fun t hf y => ?_
  blk_simp
  rw [after1_8, act_eq]
  idx_vars y
  refine (actOf_apply ..).trans ?_
  have e := emb1_8 t y0 y1
  refine Eq.trans ?_ (congrArg (fun j : S4224x4096.Idx => AC V c (j 0) (j 1)) e.symm)
  simp only [blk1_2]
  rfl

/-- What one point adds to the accumulator. -/
def step (t : Fin 22) (s : Fin 8) (d : Fin 1024) : EReal := ∑ g : Fin 24, DG V c (rowAt t ⟨g.val * 8 + s.val, by omega⟩) d

theorem dgOf_at (t : Fin cfg1.N) (z : Vec Ideal S8x1024 .f32) (s : Fin 8) (d : Fin 1024) :
    (dgOf (iblk1 V c 0 t) (iblk1 V c 1 t) (iblk1 V c 2 t) (iblk1 V c 4 t) (iblk1 V c 5 t) z : S8x1024.Idx → EReal) (ix2 s d) = z (ix2 s d) + step V c t s d := by
  rw [dgOf_apply]
  simp only [dp_at, blk1_1, blk1_4]
  rfl

theorem dg_eq : ∀ (n : ℕ) (h : n < cfg1.N) (s : Fin 8) (d : Fin 1024),
    (outsAt1 (F := Ideal) V c n h).2.2.2.2 (ix2 s d) = ∑ t : Fin (n + 1), step V c ⟨t.val, by have := t.isLt; have : cfg1.N = 22 := rfl; omega⟩ s d
  | 0, h, s, d => by
    rw [outsAt1_A V c ⟨0, h⟩ rfl]
    dsimp only
    rw [dg_A, dgOf_at, pay4_apply, zero_add, Fin.sum_univ_one]
    rfl
  | n + 1, h, s, d => by
    have hN : cfg1.N = 22 := rfl
    rw [outsAt1_B V c ⟨n + 1, h⟩ (by show ¬(n + 1) % 22 = 0; omega)]
    dsimp only
    rw [dg_B, dgOf_at]
    refine Eq.trans ?_ (Fin.sum_univ_castSucc _).symm
    refine congrArg₂ (fun a b : EReal => a + b) (dg_eq n (by omega) s d) ?_
    rfl

/-- The accumulator after the last point. -/
def acc (s : Fin 8) (d : Fin 1024) : EReal := ∑ t : Fin 22, step V c t s d

theorem acc_eq (t : Fin cfg1.N) (h : t.val = 21) (s : Fin 8) (d : Fin 1024) : (outsAt1 (F := Ideal) V c t.val t.isLt).2.2.2.2 (ix2 s d) = acc V c s d := by
  refine (dg_eq V c t.val t.isLt s d).trans ?_
  obtain ⟨t, ht⟩ := t
  subst h
  rfl

/-- The accumulator's array. -/
theorem dg_arr : (dat1 V c).arrAt 10 cfg1.N = fun j : S8x1024.Idx => acc V c (j 0) (j 1) := by
  refine (dat1 V c).arrAt_eq_of_covers 10 _ (by decide +kernel) fun t hf y => ?_
  blk_simp
  rw [after1_10]
  idx_vars y
  have e := emb1_10 t y0 y1
  refine Eq.trans ?_ (congrArg (fun j : S8x1024.Idx => acc V c (j 0) (j 1)) e.symm)
  exact acc_eq V c t (last_of_flush t hf) y0 y1

end Points

/-! ## The host's operations -/

section Host

variable (m : (ℓ : Loc nD τ sig) → Buf (Elt Ideal) ℓ) (ρ : Dev nD → PrngReg) (c : Dev nD)

/-- The arguments as arrays of extended reals. -/
def arg0 : S4112x1024.Idx → EReal := m ((c : Thread nD τ).loc main_arg0)
def arg1 : S1024.Idx → EReal := m ((c : Thread nD τ).loc main_arg1)
def arg2 : S1024x4096.Idx → EReal := m ((c : Thread nD τ).loc main_arg2)
def arg3 : S4096x1024.Idx → EReal := m ((c : Thread nD τ).loc main_arg3)
def arg4 : S4112x1024.Idx → EReal := m ((c : Thread nD τ).loc main_arg4)

/-- Whether a row of the padded arrays carries a token. -/
def Live (r : ℕ) : Prop := 48 ≤ r ∧ r < 4160

/-- The rows with the zero rows before and after them. -/
def padded (A : FVec Ideal S4112x1024 .f32) : FVec Ideal S4224x1024 .f32 := concatenate S4224x1024 0
    [⟨S48x1024, broadcastInDim S48x1024 ![] bcast_S_S48x1024 (constant (F := Ideal) S_ .f32 0x00000000#32)⟩,
      ⟨S4112x1024, A⟩,
      ⟨S64x1024, broadcastInDim S64x1024 ![] bcast_S_S64x1024 (constant (F := Ideal) S_ .f32 0x00000000#32)⟩]
    concatenates_S48x1024_S4112x1024_S64x1024_S4224x1024_d0

theorem padded_row (A : FVec Ideal S4112x1024 .f32) (r : Fin 4112) (d : Fin 1024) : (padded A : S4224x1024.Idx → EReal) (ix2 ⟨48 + r.val, by omega⟩ d) = A (ix2 r d) := by
  unfold padded
  open Pointwise in pointwise []

theorem padded_dead (A : FVec Ideal S4112x1024 .f32) (r : Fin 4224) (d : Fin 1024) (h : ¬Live r.val) : (padded A : S4224x1024.Idx → EReal) (ix2 r d) = 0 := by
  unfold Live at h
  unfold padded
  open Pointwise in pointwise []
  split_ifs <;> first
    | rfl
    | (exfalso; omega)

theorem v5_eq : V1 m ρ c main_v5 = padded (m ((c : Thread nD τ).loc main_arg0)) := by
  unfold padded
  show StableHlo.after hostOps0 (Gen.W0 m ρ c) _ = _
  after_reads_simp
  congr! 5
  all_goals first
    | (simp only [Matrix.cons_val_zero, Matrix.cons_val_one, Matrix.cons_val_two]; after_reads_simp; rfl)
    | rfl

theorem v9_eq : V3 m ρ c main_v9 = padded (m ((c : Thread nD τ).loc main_arg4)) := by
  unfold padded
  rw [← W2_args m ρ c main_arg4 (by decide)]
  show StableHlo.after hostOps1 (Gen.W2 m ρ c) _ = _
  after_reads_simp
  congr! 5
  all_goals first
    | (simp only [Matrix.cons_val_zero, Matrix.cons_val_one, Matrix.cons_val_two]; after_reads_simp; rfl)
    | rfl

/-- What the backward region finds unchanged from the forward one. -/
theorem v5_same : V3 m ρ c main_v5 = V1 m ρ c main_v5 := (W3_of m ρ c main_v5 (by decide)).trans (W2_of m ρ c main_v5 (by decide +kernel))
theorem v0_same : V3 m ρ c main_v0 = V1 m ρ c main_v0 := (W3_of m ρ c main_v0 (by decide)).trans (W2_of m ρ c main_v0 (by decide +kernel))
theorem v6_eq : V3 m ρ c main_v6_1 = fun j : S4224x4096.Idx => pre (X (V1 m ρ) c (j 0)) (G (V1 m ρ) c) (W (V1 m ρ) c) (j 1) :=
  (W3_of m ρ c main_v6_1 (by decide)).trans ((W2_arr m ρ c 5).trans (pre_arr (V1 m ρ) c))

theorem X_row (r : Fin 4112) (d : Fin 1024) : X (V1 m ρ) c ⟨48 + r.val, by omega⟩ d = arg0 m c (ix2 r d) := by
  unfold X
  rw [v5_eq]
  exact padded_row _ r d

theorem X_dead (r : Fin 4224) (d : Fin 1024) (h : ¬Live r.val) : X (V1 m ρ) c r d = 0 := by
  unfold X
  rw [v5_eq]
  exact padded_dead _ r d h

theorem D_row (r : Fin 4112) (d : Fin 1024) : D (V3 m ρ) c ⟨48 + r.val, by omega⟩ d = arg4 m c (ix2 r d) := by
  unfold D
  rw [v9_eq]
  exact padded_row _ r d

theorem D_dead (r : Fin 4224) (d : Fin 1024) (h : ¬Live r.val) : D (V3 m ρ) c r d = 0 := by
  unfold D
  rw [v9_eq]
  exact padded_dead _ r d h

theorem G_at (d : Fin 1024) : G (V1 m ρ) c d = arg1 m c (ix1 d) := by
  unfold G arg1
  show StableHlo.after hostOps0 (Gen.W0 m ρ c) _ _ = _
  after_reads_simp
  show _ = (Gen.W0 m ρ c main_arg1 : S1024.Idx → EReal) (ix1 d)
  generalize Gen.W0 m ρ c main_arg1 = A
  open Pointwise in pointwise []

theorem W_at (k : Fin 1024) (n : Fin 4096) : W (V1 m ρ) c k n = arg2 m c (ix2 k n) := by
  unfold W arg2
  show StableHlo.after hostOps0 (Gen.W0 m ρ c) _ _ = _
  after_reads_simp
  show _ = (Gen.W0 m ρ c main_arg2 : S1024x4096.Idx → EReal) (ix2 k n)
  generalize Gen.W0 m ρ c main_arg2 = A
  open Pointwise in pointwise []

theorem U_at (n : Fin 4096) (d : Fin 1024) : U (V1 m ρ) c n d = arg3 m c (ix2 n d) := by
  unfold U arg3
  show StableHlo.after hostOps0 (Gen.W0 m ρ c) _ _ = _
  after_reads_simp
  show _ = (Gen.W0 m ρ c main_arg3 : S4096x1024.Idx → EReal) (ix2 n d)
  generalize Gen.W0 m ρ c main_arg3 = A
  open Pointwise in pointwise []

theorem v1_eq : Gen.W2 m ρ c main_v1 = truncf (F := Ideal) (φ := .f32) .bf16 (m ((c : Thread nD τ).loc main_arg2)) bitsLt_bf16_f32 := by
  refine (W2_of m ρ c main_v1 (by decide +kernel)).trans ?_
  show StableHlo.after hostOps0 (Gen.W0 m ρ c) _ = _
  after_reads_simp

theorem v2_eq : Gen.W2 m ρ c main_v2 = truncf (F := Ideal) (φ := .f32) .bf16 (m ((c : Thread nD τ).loc main_arg3)) bitsLt_bf16_f32 := by
  refine (W2_of m ρ c main_v2 (by decide +kernel)).trans ?_
  show StableHlo.after hostOps0 (Gen.W0 m ρ c) _ = _
  after_reads_simp

theorem W1_at (n : Fin 4096) (d : Fin 1024) : W1 (V3 m ρ) c n d = arg2 m c (ix2 d n) := by
  unfold W1 arg2
  show StableHlo.after hostOps1 (Gen.W2 m ρ c) _ _ = _
  after_reads_simp
  rw [v1_eq]
  generalize (m ((c : Thread nD τ).loc main_arg2)) = A
  open Pointwise in pointwise []

theorem W2_at (k : Fin 1024) (n : Fin 4096) : W2 (V3 m ρ) c k n = arg3 m c (ix2 n k) := by
  unfold W2 arg3
  show StableHlo.after hostOps1 (Gen.W2 m ρ c) _ _ = _
  after_reads_simp
  rw [v2_eq]
  generalize (m ((c : Thread nD τ).loc main_arg3)) = A
  open Pointwise in pointwise []

/-- The gradients at a token, from the arguments: of the product and of the norm. -/
def dp (x : S4112x1024.Idx → EReal) (g : S1024.Idx → EReal) (w : S1024x4096.Idx → EReal) (v : S4096x1024.Idx → EReal) (p : S4112x1024.Idx → EReal) (r : Fin 4112) (n : Fin 4096) : EReal :=
  slope (pre (fun k => x (ix2 r k)) (fun k => g (ix1 k)) (fun k n => w (ix2 k n)) n) (∑ k : Fin 1024, p (ix2 r k) * v (ix2 n k))
def dh (x : S4112x1024.Idx → EReal) (g : S1024.Idx → EReal) (w : S1024x4096.Idx → EReal) (v : S4096x1024.Idx → EReal) (p : S4112x1024.Idx → EReal) (r : Fin 4112) (d : Fin 1024) : EReal :=
  ∑ n : Fin 4096, dp x g w v p r n * w (ix2 d n)

theorem X3 : X (V3 m ρ) c = X (V1 m ρ) c := by
  unfold X
  rw [v5_same]

theorem G3 : G (V3 m ρ) c = fun k => arg1 m c (ix1 k) := by
  refine Eq.trans ?_ (funext fun k => G_at m ρ c k)
  unfold G
  rw [v0_same]

/-- The product's row at a token. -/
def pr (x : S4112x1024.Idx → EReal) (g : S1024.Idx → EReal) (w : S1024x4096.Idx → EReal) (r : Fin 4112) : Fin 4096 → EReal :=
  pre (fun k => x (ix2 r k)) (fun k => g (ix1 k)) (fun k n => w (ix2 k n))

theorem pre_row (r : Fin 4112) : pre (X (V1 m ρ) c ⟨48 + r.val, by omega⟩) (G (V1 m ρ) c) (W (V1 m ρ) c) = pr (arg0 m c) (arg1 m c) (arg2 m c) r := by
  have hx : X (V1 m ρ) c ⟨48 + r.val, by omega⟩ = fun k => arg0 m c (ix2 r k) := funext fun k => X_row m ρ c r k
  have hg : G (V1 m ρ) c = fun k => arg1 m c (ix1 k) := funext fun k => G_at m ρ c k
  have hw : W (V1 m ρ) c = fun k n => arg2 m c (ix2 k n) := funext fun k => funext fun n => W_at m ρ c k n
  rw [hx, hg, hw]
  rfl

theorem first_dead (r : Fin 4224) (n : Fin 4096) (h : ¬Live r.val) : pre (X (V1 m ρ) c r) (G (V1 m ρ) c) (W (V1 m ρ) c) n = 0 := by
  unfold pre
  exact Finset.sum_eq_zero fun k _ => by rw [X_dead m ρ c r k h, zero_mul, zero_mul, zero_mul]

theorem pre_dead (r : Fin 4224) (n : Fin 4096) (h : ¬Live r.val) : sq (pre (X (V1 m ρ) c r) (G (V1 m ρ) c) (W (V1 m ρ) c) n) = 0 := by
  unfold sq
  rw [first_dead m ρ c r n h, max_self, zero_mul]

theorem NX_row (r : Fin 4112) (d : Fin 1024) : NX (V1 m ρ) c ⟨48 + r.val, by omega⟩ d
    = arg0 m c (ix2 r d) + ∑ n, sq (pr (arg0 m c) (arg1 m c) (arg2 m c) r n) * arg3 m c (ix2 n d) := by
  unfold NX
  simp only [pre_row, X_row, U_at]

theorem NX_dead (r : Fin 4224) (d : Fin 1024) (h : ¬Live r.val) : NX (V1 m ρ) c r d = 0 := by
  unfold NX
  rw [X_dead m ρ c r d h, zero_add]
  exact Finset.sum_eq_zero fun n _ => by rw [pre_dead m ρ c r n h, zero_mul]

theorem HN_row (r : Fin 4112) (d : Fin 1024) : HN (V3 m ρ) c ⟨48 + r.val, by omega⟩ d = arg0 m c (ix2 r d) * (rs fun k => arg0 m c (ix2 r k)) * arg1 m c (ix1 d) := by
  have hx : X (V1 m ρ) c ⟨48 + r.val, by omega⟩ = fun k => arg0 m c (ix2 r k) := funext fun k => X_row m ρ c r k
  unfold HN
  rw [X3, hx, G3]

theorem HN_dead (r : Fin 4224) (d : Fin 1024) (h : ¬Live r.val) : HN (V3 m ρ) c r d = 0 := by
  unfold HN
  rw [X3, X_dead m ρ c r d h, zero_mul, zero_mul]

theorem AC_row (r : Fin 4112) (n : Fin 4096) : AC (V3 m ρ) c ⟨48 + r.val, by omega⟩ n = sq (pr (arg0 m c) (arg1 m c) (arg2 m c) r n) := by
  unfold AC Q
  rw [v6_eq, ← pre_row]
  rfl

theorem AC_dead (r : Fin 4224) (n : Fin 4096) (h : ¬Live r.val) : AC (V3 m ρ) c r n = 0 := by
  unfold AC Q
  rw [v6_eq]
  exact pre_dead m ρ c r n h

theorem DP_row (r : Fin 4112) (n : Fin 4096) : DP (V3 m ρ) c ⟨48 + r.val, by omega⟩ n = dp (arg0 m c) (arg1 m c) (arg2 m c) (arg3 m c) (arg4 m c) r n := by
  unfold DP Q dp
  rw [v6_eq]
  simp only [D_row, W2_at]
  have hx : X (V1 m ρ) c ⟨48 + r.val, by omega⟩ = fun k => arg0 m c (ix2 r k) := funext fun k => X_row m ρ c r k
  have hg : G (V1 m ρ) c = fun k => arg1 m c (ix1 k) := funext fun k => G_at m ρ c k
  have hw : W (V1 m ρ) c = fun k n => arg2 m c (ix2 k n) := funext fun k => funext fun n => W_at m ρ c k n
  rw [← hx, ← hg, ← hw]
  rfl

theorem DP_dead (r : Fin 4224) (n : Fin 4096) (h : ¬Live r.val) : DP (V3 m ρ) c r n = 0 := by
  unfold DP slope
  rw [Finset.sum_eq_zero fun k _ => by rw [D_dead m ρ c r k h, zero_mul], mul_zero]

theorem DH_row (r : Fin 4112) (d : Fin 1024) : DH (V3 m ρ) c ⟨48 + r.val, by omega⟩ d = dh (arg0 m c) (arg1 m c) (arg2 m c) (arg3 m c) (arg4 m c) r d := by
  unfold DH dh
  simp only [DP_row, W1_at]

theorem DH_dead (r : Fin 4224) (d : Fin 1024) (h : ¬Live r.val) : DH (V3 m ρ) c r d = 0 :=
  Finset.sum_eq_zero fun n _ => by rw [DP_dead m ρ c r n h, zero_mul]

theorem DX_row (r : Fin 4112) (d : Fin 1024) : DX (V3 m ρ) c ⟨48 + r.val, by omega⟩ d
    = arg4 m c (ix2 r d) + dn (fun k => arg0 m c (ix2 r k)) (dh (arg0 m c) (arg1 m c) (arg2 m c) (arg3 m c) (arg4 m c) r) (fun k => arg1 m c (ix1 k)) d := by
  have hx : X (V1 m ρ) c ⟨48 + r.val, by omega⟩ = fun k => arg0 m c (ix2 r k) := funext fun k => X_row m ρ c r k
  have hd : DH (V3 m ρ) c ⟨48 + r.val, by omega⟩ = dh (arg0 m c) (arg1 m c) (arg2 m c) (arg3 m c) (arg4 m c) r := funext fun k => DH_row m ρ c r k
  unfold DX
  rw [D_row, X3, hx, hd, G3]

theorem DX_dead (r : Fin 4224) (d : Fin 1024) (h : ¬Live r.val) : DX (V3 m ρ) c r d = 0 := by
  unfold DX dn
  rw [D_dead m ρ c r d h, DH_dead m ρ c r d h, X3, X_dead m ρ c r d h]
  simp

theorem DG_row (r : Fin 4112) (d : Fin 1024) : DG (V3 m ρ) c ⟨48 + r.val, by omega⟩ d
    = dh (arg0 m c) (arg1 m c) (arg2 m c) (arg3 m c) (arg4 m c) r d * (arg0 m c (ix2 r d) * rs fun k => arg0 m c (ix2 r k)) := by
  have hx : X (V1 m ρ) c ⟨48 + r.val, by omega⟩ = fun k => arg0 m c (ix2 r k) := funext fun k => X_row m ρ c r k
  unfold DG
  rw [DH_row, X3, hx]

/-- The accumulator's rows add up to the sum over the tokens. -/
theorem acc_sum (d : Fin 1024) : ∑ s : Fin 8, acc (V3 m ρ) c s d = ∑ r : Fin 4112, DG (V3 m ρ) c ⟨48 + r.val, by omega⟩ d := by
  rw [← sum_window 48 4112 (by omega) (fun r : Fin 4224 => DG (V3 m ρ) c r d) fun r h => by
    unfold DG
    rw [DH_dead m ρ c r d h, zero_mul], sum_split 22 192 rfl]
  unfold acc
  rw [Finset.sum_comm]
  refine Finset.sum_congr rfl fun t _ => ?_
  rw [sum_split 24 8 rfl, Finset.sum_comm]
  rfl

/-! ## The results -/

theorem v13_eq : Gen.W5 m ρ c main_v13
    = Host.reduceAdd (F := Ideal) (φ := .f32) (fun j : S8x1024.Idx => acc (V3 m ρ) c (j 0) (j 1)) (constant (F := Ideal) S_ .f32 0x00000000#32) reducesTo_S8x1024_S1024_d0 h_S_ := by
  have e := (W4_arr m ρ c 10).trans (dg_arr (V3 m ρ) c)
  rw [← e]
  show StableHlo.after hostOps2 (Gen.W4 m ρ c) _ = _
  after_reads_simp

section Run

open Idealize.ShloMosaic.Tactic Idealize.SL Idealize.SL.RA Idealize.SL.BI
open scoped Idealize.SL.BI
open Idealize.SL.BI.BIBase Idealize.SL.BI.Laws Idealize.SL.ProofMode Idealize.ShloMosaic.Rounds

set_option backward.isDefEq.respectTransparency.types false in
/-- The kernel's run: every buffer of the host at its last contents. -/
theorem run_all : θ_run (defs (F := Ideal)) (onTc (τ := τ) (main (F := Ideal))) ⟨m, fun _ => 0, ρ⟩
    fun r => ∀ c : Dev nD, ∀ b ∈ Pipeline.ucRefs τ sig, r.2.mem (((c : Thread nD τ)).1, b) = Gen.W5 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (Gen.W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W5 m ρ c) s')
      isplitl [Hh] <;> iassumption)
    (hQ := fun s h _ => h)

end Run

/-- The kernel's run: the seven results, and the arguments as launched. -/
theorem kernel_run :
    θ_run (defs (F := Ideal)) (onTc (τ := τ) (main (F := Ideal))) ⟨m, fun _ => 0, ρ⟩ fun r => ∀ c : Dev nD,
      r.2.mem ((c.tc : Thread nD τ).loc main_v12_0) = (fun j : S4224x1024.Idx => DX (V3 m ρ) c (j 0) (j 1))
      ∧ r.2.mem ((c.tc : Thread nD τ).loc main_v12_3) = (fun j : S4224x4096.Idx => DP (V3 m ρ) c (j 0) (j 1))
      ∧ r.2.mem ((c.tc : Thread nD τ).loc main_v13) = Gen.W5 m ρ c main_v13
      ∧ r.2.mem ((c.tc : Thread nD τ).loc main_v6_0) = (fun j : S4224x1024.Idx => NX (V1 m ρ) c (j 0) (j 1))
      ∧ r.2.mem ((c.tc : Thread nD τ).loc main_v12_1) = (fun j : S4224x1024.Idx => HN (V3 m ρ) c (j 0) (j 1))
      ∧ r.2.mem ((c.tc : Thread nD τ).loc main_v12_2) = (fun j : S4224x4096.Idx => AC (V3 m ρ) c (j 0) (j 1))
      ∧ r.2.mem ((c.tc : Thread nD τ).loc main_v6_1) = (fun j : S4224x4096.Idx => pre (X (V1 m ρ) c (j 0)) (G (V1 m ρ) c) (W (V1 m ρ) c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(h c _ (mem_uc main_v12_0 (by decide))).trans ((W5_of m ρ c main_v12_0 (by decide)).trans ((W4_arr m ρ c 6).trans (dx_arr (V3 m ρ) c))),
     (h c _ (mem_uc main_v12_3 (by decide))).trans ((W5_of m ρ c main_v12_3 (by decide)).trans ((W4_arr m ρ c 9).trans (dp_arr (V3 m ρ) c))),
     h c _ (mem_uc main_v13 (by decide)),
     (h c _ (mem_uc main_v6_0 (by decide))).trans ((W5_of m ρ c main_v6_0 (by decide)).trans ((W4_of m ρ c main_v6_0 (by decide +kernel)).trans
      ((W3_of m ρ c main_v6_0 (by decide)).trans ((W2_arr m ρ c 4).trans (next_arr (V1 m ρ) c))))),
     (h c _ (mem_uc main_v12_1 (by decide))).trans ((W5_of m ρ c main_v12_1 (by decide)).trans ((W4_arr m ρ c 7).trans (h2_arr (V3 m ρ) c))),
     (h c _ (mem_uc main_v12_2 (by decide))).trans ((W5_of m ρ c main_v12_2 (by decide)).trans ((W4_arr m ρ c 8).trans (act_arr (V3 m ρ) c))),
     (h c _ (mem_uc main_v6_1 (by decide))).trans ((W5_of m ρ c main_v6_1 (by decide)).trans ((W4_of m ρ c main_v6_1 (by decide +kernel)).trans (v6_eq m ρ c))),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Host

end Kernel

section Reference

open Cert.FfnReferenceIdeal Cert.FfnReferenceIdeal.Read

variable (x : S4112x1024.Idx → EReal) (g : S1024.Idx → EReal) (w : S1024x4096.Idx → EReal) (v : S4096x1024.Idx → EReal) (p : S4112x1024.Idx → EReal)

abbrev row (r : Fin 4112) (k : Fin 1024) : EReal := x (ix2 r k)

theorem i2 (r : Fin 4112) (a : Fin 1) (k : Fin 1024) : idx_main_v2 (idx_main_v3 (ix2 r a)) k = ix2 r k := funext fun b => match b with
  | ⟨0, _⟩ => rfl
  | ⟨1, _⟩ => rfl
theorem i12 (r : Fin 4112) (k : Fin 1024) : idx_main_v12 (ix2 r k) = ix2 r 0 := funext fun b => match b with
  | ⟨0, _⟩ => rfl
  | ⟨1, _⟩ => rfl
theorem i43 (r : Fin 4112) (k : Fin 1024) : idx_main_v43 (ix2 r k) = ix2 r 0 := funext fun b => match b with
  | ⟨0, _⟩ => rfl
  | ⟨1, _⟩ => rfl
theorem i50 (r : Fin 4112) (k : Fin 1024) : idx_main_v49 (idx_main_v50 (ix2 r k)) 0 = ix2 r 0 := funext fun b => match b with
  | ⟨0, _⟩ => rfl
  | ⟨1, _⟩ => rfl
theorem i41 (r : Fin 4112) (a : Fin 1) (k : Fin 1024) : idx_main_v41 (idx_main_v42 (ix2 r a)) k = ix2 r k := funext fun b => match b with
  | ⟨0, _⟩ => Fin.ext (by have := a.isLt; show r.val * 1 + a.val = r.val; omega)
  | ⟨1, _⟩ => rfl
theorem i15 (r : Fin 4112) (k : Fin 1024) : idx_main_v14 (idx_main_v15 (ix2 r k)) = ix1 k := funext fun b => match b with
  | ⟨0, _⟩ => rfl
theorem i37 (r : Fin 4112) (k : Fin 1024) : idx_main_v14 (idx_main_v37 (ix2 r k)) = ix1 k := funext fun b => match b with
  | ⟨0, _⟩ => rfl
theorem i35 (r : Fin 4112) (k : Fin 1024) : idx_main_v35 (idx_main_v36 (idx_main_v39 (ix1 k) 0)) r = ix2 r k := funext fun b => match b with
  | ⟨0, _⟩ => rfl
  | ⟨1, _⟩ => Fin.ext (by show 0 * 1024 + k.val = k.val; omega)
theorem i28 (r : Fin 4112) (k : Fin 1024) : idx_main_v28 (ix2 r k) = ix2 r k := funext fun b => match b with
  | ⟨0, _⟩ => Fin.ext (by have := k.isLt; show (r.val * 1024 + k.val) / 1024 = r.val; omega)
  | ⟨1, _⟩ => Fin.ext (by have := k.isLt; show (r.val * 1024 + k.val) % 1024 = k.val; omega)
theorem l17 (r : Fin 4112) (n : Fin 4096) (k : Fin 1024) : lidx_main_v17 (ix2 r n) k = ix2 r k := funext fun b => match b with
  | ⟨0, _⟩ => rfl
  | ⟨1, _⟩ => rfl
theorem r17 (r : Fin 4112) (n : Fin 4096) (k : Fin 1024) : ridx_main_v17 (ix2 r n) k = ix2 k n := funext fun b => match b with
  | ⟨0, _⟩ => rfl
  | ⟨1, _⟩ => rfl
theorem l26 (r : Fin 4112) (d : Fin 1024) (n : Fin 4096) : lidx_main_v26 (ix2 r d) n = ix2 r n := funext fun b => match b with
  | ⟨0, _⟩ => rfl
  | ⟨1, _⟩ => rfl
theorem r26 (r : Fin 4112) (d : Fin 1024) (n : Fin 4096) : ridx_main_v26 (ix2 r d) n = ix2 n d := funext fun b => match b with
  | ⟨0, _⟩ => rfl
  | ⟨1, _⟩ => rfl
theorem l29 (r : Fin 4112) (n : Fin 4096) (k : Fin 1024) : lidx_main_v29 (ix2 r n) k = ix2 r k := funext fun b => match b with
  | ⟨0, _⟩ => rfl
  | ⟨1, _⟩ => rfl
theorem r29 (r : Fin 4112) (n : Fin 4096) (k : Fin 1024) : ridx_main_v29 (ix2 r n) k = ix2 n k := funext fun b => match b with
  | ⟨0, _⟩ => rfl
  | ⟨1, _⟩ => rfl
theorem l33 (r : Fin 4112) (d : Fin 1024) (n : Fin 4096) : lidx_main_v33 (ix2 r d) n = ix2 r n := funext fun b => match b with
  | ⟨0, _⟩ => rfl
  | ⟨1, _⟩ => rfl
theorem r33 (r : Fin 4112) (d : Fin 1024) (n : Fin 4096) : ridx_main_v33 (ix2 r d) n = ix2 d n := funext fun b => match b with
  | ⟨0, _⟩ => rfl
  | ⟨1, _⟩ => rfl

theorem ms_at (r : Fin 4112) (a : Fin 1) : (val_main_v7 (F := Ideal) x : S4112x1.Idx → EReal) (ix2 r a) = (∑ k, row x r k * row x r k) * κ + ε := by
  rw [val_main_v7_apply, val_main_v6_apply, val_main_cst_2_apply, val_main_v5_apply, val_main_v4_apply, val_main_cst_1_apply, c_dim, val_main_v3_apply, val_main_v2_apply, val_main_cst_0_apply, c_kappa]
  refine congrArg₂ (fun a b : EReal => a + b) ((div_const _ (by norm_num)).trans (congrArg (fun a : EReal => a * _) ?_)) rfl
  refine (congrArg₂ (fun a b : EReal => a + b) Ideal.ofBits_zero_f32 (Finset.sum_congr rfl fun k _ => ?_)).trans (zero_add _)
  rw [val_main_v1_apply, i2]
  rfl

theorem rs_at (r : Fin 4112) (a : Fin 1) : (val_main_v8 (F := Ideal) x : S4112x1.Idx → EReal) (ix2 r a) = rs (row x r) := by
  rw [val_main_v8_apply, ms_at]
  rfl

theorem pre_at (r : Fin 4112) (n : Fin 4096) : (val_main_v18 (F := Ideal) x g w : S4112x4096.Idx → EReal) (ix2 r n)
    = pre (row x r) (fun k => g (ix1 k)) (fun k n => w (ix2 k n)) n := by
  rw [val_main_v18_apply, val_main_v0_apply, val_main_cst_apply, val_main_v17_apply]
  refine (congrArg₂ (fun a b : EReal => a + b) (Finset.sum_congr rfl fun k _ => ?_) Ideal.ofBits_zero_f32).trans (add_zero _)
  rw [l17, r17, val_main_v16_apply, val_main_v13_apply, val_main_v12_apply, i12, rs_at, val_main_v15_apply, val_main_v14_apply, i15]
  rfl

theorem relu_at (r : Fin 4112) (n : Fin 4096) : (val_main_v19 (F := Ideal) x g w : S4112x4096.Idx → EReal) (ix2 r n)
    = max (pre (row x r) (fun k => g (ix1 k)) (fun k n => w (ix2 k n)) n) 0 := by
  rw [val_main_v19_apply, val_main_call0_v0_apply, val_main_call0_cst_apply, pre_at]
  exact congrArg (fun a : EReal => max _ a) Ideal.ofBits_zero_f32

theorem act_at (r : Fin 4112) (n : Fin 4096) : (val_main_v23 (F := Ideal) x g w : S4112x4096.Idx → EReal) (ix2 r n) = sq (pr x g w r n) := by
  rw [val_main_v23_apply, relu_at]
  rfl

theorem norm_at (r : Fin 4112) (d : Fin 1024) : (val_main_v16 (F := Ideal) x g : S4112x1024.Idx → EReal) (ix2 r d) = x (ix2 r d) * rs (row x r) * g (ix1 d) := by
  rw [val_main_v16_apply, val_main_v13_apply, val_main_v12_apply, i12, rs_at, val_main_v15_apply, val_main_v14_apply, i15]
  rfl

theorem next_at (r : Fin 4112) (d : Fin 1024) : (val_main_v27 (F := Ideal) x g w v : S4112x1024.Idx → EReal) (ix2 r d)
    = x (ix2 r d) + ∑ n, sq (pr x g w r n) * v (ix2 n d) := by
  rw [val_main_v27_apply, val_main_v26_apply]
  refine congrArg (fun a : EReal => _ + a) (Finset.sum_congr rfl fun n _ => ?_)
  rw [l26, r26, act_at]

theorem ct_at (r : Fin 4112) (n : Fin 4096) : (val_main_v29 (F := Ideal) v p : S4112x4096.Idx → EReal) (ix2 r n) = ∑ k : Fin 1024, p (ix2 r k) * v (ix2 n k) := by
  rw [val_main_v29_apply]
  simp only [l29, r29, val_main_v28_apply, i28]

theorem dp_at' (r : Fin 4112) (n : Fin 4096) : (val_main_v32 (F := Ideal) x g w v p : S4112x4096.Idx → EReal) (ix2 r n) = dp x g w v p r n := by
  rw [val_main_v32_apply, val_main_v21_apply, val_main_v20_apply, val_main_cst_4_apply, val_main_v30_apply, val_main_v31_apply, val_main_cst_7_apply,
    val_main_v25_apply, val_main_v24_apply, val_main_cst_6_apply, relu_at, ct_at, pre_at]
  unfold dp slope
  generalize pre (row x r) (fun k => g (ix1 k)) (fun k n => w (ix2 k n)) n = P
  generalize (∑ k : Fin 1024, p (ix2 r k) * v (ix2 n k)) = y
  show Scalar.select (Ideal.cmp .ogt P (Ideal.ofBits .f32 0#32)) (y * (Ideal.ofBits .f32 0x40000000#32 * max P 0)) (Ideal.ofBits .f32 0#32) = _
  rw [Ideal.ofBits_zero_f32, c_two]
  by_cases h : 0 < P
  · simp [Ideal.cmp, Scalar.select, h]
    rw [mul_comm]
  · simp [Ideal.cmp, Scalar.select, h, max_eq_right (not_lt.mp h)]

theorem dh_at (r : Fin 4112) (d : Fin 1024) : (val_main_v33 (F := Ideal) x g w v p : S4112x1024.Idx → EReal) (ix2 r d) = dh x g w v p r d := by
  rw [val_main_v33_apply]
  simp only [l33, r33, dp_at']
  rfl

theorem gain_at (d : Fin 1024) : (val_main_v39 (F := Ideal) x g w v p : S1024.Idx → EReal) (ix1 d) = ∑ r : Fin 4112, dh x g w v p r d * (x (ix2 r d) * rs (row x r)) := by
  rw [val_main_v39_apply, val_main_cst_9_apply]
  refine (congrArg₂ (fun a b : EReal => a + b) Ideal.ofBits_zero_f32 (Fin.sum_univ_one _)).trans ((zero_add _).trans ?_)
  rw [val_main_v36_apply, val_main_v35_apply, val_main_cst_8_apply]
  refine (congrArg₂ (fun a b : EReal => a + b) Ideal.ofBits_zero_f32 (Finset.sum_congr rfl fun r _ => ?_)).trans (zero_add _)
  rw [i35, val_main_v34_apply, val_main_v13_apply, val_main_v12_apply, i12, rs_at, dh_at]
  exact mul_comm _ _

theorem grad_at (r : Fin 4112) (d : Fin 1024) : (val_main_v54 (F := Ideal) x g w v p : S4112x1024.Idx → EReal) (ix2 r d)
    = p (ix2 r d) + dn (row x r) (dh x g w v p r) (fun k => g (ix1 k)) d := by
  obtain ⟨e, he, hε⟩ := c_eps
  obtain ⟨ρ, hρ, h1, h2⟩ := Norm.scale (S := ∑ k, row x r k * row x r k) (Finset.sum_nonneg fun k _ => sq_nonneg _) (show (0 : ℝ) < 1024⁻¹ by norm_num) he
  rw [← c_kappa, ← hε] at h1 h2
  have h8 : ∀ a, (val_main_v8 (F := Ideal) x : S4112x1.Idx → EReal) (ix2 r a) = (ρ : EReal) := fun a => (rs_at x r a).trans h1
  have h11 : ∀ a, (val_main_v11 (F := Ideal) x : S4112x1.Idx → EReal) (ix2 r a) = ((-1 / 2 : ℝ) : EReal) * ((ρ * ρ * ρ : ℝ) : EReal) := fun a => by
    rw [val_main_v11_apply, val_main_v10_apply, val_main_cst_3_apply, c_half, val_main_v9_apply, rs_at, ms_at]
    exact congrArg (fun a : EReal => _ * a) h2
  have h38 : ∀ k, (val_main_v38 (F := Ideal) x g w v p : S4112x1024.Idx → EReal) (ix2 r k) = dh x g w v p r k * g (ix1 k) := fun k => by
    rw [val_main_v38_apply, dh_at, val_main_v37_apply, val_main_v14_apply, i37]
    rfl
  have h42 : ∀ a, (val_main_v42 (F := Ideal) x g w v p : S4112x1.Idx → EReal) (ix2 r a) = ∑ k, row x r k * (dh x g w v p r k * g (ix1 k)) := fun a => by
    rw [val_main_v42_apply, val_main_v41_apply, val_main_cst_10_apply]
    refine (congrArg₂ (fun a b : EReal => a + b) Ideal.ofBits_zero_f32 (Finset.sum_congr rfl fun k _ => ?_)).trans (zero_add _)
    rw [val_main_v40_apply, i41, h38]
    rfl
  have h50 : ∀ k, (val_main_v50 (F := Ideal) x g w v p : S4112x1024.Idx → EReal) (ix2 r k)
      = (∑ k, row x r k * (dh x g w v p r k * g (ix1 k))) * (((-1 / 2 : ℝ) : EReal) * ((ρ * ρ * ρ : ℝ) : EReal)) * ((1024⁻¹ : ℝ) : EReal) := fun k => by
    rw [val_main_v50_apply, val_main_v49_apply, val_main_cst_12_apply]
    refine (congrArg₂ (fun a b : EReal => a + b) Ideal.ofBits_zero_f32 (Fin.sum_univ_one _)).trans ((zero_add _).trans ?_)
    rw [val_main_v48_apply, val_main_v47_apply, val_main_cst_11_apply, c_dim]
    refine (div_const _ (by norm_num)).trans (congrArg (fun a : EReal => a * _) ?_)
    rw [val_main_v46_apply, i50, h42, h11]
    rfl
  rw [val_main_v54_apply, val_main_v53_apply, val_main_v52_apply, val_main_v51_apply, val_main_v45_apply, val_main_v44_apply, val_main_v43_apply, i43, h8, h50, h38]
  unfold dn
  have hr : rs (row x r) = (ρ : EReal) := h1
  rw [hr, c_kappa]
  refine Eq.trans ?_ (Norm.back (row x r) (fun k => dh x g w v p r k * g (ix1 k)) (p (ix2 r d)) hρ 1024⁻¹ d).symm
  rfl

/-- A result padded with zero rows is the padded array whose rows at the tokens are the result's and whose other rows are zero. -/
theorem rows_agree (A : S4112x1024.Idx → EReal) (z : S_.Idx → EReal) (B : Fin 4224 → Fin 1024 → EReal) (hz : ∀ i, z i = 0)
    (row : ∀ (r : Fin 4112) d, B ⟨48 + r.val, by omega⟩ d = A (ix2 r d)) (dead : ∀ r d, ¬Live r.val → B r d = 0) (j0 : Fin 4224) (j1 : Fin 1024) :
    (pad S4224x1024 ![48, 0] ![64, 0] ![0, 0] (A : FVec Ideal S4112x1024 .f32) (z : FVec Ideal S_ .f32) Gen.pads_S4112x1024_S4224x1024_48640_000 Gen.h_S_ : S4224x1024.Idx → EReal) (ix2 j0 j1) = B j0 j1 := by
  open Pointwise in pointwise []
  by_cases h : 48 ≤ j0.val ∧ j0.val - 48 < 4112
  · rw [dif_pos h, ← row]
    exact congrArg (fun r => B r j1) (Fin.ext (by show 48 + (j0.val - 48) = j0.val; omega))
  · rw [dif_neg h, hz, dead j0 j1 fun hh => h ⟨hh.1, by have := hh.2; omega⟩]

theorem rows_agree_wide (A : S4112x4096.Idx → EReal) (z : S_.Idx → EReal) (B : Fin 4224 → Fin 4096 → EReal) (hz : ∀ i, z i = 0)
    (row : ∀ (r : Fin 4112) d, B ⟨48 + r.val, by omega⟩ d = A (ix2 r d)) (dead : ∀ r d, ¬Live r.val → B r d = 0) (j0 : Fin 4224) (j1 : Fin 4096) :
    (pad S4224x4096 ![48, 0] ![64, 0] ![0, 0] (A : FVec Ideal S4112x4096 .f32) (z : FVec Ideal S_ .f32) Gen.pads_S4112x4096_S4224x4096_48640_000 Gen.h_S_ : S4224x4096.Idx → EReal) (ix2 j0 j1) = B j0 j1 := by
  open Pointwise in pointwise []
  by_cases h : 48 ≤ j0.val ∧ j0.val - 48 < 4112
  · rw [dif_pos h, ← row]
    exact congrArg (fun r => B r j1) (Fin.ext (by show 48 + (j0.val - 48) = j0.val; omega))
  · rw [dif_neg h, hz, dead j0 j1 fun hh => h ⟨hh.1, by have := hh.2; omega⟩]

theorem quiescent_reference : quiescent_FfnReferenceIdeal := fun m ρ _ =>
  (θ_run Cert.FfnReferenceIdeal.defs _ _).mono (fun r h => ⟨fun c => (h c).2.2.2.2.2.2.2, sem_eq_zero_of_no_sems (by decide) r.2⟩)
    (Cert.FfnReferenceIdeal.Value.run (F := Ideal) m ρ)

end Reference

section Claim

open Cert.FfnKernelIdeal Cert.FfnKernelIdeal.Gen

variable (m : (ℓ : Loc nD τ sig) → Buf (Elt Ideal) ℓ) (ρ : Dev nD → PrngReg) (c : Dev nD)

theorem pad_value : (FloatOps.sitofp (F := Ideal) FTy.f32 0#32 : EReal) = 0 := by
  simp [FloatOps.sitofp]

theorem grads_agree : (Cert.FfnReferenceIdeal.Read.val_main_v55 (F := Ideal) (arg0 m c) (arg1 m c) (arg2 m c) (arg3 m c) (arg4 m c)) = fun j : S4224x1024.Idx => DX (V3 m ρ) c (j 0) (j 1) := by
  funext j
  idx_vars j
  exact rows_agree _ _ (DX (V3 m ρ) c) (fun _ => pad_value) (fun r d => (DX_row m ρ c r d).trans (grad_at _ _ _ _ _ r d).symm) (DX_dead m ρ c) j0 j1

theorem products_agree : (Cert.FfnReferenceIdeal.Read.val_main_v57 (F := Ideal) (arg0 m c) (arg1 m c) (arg2 m c) (arg3 m c) (arg4 m c)) = fun j : S4224x4096.Idx => DP (V3 m ρ) c (j 0) (j 1) := by
  funext j
  idx_vars j
  exact rows_agree_wide _ _ (DP (V3 m ρ) c) (fun _ => pad_value) (fun r d => (DP_row m ρ c r d).trans (dp_at' _ _ _ _ _ r d).symm) (DP_dead m ρ c) j0 j1

theorem nexts_agree : (Cert.FfnReferenceIdeal.Read.val_main_v58 (F := Ideal) (arg0 m c) (arg1 m c) (arg2 m c) (arg3 m c)) = fun j : S4224x1024.Idx => NX (V1 m ρ) c (j 0) (j 1) := by
  funext j
  idx_vars j
  exact rows_agree _ _ (NX (V1 m ρ) c) (fun _ => pad_value) (fun r d => (NX_row m ρ c r d).trans (next_at _ _ _ _ r d).symm) (NX_dead m ρ c) j0 j1

theorem norms_agree : (Cert.FfnReferenceIdeal.Read.val_main_v60 (F := Ideal) (arg0 m c) (arg1 m c)) = fun j : S4224x1024.Idx => HN (V3 m ρ) c (j 0) (j 1) := by
  funext j
  idx_vars j
  exact rows_agree _ _ (HN (V3 m ρ) c) (fun _ => pad_value) (fun r d => (HN_row m ρ c r d).trans (norm_at _ _ r d).symm) (HN_dead m ρ c) j0 j1

theorem acts_agree : (Cert.FfnReferenceIdeal.Read.val_main_v62 (F := Ideal) (arg0 m c) (arg1 m c) (arg2 m c)) = fun j : S4224x4096.Idx => AC (V3 m ρ) c (j 0) (j 1) := by
  funext j
  idx_vars j
  exact rows_agree_wide _ _ (AC (V3 m ρ) c) (fun _ => pad_value) (fun r d => (AC_row m ρ c r d).trans (act_at _ _ _ r d).symm) (AC_dead m ρ c) j0 j1

theorem firsts_agree : (Cert.FfnReferenceIdeal.Read.val_main_v63 (F := Ideal) (arg0 m c) (arg1 m c) (arg2 m c))
    = fun j : S4224x4096.Idx => pre (X (V1 m ρ) c (j 0)) (G (V1 m ρ) c) (W (V1 m ρ) c) (j 1) := by
  funext j
  idx_vars j
  exact rows_agree_wide _ _ (fun r n => pre (X (V1 m ρ) c r) (G (V1 m ρ) c) (W (V1 m ρ) c) n) (fun _ => pad_value)
    (fun r n => (congrFun (pre_row m ρ c r) n).trans (pre_at _ _ _ r n).symm) (first_dead m ρ c) j0 j1

theorem gains_agree : (Cert.FfnReferenceIdeal.Read.val_main_v39 (F := Ideal) (arg0 m c) (arg1 m c) (arg2 m c) (arg3 m c) (arg4 m c))
    = Gen.W5 m ρ c main_v13 := by
  rw [v13_eq]
  funext j
  idx_vars j
  refine (gain_at _ _ _ _ _ j0).trans ?_
  open Pointwise in pointwise []
  rw [acc_sum]
  exact Finset.sum_congr rfl fun r _ => (DG_row m ρ c r j0).symm

/-- The kernel's results are the reference's, over the extended reals. -/
theorem algebraic : algebraic_FfnKernelIdeal_FfnReferenceIdeal := by
  intro m ρ m' ρ' _ hagree
  refine ⟨_, _, _, _, _, _, _, kernel_run m ρ, ?_⟩
  refine (θ_run Cert.FfnReferenceIdeal.defs _ _).mono (fun r h c => ?_) (Cert.FfnReferenceIdeal.Value.run (F := Ideal) m' ρ')
  obtain ⟨e0, e1, e2, e3, e4⟩ := hagree c
  obtain ⟨h1, h2, h3, h4, h5, h6, h7, hr⟩ := h c
  refine ⟨h1.trans ?_, h2.trans ?_, h3.trans ?_, h4.trans ?_, h5.trans ?_, h6.trans ?_, h7.trans ?_, hr⟩
  · rw [Cert.FfnReferenceIdeal.Read.val_main_v55_eq, e0, e1, e2, e3, e4]
    exact grads_agree m ρ c
  · rw [Cert.FfnReferenceIdeal.Read.val_main_v57_eq, e0, e1, e2, e3, e4]
    exact products_agree m ρ c
  · rw [Cert.FfnReferenceIdeal.Read.val_main_v39_eq, e0, e1, e2, e3, e4]
    exact gains_agree m ρ c
  · rw [Cert.FfnReferenceIdeal.Read.val_main_v58_eq, e0, e1, e2, e3]
    exact nexts_agree m ρ c
  · rw [Cert.FfnReferenceIdeal.Read.val_main_v60_eq, e0, e1]
    exact norms_agree m ρ c
  · rw [Cert.FfnReferenceIdeal.Read.val_main_v62_eq, e0, e1, e2]
    exact acts_agree m ρ c
  · rw [Cert.FfnReferenceIdeal.Read.val_main_v63_eq, e0, e1, e2]
    exact firsts_agree m ρ c

end Claim

end Cert.Proof.Ffn
end
-- ==== Proof.MlaBody.lean ====
module

public import proofs.«01_k».proof.Defs
public import proofs.«01_k».proof.Proof.Gen.MlaKernelIdeal.Frame
public import proofs.«01_k».proof.Proof.Norm
public import Idealize.ShloMosaic.Lib.Pipeline.ValueKit
public import Idealize.ShloMosaic.Lib.StableHlo.RunRead
public import Idealize.ShloMosaic.Lib.Pointwise
public import Idealize.ShloMosaic.Lib.WordCmp
public import Idealize.ShloMosaic.Lib.Tactic.CleanTypes
public import Idealize.ShloMosaic.Lib.ValueIdx
public import Idealize.ShloMosaic.Lib.Quiescent

@[expose] public section

/-! # What one block of the gradient before the attention stores -/

set_option maxRecDepth 16384

noncomputable section

namespace Cert.Proof.Mla

open Idealize.ShloMosaic Idealize.ShloMosaic.TcCoe Idealize.SL.Sem Cert.Proof.Reals Cert.Proof.Sums
open Idealize.ShloMosaic.Pipeline (Dat)

section Kernel

open Cert.MlaKernelIdeal Cert.MlaKernelIdeal.Gen

theorem hz : (![0, 0] : Fin 2 → Nat) = fun _ => 0 := funext fun a => by fin_cases a <;> rfl

/-- A load of a whole two-axis block reads its contents. -/
theorem ld0 {a b : ℕ} {Val : EltTy → Type} {e : EltTy} (inb) (X : (⟨2, ![a, b]⟩ : Shape).Idx → Val e) :
    View.ld X (Rect.unit (s := ⟨2, ![a, b]⟩) ![0, 0] ![a, b] inb) = X := View.ld_unit_zero (S := ⟨2, ![a, b]⟩) hz inb X

abbrev T := FVec Ideal S384x128 .f32
abbrev Tq := FVec Ideal S384x1024 .f32

/-! ## A head's operations -/

/-- The lane `d` of head `h`. -/
def lane (h : Fin 8) (d : Fin 128) : Fin 1024 := ⟨128 * h.val + d.val, by omega⟩

/-- The lanes of head `h`, of a value and of a block. -/
theorem slices_hd (h : Fin 8) : Shape.Slices S384x1024 ![0, 128 * h.val] S384x128 := by fin_cases h <;> decide
def hd (h : Fin 8) (v : Tq) : T := extractStridedSlice S384x128 ![0, 128 * h.val] v (slices_hd h)
theorem inb_hd (h : Fin 8) : ∀ a : Fin S384x1024.rank, (![0, 128 * h.val] : Fin 2 → Nat) a + (![384, 128] : Fin 2 → Nat) a ≤ S384x1024.size a := by fin_cases h <;> decide
def hl (h : Fin 8) (v : Vec Ideal S384x1024 .f32) : Vec Ideal S384x128 .f32 := View.ld v (Rect.unit ![0, 128 * h.val] ![384, 128] (inb_hd h))

/-- The sum over the lanes, one entry per row. -/
def sumL (v : T) : FVec Ideal S384x1 .f32 := shapeCast S384x1 (multiReduction .add [1] S384 v 0x00000000#32 reduces_S384x128_S384 (.inl rfl) rfl) shapeCasts_S384_S384x1
def wide (v : FVec Ideal S384x1 .f32) : T := broadcastTo S384x128 v broadcasts_S384x1_S384x128
def mean (v : T) : FVec Ideal S384x1 .f32 := mulf (sumL v) (broadcast S384x1 (Named.named κ "inv96" 0x3C2AAAAB#32))
def rms (q : T) : FVec Ideal S384x1 .f32 := rsqrt (addf (mean (mulf q q)) (broadcast S384x1 (Scalar.ofBits .f32 0x358637BD#32)))
def nrm (q : T) : T := mulf q (wide (rms q))
def gain (g : Vec Ideal S1x128 .f32) : T := broadcastTo S384x128 (shapeCast S1x128 g shapeCasts_S1x128_S1x128) broadcasts_S1x128_S384x128
def cc (v : Vec Ideal S384x128 .f32) : T := shapeCast S384x128 v shapeCasts_S384x128_S384x128
/-- A gradient turned back by the rotation. -/
def rot (c s1 s2 u : T) : T := addf (addf (mulf u c) (dynamicRotate 1 16#32 none (mulf u s1) rotates_S384x128_d1)) (dynamicRotate 1 112#32 none (mulf u s2) rotates_S384x128_d1)
/-- The gradient of the norm's argument. -/
def bk (q r g : T) : T := mulf (wide (rms q)) (subf (mulf r g) (mulf (nrm q) (wide (mean (mulf (mulf r g) (nrm q))))))
/-- The column sums of the gain's part, per sublane. -/
def red (q r : T) : FVec Ideal S8x128 .f32 := multiReduction .add [0] S8x128 (shapeCast S48x8x128 (mulf r (nrm q)) shapeCasts_S384x128_S48x8x128) 0x00000000#32 reduces_S48x8x128_S8x128 (.inl rfl) rfl

section Spec

variable (x0 x1 x2 : Vec Ideal S384x1024 .f32) (x3 : Vec Ideal S384x256 .f32) (x4 x5 : Vec Ideal S384x128 .f32) (x6 : Vec Ideal S1x256 .f32) (x7 : Vec Ideal S256x1024 .bf16) (x8 : Vec Ideal S1x128 .f32) (x9 x10 : Vec Ideal S128x1024 .bf16) (x11 x12 : Vec Ideal S1x128 .f32) (x13 x14 x15 : Vec Ideal S384x128 .f32)
  (z0 : Vec Ideal S8x256 .f32) (z1 z2 z3 : Vec Ideal S8x128 .f32)

def Q : Tq := k0_pay6 x3 x6 x7
def K0 : Tq := k0_pay8 (k0_pay5 x4 x8) (k0_pay7 x9) (constant S384x1024 FTy.f32 0x00000000#32)
def qh (h : Fin 8) : T := hd h (Q x3 x6 x7)
def kh (h : Fin 8) : T := addf (hd h (K0 x4 x8 x9)) (cc x5)
def rq (h : Fin 8) : T := rot (cc x13) (cc x14) (cc x15) (mulf (cc (hl h x0)) (broadcast S384x128 (Scalar.ofBits .f32 0x3DD105EC#32)))
def rk (h : Fin 8) : T := rot (cc x13) (cc x14) (cc x15) (cc (hl h x1))
def bq (h : Fin 8) : T := bk (qh x3 x6 x7 h) (rq x0 x13 x14 x15 h) (gain x11)
def bkk (h : Fin 8) : T := bk (kh x4 x5 x8 x9 h) (rk x1 x13 x14 x15 h) (gain x12)
def gq (h : Fin 8) : FVec Ideal S8x128 .f32 := red (qh x3 x6 x7 h) (rq x0 x13 x14 x15 h)
def gk (h : Fin 8) : FVec Ideal S8x128 .f32 := red (kh x4 x5 x8 x9 h) (rk x1 x13 x14 x15 h)
/-- Eight heads' values side by side, narrowed. -/
def side (f : Fin 8 → T) : FVec Ideal S384x1024 .bf16 := fun j => f ⟨(j 1).val / 128, Nat.div_lt_of_lt_mul (j 1).isLt⟩ (ix2 (j 0) ⟨(j 1).val % 128, Nat.mod_lt _ (by decide)⟩)
def sum8 {s : Shape} (z : FVec Ideal s .f32) (f : Fin 8 → FVec Ideal s .f32) : FVec Ideal s .f32 :=
  addf (addf (addf (addf (addf (addf (addf (addf z (f 0)) (f 1)) (f 2)) (f 3)) (f 4)) (f 5)) (f 6)) (f 7)
def dQ : FVec Ideal S384x256 .f32 := k0_pay153 (F := Ideal) (side (bq x0 x3 x6 x7 x11 x13 x14 x15)) x7
def dKV : T := k0_pay157 (F := Ideal) (side (bkk x1 x4 x5 x8 x9 x12 x13 x14 x15)) x9 x2 x10
end Spec

theorem side_at (f : Fin 8 → T) (h : Fin 8) (r : Fin 384) (d : Fin 128) : (side f : S384x1024.Idx → EReal) (ix2 r (lane h d)) = (f h : S384x128.Idx → EReal) (ix2 r d) := by
  have e1 : (⟨(lane h d).val / 128, Nat.div_lt_of_lt_mul (lane h d).isLt⟩ : Fin 8) = h := Fin.ext (by show (128 * h.val + d.val) / 128 = h.val; omega)
  have e2 : (⟨(lane h d).val % 128, Nat.mod_lt _ (by decide)⟩ : Fin 128) = d := Fin.ext (by show (128 * h.val + d.val) % 128 = d.val; omega)
  show (f ⟨(lane h d).val / 128, _⟩ : S384x128.Idx → EReal) (ix2 r ⟨(lane h d).val % 128, _⟩) = _
  rw [e1, e2]

theorem side_piece (f : Fin 8 → T) (h : Fin 8) {o : Fin 2 → Nat} (e : o = ![0, 128 * h.val]) (p) (x : S384x128.Idx) :
    (truncf .bf16 (f h) bitsLt_bf16_f32 : S384x128.Idx → EReal) x = side f ((Rect.unit (s := S384x1024) o ![384, 128] p).emb x) := by
  subst e
  idx_vars x
  have e : (Rect.unit (s := S384x1024) ![0, 128 * h.val] ![384, 128] p).emb (ix2 x0 x1) = ix2 x0 (lane h x1) := by
    funext a
    match a with
    | ⟨0, _⟩ => exact Fin.ext (by simp)
    | ⟨1, _⟩ => exact Fin.ext (by simp [lane])
  exact (side_at f h x0 x1).symm.trans (congrArg (side f) e.symm)

theorem head_mem (h : Fin 8) {o : Fin 2 → Nat} (e : o = ![0, 128 * h.val]) (p) (y : S384x1024.Idx) (hy : (y 1).val / 128 = h.val) :
    y ∈ (Rect.unit (s := S384x1024) o ![384, 128] p).set := by
  subst e
  refine Rect.mem_set_unit.2 fun a => ?_
  have h0 := (y 0).isLt
  have h1 := (y 1).isLt
  match a with
  | ⟨0, _⟩ => exact ⟨Nat.zero_le _, by simpa using h0⟩
  | ⟨1, _⟩ => exact ⟨by show 128 * h.val ≤ (y 1).val; omega, by show (y 1).val < 128 * h.val + 128; omega⟩

/-- The stores of eight heads' values, each at its lanes, the last one first. -/
abbrev heads (f : Fin 8 → T) (p0 p1 p2 p3 p4 p5 p6 p7) :=
  ([⟨Rect.unit ![0, 896] ![384, 128] p7, truncf .bf16 (f 7) bitsLt_bf16_f32⟩, ⟨Rect.unit ![0, 768] ![384, 128] p6, truncf .bf16 (f 6) bitsLt_bf16_f32⟩, ⟨Rect.unit ![0, 640] ![384, 128] p5, truncf .bf16 (f 5) bitsLt_bf16_f32⟩, ⟨Rect.unit ![0, 512] ![384, 128] p4, truncf .bf16 (f 4) bitsLt_bf16_f32⟩, ⟨Rect.unit ![0, 384] ![384, 128] p3, truncf .bf16 (f 3) bitsLt_bf16_f32⟩, ⟨Rect.unit ![0, 256] ![384, 128] p2, truncf .bf16 (f 2) bitsLt_bf16_f32⟩, ⟨Rect.unit ![0, 128] ![384, 128] p1, truncf .bf16 (f 1) bitsLt_bf16_f32⟩, ⟨Rect.unit ![0, 0] ![384, 128] p0, truncf .bf16 (f 0) bitsLt_bf16_f32⟩] : List (View.Piece (Elt Ideal) S384x1024 .bf16))

theorem canon_side (f : Fin 8 → T) (p0 p1 p2 p3 p4 p5 p6 p7) (y : S384x1024.Idx) :
    (∃ p ∈ heads f p0 p1 p2 p3 p4 p5 p6 p7, y ∈ p.1.set)
    ∧ View.canon (Val := Elt Ideal) (e := .bf16) (heads f p0 p1 p2 p3 p4 p5 p6 p7) y = side f y := by
  have hc : ∃ p ∈ heads f p0 p1 p2 p3 p4 p5 p6 p7, y ∈ p.1.set := by
    have h1 : (y 1).val < 1024 := (y 1).isLt
    have hq : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 := by omega
    rcases hq with hq | hq | hq | hq | hq | hq | hq | hq
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), head_mem 0 (o := ![0, 0]) rfl p0 y hq⟩
    · exact ⟨_, List.mem_cons_of_mem _ (List.mem_cons_of_mem _ (List.mem_cons_of_mem _ (List.mem_cons_of_mem _ (List.mem_cons_of_mem _ (List.mem_cons_of_mem _ (List.mem_cons_self)))))), head_mem 1 (o := ![0, 128]) rfl p1 y hq⟩
    · exact ⟨_, List.mem_cons_of_mem _ (List.mem_cons_of_mem _ (List.mem_cons_of_mem _ (List.mem_cons_of_mem _ (List.mem_cons_of_mem _ (List.mem_cons_self))))), head_mem 2 (o := ![0, 256]) rfl p2 y hq⟩
    · exact ⟨_, List.mem_cons_of_mem _ (List.mem_cons_of_mem _ (List.mem_cons_of_mem _ (List.mem_cons_of_mem _ (List.mem_cons_self)))), head_mem 3 (o := ![0, 384]) rfl p3 y hq⟩
    · exact ⟨_, List.mem_cons_of_mem _ (List.mem_cons_of_mem _ (List.mem_cons_of_mem _ (List.mem_cons_self))), head_mem 4 (o := ![0, 512]) rfl p4 y hq⟩
    · exact ⟨_, List.mem_cons_of_mem _ (List.mem_cons_of_mem _ (List.mem_cons_self)), head_mem 5 (o := ![0, 640]) rfl p5 y hq⟩
    · exact ⟨_, List.mem_cons_of_mem _ (List.mem_cons_self), head_mem 6 (o := ![0, 768]) rfl p6 y hq⟩
    · exact ⟨_, List.mem_cons_self, head_mem 7 (o := ![0, 896]) rfl p7 y hq⟩
  refine ⟨hc, View.canon_apply_of_pieces (Val := Elt Ideal) (e := .bf16) (side f) _ ?_ y hc⟩
  intro p hp
  simp only [List.mem_cons, List.not_mem_nil, or_false] at hp
  rcases hp with rfl | rfl | rfl | rfl | rfl | rfl | rfl | rfl
  · exact side_piece f 7 (o := ![0, 896]) rfl p7
  · exact side_piece f 6 (o := ![0, 768]) rfl p6
  · exact side_piece f 5 (o := ![0, 640]) rfl p5
  · exact side_piece f 4 (o := ![0, 512]) rfl p4
  · exact side_piece f 3 (o := ![0, 384]) rfl p3
  · exact side_piece f 2 (o := ![0, 256]) rfl p2
  · exact side_piece f 1 (o := ![0, 128]) rfl p1
  · exact side_piece f 0 (o := ![0, 0]) rfl p0

/-- Eight heads' stores, read back whole. -/
theorem readCov_side {b : Kind} {sp : Space} (v : View sig b sp S384x1024 .bf16) (f : Fin 8 → T) (p0 p1 p2 p3 p4 p5 p6 p7) :
    v.readCov (Val := Elt Ideal) (heads f p0 p1 p2 p3 p4 p5 p6 p7) (Rect.unit ![0, 0] ![384, 1024] inb_S384x1024_S384x1024_0_0).toLoadRect = side f := by
  rw [View.readCov_eq_canon_ld _ _ _ fun y => (canon_side f p0 p1 p2 p3 p4 p5 p6 p7 y).1, ld0]
  exact funext fun y => (canon_side f p0 p1 p2 p3 p4 p5 p6 p7 y).2

section Cases

variable (c : Dev nD) (i : grid0.Coords) (a1 : Memref sig .tc .vmem S384x1024 .f32) (h1 : a1.IsWhole) (a2 : Memref sig .tc .vmem S384x1024 .f32) (h2 : a2.IsWhole) (a3 : Memref sig .tc .vmem S384x1024 .f32) (h3 : a3.IsWhole) (a4 : Memref sig .tc .vmem S384x256 .f32) (h4 : a4.IsWhole) (a5 : Memref sig .tc .vmem S384x128 .f32) (h5 : a5.IsWhole) (a6 : Memref sig .tc .vmem S384x128 .f32) (h6 : a6.IsWhole) (a7 : Memref sig .tc .vmem S1x256 .f32) (h7 : a7.IsWhole) (a8 : Memref sig .tc .vmem S256x1024 .bf16) (h8 : a8.IsWhole) (a9 : Memref sig .tc .vmem S1x128 .f32) (h9 : a9.IsWhole) (a10 : Memref sig .tc .vmem S128x1024 .bf16) (h10 : a10.IsWhole) (a11 : Memref sig .tc .vmem S128x1024 .bf16) (h11 : a11.IsWhole) (a12 : Memref sig .tc .vmem S1x128 .f32) (h12 : a12.IsWhole) (a13 : Memref sig .tc .vmem S1x128 .f32) (h13 : a13.IsWhole) (a14 : Memref sig .tc .vmem S384x128 .f32) (h14 : a14.IsWhole) (a15 : Memref sig .tc .vmem S384x128 .f32) (h15 : a15.IsWhole) (a16 : Memref sig .tc .vmem S384x128 .f32) (h16 : a16.IsWhole) (a17 : Memref sig .tc .vmem S384x256 .bf16) (h17 : a17.IsWhole) (a18 : Memref sig .tc .vmem S384x128 .bf16) (h18 : a18.IsWhole) (a19 : Memref sig .tc .vmem S384x128 .bf16) (h19 : a19.IsWhole) (a20 : Memref sig .tc .vmem S384x1024 .bf16) (h20 : a20.IsWhole) (a21 : Memref sig .tc .vmem S384x1024 .bf16) (h21 : a21.IsWhole) (a22 : Memref sig .tc .vmem S8x256 .f32) (h22 : a22.IsWhole) (a23 : Memref sig .tc .vmem S8x128 .f32) (h23 : a23.IsWhole) (a24 : Memref sig .tc .vmem S8x128 .f32) (h24 : a24.IsWhole) (a25 : Memref sig .tc .vmem S8x128 .f32) (h25 : a25.IsWhole)
  (x0 : Vec Ideal S384x1024 .f32) (x1 : Vec Ideal S384x1024 .f32) (x2 : Vec Ideal S384x1024 .f32) (x3 : Vec Ideal S384x256 .f32) (x4 : Vec Ideal S384x128 .f32) (x5 : Vec Ideal S384x128 .f32) (x6 : Vec Ideal S1x256 .f32) (x7 : Vec Ideal S256x1024 .bf16) (x8 : Vec Ideal S1x128 .f32) (x9 : Vec Ideal S128x1024 .bf16) (x10 : Vec Ideal S128x1024 .bf16) (x11 : Vec Ideal S1x128 .f32) (x12 : Vec Ideal S1x128 .f32) (x13 : Vec Ideal S384x128 .f32) (x14 : Vec Ideal S384x128 .f32) (x15 : Vec Ideal S384x128 .f32) (z0 : Vec Ideal S8x256 .f32) (z1 : Vec Ideal S8x128 .f32) (z2 : Vec Ideal S8x128 .f32) (z3 : Vec Ideal S8x128 .f32)

/-- A value of one grid point at the block's operands. -/
local notation "operands[" f "]" => f c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25
/-- The same at the blocks' contents. -/
local notation "blocks[" f "]" => f x0 x1 x2 x3 x4 x5 x6 x7 x8 x9 x10 x11 x12 x13 x14 x15

theorem o16_A (hc : cond0_0 i) : blocks[operands[out0_A_16 (F := Ideal)] hc] = k0_pay156 (F := Ideal) (k0_pay1 x3) (k0_pay2 x3) (dQ x0 x3 x6 x7 x11 x13 x14 x15) x6 := by
  unfold out0_A_16
  rw [View.read_writes_eq_canon _ _ _ (blocks[operands[cover0_A_16] hc])]
  unfold kernelRun0_A
  dsimp only
  sl_unfold_words
  rw [View.canon_unit_zero hz]
  simp only [View.readAt_eq_ld, Memref.IsWhole.read_unread, ld0]
  refine (congrArg (fun w => k0_pay156 (F := Ideal) (k0_pay1 x3) (k0_pay2 x3) (k0_pay153 (F := Ideal) w x7) x6) ?_)
  exact readCov_side _ (bq x0 x3 x6 x7 x11 x13 x14 x15) _ _ _ _ _ _ _ _

theorem o16_B (hc : ¬cond0_0 i) : blocks[operands[out0_B_16 (F := Ideal)] hc] z0 z1 z2 z3 = k0_pay156 (F := Ideal) (k0_pay1 x3) (k0_pay2 x3) (dQ x0 x3 x6 x7 x11 x13 x14 x15) x6 := by
  unfold out0_B_16
  rw [View.read_writes_eq_canon _ _ _ (blocks[operands[cover0_B_16] hc] z0 z1 z2 z3)]
  unfold kernelRun0_B
  dsimp only
  sl_unfold_words
  rw [View.canon_unit_zero hz]
  simp only [View.readAt_eq_ld, Memref.IsWhole.read_unread, ld0]
  refine (congrArg (fun w => k0_pay156 (F := Ideal) (k0_pay1 x3) (k0_pay2 x3) (k0_pay153 (F := Ideal) w x7) x6) ?_)
  exact readCov_side _ (bq x0 x3 x6 x7 x11 x13 x14 x15) _ _ _ _ _ _ _ _

theorem o17_A (hc : cond0_0 i) : blocks[operands[out0_A_17 (F := Ideal)] hc] = k0_pay162 (F := Ideal) (k0_pay4 x4) (k0_pay158 (k0_pay3 x4) (k0_pay4 x4)) (mulf (dKV x1 x2 x4 x5 x8 x9 x10 x12 x13 x14 x15) (gain x8)) (sumL (mulf (mulf (dKV x1 x2 x4 x5 x8 x9 x10 x12 x13 x14 x15) (gain x8)) (k0_pay158 (k0_pay3 x4) (k0_pay4 x4)))) k0_pay161 := by
  unfold out0_A_17
  rw [View.read_writes_eq_canon _ _ _ (blocks[operands[cover0_A_17] hc])]
  unfold kernelRun0_A
  dsimp only
  sl_unfold_words
  rw [View.canon_unit_zero hz]
  simp only [View.readAt_eq_ld, Memref.IsWhole.read_unread, ld0]
  refine (congrArg (fun w => k0_pay162 (F := Ideal) (k0_pay4 x4) (k0_pay158 (k0_pay3 x4) (k0_pay4 x4)) (mulf (k0_pay157 (F := Ideal) w x9 x2 x10) (gain x8)) (sumL (mulf (mulf (k0_pay157 (F := Ideal) w x9 x2 x10) (gain x8)) (k0_pay158 (k0_pay3 x4) (k0_pay4 x4)))) k0_pay161) ?_)
  exact readCov_side _ (bkk x1 x4 x5 x8 x9 x12 x13 x14 x15) _ _ _ _ _ _ _ _

theorem o17_B (hc : ¬cond0_0 i) : blocks[operands[out0_B_17 (F := Ideal)] hc] z0 z1 z2 z3 = k0_pay162 (F := Ideal) (k0_pay4 x4) (k0_pay158 (k0_pay3 x4) (k0_pay4 x4)) (mulf (dKV x1 x2 x4 x5 x8 x9 x10 x12 x13 x14 x15) (gain x8)) (sumL (mulf (mulf (dKV x1 x2 x4 x5 x8 x9 x10 x12 x13 x14 x15) (gain x8)) (k0_pay158 (k0_pay3 x4) (k0_pay4 x4)))) k0_pay161 := by
  unfold out0_B_17
  rw [View.read_writes_eq_canon _ _ _ (blocks[operands[cover0_B_17] hc] z0 z1 z2 z3)]
  unfold kernelRun0_B
  dsimp only
  sl_unfold_words
  rw [View.canon_unit_zero hz]
  simp only [View.readAt_eq_ld, Memref.IsWhole.read_unread, ld0]
  refine (congrArg (fun w => k0_pay162 (F := Ideal) (k0_pay4 x4) (k0_pay158 (k0_pay3 x4) (k0_pay4 x4)) (mulf (k0_pay157 (F := Ideal) w x9 x2 x10) (gain x8)) (sumL (mulf (mulf (k0_pay157 (F := Ideal) w x9 x2 x10) (gain x8)) (k0_pay158 (k0_pay3 x4) (k0_pay4 x4)))) k0_pay161) ?_)
  exact readCov_side _ (bkk x1 x4 x5 x8 x9 x12 x13 x14 x15) _ _ _ _ _ _ _ _

theorem o18_A (hc : cond0_0 i) : blocks[operands[out0_A_18 (F := Ideal)] hc] = truncf .bf16 (sum8 (k0_pay13 (F := Ideal)) (bkk x1 x4 x5 x8 x9 x12 x13 x14 x15)) bitsLt_bf16_f32 := by
  unfold out0_A_18
  rw [View.read_writes_eq_canon _ _ _ (blocks[operands[cover0_A_18] hc])]
  unfold kernelRun0_A
  dsimp only
  sl_unfold_words
  rw [View.canon_unit_zero hz]
  simp only [View.readAt_eq_ld, Memref.IsWhole.read_unread, ld0]
  rfl

theorem o18_B (hc : ¬cond0_0 i) : blocks[operands[out0_B_18 (F := Ideal)] hc] z0 z1 z2 z3 = truncf .bf16 (sum8 (k0_pay13 (F := Ideal)) (bkk x1 x4 x5 x8 x9 x12 x13 x14 x15)) bitsLt_bf16_f32 := by
  unfold out0_B_18
  rw [View.read_writes_eq_canon _ _ _ (blocks[operands[cover0_B_18] hc] z0 z1 z2 z3)]
  unfold kernelRun0_B
  dsimp only
  sl_unfold_words
  rw [View.canon_unit_zero hz]
  simp only [View.readAt_eq_ld, Memref.IsWhole.read_unread, ld0]
  rfl

theorem o19_A (hc : cond0_0 i) : blocks[operands[out0_A_19 (F := Ideal)] hc] = side (bq x0 x3 x6 x7 x11 x13 x14 x15) := by
  unfold out0_A_19
  rw [View.read_writes_eq_canon _ _ _ (blocks[operands[cover0_A_19] hc])]
  unfold kernelRun0_A
  dsimp only
  sl_unfold_words
  simp only [View.readAt_eq_ld, Memref.IsWhole.read_unread, ld0]
  exact funext fun y => (canon_side (bq x0 x3 x6 x7 x11 x13 x14 x15) _ _ _ _ _ _ _ _ y).2

theorem o19_B (hc : ¬cond0_0 i) : blocks[operands[out0_B_19 (F := Ideal)] hc] z0 z1 z2 z3 = side (bq x0 x3 x6 x7 x11 x13 x14 x15) := by
  unfold out0_B_19
  rw [View.read_writes_eq_canon _ _ _ (blocks[operands[cover0_B_19] hc] z0 z1 z2 z3)]
  unfold kernelRun0_B
  dsimp only
  sl_unfold_words
  simp only [View.readAt_eq_ld, Memref.IsWhole.read_unread, ld0]
  exact funext fun y => (canon_side (bq x0 x3 x6 x7 x11 x13 x14 x15) _ _ _ _ _ _ _ _ y).2

theorem o20_A (hc : cond0_0 i) : blocks[operands[out0_A_20 (F := Ideal)] hc] = side (bkk x1 x4 x5 x8 x9 x12 x13 x14 x15) := by
  unfold out0_A_20
  rw [View.read_writes_eq_canon _ _ _ (blocks[operands[cover0_A_20] hc])]
  unfold kernelRun0_A
  dsimp only
  sl_unfold_words
  simp only [View.readAt_eq_ld, Memref.IsWhole.read_unread, ld0]
  exact funext fun y => (canon_side (bkk x1 x4 x5 x8 x9 x12 x13 x14 x15) _ _ _ _ _ _ _ _ y).2

theorem o20_B (hc : ¬cond0_0 i) : blocks[operands[out0_B_20 (F := Ideal)] hc] z0 z1 z2 z3 = side (bkk x1 x4 x5 x8 x9 x12 x13 x14 x15) := by
  unfold out0_B_20
  rw [View.read_writes_eq_canon _ _ _ (blocks[operands[cover0_B_20] hc] z0 z1 z2 z3)]
  unfold kernelRun0_B
  dsimp only
  sl_unfold_words
  simp only [View.readAt_eq_ld, Memref.IsWhole.read_unread, ld0]
  exact funext fun y => (canon_side (bkk x1 x4 x5 x8 x9 x12 x13 x14 x15) _ _ _ _ _ _ _ _ y).2

theorem o21_A (hc : cond0_0 i) : blocks[operands[out0_A_21 (F := Ideal)] hc] = k0_pay167 (F := Ideal) (k0_pay155 (k0_pay1 x3) (k0_pay2 x3) (dQ x0 x3 x6 x7 x11 x13 x14 x15)) (k0_pay163 (F := Ideal)) := by
  unfold out0_A_21
  rw [View.read_writes_eq_canon _ _ _ (blocks[operands[cover0_A_21] hc])]
  unfold kernelRun0_A
  dsimp only
  sl_unfold_words
  rw [View.canon_cons_unit_zero (S := S8x256) hz, View.readCov_unit_zero (S := S8x256) _ hz]
  simp only [View.readAt_eq_ld, Memref.IsWhole.read_unread, ld0]
  refine (congrArg (fun w => k0_pay167 (F := Ideal) (k0_pay155 (k0_pay1 x3) (k0_pay2 x3) (k0_pay153 (F := Ideal) w x7)) (k0_pay163 (F := Ideal))) ?_)
  exact readCov_side _ (bq x0 x3 x6 x7 x11 x13 x14 x15) _ _ _ _ _ _ _ _

theorem o21_B (hc : ¬cond0_0 i) : blocks[operands[out0_B_21 (F := Ideal)] hc] z0 z1 z2 z3 = k0_pay167 (F := Ideal) (k0_pay155 (k0_pay1 x3) (k0_pay2 x3) (dQ x0 x3 x6 x7 x11 x13 x14 x15)) z0 := by
  unfold out0_B_21
  rw [View.read_writes_eq_canon _ _ _ (blocks[operands[cover0_B_21] hc] z0 z1 z2 z3)]
  unfold kernelRun0_B
  dsimp only
  sl_unfold_words
  rw [View.canon_unit_zero hz]
  simp only [View.readAt_eq_ld, Memref.IsWhole.read_unread, ld0]
  refine (congrArg (fun w => k0_pay167 (F := Ideal) (k0_pay155 (k0_pay1 x3) (k0_pay2 x3) (k0_pay153 (F := Ideal) w x7)) z0) ?_)
  exact readCov_side _ (bq x0 x3 x6 x7 x11 x13 x14 x15) _ _ _ _ _ _ _ _

theorem o22_A (hc : cond0_0 i) : blocks[operands[out0_A_22 (F := Ideal)] hc] = k0_pay168 (F := Ideal) (dKV x1 x2 x4 x5 x8 x9 x10 x12 x13 x14 x15) (k0_pay158 (k0_pay3 x4) (k0_pay4 x4)) (k0_pay164 (F := Ideal)) := by
  unfold out0_A_22
  rw [View.read_writes_eq_canon _ _ _ (blocks[operands[cover0_A_22] hc])]
  unfold kernelRun0_A
  dsimp only
  sl_unfold_words
  rw [View.canon_cons_unit_zero (S := S8x128) hz, View.readCov_unit_zero (S := S8x128) _ hz]
  simp only [View.readAt_eq_ld, Memref.IsWhole.read_unread, ld0]
  refine (congrArg (fun w => k0_pay168 (F := Ideal) (k0_pay157 (F := Ideal) w x9 x2 x10) (k0_pay158 (k0_pay3 x4) (k0_pay4 x4)) (k0_pay164 (F := Ideal))) ?_)
  exact readCov_side _ (bkk x1 x4 x5 x8 x9 x12 x13 x14 x15) _ _ _ _ _ _ _ _

theorem o22_B (hc : ¬cond0_0 i) : blocks[operands[out0_B_22 (F := Ideal)] hc] z0 z1 z2 z3 = k0_pay168 (F := Ideal) (dKV x1 x2 x4 x5 x8 x9 x10 x12 x13 x14 x15) (k0_pay158 (k0_pay3 x4) (k0_pay4 x4)) z1 := by
  unfold out0_B_22
  rw [View.read_writes_eq_canon _ _ _ (blocks[operands[cover0_B_22] hc] z0 z1 z2 z3)]
  unfold kernelRun0_B
  dsimp only
  sl_unfold_words
  rw [View.canon_unit_zero hz]
  simp only [View.readAt_eq_ld, Memref.IsWhole.read_unread, ld0]
  refine (congrArg (fun w => k0_pay168 (F := Ideal) (k0_pay157 (F := Ideal) w x9 x2 x10) (k0_pay158 (k0_pay3 x4) (k0_pay4 x4)) z1) ?_)
  exact readCov_side _ (bkk x1 x4 x5 x8 x9 x12 x13 x14 x15) _ _ _ _ _ _ _ _

theorem o23_A (hc : cond0_0 i) : blocks[operands[out0_A_23 (F := Ideal)] hc] = k0_pay169 (F := Ideal) (sum8 k0_pay14 (gq x0 x3 x6 x7 x13 x14 x15)) (k0_pay165 (F := Ideal)) := by
  unfold out0_A_23
  rw [View.read_writes_eq_canon _ _ _ (blocks[operands[cover0_A_23] hc])]
  unfold kernelRun0_A
  dsimp only
  sl_unfold_words
  rw [View.canon_cons_unit_zero (S := S8x128) hz, View.readCov_unit_zero (S := S8x128) _ hz]
  simp only [View.readAt_eq_ld, Memref.IsWhole.read_unread, ld0]
  rfl

theorem o23_B (hc : ¬cond0_0 i) : blocks[operands[out0_B_23 (F := Ideal)] hc] z0 z1 z2 z3 = k0_pay169 (F := Ideal) (sum8 k0_pay14 (gq x0 x3 x6 x7 x13 x14 x15)) z2 := by
  unfold out0_B_23
  rw [View.read_writes_eq_canon _ _ _ (blocks[operands[cover0_B_23] hc] z0 z1 z2 z3)]
  unfold kernelRun0_B
  dsimp only
  sl_unfold_words
  rw [View.canon_unit_zero hz]
  simp only [View.readAt_eq_ld, Memref.IsWhole.read_unread, ld0]
  rfl

theorem o24_A (hc : cond0_0 i) : blocks[operands[out0_A_24 (F := Ideal)] hc] = k0_pay170 (F := Ideal) (sum8 k0_pay15 (gk x1 x4 x5 x8 x9 x13 x14 x15)) (k0_pay166 (F := Ideal)) := by
  unfold out0_A_24
  rw [View.read_writes_eq_canon _ _ _ (blocks[operands[cover0_A_24] hc])]
  unfold kernelRun0_A
  dsimp only
  sl_unfold_words
  rw [View.canon_cons_unit_zero (S := S8x128) hz, View.readCov_unit_zero (S := S8x128) _ hz]
  simp only [View.readAt_eq_ld, Memref.IsWhole.read_unread, ld0]
  rfl

theorem o24_B (hc : ¬cond0_0 i) : blocks[operands[out0_B_24 (F := Ideal)] hc] z0 z1 z2 z3 = k0_pay170 (F := Ideal) (sum8 k0_pay15 (gk x1 x4 x5 x8 x9 x13 x14 x15)) z3 := by
  unfold out0_B_24
  rw [View.read_writes_eq_canon _ _ _ (blocks[operands[cover0_B_24] hc] z0 z1 z2 z3)]
  unfold kernelRun0_B
  dsimp only
  sl_unfold_words
  rw [View.canon_unit_zero hz]
  simp only [View.readAt_eq_ld, Memref.IsWhole.read_unread, ld0]
  rfl

end Cases

end Kernel

end Cert.Proof.Mla
end
-- ==== Proof.MlaCore.lean ====
module

public import proofs.«01_k».proof.Proof.Norm

@[expose] public section

/-! # The gradient before the attention, row by row

One row's gradients over the extended reals: of the queries' and the keys' norms turned back by the rotation, of the two products that
widen the compressed rows, and of those rows' norms. -/

noncomputable section

namespace Cert.Proof.Mla

open Idealize.ShloMosaic Cert.Proof.Reals Cert.Proof.Sums

/-! ## A norm and its gradient -/

section Norm

variable {ι : Type*} [Fintype ι]

/-- The scale of a row, and the gradient of its element. -/
def rs (κ : ℝ) (x : ι → EReal) : EReal := Ideal.rsqrt ((∑ k, x k * x k) * (κ : EReal) + Norm.ε)
def dn (κ : ℝ) (x v : ι → EReal) (d : ι) : EReal :=
  rs κ x * (v d - x d * rs κ x * ((∑ k, v k * (x k * rs κ x)) * (κ : EReal)))

/-- The chain rule's form of the gradient. -/
theorem chain {κ n : ℝ} (hn : 0 < n) (hκ : κ = n⁻¹) (x v : ι → EReal) {q : EReal} (hq : q = (∑ k, x k * x k) * (κ : EReal) + Norm.ε) {r : EReal} (hr : r = rs κ x)
    {s : EReal} (hs : s = ∑ k, x k * v k) (d : ι) :
    v d * r + x d * Ideal.div (s * (((-1 / 2 : ℝ) : EReal) * Ideal.div r q)) (n : EReal) + Ideal.div (s * (((-1 / 2 : ℝ) : EReal) * Ideal.div r q)) (n : EReal) * x d = dn κ x v d := by
  obtain ⟨e, he, hε⟩ := Norm.c_eps
  have hκ0 : 0 < κ := by rw [hκ]; positivity
  obtain ⟨ρ, hρ, h1, h2⟩ := Norm.scale (S := ∑ k, x k * x k) (Finset.sum_nonneg fun k _ => sq_nonneg _) hκ0 he
  rw [← hε] at h1 h2
  have h3 : r = (ρ : EReal) := hr.trans h1
  have h4 : Ideal.div r q = ((ρ * ρ * ρ : ℝ) : EReal) := by
    rw [hr, hq]
    exact h2
  have h5 : rs κ x = (ρ : EReal) := h1
  have b := Norm.back x v 0 hρ κ d
  simp only [zero_add] at b
  rw [h4, h3, Norm.div_const _ hn.ne', ← hκ, hs]
  unfold dn
  rw [h5]
  exact b.symm

end Norm

/-! ## Rows of 128 lanes of which the first `n` hold values -/

def pad {n : ℕ} (f : Fin n → EReal) (d : Fin 128) : EReal := if h : d.val < n then f ⟨d.val, h⟩ else 0

section Pad
variable {n : ℕ} (f g : Fin n → EReal) (d : Fin 128) (z : EReal)

theorem pad_mul : pad f d * pad g d = pad (fun j => f j * g j) d := by unfold pad; split <;> simp
theorem pad_mul_const : pad f d * z = pad (fun j => f j * z) d := by unfold pad; split <;> simp
theorem const_mul_pad : z * pad f d = pad (fun j => z * f j) d := by unfold pad; split <;> simp
theorem pad_sub : pad f d - pad g d = pad (fun j => f j - g j) d := by unfold pad; split <;> simp
theorem pad_add : pad f d + pad g d = pad (fun j => f j + g j) d := by unfold pad; split <;> simp
theorem sum_pad (hn : n ≤ 128) : ∑ d : Fin 128, pad f d = ∑ j, f j := by
  rw [sum_window 0 n (by omega) (pad f) fun r h => by unfold pad; rw [dif_neg (by omega)]]
  refine Finset.sum_congr rfl fun j _ => ?_
  unfold pad
  rw [dif_pos (by show 0 + j.val < n; omega)]
  exact congrArg f (Fin.ext (by show 0 + j.val = j.val; omega))
theorem pad_of (j : Fin n) (h : j.val < 128) : pad f ⟨j.val, h⟩ = f j := by unfold pad; rw [dif_pos j.isLt]
end Pad

/-! ## One row -/

/-- A row's arguments: the compressed rows, the shared rotary lanes, the gradients of the queries, keys and values, the rotation. -/
structure Row where
  cq : Fin 256 → EReal
  ckv : Fin 128 → EReal
  kr : Fin 32 → EReal
  dq : Fin 8 → Fin 96 → EReal
  dk : Fin 8 → Fin 96 → EReal
  dv : Fin 8 → Fin 64 → EReal
  co : Fin 16 → EReal
  si : Fin 16 → EReal

/-- The gains and the weights. -/
structure Wts where
  qa : Fin 256 → EReal
  wq : Fin 256 → Fin 8 → Fin 96 → EReal
  ka : Fin 128 → EReal
  wk : Fin 128 → Fin 8 → Fin 64 → EReal
  wv : Fin 128 → Fin 8 → Fin 64 → EReal
  qn : Fin 96 → EReal
  kn : Fin 96 → EReal

/-- The lanes of the queries' factor. -/
def fac : EReal := FloatOps.ofBits (F := Ideal) .f32 0x3DD105EC#32

namespace Row

variable (R : Row) (W : Wts)

/-- A gradient turned back by the rotation. -/
def rot (u : Fin 96 → EReal) (j : Fin 96) : EReal :=
  if h : j.val < 64 then u j
  else if h2 : j.val < 80 then u j * R.co ⟨j.val - 64, by omega⟩ + u ⟨j.val + 16, by omega⟩ * R.si ⟨j.val - 64, by omega⟩
  else u j * R.co ⟨j.val - 80, by omega⟩ + u ⟨j.val - 16, by omega⟩ * -R.si ⟨j.val - 80, by omega⟩

def q (h : Fin 8) (j : Fin 96) : EReal := ∑ k, R.cq k * rs 256⁻¹ R.cq * W.qa k * W.wq k h j
def kn (h : Fin 8) (j : Fin 64) : EReal := ∑ k, R.ckv k * rs 128⁻¹ R.ckv * W.ka k * W.wk k h j
def k (h : Fin 8) (j : Fin 96) : EReal := if hj : j.val < 64 then R.kn W h ⟨j.val, hj⟩ else R.kr ⟨j.val - 64, by omega⟩
def tq (h : Fin 8) : Fin 96 → EReal := R.rot fun j => R.dq h j * fac
def tk (h : Fin 8) : Fin 96 → EReal := R.rot (R.dk h)
/-- The gradients of the queries and the keys before their norms, and the rows' parts of the gains'. -/
def bq (h : Fin 8) : Fin 96 → EReal := dn 96⁻¹ (R.q W h) fun j => R.tq h j * W.qn j
def bk (h : Fin 8) : Fin 96 → EReal := dn 96⁻¹ (R.k W h) fun j => R.tk h j * W.kn j
def gq (h : Fin 8) (j : Fin 96) : EReal := R.tq h j * (R.q W h j * rs 96⁻¹ (R.q W h))
def gk (h : Fin 8) (j : Fin 96) : EReal := R.tk h j * (R.k W h j * rs 96⁻¹ (R.k W h))
/-- The gradients of the normed compressed rows. -/
def fq (k : Fin 256) : EReal := ∑ h, ∑ j, R.bq W h j * W.wq k h j
def fkv (k : Fin 128) : EReal := (∑ h, ∑ j : Fin 64, R.bk W h ⟨j.val, by omega⟩ * W.wk k h j) + ∑ h, ∑ j, R.dv h j * W.wv k h j
def dcq : Fin 256 → EReal := dn 256⁻¹ R.cq fun k => R.fq W k * W.qa k
def dckv : Fin 128 → EReal := dn 128⁻¹ R.ckv fun k => R.fkv W k * W.ka k
def gqa (k : Fin 256) : EReal := R.fq W k * (R.cq k * rs 256⁻¹ R.cq)
def gka (k : Fin 128) : EReal := R.fkv W k * (R.ckv k * rs 128⁻¹ R.ckv)
def dkr (j : Fin 32) : EReal := ∑ h, R.bk W h ⟨64 + j.val, by omega⟩

end Row

end Cert.Proof.Mla
end
-- ==== Proof.MlaVal.lean ====
module

public import proofs.«01_k».proof.Proof.MlaBody
public import proofs.«01_k».proof.Proof.MlaCore

@[expose] public section

/-! # One block's values, row by row

Where the block's row holds a row's arguments, with zeros on the lanes past each head's values, what the kernel stores at that row is the
row's gradient. -/

set_option maxRecDepth 16384

noncomputable section

namespace Cert.Proof.Mla

open Idealize.ShloMosaic Idealize.ShloMosaic.TcCoe Idealize.SL.Sem Cert.Proof.Reals Cert.Proof.Sums
open Cert.MlaKernelIdeal Cert.MlaKernelIdeal.Gen

/-! ## Constants -/

theorem c_inv96 : (Named.named (F := Ideal) κ "inv96" (φ := .f32) 0x3C2AAAAB#32 : EReal) = ((96⁻¹ : ℝ) : EReal) :=
  (IdealRules.named_const.ideal_named_scalar _ _ _ _ rfl).trans (by norm_num)
theorem c_inv256 : (Ideal.ofBits .f32 0x3B800000#32 : EReal) = ((256⁻¹ : ℝ) : EReal) := by
  simp [Ideal.ofBits, Ideal.ieee]
  rw [← EReal.coe_mul]
  norm_num
theorem c_inv128 : (Ideal.ofBits .f32 0x3C000000#32 : EReal) = ((128⁻¹ : ℝ) : EReal) := by
  simp [Ideal.ofBits, Ideal.ieee]
  rw [← EReal.coe_mul]
  norm_num

theorem sum_lane (F : Fin 1024 → EReal) : ∑ n, F n = ∑ h : Fin 8, ∑ d : Fin 128, F (lane h d) := by
  rw [sum_split 8 128 rfl]
  exact Finset.sum_congr rfl fun h _ => Finset.sum_congr rfl fun d _ => congrArg F (Fin.ext (by show h.val * 128 + d.val = 128 * h.val + d.val; omega))

theorem sum_mul_pad {ι : Type*} [Fintype ι] {n : ℕ} (F : ι → EReal) (g : ι → Fin n → EReal) (d : Fin 128) :
    ∑ k, F k * pad (g k) d = pad (fun j => ∑ k, F k * g k j) d := by
  unfold pad
  split <;> simp

/-! ## A head's operations at an element -/

section Ops

variable (q r g c s1 s2 u : T) (i : Fin 384) (d : Fin 128)

open Pointwise in
theorem rot_apply : (rot c s1 s2 u : S384x128.Idx → EReal) (ix2 i d) = u (ix2 i d) * c (ix2 i d)
    + u (ix2 i ⟨(d.val + 128 - 16) % 128, Nat.mod_lt _ (by decide)⟩) * s1 (ix2 i ⟨(d.val + 128 - 16) % 128, Nat.mod_lt _ (by decide)⟩)
    + u (ix2 i ⟨(d.val + 128 - 112) % 128, Nat.mod_lt _ (by decide)⟩) * s2 (ix2 i ⟨(d.val + 128 - 112) % 128, Nat.mod_lt _ (by decide)⟩) := by
  unfold rot; pointwise []

open Pointwise in
theorem rms_apply (a : Fin 1) : (rms q : S384x1.Idx → EReal) (ix2 i a) = rs 96⁻¹ fun d => q (ix2 i d) := by
  unfold rms mean sumL; pointwise []
  rw [c_inv96]
  rfl

open Pointwise in
theorem nrm_apply : (nrm q : S384x128.Idx → EReal) (ix2 i d) = q (ix2 i d) * rs 96⁻¹ fun d => q (ix2 i d) := by
  unfold nrm wide; pointwise []
  rw [rms_apply]

open Pointwise in
theorem bk_apply : (bk q r g : S384x128.Idx → EReal) (ix2 i d) = dn 96⁻¹ (fun d => q (ix2 i d)) (fun d => r (ix2 i d) * g (ix2 i d)) d := by
  unfold bk mean sumL wide; pointwise []
  simp only [rms_apply, nrm_apply, c_inv96]
  rfl

open Pointwise in
theorem red_apply (s : Fin 8) : (red q r : S8x128.Idx → EReal) (ix2 s d)
    = ∑ x : Fin 48, r (ix2 ⟨x.val * 8 + s.val, by omega⟩ d) * (nrm q : S384x128.Idx → EReal) (ix2 ⟨x.val * 8 + s.val, by omega⟩ d) := by
  unfold red; pointwise []

open Pointwise in
theorem gain_apply (g : Vec Ideal S1x128 .f32) : (gain g : S384x128.Idx → EReal) (ix2 i d) = g (ix2 0 d) := by
  unfold gain; pointwise []

open Pointwise in
theorem cc_apply (v : Vec Ideal S384x128 .f32) : (cc v : S384x128.Idx → EReal) (ix2 i d) = v (ix2 i d) := by
  unfold cc; pointwise []

theorem hd_apply (h : Fin 8) (v : Tq) : (hd h v : S384x128.Idx → EReal) (ix2 i d) = v (ix2 i (lane h d)) :=
  congrArg v (funext fun a => match a with
    | ⟨0, _⟩ => Fin.ext (Nat.zero_add _)
    | ⟨1, _⟩ => rfl)

theorem hl_apply (h : Fin 8) (v : Vec Ideal S384x1024 .f32) : (hl h v : S384x128.Idx → EReal) (ix2 i d) = v (ix2 i (lane h d)) :=
  congrArg v (funext fun a => match a with
    | ⟨0, _⟩ => Fin.ext (by simp)
    | ⟨1, _⟩ => Fin.ext (by simp [lane]))

end Ops

theorem dn_pad {n : ℕ} (hn : n ≤ 128) (κ : ℝ) (x v : Fin n → EReal) (d : Fin 128) : dn κ (pad x) (pad v) d = pad (dn κ x v) d := by
  have hr : rs κ (pad x) = rs κ x := by
    unfold rs
    simp only [pad_mul, sum_pad _ hn]
  have hs : ∑ k, pad v k * (pad x k * rs κ x) = ∑ k, v k * (x k * rs κ x) := by
    rw [← sum_pad (fun k => v k * (x k * rs κ x)) hn]
    exact Finset.sum_congr rfl fun k _ => by rw [pad_mul_const x k, pad_mul]
  unfold dn
  rw [hr, hs]
  unfold pad
  split <;> simp

theorem rs_pad {n : ℕ} (hn : n ≤ 128) (κ : ℝ) (x : Fin n → EReal) : rs κ (pad x) = rs κ x := by
  unfold rs
  simp only [pad_mul, sum_pad _ hn]

/-! ## A row of a block -/

/-- The row `i` of the blocks holds the row `R`, and the blocks of the weights hold `W`. -/
structure Fits (x0 x1 x2 : Vec Ideal S384x1024 .f32) (x3 : Vec Ideal S384x256 .f32) (x4 x5 : Vec Ideal S384x128 .f32) (x6 : Vec Ideal S1x256 .f32) (x7 : Vec Ideal S256x1024 .bf16) (x8 : Vec Ideal S1x128 .f32) (x9 x10 : Vec Ideal S128x1024 .bf16) (x11 x12 : Vec Ideal S1x128 .f32) (x13 x14 x15 : Vec Ideal S384x128 .f32) (i : Fin 384) (R : Row) (W : Wts) : Prop where
  h0 : ∀ h d, (x0 : S384x1024.Idx → EReal) (ix2 i (lane h d)) = pad (R.dq h) d
  h1 : ∀ h d, (x1 : S384x1024.Idx → EReal) (ix2 i (lane h d)) = pad (R.dk h) d
  h2 : ∀ h d, (x2 : S384x1024.Idx → EReal) (ix2 i (lane h d)) = pad (R.dv h) d
  h3 : ∀ k, (x3 : S384x256.Idx → EReal) (ix2 i k) = R.cq k
  h4 : ∀ k, (x4 : S384x128.Idx → EReal) (ix2 i k) = R.ckv k
  h5 : ∀ d : Fin 128, (x5 : S384x128.Idx → EReal) (ix2 i d) = if hd : 64 ≤ d.val ∧ d.val < 96 then R.kr ⟨d.val - 64, by omega⟩ else 0
  h6 : ∀ k, (x6 : S1x256.Idx → EReal) (ix2 0 k) = W.qa k
  h7 : ∀ k h d, (x7 : S256x1024.Idx → EReal) (ix2 k (lane h d)) = pad (W.wq k h) d
  h8 : ∀ k, (x8 : S1x128.Idx → EReal) (ix2 0 k) = W.ka k
  h9 : ∀ k h d, (x9 : S128x1024.Idx → EReal) (ix2 k (lane h d)) = pad (W.wk k h) d
  h10 : ∀ k h d, (x10 : S128x1024.Idx → EReal) (ix2 k (lane h d)) = pad (W.wv k h) d
  h11 : ∀ d, (x11 : S1x128.Idx → EReal) (ix2 0 d) = pad W.qn d
  h12 : ∀ d, (x12 : S1x128.Idx → EReal) (ix2 0 d) = pad W.kn d
  h13 : ∀ d : Fin 128, (x13 : S384x128.Idx → EReal) (ix2 i d) = if d.val < 64 then 1 else if hd : 64 ≤ d.val ∧ d.val < 80 then R.co ⟨d.val - 64, by omega⟩
    else if hd : 80 ≤ d.val ∧ d.val < 96 then R.co ⟨d.val - 80, by omega⟩ else 0
  h14 : ∀ d : Fin 128, (x14 : S384x128.Idx → EReal) (ix2 i d) = if hd : 64 ≤ d.val ∧ d.val < 80 then -R.si ⟨d.val - 64, by omega⟩ else 0
  h15 : ∀ d : Fin 128, (x15 : S384x128.Idx → EReal) (ix2 i d) = if hd : 80 ≤ d.val ∧ d.val < 96 then R.si ⟨d.val - 80, by omega⟩ else 0

section Rows

variable {x0 x1 x2 : Vec Ideal S384x1024 .f32} {x3 : Vec Ideal S384x256 .f32} {x4 x5 : Vec Ideal S384x128 .f32} {x6 : Vec Ideal S1x256 .f32} {x7 : Vec Ideal S256x1024 .bf16} {x8 : Vec Ideal S1x128 .f32} {x9 x10 : Vec Ideal S128x1024 .bf16} {x11 x12 : Vec Ideal S1x128 .f32} {x13 x14 x15 : Vec Ideal S384x128 .f32}
  {i : Fin 384} {R : Row} {W : Wts} (H : Fits x0 x1 x2 x3 x4 x5 x6 x7 x8 x9 x10 x11 x12 x13 x14 x15 i R W)
include H

theorem rot_row (v : T) (u : Fin 96 → EReal) (hu : ∀ d, (v : S384x128.Idx → EReal) (ix2 i d) = pad u d) (d : Fin 128) :
    (rot (cc x13) (cc x14) (cc x15) v : S384x128.Idx → EReal) (ix2 i d) = pad (R.rot u) d := by
  have hd := d.isLt
  rw [rot_apply]
  simp only [cc_apply, H.h13, H.h14, H.h15, hu]
  unfold pad Row.rot
  by_cases a : d.val < 64
  · simp only [dif_pos a, dif_pos (show d.val < 96 by omega), if_pos a, mul_one]
    rw [dif_neg (show ¬(64 ≤ (d.val + 128 - 16) % 128 ∧ (d.val + 128 - 16) % 128 < 80) by omega), dif_neg (show ¬(80 ≤ (d.val + 128 - 112) % 128 ∧ (d.val + 128 - 112) % 128 < 96) by omega)]
    simp only [mul_zero, add_zero]
  have e1 : (d.val + 128 - 16) % 128 = d.val - 16 := by omega
  by_cases b : d.val < 80
  · have e2 : (d.val + 128 - 112) % 128 = d.val + 16 := by omega
    simp only [dif_neg a, if_neg a, dif_pos b, dif_pos (show d.val < 96 by omega), dif_pos (show 64 ≤ d.val ∧ d.val < 80 by omega), e1, e2,
      dif_neg (show ¬(64 ≤ d.val - 16 ∧ d.val - 16 < 80) by omega), dif_pos (show 80 ≤ d.val + 16 ∧ d.val + 16 < 96 by omega), dif_pos (show d.val + 16 < 96 by omega), mul_zero, add_zero]
    exact congrArg (fun z => _ + _ * R.si z) (Fin.ext (by show d.val + 16 - 80 = d.val - 64; omega))
  by_cases b2 : d.val < 96
  · simp only [dif_neg a, if_neg a, dif_neg b, dif_pos b2, dif_neg (show ¬(64 ≤ d.val ∧ d.val < 80) by omega), dif_pos (show 80 ≤ d.val ∧ d.val < 96 by omega), e1,
      dif_pos (show 64 ≤ d.val - 16 ∧ d.val - 16 < 80 by omega), dif_pos (show d.val - 16 < 96 by omega),
      dif_neg (show ¬(80 ≤ (d.val + 128 - 112) % 128 ∧ (d.val + 128 - 112) % 128 < 96) by omega), mul_zero, add_zero]
    exact congrArg (fun z => _ + _ * -R.si z) (Fin.ext (by show d.val - 16 - 64 = d.val - 80; omega))
  · simp only [if_neg a, dif_neg b2, dif_neg (show ¬(64 ≤ d.val ∧ d.val < 80) by omega), dif_neg (show ¬(80 ≤ d.val ∧ d.val < 96) by omega), e1,
      dif_neg (show ¬(64 ≤ d.val - 16 ∧ d.val - 16 < 80) by omega),
      dif_neg (show ¬(80 ≤ (d.val + 128 - 112) % 128 ∧ (d.val + 128 - 112) % 128 < 96) by omega), mul_zero, add_zero]

theorem rq_row (h : Fin 8) (d : Fin 128) : (rq x0 x13 x14 x15 h : S384x128.Idx → EReal) (ix2 i d) = pad (R.tq h) d := by
  refine rot_row H _ _ (fun d => ?_) d
  refine Eq.trans ?_ (pad_mul_const (R.dq h) d fac)
  exact congrArg (fun z : EReal => z * fac) ((cc_apply i d (hl h x0)).trans ((hl_apply i d h x0).trans (H.h0 h d)))

theorem rk_row (h : Fin 8) (d : Fin 128) : (rk x1 x13 x14 x15 h : S384x128.Idx → EReal) (ix2 i d) = pad (R.tk h) d := by
  refine rot_row H _ _ (fun d => ?_) d
  exact (cc_apply i d (hl h x1)).trans ((hl_apply i d h x1).trans (H.h1 h d))

open Pointwise in
theorem rs_cq (a : Fin 1) : (k0_pay2 (F := Ideal) x3 : S384x1.Idx → EReal) (ix2 i a) = rs 256⁻¹ R.cq := by
  unfold k0_pay2 k0_pay1; pointwise []
  simp only [H.h3, c_inv256]
  rfl

open Pointwise in
theorem rs_ckv (a : Fin 1) : (k0_pay4 (F := Ideal) x4 : S384x1.Idx → EReal) (ix2 i a) = rs 128⁻¹ R.ckv := by
  unfold k0_pay4 k0_pay3; pointwise []
  simp only [H.h4, c_inv128]
  rfl

open Pointwise in
theorem q_row (h : Fin 8) (d : Fin 128) : (qh x3 x6 x7 h : S384x128.Idx → EReal) (ix2 i d) = pad (R.q W h) d := by
  unfold qh Q
  rw [hd_apply]
  unfold k0_pay6 k0_pay1; pointwise []
  simp only [rs_cq H, H.h3, H.h6, H.h7]
  exact sum_mul_pad _ _ d

open Pointwise in
theorem k_row (h : Fin 8) (d : Fin 128) : (kh x4 x5 x8 x9 h : S384x128.Idx → EReal) (ix2 i d) = pad (R.k W h) d := by
  have e : (hd h (K0 x4 x8 x9) : S384x128.Idx → EReal) (ix2 i d) = pad (R.kn W h) d := by
    rw [hd_apply]
    unfold K0 k0_pay8 k0_pay7 k0_pay5 k0_pay3; pointwise []
    simp only [rs_ckv H, H.h4, H.h8, H.h9]
    exact sum_mul_pad _ _ d
  have e2 : (kh x4 x5 x8 x9 h : S384x128.Idx → EReal) (ix2 i d) = (hd h (K0 x4 x8 x9) : S384x128.Idx → EReal) (ix2 i d) + (cc x5 : S384x128.Idx → EReal) (ix2 i d) := rfl
  rw [e2, e, cc_apply, H.h5]
  unfold pad Row.k
  by_cases a : d.val < 64
  · simp only [dif_pos a, dif_pos (show d.val < 96 by omega), dif_neg (show ¬(64 ≤ d.val ∧ d.val < 96) by omega), add_zero]
  by_cases b : d.val < 96
  · simp only [dif_neg a, dif_pos b, dif_pos (show 64 ≤ d.val ∧ d.val < 96 by omega), zero_add]
  · simp only [dif_neg a, dif_neg b, dif_neg (show ¬(64 ≤ d.val ∧ d.val < 96) by omega), zero_add]

theorem bq_row (h : Fin 8) (d : Fin 128) : (bq x0 x3 x6 x7 x11 x13 x14 x15 h : S384x128.Idx → EReal) (ix2 i d) = pad (R.bq W h) d := by
  unfold bq
  rw [bk_apply]
  simp only [q_row H, rq_row H, gain_apply, H.h11, pad_mul]
  exact dn_pad (by decide) _ _ _ d

theorem bk_row (h : Fin 8) (d : Fin 128) : (bkk x1 x4 x5 x8 x9 x12 x13 x14 x15 h : S384x128.Idx → EReal) (ix2 i d) = pad (R.bk W h) d := by
  unfold bkk
  rw [bk_apply]
  simp only [k_row H, rk_row H, gain_apply, H.h12, pad_mul]
  exact dn_pad (by decide) _ _ _ d

theorem gq_row (h : Fin 8) (d : Fin 128) : (rq x0 x13 x14 x15 h : S384x128.Idx → EReal) (ix2 i d) * (nrm (qh x3 x6 x7 h) : S384x128.Idx → EReal) (ix2 i d) = pad (R.gq W h) d := by
  rw [nrm_apply]
  simp only [q_row H, rq_row H]
  rw [show (fun d => pad (R.q W h) d) = pad (R.q W h) from rfl, rs_pad (by decide), pad_mul_const (R.q W h) d, pad_mul]
  rfl

theorem gk_row (h : Fin 8) (d : Fin 128) : (rk x1 x13 x14 x15 h : S384x128.Idx → EReal) (ix2 i d) * (nrm (kh x4 x5 x8 x9 h) : S384x128.Idx → EReal) (ix2 i d) = pad (R.gk W h) d := by
  rw [nrm_apply]
  simp only [k_row H, rk_row H]
  rw [show (fun d => pad (R.k W h) d) = pad (R.k W h) from rfl, rs_pad (by decide), pad_mul_const (R.k W h) d, pad_mul]
  rfl

open Pointwise in
theorem fq_row (k : Fin 256) : (dQ x0 x3 x6 x7 x11 x13 x14 x15 : S384x256.Idx → EReal) (ix2 i k) = R.fq W k := by
  unfold dQ k0_pay153; pointwise []
  refine (sum_lane _).trans (Finset.sum_congr rfl fun h _ => ?_)
  simp only [side_at, bq_row H, H.h7, pad_mul]
  exact sum_pad _ (by decide)

open Pointwise in
theorem fkv_row (k : Fin 128) : (dKV x1 x2 x4 x5 x8 x9 x10 x12 x13 x14 x15 : S384x128.Idx → EReal) (ix2 i k) = R.fkv W k := by
  unfold dKV k0_pay157; pointwise []
  refine congrArg₂ (fun a b : EReal => a + b) ((sum_lane _).trans (Finset.sum_congr rfl fun h _ => ?_)) ((sum_lane _).trans (Finset.sum_congr rfl fun h _ => ?_))
  · simp only [side_at, bk_row H, H.h9]
    refine Eq.trans (Finset.sum_congr rfl fun d _ => ?_) (sum_pad (n := 64) (fun j => R.bk W h ⟨j.val, by omega⟩ * W.wk k h j) (by decide))
    unfold pad
    by_cases a : d.val < 64
    · simp only [dif_pos a, dif_pos (show d.val < 96 by omega)]
    · simp only [dif_neg a, mul_zero]
  · simp only [H.h2, H.h10, pad_mul]
    exact sum_pad _ (by decide)

open Pointwise in
theorem dcq_row (k : Fin 256) : (k0_pay156 (F := Ideal) (k0_pay1 x3) (k0_pay2 x3) (dQ x0 x3 x6 x7 x11 x13 x14 x15) x6 : S384x256.Idx → EReal) (ix2 i k) = R.dcq W k := by
  have e := fq_row H
  revert e
  generalize dQ x0 x3 x6 x7 x11 x13 x14 x15 = D
  intro e
  unfold k0_pay156 k0_pay154 k0_pay1; pointwise []
  simp only [e, rs_cq H, H.h3, H.h6, c_inv256]
  rfl

open Pointwise in
theorem gqa_row (k : Fin 256) : (k0_pay155 (F := Ideal) (k0_pay1 x3) (k0_pay2 x3) (dQ x0 x3 x6 x7 x11 x13 x14 x15) : S384x256.Idx → EReal) (ix2 i k) = R.gqa W k := by
  have e := fq_row H
  revert e
  generalize dQ x0 x3 x6 x7 x11 x13 x14 x15 = D
  intro e
  unfold k0_pay155 k0_pay154 k0_pay1; pointwise []
  simp only [e, rs_cq H, H.h3]
  rfl

open Pointwise in
theorem dckv_row (k : Fin 128) : (k0_pay162 (F := Ideal) (k0_pay4 x4) (k0_pay158 (k0_pay3 x4) (k0_pay4 x4)) (mulf (dKV x1 x2 x4 x5 x8 x9 x10 x12 x13 x14 x15) (gain x8)) (sumL (mulf (mulf (dKV x1 x2 x4 x5 x8 x9 x10 x12 x13 x14 x15) (gain x8)) (k0_pay158 (k0_pay3 x4) (k0_pay4 x4)))) k0_pay161 : S384x128.Idx → EReal) (ix2 i k) = R.dckv W k := by
  have e := fkv_row H
  revert e
  generalize dKV x1 x2 x4 x5 x8 x9 x10 x12 x13 x14 x15 = D
  intro e
  unfold k0_pay162 k0_pay158 k0_pay3 sumL k0_pay161; pointwise []
  simp only [e, gain_apply, rs_ckv H, H.h4, H.h8, c_inv128]
  rfl

open Pointwise in
theorem gka_row (k : Fin 128) : (dKV x1 x2 x4 x5 x8 x9 x10 x12 x13 x14 x15 : S384x128.Idx → EReal) (ix2 i k) * (k0_pay158 (F := Ideal) (k0_pay3 x4) (k0_pay4 x4) : S384x128.Idx → EReal) (ix2 i k) = R.gka W k := by
  rw [fkv_row H]
  unfold k0_pay158 k0_pay3; pointwise []
  rw [rs_ckv H, H.h4]
  rfl

open Pointwise in
theorem dkr_row (d : Fin 128) : (truncf .bf16 (sum8 (k0_pay13 (F := Ideal)) (bkk x1 x4 x5 x8 x9 x12 x13 x14 x15)) bitsLt_bf16_f32 : S384x128.Idx → EReal) (ix2 i d) = ∑ h, pad (R.bk W h) d := by
  have e : ∀ h, (bkk x1 x4 x5 x8 x9 x12 x13 x14 x15 h : S384x128.Idx → EReal) (ix2 i d) = pad (R.bk W h) d := fun h => bk_row H h d
  revert e
  generalize bkk x1 x4 x5 x8 x9 x12 x13 x14 x15 = D
  intro e
  unfold sum8 k0_pay13; pointwise []
  simp only [e, Fin.sum_univ_eight]

end Rows

end Cert.Proof.Mla
end
-- ==== Proof.MlaHost.lean ====
module

public import proofs.«01_k».proof.Proof.MlaVal
public import Idealize.ShloMosaic.Lib.Pipeline.ValueKit
public import Idealize.ShloMosaic.Lib.StableHlo.RunRead
public import Idealize.ShloMosaic.Lib.Pointwise
public import Idealize.ShloMosaic.Lib.ValueIdx

@[expose] public section

/-! # The arrays the host prepares before the attention's gradient -/

set_option maxRecDepth 16384

noncomputable section

namespace Cert.Proof.Mla

open Idealize.ShloMosaic Idealize.ShloMosaic.TcCoe Idealize.SL.Sem Cert.Proof.Reals Cert.Proof.Sums
open Cert.MlaKernelIdeal Cert.MlaKernelIdeal.Gen

/-- A padded row's value: the token's, and zero where no token stands. -/
def slot (f : Fin 4112 → EReal) (r : Fin 4224) : EReal := if h : 48 ≤ r.val ∧ r.val < 4160 then f ⟨r.val - 48, by omega⟩ else 0

theorem fill : (FloatOps.sitofp (F := Ideal) FTy.f32 0#32 : EReal) = 0 := by simp [FloatOps.sitofp]
theorem fill' : (FloatOps.sitofp (F := Ideal) FTy.bf16 0#32 : EReal) = 0 := by simp [FloatOps.sitofp]
def zf : FVec Ideal S_ .f32 := sitofp .f32 (constantI S_ 32 0#32)
def zb : FVec Ideal S_ .bf16 := sitofp .bf16 (constantI S_ 32 0#32)

/-! ## The operations on whole arrays -/

def rows768 (A : FVec Ideal S4112x768 .f32) : FVec Ideal S4224x768 .f32 := concatenate S4224x768 0
    [⟨S48x768, broadcastInDim S48x768 ![] bcast_S_S48x768 (constant (F := Ideal) S_ .f32 0x00000000#32)⟩, ⟨S4112x768, A⟩,
      ⟨S64x768, broadcastInDim S64x768 ![] bcast_S_S64x768 (constant (F := Ideal) S_ .f32 0x00000000#32)⟩]
    concatenates_S48x768_S4112x768_S64x768_S4224x768_d0

open Pointwise in
theorem rows768_at (A : FVec Ideal S4112x768 .f32) (r : Fin 4224) (k : Fin 768) : (rows768 A : S4224x768.Idx → EReal) (ix2 r k) = slot (fun t => A (ix2 t k)) r := by
  unfold rows768 slot; pointwise []
  split_ifs <;> first | rfl | (exfalso; omega) | (rw [dif_pos (by omega)])

def rows512 (A : FVec Ideal S4112x512 .f32) : FVec Ideal S4224x512 .f32 := concatenate S4224x512 0
    [⟨S48x512, broadcastInDim S48x512 ![] bcast_S_S48x512 (constant (F := Ideal) S_ .f32 0x00000000#32)⟩, ⟨S4112x512, A⟩,
      ⟨S64x512, broadcastInDim S64x512 ![] bcast_S_S64x512 (constant (F := Ideal) S_ .f32 0x00000000#32)⟩]
    concatenates_S48x512_S4112x512_S64x512_S4224x512_d0

open Pointwise in
theorem rows512_at (A : FVec Ideal S4112x512 .f32) (r : Fin 4224) (k : Fin 512) : (rows512 A : S4224x512.Idx → EReal) (ix2 r k) = slot (fun t => A (ix2 t k)) r := by
  unfold rows512 slot; pointwise []
  split_ifs <;> first | rfl | (exfalso; omega) | (rw [dif_pos (by omega)])

def rows256 (A : FVec Ideal S4112x256 .f32) : FVec Ideal S4224x256 .f32 := concatenate S4224x256 0
    [⟨S48x256, broadcastInDim S48x256 ![] bcast_S_S48x256 (constant (F := Ideal) S_ .f32 0x00000000#32)⟩, ⟨S4112x256, A⟩,
      ⟨S64x256, broadcastInDim S64x256 ![] bcast_S_S64x256 (constant (F := Ideal) S_ .f32 0x00000000#32)⟩]
    concatenates_S48x256_S4112x256_S64x256_S4224x256_d0

open Pointwise in
theorem rows256_at (A : FVec Ideal S4112x256 .f32) (r : Fin 4224) (k : Fin 256) : (rows256 A : S4224x256.Idx → EReal) (ix2 r k) = slot (fun t => A (ix2 t k)) r := by
  unfold rows256 slot; pointwise []
  split_ifs <;> first | rfl | (exfalso; omega) | (rw [dif_pos (by omega)])

def rows128 (A : FVec Ideal S4112x128 .f32) : FVec Ideal S4224x128 .f32 := concatenate S4224x128 0
    [⟨S48x128, broadcastInDim S48x128 ![] bcast_S_S48x128 (constant (F := Ideal) S_ .f32 0x00000000#32)⟩, ⟨S4112x128, A⟩,
      ⟨S64x128, broadcastInDim S64x128 ![] bcast_S_S64x128 (constant (F := Ideal) S_ .f32 0x00000000#32)⟩]
    concatenates_S48x128_S4112x128_S64x128_S4224x128_d0

open Pointwise in
theorem rows128_at (A : FVec Ideal S4112x128 .f32) (r : Fin 4224) (k : Fin 128) : (rows128 A : S4224x128.Idx → EReal) (ix2 r k) = slot (fun t => A (ix2 t k)) r := by
  unfold rows128 slot; pointwise []
  split_ifs <;> first | rfl | (exfalso; omega) | (rw [dif_pos (by omega)])

def flat96 (A : FVec Ideal S4112x8x96 .f32) : FVec Ideal S4112x768 .f32 := shapeCast S4112x768 A shapeCasts_S4112x8x96_S4112x768
def wide96 (A : FVec Ideal S4224x768 .f32) : FVec Ideal S4224x1024 .f32 := shapeCast S4224x1024
  (Idealize.ShloMosaic.pad S4224x8x128 ![0, 0, 0] ![0, 0, 32] ![0, 0, 0] (shapeCast S4224x8x96 A shapeCasts_S4224x768_S4224x8x96) zf pads_S4224x8x96_S4224x8x128_000_000_0320 h_S_) shapeCasts_S4224x8x128_S4224x1024

open Pointwise in
theorem flat96_at (A : FVec Ideal S4112x8x96 .f32) (t : Fin 4112) (h : Fin 8) (j : Fin 96) : (flat96 A : S4112x768.Idx → EReal) (ix2 t ⟨h.val * 96 + j.val, by omega⟩) = A (ix3 t h j) := by
  unfold flat96; pointwise []

open Pointwise in
theorem wide96_at (A : FVec Ideal S4224x768 .f32) (r : Fin 4224) (h : Fin 8) (d : Fin 128) :
    (wide96 A : S4224x1024.Idx → EReal) (ix2 r (lane h d)) = pad (fun j : Fin 96 => A (ix2 r ⟨h.val * 96 + j.val, by omega⟩)) d := by
  unfold wide96 pad zf lane; pointwise []
  split_ifs <;> first | rfl | (exfalso; omega) | exact fill

def flat64 (A : FVec Ideal S4112x8x64 .f32) : FVec Ideal S4112x512 .f32 := shapeCast S4112x512 A shapeCasts_S4112x8x64_S4112x512
def wide64 (A : FVec Ideal S4224x512 .f32) : FVec Ideal S4224x1024 .f32 := shapeCast S4224x1024
  (Idealize.ShloMosaic.pad S4224x8x128 ![0, 0, 0] ![0, 0, 64] ![0, 0, 0] (shapeCast S4224x8x64 A shapeCasts_S4224x512_S4224x8x64) zf pads_S4224x8x64_S4224x8x128_000_000_0640 h_S_) shapeCasts_S4224x8x128_S4224x1024

open Pointwise in
theorem flat64_at (A : FVec Ideal S4112x8x64 .f32) (t : Fin 4112) (h : Fin 8) (j : Fin 64) : (flat64 A : S4112x512.Idx → EReal) (ix2 t ⟨h.val * 64 + j.val, by omega⟩) = A (ix3 t h j) := by
  unfold flat64; pointwise []

open Pointwise in
theorem wide64_at (A : FVec Ideal S4224x512 .f32) (r : Fin 4224) (h : Fin 8) (d : Fin 128) :
    (wide64 A : S4224x1024.Idx → EReal) (ix2 r (lane h d)) = pad (fun j : Fin 64 => A (ix2 r ⟨h.val * 64 + j.val, by omega⟩)) d := by
  unfold wide64 pad zf lane; pointwise []
  split_ifs <;> first | rfl | (exfalso; omega) | exact fill

/-- The rows of a three-axis argument, each head's lanes widened to 128. -/
theorem heads96 (A : FVec Ideal S4112x8x96 .f32) (r : Fin 4224) (h : Fin 8) (d : Fin 128) :
    (wide96 (rows768 (flat96 A)) : S4224x1024.Idx → EReal) (ix2 r (lane h d)) = pad (fun j => slot (fun t => A (ix3 t h j)) r) d := by
  rw [wide96_at]
  simp only [rows768_at, flat96_at]

theorem heads64 (A : FVec Ideal S4112x8x64 .f32) (r : Fin 4224) (h : Fin 8) (d : Fin 128) :
    (wide64 (rows512 (flat64 A)) : S4224x1024.Idx → EReal) (ix2 r (lane h d)) = pad (fun j => slot (fun t => A (ix3 t h j)) r) d := by
  rw [wide64_at]
  simp only [rows512_at, flat64_at]

/-- The weights with each head's lanes widened to 128. -/
def wq3 (A : FVec Ideal S256x768 .f32) : FVec Ideal S256x1024 .bf16 := shapeCast S256x1024
  (Idealize.ShloMosaic.pad S256x8x128 ![0, 0, 0] ![0, 0, 32] ![0, 0, 0] (shapeCast S256x8x96 (truncf .bf16 A bitsLt_bf16_f32) shapeCasts_S256x768_S256x8x96) zb pads_S256x8x96_S256x8x128_000_000_0320 h_S_) shapeCasts_S256x8x128_S256x1024
def wide3 (A : FVec Ideal S128x8x64 .bf16) : FVec Ideal S128x1024 .bf16 := shapeCast S128x1024
  (Idealize.ShloMosaic.pad S128x8x128 ![0, 0, 0] ![0, 0, 64] ![0, 0, 0] (shapeCast S128x8x64 (shapeCast S128x512 A shapeCasts_S128x8x64_S128x512) shapeCasts_S128x512_S128x8x64) zb pads_S128x8x64_S128x8x128_000_000_0640 h_S_) shapeCasts_S128x8x128_S128x1024
def wk3 (A : FVec Ideal S128x1024 .f32) : FVec Ideal S128x8x64 .bf16 := extractStridedSlice S128x8x64 ![0, 0, 0] (shapeCast S128x8x128 (truncf .bf16 A bitsLt_bf16_f32) shapeCasts_S128x1024_S128x8x128) slices_S128x8x128_S128x8x64_0_0_0
def wv3 (A : FVec Ideal S128x1024 .f32) : FVec Ideal S128x8x64 .bf16 := extractStridedSlice S128x8x64 ![0, 0, 64] (shapeCast S128x8x128 (truncf .bf16 A bitsLt_bf16_f32) shapeCasts_S128x1024_S128x8x128) slices_S128x8x128_S128x8x64_0_0_64

open Pointwise in
theorem wq3_at (A : FVec Ideal S256x768 .f32) (k : Fin 256) (h : Fin 8) (d : Fin 128) :
    (wq3 A : S256x1024.Idx → EReal) (ix2 k (lane h d)) = pad (fun j : Fin 96 => A (ix2 k ⟨h.val * 96 + j.val, by omega⟩)) d := by
  unfold wq3 pad zb lane; pointwise []
  split_ifs <;> first | rfl | (exfalso; omega) | exact fill'

open Pointwise in
theorem wide3_at (A : FVec Ideal S128x8x64 .bf16) (k : Fin 128) (h : Fin 8) (d : Fin 128) :
    (wide3 A : S128x1024.Idx → EReal) (ix2 k (lane h d)) = pad (fun j : Fin 64 => A (ix3 k h j)) d := by
  unfold wide3 pad zb lane; pointwise []
  split_ifs <;> first | rfl | (exfalso; omega) | exact fill'

open Pointwise in
theorem wk3_at (A : FVec Ideal S128x1024 .f32) (k : Fin 128) (h : Fin 8) (j : Fin 64) : (wk3 A : S128x8x64.Idx → EReal) (ix3 k h j) = A (ix2 k ⟨h.val * 128 + j.val, by omega⟩) := by
  unfold wk3; pointwise []

open Pointwise in
theorem wv3_at (A : FVec Ideal S128x1024 .f32) (k : Fin 128) (h : Fin 8) (j : Fin 64) : (wv3 A : S128x8x64.Idx → EReal) (ix3 k h j) = A (ix2 k ⟨h.val * 128 + (64 + j.val), by omega⟩) := by
  unfold wv3; pointwise []

def gain96 (A : FVec Ideal S96 .f32) : FVec Ideal S1x128 .f32 := Idealize.ShloMosaic.pad S1x128 ![0, 0] ![0, 32] ![0, 0] (shapeCast S1x96 A shapeCasts_S96_S1x96) zf pads_S1x96_S1x128_000_0320 h_S_

open Pointwise in
theorem gain96_at (A : FVec Ideal S96 .f32) (d : Fin 128) : (gain96 A : S1x128.Idx → EReal) (ix2 0 d) = pad (fun j => A (ix1 j)) d := by
  unfold gain96 pad zf; pointwise []
  split_ifs <;> first | rfl | (exfalso; omega) | exact fill

/-- The shared lanes between zeros. -/
def mid32 (A : FVec Ideal S4112x32 .f32) : FVec Ideal S4112x128 .f32 := concatenate S4112x128 1
  [⟨S4112x64, broadcastInDim S4112x64 ![] bcast_S_S4112x64 (constant (F := Ideal) S_ .f32 0x00000000#32)⟩, ⟨S4112x32, A⟩,
    ⟨S4112x32, broadcastInDim S4112x32 ![] bcast_S_S4112x32 (constant (F := Ideal) S_ .f32 0x00000000#32)⟩] concatenates_S4112x64_S4112x32_S4112x32_S4112x128_d1

open Pointwise in
theorem mid32_at (A : FVec Ideal S4112x32 .f32) (r : Fin 4224) (d : Fin 128) :
    (rows128 (mid32 A) : S4224x128.Idx → EReal) (ix2 r d) = if hd : 64 ≤ d.val ∧ d.val < 96 then slot (fun t => A (ix2 t ⟨d.val - 64, by omega⟩)) r else 0 := by
  rw [rows128_at]
  unfold slot mid32; pointwise []
  split_ifs <;> first | rfl | (exfalso; omega) | (rw [dif_pos (by omega)])

/-- The rotation's angles, and the three tables made of their cosines and sines. -/
def angle : FVec Ideal S4224x16 .f32 := mulf
  (broadcastInDim S4224x16 ![0, 1] bcast_S4224x1_S4224x16_0_1 (broadcastInDim S4224x1 ![0] bcast_S4224_S4224x1_0
    (sitofp .f32 (subi (iotaInDim S4224 32 0) (broadcastInDim S4224 ![] bcast_S_S4224 (constantI S_ 32 48#32))))))
  (broadcastInDim S4224x16 ![0, 1] bcast_S1x16_S4224x16_0_1 (broadcastInDim S1x16 ![1] bcast_S16_S1x16_1
    (Host.powf (broadcastInDim S16 ![] bcast_S_S16 (constant (F := Ideal) S_ .f32 0x461C4000#32))
      (Host.divf (Host.negf (sitofp .f32 (iotaInDim S16 32 0))) (broadcastInDim S16 ![] bcast_S_S16 (constant (F := Ideal) S_ .f32 0x41800000#32))))))
def cosT : FVec Ideal S4224x16 .f32 := Host.cos angle
def sinT : FVec Ideal S4224x16 .f32 := Host.sin angle
def z64 : FVec Ideal S4224x64 .f32 := broadcastInDim S4224x64 ![] bcast_S_S4224x64 (constant (F := Ideal) S_ .f32 0x00000000#32)
def z16 : FVec Ideal S4224x16 .f32 := broadcastInDim S4224x16 ![] bcast_S_S4224x16 (constant (F := Ideal) S_ .f32 0x00000000#32)
def z32 : FVec Ideal S4224x32 .f32 := broadcastInDim S4224x32 ![] bcast_S_S4224x32 (constant (F := Ideal) S_ .f32 0x00000000#32)
def o64 : FVec Ideal S4224x64 .f32 := broadcastInDim S4224x64 ![] bcast_S_S4224x64 (constant (F := Ideal) S_ .f32 0x3F800000#32)
def table (a : FVec Ideal S4224x64 .f32) (b d : FVec Ideal S4224x16 .f32) : FVec Ideal S4224x128 .f32 := concatenate S4224x128 1
  [⟨S4224x64, a⟩, ⟨S4224x16, b⟩, ⟨S4224x16, d⟩, ⟨S4224x32, z32⟩] concatenates_S4224x64_S4224x16_S4224x16_S4224x32_S4224x128_d1

open Pointwise in
theorem table_at (a : FVec Ideal S4224x64 .f32) (b e : FVec Ideal S4224x16 .f32) (r : Fin 4224) (d : Fin 128) :
    (table a b e : S4224x128.Idx → EReal) (ix2 r d) = if h : d.val < 64 then a (ix2 r ⟨d.val, h⟩) else if h : 64 ≤ d.val ∧ d.val < 80 then b (ix2 r ⟨d.val - 64, by omega⟩)
      else if h : 80 ≤ d.val ∧ d.val < 96 then e (ix2 r ⟨d.val - 80, by omega⟩) else 0 := by
  unfold table z32; pointwise []
  split_ifs <;> first
    | rfl
    | (exfalso; omega)
    | (rw [dif_pos (by omega)])
    | (rw [dif_neg (by omega), dif_pos (by omega)]; refine congrArg (fun k : Fin 16 => e (ix2 r k)) (Fin.ext ?_); show d.val - 64 - 16 = d.val - 80; omega)

open Pointwise in
theorem cos_table (r : Fin 4224) (d : Fin 128) : (table o64 cosT cosT : S4224x128.Idx → EReal) (ix2 r d)
    = if d.val < 64 then 1 else if hd : 64 ≤ d.val ∧ d.val < 80 then (cosT : S4224x16.Idx → EReal) (ix2 r ⟨d.val - 64, by omega⟩)
      else if hd : 80 ≤ d.val ∧ d.val < 96 then (cosT : S4224x16.Idx → EReal) (ix2 r ⟨d.val - 80, by omega⟩) else 0 := by
  rw [table_at]
  by_cases h : d.val < 64
  · rw [dif_pos h, if_pos h]
    unfold o64; pointwise []
  · rw [dif_neg h, if_neg h]

open Pointwise in
theorem neg_table (r : Fin 4224) (d : Fin 128) : (table z64 (Host.negf sinT) z16 : S4224x128.Idx → EReal) (ix2 r d)
    = if hd : 64 ≤ d.val ∧ d.val < 80 then -(sinT : S4224x16.Idx → EReal) (ix2 r ⟨d.val - 64, by omega⟩) else 0 := by
  rw [table_at]
  unfold z64 z16; pointwise []
  split_ifs <;> first | rfl | (exfalso; omega)

open Pointwise in
theorem sin_table (r : Fin 4224) (d : Fin 128) : (table z64 z16 sinT : S4224x128.Idx → EReal) (ix2 r d)
    = if hd : 80 ≤ d.val ∧ d.val < 96 then (sinT : S4224x16.Idx → EReal) (ix2 r ⟨d.val - 80, by omega⟩) else 0 := by
  rw [table_at]
  unfold z64 z16; pointwise []
  split_ifs <;> first | rfl | (exfalso; omega)

/-! ## The arrays of the program -/

section Arrays

variable (m : (ℓ : Loc nD τ sig) → Buf (Elt Ideal) ℓ) (c : Dev nD)

theorem v29_eq : V m c main_v29 = rows768 (flat96 (m ((c : Thread nD τ).loc main_arg9))) := by
  after_reads_simp
  unfold rows768
  congr! 5
  all_goals first
    | (simp only [Matrix.cons_val_zero, Matrix.cons_val_one, Matrix.cons_val_two, Matrix.cons_val_three]; after_reads_simp; rfl)
    | rfl

theorem v32_eq : V m c main_v32 = wide96 (rows768 (flat96 (m ((c : Thread nD τ).loc main_arg9)))) := by
  refine Eq.trans ?_ (congrArg wide96 (v29_eq m c))
  after_reads_simp
  rfl

theorem v36_eq : V m c main_v36 = rows768 (flat96 (m ((c : Thread nD τ).loc main_arg10))) := by
  after_reads_simp
  unfold rows768
  congr! 5
  all_goals first
    | (simp only [Matrix.cons_val_zero, Matrix.cons_val_one, Matrix.cons_val_two, Matrix.cons_val_three]; after_reads_simp; rfl)
    | rfl

theorem v39_eq : V m c main_v39 = wide96 (rows768 (flat96 (m ((c : Thread nD τ).loc main_arg10)))) := by
  refine Eq.trans ?_ (congrArg wide96 (v36_eq m c))
  after_reads_simp
  rfl

theorem v43_eq : V m c main_v43 = rows512 (flat64 (m ((c : Thread nD τ).loc main_arg11))) := by
  after_reads_simp
  unfold rows512
  congr! 5
  all_goals first
    | (simp only [Matrix.cons_val_zero, Matrix.cons_val_one, Matrix.cons_val_two, Matrix.cons_val_three]; after_reads_simp; rfl)
    | rfl

theorem v46_eq : V m c main_v46 = wide64 (rows512 (flat64 (m ((c : Thread nD τ).loc main_arg11)))) := by
  refine Eq.trans ?_ (congrArg wide64 (v43_eq m c))
  after_reads_simp
  rfl

theorem v49_eq : V m c main_v49 = rows256 (m ((c : Thread nD τ).loc main_arg0)) := by
  after_reads_simp
  unfold rows256
  congr! 5
  all_goals first
    | (simp only [Matrix.cons_val_zero, Matrix.cons_val_one, Matrix.cons_val_two, Matrix.cons_val_three]; after_reads_simp; rfl)
    | rfl

theorem v52_eq : V m c main_v52 = rows128 (m ((c : Thread nD τ).loc main_arg1)) := by
  after_reads_simp
  unfold rows128
  congr! 5
  all_goals first
    | (simp only [Matrix.cons_val_zero, Matrix.cons_val_one, Matrix.cons_val_two, Matrix.cons_val_three]; after_reads_simp; rfl)
    | rfl

theorem v5_eq : V m c main_v5 = rows128 (mid32 (m ((c : Thread nD τ).loc main_arg2))) := by
  after_reads_simp
  unfold rows128
  congr! 5
  all_goals first
    | (simp only [Matrix.cons_val_zero, Matrix.cons_val_one, Matrix.cons_val_two]; after_reads_simp; rfl)
    | (simp only [Matrix.cons_val_zero, Matrix.cons_val_one, Matrix.cons_val_two]; after_reads_simp; unfold mid32; congr! 5 <;> (simp only [Matrix.cons_val_zero, Matrix.cons_val_one, Matrix.cons_val_two]; after_reads_simp; rfl))
    | rfl

theorem v9_eq : V m c main_v9 = wq3 (m ((c : Thread nD τ).loc main_arg4)) := by
  after_reads_simp
  rfl

theorem v16_eq : V m c main_v16 = wide3 (wk3 (m ((c : Thread nD τ).loc main_arg6))) := by
  after_reads_simp
  rfl

theorem v21_eq : V m c main_v21 = wide3 (wv3 (m ((c : Thread nD τ).loc main_arg6))) := by
  after_reads_simp
  rfl

theorem v23_eq : V m c main_v23 = gain96 (m ((c : Thread nD τ).loc main_arg7)) := by
  after_reads_simp
  rfl

theorem v25_eq : V m c main_v25 = gain96 (m ((c : Thread nD τ).loc main_arg8)) := by
  after_reads_simp
  rfl

theorem v76_eq : V m c main_v76 = table o64 cosT cosT := by
  after_reads_simp
  unfold table
  congr! 5
  all_goals first
    | (simp only [Matrix.cons_val_zero, Matrix.cons_val_one, Matrix.cons_val_two, Matrix.cons_val_three]; after_reads_simp; rfl)
    | rfl

theorem v78_eq : V m c main_v78 = table z64 (Host.negf sinT) z16 := by
  after_reads_simp
  unfold table
  congr! 5
  all_goals first
    | (simp only [Matrix.cons_val_zero, Matrix.cons_val_one, Matrix.cons_val_two, Matrix.cons_val_three]; after_reads_simp; rfl)
    | rfl

theorem v79_eq : V m c main_v79 = table z64 z16 sinT := by
  after_reads_simp
  unfold table
  congr! 5
  all_goals first
    | (simp only [Matrix.cons_val_zero, Matrix.cons_val_one, Matrix.cons_val_two, Matrix.cons_val_three]; after_reads_simp; rfl)
    | rfl

theorem v53_at (k : Fin 256) : (V m c main_v53 : S1x256.Idx → EReal) (ix2 0 k) = (m ((c : Thread nD τ).loc main_arg3) : S256.Idx → EReal) (ix1 k) := by
  after_reads_simp
  generalize (m ((c : Thread nD τ).loc main_arg3)) = A
  open Pointwise in pointwise []

theorem v54_at (k : Fin 128) : (V m c main_v54 : S1x128.Idx → EReal) (ix2 0 k) = (m ((c : Thread nD τ).loc main_arg5) : S128.Idx → EReal) (ix1 k) := by
  after_reads_simp
  generalize (m ((c : Thread nD τ).loc main_arg5)) = A
  open Pointwise in pointwise []

end Arrays

end Cert.Proof.Mla
end
-- ==== Proof.MlaRef.lean ====
module

public import proofs.«01_k».proof.Proof.MlaCore
public import proofs.«01_k».proof.Proof.Gen.MlaReferenceIdeal.Run
public import proofs.«01_k».proof.Proof.Gen.MlaReferenceIdeal.Read
public import Idealize.ShloMosaic.Lib.Pointwise
public import Idealize.ShloMosaic.Lib.ValueIdx

@[expose] public section

/-! # The reference's gradient before the attention, row by row -/

set_option maxRecDepth 16384

noncomputable section

namespace Cert.Proof.Mla

open Idealize.ShloMosaic Idealize.ShloMosaic.TcCoe Idealize.SL.Sem Cert.Proof.Reals Cert.Proof.Sums

/-- A sum over the first two of three axes. -/
theorem sum_fiber {n0 n1 n2 : ℕ} (h : (⟨3, ![n0, n1, n2]⟩ : Shape).ReducesTo [0, 1] ⟨1, ![n2]⟩) (v : (⟨3, ![n0, n1, n2]⟩ : Shape).Idx → EReal) (z : EReal) (j : Fin n2) :
    Ideal.hostReduceAdd h v z (ix1 j) = z + ∑ a : Fin n0, ∑ b : Fin n1, v (ix3 a b j) := by
  refine congrArg (fun y : EReal => z + y) ((Finset.sum_filter_eq_sum_of_fiber _ (fun k : Fin n0 × Fin n1 => ix3 k.1 k.2 j)
    (fun _ _ e => Prod.ext (congrFun e 0) (congrFun e 1)) (fun i => ⟨fun e => ⟨(i 0, i 1), ?_⟩, ?_⟩) v).trans (by simp only [Fintype.sum_prod_type]))
  · funext a
    apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext b
    match b with
    | ⟨0, _⟩ => rfl

namespace Ref

open Cert.MlaReferenceIdeal Cert.MlaReferenceIdeal.Read

theorem c_half : (Ideal.ofBits .f32 0xBF000000#32 : EReal) = ((-1 / 2 : ℝ) : EReal) := Norm.c_half
theorem c_256 : (Ideal.ofBits .f32 0x43800000#32 : EReal) = ((256 : ℝ) : EReal) := by
  simp [Ideal.ofBits, Ideal.ieee]
  rw [← EReal.coe_mul]
  norm_num
theorem c_128 : (Ideal.ofBits .f32 0x43000000#32 : EReal) = ((128 : ℝ) : EReal) := by
  simp [Ideal.ofBits, Ideal.ieee]
  rw [← EReal.coe_mul]
  norm_num
theorem c_96 : (Ideal.ofBits .f32 0x42C00000#32 : EReal) = ((96 : ℝ) : EReal) := by
  simp [Ideal.ofBits, Ideal.ieee]
  rw [← EReal.coe_mul]
  norm_num

/-- A sum over eight heads of 64 lanes of one array and 64 of another. -/
theorem heads (b : Fin 8 → Fin 96 → EReal) (v : Fin 8 → Fin 64 → EReal) (w : Fin 1024 → EReal) :
    ∑ x : Fin 1024, ((if h : x.val / 128 < 8 ∧ 64 ≤ x.val % 128 ∧ x.val % 128 - 64 < 64 then v ⟨x.val / 128, h.1⟩ ⟨x.val % 128 - 64, h.2.2⟩ else 0)
      + if h : x.val / 128 < 8 ∧ x.val % 128 < 64 then b ⟨x.val / 128, h.1⟩ ⟨x.val % 128, by omega⟩ else 0) * w x
    = (∑ h : Fin 8, ∑ j : Fin 64, b h ⟨j.val, by omega⟩ * w ⟨h.val * 128 + j.val, by omega⟩)
      + ∑ h : Fin 8, ∑ j : Fin 64, v h j * w ⟨h.val * 128 + (64 + j.val), by omega⟩ := by
  have e : ∀ (h : Fin 8) (d : ℕ) (hd : d < 128), ((if p : (h.val * 128 + d) / 128 < 8 ∧ 64 ≤ (h.val * 128 + d) % 128 ∧ (h.val * 128 + d) % 128 - 64 < 64 then v ⟨(h.val * 128 + d) / 128, p.1⟩ ⟨(h.val * 128 + d) % 128 - 64, p.2.2⟩ else 0)
      + if p : (h.val * 128 + d) / 128 < 8 ∧ (h.val * 128 + d) % 128 < 64 then b ⟨(h.val * 128 + d) / 128, p.1⟩ ⟨(h.val * 128 + d) % 128, by omega⟩ else 0)
      = (if p : 64 ≤ d then v h ⟨d - 64, by omega⟩ else 0) + if p : d < 64 then b h ⟨d, by omega⟩ else 0 := fun h d hd => by
    have a1 : (h.val * 128 + d) / 128 = h.val := by omega
    have a2 : (h.val * 128 + d) % 128 = d := by omega
    simp only [a1, a2]
    by_cases p : d < 64
    · rw [dif_neg (show ¬(h.val < 8 ∧ 64 ≤ d ∧ d - 64 < 64) by omega), dif_pos (show h.val < 8 ∧ d < 64 by omega), dif_neg (show ¬64 ≤ d by omega), dif_pos p]
    · rw [dif_pos (show h.val < 8 ∧ 64 ≤ d ∧ d - 64 < 64 by omega), dif_neg (show ¬(h.val < 8 ∧ d < 64) by omega), dif_pos (show 64 ≤ d by omega), dif_neg p]
  rw [sum_split 8 128 rfl, ← Finset.sum_add_distrib]
  refine Finset.sum_congr rfl fun h _ => ?_
  rw [sum_split 2 64 rfl, Fin.sum_univ_two]
  refine congrArg₂ (fun a b : EReal => a + b) (Finset.sum_congr rfl fun j _ => ?_) (Finset.sum_congr rfl fun j _ => ?_)
  · refine congrArg₂ (fun a b : EReal => a * b) ((e h (0 * 64 + j.val) (by omega)).trans ?_) (congrArg w (Fin.ext (by show h.val * 128 + (0 * 64 + j.val) = h.val * 128 + j.val; omega)))
    rw [dif_neg (show ¬64 ≤ 0 * 64 + j.val by omega), dif_pos (show 0 * 64 + j.val < 64 by omega), zero_add]
    exact congrArg (b h) (Fin.ext (by show 0 * 64 + j.val = j.val; omega))
  · refine congrArg₂ (fun a b : EReal => a * b) ((e h (1 * 64 + j.val) (by omega)).trans ?_) (congrArg w (Fin.ext (by show h.val * 128 + (1 * 64 + j.val) = h.val * 128 + (64 + j.val); omega)))
    rw [dif_pos (show 64 ≤ 1 * 64 + j.val by omega), dif_neg (show ¬1 * 64 + j.val < 64 by omega), add_zero]
    exact congrArg (v h) (Fin.ext (by show 1 * 64 + j.val - 64 = j.val; omega))

/-- A gradient turned back, as the chain rule writes it. -/
theorem rot_form (R : Row) (u : Fin 96 → EReal) (j : Fin 96) :
    ((if h : 64 ≤ j.val ∧ j.val - 64 < 32 then
        (if h1 : 16 ≤ j.val - 64 ∧ j.val - 64 - 16 < 16 then
            u ⟨64 + (16 + (j.val - 64 - 16)), by omega⟩ * R.co ⟨j.val - 64 - 16, by omega⟩ + -u ⟨64 + (j.val - 64 - 16), by omega⟩ * R.si ⟨j.val - 64 - 16, by omega⟩
          else 0) +
          if h1 : j.val - 64 < 16 then
            u ⟨64 + (16 + (j.val - 64)), by omega⟩ * R.si ⟨j.val - 64, by omega⟩ + u ⟨64 + (j.val - 64), by omega⟩ * R.co ⟨j.val - 64, by omega⟩
          else 0
      else 0) + if h : j.val < 64 then u j else 0) = R.rot u j := by
  have hj := j.isLt
  unfold Row.rot
  by_cases a : j.val < 64
  · rw [dif_neg (show ¬(64 ≤ j.val ∧ j.val - 64 < 32) by omega), dif_pos a, dif_pos a, zero_add]
  have a1 : 64 ≤ j.val ∧ j.val - 64 < 32 := by omega
  by_cases b : j.val < 80
  · have e1 : (⟨64 + (j.val - 64), by omega⟩ : Fin 96) = j := Fin.ext (by show 64 + (j.val - 64) = j.val; omega)
    have e2 : (⟨64 + (16 + (j.val - 64)), by omega⟩ : Fin 96) = ⟨j.val + 16, by omega⟩ := Fin.ext (by show 64 + (16 + (j.val - 64)) = j.val + 16; omega)
    rw [dif_pos a1, dif_neg (show ¬(16 ≤ j.val - 64 ∧ j.val - 64 - 16 < 16) by omega), dif_pos (show j.val - 64 < 16 by omega), dif_neg a, dif_neg a, dif_pos b, zero_add, add_zero, add_comm, e1, e2]
  · have e1 : (⟨64 + (16 + (j.val - 64 - 16)), by omega⟩ : Fin 96) = j := Fin.ext (by show 64 + (16 + (j.val - 64 - 16)) = j.val; omega)
    have e2 : (⟨64 + (j.val - 64 - 16), by omega⟩ : Fin 96) = ⟨j.val - 16, by omega⟩ := Fin.ext (by show 64 + (j.val - 64 - 16) = j.val - 16; omega)
    have e3 : (⟨j.val - 64 - 16, by omega⟩ : Fin 16) = ⟨j.val - 80, by omega⟩ := Fin.ext (by show j.val - 64 - 16 = j.val - 80; omega)
    rw [dif_pos a1, dif_pos (show 16 ≤ j.val - 64 ∧ j.val - 64 - 16 < 16 by omega), dif_neg (show ¬j.val - 64 < 16 by omega), dif_neg a, dif_neg a, dif_neg b, add_zero, add_zero, e1, e2, e3, neg_mul, mul_neg]

variable (x0 : S4112x256.Idx → EReal) (x1 : S4112x128.Idx → EReal) (x2 : S4112x32.Idx → EReal) (x3 : S256.Idx → EReal) (x4 : S256x768.Idx → EReal)
  (x5 : S128.Idx → EReal) (x6 : S128x1024.Idx → EReal) (x7 x8 : S96.Idx → EReal) (x9 x10 : S4112x8x96.Idx → EReal) (x11 : S4112x8x64.Idx → EReal)

/-- The row of token `t`, and the weights. -/
def row (t : Fin 4112) : Row where
  cq k := x0 (ix2 t k)
  ckv k := x1 (ix2 t k)
  kr k := x2 (ix2 t k)
  dq h j := x9 (ix3 t h j)
  dk h j := x10 (ix3 t h j)
  dv h j := x11 (ix3 t h j)
  co j := (val_main_v15 (F := Ideal) : S4112x16.Idx → EReal) (ix2 t j)
  si j := (val_main_v17 (F := Ideal) : S4112x16.Idx → EReal) (ix2 t j)
def wts : Wts where
  qa k := x3 (ix1 k)
  wq k h j := x4 (ix2 k ⟨h.val * 96 + j.val, by omega⟩)
  ka k := x5 (ix1 k)
  wk k h j := x6 (ix2 k ⟨h.val * 128 + j.val, by omega⟩)
  wv k h j := x6 (ix2 k ⟨h.val * 128 + (64 + j.val), by omega⟩)
  qn j := x7 (ix1 j)
  kn j := x8 (ix1 j)

variable (t : Fin 4112)

open Pointwise in
theorem ms_cq (a : Fin 1) : (val_main_v25 (F := Ideal) x0 : S4112x1.Idx → EReal) (ix2 t a) = (∑ k, x0 (ix2 t k) * x0 (ix2 t k)) * ((256⁻¹ : ℝ) : EReal) + Norm.ε := by
  unfold val_main_v25 val_main_v24 val_main_v23 val_main_v22 val_main_v21 val_main_v20 val_main_v19 val_main_cst_2 val_main_cst_3 val_main_cst_4; pointwise []
  rw [c_256, Norm.div_const _ (by norm_num)]
  rfl

open Pointwise in
theorem rs_cq (a : Fin 1) : (val_main_v26 (F := Ideal) x0 : S4112x1.Idx → EReal) (ix2 t a) = rs 256⁻¹ fun k => x0 (ix2 t k) := by
  unfold val_main_v26; pointwise []
  rw [ms_cq]
  rfl

open Pointwise in
theorem ms_ckv (a : Fin 1) : (val_main_v43 (F := Ideal) x1 : S4112x1.Idx → EReal) (ix2 t a) = (∑ k, x1 (ix2 t k) * x1 (ix2 t k)) * ((128⁻¹ : ℝ) : EReal) + Norm.ε := by
  unfold val_main_v43 val_main_v42 val_main_v41 val_main_v40 val_main_v39 val_main_v38 val_main_v37 val_main_cst_6 val_main_cst_7 val_main_cst_8; pointwise []
  rw [c_128, Norm.div_const _ (by norm_num)]
  rfl

open Pointwise in
theorem rs_ckv (a : Fin 1) : (val_main_v44 (F := Ideal) x1 : S4112x1.Idx → EReal) (ix2 t a) = rs 128⁻¹ fun k => x1 (ix2 t k) := by
  unfold val_main_v44; pointwise []
  rw [ms_ckv]
  rfl

open Pointwise in
theorem q_at (h : Fin 8) (j : Fin 96) : (val_main_v60 (F := Ideal) x0 x3 x4 : S4112x8x96.Idx → EReal) (ix3 t h j) = (row x0 x1 x2 x9 x10 x11 t).q (wts x3 x4 x5 x6 x7 x8) h j := by
  unfold val_main_v60 val_main_v36 val_main_v0 val_main_cst val_main_v35 val_main_v34 val_main_v33 val_main_v32 val_main_v31 val_main_v30; pointwise []
  simp only [rs_cq]
  rfl

open Pointwise in
theorem k_at (h : Fin 8) (j : Fin 96) : (val_main_v77 (F := Ideal) x1 x2 x5 x6 : S4112x8x96.Idx → EReal) (ix3 t h j) = (row x0 x1 x2 x9 x10 x11 t).k (wts x3 x4 x5 x6 x7 x8) h j := by
  unfold val_main_v77 val_main_v59 val_main_v0 val_main_cst val_main_v58 val_main_v57 val_main_v55 val_main_v54 val_main_v53 val_main_v52 val_main_v51 val_main_v50 val_main_v49 val_main_v48; pointwise []
  simp only [rs_ckv]
  rfl

open Pointwise in
theorem ms_q (h : Fin 8) (a : Fin 1) : (val_main_v67 (F := Ideal) x0 x3 x4 : S4112x8x1.Idx → EReal) (ix3 t h a) = (∑ j, (row x0 x1 x2 x9 x10 x11 t).q (wts x3 x4 x5 x6 x7 x8) h j * (row x0 x1 x2 x9 x10 x11 t).q (wts x3 x4 x5 x6 x7 x8) h j) * ((96⁻¹ : ℝ) : EReal) + Norm.ε := by
  unfold val_main_v67 val_main_v66 val_main_v65 val_main_v64 val_main_v63 val_main_v62 val_main_v61 val_main_cst_10 val_main_cst_11 val_main_cst_12; pointwise []
  simp only [q_at x0 x1 x2 x3 x4 x5 x6 x7 x8 x9 x10 x11]
  rw [c_96, Norm.div_const _ (by norm_num)]
  rfl

open Pointwise in
theorem rs_q (h : Fin 8) (a : Fin 1) : (val_main_v68 (F := Ideal) x0 x3 x4 : S4112x8x1.Idx → EReal) (ix3 t h a) = rs 96⁻¹ ((row x0 x1 x2 x9 x10 x11 t).q (wts x3 x4 x5 x6 x7 x8) h) := by
  unfold val_main_v68; pointwise []
  rw [ms_q x0 x1 x2 x3 x4 x5 x6 x7 x8 x9 x10 x11]
  rfl

open Pointwise in
theorem ms_k (h : Fin 8) (a : Fin 1) : (val_main_v84 (F := Ideal) x1 x2 x5 x6 : S4112x8x1.Idx → EReal) (ix3 t h a) = (∑ j, (row x0 x1 x2 x9 x10 x11 t).k (wts x3 x4 x5 x6 x7 x8) h j * (row x0 x1 x2 x9 x10 x11 t).k (wts x3 x4 x5 x6 x7 x8) h j) * ((96⁻¹ : ℝ) : EReal) + Norm.ε := by
  unfold val_main_v84 val_main_v83 val_main_v82 val_main_v81 val_main_v80 val_main_v79 val_main_v78 val_main_cst_14 val_main_cst_15 val_main_cst_16; pointwise []
  simp only [k_at x0 x1 x2 x3 x4 x5 x6 x7 x8 x9 x10 x11]
  rw [c_96, Norm.div_const _ (by norm_num)]
  rfl

open Pointwise in
theorem rs_k (h : Fin 8) (a : Fin 1) : (val_main_v85 (F := Ideal) x1 x2 x5 x6 : S4112x8x1.Idx → EReal) (ix3 t h a) = rs 96⁻¹ ((row x0 x1 x2 x9 x10 x11 t).k (wts x3 x4 x5 x6 x7 x8) h) := by
  unfold val_main_v85; pointwise []
  rw [ms_k x0 x1 x2 x3 x4 x5 x6 x7 x8 x9 x10 x11]
  rfl

open Pointwise in
theorem tk_at (h : Fin 8) (j : Fin 96) : (val_main_v150 (F := Ideal) x10 : S4112x8x96.Idx → EReal) (ix3 t h j) = (row x0 x1 x2 x9 x10 x11 t).tk h j := by
  unfold val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v16 val_main_v18 val_main_cst_20 val_main_cst_21 val_main_cst_22 val_main_cst_23; pointwise []
  exact rot_form (row x0 x1 x2 x9 x10 x11 t) (fun j => x10 (ix3 t h j)) j

open Pointwise in
theorem tq_at (h : Fin 8) (j : Fin 96) : (val_main_v171 (F := Ideal) x9 : S4112x8x96.Idx → EReal) (ix3 t h j) = (row x0 x1 x2 x9 x10 x11 t).tq h j := by
  unfold val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v129 val_main_v128 val_main_v16 val_main_v18 val_main_cst_19 val_main_cst_24 val_main_cst_25 val_main_cst_26 val_main_cst_27; pointwise []
  exact rot_form (row x0 x1 x2 x9 x10 x11 t) (fun j => x9 (ix3 t h j) * fac) j

open Pointwise in
theorem bk_at (h : Fin 8) (j : Fin 96) : (val_main_v191 (F := Ideal) x1 x2 x5 x6 x8 x10 : S4112x8x96.Idx → EReal) (ix3 t h j) = (row x0 x1 x2 x9 x10 x11 t).bk (wts x3 x4 x5 x6 x7 x8) h j := by
  unfold val_main_v191 val_main_v190 val_main_v189 val_main_v188 val_main_v187 val_main_v186 val_main_v185 val_main_v184 val_main_v183 val_main_v182 val_main_v181 val_main_v180 val_main_v179 val_main_v178 val_main_v176 val_main_v175 val_main_v91 val_main_v88 val_main_v87 val_main_v86 val_main_cst_17 val_main_cst_30 val_main_cst_31 val_main_cst_32; pointwise []
  simp only [rs_k x0 x1 x2 x3 x4 x5 x6 x7 x8 x9 x10 x11, ms_k x0 x1 x2 x3 x4 x5 x6 x7 x8 x9 x10 x11, k_at x0 x1 x2 x3 x4 x5 x6 x7 x8 x9 x10 x11, tk_at x0 x1 x2 x9 x10 x11, c_half, c_96, Fin.sum_univ_one]
  exact chain (κ := 96⁻¹) (n := 96) (by norm_num) (by norm_num) ((row x0 x1 x2 x9 x10 x11 t).k (wts x3 x4 x5 x6 x7 x8) h) (fun j => (row x0 x1 x2 x9 x10 x11 t).tk h j * (wts x3 x4 x5 x6 x7 x8).kn j) rfl rfl rfl j

open Pointwise in
theorem bq_at (h : Fin 8) (j : Fin 96) : (val_main_v211 (F := Ideal) x0 x3 x4 x7 x9 : S4112x8x96.Idx → EReal) (ix3 t h j) = (row x0 x1 x2 x9 x10 x11 t).bq (wts x3 x4 x5 x6 x7 x8) h j := by
  unfold val_main_v211 val_main_v210 val_main_v209 val_main_v208 val_main_v207 val_main_v206 val_main_v205 val_main_v204 val_main_v203 val_main_v202 val_main_v201 val_main_v200 val_main_v199 val_main_v198 val_main_v196 val_main_v195 val_main_v74 val_main_v71 val_main_v70 val_main_v69 val_main_cst_13 val_main_cst_35 val_main_cst_36 val_main_cst_37; pointwise []
  simp only [rs_q x0 x1 x2 x3 x4 x5 x6 x7 x8 x9 x10 x11, ms_q x0 x1 x2 x3 x4 x5 x6 x7 x8 x9 x10 x11, q_at x0 x1 x2 x3 x4 x5 x6 x7 x8 x9 x10 x11, tq_at x0 x1 x2 x9 x10 x11, c_half, c_96, Fin.sum_univ_one]
  exact chain (κ := 96⁻¹) (n := 96) (by norm_num) (by norm_num) ((row x0 x1 x2 x9 x10 x11 t).q (wts x3 x4 x5 x6 x7 x8) h) (fun j => (row x0 x1 x2 x9 x10 x11 t).tq h j * (wts x3 x4 x5 x6 x7 x8).qn j) rfl rfl rfl j

open Pointwise in
theorem dkr_at (j : Fin 32) : (val_main_v216 (F := Ideal) x1 x2 x5 x6 x8 x10 : S4112x32.Idx → EReal) (ix2 t j) = (row x0 x1 x2 x9 x10 x11 t).dkr (wts x3 x4 x5 x6 x7 x8) j := by
  unfold val_main_v216 val_main_v215 val_main_v214 val_main_v213 val_main_cst_38 val_main_cst_39; pointwise []
  simp only [bk_at x0 x1 x2 x3 x4 x5 x6 x7 x8 x9 x10 x11, Fin.sum_univ_one]
  rfl

open Pointwise in
theorem fkv_at (k : Fin 128) : (val_main_v221 (F := Ideal) x1 x2 x5 x6 x8 x10 x11 : S4112x128.Idx → EReal) (ix2 t k) = (row x0 x1 x2 x9 x10 x11 t).fkv (wts x3 x4 x5 x6 x7 x8) k := by
  unfold val_main_v221 val_main_v220 val_main_v219 val_main_v218 val_main_v217 val_main_v212 val_main_cst_40 val_main_cst_41; pointwise []
  simp only [bk_at x0 x1 x2 x3 x4 x5 x6 x7 x8 x9 x10 x11]
  exact heads ((row x0 x1 x2 x9 x10 x11 t).bk (wts x3 x4 x5 x6 x7 x8)) (row x0 x1 x2 x9 x10 x11 t).dv (fun n => x6 (ix2 k n))

open Pointwise in
theorem fq_at (k : Fin 256) : (val_main_v243 (F := Ideal) x0 x3 x4 x7 x9 : S4112x256.Idx → EReal) (ix2 t k) = (row x0 x1 x2 x9 x10 x11 t).fq (wts x3 x4 x5 x6 x7 x8) k := by
  unfold val_main_v243 val_main_v242; pointwise []
  simp only [bq_at x0 x1 x2 x3 x4 x5 x6 x7 x8 x9 x10 x11]
  unfold Row.fq
  rw [sum_split 8 96 rfl]
  refine Finset.sum_congr rfl fun h _ => Finset.sum_congr rfl fun j _ => ?_
  have a1 : (h.val * 96 + j.val) / 96 = h.val := by omega
  have a2 : (h.val * 96 + j.val) % 96 = j.val := by omega
  simp only [a1, a2]
  rfl

open Pointwise in
theorem dckv_at (k : Fin 128) : (val_main_v241 (F := Ideal) x1 x2 x5 x6 x8 x10 x11 : S4112x128.Idx → EReal) (ix2 t k) = (row x0 x1 x2 x9 x10 x11 t).dckv (wts x3 x4 x5 x6 x7 x8) k := by
  unfold val_main_v241 val_main_v240 val_main_v239 val_main_v238 val_main_v237 val_main_v236 val_main_v235 val_main_v234 val_main_v233 val_main_v232 val_main_v231 val_main_v230 val_main_v229 val_main_v228 val_main_v226 val_main_v225 val_main_v50 val_main_v47 val_main_v46 val_main_v45 val_main_cst_9 val_main_cst_44 val_main_cst_45 val_main_cst_46; pointwise []
  simp only [rs_ckv, ms_ckv, fkv_at x0 x1 x2 x3 x4 x5 x6 x7 x8 x9 x10 x11, c_half, c_128, Fin.sum_univ_one]
  exact chain (κ := 128⁻¹) (n := 128) (by norm_num) (by norm_num) (fun k => x1 (ix2 t k)) (fun k => (row x0 x1 x2 x9 x10 x11 t).fkv (wts x3 x4 x5 x6 x7 x8) k * (wts x3 x4 x5 x6 x7 x8).ka k) rfl rfl rfl k

open Pointwise in
theorem dcq_at (k : Fin 256) : (val_main_v263 (F := Ideal) x0 x3 x4 x7 x9 : S4112x256.Idx → EReal) (ix2 t k) = (row x0 x1 x2 x9 x10 x11 t).dcq (wts x3 x4 x5 x6 x7 x8) k := by
  unfold val_main_v263 val_main_v262 val_main_v261 val_main_v260 val_main_v259 val_main_v258 val_main_v257 val_main_v256 val_main_v255 val_main_v254 val_main_v253 val_main_v252 val_main_v251 val_main_v250 val_main_v248 val_main_v247 val_main_v32 val_main_v29 val_main_v28 val_main_v27 val_main_cst_5 val_main_cst_49 val_main_cst_50 val_main_cst_51; pointwise []
  simp only [rs_cq, ms_cq, fq_at x0 x1 x2 x3 x4 x5 x6 x7 x8 x9 x10 x11, c_half, c_256, Fin.sum_univ_one]
  exact chain (κ := 256⁻¹) (n := 256) (by norm_num) (by norm_num) (fun k => x0 (ix2 t k)) (fun k => (row x0 x1 x2 x9 x10 x11 t).fq (wts x3 x4 x5 x6 x7 x8) k * (wts x3 x4 x5 x6 x7 x8).qa k) rfl rfl rfl k

open Pointwise in
theorem gka_at (k : Fin 128) : (val_main_v227 (F := Ideal) x1 x2 x5 x6 x8 x10 x11 : S128.Idx → EReal) (ix1 k) = ∑ t, (row x0 x1 x2 x9 x10 x11 t).gka (wts x3 x4 x5 x6 x7 x8) k := by
  unfold val_main_v227 val_main_v224 val_main_v223 val_main_v222 val_main_v49 val_main_v48 val_main_cst_42 val_main_cst_43; pointwise []
  simp only [rs_ckv, fkv_at x0 x1 x2 x3 x4 x5 x6 x7 x8 x9 x10 x11, Fin.sum_univ_one]
  exact Finset.sum_congr rfl fun t _ => (mul_comm _ _ : (_ : EReal) = _)

open Pointwise in
theorem gqa_at (k : Fin 256) : (val_main_v249 (F := Ideal) x0 x3 x4 x7 x9 : S256.Idx → EReal) (ix1 k) = ∑ t, (row x0 x1 x2 x9 x10 x11 t).gqa (wts x3 x4 x5 x6 x7 x8) k := by
  unfold val_main_v249 val_main_v246 val_main_v245 val_main_v244 val_main_v31 val_main_v30 val_main_cst_47 val_main_cst_48; pointwise []
  simp only [rs_cq, fq_at x0 x1 x2 x3 x4 x5 x6 x7 x8 x9 x10 x11, Fin.sum_univ_one]
  exact Finset.sum_congr rfl fun t _ => (mul_comm _ _ : (_ : EReal) = _)

open Pointwise in
theorem gk_at (k : Fin 96) : (val_main_v177 (F := Ideal) x1 x2 x5 x6 x10 : S96.Idx → EReal) (ix1 k) = ∑ t, ∑ h, (row x0 x1 x2 x9 x10 x11 t).gk (wts x3 x4 x5 x6 x7 x8) h k := by
  unfold val_main_v177 val_main_v174 val_main_v173 val_main_v172 val_main_v90 val_main_v89 val_main_cst_28 val_main_cst_29; pointwise []
  rw [sum_fiber]
  simp only [Fin.sum_univ_one]
  pointwise []
  rw [sum_fiber]
  pointwise []
  simp only [rs_k x0 x1 x2 x3 x4 x5 x6 x7 x8 x9 x10 x11, k_at x0 x1 x2 x3 x4 x5 x6 x7 x8 x9 x10 x11, tk_at x0 x1 x2 x9 x10 x11]
  exact Finset.sum_congr rfl fun t _ => Finset.sum_congr rfl fun h _ => (mul_comm _ _ : (_ : EReal) = _)

open Pointwise in
theorem gq_at (k : Fin 96) : (val_main_v197 (F := Ideal) x0 x3 x4 x9 : S96.Idx → EReal) (ix1 k) = ∑ t, ∑ h, (row x0 x1 x2 x9 x10 x11 t).gq (wts x3 x4 x5 x6 x7 x8) h k := by
  unfold val_main_v197 val_main_v194 val_main_v193 val_main_v192 val_main_v73 val_main_v72 val_main_cst_33 val_main_cst_34; pointwise []
  rw [sum_fiber]
  simp only [Fin.sum_univ_one]
  pointwise []
  rw [sum_fiber]
  pointwise []
  simp only [rs_q x0 x1 x2 x3 x4 x5 x6 x7 x8 x9 x10 x11, q_at x0 x1 x2 x3 x4 x5 x6 x7 x8 x9 x10 x11, tq_at x0 x1 x2 x9 x10 x11]
  exact Finset.sum_congr rfl fun t _ => Finset.sum_congr rfl fun h _ => (mul_comm _ _ : (_ : EReal) = _)

end Ref

end Cert.Proof.Mla
end
-- ==== Proof.MlaArr.lean ====
module

public import proofs.«01_k».proof.Proof.MlaVal
public import Idealize.ShloMosaic.Lib.Pipeline.ValueKit
public import Idealize.ShloMosaic.Lib.StableHlo.RunRead
public import Idealize.ShloMosaic.Lib.Pointwise
public import Idealize.ShloMosaic.Lib.ValueIdx

@[expose] public section

/-! # The arrays after the region, where the blocks' rows hold given rows -/

set_option maxRecDepth 16384

noncomputable section

namespace Cert.Proof.Mla

open Idealize.ShloMosaic Idealize.ShloMosaic.TcCoe Idealize.SL.Sem Cert.Proof.Reals Cert.Proof.Sums
open Idealize.ShloMosaic.Pipeline (Dat)
open Cert.MlaKernelIdeal Cert.MlaKernelIdeal.Gen

abbrev pt (t : Fin cfg0.N) : Fin 11 := ⟨t.val, t.isLt⟩

def rowAt (t : Fin 11) (r : Fin 384) : Fin 4224 := ⟨t.val * 384 + r.val, by omega⟩

/-! ## Sums over the padded rows -/

/-- What an accumulator's row `s` holds of the values `g` of the padded rows. -/
def acc (g : Fin 4224 → EReal) (s : Fin 8) : EReal := ∑ t : Fin 11, ∑ x : Fin 48, g (rowAt t ⟨x.val * 8 + s.val, by omega⟩)

theorem acc_sum (g : Fin 4224 → EReal) : ∑ s, acc g s = ∑ r, g r := by
  rw [sum_split 11 384 rfl (fun r => g r)]
  unfold acc
  rw [Finset.sum_comm]
  refine Finset.sum_congr rfl fun t _ => ?_
  rw [sum_split 48 8 rfl, Finset.sum_comm]
  rfl

/-- What one point adds to an accumulator's row. -/
def part (g : Fin 4224 → EReal) (t : Fin 11) (s : Fin 8) : EReal := ∑ x : Fin 48, g (rowAt t ⟨x.val * 8 + s.val, by omega⟩)

theorem acc_last (g : Fin 4224 → EReal) (n : ℕ) (h : n < 11) (e : n = 10) (s : Fin 8) :
    ∑ t : Fin (n + 1), part g ⟨t.val, by have := t.isLt; omega⟩ s = acc g s := by
  subst e
  rfl

/-! ## The accumulators' payloads -/

open Pointwise in
theorem pay167_apply (y : FVec Ideal S384x256 .f32) (z : Vec Ideal S8x256 .f32) (s : Fin 8) (d : Fin 256) :
    (k0_pay167 (F := Ideal) y z : S8x256.Idx → EReal) (ix2 s d) = z (ix2 s d) + ∑ x : Fin 48, y (ix2 ⟨x.val * 8 + s.val, by omega⟩ d) := by
  unfold k0_pay167; pointwise []
open Pointwise in
theorem pay168_apply (y w : FVec Ideal S384x128 .f32) (z : Vec Ideal S8x128 .f32) (s : Fin 8) (d : Fin 128) :
    (k0_pay168 (F := Ideal) y w z : S8x128.Idx → EReal) (ix2 s d) = z (ix2 s d) + ∑ x : Fin 48, y (ix2 ⟨x.val * 8 + s.val, by omega⟩ d) * w (ix2 ⟨x.val * 8 + s.val, by omega⟩ d) := by
  unfold k0_pay168; pointwise []
open Pointwise in
theorem pay169_apply (y : FVec Ideal S8x128 .f32) (z : Vec Ideal S8x128 .f32) (s : Fin 8) (d : Fin 128) :
    (k0_pay169 (F := Ideal) y z : S8x128.Idx → EReal) (ix2 s d) = z (ix2 s d) + y (ix2 s d) := by
  unfold k0_pay169; pointwise []
open Pointwise in
theorem pay170_apply (y : FVec Ideal S8x128 .f32) (z : Vec Ideal S8x128 .f32) (s : Fin 8) (d : Fin 128) :
    (k0_pay170 (F := Ideal) y z : S8x128.Idx → EReal) (ix2 s d) = z (ix2 s d) + y (ix2 s d) := by
  unfold k0_pay170; pointwise []
open Pointwise in
theorem pay163_apply (j : S8x256.Idx) : (k0_pay163 (F := Ideal) : S8x256.Idx → EReal) j = 0 := by
  unfold k0_pay163; pointwise []
open Pointwise in
theorem pay164_apply (j : S8x128.Idx) : (k0_pay164 (F := Ideal) : S8x128.Idx → EReal) j = 0 := by
  unfold k0_pay164; pointwise []
open Pointwise in
theorem pay165_apply (j : S8x128.Idx) : (k0_pay165 (F := Ideal) : S8x128.Idx → EReal) j = 0 := by
  unfold k0_pay165; pointwise []
open Pointwise in
theorem pay166_apply (j : S8x128.Idx) : (k0_pay166 (F := Ideal) : S8x128.Idx → EReal) j = 0 := by
  unfold k0_pay166; pointwise []

open Pointwise in
theorem sum8_apply (z : FVec Ideal S8x128 .f32) (hz : ∀ j, (z : S8x128.Idx → EReal) j = 0) (f : Fin 8 → FVec Ideal S8x128 .f32) (s : Fin 8) (d : Fin 128) :
    (sum8 z f : S8x128.Idx → EReal) (ix2 s d) = ∑ h, (f h : S8x128.Idx → EReal) (ix2 s d) := by
  unfold sum8; pointwise []
  simp only [hz, Fin.sum_univ_eight, zero_add]

open Pointwise in
theorem pay14_apply (j : S8x128.Idx) : (k0_pay14 (F := Ideal) : S8x128.Idx → EReal) j = 0 := by
  unfold k0_pay14; pointwise []
open Pointwise in
theorem pay15_apply (j : S8x128.Idx) : (k0_pay15 (F := Ideal) : S8x128.Idx → EReal) j = 0 := by
  unfold k0_pay15; pointwise []

/-! ## The points -/

section Points

variable (m : (ℓ : Loc nD τ sig) → Buf (Elt Ideal) ℓ) (c : Dev nD)

theorem e0_0 : ∀ t : Fin cfg0.N, win0_0.index t = ![t.val, 0] := (by decide +kernel : ∀ t : Fin grid0.N, _)
theorem e0_1 : ∀ t : Fin cfg0.N, win0_1.index t = ![t.val, 0] := (by decide +kernel : ∀ t : Fin grid0.N, _)
theorem e0_2 : ∀ t : Fin cfg0.N, win0_2.index t = ![t.val, 0] := (by decide +kernel : ∀ t : Fin grid0.N, _)
theorem e0_3 : ∀ t : Fin cfg0.N, win0_3.index t = ![t.val, 0] := (by decide +kernel : ∀ t : Fin grid0.N, _)
theorem e0_4 : ∀ t : Fin cfg0.N, win0_4.index t = ![t.val, 0] := (by decide +kernel : ∀ t : Fin grid0.N, _)
theorem e0_5 : ∀ t : Fin cfg0.N, win0_5.index t = ![t.val, 0] := (by decide +kernel : ∀ t : Fin grid0.N, _)
theorem e0_6 : ∀ t : Fin cfg0.N, win0_6.index t = ![0, 0] := (by decide +kernel : ∀ t : Fin grid0.N, _)
theorem e0_7 : ∀ t : Fin cfg0.N, win0_7.index t = ![0, 0] := (by decide +kernel : ∀ t : Fin grid0.N, _)
theorem e0_8 : ∀ t : Fin cfg0.N, win0_8.index t = ![0, 0] := (by decide +kernel : ∀ t : Fin grid0.N, _)
theorem e0_9 : ∀ t : Fin cfg0.N, win0_9.index t = ![0, 0] := (by decide +kernel : ∀ t : Fin grid0.N, _)
theorem e0_10 : ∀ t : Fin cfg0.N, win0_10.index t = ![0, 0] := (by decide +kernel : ∀ t : Fin grid0.N, _)
theorem e0_11 : ∀ t : Fin cfg0.N, win0_11.index t = ![0, 0] := (by decide +kernel : ∀ t : Fin grid0.N, _)
theorem e0_12 : ∀ t : Fin cfg0.N, win0_12.index t = ![0, 0] := (by decide +kernel : ∀ t : Fin grid0.N, _)
theorem e0_13 : ∀ t : Fin cfg0.N, win0_13.index t = ![t.val, 0] := (by decide +kernel : ∀ t : Fin grid0.N, _)
theorem e0_14 : ∀ t : Fin cfg0.N, win0_14.index t = ![t.val, 0] := (by decide +kernel : ∀ t : Fin grid0.N, _)
theorem e0_15 : ∀ t : Fin cfg0.N, win0_15.index t = ![t.val, 0] := (by decide +kernel : ∀ t : Fin grid0.N, _)
theorem e0_16 : ∀ t : Fin cfg0.N, win0_16.index t = ![t.val, 0] := (by decide +kernel : ∀ t : Fin grid0.N, _)
theorem e0_17 : ∀ t : Fin cfg0.N, win0_17.index t = ![t.val, 0] := (by decide +kernel : ∀ t : Fin grid0.N, _)
theorem e0_18 : ∀ t : Fin cfg0.N, win0_18.index t = ![t.val, 0] := (by decide +kernel : ∀ t : Fin grid0.N, _)
theorem e0_19 : ∀ t : Fin cfg0.N, win0_19.index t = ![t.val, 0] := (by decide +kernel : ∀ t : Fin grid0.N, _)
theorem e0_20 : ∀ t : Fin cfg0.N, win0_20.index t = ![t.val, 0] := (by decide +kernel : ∀ t : Fin grid0.N, _)
theorem e0_21 : ∀ t : Fin cfg0.N, win0_21.index t = ![0, 0] := (by decide +kernel : ∀ t : Fin grid0.N, _)
theorem e0_22 : ∀ t : Fin cfg0.N, win0_22.index t = ![0, 0] := (by decide +kernel : ∀ t : Fin grid0.N, _)
theorem e0_23 : ∀ t : Fin cfg0.N, win0_23.index t = ![0, 0] := (by decide +kernel : ∀ t : Fin grid0.N, _)
theorem e0_24 : ∀ t : Fin cfg0.N, win0_24.index t = ![0, 0] := (by decide +kernel : ∀ t : Fin grid0.N, _)
theorem last_21 : ∀ t : Fin cfg0.N, win0_21.flush t = true → t.val = 10 := (by decide +kernel : ∀ t : Fin grid0.N, _)
theorem last_22 : ∀ t : Fin cfg0.N, win0_22.flush t = true → t.val = 10 := (by decide +kernel : ∀ t : Fin grid0.N, _)
theorem last_23 : ∀ t : Fin cfg0.N, win0_23.flush t = true → t.val = 10 := (by decide +kernel : ∀ t : Fin grid0.N, _)
theorem last_24 : ∀ t : Fin cfg0.N, win0_24.flush t = true → t.val = 10 := (by decide +kernel : ∀ t : Fin grid0.N, _)

theorem blk0 (t : Fin cfg0.N) (r : Fin 384) (k : Fin 1024) : (iblk m c 0 t : S384x1024.Idx → EReal) (ix2 r k) = (V m c main_v32 : S4224x1024.Idx → EReal) (ix2 (rowAt (pt t) r) k) := by
  blk_simp [iblk]
  exact congrArg (V m c main_v32) (by blk_ext [e0_0, rowAt])
theorem blk1 (t : Fin cfg0.N) (r : Fin 384) (k : Fin 1024) : (iblk m c 1 t : S384x1024.Idx → EReal) (ix2 r k) = (V m c main_v39 : S4224x1024.Idx → EReal) (ix2 (rowAt (pt t) r) k) := by
  blk_simp [iblk]
  exact congrArg (V m c main_v39) (by blk_ext [e0_1, rowAt])
theorem blk2 (t : Fin cfg0.N) (r : Fin 384) (k : Fin 1024) : (iblk m c 2 t : S384x1024.Idx → EReal) (ix2 r k) = (V m c main_v46 : S4224x1024.Idx → EReal) (ix2 (rowAt (pt t) r) k) := by
  blk_simp [iblk]
  exact congrArg (V m c main_v46) (by blk_ext [e0_2, rowAt])
theorem blk3 (t : Fin cfg0.N) (r : Fin 384) (k : Fin 256) : (iblk m c 3 t : S384x256.Idx → EReal) (ix2 r k) = (V m c main_v49 : S4224x256.Idx → EReal) (ix2 (rowAt (pt t) r) k) := by
  blk_simp [iblk]
  exact congrArg (V m c main_v49) (by blk_ext [e0_3, rowAt])
theorem blk4 (t : Fin cfg0.N) (r : Fin 384) (k : Fin 128) : (iblk m c 4 t : S384x128.Idx → EReal) (ix2 r k) = (V m c main_v52 : S4224x128.Idx → EReal) (ix2 (rowAt (pt t) r) k) := by
  blk_simp [iblk]
  exact congrArg (V m c main_v52) (by blk_ext [e0_4, rowAt])
theorem blk5 (t : Fin cfg0.N) (r : Fin 384) (k : Fin 128) : (iblk m c 5 t : S384x128.Idx → EReal) (ix2 r k) = (V m c main_v5 : S4224x128.Idx → EReal) (ix2 (rowAt (pt t) r) k) := by
  blk_simp [iblk]
  exact congrArg (V m c main_v5) (by blk_ext [e0_5, rowAt])
theorem blk6 (t : Fin cfg0.N) (r : Fin 1) (k : Fin 256) : (iblk m c 6 t : S1x256.Idx → EReal) (ix2 r k) = (V m c main_v53 : S1x256.Idx → EReal) (ix2 r k) := by
  blk_simp [iblk]
  exact congrArg (V m c main_v53) (by blk_ext [e0_6])
theorem blk7 (t : Fin cfg0.N) (r : Fin 256) (k : Fin 1024) : (iblk m c 7 t : S256x1024.Idx → EReal) (ix2 r k) = (V m c main_v9 : S256x1024.Idx → EReal) (ix2 r k) := by
  blk_simp [iblk]
  exact congrArg (V m c main_v9) (by blk_ext [e0_7])
theorem blk8 (t : Fin cfg0.N) (r : Fin 1) (k : Fin 128) : (iblk m c 8 t : S1x128.Idx → EReal) (ix2 r k) = (V m c main_v54 : S1x128.Idx → EReal) (ix2 r k) := by
  blk_simp [iblk]
  exact congrArg (V m c main_v54) (by blk_ext [e0_8])
theorem blk9 (t : Fin cfg0.N) (r : Fin 128) (k : Fin 1024) : (iblk m c 9 t : S128x1024.Idx → EReal) (ix2 r k) = (V m c main_v16 : S128x1024.Idx → EReal) (ix2 r k) := by
  blk_simp [iblk]
  exact congrArg (V m c main_v16) (by blk_ext [e0_9])
theorem blk10 (t : Fin cfg0.N) (r : Fin 128) (k : Fin 1024) : (iblk m c 10 t : S128x1024.Idx → EReal) (ix2 r k) = (V m c main_v21 : S128x1024.Idx → EReal) (ix2 r k) := by
  blk_simp [iblk]
  exact congrArg (V m c main_v21) (by blk_ext [e0_10])
theorem blk11 (t : Fin cfg0.N) (r : Fin 1) (k : Fin 128) : (iblk m c 11 t : S1x128.Idx → EReal) (ix2 r k) = (V m c main_v23 : S1x128.Idx → EReal) (ix2 r k) := by
  blk_simp [iblk]
  exact congrArg (V m c main_v23) (by blk_ext [e0_11])
theorem blk12 (t : Fin cfg0.N) (r : Fin 1) (k : Fin 128) : (iblk m c 12 t : S1x128.Idx → EReal) (ix2 r k) = (V m c main_v25 : S1x128.Idx → EReal) (ix2 r k) := by
  blk_simp [iblk]
  exact congrArg (V m c main_v25) (by blk_ext [e0_12])
theorem blk13 (t : Fin cfg0.N) (r : Fin 384) (k : Fin 128) : (iblk m c 13 t : S384x128.Idx → EReal) (ix2 r k) = (V m c main_v76 : S4224x128.Idx → EReal) (ix2 (rowAt (pt t) r) k) := by
  blk_simp [iblk]
  exact congrArg (V m c main_v76) (by blk_ext [e0_13, rowAt])
theorem blk14 (t : Fin cfg0.N) (r : Fin 384) (k : Fin 128) : (iblk m c 14 t : S384x128.Idx → EReal) (ix2 r k) = (V m c main_v78 : S4224x128.Idx → EReal) (ix2 (rowAt (pt t) r) k) := by
  blk_simp [iblk]
  exact congrArg (V m c main_v78) (by blk_ext [e0_14, rowAt])
theorem blk15 (t : Fin cfg0.N) (r : Fin 384) (k : Fin 128) : (iblk m c 15 t : S384x128.Idx → EReal) (ix2 r k) = (V m c main_v79 : S4224x128.Idx → EReal) (ix2 (rowAt (pt t) r) k) := by
  blk_simp [iblk]
  exact congrArg (V m c main_v79) (by blk_ext [e0_15, rowAt])

theorem out16_eq (t : Fin cfg0.N) : (outsAt0 (F := Ideal) m c t.val t.isLt).1 = k0_pay156 (F := Ideal) (k0_pay1 (iblk m c 3 t)) (k0_pay2 (iblk m c 3 t)) (dQ (iblk m c 0 t) (iblk m c 3 t) (iblk m c 6 t) (iblk m c 7 t) (iblk m c 11 t) (iblk m c 13 t) (iblk m c 14 t) (iblk m c 15 t)) (iblk m c 6 t) := by
  by_cases h : t.val % 11 = 0
  · rw [outsAt0_A m c t h]
    dsimp only
    rw [o16_A]
  · rw [outsAt0_B m c t h]
    dsimp only
    rw [o16_B]

theorem out17_eq (t : Fin cfg0.N) : (outsAt0 (F := Ideal) m c t.val t.isLt).2.1 = k0_pay162 (F := Ideal) (k0_pay4 (iblk m c 4 t)) (k0_pay158 (k0_pay3 (iblk m c 4 t)) (k0_pay4 (iblk m c 4 t))) (mulf (dKV (iblk m c 1 t) (iblk m c 2 t) (iblk m c 4 t) (iblk m c 5 t) (iblk m c 8 t) (iblk m c 9 t) (iblk m c 10 t) (iblk m c 12 t) (iblk m c 13 t) (iblk m c 14 t) (iblk m c 15 t)) (gain (iblk m c 8 t))) (sumL (mulf (mulf (dKV (iblk m c 1 t) (iblk m c 2 t) (iblk m c 4 t) (iblk m c 5 t) (iblk m c 8 t) (iblk m c 9 t) (iblk m c 10 t) (iblk m c 12 t) (iblk m c 13 t) (iblk m c 14 t) (iblk m c 15 t)) (gain (iblk m c 8 t))) (k0_pay158 (k0_pay3 (iblk m c 4 t)) (k0_pay4 (iblk m c 4 t))))) k0_pay161 := by
  by_cases h : t.val % 11 = 0
  · rw [outsAt0_A m c t h]
    dsimp only
    rw [o17_A]
  · rw [outsAt0_B m c t h]
    dsimp only
    rw [o17_B]

theorem out18_eq (t : Fin cfg0.N) : (outsAt0 (F := Ideal) m c t.val t.isLt).2.2.1 = truncf .bf16 (sum8 (k0_pay13 (F := Ideal)) (bkk (iblk m c 1 t) (iblk m c 4 t) (iblk m c 5 t) (iblk m c 8 t) (iblk m c 9 t) (iblk m c 12 t) (iblk m c 13 t) (iblk m c 14 t) (iblk m c 15 t))) bitsLt_bf16_f32 := by
  by_cases h : t.val % 11 = 0
  · rw [outsAt0_A m c t h]
    dsimp only
    rw [o18_A]
  · rw [outsAt0_B m c t h]
    dsimp only
    rw [o18_B]

theorem out19_eq (t : Fin cfg0.N) : (outsAt0 (F := Ideal) m c t.val t.isLt).2.2.2.1 = side (bq (iblk m c 0 t) (iblk m c 3 t) (iblk m c 6 t) (iblk m c 7 t) (iblk m c 11 t) (iblk m c 13 t) (iblk m c 14 t) (iblk m c 15 t)) := by
  by_cases h : t.val % 11 = 0
  · rw [outsAt0_A m c t h]
    dsimp only
    rw [o19_A]
  · rw [outsAt0_B m c t h]
    dsimp only
    rw [o19_B]

theorem out20_eq (t : Fin cfg0.N) : (outsAt0 (F := Ideal) m c t.val t.isLt).2.2.2.2.1 = side (bkk (iblk m c 1 t) (iblk m c 4 t) (iblk m c 5 t) (iblk m c 8 t) (iblk m c 9 t) (iblk m c 12 t) (iblk m c 13 t) (iblk m c 14 t) (iblk m c 15 t)) := by
  by_cases h : t.val % 11 = 0
  · rw [outsAt0_A m c t h]
    dsimp only
    rw [o20_A]
  · rw [outsAt0_B m c t h]
    dsimp only
    rw [o20_B]

/-- A row's heads, each in its 128 lanes. -/
def wides (f : Fin 8 → Fin 96 → EReal) (n : Fin 1024) : EReal := pad (f ⟨n.val / 128, by omega⟩) ⟨n.val % 128, by omega⟩

/-- Every block's row holds the row of its place, and the weights' blocks hold the weights. -/
structure Holds (R : Fin 4224 → Row) (W : Wts) : Prop where
  fits : ∀ (t : Fin cfg0.N) (i : Fin 384), Fits (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i (R (rowAt (pt t) i)) W

variable {R : Fin 4224 → Row} {W : Wts} (H : Holds m c R W)
include H

theorem arr16 : (dats m 0 c).arrAt 16 cfg0.N = fun j : S4224x256.Idx => ((R (j 0)).dcq W (j 1) : EReal) := by
  refine (dats m 0 c).arrAt_eq_of_covers 16 _ (by decide +kernel) fun t hf y => ?_
  blk_simp
  rw [after0_16, out16_eq]
  idx_vars y
  have e : ((View.whole main_v80_0).slice (win0_16.rect t)).emb (ix2 y0 y1) = ix2 (rowAt (pt t) y0) y1 := by blk_ext [e0_16, rowAt]
  rw [e]
  exact dcq_row (H.fits t y0) y1

theorem arr17 : (dats m 0 c).arrAt 17 cfg0.N = fun j : S4224x128.Idx => ((R (j 0)).dckv W (j 1) : EReal) := by
  refine (dats m 0 c).arrAt_eq_of_covers 17 _ (by decide +kernel) fun t hf y => ?_
  blk_simp
  rw [after0_17, out17_eq]
  idx_vars y
  have e : ((View.whole main_v80_1).slice (win0_17.rect t)).emb (ix2 y0 y1) = ix2 (rowAt (pt t) y0) y1 := by blk_ext [e0_17, rowAt]
  rw [e]
  exact dckv_row (H.fits t y0) y1

theorem arr18 : (dats m 0 c).arrAt 18 cfg0.N = fun j : S4224x128.Idx => (∑ h, pad ((R (j 0)).bk W h) (j 1) : EReal) := by
  refine (dats m 0 c).arrAt_eq_of_covers 18 _ (by decide +kernel) fun t hf y => ?_
  blk_simp
  rw [after0_18, out18_eq]
  idx_vars y
  have e : ((View.whole main_v80_2).slice (win0_18.rect t)).emb (ix2 y0 y1) = ix2 (rowAt (pt t) y0) y1 := by blk_ext [e0_18, rowAt]
  rw [e]
  exact dkr_row (H.fits t y0) y1

theorem arr19 : (dats m 0 c).arrAt 19 cfg0.N = fun j : S4224x1024.Idx => wides ((R (j 0)).bq W) (j 1) := by
  refine (dats m 0 c).arrAt_eq_of_covers 19 _ (by decide +kernel) fun t hf y => ?_
  blk_simp
  rw [after0_19, out19_eq]
  idx_vars y
  have e : ((View.whole main_v80_3).slice (win0_19.rect t)).emb (ix2 y0 y1) = ix2 (rowAt (pt t) y0) y1 := by blk_ext [e0_19, rowAt]
  rw [e]
  exact bq_row (H.fits t y0) _ _

theorem arr20 : (dats m 0 c).arrAt 20 cfg0.N = fun j : S4224x1024.Idx => wides ((R (j 0)).bk W) (j 1) := by
  refine (dats m 0 c).arrAt_eq_of_covers 20 _ (by decide +kernel) fun t hf y => ?_
  blk_simp
  rw [after0_20, out20_eq]
  idx_vars y
  have e : ((View.whole main_v80_4).slice (win0_20.rect t)).emb (ix2 y0 y1) = ix2 (rowAt (pt t) y0) y1 := by blk_ext [e0_20, rowAt]
  rw [e]
  exact bk_row (H.fits t y0) _ _

/-- What a point adds, and the accumulator's array. -/
theorem part21 (t : Fin cfg0.N) (s : Fin 8) (d : Fin 256) : ∑ x : Fin 48, (k0_pay155 (F := Ideal) (k0_pay1 (iblk m c 3 t)) (k0_pay2 (iblk m c 3 t)) (dQ (iblk m c 0 t) (iblk m c 3 t) (iblk m c 6 t) (iblk m c 7 t) (iblk m c 11 t) (iblk m c 13 t) (iblk m c 14 t) (iblk m c 15 t)) : S384x256.Idx → EReal) (ix2 ⟨x.val * 8 + s.val, by omega⟩ d)
    = part (fun r => (R r).gqa W d) (pt t) s := by
  exact Finset.sum_congr rfl (fun x _ => gqa_row (H.fits t _) d)

theorem sum21 : ∀ (n : ℕ) (h : n < cfg0.N) (s : Fin 8) (d : Fin 256), ((outsAt0 (F := Ideal) m c n h).2.2.2.2.2.1 : S8x256.Idx → EReal) (ix2 s d)
    = ∑ t : Fin (n + 1), part (fun r => (R r).gqa W d) ⟨t.val, by have := t.isLt; have : cfg0.N = 11 := rfl; omega⟩ s
  | 0, h, s, d => by
    rw [outsAt0_A m c ⟨0, h⟩ rfl]
    dsimp only
    rw [o21_A, pay167_apply, pay163_apply, zero_add, part21 m c H ⟨0, h⟩ s d, Fin.sum_univ_one]
    rfl
  | n + 1, h, s, d => by
    have hN : cfg0.N = 11 := rfl
    rw [outsAt0_B m c ⟨n + 1, h⟩ (by show ¬(n + 1) % 11 = 0; omega)]
    dsimp only
    rw [o21_B, pay167_apply, part21 m c H ⟨n + 1, h⟩ s d]
    refine Eq.trans ?_ (Fin.sum_univ_castSucc _).symm
    exact congrArg₂ (fun a b : EReal => a + b) (sum21 n (by omega) s d) rfl

theorem arr21 : (dats m 0 c).arrAt 21 cfg0.N = fun j : S8x256.Idx => acc (fun r => (R r).gqa W (j 1)) (j 0) := by
  refine (dats m 0 c).arrAt_eq_of_covers 21 _ (by decide +kernel) fun t hf y => ?_
  blk_simp
  rw [after0_21]
  idx_vars y
  have e : ((View.whole main_v80_5).slice (win0_21.rect t)).emb (ix2 y0 y1) = ix2 y0 y1 := by blk_ext [e0_21]
  rw [e]
  exact (sum21 m c H t.val t.isLt y0 y1).trans (acc_last (fun r => (R r).gqa W y1) t.val t.isLt (last_21 t hf) y0)

/-- What a point adds, and the accumulator's array. -/
theorem part22 (t : Fin cfg0.N) (s : Fin 8) (d : Fin 128) : ∑ x : Fin 48, ((dKV (iblk m c 1 t) (iblk m c 2 t) (iblk m c 4 t) (iblk m c 5 t) (iblk m c 8 t) (iblk m c 9 t) (iblk m c 10 t) (iblk m c 12 t) (iblk m c 13 t) (iblk m c 14 t) (iblk m c 15 t)) : S384x128.Idx → EReal) (ix2 ⟨x.val * 8 + s.val, by omega⟩ d) * (k0_pay158 (F := Ideal) (k0_pay3 (iblk m c 4 t)) (k0_pay4 (iblk m c 4 t)) : S384x128.Idx → EReal) (ix2 ⟨x.val * 8 + s.val, by omega⟩ d)
    = part (fun r => (R r).gka W d) (pt t) s := by
  exact Finset.sum_congr rfl (fun x _ => gka_row (H.fits t _) d)

theorem sum22 : ∀ (n : ℕ) (h : n < cfg0.N) (s : Fin 8) (d : Fin 128), ((outsAt0 (F := Ideal) m c n h).2.2.2.2.2.2.1 : S8x128.Idx → EReal) (ix2 s d)
    = ∑ t : Fin (n + 1), part (fun r => (R r).gka W d) ⟨t.val, by have := t.isLt; have : cfg0.N = 11 := rfl; omega⟩ s
  | 0, h, s, d => by
    rw [outsAt0_A m c ⟨0, h⟩ rfl]
    dsimp only
    rw [o22_A, pay168_apply, pay164_apply, zero_add, part22 m c H ⟨0, h⟩ s d, Fin.sum_univ_one]
    rfl
  | n + 1, h, s, d => by
    have hN : cfg0.N = 11 := rfl
    rw [outsAt0_B m c ⟨n + 1, h⟩ (by show ¬(n + 1) % 11 = 0; omega)]
    dsimp only
    rw [o22_B, pay168_apply, part22 m c H ⟨n + 1, h⟩ s d]
    refine Eq.trans ?_ (Fin.sum_univ_castSucc _).symm
    exact congrArg₂ (fun a b : EReal => a + b) (sum22 n (by omega) s d) rfl

theorem arr22 : (dats m 0 c).arrAt 22 cfg0.N = fun j : S8x128.Idx => acc (fun r => (R r).gka W (j 1)) (j 0) := by
  refine (dats m 0 c).arrAt_eq_of_covers 22 _ (by decide +kernel) fun t hf y => ?_
  blk_simp
  rw [after0_22]
  idx_vars y
  have e : ((View.whole main_v80_6).slice (win0_22.rect t)).emb (ix2 y0 y1) = ix2 y0 y1 := by blk_ext [e0_22]
  rw [e]
  exact (sum22 m c H t.val t.isLt y0 y1).trans (acc_last (fun r => (R r).gka W y1) t.val t.isLt (last_22 t hf) y0)

/-- What a point adds, and the accumulator's array. -/
theorem part23 (t : Fin cfg0.N) (s : Fin 8) (d : Fin 128) : (sum8 (k0_pay14 (F := Ideal)) (gq (iblk m c 0 t) (iblk m c 3 t) (iblk m c 6 t) (iblk m c 7 t) (iblk m c 13 t) (iblk m c 14 t) (iblk m c 15 t)) : S8x128.Idx → EReal) (ix2 s d)
    = part (fun r => ∑ h, pad ((R r).gq W h) d) (pt t) s := by
  rw [sum8_apply _ pay14_apply]
  unfold part
  rw [Finset.sum_comm]
  refine Finset.sum_congr rfl fun h _ => ?_
  unfold gq
  rw [red_apply]
  exact Finset.sum_congr rfl fun x _ => gq_row (H.fits t _) h d

theorem sum23 : ∀ (n : ℕ) (h : n < cfg0.N) (s : Fin 8) (d : Fin 128), ((outsAt0 (F := Ideal) m c n h).2.2.2.2.2.2.2.1 : S8x128.Idx → EReal) (ix2 s d)
    = ∑ t : Fin (n + 1), part (fun r => ∑ h, pad ((R r).gq W h) d) ⟨t.val, by have := t.isLt; have : cfg0.N = 11 := rfl; omega⟩ s
  | 0, h, s, d => by
    rw [outsAt0_A m c ⟨0, h⟩ rfl]
    dsimp only
    rw [o23_A, pay169_apply, pay165_apply, zero_add, part23 m c H ⟨0, h⟩ s d, Fin.sum_univ_one]
    rfl
  | n + 1, h, s, d => by
    have hN : cfg0.N = 11 := rfl
    rw [outsAt0_B m c ⟨n + 1, h⟩ (by show ¬(n + 1) % 11 = 0; omega)]
    dsimp only
    rw [o23_B, pay169_apply, part23 m c H ⟨n + 1, h⟩ s d]
    refine Eq.trans ?_ (Fin.sum_univ_castSucc _).symm
    exact congrArg₂ (fun a b : EReal => a + b) (sum23 n (by omega) s d) rfl

theorem arr23 : (dats m 0 c).arrAt 23 cfg0.N = fun j : S8x128.Idx => acc (fun r => ∑ h, pad ((R r).gq W h) (j 1)) (j 0) := by
  refine (dats m 0 c).arrAt_eq_of_covers 23 _ (by decide +kernel) fun t hf y => ?_
  blk_simp
  rw [after0_23]
  idx_vars y
  have e : ((View.whole main_v80_7).slice (win0_23.rect t)).emb (ix2 y0 y1) = ix2 y0 y1 := by blk_ext [e0_23]
  rw [e]
  exact (sum23 m c H t.val t.isLt y0 y1).trans (acc_last (fun r => ∑ h, pad ((R r).gq W h) y1) t.val t.isLt (last_23 t hf) y0)

/-- What a point adds, and the accumulator's array. -/
theorem part24 (t : Fin cfg0.N) (s : Fin 8) (d : Fin 128) : (sum8 (k0_pay15 (F := Ideal)) (gk (iblk m c 1 t) (iblk m c 4 t) (iblk m c 5 t) (iblk m c 8 t) (iblk m c 9 t) (iblk m c 13 t) (iblk m c 14 t) (iblk m c 15 t)) : S8x128.Idx → EReal) (ix2 s d)
    = part (fun r => ∑ h, pad ((R r).gk W h) d) (pt t) s := by
  rw [sum8_apply _ pay15_apply]
  unfold part
  rw [Finset.sum_comm]
  refine Finset.sum_congr rfl fun h _ => ?_
  unfold gk
  rw [red_apply]
  exact Finset.sum_congr rfl fun x _ => gk_row (H.fits t _) h d

theorem sum24 : ∀ (n : ℕ) (h : n < cfg0.N) (s : Fin 8) (d : Fin 128), ((outsAt0 (F := Ideal) m c n h).2.2.2.2.2.2.2.2 : S8x128.Idx → EReal) (ix2 s d)
    = ∑ t : Fin (n + 1), part (fun r => ∑ h, pad ((R r).gk W h) d) ⟨t.val, by have := t.isLt; have : cfg0.N = 11 := rfl; omega⟩ s
  | 0, h, s, d => by
    rw [outsAt0_A m c ⟨0, h⟩ rfl]
    dsimp only
    rw [o24_A, pay170_apply, pay166_apply, zero_add, part24 m c H ⟨0, h⟩ s d, Fin.sum_univ_one]
    rfl
  | n + 1, h, s, d => by
    have hN : cfg0.N = 11 := rfl
    rw [outsAt0_B m c ⟨n + 1, h⟩ (by show ¬(n + 1) % 11 = 0; omega)]
    dsimp only
    rw [o24_B, pay170_apply, part24 m c H ⟨n + 1, h⟩ s d]
    refine Eq.trans ?_ (Fin.sum_univ_castSucc _).symm
    exact congrArg₂ (fun a b : EReal => a + b) (sum24 n (by omega) s d) rfl

theorem arr24 : (dats m 0 c).arrAt 24 cfg0.N = fun j : S8x128.Idx => acc (fun r => ∑ h, pad ((R r).gk W h) (j 1)) (j 0) := by
  refine (dats m 0 c).arrAt_eq_of_covers 24 _ (by decide +kernel) fun t hf y => ?_
  blk_simp
  rw [after0_24]
  idx_vars y
  have e : ((View.whole main_v80_8).slice (win0_24.rect t)).emb (ix2 y0 y1) = ix2 y0 y1 := by blk_ext [e0_24]
  rw [e]
  exact (sum24 m c H t.val t.isLt y0 y1).trans (acc_last (fun r => ∑ h, pad ((R r).gk W h) y1) t.val t.isLt (last_24 t hf) y0)

end Points

end Cert.Proof.Mla
end
-- ==== Proof.Mla.lean ====
module

public import proofs.«01_k».proof.Defs
public import proofs.«01_k».proof.Proof.MlaHost
public import proofs.«01_k».proof.Proof.MlaRef
public import proofs.«01_k».proof.Proof.MlaArr
public import Idealize.ShloMosaic.Lib.WordCmp
public import Idealize.ShloMosaic.Lib.Quiescent

@[expose] public section

/-! # The gradient of the norms, the products and the rotation before the attention -/

set_option maxRecDepth 16384

noncomputable section

namespace Cert.Proof.Mla

open Idealize.ShloMosaic Idealize.ShloMosaic.TcCoe Idealize.SL.Sem Cert.Proof.Reals Cert.Proof.Sums

/-! ## Rows without a token -/

/-- A row that holds zeros. -/
structure Dead (R : Row) : Prop where
  cq : R.cq = fun _ => 0
  ckv : R.ckv = fun _ => 0
  kr : R.kr = fun _ => 0
  dq : R.dq = fun _ _ => 0
  dk : R.dk = fun _ _ => 0
  dv : R.dv = fun _ _ => 0

theorem dn_zero {ι : Type} [Fintype ι] (κ : ℝ) (d : ι) : dn κ (fun _ => 0) (fun _ => 0) d = 0 := by unfold dn; simp

namespace Dead

variable {R : Row} (D : Dead R) (W : Wts)
include D

theorem q (h : Fin 8) : R.q W h = fun _ => 0 := by funext j; unfold Row.q; simp [D.cq]
theorem k (h : Fin 8) : R.k W h = fun _ => 0 := by funext j; unfold Row.k Row.kn; simp [D.ckv, D.kr]
theorem tq (h : Fin 8) : R.tq h = fun _ => 0 := by funext j; unfold Row.tq Row.rot; simp [D.dq]
theorem tk (h : Fin 8) : R.tk h = fun _ => 0 := by funext j; unfold Row.tk Row.rot; simp [D.dk]
theorem bq (h : Fin 8) (j : Fin 96) : R.bq W h j = 0 := by unfold Row.bq; simp only [D.q, D.tq, zero_mul]; exact dn_zero _ j
theorem bk (h : Fin 8) (j : Fin 96) : R.bk W h j = 0 := by unfold Row.bk; simp only [D.k, D.tk, zero_mul]; exact dn_zero _ j
theorem gq (h : Fin 8) (j : Fin 96) : R.gq W h j = 0 := by unfold Row.gq; rw [D.tq, zero_mul]
theorem gk (h : Fin 8) (j : Fin 96) : R.gk W h j = 0 := by unfold Row.gk; rw [D.tk, zero_mul]
theorem fq (k : Fin 256) : R.fq W k = 0 := by unfold Row.fq; simp [D.bq]
theorem fkv (k : Fin 128) : R.fkv W k = 0 := by unfold Row.fkv; simp [D.bk, D.dv]
theorem dcq (k : Fin 256) : R.dcq W k = 0 := by unfold Row.dcq; simp only [D.cq, D.fq, zero_mul]; exact dn_zero _ k
theorem dckv (k : Fin 128) : R.dckv W k = 0 := by unfold Row.dckv; simp only [D.ckv, D.fkv, zero_mul]; exact dn_zero _ k
theorem gqa (k : Fin 256) : R.gqa W k = 0 := by unfold Row.gqa; rw [D.fq, zero_mul]
theorem gka (k : Fin 128) : R.gka W k = 0 := by unfold Row.gka; rw [D.fkv, zero_mul]
theorem dkr (j : Fin 32) : R.dkr W j = 0 := by unfold Row.dkr; simp [D.bk]

end Dead

section Kernel

open Cert.MlaKernelIdeal Cert.MlaKernelIdeal.Gen

/-! ## The padded rows -/

theorem slot_live (f : Fin 4112 → EReal) (t : Fin 4112) : slot f ⟨48 + t.val, by omega⟩ = f t := by
  unfold slot
  rw [dif_pos (by constructor <;> (dsimp only; omega))]
  exact congrArg f (Fin.ext (by show 48 + t.val - 48 = t.val; omega))

theorem slot_dead (f : Fin 4112 → EReal) (r : Fin 4224) (h : ¬(48 ≤ r.val ∧ r.val < 4160)) : slot f r = 0 := dif_neg h

theorem place (t : Fin 4112) : IntOp.subi (BitVec.ofNat 32 (48 + t.val)) 48#32 = BitVec.ofNat 32 t.val := by
  show BitVec.ofNat 32 (48 + t.val) - 48#32 = _
  apply BitVec.eq_of_toNat_eq
  have := t.isLt
  simp only [BitVec.toNat_sub, BitVec.toNat_ofNat]
  omega

open Cert.MlaReferenceIdeal.Read in
open Pointwise in
theorem angle_live (t : Fin 4112) (j : Fin 16) : (angle : S4224x16.Idx → EReal) (ix2 ⟨48 + t.val, by omega⟩ j) = (val_main_v14 (F := Ideal) : Cert.MlaReferenceIdeal.S4112x16.Idx → EReal) (ix2 t j) := by
  unfold angle val_main_v14 val_main_v13 val_main_v12 val_main_v11 val_main_v10 val_main_v9 val_main_v8 val_main_v7 val_main_v6 val_main_v5 val_main_v4 val_main_v3 val_main_v2 val_main_v1 val_main_cst_0 val_main_cst_1
  pointwise []
  rw [place]

theorem cos_live (t : Fin 4112) (j : Fin 16) : (cosT : S4224x16.Idx → EReal) (ix2 ⟨48 + t.val, by omega⟩ j) = (Cert.MlaReferenceIdeal.Read.val_main_v15 (F := Ideal) : Cert.MlaReferenceIdeal.S4112x16.Idx → EReal) (ix2 t j) :=
  congrArg (FloatOps.hostUnary (F := Ideal) (φ := .f32) .cos) (angle_live t j)

theorem sin_live (t : Fin 4112) (j : Fin 16) : (sinT : S4224x16.Idx → EReal) (ix2 ⟨48 + t.val, by omega⟩ j) = (Cert.MlaReferenceIdeal.Read.val_main_v17 (F := Ideal) : Cert.MlaReferenceIdeal.S4112x16.Idx → EReal) (ix2 t j) :=
  congrArg (FloatOps.hostUnary (F := Ideal) (φ := .f32) .sin) (angle_live t j)

section Points

variable (m : (ℓ : Loc nD τ sig) → Buf (Elt Ideal) ℓ) (c : Dev nD)

/-- The arguments as arrays of extended reals. -/
def a0 : S4112x256.Idx → EReal := m ((c : Thread nD τ).loc main_arg0)
def a1 : S4112x128.Idx → EReal := m ((c : Thread nD τ).loc main_arg1)
def a2 : S4112x32.Idx → EReal := m ((c : Thread nD τ).loc main_arg2)
def a3 : S256.Idx → EReal := m ((c : Thread nD τ).loc main_arg3)
def a4 : S256x768.Idx → EReal := m ((c : Thread nD τ).loc main_arg4)
def a5 : S128.Idx → EReal := m ((c : Thread nD τ).loc main_arg5)
def a6 : S128x1024.Idx → EReal := m ((c : Thread nD τ).loc main_arg6)
def a7 : S96.Idx → EReal := m ((c : Thread nD τ).loc main_arg7)
def a8 : S96.Idx → EReal := m ((c : Thread nD τ).loc main_arg8)
def a9 : S4112x8x96.Idx → EReal := m ((c : Thread nD τ).loc main_arg9)
def a10 : S4112x8x96.Idx → EReal := m ((c : Thread nD τ).loc main_arg10)
def a11 : S4112x8x64.Idx → EReal := m ((c : Thread nD τ).loc main_arg11)

/-- A token's row, a padded row, and the weights. -/
def tok (t : Fin 4112) : Row := Ref.row (a0 m c) (a1 m c) (a2 m c) (a9 m c) (a10 m c) (a11 m c) t
def prow (r : Fin 4224) : Row where
  cq k := slot (fun t => a0 m c (ix2 t k)) r
  ckv k := slot (fun t => a1 m c (ix2 t k)) r
  kr k := slot (fun t => a2 m c (ix2 t k)) r
  dq h j := slot (fun t => a9 m c (ix3 t h j)) r
  dk h j := slot (fun t => a10 m c (ix3 t h j)) r
  dv h j := slot (fun t => a11 m c (ix3 t h j)) r
  co j := (cosT : S4224x16.Idx → EReal) (ix2 r j)
  si j := (sinT : S4224x16.Idx → EReal) (ix2 r j)
def wt : Wts := Ref.wts (a3 m c) (a4 m c) (a5 m c) (a6 m c) (a7 m c) (a8 m c)

theorem holds : Holds m c (prow m c) (wt m c) where
  fits t i := {
    h0 := fun h d => by rw [blk0, v32_eq, heads96]; rfl
    h1 := fun h d => by rw [blk1, v39_eq, heads96]; rfl
    h2 := fun h d => by rw [blk2, v46_eq, heads64]; rfl
    h3 := fun k => by rw [blk3, v49_eq, rows256_at]; rfl
    h4 := fun k => by rw [blk4, v52_eq, rows128_at]; rfl
    h5 := fun d => by rw [blk5, v5_eq, mid32_at]; rfl
    h6 := fun k => by rw [blk6, v53_at]; rfl
    h7 := fun k h d => by rw [blk7, v9_eq, wq3_at]; rfl
    h8 := fun k => by rw [blk8, v54_at]; rfl
    h9 := fun k h d => by rw [blk9, v16_eq, wide3_at]; simp only [wk3_at]; rfl
    h10 := fun k h d => by rw [blk10, v21_eq, wide3_at]; simp only [wv3_at]; rfl
    h11 := fun d => by rw [blk11, v23_eq, gain96_at]; rfl
    h12 := fun d => by rw [blk12, v25_eq, gain96_at]; rfl
    h13 := fun d => by rw [blk13, v76_eq, cos_table]; rfl
    h14 := fun d => by rw [blk14, v78_eq, neg_table]; rfl
    h15 := fun d => by rw [blk15, v79_eq, sin_table]; rfl
  }

theorem live (t : Fin 4112) : prow m c ⟨48 + t.val, by omega⟩ = tok m c t := by
  unfold prow tok Ref.row
  simp only [slot_live, cos_live, sin_live]

theorem live_at (r : Fin 4224) (h : 48 ≤ r.val ∧ r.val - 48 < 4112) : prow m c r = tok m c ⟨r.val - 48, h.2⟩ := by
  have e := live m c ⟨r.val - 48, h.2⟩
  have e0 : (⟨48 + (r.val - 48), by omega⟩ : Fin 4224) = r := Fin.ext (by show 48 + (r.val - 48) = r.val; omega)
  rw [e0] at e
  exact e

theorem dead (r : Fin 4224) (h : ¬(48 ≤ r.val ∧ r.val - 48 < 4112)) : Dead (prow m c r) := by
  have h' : ¬(48 ≤ r.val ∧ r.val < 4160) := by omega
  unfold prow
  constructor <;> simp only [slot_dead _ _ h']

/-- An accumulator's rows add up to the sum over the tokens. -/
theorem total (g : Row → EReal) (hg : ∀ R, Dead R → g R = 0) : ∑ s, acc (fun r => g (prow m c r)) s = ∑ t, g (tok m c t) := by
  rw [acc_sum, sum_window 48 4112 (by omega) (fun r : Fin 4224 => g (prow m c r)) fun r h => hg _ (dead m c r (by omega))]
  exact Finset.sum_congr rfl fun t _ => congrArg g (live m c t)

/-! ## The results -/

def o16 : S4224x256.Idx → EReal := fun j => (prow m c (j 0)).dcq (wt m c) (j 1)
def o17 : S4224x128.Idx → EReal := fun j => (prow m c (j 0)).dckv (wt m c) (j 1)
def o18 : S4224x128.Idx → EReal := fun j => ∑ h, pad ((prow m c (j 0)).bk (wt m c) h) (j 1)
def o19 : S4224x1024.Idx → EReal := fun j => wides ((prow m c (j 0)).bq (wt m c)) (j 1)
def o20 : S4224x1024.Idx → EReal := fun j => wides ((prow m c (j 0)).bk (wt m c)) (j 1)
def o21 : S8x256.Idx → EReal := fun j => acc (fun r => (prow m c r).gqa (wt m c) (j 1)) (j 0)
def o22 : S8x128.Idx → EReal := fun j => acc (fun r => (prow m c r).gka (wt m c) (j 1)) (j 0)
def o23 : S8x128.Idx → EReal := fun j => acc (fun r => ∑ h, pad ((prow m c r).gq (wt m c) h) (j 1)) (j 0)
def o24 : S8x128.Idx → EReal := fun j => acc (fun r => ∑ h, pad ((prow m c r).gk (wt m c) h) (j 1)) (j 0)

theorem tail_v81 : Pipeline.afterTail₀ cfgs (dats m) 0 (V0 m) [hostOps1] c main_v81 = extractStridedSlice S4224x32 ![0, 64] (o18 m c) slices_S4224x128_S4224x32_0_64 := by
  unfold Pipeline.afterTail₀
  have e : _ = o18 m c := (Pipeline.withArrays_arr spec0 launch0.win.arr_inj c (V0 m c) (fun w => (dats m 0 c).arrAt w cfg0.N) 18).trans (arr18 m c (holds m c))
  rw [← e]
  show StableHlo.after hostOps1 _ _ = _
  after_reads_simp

theorem tail_v82 : Pipeline.afterTail₀ cfgs (dats m) 0 (V0 m) [hostOps1] c main_v82 = Host.reduceAdd (F := Ideal) (φ := .f32) (o21 m c) (constant (F := Ideal) S_ .f32 0x00000000#32) reducesTo_S8x256_S256_d0 h_S_ := by
  unfold Pipeline.afterTail₀
  have e : _ = o21 m c := (Pipeline.withArrays_arr spec0 launch0.win.arr_inj c (V0 m c) (fun w => (dats m 0 c).arrAt w cfg0.N) 21).trans (arr21 m c (holds m c))
  rw [← e]
  show StableHlo.after hostOps1 _ _ = _
  after_reads_simp

theorem tail_v83 : Pipeline.afterTail₀ cfgs (dats m) 0 (V0 m) [hostOps1] c main_v83 = Host.reduceAdd (F := Ideal) (φ := .f32) (o22 m c) (constant (F := Ideal) S_ .f32 0x00000000#32) reducesTo_S8x128_S128_d0 h_S_ := by
  unfold Pipeline.afterTail₀
  have e : _ = o22 m c := (Pipeline.withArrays_arr spec0 launch0.win.arr_inj c (V0 m c) (fun w => (dats m 0 c).arrAt w cfg0.N) 22).trans (arr22 m c (holds m c))
  rw [← e]
  show StableHlo.after hostOps1 _ _ = _
  after_reads_simp

theorem tail_v85 : Pipeline.afterTail₀ cfgs (dats m) 0 (V0 m) [hostOps1] c main_v85 = extractStridedSlice S96 ![0] (Host.reduceAdd (F := Ideal) (φ := .f32) (o23 m c) (constant (F := Ideal) S_ .f32 0x00000000#32) reducesTo_S8x128_S128_d0 h_S_) slices_S128_S96_0 := by
  unfold Pipeline.afterTail₀
  have e : _ = o23 m c := (Pipeline.withArrays_arr spec0 launch0.win.arr_inj c (V0 m c) (fun w => (dats m 0 c).arrAt w cfg0.N) 23).trans (arr23 m c (holds m c))
  rw [← e]
  show StableHlo.after hostOps1 _ _ = _
  after_reads_simp

theorem tail_v87 : Pipeline.afterTail₀ cfgs (dats m) 0 (V0 m) [hostOps1] c main_v87 = extractStridedSlice S96 ![0] (Host.reduceAdd (F := Ideal) (φ := .f32) (o24 m c) (constant (F := Ideal) S_ .f32 0x00000000#32) reducesTo_S8x128_S128_d0 h_S_) slices_S128_S96_0 := by
  unfold Pipeline.afterTail₀
  have e : _ = o24 m c := (Pipeline.withArrays_arr spec0 launch0.win.arr_inj c (V0 m c) (fun w => (dats m 0 c).arrAt w cfg0.N) 24).trans (arr24 m c (holds m c))
  rw [← e]
  show StableHlo.after hostOps1 _ _ = _
  after_reads_simp

end Points

/-- The kernel's run: its results, and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80_0) = o16 m c
      ∧ r.2.mem ((c.tc : Thread nD τ).loc main_v80_1) = o17 m c
      ∧ r.2.mem ((c.tc : Thread nD τ).loc main_v81) = Pipeline.afterTail₀ cfgs (dats m) 0 (V0 m) [hostOps1] c main_v81
      ∧ r.2.mem ((c.tc : Thread nD τ).loc main_v82) = Pipeline.afterTail₀ cfgs (dats m) 0 (V0 m) [hostOps1] c main_v82
      ∧ r.2.mem ((c.tc : Thread nD τ).loc main_v83) = Pipeline.afterTail₀ cfgs (dats m) 0 (V0 m) [hostOps1] c main_v83
      ∧ r.2.mem ((c.tc : Thread nD τ).loc main_v85) = Pipeline.afterTail₀ cfgs (dats m) 0 (V0 m) [hostOps1] c main_v85
      ∧ r.2.mem ((c.tc : Thread nD τ).loc main_v87) = Pipeline.afterTail₀ cfgs (dats m) 0 (V0 m) [hostOps1] c main_v87
      ∧ r.2.mem ((c.tc : Thread nD τ).loc main_v80_3) = o19 m c
      ∧ r.2.mem ((c.tc : Thread nD τ).loc main_v80_4) = o20 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 16).trans (arr16 m c (holds m c)),
    ((h c).1 17).trans (arr17 m c (holds m c)),
    (h c).2 main_v81 (Pipeline.mem_restRefs_of main_v81 (by decide) (by decide)),
    (h c).2 main_v82 (Pipeline.mem_restRefs_of main_v82 (by decide) (by decide)),
    (h c).2 main_v83 (Pipeline.mem_restRefs_of main_v83 (by decide) (by decide)),
    (h c).2 main_v85 (Pipeline.mem_restRefs_of main_v85 (by decide) (by decide)),
    (h c).2 main_v87 (Pipeline.mem_restRefs_of main_v87 (by decide) (by decide)),
    ((h c).1 19).trans (arr19 m c (holds m c)),
    ((h c).1 20).trans (arr20 m c (holds m c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c)⟩) (Gen.run_main m ρ)

end Kernel

theorem quiescent_reference : quiescent_MlaReferenceIdeal := fun m ρ _ =>
  (θ_run Cert.MlaReferenceIdeal.defs _ _).mono (fun r h => ⟨fun c => (h c).2.2.2.2.2.2.2.2.2, sem_eq_zero_of_no_sems (by decide) r.2⟩)
    (Cert.MlaReferenceIdeal.Value.run (F := Ideal) m ρ)

section Claim

open Cert.MlaKernelIdeal Cert.MlaKernelIdeal.Gen Cert.MlaReferenceIdeal.Read

variable (m : (ℓ : Loc nD τ sig) → Buf (Elt Ideal) ℓ) (c : Dev nD)

theorem dcq_agree : val_main_v265 (F := Ideal) (a0 m c) (a3 m c) (a4 m c) (a7 m c) (a9 m c) = o16 m c := by
  funext j
  idx_vars j
  unfold val_main_v265 val_main_v264 o16
  open Pointwise in pointwise []
  by_cases h : 48 ≤ j0.val ∧ j0.val - 48 < 4112
  · rw [dif_pos h, live_at m c j0 h]
    exact Ref.dcq_at (a0 m c) (a1 m c) (a2 m c) (a3 m c) (a4 m c) (a5 m c) (a6 m c) (a7 m c) (a8 m c) (a9 m c) (a10 m c) (a11 m c) ⟨j0.val - 48, h.2⟩ j1
  · rw [dif_neg h, (dead m c j0 h).dcq, val_main_call0_v0_apply]
    exact fill

theorem dckv_agree : val_main_v267 (F := Ideal) (a1 m c) (a2 m c) (a5 m c) (a6 m c) (a8 m c) (a10 m c) (a11 m c) = o17 m c := by
  funext j
  idx_vars j
  unfold val_main_v267 val_main_v266 o17
  open Pointwise in pointwise []
  by_cases h : 48 ≤ j0.val ∧ j0.val - 48 < 4112
  · rw [dif_pos h, live_at m c j0 h]
    exact Ref.dckv_at (a0 m c) (a1 m c) (a2 m c) (a3 m c) (a4 m c) (a5 m c) (a6 m c) (a7 m c) (a8 m c) (a9 m c) (a10 m c) (a11 m c) ⟨j0.val - 48, h.2⟩ j1
  · rw [dif_neg h, (dead m c j0 h).dckv, val_main_call1_v0_apply]
    exact fill

theorem dkr_agree : val_main_v269 (F := Ideal) (a1 m c) (a2 m c) (a5 m c) (a6 m c) (a8 m c) (a10 m c) = Pipeline.afterTail₀ cfgs (dats m) 0 (V0 m) [hostOps1] c main_v81 := by
  rw [tail_v81]
  funext j
  idx_vars j
  unfold val_main_v269 val_main_v268 o18
  open Pointwise in pointwise []
  have e : ∀ h, pad ((prow m c j0).bk (wt m c) h) ⟨64 + j1.val, by omega⟩ = (prow m c j0).bk (wt m c) h ⟨64 + j1.val, by omega⟩ := fun h => pad_of _ ⟨64 + j1.val, by omega⟩ _
  simp only [e]
  by_cases h : 48 ≤ j0.val ∧ j0.val - 48 < 4112
  · rw [dif_pos h, live_at m c j0 h]
    exact Ref.dkr_at (a0 m c) (a1 m c) (a2 m c) (a3 m c) (a4 m c) (a5 m c) (a6 m c) (a7 m c) (a8 m c) (a9 m c) (a10 m c) (a11 m c) ⟨j0.val - 48, h.2⟩ j1
  · rw [dif_neg h, val_main_call2_v0_apply]
    exact fill.trans ((dead m c j0 h).dkr (wt m c) j1).symm

theorem gqa_agree : val_main_v249 (F := Ideal) (a0 m c) (a3 m c) (a4 m c) (a7 m c) (a9 m c) = Pipeline.afterTail₀ cfgs (dats m) 0 (V0 m) [hostOps1] c main_v82 := by
  rw [tail_v82]
  funext j
  idx_vars j
  refine (Ref.gqa_at (a0 m c) (a1 m c) (a2 m c) (a3 m c) (a4 m c) (a5 m c) (a6 m c) (a7 m c) (a8 m c) (a9 m c) (a10 m c) (a11 m c) j0).trans ?_
  unfold o21
  open Pointwise in pointwise []
  exact (total m c (fun R => R.gqa (wt m c) j0) fun R D => D.gqa _ _).symm

theorem gka_agree : val_main_v227 (F := Ideal) (a1 m c) (a2 m c) (a5 m c) (a6 m c) (a8 m c) (a10 m c) (a11 m c) = Pipeline.afterTail₀ cfgs (dats m) 0 (V0 m) [hostOps1] c main_v83 := by
  rw [tail_v83]
  funext j
  idx_vars j
  refine (Ref.gka_at (a0 m c) (a1 m c) (a2 m c) (a3 m c) (a4 m c) (a5 m c) (a6 m c) (a7 m c) (a8 m c) (a9 m c) (a10 m c) (a11 m c) j0).trans ?_
  unfold o22
  open Pointwise in pointwise []
  exact (total m c (fun R => R.gka (wt m c) j0) fun R D => D.gka _ _).symm

theorem gq_agree : val_main_v197 (F := Ideal) (a0 m c) (a3 m c) (a4 m c) (a9 m c) = Pipeline.afterTail₀ cfgs (dats m) 0 (V0 m) [hostOps1] c main_v85 := by
  rw [tail_v85]
  funext j
  idx_vars j
  refine (Ref.gq_at (a0 m c) (a1 m c) (a2 m c) (a3 m c) (a4 m c) (a5 m c) (a6 m c) (a7 m c) (a8 m c) (a9 m c) (a10 m c) (a11 m c) j0).trans ?_
  unfold o23
  open Pointwise in pointwise []
  have e : ∀ R : Row, ∑ h, pad (R.gq (wt m c) h) ⟨j0.val, by omega⟩ = ∑ h, R.gq (wt m c) h j0 := fun R => Finset.sum_congr rfl fun h _ => pad_of _ j0 _
  simp only [e]
  exact (total m c (fun R => ∑ h, R.gq (wt m c) h j0) fun R D => Finset.sum_eq_zero fun h _ => D.gq _ _ _).symm

theorem gk_agree : val_main_v177 (F := Ideal) (a1 m c) (a2 m c) (a5 m c) (a6 m c) (a10 m c) = Pipeline.afterTail₀ cfgs (dats m) 0 (V0 m) [hostOps1] c main_v87 := by
  rw [tail_v87]
  funext j
  idx_vars j
  refine (Ref.gk_at (a0 m c) (a1 m c) (a2 m c) (a3 m c) (a4 m c) (a5 m c) (a6 m c) (a7 m c) (a8 m c) (a9 m c) (a10 m c) (a11 m c) j0).trans ?_
  unfold o24
  open Pointwise in pointwise []
  have e : ∀ R : Row, ∑ h, pad (R.gk (wt m c) h) ⟨j0.val, by omega⟩ = ∑ h, R.gk (wt m c) h j0 := fun R => Finset.sum_congr rfl fun h _ => pad_of _ j0 _
  simp only [e]
  exact (total m c (fun R => ∑ h, R.gk (wt m c) h j0) fun R D => Finset.sum_eq_zero fun h _ => D.gk _ _ _).symm

theorem bq_agree : val_main_v272 (F := Ideal) (a0 m c) (a3 m c) (a4 m c) (a7 m c) (a9 m c) = o19 m c := by
  funext j
  idx_vars j
  unfold val_main_v272 val_main_v271 val_main_v270 o19 wides pad
  open Pointwise in pointwise []
  by_cases h : 48 ≤ j0.val ∧ j0.val - 48 < 4112
  · by_cases l : j1.val % 128 < 96
    · rw [dif_pos (by omega), dif_pos l, live_at m c j0 h]
      exact Ref.bq_at (a0 m c) (a1 m c) (a2 m c) (a3 m c) (a4 m c) (a5 m c) (a6 m c) (a7 m c) (a8 m c) (a9 m c) (a10 m c) (a11 m c) ⟨j0.val - 48, h.2⟩ _ _
    · rw [dif_neg (by omega), dif_neg l, val_main_call3_v0_apply]
      exact fill
  · rw [dif_neg (by omega), val_main_call3_v0_apply]
    refine fill.trans ?_
    split
    · exact ((dead m c j0 h).bq _ _ _).symm
    · rfl

theorem bk_agree : val_main_v275 (F := Ideal) (a1 m c) (a2 m c) (a5 m c) (a6 m c) (a8 m c) (a10 m c) = o20 m c := by
  funext j
  idx_vars j
  unfold val_main_v275 val_main_v274 val_main_v273 o20 wides pad
  open Pointwise in pointwise []
  by_cases h : 48 ≤ j0.val ∧ j0.val - 48 < 4112
  · by_cases l : j1.val % 128 < 96
    · rw [dif_pos (by omega), dif_pos l, live_at m c j0 h]
      exact Ref.bk_at (a0 m c) (a1 m c) (a2 m c) (a3 m c) (a4 m c) (a5 m c) (a6 m c) (a7 m c) (a8 m c) (a9 m c) (a10 m c) (a11 m c) ⟨j0.val - 48, h.2⟩ _ _
    · rw [dif_neg (by omega), dif_neg l, val_main_call4_v0_apply]
      exact fill
  · rw [dif_neg (by omega), val_main_call4_v0_apply]
    refine fill.trans ?_
    split
    · exact ((dead m c j0 h).bk _ _ _).symm
    · rfl

/-- The kernel's gradients are the reference's, over the extended reals. -/
theorem algebraic : algebraic_MlaKernelIdeal_MlaReferenceIdeal := by
  intro m ρ m' ρ' _ hagree
  refine ⟨_, _, _, _, _, _, _, _, _, kernel_run m ρ, ?_⟩
  refine (θ_run Cert.MlaReferenceIdeal.defs _ _).mono (fun r h c => ?_) (Cert.MlaReferenceIdeal.Value.run (F := Ideal) m' ρ')
  obtain ⟨e0, e1, e2, e3, e4, e5, e6, e7, e8, e9, e10, e11⟩ : (StableHlo.launchContents m' c (Proc.devRef .tc Cert.MlaReferenceIdeal.main_arg0) = a0 m c) ∧ (StableHlo.launchContents m' c (Proc.devRef .tc Cert.MlaReferenceIdeal.main_arg1) = a1 m c) ∧ (StableHlo.launchContents m' c (Proc.devRef .tc Cert.MlaReferenceIdeal.main_arg2) = a2 m c) ∧ (StableHlo.launchContents m' c (Proc.devRef .tc Cert.MlaReferenceIdeal.main_arg3) = a3 m c) ∧ (StableHlo.launchContents m' c (Proc.devRef .tc Cert.MlaReferenceIdeal.main_arg4) = a4 m c) ∧ (StableHlo.launchContents m' c (Proc.devRef .tc Cert.MlaReferenceIdeal.main_arg5) = a5 m c) ∧ (StableHlo.launchContents m' c (Proc.devRef .tc Cert.MlaReferenceIdeal.main_arg6) = a6 m c) ∧ (StableHlo.launchContents m' c (Proc.devRef .tc Cert.MlaReferenceIdeal.main_arg7) = a7 m c) ∧ (StableHlo.launchContents m' c (Proc.devRef .tc Cert.MlaReferenceIdeal.main_arg8) = a8 m c) ∧ (StableHlo.launchContents m' c (Proc.devRef .tc Cert.MlaReferenceIdeal.main_arg9) = a9 m c) ∧ (StableHlo.launchContents m' c (Proc.devRef .tc Cert.MlaReferenceIdeal.main_arg10) = a10 m c) ∧ (StableHlo.launchContents m' c (Proc.devRef .tc Cert.MlaReferenceIdeal.main_arg11) = a11 m c) := hagree c
  obtain ⟨h1, h2, h3, h4, h5, h6, h7, h8, h9, hr⟩ := h c
  refine ⟨h1.trans ?_, h2.trans ?_, h3.trans ?_, h4.trans ?_, h5.trans ?_, h6.trans ?_, h7.trans ?_, h8.trans ?_, h9.trans ?_, hr⟩
  · rw [val_main_v265_eq, e0, e3, e4, e7, e9]
    exact dcq_agree m c
  · rw [val_main_v267_eq, e1, e2, e5, e6, e8, e10, e11]
    exact dckv_agree m c
  · rw [val_main_v269_eq, e1, e2, e5, e6, e8, e10]
    exact dkr_agree m c
  · rw [val_main_v249_eq, e0, e3, e4, e7, e9]
    exact gqa_agree m c
  · rw [val_main_v227_eq, e1, e2, e5, e6, e8, e10, e11]
    exact gka_agree m c
  · rw [val_main_v197_eq, e0, e3, e4, e9]
    exact gq_agree m c
  · rw [val_main_v177_eq, e1, e2, e5, e6, e10]
    exact gk_agree m c
  · rw [val_main_v272_eq, e0, e3, e4, e7, e9]
    exact bq_agree m c
  · rw [val_main_v275_eq, e1, e2, e5, e6, e8, e10]
    exact bk_agree m c

end Claim

end Cert.Proof.Mla
end
-- ==== Proof.AttnLoops.lean ====
module

public import proofs.«01_k».proof.Proof.Gen.AttnKernelIdeal.Loops

@[expose] public section

/-! # The two outer loops of the attention's kernels

The loop over the blocks of queries of the forward kernel, and the loop over the blocks of keys of
the backward kernel.  Each trip runs inner loops, so what it leaves is named by the pieces it stores. -/

set_option maxRecDepth 8192
set_option maxHeartbeats 4000000

noncomputable section

namespace Cert.Proof.AttnLoops

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources' algebra. -/
abbrev Res (F : FTy → Type) [FloatOps F] [Named F] := MT nD τ sig Unit (Elt F) ℕ (UR sig nD τ) ℕ

/-- A block of rows of one head. -/
abbrev Pcs (F : FTy → Type) := List (View.Piece (Elt F) S4224x128 .f32)

/-- A whole buffer of the core `c` at the contents `f`. -/
abbrev holds {s : Shape} {e : EltTy} (c : Dev nD) (M : Memref sig .tc .vmem s e)
    (f : BufTy.Contents (Elt F) M.view.ty) : sProp (Res F) :=
  M.view.loc (c : Thread nD τ) ↦[M.view.set]{fullShare} f

section Forward

variable (c : Dev nD) (i : grid0.Coords)
  (arg1 : Memref sig .tc .vmem S4224x128 .bf16) (harg1 : arg1.IsWhole)
  (arg2 : Memref sig .tc .vmem S4224x128 .bf16) (harg2 : arg2.IsWhole)
  (arg3 : Memref sig .tc .vmem S4224x128 .bf16) (harg3 : arg3.IsWhole)
  (arg4 : Memref sig .tc .vmem S4224x128 .f32) (harg4 : arg4.IsWhole)
  (arg5 : Memref sig .tc .vmem S1x4224x1 .f32) (harg5 : arg5.IsWhole)
  (X1 : BufTy.Contents (Elt F) arg1.view.ty) (X2 : BufTy.Contents (Elt F) arg2.view.ty)
  (X3 : BufTy.Contents (Elt F) arg3.view.ty)

/-- A value at the kernel's operands. -/
local notation "refs[" f "]" => f arg1 harg1 arg2 harg2 arg3 harg3 arg4 harg4 arg5 harg5

/-- What a trip of the loop over the blocks of queries holds. -/
abbrev Trip0 (f4 : BufTy.Contents (Elt F) arg4.view.ty) (f5 : BufTy.Contents (Elt F) arg5.view.ty) : sProp (Res F) :=
  iprop(holds c arg1 X1 ∗ holds c arg2 X2 ∗ holds c arg3 X3 ∗ holds c arg4 f4 ∗ holds c arg5 f5)

/-- The pieces a trip leaves in the two results. -/
abbrev Found0 (k : Fin k0_t1_loop.trips) :=
  Σ' (L4 : Pcs F), { L5 : List (View.Piece (Elt F) S1x4224x1 .f32) // ∀ (E : Set ℕ) f4 f5,
    Trip0 c arg1 arg2 arg3 arg4 arg5 X1 X2 X3 f4 f5
    ⊢ wp frame (wpE (defs₀ (F := F)) Variants.none (c : Thread nD τ) none) E
        (refs[k0_t1_body (F := F) i] k PUnit.unit)
        (fun _ => Trip0 c arg1 arg2 arg3 arg4 arg5 X1 X2 X3 (arg4.view.writes (Elt F) f4 L4)
          (arg5.view.writes (Elt F) f5 L5)) }

/-- A trip past the first block. -/
@[irreducible] def tripPast (k : Fin k0_t1_loop.trips) (h : k0_cond1 k = 1#1) :
    refs[Found0 (F := F) c i] X1 X2 X3 k := by
  refine ⟨?_, ?_, fun E f4 f5 => ?run⟩
  case run =>
    unfold k0_t1_body
    iintro ⟨H1, H2, H3, H4, H5⟩
    sl_exec (disch := exact h)
    sl_step
    sl_close

/-- The trip of the first block. -/
@[irreducible] def tripFirst (k : Fin k0_t1_loop.trips) (h : ¬k0_cond1 k = 1#1) :
    refs[Found0 (F := F) c i] X1 X2 X3 k := by
  refine ⟨?_, ?_, fun E f4 f5 => ?run⟩
  case run =>
    unfold k0_t1_body
    iintro ⟨H1, H2, H3, H4, H5⟩
    sl_exec (disch := exact h)
    sl_step
    sl_close

/-- A trip, whichever block it is. -/
def trip0 (k : Fin k0_t1_loop.trips) :
    refs[Found0 (F := F) c i] X1 X2 X3 k :=
  if h : k0_cond1 k = 1#1 then refs[tripPast c i] X1 X2 X3 k h else refs[tripFirst c i] X1 X2 X3 k h

/-- The pieces of the trips before `k`, the last first. -/
def before0 : ℕ → Pcs F × List (View.Piece (Elt F) S1x4224x1 .f32)
  | 0 => ([], [])
  | k + 1 =>
    if h : k < k0_t1_loop.trips then
      ((refs[trip0 c i] X1 X2 X3 ⟨k, h⟩).1 ++ (before0 k).1, (refs[trip0 c i] X1 X2 X3 ⟨k, h⟩).2.1 ++ (before0 k).2)
    else before0 k

theorem before0_succ (k : Fin k0_t1_loop.trips) :
    refs[before0 c i] X1 X2 X3 (k.val + 1)
      = ((refs[trip0 c i] X1 X2 X3 k).1 ++ (refs[before0 c i] X1 X2 X3 k.val).1,
        (refs[trip0 c i] X1 X2 X3 k).2.1 ++ (refs[before0 c i] X1 X2 X3 k.val).2) := by
  rw [before0.eq_2]; exact dif_pos k.isLt

/-- Before trip `k` the two results hold the pieces of the trips before it. -/
abbrev inv0 (G4 : BufTy.Contents (Elt F) arg4.view.ty) (G5 : BufTy.Contents (Elt F) arg5.view.ty)
    (k : ℕ) (_u : PUnit) : sProp (Res F) :=
  iprop(holds c arg1 X1 ∗ holds c arg2 X2 ∗ holds c arg3 X3
    ∗ (∃ f, holds c arg4 f ∗ ⌜f = arg4.view.writes (Elt F) G4 (refs[before0 c i] X1 X2 X3 k).1⌝)
    ∗ (∃ f, holds c arg5 f ∗ ⌜f = arg5.view.writes (Elt F) G5 (refs[before0 c i] X1 X2 X3 k).2⌝))

set_option warn.classDefReducibility false in
/-- The loop over the blocks of queries, by its invariant. -/
@[sl_loop] def loopInv_k0_t1 (E : Set ℕ)
    (G4 : BufTy.Contents (Elt F) arg4.view.ty) (G5 : BufTy.Contents (Elt F) arg5.view.ty) :
    refs[LoopInvTy_k0_t1 (F := F) Unit ℕ (UR sig nD τ) ℕ Variants.none c none E i] where
  inv := refs[inv0 c i] X1 X2 X3 G4 G5
  step k acc := by
    iintro ⟨H1, H2, H3, ⟨%f4, H4, %h4⟩, ⟨%f5, H5, %h5⟩⟩
    iapply (wp_wand_r Idealize.ShloMosaic.frame (wpE (defs₀ (F := F)) Variants.none (c : Thread nD τ) none) E)
    isplitl [H1 H2 H3 H4 H5]
    · iapply ((refs[trip0 c i] X1 X2 X3 k).2.2 E f4 f5)
      isplitl [H1]; · iexact H1
      isplitl [H2]; · iexact H2
      isplitl [H3]; · iexact H3
      isplitl [H4]; · iexact H4
      iexact H5
    · iintro %_ ⟨H1, H2, H3, H4, H5⟩
      isplitl [H1]; · iexact H1
      isplitl [H2]; · iexact H2
      isplitl [H3]; · iexact H3
      rw [before0_succ]
      isplitl [H4]
      · iexists _; isplitl [H4]; · iexact H4
        ipureintro; rw [h4, ← View.writes_append]
      iexists _; isplitl [H5]; · iexact H5
      ipureintro; rw [h5, ← View.writes_append]

end Forward

section Backward

variable (c : Dev nD) (i : grid1.Coords)
  (arg1 : Memref sig .tc .vmem S4224x128 .bf16) (harg1 : arg1.IsWhole)
  (arg2 : Memref sig .tc .vmem S4224x128 .bf16) (harg2 : arg2.IsWhole)
  (arg3 : Memref sig .tc .vmem S4224x128 .bf16) (harg3 : arg3.IsWhole)
  (arg4 : Memref sig .tc .vmem S4224x128 .f32) (harg4 : arg4.IsWhole)
  (arg5 : Memref sig .tc .vmem S1x4224x1 .f32) (harg5 : arg5.IsWhole)
  (arg6 : Memref sig .tc .vmem S4224x128 .f32) (harg6 : arg6.IsWhole)
  (arg7 : Memref sig .tc .vmem S4224x128 .f32) (harg7 : arg7.IsWhole)
  (arg8 : Memref sig .tc .vmem S4224x128 .f32) (harg8 : arg8.IsWhole)
  (arg9 : Memref sig .tc .vmem S4224x128 .f32) (harg9 : arg9.IsWhole)
  (arg10 : Memref sig .tc .vmem S4224x1 .f32) (harg10 : arg10.IsWhole)
  (X1 : BufTy.Contents (Elt F) arg1.view.ty) (X2 : BufTy.Contents (Elt F) arg2.view.ty)
  (X3 : BufTy.Contents (Elt F) arg3.view.ty) (X5 : BufTy.Contents (Elt F) arg5.view.ty)
  (X6 : BufTy.Contents (Elt F) arg6.view.ty) (X10 : BufTy.Contents (Elt F) arg10.view.ty)

/-- A value at the kernel's operands. -/
local notation "refs[" f "]" => f arg1 harg1 arg2 harg2 arg3 harg3 arg4 harg4 arg5 harg5 arg6 harg6 arg7 harg7 arg8 harg8 arg9 harg9 arg10 harg10

/-- What a trip of the loop over the blocks of keys holds. -/
abbrev Trip1 (f7 : BufTy.Contents (Elt F) arg7.view.ty) (f8 : BufTy.Contents (Elt F) arg8.view.ty)
    (f9 : BufTy.Contents (Elt F) arg9.view.ty) : sProp (Res F) :=
  iprop(holds c arg1 X1 ∗ holds c arg2 X2 ∗ holds c arg3 X3 ∗ holds c arg5 X5 ∗ holds c arg6 X6
    ∗ holds c arg10 X10 ∗ holds c arg7 f7 ∗ holds c arg8 f8 ∗ holds c arg9 f9)

/-- The pieces a trip leaves in the three gradients, from what it finds in the gradient of the queries. -/
abbrev Found1 (k : Fin k1_t2_loop.trips) :=
  Σ' (L7 : BufTy.Contents (Elt F) arg7.view.ty → Pcs F) (L8 : BufTy.Contents (Elt F) arg7.view.ty → Pcs F),
    { L9 : BufTy.Contents (Elt F) arg7.view.ty → Pcs F // ∀ (E : Set ℕ) f7 f8 f9,
      Trip1 c arg1 arg2 arg3 arg5 arg6 arg7 arg8 arg9 arg10 X1 X2 X3 X5 X6 X10 f7 f8 f9
      ⊢ wp frame (wpE (defs₀ (F := F)) Variants.none (c : Thread nD τ) none) E
          (refs[k1_t2_body (F := F) i] k PUnit.unit)
          (fun _ => Trip1 c arg1 arg2 arg3 arg5 arg6 arg7 arg8 arg9 arg10 X1 X2 X3 X5 X6 X10
            (arg7.view.writes (Elt F) f7 (L7 f7)) (arg8.view.writes (Elt F) f8 (L8 f7))
            (arg9.view.writes (Elt F) f9 (L9 f7))) }

/-- The trip of the first block of keys, whose later blocks of queries are masked too. -/
@[irreducible] def tripFront (k : Fin k1_t2_loop.trips) (h : k1_cond1 k = 1#1) :
    refs[Found1 (F := F) c i] X1 X2 X3 X5 X6 X10 k := by
  refine ⟨?_, ?_, ?_, fun E f7 f8 f9 => ?run⟩
  case run =>
    unfold k1_t2_body
    iintro ⟨H1, H2, H3, H5, H6, H10, H7, H8, H9⟩
    sl_exec (disch := exact h)
    sl_step
    sl_close

/-- A trip past the first block of keys. -/
@[irreducible] def tripRest (k : Fin k1_t2_loop.trips) (h : ¬k1_cond1 k = 1#1) :
    refs[Found1 (F := F) c i] X1 X2 X3 X5 X6 X10 k := by
  refine ⟨?_, ?_, ?_, fun E f7 f8 f9 => ?run⟩
  case run =>
    unfold k1_t2_body
    iintro ⟨H1, H2, H3, H5, H6, H10, H7, H8, H9⟩
    sl_exec (disch := exact h)
    sl_step
    sl_close

/-- A trip, whichever block it is. -/
def trip1 (k : Fin k1_t2_loop.trips) : refs[Found1 (F := F) c i] X1 X2 X3 X5 X6 X10 k :=
  if h : k1_cond1 k = 1#1 then refs[tripFront c i] X1 X2 X3 X5 X6 X10 k h else refs[tripRest c i] X1 X2 X3 X5 X6 X10 k h

/-- The pieces of the trips before `k`, the last first, from the contents `G7` of the gradient of the queries. -/
def before1 (G7 : BufTy.Contents (Elt F) arg7.view.ty) : ℕ → Pcs F × Pcs F × Pcs F
  | 0 => ([], [], [])
  | k + 1 =>
    if h : k < k1_t2_loop.trips then
      ((refs[trip1 c i] X1 X2 X3 X5 X6 X10 ⟨k, h⟩).1 (arg7.view.writes (Elt F) G7 (before1 G7 k).1) ++ (before1 G7 k).1,
        (refs[trip1 c i] X1 X2 X3 X5 X6 X10 ⟨k, h⟩).2.1 (arg7.view.writes (Elt F) G7 (before1 G7 k).1) ++ (before1 G7 k).2.1,
        (refs[trip1 c i] X1 X2 X3 X5 X6 X10 ⟨k, h⟩).2.2.1 (arg7.view.writes (Elt F) G7 (before1 G7 k).1) ++ (before1 G7 k).2.2)
    else before1 G7 k

theorem before1_succ (G7 : BufTy.Contents (Elt F) arg7.view.ty) (k : Fin k1_t2_loop.trips) :
    refs[before1 c i] X1 X2 X3 X5 X6 X10 G7 (k.val + 1)
      = ((refs[trip1 c i] X1 X2 X3 X5 X6 X10 k).1 (arg7.view.writes (Elt F) G7 (refs[before1 c i] X1 X2 X3 X5 X6 X10 G7 k.val).1)
          ++ (refs[before1 c i] X1 X2 X3 X5 X6 X10 G7 k.val).1,
        (refs[trip1 c i] X1 X2 X3 X5 X6 X10 k).2.1 (arg7.view.writes (Elt F) G7 (refs[before1 c i] X1 X2 X3 X5 X6 X10 G7 k.val).1)
          ++ (refs[before1 c i] X1 X2 X3 X5 X6 X10 G7 k.val).2.1,
        (refs[trip1 c i] X1 X2 X3 X5 X6 X10 k).2.2.1 (arg7.view.writes (Elt F) G7 (refs[before1 c i] X1 X2 X3 X5 X6 X10 G7 k.val).1)
          ++ (refs[before1 c i] X1 X2 X3 X5 X6 X10 G7 k.val).2.2) := by
  rw [before1.eq_2]; exact dif_pos k.isLt

/-- Before trip `k` the three gradients hold the pieces of the trips before it. -/
abbrev inv1 (G7 : BufTy.Contents (Elt F) arg7.view.ty) (G8 : BufTy.Contents (Elt F) arg8.view.ty)
    (G9 : BufTy.Contents (Elt F) arg9.view.ty) (k : ℕ) (_u : PUnit) : sProp (Res F) :=
  iprop(holds c arg1 X1 ∗ holds c arg2 X2 ∗ holds c arg3 X3 ∗ holds c arg5 X5 ∗ holds c arg6 X6 ∗ holds c arg10 X10
    ∗ (∃ f, holds c arg7 f ∗ ⌜f = arg7.view.writes (Elt F) G7 (refs[before1 c i] X1 X2 X3 X5 X6 X10 G7 k).1⌝)
    ∗ (∃ f, holds c arg8 f ∗ ⌜f = arg8.view.writes (Elt F) G8 (refs[before1 c i] X1 X2 X3 X5 X6 X10 G7 k).2.1⌝)
    ∗ (∃ f, holds c arg9 f ∗ ⌜f = arg9.view.writes (Elt F) G9 (refs[before1 c i] X1 X2 X3 X5 X6 X10 G7 k).2.2⌝))

set_option warn.classDefReducibility false in
/-- The loop over the blocks of keys, by its invariant. -/
@[sl_loop] def loopInv_k1_t2 (E : Set ℕ) (G7 : BufTy.Contents (Elt F) arg7.view.ty)
    (G8 : BufTy.Contents (Elt F) arg8.view.ty) (G9 : BufTy.Contents (Elt F) arg9.view.ty) :
    refs[LoopInvTy_k1_t2 (F := F) Unit ℕ (UR sig nD τ) ℕ Variants.none c none E i] where
  inv := refs[inv1 c i] X1 X2 X3 X5 X6 X10 G7 G8 G9
  step k acc := by
    iintro ⟨H1, H2, H3, H5, H6, H10, ⟨%f7, H7, %h7⟩, ⟨%f8, H8, %h8⟩, ⟨%f9, H9, %h9⟩⟩
    iapply (wp_wand_r Idealize.ShloMosaic.frame (wpE (defs₀ (F := F)) Variants.none (c : Thread nD τ) none) E)
    isplitl [H1 H2 H3 H5 H6 H10 H7 H8 H9]
    · iapply ((refs[trip1 c i] X1 X2 X3 X5 X6 X10 k).2.2.2 E f7 f8 f9)
      isplitl [H1]; · iexact H1
      isplitl [H2]; · iexact H2
      isplitl [H3]; · iexact H3
      isplitl [H5]; · iexact H5
      isplitl [H6]; · iexact H6
      isplitl [H10]; · iexact H10
      isplitl [H7]; · iexact H7
      isplitl [H8]; · iexact H8
      iexact H9
    · iintro %_ ⟨H1, H2, H3, H5, H6, H10, H7, H8, H9⟩
      isplitl [H1]; · iexact H1
      isplitl [H2]; · iexact H2
      isplitl [H3]; · iexact H3
      isplitl [H5]; · iexact H5
      isplitl [H6]; · iexact H6
      isplitl [H10]; · iexact H10
      rw [before1_succ]
      isplitl [H7]
      · iexists _; isplitl [H7]; · iexact H7
        ipureintro; rw [h7, ← View.writes_append]
      isplitl [H8]
      · iexists _; isplitl [H8]; · iexact H8
        ipureintro; rw [h8, h7, ← View.writes_append]
      iexists _; isplitl [H9]; · iexact H9
      ipureintro; rw [h9, h7, ← View.writes_append]

end Backward

end Cert.Proof.AttnLoops
-- ==== Proof.AttnBody.lean ====
module

public import proofs.«01_k».proof.Proof.AttnLoops
public import Idealize.ShloMosaic.Lib.Pipeline.FrameBody
public import Idealize.ShloMosaic.Lib.Ring

@[expose] public section

/-! # The bodies of the attention's two kernels

What each kernel leaves in its results, as functions of the blocks it reads, and the proof that it does. -/

set_option maxRecDepth 16384
set_option maxHeartbeats 4000000

noncomputable section

namespace Cert.Proof.AttnBody

open Cert.AttnKernelIdeal Cert.AttnKernelIdeal.Gen Cert.Proof.AttnLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Forward

variable (c : Dev nD) (i : grid0.Coords)
  (arg1 : Memref sig .tc .vmem S4224x128 .bf16) (harg1 : arg1.IsWhole)
  (arg2 : Memref sig .tc .vmem S4224x128 .bf16) (harg2 : arg2.IsWhole)
  (arg3 : Memref sig .tc .vmem S4224x128 .bf16) (harg3 : arg3.IsWhole)
  (arg4 : Memref sig .tc .vmem S4224x128 .f32) (harg4 : arg4.IsWhole)
  (arg5 : Memref sig .tc .vmem S1x4224x1 .f32) (harg5 : arg5.IsWhole)
  (x1 x2 x3 : Vec F S4224x128 .bf16)

/-- A value at the kernel's operands. -/
local notation "refs[" f "]" => f arg1 harg1 arg2 harg2 arg3 harg3 arg4 harg4 arg5 harg5

/-- The pieces the forward kernel stores in its two results. -/
abbrev pieces0 : Pcs F × List (View.Piece (Elt F) S1x4224x1 .f32) :=
  refs[before0 c i] (harg1.unread x1) (harg2.unread x2) (harg3.unread x3) k0_t1_loop.trips

/-- The output of the attention of one head. -/
def out : Vec F S4224x128 .f32 := View.canon (refs[pieces0 c i] x1 x2 x3).1
/-- The logarithm of the sum of each row's exponentials. -/
def lse : Vec F S1x4224x1 .f32 := View.canon (refs[pieces0 c i] x1 x2 x3).2

theorem cover_out (y : S4224x128.Idx) : ∃ pc ∈ (refs[pieces0 c i] x1 x2 x3).1, y ∈ pc.1.set :=
  View.cover_of_tiledL (refs[pieces0 c i] x1 x2 x3).1 S704x128.size (by sl_kernel_rfl) y
theorem cover_lse (y : S1x4224x1.Idx) : ∃ pc ∈ (refs[pieces0 c i] x1 x2 x3).2, y ∈ pc.1.set :=
  View.cover_of_tiledL (refs[pieces0 c i] x1 x2 x3).2 S1x704x1.size (by sl_kernel_rfl) y

/-- The forward kernel, from its three operands to its two results. -/
theorem sound0 (E : Set ℕ) (K : PUnit → sProp (Res F)) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg1 fullShare x1 ∗ owns (c : Thread nD τ) arg2 fullShare x2 ∗ owns (c : Thread nD τ) arg3 fullShare x3
          ∗ owns (c : Thread nD τ) arg4 fullShare (refs[out c i] x1 x2 x3) ∗ owns (c : Thread nD τ) arg5 fullShare (refs[lse c i] x1 x2 x3)) -∗ K ⟨⟩))
      ⊢ wp frame (wpE (defs₀ (F := F)) Variants.none c none) E (refs[cc0_attn_fwd i]) K := by
  simp only [cc0_attn_fwd_eq_skeleton]; unfold cc0_attn_fwd_skel owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro; exact View.read_writes_eq_canon _ _ _ (refs[cover_out c i] x1 x2 x3)
  iexists _; isplitr
  swap; · iexact H5
  ipureintro; exact View.read_writes_eq_canon _ _ _ (refs[cover_lse c i] x1 x2 x3)

end Forward

section Backward

variable (c : Dev nD) (i : grid1.Coords)
  (arg1 : Memref sig .tc .vmem S4224x128 .bf16) (harg1 : arg1.IsWhole)
  (arg2 : Memref sig .tc .vmem S4224x128 .bf16) (harg2 : arg2.IsWhole)
  (arg3 : Memref sig .tc .vmem S4224x128 .bf16) (harg3 : arg3.IsWhole)
  (arg4 : Memref sig .tc .vmem S4224x128 .f32) (harg4 : arg4.IsWhole)
  (arg5 : Memref sig .tc .vmem S1x4224x1 .f32) (harg5 : arg5.IsWhole)
  (arg6 : Memref sig .tc .vmem S4224x128 .f32) (harg6 : arg6.IsWhole)
  (arg7 : Memref sig .tc .vmem S4224x128 .f32) (harg7 : arg7.IsWhole)
  (arg8 : Memref sig .tc .vmem S4224x128 .f32) (harg8 : arg8.IsWhole)
  (arg9 : Memref sig .tc .vmem S4224x128 .f32) (harg9 : arg9.IsWhole)
  (arg10 : Memref sig .tc .vmem S4224x1 .f32) (harg10 : arg10.IsWhole)
  (x1 x2 x3 : Vec F S4224x128 .bf16) (x4 : Vec F S4224x128 .f32) (x5 : Vec F S1x4224x1 .f32) (x6 : Vec F S4224x128 .f32)

/-- A value at the kernel's operands. -/
local notation "refs[" f "]" => f arg1 harg1 arg2 harg2 arg3 harg3 arg4 harg4 arg5 harg5 arg6 harg6 arg7 harg7 arg8 harg8 arg9 harg9 arg10 harg10

/-- The pieces of the first loop: zeros for the gradient of the queries, and the rows' sums. -/
abbrev piecesT : Pcs F × List (View.Piece (Elt F) S4224x1 .f32) :=
  refs[pb_k1_t1 (F := F) Variants.none c none i] (harg4.unread x4) (harg6.unread x6) k1_t1_loop.trips

theorem cover_zero (y : S4224x128.Idx) : ∃ pc ∈ (refs[piecesT c i] x4 x6).1, y ∈ pc.1.set :=
  View.cover_of_tiledL (refs[piecesT c i] x4 x6).1 S704x128.size (by sl_kernel_rfl) y
theorem cover_sum (y : S4224x1.Idx) : ∃ pc ∈ (refs[piecesT c i] x4 x6).2, y ∈ pc.1.set :=
  View.cover_of_tiledL (refs[piecesT c i] x4 x6).2 S704x1.size (by sl_kernel_rfl) y

/-- The gradient of the queries before the second loop. -/
abbrev zero7 : BufTy.Contents (Elt F) arg7.view.ty := harg7.unread (View.canon (refs[piecesT c i] x4 x6).1)
/-- The rows' sums of the cotangent times the output. -/
abbrev sum10 : BufTy.Contents (Elt F) arg10.view.ty := harg10.unread (View.canon (refs[piecesT c i] x4 x6).2)

/-- The pieces of the second loop in the three gradients. -/
abbrev pieces1 : Pcs F × Pcs F × Pcs F :=
  refs[before1 c i] (harg1.unread x1) (harg2.unread x2) (harg3.unread x3) (harg5.unread x5) (harg6.unread x6)
    (refs[sum10 c i] x4 x6) (refs[zero7 c i] x4 x6) k1_t2_loop.trips

/-- The gradient of the queries. -/
def dq : Vec F S4224x128 .f32 :=
  View.read (Elt F) arg7.view (arg7.view.writes (Elt F) (refs[zero7 c i] x4 x6) (refs[pieces1 c i] x1 x2 x3 x4 x5 x6).1)
/-- The gradient of the keys. -/
def dk : Vec F S4224x128 .f32 :=
  View.canon (refs[pieces1 c i] x1 x2 x3 x4 x5 x6).2.1
/-- The gradient of the values. -/
def dv : Vec F S4224x128 .f32 :=
  View.canon (refs[pieces1 c i] x1 x2 x3 x4 x5 x6).2.2

theorem cover_dk (y : S4224x128.Idx) : ∃ pc ∈ (refs[pieces1 c i] x1 x2 x3 x4 x5 x6).2.1, y ∈ pc.1.set :=
  View.cover_of_tiledL (refs[pieces1 c i] x1 x2 x3 x4 x5 x6).2.1 S704x128.size (by sl_kernel_rfl) y
theorem cover_dv (y : S4224x128.Idx) : ∃ pc ∈ (refs[pieces1 c i] x1 x2 x3 x4 x5 x6).2.2, y ∈ pc.1.set :=
  View.cover_of_tiledL (refs[pieces1 c i] x1 x2 x3 x4 x5 x6).2.2 S704x128.size (by sl_kernel_rfl) y

/-- The backward kernel, from its six operands to its three results. -/
theorem sound1 (E : Set ℕ) (K : PUnit → sProp (Res F)) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (∃ f, holds c arg10 f)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare (refs[dq c i] x1 x2 x3 x4 x5 x6)
          ∗ owns (c : Thread nD τ) arg8 fullShare (refs[dk c i] x1 x2 x3 x4 x5 x6)
          ∗ owns (c : Thread nD τ) arg9 fullShare (refs[dv c i] x1 x2 x3 x4 x5 x6)
          ∗ (∃ f, holds c arg10 f)) -∗ K ⟨⟩))
      ⊢ wp frame (wpE (defs₀ (F := F)) Variants.none c none) E (refs[cc1_attn_bwd i]) K := by
  simp only [cc1_attn_bwd_eq_skeleton]; unfold cc1_attn_bwd_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%f10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  iapply (Scf.wp_for_bind frame (wpE (defs₀ (F := F)) Variants.none c none) E _ _ _ k1_t1_ok _ _
    (refs[inv_k1_t1 (F := F) Variants.none c none i] (harg4.unread x4) (harg6.unread x6) f7 f10)
    (refs[loopInv_k1_t1 (F := F) Variants.none c none E i] (harg4.unread x4) (harg6.unread x6) f7 f10).step) $$ [H4 H6 H7 H10]
  · isplitl [H4]; · iexact H4
    isplitl [H6]; · iexact H6
    isplitl [H7]
    · iexists _; isplitl [H7]; · iexact H7
      ipureintro; rfl
    · iexists _; isplitl [H10]; · iexact H10
      ipureintro; rfl
  iintro %_ ⟨H4, H6, ⟨%g7, H7, %h7⟩, ⟨%g10, H10, %h10⟩⟩
  have e7 : g7 = refs[zero7 c i] x4 x6 := harg7.eq_unread
    (by rw [h7]; exact View.read_writes_eq_canon _ _ _ (refs[cover_zero c i] x4 x6))
  have e10 : g10 = refs[sum10 c i] x4 x6 := harg10.eq_unread
    (by rw [h10]; exact View.read_writes_eq_canon _ _ _ (refs[cover_sum c i] x4 x6))
  clear h7 h10
  subst e7 e10
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; rfl
  isplitl [H8]
  · iexists _; isplitr
    swap; · iexact H8
    ipureintro; exact View.read_writes_eq_canon _ _ _ (refs[cover_dk c i] x1 x2 x3 x4 x5 x6)
  isplitl [H9]
  · iexists _; isplitr
    swap; · iexact H9
    ipureintro; exact View.read_writes_eq_canon _ _ _ (refs[cover_dv c i] x1 x2 x3 x4 x5 x6)
  iexists _; iexact H10

end Backward

end Cert.Proof.AttnBody
-- ==== Proof.AttnRun.lean ====
module

public import proofs.«01_k».proof.Proof.AttnBody
public import proofs.«01_k».proof.Proof.Gen.AttnKernelIdeal.Regions
public import proofs.«01_k».proof.Proof.Gen.AttnKernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring

@[expose] public section

/-! # The attention's run

The launch: each pipeline's proof data over its body's results, and the buffers' contents from one item of the program to
the next. -/

set_option maxRecDepth 16384

noncomputable section

namespace Cert.Proof.AttnRun

open Cert.AttnKernelIdeal Cert.AttnKernelIdeal.Gen Cert.Proof.AttnLoops Cert.Proof.AttnBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

section Pipelines

variable (V : (c : Dev nD) → (b : Ref sig .tc) → Buf (Elt F) ((c : Thread nD τ).loc b))

/-! ## Pipeline 0 -/

/-- Window `w`'s block at point `t`, as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in result 0 at point `t`. -/
def res0_3 (c : Dev nD) (t : Fin cfg0.N) : Vec F S4224x128 .f32 :=
  out c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk0 V c 0 t) (iblk0 V c 1 t) (iblk0 V c 2 t)
/-- What the body leaves in result 1 at point `t`. -/
def res0_4 (c : Dev nD) (t : Fin cfg0.N) : Vec F S1x4224x1 .f32 :=
  lse c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk0 V c 0 t) (iblk0 V c 1 t) (iblk0 V c 2 t)

/-- Pipeline 0's proof data: the operands keep their blocks, each result holds what the body leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => res0_3 V c t
    | ⟨4, _⟩ => res0_4 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = res0_3 V c t := by dsimp only [dat0]
theorem after0_4 (c : Dev nD) (t : Fin cfg0.N) : (dat0 V c).after 4 t = res0_4 V c t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body is entered with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))
/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound0 c (grid0.coords t) _ _ _ _ _ _ _ _ _ _ (iblk0 V c 0 t) (iblk0 V c 1 t) (iblk0 V c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Pipeline 1 -/

/-- Window `w`'s block at point `t`, as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in result 0 at point `t`. -/
def res1_6 (c : Dev nD) (t : Fin cfg1.N) : Vec F S4224x128 .f32 :=
  dq c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (Memref.whole cc1_scratch0) (Memref.isWhole_whole _) (iblk1 V c 0 t) (iblk1 V c 1 t) (iblk1 V c 2 t) (iblk1 V c 3 t) (iblk1 V c 4 t) (iblk1 V c 5 t)
/-- What the body leaves in result 1 at point `t`. -/
def res1_7 (c : Dev nD) (t : Fin cfg1.N) : Vec F S4224x128 .f32 :=
  dk c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (Memref.whole cc1_scratch0) (Memref.isWhole_whole _) (iblk1 V c 0 t) (iblk1 V c 1 t) (iblk1 V c 2 t) (iblk1 V c 3 t) (iblk1 V c 4 t) (iblk1 V c 5 t)
/-- What the body leaves in result 2 at point `t`. -/
def res1_8 (c : Dev nD) (t : Fin cfg1.N) : Vec F S4224x128 .f32 :=
  dv c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (Memref.whole cc1_scratch0) (Memref.isWhole_whole _) (iblk1 V c 0 t) (iblk1 V c 1 t) (iblk1 V c 2 t) (iblk1 V c 3 t) (iblk1 V c 4 t) (iblk1 V c 5 t)

/-- Pipeline 1's proof data: the operands keep their blocks, each result holds what the body leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => res1_6 V c t
    | ⟨7, _⟩ => res1_7 V c t
    | ⟨8, _⟩ => res1_8 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = res1_6 V c t := by dsimp only [dat1]
theorem after1_7 (c : Dev nD) (t : Fin cfg1.N) : (dat1 V c).after 7 t = res1_7 V c t := by dsimp only [dat1]
theorem after1_8 (c : Dev nD) (t : Fin cfg1.N) : (dat1 V c).after 8 t = res1_8 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- What the body is entered with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))
/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [show (dat1 V c).Φ t.castSucc = Pipeline.ΦA spec1 c from rfl]; unfold Pipeline.ΦA; rw [scopedRest1_eq]
  iintro ⟨⟨⟨S0, S1, S2, S3, S4, S5, S6, S7, S8, S9, ⟨%s10, S10⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound1 c (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S10]; · iexists s10; unfold holds; rw [show (Memref.whole (sig := sig) cc1_scratch0).view.set = Finset.univ from View.set_whole _]; iexact S10
  iintro ⟨H0, H1, H2, H3, H4, H5, H6, H7, H8, ⟨%s10, S10⟩⟩
  isplitl [S0 S1 S2 S3 S4 S5 S6 S7 S8 S9 S10 Hp]
  · isplitr [Hp]
    swap; · iexact Hp
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexists s10; unfold holds; rw [show (Memref.whole (sig := sig) cc1_scratch0).view.set = Finset.univ from View.set_whole _]; iexact S10
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Pipelines

/-! ## The contents between items -/

/-- The arguments. -/
abbrev argRefs : List (Ref sig .tc) := [main_arg0, main_arg1, main_arg2, main_arg3]

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After the host operations `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a ((ListAll.forall_mem_of_all_decide (by decide +kernel) : ∀ a ∈ argRefs, a ∉ hostOps0_W) a ha)).trans (W0_args m ρ c a ha)

/-- After the host operations `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a ((ListAll.forall_mem_of_all_decide (by decide +kernel) : ∀ a ∈ argRefs, a ∉ hostOps0_1_W) a ha)).trans (W1_args m ρ c a ha)

/-- After the host operations `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a ((ListAll.forall_mem_of_all_decide (by decide +kernel) : ∀ a ∈ argRefs, a ∉ hostOps0_2_W) a ha)).trans (W2_args m ρ c a ha)

/-- After the host operations `hostOps0_3`. -/
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a ((ListAll.forall_mem_of_all_decide (by decide +kernel) : ∀ a ∈ argRefs, a ∉ hostOps0_3_W) a ha)).trans (W3_args m ρ c a ha)

/-- After the host operations `hostOps0_4`. -/
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a ((ListAll.forall_mem_of_all_decide (by decide +kernel) : ∀ a ∈ argRefs, a ∉ hostOps0_4_W) a ha)).trans (W4_args m ρ c a ha)

/-- After the host operations `hostOps0_5`. -/
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a ((ListAll.forall_mem_of_all_decide (by decide +kernel) : ∀ a ∈ argRefs, a ∉ hostOps0_5_W) a ha)).trans (W5_args m ρ c a ha)

/-- After the host operations `hostOps0_6`. -/
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a ((ListAll.forall_mem_of_all_decide (by decide +kernel) : ∀ a ∈ argRefs, a ∉ hostOps0_6_W) a ha)).trans (W6_args m ρ c a ha)

/-- The contents pipeline 0 is entered with. -/
abbrev V7 : (c : Dev nD) → (b : Ref sig .tc) → Buf (Elt F) ((c : Thread nD τ).loc b) := fun c b => W7 m ρ c b
/-- After pipeline 0. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
theorem W8_of (c : Dev nD) (r : Ref sig .tc) (h : ∀ w : Fin cfg0.W, Pipeline.arrRef spec0 w = r → (cfg0.win w).isOut = false) :
    W8 m ρ c (Proc.devRef .tc r) = W7 m ρ c (Proc.devRef .tc r) := by
  by_cases hw : ∃ w : Fin cfg0.W, Pipeline.arrRef spec0 w = r
  · obtain ⟨w, rfl⟩ := hw
    exact (W8_arr m ρ c w).trans (((dat0 (V7 m ρ) c).arrAt_in w (h w rfl) _).trans (A_eq0 (V7 m ρ) c w))
  · exact W8_of_ne m ρ c r fun w e => hw ⟨w, e⟩
theorem W8_args (c : Dev nD) : ∀ a ∈ argRefs, W8 m ρ c (Proc.devRef .tc a) = m ((c : Thread nD τ).loc a) :=
  fun a ha => (W8_of m ρ c a ((ListAll.forall_mem_of_all_decide (by decide +kernel) :
    ∀ a ∈ argRefs, ∀ w : Fin cfg0.W, Pipeline.arrRef spec0 w = a → (cfg0.win w).isOut = false) a ha)).trans (W7_args m ρ c a ha)
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

/-- After the host operations `hostOps1`. -/
abbrev W9 : Dev nD → Valuation τ sig (Elt F) := fun c => StableHlo.after hostOps1 (W8 m ρ c)
theorem W9_of (c : Dev nD) (r : Ref sig .tc) (h : r ∉ hostOps1_W) : W9 m ρ c (Proc.devRef .tc r) = W8 m ρ c (Proc.devRef .tc r) :=
  StableHlo.after_of_writes_sub hostOps1 _ hostOps1_writes h
theorem W9_args (c : Dev nD) : ∀ a ∈ argRefs, W9 m ρ c (Proc.devRef .tc a) = m ((c : Thread nD τ).loc a) :=
  fun a ha => (W9_of m ρ c a ((ListAll.forall_mem_of_all_decide (by decide +kernel) : ∀ a ∈ argRefs, a ∉ hostOps1_W) a ha)).trans (W8_args m ρ c a ha)

/-- After the host operations `hostOps1_1`. -/
abbrev W10 : Dev nD → Valuation τ sig (Elt F) := fun c => StableHlo.after hostOps1_1 (W9 m ρ c)
theorem W10_of (c : Dev nD) (r : Ref sig .tc) (h : r ∉ hostOps1_1_W) : W10 m ρ c (Proc.devRef .tc r) = W9 m ρ c (Proc.devRef .tc r) :=
  StableHlo.after_of_writes_sub hostOps1_1 _ hostOps1_1_writes h
theorem W10_args (c : Dev nD) : ∀ a ∈ argRefs, W10 m ρ c (Proc.devRef .tc a) = m ((c : Thread nD τ).loc a) :=
  fun a ha => (W10_of m ρ c a ((ListAll.forall_mem_of_all_decide (by decide +kernel) : ∀ a ∈ argRefs, a ∉ hostOps1_1_W) a ha)).trans (W9_args m ρ c a ha)

/-- After the host operations `hostOps1_2`. -/
abbrev W11 : Dev nD → Valuation τ sig (Elt F) := fun c => StableHlo.after hostOps1_2 (W10 m ρ c)
theorem W11_of (c : Dev nD) (r : Ref sig .tc) (h : r ∉ hostOps1_2_W) : W11 m ρ c (Proc.devRef .tc r) = W10 m ρ c (Proc.devRef .tc r) :=
  StableHlo.after_of_writes_sub hostOps1_2 _ hostOps1_2_writes h
theorem W11_args (c : Dev nD) : ∀ a ∈ argRefs, W11 m ρ c (Proc.devRef .tc a) = m ((c : Thread nD τ).loc a) :=
  fun a ha => (W11_of m ρ c a ((ListAll.forall_mem_of_all_decide (by decide +kernel) : ∀ a ∈ argRefs, a ∉ hostOps1_2_W) a ha)).trans (W10_args m ρ c a ha)

/-- The contents pipeline 1 is entered with. -/
abbrev V11 : (c : Dev nD) → (b : Ref sig .tc) → Buf (Elt F) ((c : Thread nD τ).loc b) := fun c b => W11 m ρ c b
/-- After pipeline 1. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (V11 m ρ) c).arrAt_in w (h w rfl) _).trans (A_eq1 (V11 m ρ) c w))
  · exact W12_of_ne m ρ c r fun w e => hw ⟨w, e⟩
theorem W12_args (c : Dev nD) : ∀ a ∈ argRefs, W12 m ρ c (Proc.devRef .tc a) = m ((c : Thread nD τ).loc a) :=
  fun a ha => (W12_of m ρ c a ((ListAll.forall_mem_of_all_decide (by decide +kernel) :
    ∀ a ∈ argRefs, ∀ w : Fin cfg1.W, Pipeline.arrRef spec1 w = a → (cfg1.win w).isOut = false) a ha)).trans (W11_args m ρ c a ha)
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After the host operations `hostOps2`. -/
abbrev W13 : Dev nD → Valuation τ sig (Elt F) := fun c => StableHlo.after hostOps2 (W12 m ρ c)
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem W13_args (c : Dev nD) : ∀ a ∈ argRefs, W13 m ρ c (Proc.devRef .tc a) = m ((c : Thread nD τ).loc a) :=
  fun a ha => (W13_of m ρ c a ((ListAll.forall_mem_of_all_decide (by decide +kernel) : ∀ a ∈ argRefs, a ∉ hostOps2_W) a ha)).trans (W12_args m ρ c a ha)

/-! ## The launch -/

/-- Each pipeline's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V11 m ρ) c
/-- No core owes another anything. -/
abbrev L : GSem nD τ sig → Finset Unit := fun _ => ∅
abbrev lv : GSem nD τ sig → Unit → ℕ := fun _ _ => 0
/-- What is held beside the buffers. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Pipeline 0 as a segment. -/
def reg0 : Pipeline.RegionSeg (pcfgs (F := F)) adm (pdats m ρ) () defs₀ Variants.none L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) (A_eq0 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment. -/
def reg1 : Pipeline.RegionSeg (pcfgs (F := F)) adm (pdats m ρ) () defs₀ Variants.none L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) (A_eq1 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's items as segments. -/
abbrev segs : List (Pipeline.Seg (pcfgs (F := F)) adm (pdats m ρ) () defs₀ Variants.none L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .region (reg1 m ρ),
    .host (hseg hostOps2 hostOps2_sub hostOps2_fresh (W12 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every fair run ends, with the unscoped buffers at `W13` and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ Variants.none L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W13 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      (try dsimp only [Pipeline.Seg.post, hseg, Pipeline.HostSeg.ofOps, reg1])
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- The arguments end as launched. -/
theorem args_end (c : Dev nD) : ∀ a ∈ argRefs, W13 m ρ c (Proc.devRef .tc a) = m ((c : Thread nD τ).loc a) := W13_args m ρ c

/-- The frame: every fair run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (args_end m ρ c main_arg0 (by simp [argRefs])),
     (h.1 c _ (mem_uc main_arg1 (by decide))).trans (args_end m ρ c main_arg1 (by simp [argRefs])),
     (h.1 c _ (mem_uc main_arg2 (by decide))).trans (args_end m ρ c main_arg2 (by simp [argRefs])),
     (h.1 c _ (mem_uc main_arg3 (by decide))).trans (args_end m ρ c main_arg3 (by simp [argRefs]))⟩, h.2⟩) (run m ρ)

end Cert.Proof.AttnRun
-- ==== Proof.AttnMath.lean ====
/- The arithmetic of the attention's gradient: the running maximum and sums of a row of scores, and the gradient in real numbers. -/
module

public import proofs.«01_k».proof.Proof.Reals

@[expose] public section

noncomputable section

namespace Cert.Proof.AttnMath

open Idealize.ShloMosaic Cert.Proof.Reals

/-! ## A row's running maximum, sum and weighted sum -/

/-- What the three running numbers of a row say of its sum of exponentials and of its weighted sums: nothing was summed yet, or
    they are the sums divided by the exponential of the maximum. -/
def St (m l : EReal) (acc : Fin 128 → EReal) (X : ℝ) (Y : Fin 128 → ℝ) : Prop :=
  (m = ⊥ ∧ l = 0 ∧ (∀ d, acc d = 0) ∧ X = 0 ∧ ∀ d, Y d = 0) ∨
  ∃ M L : ℝ, ∃ A : Fin 128 → ℝ, m = M ∧ l = L ∧ (∀ d, acc d = A d) ∧ Real.exp M * L = X ∧ ∀ d, Real.exp M * A d = Y d

theorem St.zero : St ⊥ 0 (fun _ => 0) 0 (fun _ => 0) := Or.inl ⟨rfl, rfl, fun _ => rfl, rfl, fun _ => rfl⟩

theorem fold_max_eq {n : ℕ} (f : Fin n → EReal) : Finset.univ.fold max ⊥ f = Finset.univ.sup f := rfl

theorem exp_bot : Ideal.exp ⊥ = 0 := rfl

theorem sup_cases {n : ℕ} (P : Fin n → Prop) [DecidablePred P] (s : Fin n → ℝ) :
    ((∀ c, ¬P c) ∧ Finset.univ.sup (fun c => if P c then ((s c : ℝ) : EReal) else ⊥) = ⊥)
      ∨ ∃ M : ℝ, Finset.univ.sup (fun c => if P c then ((s c : ℝ) : EReal) else ⊥) = (M : EReal) := by
  by_cases h : ∃ c, P c
  · right
    obtain ⟨c, hc⟩ := h
    refine ⟨(Finset.univ.sup (fun c => if P c then ((s c : ℝ) : EReal) else ⊥)).toReal, (EReal.coe_toReal ?_ ?_).symm⟩
    · refine ne_of_lt ((Finset.sup_lt_iff bot_lt_top).2 fun c _ => ?_)
      split
      · exact EReal.coe_lt_top _
      · exact bot_lt_top
    · refine ne_of_gt (lt_of_lt_of_le (EReal.bot_lt_coe (s c)) ?_)
      have := Finset.le_sup (f := fun c => if P c then ((s c : ℝ) : EReal) else ⊥) (Finset.mem_univ c)
      simpa only [if_pos hc] using this
  · left
    push Not at h
    refine ⟨h, ?_⟩
    simp [h]

/-- The exponential of a score less the maximum. -/
theorem exp_sub (P : Prop) [Decidable P] (s M : ℝ) :
    Ideal.exp ((if P then (s : EReal) else ⊥) - (M : EReal)) = (((if P then Real.exp s else 0) * Real.exp (-M) : ℝ) : EReal) := by
  split
  · rw [← EReal.coe_sub, exp_coe, sub_eq_add_neg, Real.exp_add]
  · rw [EReal.bot_sub, exp_bot]; simp

/-- One more block of scores. -/
theorem St.step {m l : EReal} {acc : Fin 128 → EReal} {X : ℝ} {Y : Fin 128 → ℝ} (h : St m l acc X Y) {n : ℕ}
    (P : Fin n → Prop) [DecidablePred P] (s : Fin n → ℝ) (sc : Fin n → EReal) (hsc : ∀ c, sc c = if P c then ((s c : ℝ) : EReal) else ⊥)
    (v : Fin n → Fin 128 → ℝ) {m' l' : EReal} {acc' : Fin 128 → EReal}
    (hm : m' = max m (Finset.univ.fold max ⊥ sc))
    (hl : l' = Ideal.exp (m - m') * l + ∑ c, Ideal.exp (sc c - m'))
    (ha : ∀ d, acc' d = Ideal.exp (m - m') * acc d + ∑ c, Ideal.exp (sc c - m') * ((v c d : ℝ) : EReal)) :
    St m' l' acc' (X + ∑ c, if P c then Real.exp (s c) else 0)
      (fun d => Y d + ∑ c, (if P c then Real.exp (s c) else 0) * v c d) := by
  obtain rfl : sc = fun c => if P c then ((s c : ℝ) : EReal) else ⊥ := funext hsc
  rw [fold_max_eq] at hm
  have key : ∀ (M' : ℝ), m' = M' → ∀ (B : ℝ) (C : Fin 128 → ℝ), Ideal.exp (m - m') * l = ((B * Real.exp (-M') : ℝ) : EReal) →
      (∀ d, Ideal.exp (m - m') * acc d = ((C d * Real.exp (-M') : ℝ) : EReal)) →
      B = X → (∀ d, C d = Y d) →
      St m' l' acc' (X + ∑ c, if P c then Real.exp (s c) else 0)
        (fun d => Y d + ∑ c, (if P c then Real.exp (s c) else 0) * v c d) := by
    intro M' hM' B C hB hC hBX hCY
    right
    refine ⟨M', (X + ∑ c, if P c then Real.exp (s c) else 0) * Real.exp (-M'),
      fun d => (Y d + ∑ c, (if P c then Real.exp (s c) else 0) * v c d) * Real.exp (-M'), hM', ?_, ?_, ?_, ?_⟩
    · rw [hl, hB, hM']
      simp only [exp_sub, sum_coe, ← EReal.coe_add]
      rw [hBX, add_mul, Finset.sum_mul]
    · intro d
      rw [ha, hC, hM']
      simp only [exp_sub, ← EReal.coe_mul, sum_coe, ← EReal.coe_add]
      rw [hCY, add_mul, Finset.sum_mul]
      congr 2
      exact Finset.sum_congr rfl fun c _ => by ring
    · rw [mul_comm, mul_assoc, ← Real.exp_add, neg_add_cancel, Real.exp_zero, mul_one]
    · intro d
      rw [mul_comm, mul_assoc, ← Real.exp_add, neg_add_cancel, Real.exp_zero, mul_one]
  rcases h with ⟨rfl, rfl, hacc, rfl, hY⟩ | ⟨M, L, A, rfl, rfl, hacc, rfl, hY⟩
  · rcases sup_cases P s with ⟨hP, hsup⟩ | ⟨M', hsup⟩
    · rw [hsup, max_self] at hm
      subst hm
      left
      refine ⟨rfl, ?_, fun d => ?_, ?_, fun d => ?_⟩
      · rw [hl]; simp [hP, exp_bot]
      · rw [ha, hacc]; simp [hP, exp_bot]
      · simp [hP]
      · simp [hP, hY]
    · rw [hsup, max_eq_right bot_le] at hm
      refine key M' hm 0 (fun _ => 0) ?_ (fun d => ?_) rfl (fun d => (hY d).symm)
      · simp
      · rw [hacc]; simp
  · have hex : ∃ M' : ℝ, m' = (M' : EReal) := by
      rcases sup_cases P s with ⟨_, hsup⟩ | ⟨M', hsup⟩
      · exact ⟨M, by rw [hm, hsup, max_eq_left bot_le]⟩
      · exact ⟨max M M', by rw [hm, hsup, max_coe]⟩
    obtain ⟨M', hM'⟩ := hex
    refine key M' hM' (Real.exp M * L) (fun d => Real.exp M * A d) ?_ (fun d => ?_) rfl hY
    · rw [hM', ← EReal.coe_sub, exp_coe, ← EReal.coe_mul, sub_eq_add_neg, Real.exp_add]; congr 1; ring
    · rw [hacc, hM', ← EReal.coe_sub, exp_coe, ← EReal.coe_mul, sub_eq_add_neg, Real.exp_add]; congr 1; ring

/-- The logarithm of the sum that the running numbers give. -/
theorem St.log {m l : EReal} {acc : Fin 128 → EReal} {X : ℝ} {Y : Fin 128 → ℝ} (h : St m l acc X Y) (hX : 0 ≤ X) :
    (X = 0 ∧ m + Ideal.log l = ⊥) ∨ (0 < X ∧ m + Ideal.log l = ((Real.log X : ℝ) : EReal)) := by
  rcases h with ⟨rfl, rfl, _, rfl, _⟩ | ⟨M, L, A, rfl, rfl, _, rfl, _⟩
  · exact Or.inl ⟨rfl, by simp⟩
  · rcases hX.eq_or_lt with h0 | h0
    · have hL : L = 0 := by
        rcases mul_eq_zero.1 h0.symm with h | h
        · exact absurd h (Real.exp_ne_zero M)
        · exact h
      subst hL
      refine Or.inl ⟨by simp, ?_⟩
      have : Ideal.log ((0 : ℝ) : EReal) = ⊥ := by
        show (if (0 : ℝ) ≤ 0 then (⊥ : EReal) else (Real.log 0 : ℝ)) = ⊥
        rw [if_pos le_rfl]
      rw [this, EReal.add_bot]
    · have hL : 0 < L := by
        by_contra hc
        exact absurd h0 (not_lt.2 (mul_nonpos_of_nonneg_of_nonpos (Real.exp_pos M).le (not_lt.1 hc)))
      refine Or.inr ⟨h0, ?_⟩
      rw [log_coe hL, ← EReal.coe_add, Real.log_mul (Real.exp_ne_zero M) hL.ne', Real.log_exp]

/-- The weighted mean that the running numbers give. -/
theorem St.mean {m l : EReal} {acc : Fin 128 → EReal} {X : ℝ} {Y : Fin 128 → ℝ} (h : St m l acc X Y) (hX : 0 < X) (d : Fin 128) :
    Ideal.div (acc d) l = ((Y d / X : ℝ) : EReal) := by
  rcases h with ⟨_, _, _, rfl, _⟩ | ⟨M, L, A, rfl, rfl, ha, rfl, hY⟩
  · exact absurd hX (lt_irrefl 0)
  · have hL : L ≠ 0 := fun h => absurd hX (by rw [h]; simp)
    rw [ha, div_coe _ hL, ← hY, mul_div_mul_left _ _ (Real.exp_ne_zero M)]

/-! ## Blocks of 704 rows -/

/-- A row of a block. -/
def at_ (n : ℕ) (c : Fin 704) : Fin 4224 := ⟨(704 * n + c) % 4224, Nat.mod_lt _ (by decide)⟩

theorem at_val {n : ℕ} (hn : n < 6) (c : Fin 704) : (at_ n c).val = 704 * n + c := by
  have := c.isLt
  exact Nat.mod_eq_of_lt (by omega)

/-- The sum over a block. -/
def blk (f : Fin 4224 → ℝ) (n : ℕ) : ℝ := ∑ c : Fin 704, f (at_ n c)

theorem sum_blk (f : Fin 4224 → ℝ) : ∑ j, f j = ∑ n ∈ Finset.range 6, blk f n := by
  rw [Finset.sum_range]
  unfold blk
  rw [← Finset.sum_product', Finset.univ_product_univ]
  refine (Fintype.sum_equiv (finProdFinEquiv (m := 6) (n := 704)) _ _ fun x => ?_).symm
  congr 1
  refine Fin.ext ?_
  rw [at_val x.1.isLt]
  simp [finProdFinEquiv]; omega

/-! ## One head in real numbers -/

variable (q k v g : Fin 4224 → Fin 128 → ℝ)

/-- The key `j` is seen by the query `r`. -/
def live (r j : Fin 4224) : Prop := j.val ≤ r.val ∧ 48 ≤ j.val

instance (r j : Fin 4224) : Decidable (live r j) := inferInstanceAs (Decidable (_ ∧ _))

/-- A score. -/
def sc (r j : Fin 4224) : ℝ := ∑ x, q r x * k j x

/-- A score's exponential, nought where the key is not seen. -/
def wt (r j : Fin 4224) : ℝ := if live r j then Real.exp (sc q k r j) else 0

/-- The sum of a row's exponentials. -/
def Z (r : Fin 4224) : ℝ := ∑ j, wt q k r j

/-- A row's weighted sum of values. -/
def Y (r : Fin 4224) (d : Fin 128) : ℝ := ∑ j, wt q k r j * v j d

theorem wt_nonneg (r j : Fin 4224) : 0 ≤ wt q k r j := by
  unfold wt; split
  · exact (Real.exp_pos _).le
  · exact le_rfl

theorem Z_nonneg (r : Fin 4224) : 0 ≤ Z q k r := Finset.sum_nonneg fun j _ => wt_nonneg q k r j

theorem wt_of_Z {r : Fin 4224} (h : Z q k r = 0) (j : Fin 4224) : wt q k r j = 0 :=
  (Finset.sum_eq_zero_iff_of_nonneg fun j _ => wt_nonneg q k r j).1 h j (Finset.mem_univ j)

theorem blk_dead (f : Fin 4224 → ℝ) (K n : ℕ) (hK : K < n) (hn : n < 6) (a : Fin 704) (hf : ∀ j, f j ≠ 0 → live (at_ K a) j) : blk f n = 0 := by
  refine Finset.sum_eq_zero fun c _ => ?_
  by_contra h
  have h1 := (hf _ h).1
  rw [at_val hn, at_val (by omega)] at h1
  have := a.isLt
  omega

/-- The blocks past a row's own hold no key it sees. -/
theorem sum_seen (f : Fin 4224 → ℝ) (K : ℕ) (hK : K < 6) (a : Fin 704) (hf : ∀ j, f j ≠ 0 → live (at_ K a) j) :
    ∑ n ∈ Finset.range (K + 1), blk f n = ∑ j, f j := by
  rw [sum_blk]
  refine Finset.sum_subset (fun n hn => ?_) fun n hn hn' => ?_
  · simp only [Finset.mem_range] at hn ⊢; omega
  · simp only [Finset.mem_range] at hn hn'
    exact blk_dead f K n (by omega) hn a hf

/-- What the running numbers of a block of rows say after `n` blocks of keys. -/
def StB (K n : ℕ) (m l : Fin 704 → EReal) (acc : Fin 704 → Fin 128 → EReal) : Prop :=
  ∀ a, St (m a) (l a) (acc a) (∑ i ∈ Finset.range n, blk (wt q k (at_ K a)) i)
    (fun d => ∑ i ∈ Finset.range n, blk (fun j => wt q k (at_ K a) j * v j d) i)

theorem StB.zero (K : ℕ) : StB q k v K 0 (fun _ => ⊥) (fun _ => 0) (fun _ _ => 0) := fun _ => by
  simpa using St.zero

variable {q k v} in
theorem StB.step {K n : ℕ} {m l : Fin 704 → EReal} {acc : Fin 704 → Fin 128 → EReal} (h : StB q k v K n m l acc)
    (s : Fin 704 → Fin 704 → EReal)
    (hs : ∀ a c, s a c = if live (at_ K a) (at_ n c) then ((sc q k (at_ K a) (at_ n c) : ℝ) : EReal) else ⊥)
    {m' l' : Fin 704 → EReal} {acc' : Fin 704 → Fin 128 → EReal}
    (hm : ∀ a, m' a = max (m a) (Finset.univ.fold max ⊥ (s a)))
    (hl : ∀ a, l' a = Ideal.exp (m a - m' a) * l a + ∑ c, Ideal.exp (s a c - m' a))
    (ha : ∀ a d, acc' a d = Ideal.exp (m a - m' a) * acc a d + ∑ c, Ideal.exp (s a c - m' a) * ((v (at_ n c) d : ℝ) : EReal)) :
    StB q k v K (n + 1) m' l' acc' := fun a => by
  have := (h a).step (fun c => live (at_ K a) (at_ n c)) (fun c => sc q k (at_ K a) (at_ n c)) (s a) (hs a) (fun c => v (at_ n c))
    (hm a) (hl a) (ha a)
  simp only [Finset.sum_range_succ]
  exact this

/-- A head's output where the row sees a key. -/
def out (r : Fin 4224) (d : Fin 128) : EReal := if 0 < Z q k r then ((Y q k v r d / Z q k r : ℝ) : EReal) else Ideal.div 0 0

/-- The logarithm of the sum of a row's exponentials. -/
def lse (r : Fin 4224) : EReal := if 0 < Z q k r then ((Real.log (Z q k r) : ℝ) : EReal) else ⊥

theorem St.div_zero {m l : EReal} {acc : Fin 128 → EReal} {Y : Fin 128 → ℝ} (h : St m l acc 0 Y) (hY : ∀ d, Y d = 0) (d : Fin 128) :
    Ideal.div (acc d) l = Ideal.div 0 0 := by
  rcases h with ⟨_, rfl, ha, _, _⟩ | ⟨M, L, A, rfl, rfl, ha, hL, hA⟩
  · rw [ha]
  · have h1 : L = 0 := (mul_eq_zero.1 hL).resolve_left (Real.exp_ne_zero M)
    have h2 : A d = 0 := (mul_eq_zero.1 ((hA d).trans (hY d))).resolve_left (Real.exp_ne_zero M)
    rw [ha, h1, h2]; rfl

variable {q k v} in
theorem StB.final {K : ℕ} (hK : K < 6) {m l : Fin 704 → EReal} {acc : Fin 704 → Fin 128 → EReal} (h : StB q k v K (K + 1) m l acc) (a : Fin 704) :
    m a + Ideal.log (l a) = lse q k (at_ K a) ∧ ∀ d, Ideal.div (acc a d) (l a) = out q k v (at_ K a) d := by
  have hw : ∀ j, wt q k (at_ K a) j ≠ 0 → live (at_ K a) j := fun j hj => by
    by_contra hc
    exact hj (if_neg hc)
  have h1 := h a
  rw [sum_seen _ K hK a hw, show (fun d => ∑ i ∈ Finset.range (K + 1), blk (fun j => wt q k (at_ K a) j * v j d) i)
    = fun d => Y q k v (at_ K a) d from funext fun d => sum_seen _ K hK a fun j hj => hw j (left_ne_zero_of_mul hj)] at h1
  change St _ _ _ (Z q k (at_ K a)) _ at h1
  unfold lse out
  rcases h1.log (Z_nonneg q k _) with ⟨h0, hl⟩ | ⟨h0, hl⟩
  · refine ⟨by rw [hl, if_neg (by rw [h0]; exact lt_irrefl 0)], fun d => ?_⟩
    rw [if_neg (by rw [h0]; exact lt_irrefl 0)]
    rw [h0] at h1
    exact h1.div_zero (fun d => Finset.sum_eq_zero fun j _ => by rw [wt_of_Z q k h0, zero_mul]) d
  · refine ⟨by rw [hl, if_pos h0], fun d => ?_⟩
    rw [if_pos h0]
    exact h1.mean h0 d

/-! ## Words of the masks -/

theorem select_live {K n : ℕ} (hK : K < 6) (hn : n < 6) (a c : Fin 704) (x y : EReal) :
    Scalar.select (IntOp.andi (IntOp.cmpi .sle (IntOp.addi (BitVec.ofNat 32 (704 * n)) (BitVec.ofNat 32 c.val))
        (IntOp.addi (BitVec.ofNat 32 (704 * K)) (BitVec.ofNat 32 a.val)))
      (IntOp.cmpi .sge (IntOp.addi (BitVec.ofNat 32 (704 * n)) (BitVec.ofNat 32 c.val)) 48#32)) x y
      = if live (at_ K a) (at_ n c) then x else y := by
  have ha := a.isLt
  have hc := c.isLt
  have e : ∀ p : ℕ, p < 4224 → (BitVec.ofNat 32 p).toInt = p := fun p hp => by
    rw [BitVec.toInt_ofNat', Int.bmod_eq_of_le] <;> omega
  have e1 : IntOp.addi (BitVec.ofNat 32 (704 * n)) (BitVec.ofNat 32 c.val) = BitVec.ofNat 32 (704 * n + c.val) := (BitVec.ofNat_add ..).symm
  have e2 : IntOp.addi (BitVec.ofNat 32 (704 * K)) (BitVec.ofNat 32 a.val) = BitVec.ofNat 32 (704 * K + a.val) := (BitVec.ofNat_add ..).symm
  rw [e1, e2]
  have hlive : live (at_ K a) (at_ n c) ↔ 704 * n + c.val ≤ 704 * K + a.val ∧ 48 ≤ 704 * n + c.val := by
    unfold live; rw [at_val hK, at_val hn]
  have h1 : (IntOp.cmpi .sle (BitVec.ofNat 32 (704 * n + c.val)) (BitVec.ofNat 32 (704 * K + a.val))) = BitVec.ofBool (decide (704 * n + c.val ≤ 704 * K + a.val)) := by
    unfold IntOp.cmpi
    simp only [BitVec.sle, e _ (show 704 * n + c.val < 4224 by omega), e _ (show 704 * K + a.val < 4224 by omega)]
    congr 1; exact decide_eq_decide.2 (by omega)
  have h2 : (IntOp.cmpi .sge (BitVec.ofNat 32 (704 * n + c.val)) 48#32) = BitVec.ofBool (decide (48 ≤ 704 * n + c.val)) := by
    unfold IntOp.cmpi
    simp only [BitVec.sle, e _ (show 704 * n + c.val < 4224 by omega), show (48#32 : BitVec 32).toInt = 48 from by decide]
    congr 1; exact decide_eq_decide.2 (by omega)
  rw [h1, h2]
  by_cases p1 : 704 * n + c.val ≤ 704 * K + a.val <;> by_cases p2 : 48 ≤ 704 * n + c.val <;>
    simp [hlive, p1, p2, Scalar.select, IntOp.andi]

end Cert.Proof.AttnMath
-- ==== Proof.AttnFwdPay.lean ====
module

public import proofs.«01_k».proof.Proof.AttnBody
public import proofs.«01_k».proof.Proof.AttnMath
public import Idealize.ShloMosaic.Lib.Pointwise
public import Idealize.ShloMosaic.Lib.ValueIdx
public import Idealize.ShloMosaic.Lib.Tactic.CleanTypes

@[expose] public section

/-! # The arithmetic of the forward attention kernel, at an index -/

set_option maxRecDepth 16384

noncomputable section

namespace Cert.Proof.AttnFwdPay

open Cert.AttnKernelIdeal Cert.AttnKernelIdeal.Gen Cert.Proof.AttnLoops Cert.Proof.AttnMath Cert.Proof.Reals
open Idealize.ShloMosaic Idealize.SL.Sem

/-! ## Loads and words -/

theorem iv_mul (K : Fin 6) : Scalar.muli (Scf.iv 0#32 1#32 K.val) 704#32 = BitVec.ofNat 32 (704 * K.val) := by
  revert K; decide

/-- A load of a block of rows. -/
theorem load_rows {e : EltTy} (m : Memref sig .tc .vmem S4224x128 e) (hm : m.IsWhole) (d : Vec Ideal S4224x128 e)
    (off : Fin S4224x128.rank → ℕ) (inb : ∀ a, off a + S704x128.size a ≤ S4224x128.size a) {n : ℕ} (hn : n < 6) (hoff : off = ![704 * n, 0])
    (a : Fin 704) (x : Fin 128) :
    View.readAt (Elt Ideal) m.view (Rect.unit (s := S4224x128) off S704x128.size inb).toLoadRect (hm.unread d) (ix2 a x) = d (ix2 (at_ n a) x) := by
  subst hoff
  rw [View.readAt_eq_ld, Memref.IsWhole.read_unread]
  have e : at_ n a = ⟨704 * n + a.val, by have := a.isLt; omega⟩ := Fin.ext (at_val hn a)
  rw [e]
  open Pointwise in pointwise []

/-! ## The payloads at an index -/

section Pay

variable (qb kb vb : FVec Ideal S704x128 .bf16) (m l : FVec Ideal S704x1 .f32) (acc : FVec Ideal S704x128 .f32)

theorem pay3_at (a : Fin 704) : k0_pay3 qb m kb (ix2 a 0) = max (m (ix2 a 0)) (Finset.univ.fold max ⊥ fun x => k0_pay2 qb kb (ix2 a x)) := by
  open Pointwise in unfold k0_pay3; pointwise []
  rw [ofBits_neg_inf]

theorem pay6_at (a : Fin 704) : k0_pay6 qb m l kb (ix2 a 0)
    = Ideal.exp (m (ix2 a 0) - k0_pay3 qb m kb (ix2 a 0)) * l (ix2 a 0) + ∑ x, Ideal.exp (k0_pay2 qb kb (ix2 a x) - k0_pay3 qb m kb (ix2 a 0)) := by
  open Pointwise in unfold k0_pay6 k0_pay5 k0_pay4; pointwise []

theorem pay7_at (a : Fin 704) (d : Fin 128) : k0_pay7 qb m acc kb vb (ix2 a d)
    = Ideal.exp (m (ix2 a 0) - k0_pay3 qb m kb (ix2 a 0)) * acc (ix2 a d)
      + ∑ x, Ideal.exp (k0_pay2 qb kb (ix2 a x) - k0_pay3 qb m kb (ix2 a 0)) * vb (ix2 x d) := by
  open Pointwise in unfold k0_pay7 k0_pay5 k0_pay4; pointwise []

variable (u w : BitVec 32)

theorem pay15_at (a : Fin 704) : k0_pay15 u w qb m kb (ix2 a 0) = max (m (ix2 a 0)) (Finset.univ.fold max ⊥ fun x => k0_pay14 u w qb kb (ix2 a x)) := by
  open Pointwise in unfold k0_pay15; pointwise []
  rw [ofBits_neg_inf]

theorem pay18_at (a : Fin 704) : k0_pay18 u w qb m l kb (ix2 a 0)
    = Ideal.exp (m (ix2 a 0) - k0_pay15 u w qb m kb (ix2 a 0)) * l (ix2 a 0)
      + ∑ x, Ideal.exp (k0_pay14 u w qb kb (ix2 a x) - k0_pay15 u w qb m kb (ix2 a 0)) := by
  open Pointwise in unfold k0_pay18 k0_pay17 k0_pay16; pointwise []

theorem pay19_at (a : Fin 704) (d : Fin 128) : k0_pay19 u w qb m acc kb vb (ix2 a d)
    = Ideal.exp (m (ix2 a 0) - k0_pay15 u w qb m kb (ix2 a 0)) * acc (ix2 a d)
      + ∑ x, Ideal.exp (k0_pay14 u w qb kb (ix2 a x) - k0_pay15 u w qb m kb (ix2 a 0)) * vb (ix2 x d) := by
  open Pointwise in unfold k0_pay19 k0_pay17 k0_pay16; pointwise []

variable (K : Fin k0_t1_loop.trips)

theorem pay25_at (a : Fin 704) : k0_pay25 (F := Ideal) 0#32 1#32 K qb kb (ix2 a 0)
    = max ⊥ (Finset.univ.fold max ⊥ fun x => k0_pay24 (F := Ideal) 0#32 1#32 K qb kb (ix2 a x)) := by
  open Pointwise in unfold k0_pay25 k0_pay23; pointwise []
  rw [ofBits_neg_inf, IdealRules.named_const.ideal_named_scalar _ _ _ _ rfl]

theorem pay28_at (a : Fin 704) : k0_pay28 (F := Ideal) 0#32 1#32 K qb kb (ix2 a 0)
    = Ideal.exp (⊥ - k0_pay25 (F := Ideal) 0#32 1#32 K qb kb (ix2 a 0)) * 0
      + ∑ x, Ideal.exp (k0_pay24 (F := Ideal) 0#32 1#32 K qb kb (ix2 a x) - k0_pay25 (F := Ideal) 0#32 1#32 K qb kb (ix2 a 0)) := by
  open Pointwise in unfold k0_pay28 k0_pay27 k0_pay26 k0_pay23; pointwise []
  rw [IdealRules.named_const.ideal_named_scalar _ _ _ _ rfl]

theorem pay1_at (a : Fin 704) (d : Fin 128) :
    k0_pay1 (F := Ideal) (k0_pay29 (F := Ideal) 0#32 1#32 K qb kb) (k0_pay30 (F := Ideal) vb) (k0_pay31 (F := Ideal) 0#32 1#32 K qb kb) (ix2 a d)
    = Ideal.exp (⊥ - k0_pay25 (F := Ideal) 0#32 1#32 K qb kb (ix2 a 0)) * 0
      + ∑ x, Ideal.exp (k0_pay24 (F := Ideal) 0#32 1#32 K qb kb (ix2 a x) - k0_pay25 (F := Ideal) 0#32 1#32 K qb kb (ix2 a 0)) * vb (ix2 x d) := by
  open Pointwise in unfold k0_pay1 k0_pay29 k0_pay30 k0_pay31 k0_pay27 k0_pay26 k0_pay23; pointwise []
  rw [IdealRules.named_const.ideal_named_scalar _ _ _ _ rfl]

theorem pay20_at (a : Fin 704) (d : Fin 128) : k0_pay20 l acc (ix2 a d) = Ideal.div (acc (ix2 a d)) (l (ix2 a 0)) := by
  open Pointwise in unfold k0_pay20; pointwise []

theorem pay22_at (a : Fin 704) (d : Fin 128) : k0_pay22 qb (ix2 a d) = qb (ix2 a d) := by
  open Pointwise in unfold k0_pay22; pointwise []

theorem pay21_at (a : Fin 704) : k0_pay21 m l (ix3 0 a 0) = m (ix2 a 0) + Ideal.log (l (ix2 a 0)) := by
  open Pointwise in unfold k0_pay21; pointwise []

/-! ## The scores -/

variable (q k v : Fin 4224 → Fin 128 → ℝ) {n : ℕ}

theorem pay2_real (hn : n < K.val) (hn0 : 0 < n)
    (hq : ∀ a x, qb (ix2 a x) = ((q (at_ K.val a) x : ℝ) : EReal)) (hk : ∀ a x, kb (ix2 a x) = ((k (at_ n a) x : ℝ) : EReal)) (a c : Fin 704) :
    k0_pay2 qb kb (ix2 a c) = if live (at_ K.val a) (at_ n c) then ((sc q k (at_ K.val a) (at_ n c) : ℝ) : EReal) else ⊥ := by
  have hK : K.val < 6 := K.isLt
  have hl : live (at_ K.val a) (at_ n c) := by
    have := a.isLt; have := c.isLt
    unfold live
    rw [at_val hK, at_val (by omega)]
    omega
  rw [if_pos hl]
  open Pointwise in unfold k0_pay2; pointwise []
  simp only [hq, hk, ← EReal.coe_mul, sum_coe]
  rfl

theorem pay14_real
    (hq : ∀ a x, qb (ix2 a x) = ((q (at_ K.val a) x : ℝ) : EReal)) (hk : ∀ a x, kb (ix2 a x) = ((k (at_ K.val a) x : ℝ) : EReal)) (a c : Fin 704) :
    k0_pay14 (Scf.iv 0#32 1#32 K.val) (Scalar.muli (Scf.iv 0#32 1#32 K.val) 704#32) qb kb (ix2 a c)
      = if live (at_ K.val a) (at_ K.val c) then ((sc q k (at_ K.val a) (at_ K.val c) : ℝ) : EReal) else ⊥ := by
  have hK : K.val < 6 := K.isLt
  open Pointwise in unfold k0_pay14; pointwise []
  rw [iv_mul ⟨K.val, hK⟩, select_live hK hK, IdealRules.named_const.ideal_named_scalar _ _ _ _ rfl]
  simp only [hq, hk, ← EReal.coe_mul, sum_coe]
  rfl

theorem pay24_real
    (hq : ∀ a x, qb (ix2 a x) = ((q (at_ K.val a) x : ℝ) : EReal)) (hk : ∀ a x, kb (ix2 a x) = ((k (at_ 0 a) x : ℝ) : EReal)) (a c : Fin 704) :
    k0_pay24 (F := Ideal) 0#32 1#32 K qb kb (ix2 a c)
      = if live (at_ K.val a) (at_ 0 c) then ((sc q k (at_ K.val a) (at_ 0 c) : ℝ) : EReal) else ⊥ := by
  have hK : K.val < 6 := K.isLt
  open Pointwise in unfold k0_pay24 k0_pay22; pointwise []
  rw [iv_mul ⟨K.val, hK⟩]
  refine (select_live (n := 0) hK (by decide) a c _ _).trans ?_
  rw [IdealRules.named_const.ideal_named_scalar _ _ _ _ rfl]
  simp only [hq, hk, ← EReal.coe_mul, sum_coe]
  rfl

end Pay

end Cert.Proof.AttnFwdPay
-- ==== Proof.AttnFwdVal.lean ====
module

public import proofs.«01_k».proof.Proof.AttnFwdPay

@[expose] public section

/-! # What the forward attention kernel leaves

On real queries, keys and values the kernel leaves each row's weighted mean of the values it sees, and the logarithm of the
sum of its exponentials. -/

set_option maxRecDepth 16384

noncomputable section

namespace Cert.Proof.AttnFwdVal

open Cert.AttnKernelIdeal Cert.AttnKernelIdeal.Gen Cert.Proof.AttnLoops Cert.Proof.AttnMath Cert.Proof.AttnFwdPay Cert.Proof.Reals
open Idealize.ShloMosaic Idealize.SL.Sem

/-! ## The loops' trips and offsets -/

theorem off1 (K : Fin k0_t1_loop.trips) : k0_off1 K = ![704 * K.val, 0] := by revert K; decide +kernel
theorem off2 (K : Fin k0_t1_loop.trips) (n : Fin (k0_t2_loop K).trips) : k0_off2 K n = ![704 * (n.val + 1), 0] := by
  revert n; revert K; decide +kernel
theorem off4 (K : Fin k0_t1_loop.trips) : k0_off4 K = ![704 * K.val, 0] := by revert K; decide +kernel
theorem off5 (K : Fin k0_t1_loop.trips) : k0_off5 K = ![0, 704 * K.val, 0] := by revert K; decide +kernel
theorem trips2 (K : Fin k0_t1_loop.trips) : k0_cond1 K = 1#1 → (k0_t2_loop K).trips + 1 = K.val := by revert K; decide +kernel
theorem trips3 (K : Fin k0_t1_loop.trips) : k0_cond1 K = 1#1 → (k0_t3_loop K).trips = 0 := by revert K; decide +kernel
theorem first_zero (K : Fin k0_t1_loop.trips) :
    ¬k0_cond1 K = 1#1 → K.val = 0 ∧ (k0_t2_loop K).trips = 0 ∧ (k0_t3_loop K).trips = 0 := by revert K; decide +kernel

/-! ## Pieces that hold a function's values -/

section Holds

variable {S : Shape} {e : EltTy}

/-- Each piece of the list holds the values of `G` where it lies. -/
def Holds (L : List (View.Piece (Elt Ideal) S e)) (G : S.Idx → Elt Ideal e) : Prop :=
  ∀ p ∈ L, ∀ x : p.1.shape.Idx, p.2 x = G (p.1.emb x)

theorem Holds.nil (G : S.Idx → Elt Ideal e) : Holds [] G := fun _ hp => absurd hp List.not_mem_nil

theorem Holds.one {L : List (View.Piece (Elt Ideal) S e)} {r : Rect S} {w : r.shape.Idx → Elt Ideal e} {G : S.Idx → Elt Ideal e}
    (hL : L = [⟨r, w⟩]) (h : ∀ x, w x = G (r.emb x)) : Holds L G := by
  subst hL
  intro p hp
  obtain rfl := List.mem_singleton.1 hp
  exact h

theorem Holds.append {L M : List (View.Piece (Elt Ideal) S e)} {G : S.Idx → Elt Ideal e} (h : Holds L G) (h' : Holds M G) :
    Holds (L ++ M) G := fun p hp => (List.mem_append.1 hp).elim (h p) (h' p)

theorem Holds.canon {L : List (View.Piece (Elt Ideal) S e)} {G : S.Idx → Elt Ideal e} (h : Holds L G) (y : S.Idx)
    (hy : ∃ p ∈ L, y ∈ p.1.set) : View.canon L y = G y := View.canon_apply_of_pieces (Val := Elt Ideal) G L h y hy

end Holds

section Body

variable (c : Dev nD) (i : grid0.Coords)
  (arg1 : Memref sig .tc .vmem S4224x128 .bf16) (harg1 : arg1.IsWhole)
  (arg2 : Memref sig .tc .vmem S4224x128 .bf16) (harg2 : arg2.IsWhole)
  (arg3 : Memref sig .tc .vmem S4224x128 .bf16) (harg3 : arg3.IsWhole)
  (arg4 : Memref sig .tc .vmem S4224x128 .f32) (harg4 : arg4.IsWhole)
  (arg5 : Memref sig .tc .vmem S1x4224x1 .f32) (harg5 : arg5.IsWhole)
  (x1 x2 x3 : Vec Ideal S4224x128 .bf16) (q k v : Fin 4224 → Fin 128 → ℝ)

/-- A value at the kernel's operands. -/
local notation "refs[" f "]" => f arg1 harg1 arg2 harg2 arg3 harg3 arg4 harg4 arg5 harg5

/-- A load of a block of rows of one of the three operands. -/
abbrev ld (m : Memref sig .tc .vmem S4224x128 .bf16) (hm : m.IsWhole) (x : Vec Ideal S4224x128 .bf16) (off : Fin S4224x128.rank → ℕ)
    (inb : ∀ a, off a + S704x128.size a ≤ S4224x128.size a) : Vec Ideal S704x128 .bf16 :=
  View.readAt (Elt Ideal) m.view (Rect.unit (s := S4224x128) off S704x128.size inb).toLoadRect (hm.unread x)

/-- The queries of a block. -/
abbrev qB (K : Fin k0_t1_loop.trips) : FVec Ideal S704x128 .bf16 := k0_pay22 (ld arg1 harg1 x1 (k0_off1 K) (k0_off1_inb K))

/-- The running numbers of a block of rows. -/
abbrev Tr := FVec Ideal S704x1 .f32 × FVec Ideal S704x1 .f32 × FVec Ideal S704x128 .f32

/-- The running numbers after the first block of keys. -/
abbrev tr1 (K : Fin k0_t1_loop.trips) : Tr :=
  (k0_pay25 0#32 1#32 K (ld arg1 harg1 x1 (k0_off1 K) (k0_off1_inb K)) (ld arg2 harg2 x2 ![0, 0] inb_S4224x128_S704x128_0_0),
   k0_pay28 0#32 1#32 K (ld arg1 harg1 x1 (k0_off1 K) (k0_off1_inb K)) (ld arg2 harg2 x2 ![0, 0] inb_S4224x128_S704x128_0_0),
   k0_pay1 (k0_pay29 0#32 1#32 K (ld arg1 harg1 x1 (k0_off1 K) (k0_off1_inb K)) (ld arg2 harg2 x2 ![0, 0] inb_S4224x128_S704x128_0_0))
     (k0_pay30 (ld arg3 harg3 x3 ![0, 0] inb_S4224x128_S704x128_0_0))
     (k0_pay31 0#32 1#32 K (ld arg1 harg1 x1 (k0_off1 K) (k0_off1_inb K)) (ld arg2 harg2 x2 ![0, 0] inb_S4224x128_S704x128_0_0)))

/-- The running numbers after `n` of the blocks between the first and the row's own. -/
abbrev tr2 (K : Fin k0_t1_loop.trips) (n : ℕ) : Tr :=
  refs[st_k0_t2 (F := Ideal) Variants.none c none i] K (qB arg1 harg1 x1 K) (harg2.unread x2) (harg3.unread x3)
    (tr1 arg1 harg1 arg2 harg2 arg3 harg3 x1 x2 x3 K) n

/-- The same after the remainder's loop. -/
abbrev tr3 (K : Fin k0_t1_loop.trips) : Tr :=
  refs[st_k0_t3 (F := Ideal) Variants.none c none i] K (qB arg1 harg1 x1 K) (harg2.unread x2) (harg3.unread x3)
    (refs[tr2 c i] x1 x2 x3 K (k0_t2_loop K).trips) (k0_t3_loop K).trips

/-- The running numbers at the end. -/
abbrev tr4 (K : Fin k0_t1_loop.trips) (h : k0_cond1 K = 1#1) : Tr :=
  (k0_pay15 (Scf.iv 0#32 1#32 K.val) (Scalar.muli (Scf.iv 0#32 1#32 K.val) 704#32) (qB arg1 harg1 x1 K)
     (refs[tr3 c i] x1 x2 x3 K).1 (ld arg2 harg2 x2 (k0_off4 K) (k0_off4_inb K h)),
   k0_pay18 (Scf.iv 0#32 1#32 K.val) (Scalar.muli (Scf.iv 0#32 1#32 K.val) 704#32) (qB arg1 harg1 x1 K)
     (refs[tr3 c i] x1 x2 x3 K).1 (refs[tr3 c i] x1 x2 x3 K).2.1 (ld arg2 harg2 x2 (k0_off4 K) (k0_off4_inb K h)),
   k0_pay19 (Scf.iv 0#32 1#32 K.val) (Scalar.muli (Scf.iv 0#32 1#32 K.val) 704#32) (qB arg1 harg1 x1 K)
     (refs[tr3 c i] x1 x2 x3 K).1 (refs[tr3 c i] x1 x2 x3 K).2.2 (ld arg2 harg2 x2 (k0_off4 K) (k0_off4_inb K h))
     (ld arg3 harg3 x3 (k0_off4 K) (k0_off4_inb K h)))

/-- What the running numbers of a block of rows say. -/
abbrev Good (K n : ℕ) (t : Tr) : Prop :=
  StB q k v K n (fun a => t.1 (ix2 a 0)) (fun a => t.2.1 (ix2 a 0)) (fun a d => t.2.2 (ix2 a d))

/-- The pieces of a block of rows, from its running numbers. -/
theorem past_pieces (K : Fin k0_t1_loop.trips) (h : k0_cond1 K = 1#1) :
    (refs[tripPast c i] (harg1.unread x1) (harg2.unread x2) (harg3.unread x3) K h).1
        = [⟨Rect.unit (s := S4224x128) (k0_off1 K) S704x128.size (k0_off1_inb K),
            k0_pay20 (refs[tr4 c i] x1 x2 x3 K h).2.1 (refs[tr4 c i] x1 x2 x3 K h).2.2⟩]
      ∧ (refs[tripPast c i] (harg1.unread x1) (harg2.unread x2) (harg3.unread x3) K h).2.1
        = [⟨Rect.unit (s := S1x4224x1) (k0_off5 K) S1x704x1.size (k0_off5_inb K),
            k0_pay21 (refs[tr4 c i] x1 x2 x3 K h).1 (refs[tr4 c i] x1 x2 x3 K h).2.1⟩] := by
  unfold tripPast
  exact ⟨rfl, rfl⟩

theorem first_pieces (K : Fin k0_t1_loop.trips) (h : ¬k0_cond1 K = 1#1) :
    (refs[tripFirst c i] (harg1.unread x1) (harg2.unread x2) (harg3.unread x3) K h).1
        = [⟨Rect.unit (s := S4224x128) (k0_off1 K) S704x128.size (k0_off1_inb K),
            k0_pay20 (refs[tr3 c i] x1 x2 x3 K).2.1 (refs[tr3 c i] x1 x2 x3 K).2.2⟩]
      ∧ (refs[tripFirst c i] (harg1.unread x1) (harg2.unread x2) (harg3.unread x3) K h).2.1
        = [⟨Rect.unit (s := S1x4224x1) (k0_off5 K) S1x704x1.size (k0_off5_inb K),
            k0_pay21 (refs[tr3 c i] x1 x2 x3 K).1 (refs[tr3 c i] x1 x2 x3 K).2.1⟩] := by
  unfold tripFirst
  exact ⟨rfl, rfl⟩

variable (hq : ∀ r x, x1 (ix2 r x) = ((q r x : ℝ) : EReal)) (hk : ∀ r x, x2 (ix2 r x) = ((k r x : ℝ) : EReal))
  (hv : ∀ r x, x3 (ix2 r x) = ((v r x : ℝ) : EReal))

include hq hk hv

theorem tr1_good (K : Fin k0_t1_loop.trips) : Good q k v K.val 1 (tr1 arg1 harg1 arg2 harg2 arg3 harg3 x1 x2 x3 K) := by
  have hK : K.val < 6 := K.isLt
  have lq : ∀ a x, ld arg1 harg1 x1 (k0_off1 K) (k0_off1_inb K) (ix2 a x) = ((q (at_ K.val a) x : ℝ) : EReal) := fun a x =>
    (load_rows arg1 harg1 x1 _ _ hK (off1 K) a x).trans (hq _ _)
  have lk : ∀ a x, ld arg2 harg2 x2 ![0, 0] inb_S4224x128_S704x128_0_0 (ix2 a x) = ((k (at_ 0 a) x : ℝ) : EReal) := fun a x =>
    (load_rows arg2 harg2 x2 _ _ (n := 0) (by decide) rfl a x).trans (hk _ _)
  have lv : ∀ a x, ld arg3 harg3 x3 ![0, 0] inb_S4224x128_S704x128_0_0 (ix2 a x) = ((v (at_ 0 a) x : ℝ) : EReal) := fun a x =>
    (load_rows arg3 harg3 x3 _ _ (n := 0) (by decide) rfl a x).trans (hv _ _)
  refine (StB.zero q k v K.val).step (fun a c => k0_pay24 (F := Ideal) 0#32 1#32 K (ld arg1 harg1 x1 (k0_off1 K) (k0_off1_inb K))
    (ld arg2 harg2 x2 ![0, 0] inb_S4224x128_S704x128_0_0) (ix2 a c)) (fun a c => pay24_real _ _ K q k lq lk a c)
    (fun a => pay25_at _ _ K a) (fun a => pay28_at _ _ K a) (fun a d => ?_)
  refine (pay1_at _ _ _ K a d).trans ?_
  simp only [lv]

theorem tr2_good (K : Fin k0_t1_loop.trips) (h : k0_cond1 K = 1#1) (n : ℕ) (hn : n ≤ (k0_t2_loop K).trips) :
    Good q k v K.val (n + 1) (refs[tr2 c i] x1 x2 x3 K n) := by
  have hK : K.val < 6 := K.isLt
  induction n with
  | zero => exact tr1_good arg1 harg1 arg2 harg2 arg3 harg3 x1 x2 x3 q k v hq hk hv K
  | succ n ih =>
    have h0 := ih (by omega)
    have ht := trips2 K h
    have hn6 : n + 1 < 6 := by omega
    let N : Fin (k0_t2_loop K).trips := ⟨n, hn⟩
    have lq : ∀ a x, qB arg1 harg1 x1 K (ix2 a x) = ((q (at_ K.val a) x : ℝ) : EReal) := fun a x =>
      (pay22_at _ a x).trans ((load_rows arg1 harg1 x1 _ _ hK (off1 K) a x).trans (hq _ _))
    have lk : ∀ a x, ld arg2 harg2 x2 (k0_off2 K N) (k0_off2_inb K N) (ix2 a x) = ((k (at_ (n + 1) a) x : ℝ) : EReal) := fun a x =>
      (load_rows arg2 harg2 x2 _ _ hn6 (off2 K N) a x).trans (hk _ _)
    have lv : ∀ a x, ld arg3 harg3 x3 (k0_off2 K N) (k0_off2_inb K N) (ix2 a x) = ((v (at_ (n + 1) a) x : ℝ) : EReal) := fun a x =>
      (load_rows arg3 harg3 x3 _ _ hn6 (off2 K N) a x).trans (hv _ _)
    have e : refs[tr2 c i] x1 x2 x3 K (n + 1)
        = (k0_pay3 (qB arg1 harg1 x1 K) (refs[tr2 c i] x1 x2 x3 K n).1 (ld arg2 harg2 x2 (k0_off2 K N) (k0_off2_inb K N)),
           k0_pay6 (qB arg1 harg1 x1 K) (refs[tr2 c i] x1 x2 x3 K n).1 (refs[tr2 c i] x1 x2 x3 K n).2.1
             (ld arg2 harg2 x2 (k0_off2 K N) (k0_off2_inb K N)),
           k0_pay7 (qB arg1 harg1 x1 K) (refs[tr2 c i] x1 x2 x3 K n).1 (refs[tr2 c i] x1 x2 x3 K n).2.2
             (ld arg2 harg2 x2 (k0_off2 K N) (k0_off2_inb K N)) (ld arg3 harg3 x3 (k0_off2 K N) (k0_off2_inb K N))) := by
      refine (refs[st_k0_t2_succ (F := Ideal) Variants.none c none i] K (qB arg1 harg1 x1 K) (harg2.unread x2) (harg3.unread x3) _ N).trans ?_
      unfold tripR_k0_t2 trip_k0_t2
      rfl
    rw [e]
    refine h0.step (fun a c => k0_pay2 (qB arg1 harg1 x1 K) (ld arg2 harg2 x2 (k0_off2 K N) (k0_off2_inb K N)) (ix2 a c))
      (fun a c => pay2_real _ _ K q k (by omega) (by omega) lq lk a c)
      (fun a => pay3_at _ _ _ a) (fun a => pay6_at _ _ _ _ a) (fun a d => ?_)
    refine (pay7_at _ _ _ _ _ a d).trans ?_
    simp only [lv]

theorem tr4_good (K : Fin k0_t1_loop.trips) (h : k0_cond1 K = 1#1) : Good q k v K.val (K.val + 1) (refs[tr4 c i] x1 x2 x3 K h) := by
  have hK : K.val < 6 := K.isLt
  have h0 : Good q k v K.val K.val (refs[tr3 c i] x1 x2 x3 K) := by
    have := refs[tr2_good c i] x1 x2 x3 q k v hq hk hv K h _ le_rfl
    rw [trips2 K h] at this
    unfold tr3
    rw [trips3 K h]
    exact this
  have lq : ∀ a x, qB arg1 harg1 x1 K (ix2 a x) = ((q (at_ K.val a) x : ℝ) : EReal) := fun a x =>
    (pay22_at _ a x).trans ((load_rows arg1 harg1 x1 _ _ hK (off1 K) a x).trans (hq _ _))
  have lk : ∀ a x, ld arg2 harg2 x2 (k0_off4 K) (k0_off4_inb K h) (ix2 a x) = ((k (at_ K.val a) x : ℝ) : EReal) := fun a x =>
    (load_rows arg2 harg2 x2 _ _ hK (off4 K) a x).trans (hk _ _)
  have lv : ∀ a x, ld arg3 harg3 x3 (k0_off4 K) (k0_off4_inb K h) (ix2 a x) = ((v (at_ K.val a) x : ℝ) : EReal) := fun a x =>
    (load_rows arg3 harg3 x3 _ _ hK (off4 K) a x).trans (hv _ _)
  refine h0.step (fun a c => k0_pay14 (F := Ideal) (Scf.iv 0#32 1#32 K.val) (Scalar.muli (Scf.iv 0#32 1#32 K.val) 704#32) (qB arg1 harg1 x1 K)
    (ld arg2 harg2 x2 (k0_off4 K) (k0_off4_inb K h)) (ix2 a c)) (fun a c => pay14_real _ _ K q k lq lk a c)
    (fun a => pay15_at _ _ _ _ _ a) (fun a => pay18_at _ _ _ _ _ _ a) (fun a d => ?_)
  refine (pay19_at _ _ _ _ _ _ _ a d).trans ?_
  simp only [lv]

theorem tr3_first (K : Fin k0_t1_loop.trips) (h : ¬k0_cond1 K = 1#1) : Good q k v K.val (K.val + 1) (refs[tr3 c i] x1 x2 x3 K) := by
  obtain ⟨h0, h2, h3⟩ := first_zero K h
  have h1 : K.val + 1 = 1 := by omega
  rw [h1]
  unfold tr3
  rw [h3]
  unfold tr2
  rw [h2]
  exact tr1_good arg1 harg1 arg2 harg2 arg3 harg3 x1 x2 x3 q k v hq hk hv K

omit hq hk hv in
theorem emb1 (K : Fin k0_t1_loop.trips) (a : Fin 704) (d : Fin 128) :
    (Rect.unit (s := S4224x128) (k0_off1 K) S704x128.size (k0_off1_inb K)).emb (ix2 a d) = ix2 (at_ K.val a) d := by
  have h := off1 K
  funext b
  refine Fin.ext ?_
  fin_cases b
  · simp [h, at_val K.isLt]
  · simp [h]

omit hq hk hv in
theorem emb5 (K : Fin k0_t1_loop.trips) (a : Fin 704) :
    (Rect.unit (s := S1x4224x1) (k0_off5 K) S1x704x1.size (k0_off5_inb K)).emb (ix3 0 a 0) = ix3 0 (at_ K.val a) 0 := by
  have h := off5 K
  funext b
  refine Fin.ext ?_
  fin_cases b
  · simp [h]
  · simp [h, at_val K.isLt]
  · simp [h]

/-- The running numbers a trip ends with, and its two pieces. -/
theorem trip_ends (K : Fin k0_t1_loop.trips) : ∃ t : Tr, Good q k v K.val (K.val + 1) t
      ∧ (refs[trip0 c i] (harg1.unread x1) (harg2.unread x2) (harg3.unread x3) K).1
          = [⟨Rect.unit (s := S4224x128) (k0_off1 K) S704x128.size (k0_off1_inb K), k0_pay20 t.2.1 t.2.2⟩]
      ∧ (refs[trip0 c i] (harg1.unread x1) (harg2.unread x2) (harg3.unread x3) K).2.1
          = [⟨Rect.unit (s := S1x4224x1) (k0_off5 K) S1x704x1.size (k0_off5_inb K), k0_pay21 t.1 t.2.1⟩] := by
  unfold trip0
  by_cases h : k0_cond1 K = 1#1
  · rw [dif_pos h]
    exact ⟨_, refs[tr4_good c i] x1 x2 x3 q k v hq hk hv K h, refs[past_pieces c i] x1 x2 x3 K h⟩
  · rw [dif_neg h]
    exact ⟨_, refs[tr3_first c i] x1 x2 x3 q k v hq hk hv K h, refs[first_pieces c i] x1 x2 x3 K h⟩

omit hq hk hv in
/-- A block's piece of the output at an element. -/
theorem piece_out (K : Fin k0_t1_loop.trips) (t : Tr) (hg : Good q k v K.val (K.val + 1) t) (x : S704x128.Idx) :
    k0_pay20 t.2.1 t.2.2 x = (fun j : S4224x128.Idx => out q k v (j 0) (j 1))
      ((Rect.unit (s := S4224x128) (k0_off1 K) S704x128.size (k0_off1_inb K)).emb x) := by
  idx_vars x
  rw [emb1]
  exact (pay20_at _ _ _ _).trans ((hg.final K.isLt _).2 _)

omit hq hk hv in
/-- A block's piece of the logarithms at an element. -/
theorem piece_lse (K : Fin k0_t1_loop.trips) (t : Tr) (hg : Good q k v K.val (K.val + 1) t) (x : S1x704x1.Idx) :
    k0_pay21 t.1 t.2.1 x = (fun j : S1x4224x1.Idx => lse q k (j 1))
      ((Rect.unit (s := S1x4224x1) (k0_off5 K) S1x704x1.size (k0_off5_inb K)).emb x) := by
  idx_vars x
  fin_cases x0
  fin_cases x2
  rw [show (ix3 ((fun a => a) ⟨0, by decide⟩) x1 ((fun a => a) ⟨0, by decide⟩) : S1x704x1.Idx) = ix3 0 x1 0 from rfl, emb5]
  exact (pay21_at _ _ _).trans ((hg.final K.isLt _).1)

/-- The pieces of a trip hold the head's output and its logarithms. -/
theorem trip_pieces (K : Fin k0_t1_loop.trips) :
    Holds (refs[trip0 c i] (harg1.unread x1) (harg2.unread x2) (harg3.unread x3) K).1 (fun j : S4224x128.Idx => out q k v (j 0) (j 1))
      ∧ Holds (refs[trip0 c i] (harg1.unread x1) (harg2.unread x2) (harg3.unread x3) K).2.1
        (fun j : S1x4224x1.Idx => lse q k (j 1)) := by
  obtain ⟨t, hg, h1, h2⟩ := refs[trip_ends c i] x1 x2 x3 q k v hq hk hv K
  exact ⟨Holds.one h1 (piece_out q k v K t hg), Holds.one h2 (piece_lse q k v K t hg)⟩

theorem before_pieces (n : ℕ) (hn : n ≤ k0_t1_loop.trips) :
    Holds (refs[before0 c i] (harg1.unread x1) (harg2.unread x2) (harg3.unread x3) n).1 (fun j : S4224x128.Idx => out q k v (j 0) (j 1))
      ∧ Holds (refs[before0 c i] (harg1.unread x1) (harg2.unread x2) (harg3.unread x3) n).2
        (fun j : S1x4224x1.Idx => lse q k (j 1)) := by
  induction n with
  | zero => exact ⟨Holds.nil _, Holds.nil _⟩
  | succ n ih =>
    have hi := ih (by omega)
    have ht := refs[trip_pieces c i] x1 x2 x3 q k v hq hk hv ⟨n, hn⟩
    have e := refs[before0_succ (F := Ideal) c i] (harg1.unread x1) (harg2.unread x2) (harg3.unread x3) ⟨n, hn⟩
    rw [e]
    exact ⟨ht.1.append hi.1, ht.2.append hi.2⟩

/-- The forward kernel's output at an element. -/
theorem out_apply (r : Fin 4224) (d : Fin 128) : refs[AttnBody.out c i] x1 x2 x3 (ix2 r d) = out q k v r d :=
  (refs[before_pieces c i] x1 x2 x3 q k v hq hk hv _ le_rfl).1.canon (ix2 r d) (refs[AttnBody.cover_out c i] x1 x2 x3 (ix2 r d))

/-- The forward kernel's logarithms at an element. -/
theorem lse_apply (r : Fin 4224) : refs[AttnBody.lse c i] x1 x2 x3 (ix3 0 r 0) = lse q k r :=
  (refs[before_pieces c i] x1 x2 x3 q k v hq hk hv _ le_rfl).2.canon (ix3 0 r 0) (refs[AttnBody.cover_lse c i] x1 x2 x3 (ix3 0 r 0))

end Body

end Cert.Proof.AttnFwdVal
-- ==== Proof.AttnBwdMath.lean ====
module

public import proofs.«01_k».proof.Proof.AttnMath

@[expose] public section

/-! # The attention's gradient in real numbers, block by block -/

noncomputable section

namespace Cert.Proof.AttnMath

open Idealize.ShloMosaic Cert.Proof.Reals

variable (q k v g : Fin 4224 → Fin 128 → ℝ)

/-- A row's probabilities. -/
def pr (r j : Fin 4224) : ℝ := wt q k r j / Z q k r

/-- The sum of a row's cotangents times its outputs. -/
def dl (r : Fin 4224) : ℝ := ∑ d, g r d * (Y q k v r d / Z q k r)

/-- The gradient of the scores. -/
def ds (r j : Fin 4224) : ℝ := pr q k r j * ((∑ d, g r d * v j d) - dl q k v g r)

/-- The gradient of the queries, of the keys, and of the values. -/
def dq (r : Fin 4224) (d : Fin 128) : ℝ := ∑ j, ds q k v g r j * k j d
def dk (j : Fin 4224) (d : Fin 128) : ℝ := ∑ r, ds q k v g r j * q r d
def dv (j : Fin 4224) (d : Fin 128) : ℝ := ∑ r, pr q k r j * g r d

variable {q k v g}

theorem Z_pos {r j : Fin 4224} (h : live r j) : 0 < Z q k r := by
  refine lt_of_lt_of_le ?_ (Finset.single_le_sum (fun j _ => wt_nonneg q k r j) (Finset.mem_univ j))
  unfold wt
  rw [if_pos h]
  exact Real.exp_pos _

theorem pr_dead {r j : Fin 4224} (h : ¬live r j) : pr q k r j = 0 := by
  unfold pr wt
  rw [if_neg h, zero_div]

theorem ds_dead {r j : Fin 4224} (h : ¬live r j) : ds q k v g r j = 0 := by
  unfold ds
  rw [pr_dead h, zero_mul]

variable (q k v g) in
/-- A score less its row's logarithm gives the probability. -/
theorem exp_lse (r j : Fin 4224) :
    Ideal.exp ((if live r j then ((sc q k r j : ℝ) : EReal) else ⊥) - lse q k r) = ((pr q k r j : ℝ) : EReal) := by
  unfold lse
  by_cases hz : 0 < Z q k r
  · rw [if_pos hz, exp_sub]
    refine congrArg _ ?_
    unfold pr wt
    rw [Real.exp_neg, Real.exp_log hz, div_eq_mul_inv]
  · have hl : ¬live r j := fun h => hz (Z_pos h)
    rw [if_neg hz, if_neg hl, pr_dead hl]
    rfl

variable (q k v g) in
/-- The row's sum over its outputs, where the rows that see nothing have no cotangent. -/
theorem sum_out (r : Fin 4224) (hg : ¬0 < Z q k r → ∀ d, g r d = 0) :
    ∑ d, ((g r d : ℝ) : EReal) * out q k v r d = ((dl q k v g r : ℝ) : EReal) := by
  unfold dl
  rw [← sum_coe]
  refine Finset.sum_congr rfl fun d _ => ?_
  unfold out
  by_cases hz : 0 < Z q k r
  · rw [if_pos hz, EReal.coe_mul]
  · rw [if_neg hz, hg hz d, zero_mul, EReal.coe_zero, zero_mul]

theorem at_self (r : Fin 4224) : at_ (r.val / 704) ⟨r.val % 704, Nat.mod_lt _ (by decide)⟩ = r := by
  have := r.isLt
  refine Fin.ext ?_
  rw [at_val (by omega)]
  exact Nat.div_add_mod _ _

theorem at_div {n : ℕ} (hn : n < 6) (a : Fin 704) : (at_ n a).val / 704 = n := by
  have := a.isLt
  rw [at_val hn]
  omega

theorem not_live_of_blocks {m n : ℕ} (h : m < n) (hn : n < 6) (a c : Fin 704) : ¬live (at_ m a) (at_ n c) := by
  have := a.isLt
  have := c.isLt
  unfold live
  rw [at_val hn, at_val (by omega)]
  omega

variable (q k v g) in
/-- Before the block of rows `n` of the block of columns `K`: the gradient of the queries holds the columns' blocks before `K`, and
    for the rows' blocks before `n` this block's; the two carried gradients hold the rows' blocks before `n`. -/
structure Inv (K n : ℕ) (A : Fin 4224 → Fin 128 → EReal) (bk bv : Fin 704 → Fin 128 → EReal) : Prop where
  hA : ∀ r d, A r d = ((∑ m ∈ Finset.range K, blk (fun j => ds q k v g r j * k j d) m
    + (if r.val / 704 < n then blk (fun j => ds q k v g r j * k j d) K else 0) : ℝ) : EReal)
  hk : ∀ a d, bk a d = ((∑ m ∈ Finset.range n, blk (fun r => ds q k v g r (at_ K a) * q r d) m : ℝ) : EReal)
  hv : ∀ a d, bv a d = ((∑ m ∈ Finset.range n, blk (fun r => pr q k r (at_ K a) * g r d) m : ℝ) : EReal)

theorem Inv.start {K : ℕ} (hK : K < 6) {A : Fin 4224 → Fin 128 → EReal}
    (hA : ∀ r d, A r d = ((∑ m ∈ Finset.range K, blk (fun j => ds q k v g r j * k j d) m : ℝ) : EReal)) :
    Inv q k v g K K A (fun _ _ => 0) (fun _ _ => 0) where
  hA r d := by
    rw [hA]
    refine congrArg _ ?_
    split
    · next h =>
      rw [show blk (fun j => ds q k v g r j * k j d) K = 0 from ?_, add_zero]
      refine Finset.sum_eq_zero fun c _ => ?_
      have hl : ¬live r (at_ K c) := by
        have := not_live_of_blocks h hK ⟨r.val % 704, Nat.mod_lt _ (by decide)⟩ c
        rwa [at_self] at this
      show ds q k v g r (at_ K c) * _ = 0
      rw [ds_dead hl, zero_mul]
    · rw [add_zero]
  hk a d := by
    rw [Finset.sum_eq_zero, EReal.coe_zero]
    intro m hm
    refine Finset.sum_eq_zero fun c _ => ?_
    show ds q k v g (at_ m c) (at_ K a) * _ = 0
    rw [ds_dead (not_live_of_blocks (Finset.mem_range.1 hm) hK c a), zero_mul]
  hv a d := by
    rw [Finset.sum_eq_zero, EReal.coe_zero]
    intro m hm
    refine Finset.sum_eq_zero fun c _ => ?_
    show pr q k (at_ m c) (at_ K a) * _ = 0
    rw [pr_dead (not_live_of_blocks (Finset.mem_range.1 hm) hK c a), zero_mul]

theorem Inv.step {K n : ℕ} (hn : n < 6) {A A' : Fin 4224 → Fin 128 → EReal} {bk bv bk' bv' : Fin 704 → Fin 128 → EReal}
    (h : Inv q k v g K n A bk bv)
    (hA1 : ∀ a d, A' (at_ n a) d = A (at_ n a) d + ∑ c : Fin 704, ((ds q k v g (at_ n a) (at_ K c) : ℝ) : EReal) * ((k (at_ K c) d : ℝ) : EReal))
    (hA2 : ∀ r d, r.val / 704 ≠ n → A' r d = A r d)
    (hk' : ∀ a d, bk' a d = bk a d + ∑ c : Fin 704, ((ds q k v g (at_ n c) (at_ K a) : ℝ) : EReal) * ((q (at_ n c) d : ℝ) : EReal))
    (hv' : ∀ a d, bv' a d = bv a d + ∑ c : Fin 704, ((pr q k (at_ n c) (at_ K a) : ℝ) : EReal) * ((g (at_ n c) d : ℝ) : EReal)) :
    Inv q k v g K (n + 1) A' bk' bv' where
  hA r d := by
    by_cases hr : r.val / 704 = n
    · have e : at_ n ⟨r.val % 704, Nat.mod_lt _ (by decide)⟩ = r := by rw [← hr]; exact at_self r
      have := hA1 ⟨r.val % 704, Nat.mod_lt _ (by decide)⟩ d
      rw [e] at this
      rw [this, h.hA, if_neg (by omega), if_pos (by omega), add_zero, EReal.coe_add]
      refine congrArg _ ?_
      simp only [← EReal.coe_mul, sum_coe]
      rfl
    · rw [hA2 r d hr, h.hA]
      refine congrArg _ (congrArg _ ?_)
      exact if_congr (by omega) rfl rfl
  hk a d := by
    rw [hk', h.hk, Finset.sum_range_succ, EReal.coe_add]
    refine congrArg _ ?_
    simp only [← EReal.coe_mul, sum_coe]
    rfl
  hv a d := by
    rw [hv', h.hv, Finset.sum_range_succ, EReal.coe_add]
    refine congrArg _ ?_
    simp only [← EReal.coe_mul, sum_coe]
    rfl

theorem Inv.finish {K : ℕ} {A : Fin 4224 → Fin 128 → EReal} {bk bv : Fin 704 → Fin 128 → EReal} (h : Inv q k v g K 6 A bk bv) :
    (∀ r d, A r d = ((∑ m ∈ Finset.range (K + 1), blk (fun j => ds q k v g r j * k j d) m : ℝ) : EReal))
      ∧ (∀ a d, bk a d = ((dk q k v g (at_ K a) d : ℝ) : EReal)) ∧ ∀ a d, bv a d = ((dv q k g (at_ K a) d : ℝ) : EReal) := by
  refine ⟨fun r d => ?_, fun a d => ?_, fun a d => ?_⟩
  · have := r.isLt
    rw [h.hA, if_pos (by omega), Finset.sum_range_succ]
  · rw [h.hk, dk, sum_blk]
  · rw [h.hv, dv, sum_blk]

end Cert.Proof.AttnMath
-- ==== Proof.AttnBwdPay.lean ====
module

public import proofs.«01_k».proof.Proof.AttnFwdPay
public import proofs.«01_k».proof.Proof.AttnBwdMath

@[expose] public section

/-! # The arithmetic of the backward attention kernel, at an index -/

set_option maxRecDepth 16384

noncomputable section

namespace Cert.Proof.AttnBwdPay

open Cert.AttnKernelIdeal Cert.AttnKernelIdeal.Gen Cert.Proof.AttnLoops Cert.Proof.AttnMath Cert.Proof.AttnFwdPay Cert.Proof.Reals
open Idealize.ShloMosaic Idealize.SL.Sem

/-! ## Loads of a column -/

theorem load_col (m : Memref sig .tc .vmem S4224x1 .f32) (hm : m.IsWhole) (d : Vec Ideal S4224x1 .f32)
    (off : Fin S4224x1.rank → ℕ) (inb : ∀ a, off a + S704x1.size a ≤ S4224x1.size a) {n : ℕ} (hn : n < 6) (hoff : off = ![704 * n, 0])
    (a : Fin 704) :
    View.readAt (Elt Ideal) m.view (Rect.unit (s := S4224x1) off S704x1.size inb).toLoadRect (hm.unread d) (ix2 a 0) = d (ix2 (at_ n a) 0) := by
  subst hoff
  rw [View.readAt_eq_ld, Memref.IsWhole.read_unread]
  have e : at_ n a = ⟨704 * n + a.val, by have := a.isLt; omega⟩ := Fin.ext (at_val hn a)
  rw [e]
  open Pointwise in pointwise []

theorem load_lse (m : Memref sig .tc .vmem S1x4224x1 .f32) (hm : m.IsWhole) (d : Vec Ideal S1x4224x1 .f32)
    (off : Fin S1x4224x1.rank → ℕ) (inb : ∀ a, off a + S1x704x1.size a ≤ S1x4224x1.size a) {n : ℕ} (hn : n < 6) (hoff : off = ![0, 704 * n, 0])
    (a : Fin 704) :
    View.readAt (Elt Ideal) m.view (Rect.unit (s := S1x4224x1) off S1x704x1.size inb).toLoadRect (hm.unread d) (ix3 0 a 0)
      = d (ix3 0 (at_ n a) 0) := by
  subst hoff
  rw [View.readAt_eq_ld, Memref.IsWhole.read_unread]
  have e : at_ n a = ⟨704 * n + a.val, by have := a.isLt; omega⟩ := Fin.ext (at_val hn a)
  rw [e]
  open Pointwise in pointwise []

/-! ## The payloads at an index -/

section Pay

variable (vb kb qb : FVec Ideal S704x128 .bf16) (gb ob acc rows : FVec Ideal S704x128 .f32) (gc : FVec Ideal S704x128 .bf16)
  (p : FVec Ideal S704x704 .f32) (s : FVec Ideal S704x704 .bf16) (D : FVec Ideal S704x1 .f32) (ls : FVec Ideal S1x704x1 .f32)

theorem pay1_at (a : Fin 704) : k1_pay1 gb ob (ix2 a 0) = ∑ x, gb (ix2 a x) * ob (ix2 a x) := by
  open Pointwise in unfold k1_pay1; pointwise []

theorem pay2_at (a : Fin 704) (d : Fin 128) : k1_pay2 (F := Ideal) (ix2 a d) = 0 := by
  open Pointwise in unfold k1_pay2; pointwise []

/-- The zeros the scores are added to. -/
abbrev zeros : FVec Ideal S704x704 .f32 := constant S704x704 .f32 0x00000000#32

theorem pay3_at (a c : Fin 704) : k1_pay3 vb gc p zeros D (ix2 a c) = p (ix2 a c) * (∑ x, gc (ix2 a x) * vb (ix2 c x) - D (ix2 a 0)) := by
  open Pointwise in unfold k1_pay3; pointwise []

theorem pay4_at (a : Fin 704) (d : Fin 128) : k1_pay4 vb acc qb gc p zeros D (ix2 a d)
    = acc (ix2 a d) + ∑ c, k1_pay3 vb gc p zeros D (ix2 c a) * qb (ix2 c d) := by
  open Pointwise in unfold k1_pay4; pointwise []

theorem pay5_at (a : Fin 704) (d : Fin 128) : k1_pay5 kb vb gc p zeros D rows (ix2 a d)
    = rows (ix2 a d) + ∑ c, k1_pay3 vb gc p zeros D (ix2 a c) * kb (ix2 c d) := by
  open Pointwise in unfold k1_pay5; pointwise []

theorem pay6_at (a : Fin 704) (d : Fin 128) : k1_pay6 kb s rows (ix2 a d) = rows (ix2 a d) + ∑ c, s (ix2 a c) * kb (ix2 c d) := by
  open Pointwise in unfold k1_pay6; pointwise []

theorem pay9_at (a : Fin 704) (d : Fin 128) : (k1_pay9 (F := Ideal) gb (ix2 a d) : EReal) = gb (ix2 a d) := by
  open Pointwise in unfold k1_pay9; pointwise []

theorem pay11_at (a : Fin 704) (d : Fin 128) : k1_pay11 kb acc qb gb ls (ix2 a d)
    = acc (ix2 a d) + ∑ c, k1_pay10 kb qb ls (ix2 c a) * gb (ix2 c d) := by
  open Pointwise in unfold k1_pay11 k1_pay9; pointwise []

theorem pay12_at (a c : Fin 704) : k1_pay12 kb vb qb gb ls D (ix2 a c)
    = k1_pay10 kb qb ls (ix2 a c) * (∑ x, gb (ix2 a x) * vb (ix2 c x) - D (ix2 a 0)) := by
  open Pointwise in unfold k1_pay12 k1_pay9; pointwise []

theorem pay13_at (a : Fin 704) (d : Fin 128) : k1_pay13 kb vb acc qb gb ls D (ix2 a d)
    = acc (ix2 a d) + ∑ c, k1_pay12 kb vb qb gb ls D (ix2 c a) * qb (ix2 c d) := by
  open Pointwise in unfold k1_pay13 k1_pay8; pointwise []

theorem pay14_at (a : Fin 704) (d : Fin 128) : k1_pay14 kb vb qb gb ls D rows (ix2 a d)
    = rows (ix2 a d) + ∑ c, k1_pay12 kb vb qb gb ls D (ix2 a c) * kb (ix2 c d) := by
  open Pointwise in unfold k1_pay14; pointwise []

theorem pay28_at (a : Fin 704) (d : Fin 128) : k1_pay28 rows (ix2 a d) = rows (ix2 a d) := by
  open Pointwise in unfold k1_pay28; pointwise []

theorem pay36_at (a : Fin 704) (d : Fin 128) : k1_pay36 kb (ix2 a d) = kb (ix2 a d) := by
  open Pointwise in unfold k1_pay36; pointwise []

theorem pay37_at (a : Fin 704) (d : Fin 128) : k1_pay37 kb (ix2 a d) = kb (ix2 a d) := by
  open Pointwise in unfold k1_pay37; pointwise []

theorem pay38_at (a : Fin 704) (d : Fin 128) : k1_pay38 (F := Ideal) (ix2 a d) = 0 := by
  open Pointwise in unfold k1_pay38; pointwise []

theorem pay39_at (a : Fin 704) (d : Fin 128) : k1_pay39 kb (ix2 a d) = kb (ix2 a d) := by
  open Pointwise in unfold k1_pay39; pointwise []

theorem pay40_at (a : Fin 704) (d : Fin 128) : (k1_pay40 (F := Ideal) gb (ix2 a d) : EReal) = gb (ix2 a d) := by
  open Pointwise in unfold k1_pay40; pointwise []

variable (K : Fin k1_t2_loop.trips)

theorem pay42_at (a : Fin 704) (d : Fin 128) : k1_pay42 (F := Ideal) 0#32 1#32 K kb qb gb ls (ix2 a d)
    = 0 + ∑ c, k1_pay41 (F := Ideal) 0#32 1#32 K kb qb ls (ix2 c a) * gb (ix2 c d) := by
  open Pointwise in unfold k1_pay42 k1_pay40; pointwise []

variable (kk : Fin (k1_t3_loop K).trips) (u w x : BitVec 32)

theorem pay25_at (a : Fin 704) (d : Fin 128) : k1_pay25 (F := Ideal) K u kb w x kk acc qb gb ls (ix2 a d)
    = acc (ix2 a d) + ∑ c, k1_pay24 (F := Ideal) K u kb w x kk qb ls (ix2 c a) * gb (ix2 c d) := by
  open Pointwise in unfold k1_pay25 k1_pay23; pointwise []

theorem pay26_at (a c : Fin 704) : k1_pay26 (F := Ideal) K u kb vb w x kk qb gb ls D (ix2 a c)
    = k1_pay24 (F := Ideal) K u kb w x kk qb ls (ix2 a c) * (∑ x, gb (ix2 a x) * vb (ix2 c x) - D (ix2 a 0)) := by
  open Pointwise in unfold k1_pay26 k1_pay23; pointwise []

theorem pay27_at (a : Fin 704) (d : Fin 128) : k1_pay27 (F := Ideal) K u kb vb w x kk acc qb gb ls D (ix2 a d)
    = acc (ix2 a d) + ∑ c, k1_pay26 (F := Ideal) K u kb vb w x kk qb gb ls D (ix2 c a) * qb (ix2 c d) := by
  open Pointwise in unfold k1_pay27 k1_pay22; pointwise []

/-! ## The probabilities -/

variable (q k : Fin 4224 → Fin 128 → ℝ) {n m : ℕ}

theorem pay10_real (hm : 0 < m) (hmn : m < n) (hn : n < 6) (hq : ∀ a x, qb (ix2 a x) = ((q (at_ n a) x : ℝ) : EReal))
    (hk : ∀ a x, kb (ix2 a x) = ((k (at_ m a) x : ℝ) : EReal)) (hl : ∀ a, ls (ix3 0 a 0) = lse q k (at_ n a)) (a c : Fin 704) :
    k1_pay10 kb qb ls (ix2 a c) = ((pr q k (at_ n a) (at_ m c) : ℝ) : EReal) := by
  have hv : live (at_ n a) (at_ m c) := by
    have := a.isLt; have := c.isLt
    unfold live
    rw [at_val hn, at_val (by omega)]
    omega
  rw [← exp_lse, if_pos hv]
  open Pointwise in unfold k1_pay10 k1_pay8; pointwise []
  simp only [hq, hk, ← EReal.coe_mul, sum_coe]
  rw [hl]
  rfl

theorem pay41_real (hq : ∀ a x, qb (ix2 a x) = ((q (at_ K.val a) x : ℝ) : EReal))
    (hk : ∀ a x, kb (ix2 a x) = ((k (at_ K.val a) x : ℝ) : EReal)) (hl : ∀ a, ls (ix3 0 a 0) = lse q k (at_ K.val a)) (a c : Fin 704) :
    k1_pay41 (F := Ideal) 0#32 1#32 K kb qb ls (ix2 a c) = ((pr q k (at_ K.val a) (at_ K.val c) : ℝ) : EReal) := by
  have hK : K.val < 6 := K.isLt
  rw [← exp_lse]
  open Pointwise in unfold k1_pay41 k1_pay39 k1_pay36; pointwise []
  rw [iv_mul ⟨K.val, hK⟩]
  refine congrArg Ideal.exp (congrArg₂ (· - ·) ((select_live hK hK a c _ _).trans ?_) (hl a))
  rw [IdealRules.named_const.ideal_named_scalar _ _ _ _ rfl]
  simp only [hq, hk, ← EReal.coe_mul, sum_coe]
  rfl

theorem iv_next (kk : Fin 5) : Scalar.muli (Scf.iv 1#32 1#32 kk.val) 704#32 = BitVec.ofNat 32 (704 * (kk.val + 1)) := by
  revert kk; decide

theorem pay24_real (hu : u = BitVec.ofNat 32 (704 * 0)) (hw : w = 1#32) (hx : x = 1#32) (h5 : kk.val < 5)
    (hq : ∀ a x, qb (ix2 a x) = ((q (at_ (kk.val + 1) a) x : ℝ) : EReal))
    (hk : ∀ a x, kb (ix2 a x) = ((k (at_ 0 a) x : ℝ) : EReal)) (hl : ∀ a, ls (ix3 0 a 0) = lse q k (at_ (kk.val + 1) a)) (a c : Fin 704) :
    k1_pay24 (F := Ideal) K u kb w x kk qb ls (ix2 a c) = ((pr q k (at_ (kk.val + 1) a) (at_ 0 c) : ℝ) : EReal) := by
  subst hu hw hx
  rw [← exp_lse]
  open Pointwise in unfold k1_pay24 k1_pay22; pointwise []
  rw [iv_next ⟨kk.val, h5⟩]
  refine congrArg Ideal.exp (congrArg₂ (· - ·) ((select_live (K := kk.val + 1) (n := 0) (by omega) (by decide) a c _ _).trans ?_) (hl a))
  rw [IdealRules.named_const.ideal_named_scalar _ _ _ _ rfl]
  simp only [hq, hk, ← EReal.coe_mul, sum_coe]
  rfl

end Pay

end Cert.Proof.AttnBwdPay
-- ==== Proof.AttnBwdVal.lean ====
module

public import proofs.«01_k».proof.Proof.AttnFwdVal
public import proofs.«01_k».proof.Proof.AttnBwdPay
public import Idealize.ShloMosaic.Lib.WritesUnit

@[expose] public section

/-! # What the backward attention kernel leaves

From real queries, keys, values and cotangents, and the forward pass's outputs and logarithms, the kernel leaves the gradients
of the queries, the keys and the values. -/

set_option maxRecDepth 16384

noncomputable section

namespace Cert.Proof.AttnBwdVal

open Cert.AttnKernelIdeal Cert.AttnKernelIdeal.Gen Cert.Proof.AttnLoops Cert.Proof.AttnMath Cert.Proof.AttnFwdPay Cert.Proof.AttnFwdVal
  Cert.Proof.AttnBwdPay Cert.Proof.Reals
open Idealize.ShloMosaic Idealize.SL.Sem

/-! ## The loops' trips and offsets -/

theorem off1 (K : Fin k1_t1_loop.trips) : k1_off1 K = ![704 * K.val, 0] := by revert K; decide +kernel
theorem off2 (K : Fin k1_t1_loop.trips) : k1_off2 K = ![704 * K.val, 0] := by revert K; decide +kernel
theorem off3 (K : Fin k1_t2_loop.trips) : k1_off3 K = ![704 * K.val, 0] := by revert K; decide +kernel
theorem off4 (K : Fin k1_t2_loop.trips) : k1_off4 K = ![0, 704 * K.val, 0] := by revert K; decide +kernel
theorem off5 (K : Fin k1_t2_loop.trips) : k1_off5 K = ![704 * K.val, 0] := by revert K; decide +kernel
theorem off6 (K : Fin k1_t2_loop.trips) (n : Fin (k1_t3_loop K).trips) : k1_off6 K n = ![704 * (K.val + 1 + n.val), 0] := by
  revert n; revert K; decide +kernel
theorem off7 (K : Fin k1_t2_loop.trips) (n : Fin (k1_t3_loop K).trips) : k1_off7 K n = ![0, 704 * (K.val + 1 + n.val), 0] := by
  revert n; revert K; decide +kernel
theorem off8 (K : Fin k1_t2_loop.trips) (n : Fin (k1_t3_loop K).trips) : k1_off8 K n = ![704 * (K.val + 1 + n.val), 0] := by
  revert n; revert K; decide +kernel
theorem off12 (K : Fin k1_t2_loop.trips) (n : Fin (k1_t5_loop K).trips) : k1_off12 K n = ![704 * (K.val + 1 + n.val), 0] := by
  revert n; revert K; decide +kernel
theorem off13 (K : Fin k1_t2_loop.trips) (n : Fin (k1_t5_loop K).trips) : k1_off13 K n = ![0, 704 * (K.val + 1 + n.val), 0] := by
  revert n; revert K; decide +kernel
theorem off14 (K : Fin k1_t2_loop.trips) (n : Fin (k1_t5_loop K).trips) : k1_off14 K n = ![704 * (K.val + 1 + n.val), 0] := by
  revert n; revert K; decide +kernel
theorem front (K : Fin k1_t2_loop.trips) : k1_cond1 K = 1#1 →
    K.val = 0 ∧ K.val + 1 + (k1_t3_loop K).trips = 6 ∧ (k1_t4_loop K).trips = 0 := by revert K; decide +kernel
theorem rest (K : Fin k1_t2_loop.trips) : ¬k1_cond1 K = 1#1 →
    0 < K.val ∧ K.val + 1 + (k1_t5_loop K).trips = 6 ∧ (k1_t6_loop K).trips = 0 := by revert K; decide +kernel

section Body

variable (c : Dev nD) (i : grid1.Coords)
  (arg1 : Memref sig .tc .vmem S4224x128 .bf16) (harg1 : arg1.IsWhole)
  (arg2 : Memref sig .tc .vmem S4224x128 .bf16) (harg2 : arg2.IsWhole)
  (arg3 : Memref sig .tc .vmem S4224x128 .bf16) (harg3 : arg3.IsWhole)
  (arg4 : Memref sig .tc .vmem S4224x128 .f32) (harg4 : arg4.IsWhole)
  (arg5 : Memref sig .tc .vmem S1x4224x1 .f32) (harg5 : arg5.IsWhole)
  (arg6 : Memref sig .tc .vmem S4224x128 .f32) (harg6 : arg6.IsWhole)
  (arg7 : Memref sig .tc .vmem S4224x128 .f32) (harg7 : arg7.IsWhole)
  (arg8 : Memref sig .tc .vmem S4224x128 .f32) (harg8 : arg8.IsWhole)
  (arg9 : Memref sig .tc .vmem S4224x128 .f32) (harg9 : arg9.IsWhole)
  (arg10 : Memref sig .tc .vmem S4224x1 .f32) (harg10 : arg10.IsWhole)
  (x1 x2 x3 : Vec Ideal S4224x128 .bf16) (x5 : Vec Ideal S1x4224x1 .f32) (x6 : Vec Ideal S4224x128 .f32) (xD : Vec Ideal S4224x1 .f32)
  (q k v g : Fin 4224 → Fin 128 → ℝ)

/-- A value at the kernel's operands. -/
local notation "refs[" f "]" => f arg1 harg1 arg2 harg2 arg3 harg3 arg4 harg4 arg5 harg5 arg6 harg6 arg7 harg7 arg8 harg8 arg9 harg9 arg10 harg10

/-! ## The accumulated gradient of the queries -/

/-- The contents of the gradient of the queries, as an array. -/
abbrev rd (f : BufTy.Contents (Elt Ideal) arg7.view.ty) : Fin 4224 → Fin 128 → EReal :=
  fun r d => View.read (Elt Ideal) arg7.view f (ix2 r d)

theorem load_rd (f : BufTy.Contents (Elt Ideal) arg7.view.ty) (off : Fin S4224x128.rank → ℕ)
    (inb : ∀ a, off a + S704x128.size a ≤ S4224x128.size a) {n : ℕ} (hn : n < 6) (hoff : off = ![704 * n, 0]) (a : Fin 704) (d : Fin 128) :
    View.readAt (Elt Ideal) arg7.view (Rect.unit (s := S4224x128) off S704x128.size inb).toLoadRect f (ix2 a d) = rd arg7 f (at_ n a) d := by
  subst hoff
  rw [View.readAt_eq_ld]
  have e : at_ n a = ⟨704 * n + a.val, by have := a.isLt; omega⟩ := Fin.ext (at_val hn a)
  unfold rd
  rw [e]
  open Pointwise in pointwise []

theorem rd_write (f : BufTy.Contents (Elt Ideal) arg7.view.ty) (off : Fin S4224x128.rank → ℕ)
    (inb : ∀ a, off a + S704x128.size a ≤ S4224x128.size a) {n : ℕ} (hn : n < 6) (hoff : off = ![704 * n, 0])
    (w : S704x128.Idx → Elt Ideal .f32) :
    (∀ a d, rd arg7 (arg7.view.writes (Elt Ideal) f [⟨Rect.unit (s := S4224x128) off S704x128.size inb, w⟩]) (at_ n a) d = w (ix2 a d))
      ∧ ∀ r d, r.val / 704 ≠ n → rd arg7 (arg7.view.writes (Elt Ideal) f [⟨Rect.unit (s := S4224x128) off S704x128.size inb, w⟩]) r d = rd arg7 f r d := by
  refine ⟨fun a d => ?_, fun r d hr => ?_⟩
  · exact View.read_writes_cons_rows_of_mem (Val := Elt Ideal) arg7.view f inb w [] (ix2 (at_ n a) d) (ix2 a d) hoff (at_val hn a) rfl
  · refine (View.read_writes_cons_rows_of_not_mem (Val := Elt Ideal) (W := 704) arg7.view f inb w [] (ix2 r d) hoff rfl ?_).trans rfl
    show r.val < 704 * n ∨ 704 * n + 704 ≤ r.val
    omega

/-- A probability times its bracket is the gradient of the score. -/
theorem ds_coe (r j : Fin 4224) : ((pr q k r j : ℝ) : EReal) * (∑ x, ((g r x : ℝ) : EReal) * ((v j x : ℝ) : EReal) - ((dl q k v g r : ℝ) : EReal))
    = ((ds q k v g r j : ℝ) : EReal) := by
  simp only [← EReal.coe_mul, sum_coe, ← EReal.coe_sub]
  rfl

/-- One block of rows: the write it makes and the two carried gradients. -/
theorem row_step {K n : ℕ} (hn : n < 6) (f : BufTy.Contents (Elt Ideal) arg7.view.ty) {bk bv bk' bv' : Fin 704 → Fin 128 → EReal}
    (h : Inv q k v g K n (rd arg7 f) bk bv) (off : Fin S4224x128.rank → ℕ)
    (inb : ∀ a, off a + S704x128.size a ≤ S4224x128.size a) (hoff : off = ![704 * n, 0]) (w : S704x128.Idx → Elt Ideal .f32)
    (hw : ∀ a d, w (ix2 a d) = rd arg7 f (at_ n a) d
      + ∑ c : Fin 704, ((ds q k v g (at_ n a) (at_ K c) : ℝ) : EReal) * ((k (at_ K c) d : ℝ) : EReal))
    (hk' : ∀ a d, bk' a d = bk a d + ∑ c : Fin 704, ((ds q k v g (at_ n c) (at_ K a) : ℝ) : EReal) * ((q (at_ n c) d : ℝ) : EReal))
    (hv' : ∀ a d, bv' a d = bv a d + ∑ c : Fin 704, ((pr q k (at_ n c) (at_ K a) : ℝ) : EReal) * ((g (at_ n c) d : ℝ) : EReal)) :
    Inv q k v g K (n + 1) (rd arg7 (arg7.view.writes (Elt Ideal) f [⟨Rect.unit (s := S4224x128) off S704x128.size inb, w⟩])) bk' bv' :=
  have hr := rd_write arg7 f off inb hn hoff w
  h.step hn (fun a d => (hr.1 a d).trans (hw a d)) hr.2 hk' hv'

/-! ## A trip's blocks -/

/-- A block of rows of the keys, the queries, the cotangent, the logarithms and the sums. -/
abbrev kB (K : Fin k1_t2_loop.trips) : Vec Ideal S704x128 .bf16 := ld arg2 harg2 x2 (k1_off3 K) (k1_off3_inb K)
abbrev vB (K : Fin k1_t2_loop.trips) : Vec Ideal S704x128 .bf16 := ld arg3 harg3 x3 (k1_off3 K) (k1_off3_inb K)
abbrev qB (K : Fin k1_t2_loop.trips) : Vec Ideal S704x128 .bf16 := ld arg1 harg1 x1 (k1_off3 K) (k1_off3_inb K)

abbrev ldf (off : Fin S4224x128.rank → ℕ) (inb : ∀ a, off a + S704x128.size a ≤ S4224x128.size a) : Vec Ideal S704x128 .f32 :=
  View.readAt (Elt Ideal) arg6.view (Rect.unit (s := S4224x128) off S704x128.size inb).toLoadRect (harg6.unread x6)
abbrev ldl (off : Fin S1x4224x1.rank → ℕ) (inb : ∀ a, off a + S1x704x1.size a ≤ S1x4224x1.size a) : Vec Ideal S1x704x1 .f32 :=
  View.readAt (Elt Ideal) arg5.view (Rect.unit (s := S1x4224x1) off S1x704x1.size inb).toLoadRect (harg5.unread x5)
abbrev ldD (off : Fin S4224x1.rank → ℕ) (inb : ∀ a, off a + S704x1.size a ≤ S4224x1.size a) : Vec Ideal S704x1 .f32 :=
  View.readAt (Elt Ideal) arg10.view (Rect.unit (s := S4224x1) off S704x1.size inb).toLoadRect (harg10.unread xD)

/-- The probabilities of the block on the diagonal. -/
abbrev p0 (K : Fin k1_t2_loop.trips) : FVec Ideal S704x704 .f32 :=
  k1_pay41 (F := Ideal) 0#32 1#32 K (kB arg2 harg2 x2 K) (qB arg1 harg1 x1 K) (ldl arg5 harg5 x5 (k1_off4 K) (k1_off4_inb K))

/-- The write of the block on the diagonal. -/
abbrev w0 (K : Fin k1_t2_loop.trips) (f7 : BufTy.Contents (Elt Ideal) arg7.view.ty) : Vec Ideal S704x128 .f32 :=
  k1_pay5 (k1_pay36 (kB arg2 harg2 x2 K)) (k1_pay37 (vB arg3 harg3 x3 K)) (k1_pay40 (ldf arg6 harg6 x6 (k1_off3 K) (k1_off3_inb K)))
    (p0 arg1 harg1 arg2 harg2 arg5 harg5 x1 x2 x5 K) zeros (ldD arg10 harg10 xD (k1_off5 K) (k1_off5_inb K))
    (View.readAt (Elt Ideal) arg7.view (Rect.unit (s := S4224x128) (k1_off3 K) S704x128.size (k1_off3_inb K)).toLoadRect f7)

/-- The gradient of the queries after the block on the diagonal. -/
abbrev f0 (K : Fin k1_t2_loop.trips) (f7 : BufTy.Contents (Elt Ideal) arg7.view.ty) : BufTy.Contents (Elt Ideal) arg7.view.ty :=
  arg7.view.writes (Elt Ideal) f7 [⟨Rect.unit (s := S4224x128) (k1_off3 K) S704x128.size (k1_off3_inb K), w0 arg1 harg1 arg2 harg2 arg3 harg3 arg5 harg5 arg6 harg6 arg7 arg10 harg10 x1 x2 x3 x5 x6 xD K f7⟩]

/-- The two carried gradients. -/
abbrev Pr := FVec Ideal S704x128 .f32 × FVec Ideal S704x128 .f32

/-- The two carried gradients after the block on the diagonal. -/
abbrev s0 (K : Fin k1_t2_loop.trips) : Pr :=
  (k1_pay4 (k1_pay37 (vB arg3 harg3 x3 K)) k1_pay38 (k1_pay39 (qB arg1 harg1 x1 K)) (k1_pay40 (ldf arg6 harg6 x6 (k1_off3 K) (k1_off3_inb K)))
     (p0 arg1 harg1 arg2 harg2 arg5 harg5 x1 x2 x5 K) zeros (ldD arg10 harg10 xD (k1_off5 K) (k1_off5_inb K)),
   k1_pay42 (F := Ideal) 0#32 1#32 K (kB arg2 harg2 x2 K) (qB arg1 harg1 x1 K) (ldf arg6 harg6 x6 (k1_off3 K) (k1_off3_inb K))
     (ldl arg5 harg5 x5 (k1_off4 K) (k1_off4_inb K)))

/-- What the gradient of the queries and the two carried gradients say. -/
abbrev Good (K n : ℕ) (f : BufTy.Contents (Elt Ideal) arg7.view.ty) (t : Pr) : Prop :=
  Inv q k v g K n (rd arg7 f) (fun a d => t.1 (ix2 a d)) (fun a d => t.2 (ix2 a d))

/-- The words a loop of the first trip takes. -/
abbrev base (K : Fin k1_t2_loop.trips) : BitVec 32 := Scalar.muli (Scf.iv 0#32 1#32 K.val) 704#32
abbrev next (K : Fin k1_t2_loop.trips) : BitVec 32 := Scalar.addi (Scf.iv 0#32 1#32 K.val) 1#32
/-- The state of the masked loop, of its remainder, of the unmasked loop, and of its remainder. -/
abbrev st3 (K : Fin k1_t2_loop.trips) (h : k1_cond1 K = 1#1) (f7 : BufTy.Contents (Elt Ideal) arg7.view.ty) (n : ℕ) :=
  refs[st_k1_t3 (F := Ideal) Variants.none c none i] K (base K) (k1_pay36 (kB arg2 harg2 x2 K)) (k1_pay37 (vB arg3 harg3 x3 K)) h (next K)
    (harg1.unread x1) (harg5.unread x5) (harg6.unread x6) (harg10.unread xD) (f0 arg1 harg1 arg2 harg2 arg3 harg3 arg5 harg5 arg6 harg6 arg7 arg10 harg10 x1 x2 x3 x5 x6 xD K f7) (s0 arg1 harg1 arg2 harg2 arg3 harg3 arg5 harg5 arg6 harg6 arg10 harg10 x1 x2 x3 x5 x6 xD K) n
abbrev st4 (K : Fin k1_t2_loop.trips) (h : k1_cond1 K = 1#1) (f7 : BufTy.Contents (Elt Ideal) arg7.view.ty) :=
  refs[st_k1_t4 (F := Ideal) Variants.none c none i] K (base K) (k1_pay36 (kB arg2 harg2 x2 K)) (k1_pay37 (vB arg3 harg3 x3 K)) h 6#32
    (harg1.unread x1) (harg5.unread x5) (harg6.unread x6) (harg10.unread xD)
    (arg7.view.writes (Elt Ideal) f7 ((refs[st3 c i] x1 x2 x3 x5 x6 xD K h f7 (k1_t3_loop K).trips).2
      ++ [⟨Rect.unit (s := S4224x128) (k1_off3 K) S704x128.size (k1_off3_inb K), w0 arg1 harg1 arg2 harg2 arg3 harg3 arg5 harg5 arg6 harg6 arg7 arg10 harg10 x1 x2 x3 x5 x6 xD K f7⟩]))
    ((refs[st3 c i] x1 x2 x3 x5 x6 xD K h f7 (k1_t3_loop K).trips).1.1, (refs[st3 c i] x1 x2 x3 x5 x6 xD K h f7 (k1_t3_loop K).trips).1.2) (k1_t4_loop K).trips
abbrev st5 (K : Fin k1_t2_loop.trips) (h : ¬k1_cond1 K = 1#1) (f7 : BufTy.Contents (Elt Ideal) arg7.view.ty) (n : ℕ) :=
  refs[st_k1_t5 (F := Ideal) Variants.none c none i] K (k1_pay36 (kB arg2 harg2 x2 K)) (k1_pay37 (vB arg3 harg3 x3 K)) h
    (harg1.unread x1) (harg5.unread x5) (harg6.unread x6) (harg10.unread xD) (f0 arg1 harg1 arg2 harg2 arg3 harg3 arg5 harg5 arg6 harg6 arg7 arg10 harg10 x1 x2 x3 x5 x6 xD K f7) (s0 arg1 harg1 arg2 harg2 arg3 harg3 arg5 harg5 arg6 harg6 arg10 harg10 x1 x2 x3 x5 x6 xD K) n
abbrev st6 (K : Fin k1_t2_loop.trips) (h : ¬k1_cond1 K = 1#1) (f7 : BufTy.Contents (Elt Ideal) arg7.view.ty) :=
  refs[st_k1_t6 (F := Ideal) Variants.none c none i] K (k1_pay36 (kB arg2 harg2 x2 K)) (k1_pay37 (vB arg3 harg3 x3 K)) h
    (harg1.unread x1) (harg5.unread x5) (harg6.unread x6) (harg10.unread xD)
    (arg7.view.writes (Elt Ideal) f7 ((refs[st5 c i] x1 x2 x3 x5 x6 xD K h f7 (k1_t5_loop K).trips).2
      ++ [⟨Rect.unit (s := S4224x128) (k1_off3 K) S704x128.size (k1_off3_inb K), w0 arg1 harg1 arg2 harg2 arg3 harg3 arg5 harg5 arg6 harg6 arg7 arg10 harg10 x1 x2 x3 x5 x6 xD K f7⟩]))
    ((refs[st5 c i] x1 x2 x3 x5 x6 xD K h f7 (k1_t5_loop K).trips).1.1, (refs[st5 c i] x1 x2 x3 x5 x6 xD K h f7 (k1_t5_loop K).trips).1.2) (k1_t6_loop K).trips

/-- A trip's pieces, from its loops' last state. -/
theorem front_pieces (K : Fin k1_t2_loop.trips) (h : k1_cond1 K = 1#1) (f7 : BufTy.Contents (Elt Ideal) arg7.view.ty) :
    (refs[tripFront c i] (harg1.unread x1) (harg2.unread x2) (harg3.unread x3) (harg5.unread x5) (harg6.unread x6) (harg10.unread xD) K h).1 f7 = (refs[st4 c i] x1 x2 x3 x5 x6 xD K h f7).2 ++ ((refs[st3 c i] x1 x2 x3 x5 x6 xD K h f7 (k1_t3_loop K).trips).2
        ++ [⟨Rect.unit (s := S4224x128) (k1_off3 K) S704x128.size (k1_off3_inb K), w0 arg1 harg1 arg2 harg2 arg3 harg3 arg5 harg5 arg6 harg6 arg7 arg10 harg10 x1 x2 x3 x5 x6 xD K f7⟩])
      ∧ (refs[tripFront c i] (harg1.unread x1) (harg2.unread x2) (harg3.unread x3) (harg5.unread x5) (harg6.unread x6) (harg10.unread xD) K h).2.1 f7 = [⟨Rect.unit (s := S4224x128) (k1_off3 K) S704x128.size (k1_off3_inb K), (refs[st4 c i] x1 x2 x3 x5 x6 xD K h f7).1.1⟩]
      ∧ (refs[tripFront c i] (harg1.unread x1) (harg2.unread x2) (harg3.unread x3) (harg5.unread x5) (harg6.unread x6) (harg10.unread xD) K h).2.2.1 f7 = [⟨Rect.unit (s := S4224x128) (k1_off3 K) S704x128.size (k1_off3_inb K), (refs[st4 c i] x1 x2 x3 x5 x6 xD K h f7).1.2⟩] := by
  unfold tripFront
  dsimp only [tripFront.sl.v2, tripFront.sl.arg11, tripFront.sl.r, tripFront.sl.r_1, tripFront.sl.r_2, tripFront.sl.r_3, tripFront.sl.r_4, tripFront.sl.r_5, tripFront.sl.cst_15, tripFront.sl.v70]
  refine ⟨?_, ?_, ?_⟩
  · congr 1
  · exact congrArg (fun z : Pr × Pcs Ideal => ([⟨Rect.unit (s := S4224x128) (k1_off3 K) S704x128.size (k1_off3_inb K), z.1.1⟩] : Pcs Ideal))
      (a₂ := refs[st4 c i] x1 x2 x3 x5 x6 xD K h f7) (by congr 1)
  · exact congrArg (fun z : Pr × Pcs Ideal => ([⟨Rect.unit (s := S4224x128) (k1_off3 K) S704x128.size (k1_off3_inb K), z.1.2⟩] : Pcs Ideal))
      (a₂ := refs[st4 c i] x1 x2 x3 x5 x6 xD K h f7) (by congr 1)

theorem rest_pieces (K : Fin k1_t2_loop.trips) (h : ¬k1_cond1 K = 1#1) (f7 : BufTy.Contents (Elt Ideal) arg7.view.ty) :
    (refs[tripRest c i] (harg1.unread x1) (harg2.unread x2) (harg3.unread x3) (harg5.unread x5) (harg6.unread x6) (harg10.unread xD) K h).1 f7 = (refs[st6 c i] x1 x2 x3 x5 x6 xD K h f7).2 ++ ((refs[st5 c i] x1 x2 x3 x5 x6 xD K h f7 (k1_t5_loop K).trips).2
        ++ [⟨Rect.unit (s := S4224x128) (k1_off3 K) S704x128.size (k1_off3_inb K), w0 arg1 harg1 arg2 harg2 arg3 harg3 arg5 harg5 arg6 harg6 arg7 arg10 harg10 x1 x2 x3 x5 x6 xD K f7⟩])
      ∧ (refs[tripRest c i] (harg1.unread x1) (harg2.unread x2) (harg3.unread x3) (harg5.unread x5) (harg6.unread x6) (harg10.unread xD) K h).2.1 f7 = [⟨Rect.unit (s := S4224x128) (k1_off3 K) S704x128.size (k1_off3_inb K), (refs[st6 c i] x1 x2 x3 x5 x6 xD K h f7).1.1⟩]
      ∧ (refs[tripRest c i] (harg1.unread x1) (harg2.unread x2) (harg3.unread x3) (harg5.unread x5) (harg6.unread x6) (harg10.unread xD) K h).2.2.1 f7 = [⟨Rect.unit (s := S4224x128) (k1_off3 K) S704x128.size (k1_off3_inb K), (refs[st6 c i] x1 x2 x3 x5 x6 xD K h f7).1.2⟩] := by
  unfold tripRest
  dsimp only [tripRest.sl.arg11, tripRest.sl.r, tripRest.sl.r_1, tripRest.sl.r_2, tripRest.sl.r_3, tripRest.sl.r_4, tripRest.sl.r_5, tripRest.sl.cst_15]
  refine ⟨?_, ?_, ?_⟩
  · congr 1
  · exact congrArg (fun z : Pr × Pcs Ideal => ([⟨Rect.unit (s := S4224x128) (k1_off3 K) S704x128.size (k1_off3_inb K), z.1.1⟩] : Pcs Ideal))
      (a₂ := refs[st6 c i] x1 x2 x3 x5 x6 xD K h f7) (by congr 1)
  · exact congrArg (fun z : Pr × Pcs Ideal => ([⟨Rect.unit (s := S4224x128) (k1_off3 K) S704x128.size (k1_off3_inb K), z.1.2⟩] : Pcs Ideal))
      (a₂ := refs[st6 c i] x1 x2 x3 x5 x6 xD K h f7) (by congr 1)

/-- The operands hold real numbers, the forward pass's logarithms and the rows' sums. -/
structure Data : Prop where
  hq : ∀ r x, x1 (ix2 r x) = ((q r x : ℝ) : EReal)
  hk : ∀ r x, x2 (ix2 r x) = ((k r x : ℝ) : EReal)
  hv : ∀ r x, x3 (ix2 r x) = ((v r x : ℝ) : EReal)
  hl : ∀ r, x5 (ix3 0 r 0) = lse q k r
  hg : ∀ r x, x6 (ix2 r x) = ((g r x : ℝ) : EReal)
  hD : ∀ r, xD (ix2 r 0) = ((dl q k v g r : ℝ) : EReal)

variable {x1 x2 x3 x5 x6 xD q k v g} (H : Data x1 x2 x3 x5 x6 xD q k v g)

include H

theorem kB_real (K : Fin k1_t2_loop.trips) (a : Fin 704) (x : Fin 128) :
    k1_pay36 (kB arg2 harg2 x2 K) (ix2 a x) = ((k (at_ K.val a) x : ℝ) : EReal) :=
  (pay36_at _ a x).trans ((load_rows arg2 harg2 x2 _ _ K.isLt (off3 K) a x).trans (H.hk _ _))

theorem vB_real (K : Fin k1_t2_loop.trips) (a : Fin 704) (x : Fin 128) :
    k1_pay37 (vB arg3 harg3 x3 K) (ix2 a x) = ((v (at_ K.val a) x : ℝ) : EReal) :=
  (pay37_at _ a x).trans ((load_rows arg3 harg3 x3 _ _ K.isLt (off3 K) a x).trans (H.hv _ _))

theorem ldq_real {n : ℕ} (hn : n < 6) (off : Fin S4224x128.rank → ℕ) (inb : ∀ a, off a + S704x128.size a ≤ S4224x128.size a)
    (ho : off = ![704 * n, 0]) (a : Fin 704) (x : Fin 128) : ld arg1 harg1 x1 off inb (ix2 a x) = ((q (at_ n a) x : ℝ) : EReal) :=
  (load_rows arg1 harg1 x1 _ _ hn ho a x).trans (H.hq _ _)

theorem ldg_real {n : ℕ} (hn : n < 6) (off : Fin S4224x128.rank → ℕ) (inb : ∀ a, off a + S704x128.size a ≤ S4224x128.size a)
    (ho : off = ![704 * n, 0]) (a : Fin 704) (x : Fin 128) : ldf arg6 harg6 x6 off inb (ix2 a x) = ((g (at_ n a) x : ℝ) : EReal) :=
  (load_rows arg6 harg6 x6 _ _ hn ho a x).trans (H.hg _ _)

theorem ldl_real {n : ℕ} (hn : n < 6) (off : Fin S1x4224x1.rank → ℕ) (inb : ∀ a, off a + S1x704x1.size a ≤ S1x4224x1.size a)
    (ho : off = ![0, 704 * n, 0]) (a : Fin 704) : ldl arg5 harg5 x5 off inb (ix3 0 a 0) = lse q k (at_ n a) :=
  (load_lse arg5 harg5 x5 _ _ hn ho a).trans (H.hl _)

theorem ldD_real {n : ℕ} (hn : n < 6) (off : Fin S4224x1.rank → ℕ) (inb : ∀ a, off a + S704x1.size a ≤ S4224x1.size a)
    (ho : off = ![704 * n, 0]) (a : Fin 704) : ldD arg10 harg10 xD off inb (ix2 a 0) = ((dl q k v g (at_ n a) : ℝ) : EReal) :=
  (load_col arg10 harg10 xD _ _ hn ho a).trans (H.hD _)

/-- The block on the diagonal. -/
theorem diag_good (K : Fin k1_t2_loop.trips) (f7 : BufTy.Contents (Elt Ideal) arg7.view.ty)
    (hA : ∀ r d, rd arg7 f7 r d = ((∑ m ∈ Finset.range K.val, blk (fun j => ds q k v g r j * k j d) m : ℝ) : EReal)) :
    Good arg7 q k v g K.val (K.val + 1) (f0 arg1 harg1 arg2 harg2 arg3 harg3 arg5 harg5 arg6 harg6 arg7 arg10 harg10 x1 x2 x3 x5 x6 xD K f7) (s0 arg1 harg1 arg2 harg2 arg3 harg3 arg5 harg5 arg6 harg6 arg10 harg10 x1 x2 x3 x5 x6 xD K) := by
  have hK : K.val < 6 := K.isLt
  have lq := ldq_real arg1 harg1 H hK _ (k1_off3_inb K) (off3 K)
  have lg := ldg_real arg6 harg6 H hK _ (k1_off3_inb K) (off3 K)
  have lD := ldD_real arg10 harg10 H hK _ (k1_off5_inb K) (off5 K)
  have ll := ldl_real arg5 harg5 H hK _ (k1_off4_inb K) (off4 K)
  have hp : ∀ a c, p0 arg1 harg1 arg2 harg2 arg5 harg5 x1 x2 x5 K (ix2 a c) = ((pr q k (at_ K.val a) (at_ K.val c) : ℝ) : EReal) :=
    pay41_real _ _ _ K q k lq (fun a x => (pay36_at _ a x).symm.trans (kB_real arg2 harg2 H K a x)) ll
  have hs : ∀ a c, k1_pay3 (k1_pay37 (vB arg3 harg3 x3 K)) (k1_pay40 (ldf arg6 harg6 x6 (k1_off3 K) (k1_off3_inb K)))
      (p0 arg1 harg1 arg2 harg2 arg5 harg5 x1 x2 x5 K) zeros (ldD arg10 harg10 xD (k1_off5 K) (k1_off5_inb K)) (ix2 a c)
        = ((ds q k v g (at_ K.val a) (at_ K.val c) : ℝ) : EReal) := fun a c => by
    refine (pay3_at _ _ _ _ a c).trans ?_
    simp only [pay40_at, lg, vB_real arg3 harg3 H K, hp, lD, ds_coe]
  refine row_step arg7 q k v g hK f7 (Inv.start hK hA) _ _ (off3 K) _ (fun a d => ?_) (fun a d => ?_) (fun a d => ?_)
  · refine (pay5_at _ _ _ _ _ _ a d).trans ?_
    simp only [load_rd arg7 f7 _ (k1_off3_inb K) hK (off3 K), hs, kB_real arg2 harg2 H K]
  · refine (pay4_at _ _ _ _ _ _ a d).trans ?_
    simp only [pay38_at, hs, pay39_at, lq]
  · refine (pay42_at _ _ _ _ K a d).trans ?_
    simp only [hp, lg]

theorem loop3_good (K : Fin k1_t2_loop.trips) (h : k1_cond1 K = 1#1) (f7 : BufTy.Contents (Elt Ideal) arg7.view.ty)
    (h0 : Good arg7 q k v g K.val (K.val + 1) (f0 arg1 harg1 arg2 harg2 arg3 harg3 arg5 harg5 arg6 harg6 arg7 arg10 harg10 x1 x2 x3 x5 x6 xD K f7) (s0 arg1 harg1 arg2 harg2 arg3 harg3 arg5 harg5 arg6 harg6 arg10 harg10 x1 x2 x3 x5 x6 xD K)) (n : ℕ) (hn : n ≤ (k1_t3_loop K).trips) :
    Good arg7 q k v g K.val (K.val + 1 + n) (arg7.view.writes (Elt Ideal) (f0 arg1 harg1 arg2 harg2 arg3 harg3 arg5 harg5 arg6 harg6 arg7 arg10 harg10 x1 x2 x3 x5 x6 xD K f7) (refs[st3 c i] x1 x2 x3 x5 x6 xD K h f7 n).2) (refs[st3 c i] x1 x2 x3 x5 x6 xD K h f7 n).1 := by
  have hK : K.val < 6 := K.isLt
  have ht := front K h
  induction n with
  | zero => exact h0
  | succ n ih =>
    have hi := ih (by omega)
    let N : Fin (k1_t3_loop K).trips := ⟨n, hn⟩
    have h6 : K.val + 1 + n < 6 := by omega
    let f := arg7.view.writes (Elt Ideal) (f0 arg1 harg1 arg2 harg2 arg3 harg3 arg5 harg5 arg6 harg6 arg7 arg10 harg10 x1 x2 x3 x5 x6 xD K f7) (refs[st3 c i] x1 x2 x3 x5 x6 xD K h f7 n).2
    have lq := ldq_real arg1 harg1 H h6 _ (k1_off6_inb K N h) (off6 K N)
    have lg := ldg_real arg6 harg6 H h6 _ (k1_off6_inb K N h) (off6 K N)
    have lD := ldD_real arg10 harg10 H h6 _ (k1_off8_inb K N h) (off8 K N)
    have ll := ldl_real arg5 harg5 H h6 _ (k1_off7_inb K N h) (off7 K N)
    have e : refs[st3 c i] x1 x2 x3 x5 x6 xD K h f7 (n + 1)
        = ((k1_pay27 (F := Ideal) K (base K) (k1_pay36 (kB arg2 harg2 x2 K)) (k1_pay37 (vB arg3 harg3 x3 K)) (next K) 1#32 N (refs[st3 c i] x1 x2 x3 x5 x6 xD K h f7 n).1.1 (ld arg1 harg1 x1 (k1_off6 K N) (k1_off6_inb K N h)) (ldf arg6 harg6 x6 (k1_off6 K N) (k1_off6_inb K N h)) (ldl arg5 harg5 x5 (k1_off7 K N) (k1_off7_inb K N h)) (ldD arg10 harg10 xD (k1_off8 K N) (k1_off8_inb K N h)),
            k1_pay25 (F := Ideal) K (base K) (k1_pay36 (kB arg2 harg2 x2 K)) (next K) 1#32 N (refs[st3 c i] x1 x2 x3 x5 x6 xD K h f7 n).1.2 (ld arg1 harg1 x1 (k1_off6 K N) (k1_off6_inb K N h)) (ldf arg6 harg6 x6 (k1_off6 K N) (k1_off6_inb K N h)) (ldl arg5 harg5 x5 (k1_off7 K N) (k1_off7_inb K N h))),
           [⟨Rect.unit (s := S4224x128) (k1_off6 K N) S704x128.size (k1_off6_inb K N h), k1_pay6 (k1_pay36 (kB arg2 harg2 x2 K)) (k1_pay26 (F := Ideal) K (base K) (k1_pay36 (kB arg2 harg2 x2 K)) (k1_pay37 (vB arg3 harg3 x3 K)) (next K) 1#32 N (ld arg1 harg1 x1 (k1_off6 K N) (k1_off6_inb K N h)) (ldf arg6 harg6 x6 (k1_off6 K N) (k1_off6_inb K N h)) (ldl arg5 harg5 x5 (k1_off7 K N) (k1_off7_inb K N h)) (ldD arg10 harg10 xD (k1_off8 K N) (k1_off8_inb K N h))) (k1_pay28 (View.readAt (Elt Ideal) arg7.view (Rect.unit (s := S4224x128) (k1_off6 K N) S704x128.size (k1_off6_inb K N h)).toLoadRect f))⟩] ++ (refs[st3 c i] x1 x2 x3 x5 x6 xD K h f7 n).2) := by
      refine (refs[st_k1_t3_succ (F := Ideal) Variants.none c none i] K (base K) (k1_pay36 (kB arg2 harg2 x2 K)) (k1_pay37 (vB arg3 harg3 x3 K)) h (next K) (harg1.unread x1) (harg5.unread x5)
        (harg6.unread x6) (harg10.unread xD) (f0 arg1 harg1 arg2 harg2 arg3 harg3 arg5 harg5 arg6 harg6 arg7 arg10 harg10 x1 x2 x3 x5 x6 xD K f7) (s0 arg1 harg1 arg2 harg2 arg3 harg3 arg5 harg5 arg6 harg6 arg10 harg10 x1 x2 x3 x5 x6 xD K) N).trans ?_
      unfold tripR_k1_t3 tripL_k1_t3 trip_k1_t3
      rfl
    rw [e]
    dsimp only
    rw [View.writes_append]
    have hK0 : K.val = 0 := ht.1
    have en : n + 1 = K.val + 1 + n := by omega
    have hp : ∀ a c, k1_pay24 (F := Ideal) K (base K) (k1_pay36 (kB arg2 harg2 x2 K)) (next K) 1#32 N (ld arg1 harg1 x1 (k1_off6 K N) (k1_off6_inb K N h)) (ldl arg5 harg5 x5 (k1_off7 K N) (k1_off7_inb K N h)) (ix2 a c)
        = ((pr q k (at_ (K.val + 1 + n) a) (at_ K.val c) : ℝ) : EReal) := fun a c => by
      have := pay24_real (k1_pay36 (kB arg2 harg2 x2 K)) (ld arg1 harg1 x1 (k1_off6 K N) (k1_off6_inb K N h)) (ldl arg5 harg5 x5 (k1_off7 K N) (k1_off7_inb K N h)) K N (base K) (next K) 1#32 q k (by unfold base; rw [hK0]; rfl) (by unfold next; rw [hK0]; rfl) rfl
        (show n < 5 by omega) (fun a x => (lq a x).trans (by show _ = ((q (at_ (n + 1) a) x : ℝ) : EReal); rw [en]))
        (fun a x => (kB_real arg2 harg2 H K a x).trans (by rw [hK0]))
        (fun a => (ll a).trans (by show _ = lse q k (at_ (n + 1) a); rw [en])) a c
      refine this.trans ?_
      show ((pr q k (at_ (n + 1) a) (at_ 0 c) : ℝ) : EReal) = _
      rw [en, hK0]
    have hs : ∀ a c, k1_pay26 (F := Ideal) K (base K) (k1_pay36 (kB arg2 harg2 x2 K)) (k1_pay37 (vB arg3 harg3 x3 K)) (next K) 1#32 N (ld arg1 harg1 x1 (k1_off6 K N) (k1_off6_inb K N h)) (ldf arg6 harg6 x6 (k1_off6 K N) (k1_off6_inb K N h)) (ldl arg5 harg5 x5 (k1_off7 K N) (k1_off7_inb K N h)) (ldD arg10 harg10 xD (k1_off8 K N) (k1_off8_inb K N h)) (ix2 a c)
        = ((ds q k v g (at_ (K.val + 1 + n) a) (at_ K.val c) : ℝ) : EReal) := fun a c => by
      refine (pay26_at _ _ _ _ _ _ K N _ _ _ a c).trans ?_
      simp only [lg, vB_real arg3 harg3 H K, hp, lD, ds_coe]
    refine row_step arg7 q k v g h6 f hi _ _ (off6 K N) _ (fun a d => ?_) (fun a d => ?_) (fun a d => ?_)
    · refine (pay6_at _ _ _ a d).trans ?_
      simp only [AttnBwdPay.pay28_at, load_rd arg7 f _ (k1_off6_inb K N h) h6 (off6 K N), hs, kB_real arg2 harg2 H K]
    · refine (pay27_at _ _ _ _ _ _ _ K N _ _ _ a d).trans ?_
      simp only [hs, lq]
    · refine (pay25_at _ _ _ _ _ K N _ _ _ a d).trans ?_
      simp only [hp, lg]

theorem loop5_good (K : Fin k1_t2_loop.trips) (h : ¬k1_cond1 K = 1#1) (f7 : BufTy.Contents (Elt Ideal) arg7.view.ty)
    (h0 : Good arg7 q k v g K.val (K.val + 1) (f0 arg1 harg1 arg2 harg2 arg3 harg3 arg5 harg5 arg6 harg6 arg7 arg10 harg10 x1 x2 x3 x5 x6 xD K f7) (s0 arg1 harg1 arg2 harg2 arg3 harg3 arg5 harg5 arg6 harg6 arg10 harg10 x1 x2 x3 x5 x6 xD K)) (n : ℕ) (hn : n ≤ (k1_t5_loop K).trips) :
    Good arg7 q k v g K.val (K.val + 1 + n) (arg7.view.writes (Elt Ideal) (f0 arg1 harg1 arg2 harg2 arg3 harg3 arg5 harg5 arg6 harg6 arg7 arg10 harg10 x1 x2 x3 x5 x6 xD K f7) (refs[st5 c i] x1 x2 x3 x5 x6 xD K h f7 n).2) (refs[st5 c i] x1 x2 x3 x5 x6 xD K h f7 n).1 := by
  have hK : K.val < 6 := K.isLt
  have ht := rest K h
  induction n with
  | zero => exact h0
  | succ n ih =>
    have hi := ih (by omega)
    let N : Fin (k1_t5_loop K).trips := ⟨n, hn⟩
    have h6 : K.val + 1 + n < 6 := by omega
    let f := arg7.view.writes (Elt Ideal) (f0 arg1 harg1 arg2 harg2 arg3 harg3 arg5 harg5 arg6 harg6 arg7 arg10 harg10 x1 x2 x3 x5 x6 xD K f7) (refs[st5 c i] x1 x2 x3 x5 x6 xD K h f7 n).2
    have lq := ldq_real arg1 harg1 H h6 _ (k1_off12_inb K N h) (off12 K N)
    have lg := ldg_real arg6 harg6 H h6 _ (k1_off12_inb K N h) (off12 K N)
    have lD := ldD_real arg10 harg10 H h6 _ (k1_off14_inb K N h) (off14 K N)
    have ll := ldl_real arg5 harg5 H h6 _ (k1_off13_inb K N h) (off13 K N)
    have e : refs[st5 c i] x1 x2 x3 x5 x6 xD K h f7 (n + 1)
        = ((k1_pay13 (k1_pay36 (kB arg2 harg2 x2 K)) (k1_pay37 (vB arg3 harg3 x3 K)) (refs[st5 c i] x1 x2 x3 x5 x6 xD K h f7 n).1.1 (ld arg1 harg1 x1 (k1_off12 K N) (k1_off12_inb K N h)) (ldf arg6 harg6 x6 (k1_off12 K N) (k1_off12_inb K N h)) (ldl arg5 harg5 x5 (k1_off13 K N) (k1_off13_inb K N h)) (ldD arg10 harg10 xD (k1_off14 K N) (k1_off14_inb K N h)),
            k1_pay11 (k1_pay36 (kB arg2 harg2 x2 K)) (refs[st5 c i] x1 x2 x3 x5 x6 xD K h f7 n).1.2 (ld arg1 harg1 x1 (k1_off12 K N) (k1_off12_inb K N h)) (ldf arg6 harg6 x6 (k1_off12 K N) (k1_off12_inb K N h)) (ldl arg5 harg5 x5 (k1_off13 K N) (k1_off13_inb K N h))),
           [⟨Rect.unit (s := S4224x128) (k1_off12 K N) S704x128.size (k1_off12_inb K N h), k1_pay14 (k1_pay36 (kB arg2 harg2 x2 K)) (k1_pay37 (vB arg3 harg3 x3 K)) (ld arg1 harg1 x1 (k1_off12 K N) (k1_off12_inb K N h)) (ldf arg6 harg6 x6 (k1_off12 K N) (k1_off12_inb K N h)) (ldl arg5 harg5 x5 (k1_off13 K N) (k1_off13_inb K N h)) (ldD arg10 harg10 xD (k1_off14 K N) (k1_off14_inb K N h)) (View.readAt (Elt Ideal) arg7.view (Rect.unit (s := S4224x128) (k1_off12 K N) S704x128.size (k1_off12_inb K N h)).toLoadRect f)⟩] ++ (refs[st5 c i] x1 x2 x3 x5 x6 xD K h f7 n).2) := by
      refine (refs[st_k1_t5_succ (F := Ideal) Variants.none c none i] K (k1_pay36 (kB arg2 harg2 x2 K)) (k1_pay37 (vB arg3 harg3 x3 K)) h (harg1.unread x1) (harg5.unread x5)
        (harg6.unread x6) (harg10.unread xD) (f0 arg1 harg1 arg2 harg2 arg3 harg3 arg5 harg5 arg6 harg6 arg7 arg10 harg10 x1 x2 x3 x5 x6 xD K f7) (s0 arg1 harg1 arg2 harg2 arg3 harg3 arg5 harg5 arg6 harg6 arg10 harg10 x1 x2 x3 x5 x6 xD K) N).trans ?_
      unfold tripR_k1_t5 tripL_k1_t5 trip_k1_t5
      rfl
    rw [e]
    dsimp only
    rw [View.writes_append]
    have hp : ∀ a c, k1_pay10 (k1_pay36 (kB arg2 harg2 x2 K)) (ld arg1 harg1 x1 (k1_off12 K N) (k1_off12_inb K N h)) (ldl arg5 harg5 x5 (k1_off13 K N) (k1_off13_inb K N h)) (ix2 a c) = ((pr q k (at_ (K.val + 1 + n) a) (at_ K.val c) : ℝ) : EReal) :=
      pay10_real _ _ _ q k ht.1 (by omega) h6 lq (kB_real arg2 harg2 H K) ll
    have hs : ∀ a c, k1_pay12 (k1_pay36 (kB arg2 harg2 x2 K)) (k1_pay37 (vB arg3 harg3 x3 K)) (ld arg1 harg1 x1 (k1_off12 K N) (k1_off12_inb K N h)) (ldf arg6 harg6 x6 (k1_off12 K N) (k1_off12_inb K N h)) (ldl arg5 harg5 x5 (k1_off13 K N) (k1_off13_inb K N h)) (ldD arg10 harg10 xD (k1_off14 K N) (k1_off14_inb K N h)) (ix2 a c) = ((ds q k v g (at_ (K.val + 1 + n) a) (at_ K.val c) : ℝ) : EReal) := fun a c => by
      refine (pay12_at _ _ _ _ _ _ a c).trans ?_
      simp only [lg, vB_real arg3 harg3 H K, hp, lD, ds_coe]
    refine row_step arg7 q k v g h6 f hi _ _ (off12 K N) _ (fun a d => ?_) (fun a d => ?_) (fun a d => ?_)
    · refine (pay14_at _ _ _ _ _ _ _ a d).trans ?_
      simp only [load_rd arg7 f _ (k1_off12_inb K N h) h6 (off12 K N), hs, kB_real arg2 harg2 H K]
    · refine (pay13_at _ _ _ _ _ _ _ a d).trans ?_
      simp only [hs, lq]
    · refine (pay11_at _ _ _ _ _ a d).trans ?_
      simp only [hp, lg]

omit H in
/-- A trip's pieces once the loop of its remainder makes none. -/
theorem ends {K : Fin k1_t2_loop.trips} {f7 : BufTy.Contents (Elt Ideal) arg7.view.ty} {P P8 P9 : Pcs Ideal} {S S' : Pr × Pcs Ideal}
    {w : S704x128.Idx → Elt Ideal .f32} {N : ℕ}
    (e : P = S'.2 ++ (S.2 ++ [⟨Rect.unit (s := S4224x128) (k1_off3 K) S704x128.size (k1_off3_inb K), w⟩])
      ∧ P8 = [⟨Rect.unit (s := S4224x128) (k1_off3 K) S704x128.size (k1_off3_inb K), S'.1.1⟩]
      ∧ P9 = [⟨Rect.unit (s := S4224x128) (k1_off3 K) S704x128.size (k1_off3_inb K), S'.1.2⟩])
    (e' : S' = ((S.1.1, S.1.2), [])) (hN : N = 6)
    (hg : Good arg7 q k v g K.val N (arg7.view.writes (Elt Ideal) (arg7.view.writes (Elt Ideal) f7
      [⟨Rect.unit (s := S4224x128) (k1_off3 K) S704x128.size (k1_off3_inb K), w⟩]) S.2) S.1) :
    ∃ t : Pr, Good arg7 q k v g K.val 6 (arg7.view.writes (Elt Ideal) f7 P) t
      ∧ P8 = [⟨Rect.unit (s := S4224x128) (k1_off3 K) S704x128.size (k1_off3_inb K), t.1⟩]
      ∧ P9 = [⟨Rect.unit (s := S4224x128) (k1_off3 K) S704x128.size (k1_off3_inb K), t.2⟩] := by
  subst hN e'
  obtain ⟨rfl, rfl, rfl⟩ := e
  refine ⟨S.1, ?_, rfl, rfl⟩
  rw [List.nil_append, View.writes_append]
  exact hg

omit H in
/-- The loops of the remainders make no trip. -/
theorem t4_zero {K : Fin k1_t2_loop.trips} (v3 : BitVec 32) (v6 v9 : FVec Ideal S704x128 .bf16) (h : k1_cond1 K = 1#1) (v75 : BitVec 32)
    (X1 : BufTy.Contents (Elt Ideal) arg1.view.ty) (X5 : BufTy.Contents (Elt Ideal) arg5.view.ty)
    (X6 : BufTy.Contents (Elt Ideal) arg6.view.ty) (X10 : BufTy.Contents (Elt Ideal) arg10.view.ty)
    (G : BufTy.Contents (Elt Ideal) arg7.view.ty) (t : Pr) {n : ℕ} (hn : n = 0) :
    refs[st_k1_t4 (F := Ideal) Variants.none c none i] K v3 v6 v9 h v75 X1 X5 X6 X10 G t n = (t, []) := by
  subst hn
  rfl

omit H in
theorem t6_zero {K : Fin k1_t2_loop.trips} (v6 v9 : FVec Ideal S704x128 .bf16) (h : ¬k1_cond1 K = 1#1)
    (X1 : BufTy.Contents (Elt Ideal) arg1.view.ty) (X5 : BufTy.Contents (Elt Ideal) arg5.view.ty)
    (X6 : BufTy.Contents (Elt Ideal) arg6.view.ty) (X10 : BufTy.Contents (Elt Ideal) arg10.view.ty)
    (G : BufTy.Contents (Elt Ideal) arg7.view.ty) (t : Pr) {n : ℕ} (hn : n = 0) :
    refs[st_k1_t6 (F := Ideal) Variants.none c none i] K v6 v9 h X1 X5 X6 X10 G t n = (t, []) := by
  subst hn
  rfl

omit H in
theorem st4_eq (K : Fin k1_t2_loop.trips) (h : k1_cond1 K = 1#1) (f7 : BufTy.Contents (Elt Ideal) arg7.view.ty) :
    refs[st4 c i] x1 x2 x3 x5 x6 xD K h f7 = (((refs[st3 c i] x1 x2 x3 x5 x6 xD K h f7 (k1_t3_loop K).trips).1.1, (refs[st3 c i] x1 x2 x3 x5 x6 xD K h f7 (k1_t3_loop K).trips).1.2), []) :=
  refs[t4_zero c i] _ _ _ h _ _ _ _ _ _ _ (front K h).2.2

omit H in
theorem st6_eq (K : Fin k1_t2_loop.trips) (h : ¬k1_cond1 K = 1#1) (f7 : BufTy.Contents (Elt Ideal) arg7.view.ty) :
    refs[st6 c i] x1 x2 x3 x5 x6 xD K h f7 = (((refs[st5 c i] x1 x2 x3 x5 x6 xD K h f7 (k1_t5_loop K).trips).1.1, (refs[st5 c i] x1 x2 x3 x5 x6 xD K h f7 (k1_t5_loop K).trips).1.2), []) :=
  refs[t6_zero c i] _ _ h _ _ _ _ _ _ (rest K h).2.2

omit H in
theorem trip1_front (K : Fin k1_t2_loop.trips) (h : k1_cond1 K = 1#1) : refs[trip1 c i] (harg1.unread x1) (harg2.unread x2) (harg3.unread x3) (harg5.unread x5) (harg6.unread x6) (harg10.unread xD) K = refs[tripFront c i] (harg1.unread x1) (harg2.unread x2) (harg3.unread x3) (harg5.unread x5) (harg6.unread x6) (harg10.unread xD) K h := by
  unfold trip1
  exact dif_pos h

omit H in
theorem trip1_rest (K : Fin k1_t2_loop.trips) (h : ¬k1_cond1 K = 1#1) : refs[trip1 c i] (harg1.unread x1) (harg2.unread x2) (harg3.unread x3) (harg5.unread x5) (harg6.unread x6) (harg10.unread xD) K = refs[tripRest c i] (harg1.unread x1) (harg2.unread x2) (harg3.unread x3) (harg5.unread x5) (harg6.unread x6) (harg10.unread xD) K h := by
  unfold trip1
  exact dif_neg h

/-- A trip that starts with the first block. -/
theorem front_ends (K : Fin k1_t2_loop.trips) (h : k1_cond1 K = 1#1) (f7 : BufTy.Contents (Elt Ideal) arg7.view.ty)
    (hA : ∀ r d, rd arg7 f7 r d = ((∑ m ∈ Finset.range K.val, blk (fun j => ds q k v g r j * k j d) m : ℝ) : EReal)) :
    ∃ t : Pr, Good arg7 q k v g K.val 6 (arg7.view.writes (Elt Ideal) f7 ((refs[tripFront c i] (harg1.unread x1) (harg2.unread x2) (harg3.unread x3) (harg5.unread x5) (harg6.unread x6) (harg10.unread xD) K h).1 f7)) t
      ∧ (refs[tripFront c i] (harg1.unread x1) (harg2.unread x2) (harg3.unread x3) (harg5.unread x5) (harg6.unread x6) (harg10.unread xD) K h).2.1 f7 = [⟨Rect.unit (s := S4224x128) (k1_off3 K) S704x128.size (k1_off3_inb K), t.1⟩]
      ∧ (refs[tripFront c i] (harg1.unread x1) (harg2.unread x2) (harg3.unread x3) (harg5.unread x5) (harg6.unread x6) (harg10.unread xD) K h).2.2.1 f7 = [⟨Rect.unit (s := S4224x128) (k1_off3 K) S704x128.size (k1_off3_inb K), t.2⟩] := by
  have e := refs[front_pieces c i] x1 x2 x3 x5 x6 xD K h f7
  have e' := st4_eq c i arg1 harg1 arg2 harg2 arg3 harg3 arg4 harg4 arg5 harg5 arg6 harg6 arg7 harg7 arg8 harg8 arg9 harg9 arg10 harg10 (x1 := x1) (x2 := x2) (x3 := x3) (x5 := x5) (x6 := x6) (xD := xD) K h f7
  have hg := refs[loop3_good c i] H K h f7 (diag_good arg1 harg1 arg2 harg2 arg3 harg3 arg5 harg5 arg6 harg6 arg7 arg10 harg10 H K f7 hA) _ le_rfl
  generalize refs[st4 c i] x1 x2 x3 x5 x6 xD K h f7 = S' at e e'
  generalize refs[st3 c i] x1 x2 x3 x5 x6 xD K h f7 (k1_t3_loop K).trips = S at e e' hg
  exact ends arg7 e e' (front K h).2.1 hg

/-- A trip that starts with the another block. -/
theorem rest_ends (K : Fin k1_t2_loop.trips) (h : ¬k1_cond1 K = 1#1) (f7 : BufTy.Contents (Elt Ideal) arg7.view.ty)
    (hA : ∀ r d, rd arg7 f7 r d = ((∑ m ∈ Finset.range K.val, blk (fun j => ds q k v g r j * k j d) m : ℝ) : EReal)) :
    ∃ t : Pr, Good arg7 q k v g K.val 6 (arg7.view.writes (Elt Ideal) f7 ((refs[tripRest c i] (harg1.unread x1) (harg2.unread x2) (harg3.unread x3) (harg5.unread x5) (harg6.unread x6) (harg10.unread xD) K h).1 f7)) t
      ∧ (refs[tripRest c i] (harg1.unread x1) (harg2.unread x2) (harg3.unread x3) (harg5.unread x5) (harg6.unread x6) (harg10.unread xD) K h).2.1 f7 = [⟨Rect.unit (s := S4224x128) (k1_off3 K) S704x128.size (k1_off3_inb K), t.1⟩]
      ∧ (refs[tripRest c i] (harg1.unread x1) (harg2.unread x2) (harg3.unread x3) (harg5.unread x5) (harg6.unread x6) (harg10.unread xD) K h).2.2.1 f7 = [⟨Rect.unit (s := S4224x128) (k1_off3 K) S704x128.size (k1_off3_inb K), t.2⟩] := by
  have e := refs[rest_pieces c i] x1 x2 x3 x5 x6 xD K h f7
  have e' := st6_eq c i arg1 harg1 arg2 harg2 arg3 harg3 arg4 harg4 arg5 harg5 arg6 harg6 arg7 harg7 arg8 harg8 arg9 harg9 arg10 harg10 (x1 := x1) (x2 := x2) (x3 := x3) (x5 := x5) (x6 := x6) (xD := xD) K h f7
  have hg := refs[loop5_good c i] H K h f7 (diag_good arg1 harg1 arg2 harg2 arg3 harg3 arg5 harg5 arg6 harg6 arg7 arg10 harg10 H K f7 hA) _ le_rfl
  generalize refs[st6 c i] x1 x2 x3 x5 x6 xD K h f7 = S' at e e'
  generalize refs[st5 c i] x1 x2 x3 x5 x6 xD K h f7 (k1_t5_loop K).trips = S at e e' hg
  exact ends arg7 e e' (rest K h).2.1 hg

/-- A trip, whichever block it is. -/
theorem trip_ends (K : Fin k1_t2_loop.trips) (f7 : BufTy.Contents (Elt Ideal) arg7.view.ty)
    (hA : ∀ r d, rd arg7 f7 r d = ((∑ m ∈ Finset.range K.val, blk (fun j => ds q k v g r j * k j d) m : ℝ) : EReal)) :
    ∃ t : Pr, Good arg7 q k v g K.val 6 (arg7.view.writes (Elt Ideal) f7 ((refs[trip1 c i] (harg1.unread x1) (harg2.unread x2) (harg3.unread x3) (harg5.unread x5) (harg6.unread x6) (harg10.unread xD) K).1 f7)) t
      ∧ (refs[trip1 c i] (harg1.unread x1) (harg2.unread x2) (harg3.unread x3) (harg5.unread x5) (harg6.unread x6) (harg10.unread xD) K).2.1 f7 = [⟨Rect.unit (s := S4224x128) (k1_off3 K) S704x128.size (k1_off3_inb K), t.1⟩]
      ∧ (refs[trip1 c i] (harg1.unread x1) (harg2.unread x2) (harg3.unread x3) (harg5.unread x5) (harg6.unread x6) (harg10.unread xD) K).2.2.1 f7 = [⟨Rect.unit (s := S4224x128) (k1_off3 K) S704x128.size (k1_off3_inb K), t.2⟩] := by
  by_cases h : k1_cond1 K = 1#1
  · have e := refs[front_ends c i] H K h f7 hA
    rw [← refs[trip1_front c i] K h] at e
    exact e
  · have e := refs[rest_ends c i] H K h f7 hA
    rw [← refs[trip1_rest c i] K h] at e
    exact e

omit H in
theorem emb3 (K : Fin k1_t2_loop.trips) (a : Fin 704) (d : Fin 128) :
    (Rect.unit (s := S4224x128) (k1_off3 K) S704x128.size (k1_off3_inb K)).emb (ix2 a d) = ix2 (at_ K.val a) d := by
  have h := off3 K
  funext b
  refine Fin.ext ?_
  fin_cases b
  · simp [h, at_val K.isLt]
  · simp [h]

omit H in
theorem holds_rows {L : Pcs Ideal} (K : Fin k1_t2_loop.trips) (w : S704x128.Idx → Elt Ideal .f32) (y : Fin 4224 → Fin 128 → ℝ)
    (hL : L = [⟨Rect.unit (s := S4224x128) (k1_off3 K) S704x128.size (k1_off3_inb K), w⟩])
    (hw : ∀ a d, w (ix2 a d) = ((y (at_ K.val a) d : ℝ) : EReal)) :
    Holds L (fun j : S4224x128.Idx => ((y (j 0) (j 1) : ℝ) : EReal)) :=
  Holds.one hL fun x => by
    idx_vars x
    rw [emb3]
    exact hw _ _

theorem before_good (G7 : BufTy.Contents (Elt Ideal) arg7.view.ty) (hG : ∀ r d, rd arg7 G7 r d = 0) (n : ℕ) (hn : n ≤ k1_t2_loop.trips) :
    (∀ r d, rd arg7 (arg7.view.writes (Elt Ideal) G7 (refs[before1 c i] (harg1.unread x1) (harg2.unread x2) (harg3.unread x3) (harg5.unread x5) (harg6.unread x6) (harg10.unread xD) G7 n).1) r d
        = ((∑ m ∈ Finset.range n, blk (fun j => ds q k v g r j * k j d) m : ℝ) : EReal))
      ∧ Holds (refs[before1 c i] (harg1.unread x1) (harg2.unread x2) (harg3.unread x3) (harg5.unread x5) (harg6.unread x6) (harg10.unread xD) G7 n).2.1 (fun j : S4224x128.Idx => ((dk q k v g (j 0) (j 1) : ℝ) : EReal))
      ∧ Holds (refs[before1 c i] (harg1.unread x1) (harg2.unread x2) (harg3.unread x3) (harg5.unread x5) (harg6.unread x6) (harg10.unread xD) G7 n).2.2 (fun j : S4224x128.Idx => ((dv q k g (j 0) (j 1) : ℝ) : EReal)) := by
  induction n with
  | zero => exact ⟨fun r d => (hG r d).trans (by rw [Finset.range_zero, Finset.sum_empty, EReal.coe_zero]), Holds.nil _, Holds.nil _⟩
  | succ n ih =>
    obtain ⟨hi, hi1, hi2⟩ := ih (by omega)
    have e := refs[before1_succ (F := Ideal) c i] (harg1.unread x1) (harg2.unread x2) (harg3.unread x3) (harg5.unread x5) (harg6.unread x6) (harg10.unread xD) G7 ⟨n, hn⟩
    obtain ⟨t, ht, e1, e2⟩ := refs[trip_ends c i] H ⟨n, hn⟩ (arg7.view.writes (Elt Ideal) G7 (refs[before1 c i] (harg1.unread x1) (harg2.unread x2) (harg3.unread x3) (harg5.unread x5) (harg6.unread x6) (harg10.unread xD) G7 n).1) hi
    obtain ⟨f1, f2, f3⟩ := ht.finish
    rw [e]
    refine ⟨fun r d => ?_, (holds_rows _ t.1 _ e1 f2).append hi1, (holds_rows _ t.2 _ e2 f3).append hi2⟩
    dsimp only
    rw [View.writes_append]
    exact f1 r d

end Body

section Whole

variable (c : Dev nD) (i : grid1.Coords)
  (arg1 : Memref sig .tc .vmem S4224x128 .bf16) (harg1 : arg1.IsWhole)
  (arg2 : Memref sig .tc .vmem S4224x128 .bf16) (harg2 : arg2.IsWhole)
  (arg3 : Memref sig .tc .vmem S4224x128 .bf16) (harg3 : arg3.IsWhole)
  (arg4 : Memref sig .tc .vmem S4224x128 .f32) (harg4 : arg4.IsWhole)
  (arg5 : Memref sig .tc .vmem S1x4224x1 .f32) (harg5 : arg5.IsWhole)
  (arg6 : Memref sig .tc .vmem S4224x128 .f32) (harg6 : arg6.IsWhole)
  (arg7 : Memref sig .tc .vmem S4224x128 .f32) (harg7 : arg7.IsWhole)
  (arg8 : Memref sig .tc .vmem S4224x128 .f32) (harg8 : arg8.IsWhole)
  (arg9 : Memref sig .tc .vmem S4224x128 .f32) (harg9 : arg9.IsWhole)
  (arg10 : Memref sig .tc .vmem S4224x1 .f32) (harg10 : arg10.IsWhole)
  (x1 x2 x3 : Vec Ideal S4224x128 .bf16) (x4 : Vec Ideal S4224x128 .f32) (x5 : Vec Ideal S1x4224x1 .f32) (x6 : Vec Ideal S4224x128 .f32)
  (q k v g : Fin 4224 → Fin 128 → ℝ)
  (hq : ∀ r x, x1 (ix2 r x) = ((q r x : ℝ) : EReal)) (hk : ∀ r x, x2 (ix2 r x) = ((k r x : ℝ) : EReal))
  (hv : ∀ r x, x3 (ix2 r x) = ((v r x : ℝ) : EReal)) (ho : ∀ r x, x4 (ix2 r x) = out q k v r x) (hl : ∀ r, x5 (ix3 0 r 0) = lse q k r)
  (hg : ∀ r x, x6 (ix2 r x) = ((g r x : ℝ) : EReal)) (hz : ∀ r, ¬0 < Z q k r → ∀ d, g r d = 0)

/-- A value at the kernel's operands. -/
local notation "refs[" f "]" => f arg1 harg1 arg2 harg2 arg3 harg3 arg4 harg4 arg5 harg5 arg6 harg6 arg7 harg7 arg8 harg8 arg9 harg9 arg10 harg10

/-! ## The first loop -/

theorem t1_pieces (K : Fin k1_t1_loop.trips) :
    (refs[tripL_k1_t1 (F := Ideal) Variants.none c none i] (harg4.unread x4) (harg6.unread x6) K).1
        = [⟨Rect.unit (s := S4224x128) (k1_off1 K) S704x128.size (k1_off1_inb K), k1_pay2 (F := Ideal)⟩]
      ∧ (refs[tripL_k1_t1 (F := Ideal) Variants.none c none i] (harg4.unread x4) (harg6.unread x6) K).2
        = [⟨Rect.unit (s := S4224x1) (k1_off2 K) S704x1.size (k1_off2_inb K),
            k1_pay1 (ldf arg6 harg6 x6 (k1_off1 K) (k1_off1_inb K)) (ldf arg4 harg4 x4 (k1_off1 K) (k1_off1_inb K))⟩] := by
  unfold tripL_k1_t1 trip_k1_t1
  exact ⟨rfl, rfl⟩

include ho hg hz

theorem t1_good (n : ℕ) (hn : n ≤ k1_t1_loop.trips) :
    Holds (refs[pb_k1_t1 (F := Ideal) Variants.none c none i] (harg4.unread x4) (harg6.unread x6) n).1 (fun _ : S4224x128.Idx => (0 : EReal))
      ∧ Holds (refs[pb_k1_t1 (F := Ideal) Variants.none c none i] (harg4.unread x4) (harg6.unread x6) n).2
        (fun j : S4224x1.Idx => ((dl q k v g (j 0) : ℝ) : EReal)) := by
  induction n with
  | zero => exact ⟨Holds.nil _, Holds.nil _⟩
  | succ n ih =>
    obtain ⟨hi1, hi2⟩ := ih (by omega)
    have e := refs[pb_k1_t1_succ (F := Ideal) Variants.none c none i] (harg4.unread x4) (harg6.unread x6) ⟨n, hn⟩
    have h6 : n < 6 := hn
    obtain ⟨e1, e2⟩ := refs[t1_pieces c i] x4 x6 ⟨n, hn⟩
    rw [e]
    refine ⟨(Holds.one e1 fun x => ?_).append hi1, (Holds.one e2 fun x => ?_).append hi2⟩
    · idx_vars x
      exact pay2_at _ _
    · idx_vars x
      fin_cases x1
      have he : (Rect.unit (s := S4224x1) (k1_off2 ⟨n, hn⟩) S704x1.size (k1_off2_inb ⟨n, hn⟩)).emb (ix2 x0 0) = ix2 (at_ n x0) 0 := by
        have h := off2 ⟨n, hn⟩
        funext b
        refine Fin.ext ?_
        fin_cases b
        · simp [h, at_val h6]
        · simp [h]
      refine (AttnBwdPay.pay1_at _ _ x0).trans ?_
      refine Eq.trans ?_ (congrArg (fun j : S4224x1.Idx => ((dl q k v g (j 0) : ℝ) : EReal)) he.symm)
      refine Eq.trans ?_ (sum_out q k v g (at_ n x0) (hz _))
      refine Finset.sum_congr rfl fun d _ => ?_
      exact congrArg₂ (fun s t : EReal => s * t) ((load_rows arg6 harg6 x6 _ _ h6 (off1 ⟨n, hn⟩) x0 d).trans (hg _ _))
        ((load_rows arg4 harg4 x4 _ _ h6 (off1 ⟨n, hn⟩) x0 d).trans (ho _ _))

include hq hk hv hl

/-- The three gradients at an element. -/
theorem grads_apply (r : Fin 4224) (d : Fin 128) :
    refs[AttnBody.dq c i] x1 x2 x3 x4 x5 x6 (ix2 r d) = ((AttnMath.dq q k v g r d : ℝ) : EReal)
      ∧ refs[AttnBody.dk c i] x1 x2 x3 x4 x5 x6 (ix2 r d) = ((AttnMath.dk q k v g r d : ℝ) : EReal)
      ∧ refs[AttnBody.dv c i] x1 x2 x3 x4 x5 x6 (ix2 r d) = ((AttnMath.dv q k g r d : ℝ) : EReal) := by
  obtain ⟨t1, t2⟩ := refs[t1_good c i] x4 x6 q k v g ho hg hz k1_t1_loop.trips le_rfl
  have H : Data x1 x2 x3 x5 x6 (View.canon (refs[AttnBody.piecesT c i] x4 x6).2) q k v g :=
    ⟨hq, hk, hv, hl, hg, fun r => t2.canon (ix2 r 0) (refs[AttnBody.cover_sum c i] x4 x6 (ix2 r 0))⟩
  obtain ⟨g1, g2, g3⟩ := refs[before_good c i] H (refs[AttnBody.zero7 c i] x4 x6) (fun r d => by
    unfold rd AttnBody.zero7
    rw [Memref.IsWhole.read_unread]
    exact t1.canon (ix2 r d) (refs[AttnBody.cover_zero c i] x4 x6 (ix2 r d))) k1_t2_loop.trips le_rfl
  refine ⟨?_, ?_, ?_⟩
  · refine (g1 r d).trans (congrArg _ ?_)
    unfold AttnMath.dq
    rw [sum_blk]
    rfl
  · exact g2.canon (ix2 r d) (refs[AttnBody.cover_dk c i] x1 x2 x3 x4 x5 x6 (ix2 r d))
  · exact g3.canon (ix2 r d) (refs[AttnBody.cover_dv c i] x1 x2 x3 x4 x5 x6 (ix2 r d))

end Whole

end Cert.Proof.AttnBwdVal
-- ==== Proof.AttnPad.lean ====
module

public import proofs.«01_k».proof.Proof.AttnBwdMath

@[expose] public section

/-! # The padded rows and lanes add nothing to the gradients

The kernel's rows are the 4112 of the arguments with 48 before and 64 after, its lanes those of a head padded to 128. -/

noncomputable section

namespace Cert.Proof.AttnMath

open Idealize.ShloMosaic Cert.Proof.Reals

/-- A row of the arguments among the kernel's. -/
def row (i : Fin 4112) : Fin 4224 := ⟨48 + i.val, by omega⟩

theorem row_val (i : Fin 4112) : (row i).val = 48 + i.val := rfl

/-- A kernel's row that is one of the arguments'. -/
def Inside (r : Fin 4224) : Prop := 48 ≤ r.val ∧ r.val < 4160

theorem row_inside (i : Fin 4112) : Inside (row i) := by
  have := i.isLt
  unfold Inside
  rw [row_val]
  omega

/-- A head's array, padded. -/
def pad {n : ℕ} (X : Fin 4112 → Fin n → ℝ) (r : Fin 4224) (x : Fin 128) : ℝ :=
  if h : (48 ≤ r.val ∧ r.val < 4160) ∧ x.val < n then X ⟨r.val - 48, by omega⟩ ⟨x.val, h.2⟩ else 0

theorem pad_row {n : ℕ} (X : Fin 4112 → Fin n → ℝ) (i : Fin 4112) (x : Fin 128) (hx : x.val < n) : pad X (row i) x = X i ⟨x.val, hx⟩ := by
  unfold pad
  rw [dif_pos ⟨row_inside i, hx⟩]
  exact congrFun (congrArg X (Fin.ext (Nat.add_sub_cancel_left 48 i.val))) _

theorem pad_out {n : ℕ} (X : Fin 4112 → Fin n → ℝ) {r : Fin 4224} (h : ¬Inside r) (x : Fin 128) : pad X r x = 0 :=
  dif_neg fun hh => h hh.1

theorem pad_lane {n : ℕ} (X : Fin 4112 → Fin n → ℝ) (r : Fin 4224) {x : Fin 128} (h : ¬x.val < n) : pad X r x = 0 :=
  dif_neg fun hh => h hh.2

theorem exists_row {r : Fin 4224} (h : Inside r) : ∃ i, row i = r :=
  ⟨⟨r.val - 48, by have := h.1; have := h.2; omega⟩, Fin.ext (by have := h.1; rw [row_val]; simp only; omega)⟩

theorem eq_pad {n : ℕ} (f : Fin 4224 → Fin 128 → ℝ) (X : Fin 4112 → Fin n → ℝ) (hr : ∀ i x (hx : x.val < n), f (row i) x = X i ⟨x.val, hx⟩)
    (ho : ∀ r, ¬Inside r → ∀ x, f r x = 0) (hl : ∀ i (x : Fin 128), ¬x.val < n → f (row i) x = 0) (r : Fin 4224) (x : Fin 128) : f r x = pad X r x := by
  by_cases h : Inside r
  · obtain ⟨i, rfl⟩ := exists_row h
    by_cases hx : x.val < n
    · rw [hr i x hx, pad_row X i x hx]
    · rw [hl i x hx, pad_lane X _ hx]
  · rw [ho r h, pad_out X h]

/-- A sum over the kernel's rows of what vanishes on the padded ones. -/
theorem sum_row (f : Fin 4224 → ℝ) (hf : ∀ r, ¬Inside r → f r = 0) : ∑ r, f r = ∑ i, f (row i) := by
  have hinj : Function.Injective row := fun a b h => Fin.ext (by have := congrArg Fin.val h; rw [row_val, row_val] at this; omega)
  refine Eq.trans ?_ (Finset.sum_map Finset.univ ⟨row, hinj⟩ f)
  symm
  refine Finset.sum_subset (Finset.subset_univ _) fun r _ hr => hf r fun h => ?_
  obtain ⟨i, rfl⟩ := exists_row h
  exact hr (Finset.mem_map.2 ⟨i, Finset.mem_univ _, rfl⟩)

/-- A sum over the lanes of what vanishes on the padded ones. -/
theorem sum_lane {n : ℕ} (hn : n ≤ 128) (f : Fin 128 → ℝ) (g : Fin n → ℝ) (hg : ∀ x (hx : x.val < n), f x = g ⟨x.val, hx⟩)
    (hf : ∀ x, ¬x.val < n → f x = 0) : ∑ x, f x = ∑ d, g d := by
  have hinj : Function.Injective (Fin.castLE hn) := Fin.castLE_injective hn
  have e : ∑ d, g d = ∑ d, f (Fin.castLE hn d) := Finset.sum_congr rfl fun d _ => (hg (Fin.castLE hn d) d.isLt).symm
  refine Eq.trans ?_ ((Finset.sum_map Finset.univ ⟨Fin.castLE hn, hinj⟩ f).trans e.symm)
  symm
  refine Finset.sum_subset (Finset.subset_univ _) fun x _ hx => hf x fun h => ?_
  exact hx (Finset.mem_map.2 ⟨⟨x.val, h⟩, Finset.mem_univ _, Fin.ext rfl⟩)

variable (σ : ℝ) (A B : Fin 4112 → Fin 96 → ℝ) (C G : Fin 4112 → Fin 64 → ℝ)

/-! ## The gradients of a head's attention -/

/-- A score. -/
def hs (i j : Fin 4112) : ℝ := (∑ d, A i d * B j d) * σ

/-- A row's exponentials, none of a later row's key. -/
def hE (i j : Fin 4112) : ℝ := if j.val ≤ i.val then Real.exp (hs σ A B i j) else 0

/-- A row's probabilities. -/
def hp (i j : Fin 4112) : ℝ := hE σ A B i j / ∑ k, hE σ A B i k

/-- The cotangent of a probability. -/
def hD (i j : Fin 4112) : ℝ := ∑ d, G i d * C j d

/-- The cotangent of a scaled score. -/
def hS (i j : Fin 4112) : ℝ := hp σ A B i j * (hD C G i j - ∑ k, hp σ A B i k * hD C G i k)

def gq (i : Fin 4112) (d : Fin 96) : ℝ := ∑ j, hS σ A B C G i j * σ * B j d
def gk (j : Fin 4112) (d : Fin 96) : ℝ := ∑ i, hS σ A B C G i j * σ * A i d
def gv (j : Fin 4112) (d : Fin 64) : ℝ := ∑ i, G i d * hp σ A B i j

theorem sum_hE_pos (i : Fin 4112) : 0 < ∑ k, hE σ A B i k := by
  have h0 : ∀ j, 0 ≤ hE σ A B i j := fun j => by
    unfold hE
    split
    · exact (Real.exp_pos _).le
    · exact le_rfl
  refine lt_of_lt_of_le ?_ (Finset.single_le_sum (fun j _ => h0 j) (Finset.mem_univ i))
  unfold hE
  rw [if_pos le_rfl]
  exact Real.exp_pos _

/-! ## The kernel's gradients of the padded arrays -/

/-- A head's scaled queries, padded. -/
def qs : Fin 4224 → Fin 128 → ℝ := pad fun i d => A i d * σ

theorem live_row (i j : Fin 4112) : live (row i) (row j) ↔ j.val ≤ i.val := by
  unfold live
  rw [row_val, row_val]
  omega

theorem dead_out {i : Fin 4112} {r : Fin 4224} (h : ¬Inside r) : ¬live (row i) r := by
  have := i.isLt
  unfold Inside at h
  unfold live
  rw [row_val]
  omega

theorem sc_row (i j : Fin 4112) : sc (qs σ A) (pad B) (row i) (row j) = hs σ A B i j := by
  unfold sc hs
  rw [sum_lane (n := 96) (by decide) _ (fun d => A i d * σ * B j d) (fun x hx => by unfold qs; rw [pad_row _ _ _ hx, pad_row _ _ _ hx])
    (fun x hx => by unfold qs; rw [pad_lane _ _ hx, zero_mul]), Finset.sum_mul]
  exact Finset.sum_congr rfl fun d _ => by ring

theorem wt_row (i j : Fin 4112) : wt (qs σ A) (pad B) (row i) (row j) = hE σ A B i j := by
  unfold wt hE
  rw [sc_row]
  exact if_congr (live_row i j) rfl rfl

theorem Z_row (i : Fin 4112) : Z (qs σ A) (pad B) (row i) = ∑ j, hE σ A B i j := by
  unfold Z
  rw [sum_row _ fun r hr => by unfold wt; exact if_neg (dead_out hr)]
  exact Finset.sum_congr rfl fun j _ => wt_row σ A B i j

theorem pr_row (i j : Fin 4112) : pr (qs σ A) (pad B) (row i) (row j) = hp σ A B i j := by
  unfold pr hp
  rw [wt_row, Z_row]

theorem gv_row (i j : Fin 4112) : ∑ x, (pad G) (row i) x * (pad C) (row j) x = hD C G i j :=
  sum_lane (n := 64) (by decide) _ (fun d => G i d * C j d) (fun x hx => by rw [pad_row _ _ _ hx, pad_row _ _ _ hx])
    (fun x hx => by rw [pad_lane _ _ hx, zero_mul])

theorem dl_row (i : Fin 4112) : dl (qs σ A) (pad B) (pad C) (pad G) (row i) = ∑ k, hp σ A B i k * hD C G i k := by
  have hY : ∀ x, Y (qs σ A) (pad B) (pad C) (row i) x / Z (qs σ A) (pad B) (row i) = ∑ j, hp σ A B i j * (pad C) (row j) x := fun x => by
    unfold Y
    rw [sum_row _ fun r hr => by rw [pad_out C hr, mul_zero], Finset.sum_div]
    refine Finset.sum_congr rfl fun j _ => ?_
    rw [← pr_row]
    unfold pr
    ring
  unfold dl
  simp only [hY, Finset.mul_sum]
  rw [Finset.sum_comm]
  refine Finset.sum_congr rfl fun j _ => ?_
  rw [← gv_row, Finset.mul_sum]
  exact Finset.sum_congr rfl fun x _ => by ring

theorem ds_row (i j : Fin 4112) : ds (qs σ A) (pad B) (pad C) (pad G) (row i) (row j) = hS σ A B C G i j := by
  unfold ds hS
  rw [pr_row, dl_row, gv_row]

theorem ds_out {r : Fin 4224} (h : ¬Inside r) (j : Fin 4224) : ds (qs σ A) (pad B) (pad C) (pad G) r j = 0 := by
  unfold ds dl
  simp only [pad_out G h, zero_mul, Finset.sum_const_zero, sub_zero, mul_zero]

theorem dq_pad (r : Fin 4224) (x : Fin 128) : dq (qs σ A) (pad B) (pad C) (pad G) r x * σ = pad (gq σ A B C G) r x := by
  refine eq_pad (fun r x => dq (qs σ A) (pad B) (pad C) (pad G) r x * σ) _ (fun i x hx => ?_) (fun r hr x => ?_) (fun i x hx => ?_) r x
  · unfold dq gq
    rw [sum_row _ fun r hr => by rw [pad_out B hr, mul_zero], Finset.sum_mul]
    refine Finset.sum_congr rfl fun j _ => ?_
    rw [ds_row, pad_row _ _ _ hx]
    ring
  · unfold dq
    simp only [ds_out σ A B C G hr, zero_mul, Finset.sum_const_zero]
  · unfold dq
    simp only [pad_lane B _ hx, mul_zero, Finset.sum_const_zero, zero_mul]

theorem dk_pad (r : Fin 4224) (x : Fin 128) : dk (qs σ A) (pad B) (pad C) (pad G) r x = pad (gk σ A B C G) r x := by
  refine eq_pad (dk (qs σ A) (pad B) (pad C) (pad G)) _ (fun i x hx => ?_) (fun r hr x => ?_) (fun i x hx => ?_) r x
  · unfold dk gk
    rw [sum_row _ fun r hr => by rw [ds_out σ A B C G hr, zero_mul]]
    refine Finset.sum_congr rfl fun j _ => ?_
    rw [ds_row]
    unfold qs
    rw [pad_row _ _ _ hx]
    ring
  · unfold dk
    rw [sum_row _ fun r hr => by rw [ds_out σ A B C G hr, zero_mul]]
    exact Finset.sum_eq_zero fun j _ => by rw [ds_dead (dead_out hr), zero_mul]
  · unfold dk qs
    simp only [pad_lane (fun i d => A i d * σ) _ hx, mul_zero, Finset.sum_const_zero]

theorem dv_pad (r : Fin 4224) (x : Fin 128) : dv (qs σ A) (pad B) (pad G) r x = pad (gv σ A B G) r x := by
  refine eq_pad (dv (qs σ A) (pad B) (pad G)) _ (fun i x hx => ?_) (fun r hr x => ?_) (fun i x hx => ?_) r x
  · unfold dv gv
    rw [sum_row _ fun r hr => by rw [pad_out G hr, mul_zero]]
    refine Finset.sum_congr rfl fun j _ => ?_
    rw [pr_row, pad_row _ _ _ hx]
    ring
  · unfold dv
    rw [sum_row _ fun r hr => by rw [pad_out G hr, mul_zero]]
    exact Finset.sum_eq_zero fun j _ => by rw [pr_dead (dead_out hr), zero_mul]
  · unfold dv
    simp only [pad_lane G _ hx, mul_zero, Finset.sum_const_zero]

/-- A row that sees nothing is a padded one. -/
theorem Z_zero {r : Fin 4224} (h : ¬0 < Z (qs σ A) (pad B) r) (x : Fin 128) : (pad G) r x = 0 := by
  refine pad_out G (fun hr => h ?_) x
  obtain ⟨i, rfl⟩ := exists_row hr
  rw [Z_row]
  exact sum_hE_pos σ A B i

end Cert.Proof.AttnMath
end
-- ==== Proof.AttnRef.lean ====
module

public import proofs.«01_k».proof.Proof.AttnPad
public import proofs.«01_k».proof.Proof.Gen.AttnReferenceIdeal.Read
public import Idealize.ShloMosaic.Lib.Pointwise
public import Idealize.ShloMosaic.Lib.WordCmp
public import Idealize.ShloMosaic.Lib.KernelVsHost
public import Idealize.ShloMosaic.Lib.Tactic.CleanTypes

@[expose] public section

/-! # The reference's gradients in real numbers -/

set_option maxRecDepth 16384

noncomputable section

namespace Cert.Proof.AttnRef

open Idealize.ShloMosaic Idealize.SL.Sem Cert.Proof.Reals Cert.Proof.AttnMath

/-- The scale of the scores. -/
def σ : ℝ := (Ideal.ofBits .f32 0x3DD105EC#32).toReal

theorem ofBits_scale : Ideal.ofBits .f32 0x3DD105EC#32 = (σ : EReal) := by
  refine (EReal.coe_toReal ?_ ?_).symm <;> simp [Ideal.ofBits, Ideal.ieee]
  · rw [← EReal.coe_mul]
    exact EReal.coe_ne_top _
  · rw [← EReal.coe_mul]
    exact EReal.coe_ne_bot _

theorem ofBits_one : Ideal.ofBits .f32 0x3F800000#32 = ((1 : ℝ) : EReal) := by
  simp [Ideal.ofBits, Ideal.ieee]
  rw [← EReal.coe_mul, ← EReal.coe_one]
  exact congrArg _ (by norm_num)

/-- The head of a column and the lane in it. -/
def hd (c : Fin 1024) : Fin 8 := ⟨c.val / 128, by have := c.isLt; omega⟩
def ln (c : Fin 1024) : Fin 128 := ⟨c.val % 128, Nat.mod_lt _ (by decide)⟩

/-- An array padded by 48 rows before, 64 after, and in the lanes to 128. -/
theorem pad_at {n k : ℕ} (hn : n ≤ 128) (x : (⟨3, ![4112, 8, n]⟩ : Shape).Idx → EReal) (X : Fin 4112 → Fin 8 → Fin n → ℝ)
    (hx : ∀ i h d, x (ix3 i h d) = ((X i h d : ℝ) : EReal)) {u : Shape} (v : u.Idx → EReal) (hv : ∀ i, v i = 0)
    (hp : (⟨3, ![4112, 8, n]⟩ : Shape).Pads ![48, 0, 0] ![64, 0, k] ![0, 0, 0] ⟨3, ![4224, 8, 128]⟩) (hu : 0 < u.numel)
    (r : Fin 4224) (h : Fin 8) (l : Fin 128) :
    Idealize.ShloMosaic.pad ⟨3, ![4224, 8, 128]⟩ ![48, 0, 0] ![64, 0, k] ![0, 0, 0] x v hp hu (ix3 r h l) = ((AttnMath.pad (fun i d => X i h d) r l : ℝ) : EReal) := by
  by_cases hr : Inside r
  · by_cases hl : l.val < n
    · obtain ⟨i, rfl⟩ := exists_row hr
      rw [pad_row _ _ _ hl, ← hx]
      refine pad_apply_of_inside _ _ _ x v hp hu _ _ fun a => ?_
      fin_cases a <;> simp [row_val]
    · rw [pad_lane _ _ hl]
      refine (pad_apply_of_not_inside _ _ _ x v hp hu _ 2 ?_).trans (hv _)
      simp [hl]
  · rw [pad_out _ hr]
    refine (pad_apply_of_not_inside _ _ _ x v hp hu _ 0 ?_).trans (hv _)
    unfold Inside at hr
    simp
    omega

/-- The mean of the cotangents under weights that share a factor. -/
theorem mean_eq (e d : Fin 4112 → ℝ) {N x : ℝ} (hN : N ≠ 0) (hx : x ≠ 0) :
    ∑ k, d k * (1 / ((N * x) * (N * x))) * (e k * x) = (∑ k, e k / N * d k) * (1 / (N * x)) := by
  rw [Finset.sum_mul]
  refine Finset.sum_congr rfl fun k _ => ?_
  field_simp

section Run
open Cert.AttnReferenceIdeal Cert.AttnReferenceIdeal.Gen Cert.AttnReferenceIdeal.Read

variable (A B : S4112x8x96.Idx → ℝ) (C G : S4112x8x64.Idx → ℝ)

/-- An array of real numbers. -/
abbrev up {s : Shape} (X : s.Idx → ℝ) : s.Idx → EReal := fun i => ((X i : ℝ) : EReal)

/-- A head of an array. -/
def head {n : ℕ} (X : (⟨3, ![4112, 8, n]⟩ : Shape).Idx → ℝ) (h : Fin 8) (i : Fin 4112) (d : Fin n) : ℝ := X (ix3 i h d)

theorem head_at {n : ℕ} (X : (⟨3, ![4112, 8, n]⟩ : Shape).Idx → ℝ) (j : (⟨3, ![4112, 8, n]⟩ : Shape).Idx) (h : Fin 8) (i : Fin 4112) (d : Fin n)
    (hj : j = ix3 i h d) : X j = head X h i d := congrArg X hj

variable (h : Fin 8)

theorem v0_at (i j : Fin 4112) : val_main_v0 (F := Ideal) (up A) (up B) (ix3 h i j) = ((∑ d, head A h i d * head B h j d : ℝ) : EReal) := by
  rw [val_main_v0_apply, ← sum_coe]
  refine Finset.sum_congr rfl fun d _ => ?_
  rw [EReal.coe_mul]
  exact congrArg₂ (fun s t : ℝ => (s : EReal) * (t : EReal)) (head_at A _ h i d (funext fun a => by fin_cases a <;> rfl))
    (head_at B _ h j d (funext fun a => by fin_cases a <;> rfl))

theorem v2_at (i j : Fin 4112) : val_main_v2 (F := Ideal) (up A) (up B) (ix3 h i j) = (((hs σ (head A h) (head B h)) i j : ℝ) : EReal) := by
  rw [val_main_v2_apply, v0_at, val_main_v1_apply, val_main_cst_apply]
  unfold hs
  rw [EReal.coe_mul, ← ofBits_scale]
  rfl

theorem mask_at (i j : Fin 4112) (x y : EReal) : Scalar.select (val_main_v9_1 (F := Ideal) (ix3 h i j)) x y = if j.val ≤ i.val then x else y := by
  have hi := i.isLt
  have hj := j.isLt
  rw [val_main_v9_1_apply, val_main_v8_apply, val_main_v6_apply, val_main_v7_apply, val_main_v4_apply, val_main_v5_apply,
    val_main_v3_apply, val_main_v3_apply]
  have e : IntOp.cmpi .sle (BitVec.ofNat 32 j.val) (BitVec.ofNat 32 i.val) = BitVec.ofBool (decide (j.val ≤ i.val)) :=
    WordCmp.cmpi_sle_ofNat (by omega) (by omega)
  refine (congrArg (fun z => Scalar.select z x y) e).trans ?_
  by_cases hc : j.val ≤ i.val
  · rw [if_pos hc, decide_eq_true hc]; rfl
  · rw [if_neg hc, decide_eq_false hc]; rfl

theorem v9_at (i j : Fin 4112) : val_main_v9_0 (F := Ideal) (up A) (up B) (ix3 h i j) = if j.val ≤ i.val then (((hs σ (head A h) (head B h)) i j : ℝ) : EReal) else ⊥ := by
  rw [val_main_v9_0_apply, mask_at, v2_at, val_main_call0_v2_apply]
  exact if_congr Iff.rfl rfl ofBits_neg_inf

theorem v17_at (i : Fin 4112) : ∃ b : ℝ, val_main_v17 (F := Ideal) (up A) (up B) (ix2 h i) = (b : EReal) := by
  have e : val_main_v10 (F := Ideal) (up A) (up B) (ix2 h i) = Finset.univ.sup fun j => val_main_v9_0 (F := Ideal) (up A) (up B) (ix3 h i j) := by
    unfold val_main_v10
    generalize val_main_v9_0 (F := Ideal) (up A) (up B) = x
    have e0 : val_main_cst_1 (F := Ideal) = fun _ => (⊥ : EReal) := funext fun _ => ofBits_neg_inf
    rw [e0]
    pointwise []
    exact fold_max_eq _
  rw [val_main_v17_apply, e]
  simp only [v9_at]
  rcases sup_cases (fun j : Fin 4112 => j.val ≤ i.val) (fun j => (hs σ (head A h) (head B h)) i j) with ⟨h0, _⟩ | ⟨b, hM⟩
  · exact absurd le_rfl (h0 i)
  · refine ⟨b, ?_⟩
    rw [hM, val_main_v16_apply, val_main_cst_3_apply]
    exact (congrArg (fun z => max z (b : EReal)) ofBits_neg_inf).trans (max_eq_right bot_le)

theorem exists_max : ∃ b : Fin 4112 → ℝ, ∀ i, val_main_v17 (F := Ideal) (up A) (up B) (ix2 h i) = (b i : EReal) :=
  Classical.axiomOfChoice fun i => v17_at A B h i

section Max

variable {b : Fin 4112 → ℝ} (hM : ∀ i, val_main_v17 (F := Ideal) (up A) (up B) (ix2 h i) = (b i : EReal))
include hM

theorem v30_at (i j : Fin 4112) : val_main_v30 (F := Ideal) (up A) (up B) (ix3 h i j) = (((hE σ (head A h) (head B h)) i j * Real.exp (-b i) : ℝ) : EReal) := by
  rw [val_main_v30_apply, val_main_v29_apply, v9_at, val_main_v28_apply, val_main_v27_apply]
  have e : (idx_main_v27 (idx_main_v28 (ix3 h i j))) = ix2 h i := funext fun a => by fin_cases a <;> rfl
  rw [e, hM]
  exact exp_sub _ _ _

theorem v31_at (i : Fin 4112) : val_main_v31 (F := Ideal) (up A) (up B) (ix2 h i) = (((∑ k, (hE σ (head A h) (head B h)) i k) * Real.exp (-b i) : ℝ) : EReal) := by
  rw [val_main_v31_apply, val_main_cst_9_apply, Finset.sum_mul, ← sum_coe]
  refine (congrArg₂ (· + ·) (Ideal.ofBits_zero_f32) (Finset.sum_congr rfl fun k _ => ?_)).trans (zero_add _)
  rw [← v30_at A B h hM]
  exact congrArg _ (funext fun a => by fin_cases a <;> rfl)

theorem pos (i : Fin 4112) : 0 < (∑ k, (hE σ (head A h) (head B h)) i k) * Real.exp (-b i) := mul_pos (sum_hE_pos _ _ _ i) (Real.exp_pos _)

theorem v32_at (i : Fin 4112) (z : Fin 1) : val_main_v32 (F := Ideal) (up A) (up B) (ix3 h i z) = (((∑ k, (hE σ (head A h) (head B h)) i k) * Real.exp (-b i) : ℝ) : EReal) := by
  rw [val_main_v32_apply, ← v31_at A B h hM]
  exact congrArg _ (funext fun a => by fin_cases a <;> rfl)

theorem v34_at (i j : Fin 4112) : val_main_v34 (F := Ideal) (up A) (up B) (ix3 h i j) = (((hp σ (head A h) (head B h)) i j : ℝ) : EReal) := by
  have hne := (pos A B h hM i).ne'
  rw [val_main_v34_apply, v30_at A B h hM, val_main_v33_apply]
  have e : (idx_main_v33 (ix3 h i j)) = ix3 h i 0 := funext fun a => by fin_cases a <;> rfl
  rw [e, v32_at A B h hM]
  refine (div_coe _ hne).trans (congrArg _ ?_)
  unfold hp
  exact mul_div_mul_right _ _ (Real.exp_pos _).ne'

theorem v44_at (i j : Fin 4112) :
    val_main_v44 (F := Ideal) (up A) (up B) (ix3 h i j) = ((1 / (((∑ k, (hE σ (head A h) (head B h)) i k) * Real.exp (-b i)) * ((∑ k, (hE σ (head A h) (head B h)) i k) * Real.exp (-b i))) : ℝ) : EReal) := by
  have hne := (pos A B h hM i).ne'
  rw [val_main_v44_apply]
  have e : (idx_main_v44 (ix3 h i j)) = ix3 h i 0 := funext fun a => by fin_cases a <;> rfl
  rw [e, val_main_v37_apply, val_main_v36_apply, val_main_cst_10_apply, val_main_v35_apply, v32_at A B h hM]
  refine Eq.trans ?_ (div_coe 1 (mul_ne_zero hne hne))
  exact congrArg₂ (fun s t : EReal => Ideal.div s t) ofBits_one (EReal.coe_mul _ _).symm

omit hM in
theorem v41_at (i j : Fin 4112) : val_main_v41 (F := Ideal) (up C) (up G) (ix3 h i j) = (((hD (head C h) (head G h)) i j : ℝ) : EReal) := by
  unfold hD
  rw [val_main_v41_apply, ← sum_coe]
  refine Finset.sum_congr rfl fun d _ => ?_
  rw [EReal.coe_mul, val_main_v40_apply]
  exact congrArg₂ (fun s t : ℝ => (s : EReal) * (t : EReal)) (head_at G _ h i d (funext fun a => by fin_cases a <;> rfl))
    (head_at C _ h j d (funext fun a => by fin_cases a <;> rfl))

theorem v47_at (i : Fin 4112) : val_main_v47 (F := Ideal) (up A) (up B) (up C) (up G) (ix2 h i)
    = ((∑ k, (hD (head C h) (head G h)) i k * (1 / (((∑ k, (hE σ (head A h) (head B h)) i k) * Real.exp (-b i)) * ((∑ k, (hE σ (head A h) (head B h)) i k) * Real.exp (-b i)))) * ((hE σ (head A h) (head B h)) i k * Real.exp (-b i)) : ℝ) : EReal) := by
  rw [val_main_v47_apply, val_main_cst_11_apply, ← sum_coe]
  refine (congrArg₂ (· + ·) (Ideal.ofBits_zero_f32) (Finset.sum_congr rfl fun k _ => ?_)).trans (zero_add _)
  have e : idx_main_v47 (ix2 h i) k = ix3 h i k := funext fun a => by fin_cases a <;> rfl
  rw [e, val_main_v46_apply, val_main_v45_apply, v41_at, v44_at A B h hM, v30_at A B h hM, EReal.coe_mul, EReal.coe_mul]
  rfl

theorem v53_at (i j : Fin 4112) : val_main_v53 (F := Ideal) (up A) (up B) (up C) (up G) (ix3 h i j)
    = ((-∑ k, (hD (head C h) (head G h)) i k * (1 / (((∑ k, (hE σ (head A h) (head B h)) i k) * Real.exp (-b i)) * ((∑ k, (hE σ (head A h) (head B h)) i k) * Real.exp (-b i)))) * ((hE σ (head A h) (head B h)) i k * Real.exp (-b i)) : ℝ) : EReal) := by
  rw [val_main_v53_apply, val_main_v52_apply, val_main_cst_12_apply, Fin.sum_univ_one]
  refine (congrArg₂ (· + ·) (Ideal.ofBits_zero_f32) ?_).trans (zero_add _)
  rw [val_main_v49_apply, val_main_v48_apply, EReal.coe_neg, ← v47_at A B C G h hM]
  refine congrArg (fun z => -(val_main_v47 (F := Ideal) (up A) (up B) (up C) (up G) z : EReal)) (funext fun a => ?_)
  have := i.isLt
  fin_cases a <;> refine Fin.ext ?_ <;> simp <;> omega

theorem v58_at (i j : Fin 4112) : val_main_v58 (F := Ideal) (up A) (up B) (up C) (up G) (ix3 h i j)
    = ((hS σ (head A h) (head B h) (head C h) (head G h) i j * σ : ℝ) : EReal) := by
  have hne := (pos A B h hM i).ne'
  have hx := (Real.exp_pos (-b i)).ne'
  have hN := (sum_hE_pos σ (head A h) (head B h) i).ne'
  rw [val_main_v58_apply, val_main_v56_apply, mask_at, val_main_v57_apply, val_main_cst_13_apply, val_main_v55_apply, val_main_v54_apply,
    val_main_v51_apply, v41_at, val_main_v50_apply, v53_at A B C G h hM, v30_at A B h hM, val_main_call1_v0_apply, val_main_call1_cst_apply]
  have e : (idx_main_v50 (ix3 h i j)) = ix3 h i 0 := funext fun a => by fin_cases a <;> rfl
  rw [e, v32_at A B h hM, EReal.coe_mul _ σ]
  refine congrArg₂ (fun z w : EReal => z * w) ?_ ofBits_scale
  have e0 : (hE σ (head A h) (head B h)) i j = 0 ∨ j.val ≤ i.val := by
    by_cases hc : j.val ≤ i.val
    · exact Or.inr hc
    · exact Or.inl (if_neg hc)
  split
  · refine (congrArg (fun z : EReal => (z + _) * _) (div_coe ((hD (head C h) (head G h)) i j) hne)).trans ?_
    rw [← EReal.coe_add, ← EReal.coe_mul]
    refine congrArg _ ?_
    unfold hS hp
    rw [mean_eq _ _ hN hx]
    generalize (∑ k, (hE σ (head A h) (head B h)) i k / (∑ k, (hE σ (head A h) (head B h)) i k) * (hD (head C h) (head G h)) i k) = T
    generalize (∑ k, (hE σ (head A h) (head B h)) i k) = N at *
    field_simp
    ring
  · rename_i hc
    refine Ideal.ofBits_zero_f32.trans ?_
    unfold hS hp
    rw [e0.resolve_right hc, zero_div, zero_mul, EReal.coe_zero]

end Max

/-! ## The results -/

theorem idx64 (r : Fin 4224) (c : Fin 1024) : idx_main_v64 (ix2 r c) = ix3 r (hd c) (ln c) := by
  have := c.isLt
  funext a
  fin_cases a <;> refine Fin.ext ?_ <;> simp [hd, ln] <;> omega

theorem dq_at (r : Fin 4224) (c : Fin 1024) : val_main_v64 (F := Ideal) (up A) (up B) (up C) (up G) (ix2 r c)
    = ((AttnMath.pad (gq σ (head A (hd c)) (head B (hd c)) (head C (hd c)) (head G (hd c))) r (ln c) : ℝ) : EReal) := by
  rw [val_main_v64_apply, idx64]
  unfold val_main_v63
  refine pad_at (by decide) _ (fun i h d => gq σ (head A h) (head B h) (head C h) (head G h) i d) (fun i h d => ?_) _ (fun _ => ?_) _ _ r (hd c) (ln c)
  · obtain ⟨b, hM⟩ := exists_max A B h
    unfold gq
    rw [val_main_v62_apply, val_main_v61_apply, ← sum_coe]
    refine Finset.sum_congr rfl fun k _ => ?_
    rw [EReal.coe_mul, ← v58_at A B C G h hM]
    exact congrArg₂ (fun s (t : ℝ) => (val_main_v58 (F := Ideal) (up A) (up B) (up C) (up G) s : EReal) * (t : EReal)) (funext fun a => by fin_cases a <;> rfl)
      (head_at B _ h k d (funext fun a => by fin_cases a <;> rfl))
  · rw [val_main_call2_v0_apply, val_main_c_apply]
    simp [FloatOps.sitofp]

theorem dk_at (r : Fin 4224) (c : Fin 1024) : val_main_v66 (F := Ideal) (up A) (up B) (up C) (up G) (ix2 r c)
    = ((AttnMath.pad (gk σ (head A (hd c)) (head B (hd c)) (head C (hd c)) (head G (hd c))) r (ln c) : ℝ) : EReal) := by
  rw [val_main_v66_apply, show idx_main_v66 (ix2 r c) = ix3 r (hd c) (ln c) from idx64 r c]
  unfold val_main_v65
  refine pad_at (by decide) _ (fun i h d => gk σ (head A h) (head B h) (head C h) (head G h) i d) (fun i h d => ?_) _ (fun _ => ?_) _ _ r (hd c) (ln c)
  · obtain ⟨b, hM⟩ := exists_max A B h
    unfold gk
    rw [val_main_v60_apply, val_main_v59_apply, ← sum_coe]
    refine Finset.sum_congr rfl fun k _ => ?_
    rw [EReal.coe_mul, ← v58_at A B C G h hM]
    exact congrArg₂ (fun s (t : ℝ) => (val_main_v58 (F := Ideal) (up A) (up B) (up C) (up G) s : EReal) * (t : EReal)) (funext fun a => by fin_cases a <;> rfl)
      (head_at A _ h k d (funext fun a => by fin_cases a <;> rfl))
  · rw [val_main_call3_v0_apply, val_main_c_14_apply]
    simp [FloatOps.sitofp]

theorem dv_at (r : Fin 4224) (c : Fin 1024) : val_main_v68 (F := Ideal) (up A) (up B) (up G) (ix2 r c)
    = ((AttnMath.pad (gv σ (head A (hd c)) (head B (hd c)) (head G (hd c))) r (ln c) : ℝ) : EReal) := by
  rw [val_main_v68_apply, show idx_main_v68 (ix2 r c) = ix3 r (hd c) (ln c) from idx64 r c]
  unfold val_main_v67
  refine pad_at (by decide) _ (fun i h d => gv σ (head A h) (head B h) (head G h) i d) (fun i h d => ?_) _ (fun _ => ?_) _ _ r (hd c) (ln c)
  · obtain ⟨b, hM⟩ := exists_max A B h
    unfold gv
    rw [val_main_v43_apply, val_main_v42_apply, ← sum_coe]
    refine Finset.sum_congr rfl fun k _ => ?_
    rw [EReal.coe_mul, ← v34_at A B h hM, val_main_v40_apply]
    exact congrArg₂ (fun (s : ℝ) t => (s : EReal) * (val_main_v34 (F := Ideal) (up A) (up B) t : EReal)) (head_at G _ h k d (funext fun a => by fin_cases a <;> rfl))
      (funext fun a => by fin_cases a <;> rfl)
  · rw [val_main_call4_v0_apply, val_main_c_15_apply]
    simp [FloatOps.sitofp]

end Run

end Cert.Proof.AttnRef
end
-- ==== Proof.Attn.lean ====
module

public import proofs.«01_k».proof.Proof.AttnRun
public import proofs.«01_k».proof.Proof.AttnFwdVal
public import proofs.«01_k».proof.Proof.AttnBwdVal
public import proofs.«01_k».proof.Proof.AttnRef
public import Idealize.ShloMosaic.Lib.StableHlo.RunRead
public import Idealize.ShloMosaic.Lib.Pipeline.ValueKit

@[expose] public section

/-! # The attention's arrays

The arrays of the two pipelines from their blocks, and the host's preparation of the arguments. -/

set_option maxRecDepth 16384

noncomputable section

namespace Cert.Proof.Attn

open Idealize.ShloMosaic Idealize.ShloMosaic.TcCoe Idealize.SL.Sem Cert.Proof.Reals Cert.Proof.AttnRef
open Cert.AttnKernelIdeal Cert.AttnKernelIdeal.Gen Cert.Proof.AttnRun

/-- The column of a head's lane. -/
def col (h : Fin 8) (d : Fin 128) : Fin 1024 := ⟨h.val * 128 + d.val, by have := h.isLt; have := d.isLt; omega⟩

theorem hd_col (h : Fin 8) (d : Fin 128) : hd (col h d) = h := by
  have := d.isLt
  exact Fin.ext (by simp only [hd, col]; omega)

theorem ln_col (h : Fin 8) (d : Fin 128) : ln (col h d) = d := by
  have := d.isLt
  exact Fin.ext (by simp only [ln, col]; omega)

/-- A packed array at a row, a head and a lane. -/
def packed (q : Fin 8 → Fin 4224 → Fin 128 → EReal) : S4224x1024.Idx → EReal := fun j => q (hd (j 1)) (j 0) (ln (j 1))

theorem packed_col (q : Fin 8 → Fin 4224 → Fin 128 → EReal) (h : Fin 8) (r : Fin 4224) (d : Fin 128) : packed q (ix2 r (col h d)) = q h r d := by
  refine (show packed q (ix2 r (col h d)) = q (hd (col h d)) r (ln (col h d)) from rfl).trans ?_
  rw [hd_col, ln_col]

/-- Real heads. -/
abbrev re (q : Fin 8 → Fin 4224 → Fin 128 → ℝ) : Fin 8 → Fin 4224 → Fin 128 → EReal := fun h r d => ((q h r d : ℝ) : EReal)

/-- An array of the logarithms. -/
def logs (l : Fin 8 → Fin 4224 → EReal) : S8x4224x1.Idx → EReal := fun j => l (j 0) (j 1)

/-- The head of a point. -/
def at0 (t : Fin cfg0.N) : Fin 8 := ⟨(grid0.coords t 0).val, (grid0.coords t 0).isLt⟩
def at1 (t : Fin cfg1.N) : Fin 8 := ⟨(grid1.coords t 0).val, (grid1.coords t 0).isLt⟩

theorem e0_0 : ∀ t : Fin cfg0.N, win0_0.index t = ![0, (grid0.coords t 0).val] := (by decide +kernel : ∀ t : Fin grid0.N, _)
theorem emb0_0 (t : Fin cfg0.N) (r : Fin 4224) (d : Fin 128) : (win0_0.blk t).view.emb (ix2 r d) = ix2 r (col (at0 t) d) := by
  blk_ext [e0_0, col, at0]

theorem e0_1 : ∀ t : Fin cfg0.N, win0_1.index t = ![0, (grid0.coords t 0).val] := (by decide +kernel : ∀ t : Fin grid0.N, _)
theorem emb0_1 (t : Fin cfg0.N) (r : Fin 4224) (d : Fin 128) : (win0_1.blk t).view.emb (ix2 r d) = ix2 r (col (at0 t) d) := by
  blk_ext [e0_1, col, at0]

theorem e0_2 : ∀ t : Fin cfg0.N, win0_2.index t = ![0, (grid0.coords t 0).val] := (by decide +kernel : ∀ t : Fin grid0.N, _)
theorem emb0_2 (t : Fin cfg0.N) (r : Fin 4224) (d : Fin 128) : (win0_2.blk t).view.emb (ix2 r d) = ix2 r (col (at0 t) d) := by
  blk_ext [e0_2, col, at0]

theorem e0_3 : ∀ t : Fin cfg0.N, win0_3.index t = ![0, (grid0.coords t 0).val] := (by decide +kernel : ∀ t : Fin grid0.N, _)
theorem emb0_3 (t : Fin cfg0.N) (r : Fin 4224) (d : Fin 128) : (win0_3.blk t).view.emb (ix2 r d) = ix2 r (col (at0 t) d) := by
  blk_ext [e0_3, col, at0]

theorem e0_4 : ∀ t : Fin cfg0.N, win0_4.index t = ![(grid0.coords t 0).val, 0, 0] := (by decide +kernel : ∀ t : Fin grid0.N, _)
theorem emb0_4 (t : Fin cfg0.N) (r : Fin 4224) : (win0_4.blk t).view.emb (ix3 0 r 0) = ix3 (at0 t) r 0 := by
  blk_ext [e0_4, at0]

theorem e1_0 : ∀ t : Fin cfg1.N, win1_0.index t = ![0, (grid1.coords t 0).val] := (by decide +kernel : ∀ t : Fin grid1.N, _)
theorem emb1_0 (t : Fin cfg1.N) (r : Fin 4224) (d : Fin 128) : (win1_0.blk t).view.emb (ix2 r d) = ix2 r (col (at1 t) d) := by
  blk_ext [e1_0, col, at1]

theorem e1_1 : ∀ t : Fin cfg1.N, win1_1.index t = ![0, (grid1.coords t 0).val] := (by decide +kernel : ∀ t : Fin grid1.N, _)
theorem emb1_1 (t : Fin cfg1.N) (r : Fin 4224) (d : Fin 128) : (win1_1.blk t).view.emb (ix2 r d) = ix2 r (col (at1 t) d) := by
  blk_ext [e1_1, col, at1]

theorem e1_2 : ∀ t : Fin cfg1.N, win1_2.index t = ![0, (grid1.coords t 0).val] := (by decide +kernel : ∀ t : Fin grid1.N, _)
theorem emb1_2 (t : Fin cfg1.N) (r : Fin 4224) (d : Fin 128) : (win1_2.blk t).view.emb (ix2 r d) = ix2 r (col (at1 t) d) := by
  blk_ext [e1_2, col, at1]

theorem e1_3 : ∀ t : Fin cfg1.N, win1_3.index t = ![0, (grid1.coords t 0).val] := (by decide +kernel : ∀ t : Fin grid1.N, _)
theorem emb1_3 (t : Fin cfg1.N) (r : Fin 4224) (d : Fin 128) : (win1_3.blk t).view.emb (ix2 r d) = ix2 r (col (at1 t) d) := by
  blk_ext [e1_3, col, at1]

theorem e1_5 : ∀ t : Fin cfg1.N, win1_5.index t = ![0, (grid1.coords t 0).val] := (by decide +kernel : ∀ t : Fin grid1.N, _)
theorem emb1_5 (t : Fin cfg1.N) (r : Fin 4224) (d : Fin 128) : (win1_5.blk t).view.emb (ix2 r d) = ix2 r (col (at1 t) d) := by
  blk_ext [e1_5, col, at1]

theorem e1_6 : ∀ t : Fin cfg1.N, win1_6.index t = ![0, (grid1.coords t 0).val] := (by decide +kernel : ∀ t : Fin grid1.N, _)
theorem emb1_6 (t : Fin cfg1.N) (r : Fin 4224) (d : Fin 128) : (win1_6.blk t).view.emb (ix2 r d) = ix2 r (col (at1 t) d) := by
  blk_ext [e1_6, col, at1]

theorem e1_7 : ∀ t : Fin cfg1.N, win1_7.index t = ![0, (grid1.coords t 0).val] := (by decide +kernel : ∀ t : Fin grid1.N, _)
theorem emb1_7 (t : Fin cfg1.N) (r : Fin 4224) (d : Fin 128) : (win1_7.blk t).view.emb (ix2 r d) = ix2 r (col (at1 t) d) := by
  blk_ext [e1_7, col, at1]

theorem e1_8 : ∀ t : Fin cfg1.N, win1_8.index t = ![0, (grid1.coords t 0).val] := (by decide +kernel : ∀ t : Fin grid1.N, _)
theorem emb1_8 (t : Fin cfg1.N) (r : Fin 4224) (d : Fin 128) : (win1_8.blk t).view.emb (ix2 r d) = ix2 r (col (at1 t) d) := by
  blk_ext [e1_8, col, at1]

theorem e1_4 : ∀ t : Fin cfg1.N, win1_4.index t = ![(grid1.coords t 0).val, 0, 0] := (by decide +kernel : ∀ t : Fin grid1.N, _)
theorem emb1_4 (t : Fin cfg1.N) (r : Fin 4224) : (win1_4.blk t).view.emb (ix3 0 r 0) = ix3 (at1 t) r 0 := by
  blk_ext [e1_4, at1]

/-! ## The pipelines -/

section Pipelines

variable (V : (c : Dev nD) → (b : Ref sig .tc) → Buf (Elt Ideal) ((c : Thread nD τ).loc b)) (c : Dev nD)
variable (q k v g : Fin 8 → Fin 4224 → Fin 128 → ℝ)

section Forward

variable (hq : V c main_v4 = packed (re q)) (hk : V c main_v7 = packed (re k)) (hv : V c main_v10 = packed (re v))
include hq hk hv

theorem res0 (t : Fin cfg0.N) (r : Fin 4224) :
    (∀ d, res0_3 V c t (ix2 r d) = AttnMath.out (q (at0 t)) (k (at0 t)) (v (at0 t)) r d) ∧ res0_4 V c t (ix3 0 r 0) = AttnMath.lse (q (at0 t)) (k (at0 t)) r := by
  have h0 : ∀ r d, iblk0 V c 0 t (ix2 r d) = ((q (at0 t) r d : ℝ) : EReal) := fun r d => by
    blk_simp [iblk0]
    exact (congrArg (V c main_v4) (emb0_0 t r d)).trans ((congrFun hq _).trans (packed_col (re q) (at0 t) r d))
  have h1 : ∀ r d, iblk0 V c 1 t (ix2 r d) = ((k (at0 t) r d : ℝ) : EReal) := fun r d => by
    blk_simp [iblk0]
    exact (congrArg (V c main_v7) (emb0_1 t r d)).trans ((congrFun hk _).trans (packed_col (re k) (at0 t) r d))
  have h2 : ∀ r d, iblk0 V c 2 t (ix2 r d) = ((v (at0 t) r d : ℝ) : EReal) := fun r d => by
    blk_simp [iblk0]
    exact (congrArg (V c main_v10) (emb0_2 t r d)).trans ((congrFun hv _).trans (packed_col (re v) (at0 t) r d))
  exact ⟨fun d => AttnFwdVal.out_apply _ _ _ _ _ _ _ _ _ _ _ _ _ _ _ _ _ _ h0 h1 h2 r d, AttnFwdVal.lse_apply _ _ _ _ _ _ _ _ _ _ _ _ _ _ _ _ _ _ h0 h1 h2 r⟩

/-- The forward call's output. -/
theorem out_arr : (dat0 V c).arrAt 3 cfg0.N = packed fun h r d => AttnMath.out (q h) (k h) (v h) r d := by
  refine (dat0 V c).arrAt_eq_of_covers 3 _ (by decide +kernel) fun t hf y => ?_
  blk_simp
  rw [after0_3]
  idx_vars y
  refine ((res0 V c q k v hq hk hv t y0).1 y1).trans ?_
  exact (packed_col (fun h r d => AttnMath.out (q h) (k h) (v h) r d) (at0 t) y0 y1).symm.trans (congrArg _ (emb0_3 t y0 y1).symm)

/-- The forward call's logarithms. -/
theorem lse_arr : (dat0 V c).arrAt 4 cfg0.N = logs fun h r => AttnMath.lse (q h) (k h) r := by
  refine (dat0 V c).arrAt_eq_of_covers 4 _ (by decide +kernel) fun t hf y => ?_
  blk_simp
  rw [after0_4]
  idx_vars y
  fin_cases y0
  fin_cases y2
  refine (res0 V c q k v hq hk hv t y1).2.trans ?_
  exact congrArg (logs fun h r => AttnMath.lse (q h) (k h) r) (emb0_4 t y1).symm

end Forward

section Backward

variable (hq : V c main_v4 = packed (re q)) (hk : V c main_v7 = packed (re k)) (hv : V c main_v10 = packed (re v))
  (ho : V c main_v11_0 = packed fun h r d => AttnMath.out (q h) (k h) (v h) r d) (hl : V c main_v11_1 = logs fun h r => AttnMath.lse (q h) (k h) r)
  (hg : V c main_v13 = packed (re g)) (hz : ∀ h r, ¬0 < AttnMath.Z (q h) (k h) r → ∀ d, g h r d = 0)
include hq hk hv ho hl hg hz

theorem res1 (t : Fin cfg1.N) (r : Fin 4224) (d : Fin 128) :
    res1_6 V c t (ix2 r d) = ((AttnMath.dq (q (at1 t)) (k (at1 t)) (v (at1 t)) (g (at1 t)) r d : ℝ) : EReal)
      ∧ res1_7 V c t (ix2 r d) = ((AttnMath.dk (q (at1 t)) (k (at1 t)) (v (at1 t)) (g (at1 t)) r d : ℝ) : EReal)
      ∧ res1_8 V c t (ix2 r d) = ((AttnMath.dv (q (at1 t)) (k (at1 t)) (g (at1 t)) r d : ℝ) : EReal) := by
  have h0 : ∀ r d, iblk1 V c 0 t (ix2 r d) = ((q (at1 t) r d : ℝ) : EReal) := fun r d => by
    blk_simp [iblk1]
    exact (congrArg (V c main_v4) (emb1_0 t r d)).trans ((congrFun hq _).trans (packed_col (re q) (at1 t) r d))
  have h1 : ∀ r d, iblk1 V c 1 t (ix2 r d) = ((k (at1 t) r d : ℝ) : EReal) := fun r d => by
    blk_simp [iblk1]
    exact (congrArg (V c main_v7) (emb1_1 t r d)).trans ((congrFun hk _).trans (packed_col (re k) (at1 t) r d))
  have h2 : ∀ r d, iblk1 V c 2 t (ix2 r d) = ((v (at1 t) r d : ℝ) : EReal) := fun r d => by
    blk_simp [iblk1]
    exact (congrArg (V c main_v10) (emb1_2 t r d)).trans ((congrFun hv _).trans (packed_col (re v) (at1 t) r d))
  have h3 : ∀ r d, iblk1 V c 3 t (ix2 r d) = AttnMath.out (q (at1 t)) (k (at1 t)) (v (at1 t)) r d := fun r d => by
    blk_simp [iblk1]
    exact (congrArg (V c main_v11_0) (emb1_3 t r d)).trans ((congrFun ho _).trans (packed_col _ (at1 t) r d))
  have h4 : ∀ r, iblk1 V c 4 t (ix3 0 r 0) = AttnMath.lse (q (at1 t)) (k (at1 t)) r := fun r => by
    blk_simp [iblk1]
    exact (congrArg (V c main_v11_1) (emb1_4 t r)).trans (congrFun hl _)
  have h5 : ∀ r d, iblk1 V c 5 t (ix2 r d) = ((g (at1 t) r d : ℝ) : EReal) := fun r d => by
    blk_simp [iblk1]
    exact (congrArg (V c main_v13) (emb1_5 t r d)).trans ((congrFun hg _).trans (packed_col (re g) (at1 t) r d))
  exact AttnBwdVal.grads_apply _ _ _ _ _ _ _ _ _ _ _ _ _ _ _ _ _ _ _ _ _ _ _ _ _ _ _ _ _ _ _ _ h0 h1 h2 h3 h4 h5 (hz (at1 t)) r d

theorem dq_arr : (dat1 V c).arrAt 6 cfg1.N = packed (re fun h r d => AttnMath.dq (q h) (k h) (v h) (g h) r d) := by
  refine (dat1 V c).arrAt_eq_of_covers 6 _ (by decide +kernel) fun t hf y => ?_
  blk_simp
  rw [after1_6]
  idx_vars y
  refine ((res1 V c q k v g hq hk hv ho hl hg hz t y0 y1).1).trans ?_
  exact (packed_col (re fun h r d => AttnMath.dq (q h) (k h) (v h) (g h) r d) (at1 t) y0 y1).symm.trans (congrArg _ (emb1_6 t y0 y1).symm)

theorem dk_arr : (dat1 V c).arrAt 7 cfg1.N = packed (re fun h r d => AttnMath.dk (q h) (k h) (v h) (g h) r d) := by
  refine (dat1 V c).arrAt_eq_of_covers 7 _ (by decide +kernel) fun t hf y => ?_
  blk_simp
  rw [after1_7]
  idx_vars y
  refine ((res1 V c q k v g hq hk hv ho hl hg hz t y0 y1).2.1).trans ?_
  exact (packed_col (re fun h r d => AttnMath.dk (q h) (k h) (v h) (g h) r d) (at1 t) y0 y1).symm.trans (congrArg _ (emb1_7 t y0 y1).symm)

theorem dv_arr : (dat1 V c).arrAt 8 cfg1.N = packed (re fun h r d => AttnMath.dv (q h) (k h) (g h) r d) := by
  refine (dat1 V c).arrAt_eq_of_covers 8 _ (by decide +kernel) fun t hf y => ?_
  blk_simp
  rw [after1_8]
  idx_vars y
  refine ((res1 V c q k v g hq hk hv ho hl hg hz t y0 y1).2.2).trans ?_
  exact (packed_col (re fun h r d => AttnMath.dv (q h) (k h) (g h) r d) (at1 t) y0 y1).symm.trans (congrArg _ (emb1_8 t y0 y1).symm)

end Backward

end Pipelines

/-! ## The host's arrays -/

section Host

variable (m : (ℓ : Loc nD τ sig) → Buf (Elt Ideal) ℓ) (ρ : Dev nD → PrngReg) (c : Dev nD)

/-- The pad of an argument, packed. -/
theorem pack_pad {n k : ℕ} (hn : n ≤ 128) (X : (⟨3, ![4112, 8, n]⟩ : Shape).Idx → ℝ)
    (hp : (⟨3, ![4112, 8, n]⟩ : Shape).Pads ![48, 0, 0] ![64, 0, k] ![0, 0, 0] S4224x8x128) (hc : S4224x8x128.ShapeCasts S4224x1024)
    (z : S_.Idx → EReal) (hz : ∀ i, z i = 0) :
    (shapeCast S4224x1024 (pad S4224x8x128 ![48, 0, 0] ![64, 0, k] ![0, 0, 0] (up X) z hp h_S_) hc : S4224x1024.Idx → EReal)
      = packed (re fun h => AttnMath.pad (head X h)) := by
  funext j
  idx_vars j
  have hj0 := j0.isLt
  have hj1 := j1.isLt
  refine (shapeCast_apply _ hc (ix2 j0 j1) (ix3 j0 (hd j1) (ln j1)) ?_).trans ?_
  · rw [Shape.rowMajor_val_three, Shape.rowMajor_val_two]
    simp [hd, ln]
    omega
  · exact pad_at hn (up X) (fun i h d => X (ix3 i h d)) (fun _ _ _ => rfl) z hz hp h_S_ j0 (hd j1) (ln j1)

theorem zero_at (i : S_.Idx) : (sitofp (F := Ideal) .f32 (constantI S_ 32 0#32) : S_.Idx → EReal) i = 0 := by
  simp [sitofp, constantI, FloatOps.sitofp]

variable (A B : S4112x8x96.Idx → ℝ) (C G : S4112x8x64.Idx → ℝ)

theorem w4 (hA : m ((c : Thread nD τ).loc main_arg0) = up A) : W7 m ρ c (Proc.devRef .tc main_v4) = packed (re fun h => AttnMath.qs σ (head A h)) := by
  rw [W7_of _ _ _ _ (by decide), W6_of _ _ _ _ (by decide), W5_of _ _ _ _ (by decide), W4_of _ _ _ _ (by decide)]
  have e : W3 m ρ c (Proc.devRef .tc main_v4) = truncf (F := Ideal) .bf16 (mulf (F := Ideal) (φ := .f32) (shapeCast S4224x1024 (W2 m ρ c (Proc.devRef .tc main_v0)) shapeCasts_S4224x8x128_S4224x1024)
      (broadcastInDim S4224x1024 ![] bcast_S_S4224x1024 (constant (F := Ideal) S_ .f32 0x3DD105EC#32))) bitsLt_bf16_f32 := by
    show StableHlo.after hostOps0_2 _ _ = _
    generalize W2 m ρ c = W
    after_reads_simp
    rfl
  have e0 : W2 m ρ c (Proc.devRef .tc main_v0) = pad S4224x8x128 ![48, 0, 0] ![64, 0, 32] ![0, 0, 0] (up A) (sitofp (F := Ideal) .f32 (constantI S_ 32 0#32)) pads_S4112x8x96_S4224x8x128_48640_000_0320 h_S_ := by
    rw [← hA]
    after_reads_simp
    rfl
  rw [e, e0, pack_pad (by decide) A _ _ _ zero_at]
  funext j
  idx_vars j
  unfold packed re
  open Pointwise in pointwise []
  rw [ofBits_scale, ← EReal.coe_mul]
  refine congrArg _ ?_
  unfold AttnMath.qs AttnMath.pad
  split <;> simp

theorem id_cast (x : S4224x1024.Idx → EReal) : truncf (F := Ideal) (φ := .f32) .bf16 x bitsLt_bf16_f32 = x := by
  funext j
  open Pointwise in pointwise []

theorem w7 (hB : m ((c : Thread nD τ).loc main_arg1) = up B) : W7 m ρ c (Proc.devRef .tc main_v7) = packed (re fun h => AttnMath.pad (head B h)) := by
  rw [W7_of _ _ _ _ (by decide), W6_of _ _ _ _ (by decide)]
  have e : W5 m ρ c (Proc.devRef .tc main_v7) = truncf (F := Ideal) (φ := .f32) .bf16 (shapeCast S4224x1024 (W4 m ρ c (Proc.devRef .tc main_v5)) shapeCasts_S4224x8x128_S4224x1024) bitsLt_bf16_f32 := by
    show StableHlo.after hostOps0_4 _ _ = _
    generalize W4 m ρ c = W
    after_reads_simp
    rfl
  have e0 : W4 m ρ c (Proc.devRef .tc main_v5) = pad S4224x8x128 ![48, 0, 0] ![64, 0, 32] ![0, 0, 0] (up B) (sitofp (F := Ideal) .f32 (constantI S_ 32 0#32)) pads_S4112x8x96_S4224x8x128_48640_000_0320 h_S_ := by
    rw [← hB]
    after_reads_simp
    rfl
  rw [e, e0, pack_pad (by decide) B _ _ _ zero_at, id_cast]

theorem w10 (hC : m ((c : Thread nD τ).loc main_arg2) = up C) : W7 m ρ c (Proc.devRef .tc main_v10) = packed (re fun h => AttnMath.pad (head C h)) := by
  have e : W7 m ρ c (Proc.devRef .tc main_v10) = truncf (F := Ideal) (φ := .f32) .bf16 (shapeCast S4224x1024 (W6 m ρ c (Proc.devRef .tc main_v8)) shapeCasts_S4224x8x128_S4224x1024) bitsLt_bf16_f32 := by
    show StableHlo.after hostOps0_6 _ _ = _
    generalize W6 m ρ c = W
    after_reads_simp
    rfl
  have e0 : W6 m ρ c (Proc.devRef .tc main_v8) = pad S4224x8x128 ![48, 0, 0] ![64, 0, 64] ![0, 0, 0] (up C) (sitofp (F := Ideal) .f32 (constantI S_ 32 0#32)) pads_S4112x8x64_S4224x8x128_48640_000_0640 h_S_ := by
    rw [← hC]
    after_reads_simp
    rfl
  rw [e, e0, pack_pad (by decide) C _ _ _ zero_at, id_cast]

theorem w13 (hG : m ((c : Thread nD τ).loc main_arg3) = up G) : W11 m ρ c (Proc.devRef .tc main_v13) = packed (re fun h => AttnMath.pad (head G h)) := by
  have e : W11 m ρ c (Proc.devRef .tc main_v13) = shapeCast S4224x1024 (W10 m ρ c (Proc.devRef .tc main_v12)) shapeCasts_S4224x8x128_S4224x1024 := by
    show StableHlo.after hostOps1_2 _ _ = _
    generalize W10 m ρ c = W
    after_reads_simp
    rfl
  have h8 : W8 m ρ c (Proc.devRef .tc main_arg3) = up G := (W8_args m ρ c main_arg3 (by simp [argRefs])).trans hG
  have e0 : W10 m ρ c (Proc.devRef .tc main_v12) = pad S4224x8x128 ![48, 0, 0] ![64, 0, 64] ![0, 0, 0] (up G) (sitofp (F := Ideal) .f32 (constantI S_ 32 0#32)) pads_S4112x8x64_S4224x8x128_48640_000_0640 h_S_ := by
    rw [← h8]
    show StableHlo.after hostOps1_1 (StableHlo.after hostOps1 _) _ = _
    generalize W8 m ρ c = W
    after_reads_simp
    rfl
  rw [e, e0, pack_pad (by decide) G _ _ _ zero_at]

/-! ## The results -/

variable (hA : m ((c : Thread nD τ).loc main_arg0) = up A) (hB : m ((c : Thread nD τ).loc main_arg1) = up B)
  (hC : m ((c : Thread nD τ).loc main_arg2) = up C) (hG : m ((c : Thread nD τ).loc main_arg3) = up G)
include hA hB hC

theorem v11_0 : W11 m ρ c (Proc.devRef .tc main_v11_0)
    = packed fun h r d => AttnMath.out (AttnMath.qs σ (head A h)) (AttnMath.pad (head B h)) (AttnMath.pad (head C h)) r d := by
  rw [W11_of _ _ _ _ (by decide), W10_of _ _ _ _ (by decide), W9_of _ _ _ _ (by decide)]
  exact (W8_arr m ρ c 3).trans (out_arr (V7 m ρ) c _ _ _ (w4 m ρ c A hA) (w7 m ρ c B hB) (w10 m ρ c C hC))

theorem v11_1 : W11 m ρ c (Proc.devRef .tc main_v11_1) = logs fun h r => AttnMath.lse (AttnMath.qs σ (head A h)) (AttnMath.pad (head B h)) r := by
  rw [W11_of _ _ _ _ (by decide), W10_of _ _ _ _ (by decide), W9_of _ _ _ _ (by decide)]
  exact (W8_arr m ρ c 4).trans (lse_arr (V7 m ρ) c _ _ _ (w4 m ρ c A hA) (w7 m ρ c B hB) (w10 m ρ c C hC))

omit hA hB hC in
/-- The later host stretch leaves the first call's arguments. -/
theorem kept (b : Ref sig .tc) (h : b = main_v4 ∨ b = main_v7 ∨ b = main_v10) : W11 m ρ c (Proc.devRef .tc b) = W7 m ρ c (Proc.devRef .tc b) := by
  rcases h with rfl | rfl | rfl <;>
    rw [W11_of _ _ _ _ (by decide), W10_of _ _ _ _ (by decide), W9_of _ _ _ _ (by decide), W8_of _ _ _ _ (by decide)]

include hG

theorem v14_1 : W13 m ρ c (Proc.devRef .tc main_v14_1) = packed (re fun h => AttnMath.pad (AttnMath.gk σ (head A h) (head B h) (head C h) (head G h))) := by
  rw [W13_of _ _ _ _ (by decide)]
  refine (W12_arr m ρ c 7).trans ((dk_arr (V11 m ρ) c _ _ _ _ ((kept m ρ c _ (by simp)).trans (w4 m ρ c A hA)) ((kept m ρ c _ (by simp)).trans (w7 m ρ c B hB))
    ((kept m ρ c _ (by simp)).trans (w10 m ρ c C hC)) (v11_0 m ρ c A B C hA hB hC) (v11_1 m ρ c A B C hA hB hC) (w13 m ρ c G hG)
    fun h r hh d => AttnMath.Z_zero σ (head A h) (head B h) (head G h) hh d).trans ?_)
  exact congrArg packed (funext fun h => funext fun r => funext fun d => congrArg _ (AttnMath.dk_pad σ (head A h) (head B h) (head C h) (head G h) r d))

theorem v14_2 : W13 m ρ c (Proc.devRef .tc main_v14_2) = packed (re fun h => AttnMath.pad (AttnMath.gv σ (head A h) (head B h) (head G h))) := by
  rw [W13_of _ _ _ _ (by decide)]
  refine (W12_arr m ρ c 8).trans ((dv_arr (V11 m ρ) c _ _ _ _ ((kept m ρ c _ (by simp)).trans (w4 m ρ c A hA)) ((kept m ρ c _ (by simp)).trans (w7 m ρ c B hB))
    ((kept m ρ c _ (by simp)).trans (w10 m ρ c C hC)) (v11_0 m ρ c A B C hA hB hC) (v11_1 m ρ c A B C hA hB hC) (w13 m ρ c G hG)
    fun h r hh d => AttnMath.Z_zero σ (head A h) (head B h) (head G h) hh d).trans ?_)
  exact congrArg packed (funext fun h => funext fun r => funext fun d => congrArg _ (AttnMath.dv_pad σ (head A h) (head B h) (head G h) r d))

theorem v16 : W13 m ρ c (Proc.devRef .tc main_v16) = packed (re fun h => AttnMath.pad (AttnMath.gq σ (head A h) (head B h) (head C h) (head G h))) := by
  have e : W13 m ρ c (Proc.devRef .tc main_v16) = mulf (F := Ideal) (φ := .f32) (W12 m ρ c (Proc.devRef .tc main_v14_0))
      (broadcastInDim S4224x1024 ![] bcast_S_S4224x1024 (constant (F := Ideal) S_ .f32 0x3DD105EC#32)) := by
    show StableHlo.after hostOps2 _ _ = _
    generalize W12 m ρ c = W
    after_reads_simp
  refine e.trans ((congrArg (fun x => mulf (F := Ideal) (φ := .f32) x _) ((W12_arr m ρ c 6).trans (dq_arr (V11 m ρ) c _ _ _ _ ((kept m ρ c _ (by simp)).trans (w4 m ρ c A hA)) ((kept m ρ c _ (by simp)).trans (w7 m ρ c B hB))
    ((kept m ρ c _ (by simp)).trans (w10 m ρ c C hC)) (v11_0 m ρ c A B C hA hB hC) (v11_1 m ρ c A B C hA hB hC) (w13 m ρ c G hG)
    fun h r hh d => AttnMath.Z_zero σ (head A h) (head B h) (head G h) hh d))).trans ?_)
  funext j
  idx_vars j
  unfold packed re
  open Pointwise in pointwise []
  rw [ofBits_scale, ← EReal.coe_mul]
  exact congrArg _ (AttnMath.dq_pad σ _ _ _ _ _ _)

end Host

end Cert.Proof.Attn
end
-- ==== Proof.AttnOut.lean ====
module

public import proofs.«01_k».proof.Proof.Attn

@[expose] public section

/-! # The attention's forward results

The output and the logarithm of each row's sum, of the reference and of the kernel. -/

set_option maxRecDepth 16384

noncomputable section

namespace Cert.Proof.AttnOut

open Idealize.ShloMosaic Idealize.ShloMosaic.TcCoe Idealize.SL.Sem Cert.Proof.Reals Cert.Proof.AttnMath Cert.Proof.AttnRef Cert.Proof.AttnRun

/-- The output in real numbers. -/
def ho {n : ℕ} (σ : ℝ) (A B : Fin 4112 → Fin 96 → ℝ) (C : Fin 4112 → Fin n → ℝ) (i : Fin 4112) (d : Fin n) : ℝ := ∑ j, hp σ A B i j * C j d

section Reference
open Cert.AttnReferenceIdeal Cert.AttnReferenceIdeal.Gen Cert.AttnReferenceIdeal.Read

variable (A B : S4112x8x96.Idx → ℝ) (C : S4112x8x64.Idx → ℝ) (h : Fin 8)

theorem ref_out_at (i : Fin 4112) (d : Fin 64) : val_main_v39 (F := Ideal) (up A) (up B) (up C) (ix3 i h d) = ((ho σ (head A h) (head B h) (head C h) i d : ℝ) : EReal) := by
  obtain ⟨b, hM⟩ := exists_max A B h
  have e : idx_main_v39 (ix3 i h d) = ix3 h d i := funext fun a => by fin_cases a <;> rfl
  rw [val_main_v39_apply, e, val_main_v38_apply]
  unfold ho
  rw [← sum_coe]
  refine Finset.sum_congr rfl fun k _ => ?_
  have el : lidx_main_v38 (ix3 h d i) k = ix3 k h d := funext fun a => by fin_cases a <;> rfl
  have er : ridx_main_v38 (ix3 h d i) k = ix3 h i k := funext fun a => by fin_cases a <;> rfl
  rw [el, er, v34_at A B h hM, mul_comm, EReal.coe_mul]
  rfl

theorem score_at (i j : Fin 4112) : val_main_v71 (F := Ideal) (up A) (up B) (ix3 h i j) = ((hs σ (head A h) (head B h) i j : ℝ) : EReal) := by
  rw [← v2_at A B h]
  rfl

theorem masked_at (i j : Fin 4112) : val_main_v78 (F := Ideal) (up A) (up B) (ix3 h i j) = if j.val ≤ i.val then ((hs σ (head A h) (head B h) i j : ℝ) : EReal) else ⊥ := by
  rw [← v9_at A B h]
  rfl

theorem exp_at (i j : Fin 4112) : val_main_v79 (F := Ideal) (up A) (up B) (ix3 h i j) = ((hE σ (head A h) (head B h) i j : ℝ) : EReal) := by
  rw [val_main_v79_apply, masked_at]
  unfold hE
  split
  · exact exp_coe _
  · exact exp_bot.trans EReal.coe_zero.symm

theorem ref_log_at (i : Fin 4112) : val_main_v81 (F := Ideal) (up A) (up B) (ix2 h i) = ((Real.log (∑ j, hE σ (head A h) (head B h) i j) : ℝ) : EReal) := by
  have e : val_main_v80 (F := Ideal) (up A) (up B) (ix2 h i) = ((∑ j, hE σ (head A h) (head B h) i j : ℝ) : EReal) := by
    rw [val_main_v80_apply, val_main_cst_18_apply, ← sum_coe]
    refine (congrArg₂ (· + ·) (Ideal.ofBits_zero_f32) (Finset.sum_congr rfl fun k _ => ?_)).trans (zero_add _)
    rw [← exp_at A B h]
    exact congrArg _ (funext fun a => by fin_cases a <;> rfl)
  rw [val_main_v81_apply, e]
  exact log_coe (sum_hE_pos _ _ _ i)

theorem ref_out : val_main_v39 (F := Ideal) (up A) (up B) (up C) = up fun j => ho σ (head A (j 1)) (head B (j 1)) (head C (j 1)) (j 0) (j 2) := by
  funext j
  idx_vars j
  exact ref_out_at A B C j1 j0 j2

theorem ref_log : val_main_v81 (F := Ideal) (up A) (up B) = up fun j => Real.log (∑ k, hE σ (head A (j 0)) (head B (j 0)) (j 1) k) := by
  funext j
  idx_vars j
  exact ref_log_at A B j0 j1

end Reference

section Kernel
open Cert.AttnKernelIdeal Cert.AttnKernelIdeal.Gen

/-- The kernel's sums over padded rows are the sums over the rows. -/
theorem Y_row (A B : Fin 4112 → Fin 96 → ℝ) (C : Fin 4112 → Fin 64 → ℝ) (i : Fin 4112) (d : Fin 128) (hd : d.val < 64) :
    Y (qs σ A) (pad B) (pad C) (row i) d = ∑ j, hE σ A B i j * C j ⟨d.val, hd⟩ := by
  unfold Y
  rw [sum_row _ fun r hr => by unfold wt; rw [if_neg (dead_out hr), zero_mul]]
  exact Finset.sum_congr rfl fun j _ => by rw [wt_row, pad_row _ _ _ hd]

theorem out_row (A B : Fin 4112 → Fin 96 → ℝ) (C : Fin 4112 → Fin 64 → ℝ) (i : Fin 4112) (d : Fin 128) (hd : d.val < 64) :
    out (qs σ A) (pad B) (pad C) (row i) d = ((ho σ A B C i ⟨d.val, hd⟩ : ℝ) : EReal) := by
  have hpos := sum_hE_pos σ A B i
  unfold out ho
  rw [Z_row, if_pos hpos, Y_row A B C i d hd, Finset.sum_div]
  refine congrArg _ (Finset.sum_congr rfl fun j _ => ?_)
  unfold hp
  rw [div_mul_eq_mul_div]

theorem lse_row (A B : Fin 4112 → Fin 96 → ℝ) (i : Fin 4112) : lse (qs σ A) (pad B) (row i) = ((Real.log (∑ k, hE σ A B i k) : ℝ) : EReal) := by
  unfold lse
  rw [Z_row, if_pos (sum_hE_pos σ A B i)]

variable (m : (ℓ : Loc nD τ sig) → Buf (Elt Ideal) ℓ) (ρ : Dev nD → PrngReg) (c : Dev nD) (A B : S4112x8x96.Idx → ℝ) (C : S4112x8x64.Idx → ℝ)
variable (hA : m ((c : Thread nD τ).loc main_arg0) = up A) (hB : m ((c : Thread nD τ).loc main_arg1) = up B)
  (hC : m ((c : Thread nD τ).loc main_arg2) = up C)
include hA hB hC

theorem v18 : W13 m ρ c (Proc.devRef .tc main_v18) = up fun j => ho σ (head A (j 1)) (head B (j 1)) (head C (j 1)) (j 0) (j 2) := by
  have e : W13 m ρ c (Proc.devRef .tc main_v18) = extractStridedSlice S4112x8x64 ![48, 0, 0]
      (shapeCast S4224x8x128 (W12 m ρ c (Proc.devRef .tc main_v11_0) : S4224x1024.Idx → EReal) shapeCasts_S4224x1024_S4224x8x128)
      slices_S4224x8x128_S4112x8x64_48_0_0 := by
    show StableHlo.after hostOps2 _ _ = _
    generalize W12 m ρ c = W
    after_reads_simp
    rfl
  rw [e, W12_of _ _ _ _ (by decide), Attn.v11_0 m ρ c A B C hA hB hC]
  funext j
  idx_vars j
  have h0 := j0.isLt
  have h1 := j1.isLt
  have h2 := j2.isLt
  have hd : (⟨j2.val, by omega⟩ : Fin 128).val < 64 := h2
  refine (extractStridedSlice_apply _ _ _ (ix3 j0 j1 j2) (ix3 (AttnMath.row j0) j1 ⟨j2.val, by omega⟩) fun a => ?_).trans ?_
  · fin_cases a <;> simp [AttnMath.row_val] <;> omega
  refine (shapeCast_apply _ _ _ (ix2 (AttnMath.row j0) (Attn.col j1 ⟨j2.val, by omega⟩)) ?_).trans ?_
  · rw [Shape.rowMajor_val_three, Shape.rowMajor_val_two]
    simp [Attn.col]
    omega
  refine (Attn.packed_col _ j1 (AttnMath.row j0) ⟨j2.val, by omega⟩).trans ?_
  exact out_row _ _ _ j0 ⟨j2.val, by omega⟩ hd

theorem v20 : W13 m ρ c (Proc.devRef .tc main_v20) = up fun j => Real.log (∑ k, hE σ (head A (j 0)) (head B (j 0)) (j 1) k) := by
  have e : W13 m ρ c (Proc.devRef .tc main_v20) = shapeCast S8x4112 (extractStridedSlice S8x4112x1 ![0, 48, 0]
      (W12 m ρ c (Proc.devRef .tc main_v11_1) : S8x4224x1.Idx → EReal) slices_S8x4224x1_S8x4112x1_0_48_0) shapeCasts_S8x4112x1_S8x4112 := by
    show StableHlo.after hostOps2 _ _ = _
    generalize W12 m ρ c = W
    after_reads_simp
    rfl
  rw [e, W12_of _ _ _ _ (by decide), Attn.v11_1 m ρ c A B C hA hB hC]
  funext j
  idx_vars j
  have h1 := j1.isLt
  refine (shapeCast_apply _ _ _ (ix3 j0 j1 0) ?_).trans ?_
  · rw [Shape.rowMajor_val_three, Shape.rowMajor_val_two]
    simp
  refine (extractStridedSlice_apply _ _ _ (ix3 j0 j1 0) (ix3 j0 (AttnMath.row j1) 0) fun a => ?_).trans ?_
  · fin_cases a <;> simp [AttnMath.row_val] <;> omega
  exact lse_row _ _ j1

end Kernel

end Cert.Proof.AttnOut
end
-- ==== Proof.AttnClaim.lean ====
module

public import proofs.«01_k».proof.Proof.AttnOut
public import proofs.«01_k».proof.Defs
public import Idealize.ShloMosaic.Lib.Quiescent

@[expose] public section

/-! # The attention's claims -/

set_option maxRecDepth 16384

noncomputable section

namespace Cert.Proof.AttnClaim

open Idealize.ShloMosaic Idealize.SL.Sem Cert.Proof.Reals Cert.Proof.AttnRef Cert.Proof.AttnRun Cert.AttnReferenceIdeal.Read

instance facts_finite : Cert.Pre_attn_finite.Facts := ⟨by decide, by decide, by decide, by decide, by decide⟩

/-- The real numbers of a buffer. -/
abbrev real {s : Shape} (X : s.Idx → EReal) : s.Idx → ℝ := fun i => (X i).toReal

/-- The precondition makes every element of the arguments a real number. -/
theorem real_of_finite (X Y : Cert.AttnKernelIdeal.S4112x8x96.Idx → EReal) (Z W : Cert.AttnKernelIdeal.S4112x8x64.Idx → EReal)
    (h : Cert.Pre_attn_finite.fn (F := Ideal) X Y Z W = fun _ => 1#1) : X = up (real X) ∧ Y = up (real Y) ∧ Z = up (real Z) ∧ W = up (real W) := by
  have h0 := congrFun h (Shape.Idx.first (by decide))
  obtain ⟨h123, h4⟩ := and_of_andi h0
  obtain ⟨h12, h3⟩ := and_of_andi h123
  obtain ⟨h1, h2⟩ := and_of_andi h12
  have one : ∀ a b : (⟨0, ![]⟩ : Shape).Idx, a = b := fun a b => funext fun k => k.elim0
  exact ⟨funext fun i => (coe_of_cmp ofBits_inf (forall_of_reduce_andi _ _ _ _ _ one h1 i)).symm,
    funext fun i => (coe_of_cmp ofBits_inf (forall_of_reduce_andi _ _ _ _ _ one h2 i)).symm,
    funext fun i => (coe_of_cmp ofBits_inf (forall_of_reduce_andi _ _ _ _ _ one h3 i)).symm,
    funext fun i => (coe_of_cmp ofBits_inf (forall_of_reduce_andi _ _ _ _ _ one h4 i)).symm⟩

theorem quiescent_reference : quiescent_AttnReferenceIdeal := fun m ρ _ =>
  (θ_run Cert.AttnReferenceIdeal.defs _ _).mono (fun r h => ⟨fun c => (h c).2.2.2.2.2, sem_eq_zero_of_no_sems (by decide) r.2⟩)
    (Cert.AttnReferenceIdeal.Value.run (F := Ideal) m ρ)

section Reference

open Cert.AttnReferenceIdeal Cert.AttnReferenceIdeal.Read

variable (m : (ℓ : Loc nD τ sig) → Buf (Elt Ideal) ℓ) (c : Dev nD) (A B : S4112x8x96.Idx → ℝ) (C G : S4112x8x64.Idx → ℝ)

theorem ref_dq (hA : m ((c.tc : Thread nD τ).loc main_arg0) = up A) (hB : m ((c.tc : Thread nD τ).loc main_arg1) = up B)
    (hC : m ((c.tc : Thread nD τ).loc main_arg2) = up C) (hG : m ((c.tc : Thread nD τ).loc main_arg3) = up G) :
    Value.res_main_v64 (F := Ideal) m c = Attn.packed (Attn.re fun h => AttnMath.pad (AttnMath.gq σ (head A h) (head B h) (head C h) (head G h))) := by
  rw [val_main_v64_eq, hA, hB, hC, hG]
  funext j
  idx_vars j
  exact dq_at A B C G j0 j1

theorem ref_dk (hA : m ((c.tc : Thread nD τ).loc main_arg0) = up A) (hB : m ((c.tc : Thread nD τ).loc main_arg1) = up B)
    (hC : m ((c.tc : Thread nD τ).loc main_arg2) = up C) (hG : m ((c.tc : Thread nD τ).loc main_arg3) = up G) :
    Value.res_main_v66 (F := Ideal) m c = Attn.packed (Attn.re fun h => AttnMath.pad (AttnMath.gk σ (head A h) (head B h) (head C h) (head G h))) := by
  rw [val_main_v66_eq, hA, hB, hC, hG]
  funext j
  idx_vars j
  exact dk_at A B C G j0 j1

theorem ref_dv (hA : m ((c.tc : Thread nD τ).loc main_arg0) = up A) (hB : m ((c.tc : Thread nD τ).loc main_arg1) = up B)
    (hG : m ((c.tc : Thread nD τ).loc main_arg3) = up G) :
    Value.res_main_v68 (F := Ideal) m c = Attn.packed (Attn.re fun h => AttnMath.pad (AttnMath.gv σ (head A h) (head B h) (head G h))) := by
  rw [val_main_v68_eq, hA, hB, hG]
  funext j
  idx_vars j
  exact dv_at A B G j0 j1

end Reference

section Kernel

open Cert.AttnKernelIdeal

/-- The kernel's run: its results, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = W13 m ρ c (Proc.devRef .tc main_v16)
      ∧ r.2.mem ((c.tc : Thread nD τ).loc main_v14_1) = W13 m ρ c (Proc.devRef .tc main_v14_1)
      ∧ r.2.mem ((c.tc : Thread nD τ).loc main_v14_2) = W13 m ρ c (Proc.devRef .tc main_v14_2)
      ∧ r.2.mem ((c.tc : Thread nD τ).loc main_v18) = W13 m ρ c (Proc.devRef .tc main_v18)
      ∧ r.2.mem ((c.tc : Thread nD τ).loc main_v20) = W13 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨h.1 c _ (mem_uc main_v16 (by decide)), h.1 c _ (mem_uc main_v14_1 (by decide)), h.1 c _ (mem_uc main_v14_2 (by decide)),
     h.1 c _ (mem_uc main_v18 (by decide)), h.1 c _ (mem_uc main_v20 (by decide)),
     (h.1 c _ (mem_uc main_arg0 (by decide))).trans (args_end m ρ c main_arg0 (by simp [argRefs])),
     (h.1 c _ (mem_uc main_arg1 (by decide))).trans (args_end m ρ c main_arg1 (by simp [argRefs])),
     (h.1 c _ (mem_uc main_arg2 (by decide))).trans (args_end m ρ c main_arg2 (by simp [argRefs])),
     (h.1 c _ (mem_uc main_arg3 (by decide))).trans (args_end m ρ c main_arg3 (by simp [argRefs]))⟩) (run m ρ)

end Kernel

theorem algebraic : algebraic_AttnKernelIdeal_AttnReferenceIdeal_pre_attn_finite := by
  intro m ρ m' ρ' hpre hagree
  refine ⟨_, _, _, _, _, kernel_run m ρ, ?_⟩
  refine (θ_run Cert.AttnReferenceIdeal.defs _ _).mono (fun r h c => ?_) (Cert.AttnReferenceIdeal.Value.run (F := Ideal) m' ρ')
  obtain ⟨hA, hB, hC, hG⟩ := real_of_finite _ _ _ _ (hpre c)
  obtain ⟨eA, eB, eC, eG⟩ := hagree c
  obtain ⟨hq, hk, hv, ho, hl, hr⟩ := h c
  rw [val_main_v39_eq, eA, eB, eC, hA, hB, hC] at ho
  rw [val_main_v81_eq, eA, eB, hA, hB] at hl
  exact ⟨hq.trans ((ref_dq m' c _ _ _ _ (eA.trans hA) (eB.trans hB) (eC.trans hC) (eG.trans hG)).trans (Attn.v16 m ρ c _ _ _ _ hA hB hC hG).symm),
    hk.trans ((ref_dk m' c _ _ _ _ (eA.trans hA) (eB.trans hB) (eC.trans hC) (eG.trans hG)).trans (Attn.v14_1 m ρ c _ _ _ _ hA hB hC hG).symm),
    hv.trans ((ref_dv m' c _ _ _ (eA.trans hA) (eB.trans hB) (eG.trans hG)).trans (Attn.v14_2 m ρ c _ _ _ _ hA hB hC hG).symm),
    ho.trans ((AttnOut.ref_out _ _ _).trans (AttnOut.v18 m ρ c _ _ _ hA hB hC).symm),
    hl.trans ((AttnOut.ref_log _ _).trans (AttnOut.v20 m ρ c _ _ _ hA hB hC).symm), hr⟩

end Cert.Proof.AttnClaim
end
-- ==== Proof.lean ====
/- The claims of the certificate, each from the module of its call: the frames from the runs, the values from the
   modules named after the calls. -/
module

public import proofs.«01_k».proof.Defs
public import proofs.«01_k».proof.Proof.Lb
public import proofs.«01_k».proof.Proof.Gen.LbKernel.Frame
public import proofs.«01_k».proof.Proof.Gen.LbKernelIdeal.Frame
public import proofs.«01_k».proof.Proof.Low
public import proofs.«01_k».proof.Proof.Gen.LowKernel.Frame
public import proofs.«01_k».proof.Proof.Gen.LowKernelIdeal.Frame
public import proofs.«01_k».proof.Proof.Loss
public import proofs.«01_k».proof.Proof.Gen.LossKernel.Frame
public import proofs.«01_k».proof.Proof.Gen.LossKernelIdeal.Frame
public import proofs.«01_k».proof.Proof.Inproj
public import proofs.«01_k».proof.Proof.Gen.InprojKernel.Frame
public import proofs.«01_k».proof.Proof.Gen.InprojKernelIdeal.Frame
public import proofs.«01_k».proof.Proof.Ffn
public import proofs.«01_k».proof.Proof.Gen.FfnKernel.Frame
public import proofs.«01_k».proof.Proof.Gen.FfnKernelIdeal.Frame
public import proofs.«01_k».proof.Proof.Mla
public import proofs.«01_k».proof.Proof.Gen.MlaKernel.Frame
public import proofs.«01_k».proof.Proof.Gen.MlaKernelIdeal.Frame
public import proofs.«01_k».proof.Proof.AttnRun
public import proofs.«01_k».proof.Proof.AttnBitsRun
public import proofs.«01_k».proof.Proof.AttnClaim
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim := ⟨Cert.LbKernel.Gen.facts,
  Cert.LbKernelIdeal.Gen.facts,
  Cert.LbReferenceIdeal.Gen.facts,
  Cert.LowKernel.Gen.facts,
  Cert.LowKernelIdeal.Gen.facts,
  Cert.LowReferenceIdeal.Gen.facts,
  Cert.LossKernel.Gen.facts,
  Cert.LossKernelIdeal.Gen.facts,
  Cert.LossReferenceIdeal.Gen.facts,
  Cert.InprojKernel.Gen.facts,
  Cert.InprojKernelIdeal.Gen.facts,
  Cert.InprojReferenceIdeal.Gen.facts,
  Cert.FfnKernel.Gen.facts,
  Cert.FfnKernelIdeal.Gen.facts,
  Cert.FfnReferenceIdeal.Gen.facts,
  Cert.MlaKernel.Gen.facts,
  Cert.MlaKernelIdeal.Gen.facts,
  Cert.MlaReferenceIdeal.Gen.facts,
  Cert.AttnKernel.Gen.facts,
  Cert.AttnKernelIdeal.Gen.facts,
  Cert.AttnReferenceIdeal.Gen.facts,
  Lb.facts_finite,
  Low.facts_finite,
  AttnClaim.facts_finite,
  fun m ρ _ => Cert.LbKernel.Gen.frame m ρ,
  fun m ρ _ => Cert.LbKernelIdeal.Gen.frame m ρ,
  fun m ρ _ => Cert.LbKernelIdeal.Gen.frame m ρ,
  Lb.quiescent_reference,
  fun m ρ _ => Lb.quiescent_reference m ρ trivial,
  fun m ρ _ => Cert.LowKernel.Gen.frame m ρ,
  fun m ρ _ => Cert.LowKernelIdeal.Gen.frame m ρ,
  fun m ρ _ => Cert.LowKernelIdeal.Gen.frame m ρ,
  Low.quiescent_reference,
  fun m ρ _ => Low.quiescent_reference m ρ trivial,
  fun m ρ _ => Cert.LossKernel.Gen.frame m ρ,
  fun m ρ _ => Cert.LossKernelIdeal.Gen.frame m ρ,
  Loss.quiescent_reference,
  fun m ρ _ => Cert.InprojKernel.Gen.frame m ρ,
  fun m ρ _ => Cert.InprojKernelIdeal.Gen.frame m ρ,
  Inproj.quiescent_reference,
  fun m ρ _ => Cert.FfnKernel.Gen.frame m ρ,
  fun m ρ _ => Cert.FfnKernelIdeal.Gen.frame m ρ,
  Ffn.quiescent_reference,
  fun m ρ _ => Cert.MlaKernel.Gen.frame m ρ,
  fun m ρ _ => Cert.MlaKernelIdeal.Gen.frame m ρ,
  Mla.quiescent_reference,
  fun m ρ _ => Cert.Proof.AttnBitsRun.frame m ρ,
  fun m ρ _ => Cert.Proof.AttnRun.frame m ρ,
  fun m ρ _ => Cert.Proof.AttnRun.frame m ρ,
  AttnClaim.quiescent_reference,
  fun m ρ _ => AttnClaim.quiescent_reference m ρ trivial,
  trivial,
  Lb.algebraic,
  trivial,
  Low.algebraic,
  trivial,
  Loss.algebraic,
  trivial,
  Inproj.algebraic,
  trivial,
  Ffn.algebraic,
  IdealRules.named_const.statement _ _ _ _ _ rfl,
  Mla.algebraic,
  IdealRules.named_const.statement _ _ _ _ _ rfl,
  AttnClaim.algebraic⟩

end Cert.Proof

end
